-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnIdeal_finite_norm_ffn [hPre_finite_norm_ffn : Cert.Pre_finite_norm_ffn.Facts] (m : (ℓ : Loc Cert.NormFfnIdeal.nD Cert.NormFfnIdeal.τ Cert.NormFfnIdeal.sig) → Buf (Elt Ideal) ℓ) : Prop :=
  ∀ c : Dev Cert.NormFfnIdeal.nD,
    (Cert.Pre_finite_norm_ffn.fn (F := Ideal) (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4)) (m ((c.tc : Thread Cert.NormFfnIdeal.nD Cert.NormFfnIdeal.τ).loc Cert.NormFfnIdeal.main_arg5))) = (fun _ => 1#1)

def Pre_NormFfnRefIdeal (m : (ℓ : Loc Cert.NormFfnRefIdeal.nD Cert.NormFfnRefIdeal.τ Cert.NormFfnRefIdeal.sig) → Buf (Elt Ideal) ℓ) : Prop :=
  True

def Pre_NormFfnRefIdeal_finite_norm_ffn [hPre_finite_norm_ffn : Cert.Pre_finite_norm_ffn.Facts] (m : (ℓ : Loc Cert.NormFfnRefIdeal.nD Cert.NormFfnRefIdeal.τ Cert.NormFfnRefIdeal.sig) → Buf (Elt Ideal) ℓ) : Prop :=
  ∀ c : Dev Cert.NormFfnRefIdeal.nD,
    (Cert.Pre_finite_norm_ffn.fn (F := Ideal) (m ((c.tc : Thread Cert.NormFfnRefIdeal.nD Cert.NormFfnRefIdeal.τ).loc Cert.NormFfnRefIdeal.main_arg0)) (m ((c.tc : Thread Cert.NormFfnRefIdeal.nD Cert.NormFfnRefIdeal.τ).loc Cert.NormFfnRefIdeal.main_arg1)) (m ((c.tc : Thread Cert.NormFfnRefIdeal.nD Cert.NormFfnRefIdeal.τ).loc Cert.NormFfnRefIdeal.main_arg2)) (m ((c.tc : Thread Cert.NormFfnRefIdeal.nD Cert.NormFfnRefIdeal.τ).loc Cert.NormFfnRefIdeal.main_arg3)) (m ((c.tc : Thread Cert.NormFfnRefIdeal.nD Cert.NormFfnRefIdeal.τ).loc Cert.NormFfnRefIdeal.main_arg4)) (m ((c.tc : Thread Cert.NormFfnRefIdeal.nD Cert.NormFfnRefIdeal.τ).loc Cert.NormFfnRefIdeal.main_arg5))) = (fun _ => 1#1)

def Pre_NormQkv (m : (ℓ : Loc Cert.NormQkv.nD Cert.NormQkv.τ Cert.NormQkv.sig) → Buf (Elt Bits) ℓ) : Prop :=
  True

def Pre_NormQkvIdeal (m : (ℓ : Loc Cert.NormQkvIdeal.nD Cert.NormQkvIdeal.τ Cert.NormQkvIdeal.sig) → Buf (Elt Ideal) ℓ) : Prop :=
  True

def Pre_NormQkvIdeal_finite_norm_qkv [hPre_finite_norm_qkv : Cert.Pre_finite_norm_qkv.Facts] (m : (ℓ : Loc Cert.NormQkvIdeal.nD Cert.NormQkvIdeal.τ Cert.NormQkvIdeal.sig) → Buf (Elt Ideal) ℓ) : Prop :=
  ∀ c : Dev Cert.NormQkvIdeal.nD,
    (Cert.Pre_finite_norm_qkv.fn (F := Ideal) (m ((c.tc : Thread Cert.NormQkvIdeal.nD Cert.NormQkvIdeal.τ).loc Cert.NormQkvIdeal.main_arg0)) (m ((c.tc : Thread Cert.NormQkvIdeal.nD Cert.NormQkvIdeal.τ).loc Cert.NormQkvIdeal.main_arg1)) (m ((c.tc : Thread Cert.NormQkvIdeal.nD Cert.NormQkvIdeal.τ).loc Cert.NormQkvIdeal.main_arg2)) (m ((c.tc : Thread Cert.NormQkvIdeal.nD Cert.NormQkvIdeal.τ).loc Cert.NormQkvIdeal.main_arg3)) (m ((c.tc : Thread Cert.NormQkvIdeal.nD Cert.NormQkvIdeal.τ).loc Cert.NormQkvIdeal.main_arg4))) = (fun _ => 1#1)

def Pre_NormQkvRefIdeal (m : (ℓ : Loc Cert.NormQkvRefIdeal.nD Cert.NormQkvRefIdeal.τ Cert.NormQkvRefIdeal.sig) → Buf (Elt Ideal) ℓ) : Prop :=
  True

def Pre_NormQkvRefIdeal_finite_norm_qkv [hPre_finite_norm_qkv : Cert.Pre_finite_norm_qkv.Facts] (m : (ℓ : Loc Cert.NormQkvRefIdeal.nD Cert.NormQkvRefIdeal.τ Cert.NormQkvRefIdeal.sig) → Buf (Elt Ideal) ℓ) : Prop :=
  ∀ c : Dev Cert.NormQkvRefIdeal.nD,
    (Cert.Pre_finite_norm_qkv.fn (F := Ideal) (m ((c.tc : Thread Cert.NormQkvRefIdeal.nD Cert.NormQkvRefIdeal.τ).loc Cert.NormQkvRefIdeal.main_arg0)) (m ((c.tc : Thread Cert.NormQkvRefIdeal.nD Cert.NormQkvRefIdeal.τ).loc Cert.NormQkvRefIdeal.main_arg1)) (m ((c.tc : Thread Cert.NormQkvRefIdeal.nD Cert.NormQkvRefIdeal.τ).loc Cert.NormQkvRefIdeal.main_arg2)) (m ((c.tc : Thread Cert.NormQkvRefIdeal.nD Cert.NormQkvRefIdeal.τ).loc Cert.NormQkvRefIdeal.main_arg3)) (m ((c.tc : Thread Cert.NormQkvRefIdeal.nD Cert.NormQkvRefIdeal.τ).loc Cert.NormQkvRefIdeal.main_arg4))) = (fun _ => 1#1)

def Pre_NormConv (m : (ℓ : Loc Cert.NormConv.nD Cert.NormConv.τ Cert.NormConv.sig) → Buf (Elt Bits) ℓ) : Prop :=
  True

def Pre_NormConvIdeal (m : (ℓ : Loc Cert.NormConvIdeal.nD Cert.NormConvIdeal.τ Cert.NormConvIdeal.sig) → Buf (Elt Ideal) ℓ) : Prop :=
  True

def Pre_NormConvIdeal_finite_norm_conv [hPre_finite_norm_conv : Cert.Pre_finite_norm_conv.Facts] (m : (ℓ : Loc Cert.NormConvIdeal.nD Cert.NormConvIdeal.τ Cert.NormConvIdeal.sig) → Buf (Elt Ideal) ℓ) : Prop :=
  ∀ c : Dev Cert.NormConvIdeal.nD,
    (Cert.Pre_finite_norm_conv.fn (F := Ideal) (m ((c.tc : Thread Cert.NormConvIdeal.nD Cert.NormConvIdeal.τ).loc Cert.NormConvIdeal.main_arg0)) (m ((c.tc : Thread Cert.NormConvIdeal.nD Cert.NormConvIdeal.τ).loc Cert.NormConvIdeal.main_arg1)) (m ((c.tc : Thread Cert.NormConvIdeal.nD Cert.NormConvIdeal.τ).loc Cert.NormConvIdeal.main_arg2)) (m ((c.tc : Thread Cert.NormConvIdeal.nD Cert.NormConvIdeal.τ).loc Cert.NormConvIdeal.main_arg3)) (m ((c.tc : Thread Cert.NormConvIdeal.nD Cert.NormConvIdeal.τ).loc Cert.NormConvIdeal.main_arg4))) = (fun _ => 1#1)

def Pre_NormConvRefIdeal (m : (ℓ : Loc Cert.NormConvRefIdeal.nD Cert.NormConvRefIdeal.τ Cert.NormConvRefIdeal.sig) → Buf (Elt Ideal) ℓ) : Prop :=
  True

def Pre_NormConvRefIdeal_finite_norm_conv [hPre_finite_norm_conv : Cert.Pre_finite_norm_conv.Facts] (m : (ℓ : Loc Cert.NormConvRefIdeal.nD Cert.NormConvRefIdeal.τ Cert.NormConvRefIdeal.sig) → Buf (Elt Ideal) ℓ) : Prop :=
  ∀ c : Dev Cert.NormConvRefIdeal.nD,
    (Cert.Pre_finite_norm_conv.fn (F := Ideal) (m ((c.tc : Thread Cert.NormConvRefIdeal.nD Cert.NormConvRefIdeal.τ).loc Cert.NormConvRefIdeal.main_arg0)) (m ((c.tc : Thread Cert.NormConvRefIdeal.nD Cert.NormConvRefIdeal.τ).loc Cert.NormConvRefIdeal.main_arg1)) (m ((c.tc : Thread Cert.NormConvRefIdeal.nD Cert.NormConvRefIdeal.τ).loc Cert.NormConvRefIdeal.main_arg2)) (m ((c.tc : Thread Cert.NormConvRefIdeal.nD Cert.NormConvRefIdeal.τ).loc Cert.NormConvRefIdeal.main_arg3)) (m ((c.tc : Thread Cert.NormConvRefIdeal.nD Cert.NormConvRefIdeal.τ).loc Cert.NormConvRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpIdeal_finite_up [hPre_finite_up : Cert.Pre_finite_up.Facts] (m : (ℓ : Loc Cert.FwdUpIdeal.nD Cert.FwdUpIdeal.τ Cert.FwdUpIdeal.sig) → Buf (Elt Ideal) ℓ) : Prop :=
  ∀ c : Dev Cert.FwdUpIdeal.nD,
    (Cert.Pre_finite_up.fn (F := Ideal) (m ((c.tc : Thread Cert.FwdUpIdeal.nD Cert.FwdUpIdeal.τ).loc Cert.FwdUpIdeal.main_arg0)) (m ((c.tc : Thread Cert.FwdUpIdeal.nD Cert.FwdUpIdeal.τ).loc Cert.FwdUpIdeal.main_arg1))) = (fun _ => 1#1)

def Pre_FwdUpRefIdeal (m : (ℓ : Loc Cert.FwdUpRefIdeal.nD Cert.FwdUpRefIdeal.τ Cert.FwdUpRefIdeal.sig) → Buf (Elt Ideal) ℓ) : Prop :=
  True

def Pre_FwdUpRefIdeal_finite_up [hPre_finite_up : Cert.Pre_finite_up.Facts] (m : (ℓ : Loc Cert.FwdUpRefIdeal.nD Cert.FwdUpRefIdeal.τ Cert.FwdUpRefIdeal.sig) → Buf (Elt Ideal) ℓ) : Prop :=
  ∀ c : Dev Cert.FwdUpRefIdeal.nD,
    (Cert.Pre_finite_up.fn (F := Ideal) (m ((c.tc : Thread Cert.FwdUpRefIdeal.nD Cert.FwdUpRefIdeal.τ).loc Cert.FwdUpRefIdeal.main_arg0)) (m ((c.tc : Thread Cert.FwdUpRefIdeal.nD Cert.FwdUpRefIdeal.τ).loc Cert.FwdUpRefIdeal.main_arg1))) = (fun _ => 1#1)

def Pre_FwdConv (m : (ℓ : Loc Cert.FwdConv.nD Cert.FwdConv.τ Cert.FwdConv.sig) → Buf (Elt Bits) ℓ) : Prop :=
  True

def Pre_FwdConvIdeal (m : (ℓ : Loc Cert.FwdConvIdeal.nD Cert.FwdConvIdeal.τ Cert.FwdConvIdeal.sig) → Buf (Elt Ideal) ℓ) : Prop :=
  True

def Pre_FwdConvRefIdeal (m : (ℓ : Loc Cert.FwdConvRefIdeal.nD Cert.FwdConvRefIdeal.τ Cert.FwdConvRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownRefIdeal (m : (ℓ : Loc Cert.FwdDownRefIdeal.nD Cert.FwdDownRefIdeal.τ Cert.FwdDownRefIdeal.sig) → Buf (Elt Ideal) ℓ) : Prop :=
  True

def Pre_FwdAttn (m : (ℓ : Loc Cert.FwdAttn.nD Cert.FwdAttn.τ Cert.FwdAttn.sig) → Buf (Elt Bits) ℓ) : Prop :=
  True

def Pre_FwdAttnIdeal (m : (ℓ : Loc Cert.FwdAttnIdeal.nD Cert.FwdAttnIdeal.τ Cert.FwdAttnIdeal.sig) → Buf (Elt Ideal) ℓ) : Prop :=
  True

def Pre_FwdAttnIdeal_finite_attn_fwd [hPre_finite_attn_fwd : Cert.Pre_finite_attn_fwd.Facts] (m : (ℓ : Loc Cert.FwdAttnIdeal.nD Cert.FwdAttnIdeal.τ Cert.FwdAttnIdeal.sig) → Buf (Elt Ideal) ℓ) : Prop :=
  ∀ c : Dev Cert.FwdAttnIdeal.nD,
    (Cert.Pre_finite_attn_fwd.fn (F := Ideal) (m ((c.tc : Thread Cert.FwdAttnIdeal.nD Cert.FwdAttnIdeal.τ).loc Cert.FwdAttnIdeal.main_arg0)) (m ((c.tc : Thread Cert.FwdAttnIdeal.nD Cert.FwdAttnIdeal.τ).loc Cert.FwdAttnIdeal.main_arg1)) (m ((c.tc : Thread Cert.FwdAttnIdeal.nD Cert.FwdAttnIdeal.τ).loc Cert.FwdAttnIdeal.main_arg2)) (m ((c.tc : Thread Cert.FwdAttnIdeal.nD Cert.FwdAttnIdeal.τ).loc Cert.FwdAttnIdeal.main_arg3))) = (fun _ => 1#1)

def Pre_FwdAttnRefIdeal (m : (ℓ : Loc Cert.FwdAttnRefIdeal.nD Cert.FwdAttnRefIdeal.τ Cert.FwdAttnRefIdeal.sig) → Buf (Elt Ideal) ℓ) : Prop :=
  True

def Pre_FwdAttnRefIdeal_finite_attn_fwd [hPre_finite_attn_fwd : Cert.Pre_finite_attn_fwd.Facts] (m : (ℓ : Loc Cert.FwdAttnRefIdeal.nD Cert.FwdAttnRefIdeal.τ Cert.FwdAttnRefIdeal.sig) → Buf (Elt Ideal) ℓ) : Prop :=
  ∀ c : Dev Cert.FwdAttnRefIdeal.nD,
    (Cert.Pre_finite_attn_fwd.fn (F := Ideal) (m ((c.tc : Thread Cert.FwdAttnRefIdeal.nD Cert.FwdAttnRefIdeal.τ).loc Cert.FwdAttnRefIdeal.main_arg0)) (m ((c.tc : Thread Cert.FwdAttnRefIdeal.nD Cert.FwdAttnRefIdeal.τ).loc Cert.FwdAttnRefIdeal.main_arg1)) (m ((c.tc : Thread Cert.FwdAttnRefIdeal.nD Cert.FwdAttnRefIdeal.τ).loc Cert.FwdAttnRefIdeal.main_arg2)) (m ((c.tc : Thread Cert.FwdAttnRefIdeal.nD Cert.FwdAttnRefIdeal.τ).loc Cert.FwdAttnRefIdeal.main_arg3))) = (fun _ => 1#1)

def Pre_DgradDown (m : (ℓ : Loc Cert.DgradDown.nD Cert.DgradDown.τ Cert.DgradDown.sig) → Buf (Elt Bits) ℓ) : Prop :=
  True

def Pre_DgradDownIdeal (m : (ℓ : Loc Cert.DgradDownIdeal.nD Cert.DgradDownIdeal.τ Cert.DgradDownIdeal.sig) → Buf (Elt Ideal) ℓ) : Prop :=
  True

def Pre_DgradDownRefIdeal (m : (ℓ : Loc Cert.DgradDownRefIdeal.nD Cert.DgradDownRefIdeal.τ Cert.DgradDownRefIdeal.sig) → Buf (Elt Ideal) ℓ) : Prop :=
  True

def Pre_FwdQkv (m : (ℓ : Loc Cert.FwdQkv.nD Cert.FwdQkv.τ Cert.FwdQkv.sig) → Buf (Elt Bits) ℓ) : Prop :=
  True

def Pre_FwdQkvIdeal (m : (ℓ : Loc Cert.FwdQkvIdeal.nD Cert.FwdQkvIdeal.τ Cert.FwdQkvIdeal.sig) → Buf (Elt Ideal) ℓ) : Prop :=
  True

def Pre_FwdQkvRefIdeal (m : (ℓ : Loc Cert.FwdQkvRefIdeal.nD Cert.FwdQkvRefIdeal.τ Cert.FwdQkvRefIdeal.sig) → Buf (Elt Ideal) ℓ) : Prop :=
  True

def Pre_WgradQkv (m : (ℓ : Loc Cert.WgradQkv.nD Cert.WgradQkv.τ Cert.WgradQkv.sig) → Buf (Elt Bits) ℓ) : Prop :=
  True

def Pre_WgradQkvIdeal (m : (ℓ : Loc Cert.WgradQkvIdeal.nD Cert.WgradQkvIdeal.τ Cert.WgradQkvIdeal.sig) → Buf (Elt Ideal) ℓ) : Prop :=
  True

def Pre_WgradQkvRefIdeal (m : (ℓ : Loc Cert.WgradQkvRefIdeal.nD Cert.WgradQkvRefIdeal.τ Cert.WgradQkvRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradUp (m : (ℓ : Loc Cert.WgradUp.nD Cert.WgradUp.τ Cert.WgradUp.sig) → Buf (Elt Bits) ℓ) : Prop :=
  True

def Pre_WgradUpIdeal (m : (ℓ : Loc Cert.WgradUpIdeal.nD Cert.WgradUpIdeal.τ Cert.WgradUpIdeal.sig) → Buf (Elt Ideal) ℓ) : Prop :=
  True

def Pre_WgradUpRefIdeal (m : (ℓ : Loc Cert.WgradUpRefIdeal.nD Cert.WgradUpRefIdeal.τ Cert.WgradUpRefIdeal.sig) → Buf (Elt Ideal) ℓ) : Prop :=
  True

def Pre_WgradConv (m : (ℓ : Loc Cert.WgradConv.nD Cert.WgradConv.τ Cert.WgradConv.sig) → Buf (Elt Bits) ℓ) : Prop :=
  True

def Pre_WgradConvIdeal (m : (ℓ : Loc Cert.WgradConvIdeal.nD Cert.WgradConvIdeal.τ Cert.WgradConvIdeal.sig) → Buf (Elt Ideal) ℓ) : Prop :=
  True

def Pre_WgradConvRefIdeal (m : (ℓ : Loc Cert.WgradConvRefIdeal.nD Cert.WgradConvRefIdeal.τ Cert.WgradConvRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_SumHalves (m : (ℓ : Loc Cert.SumHalves.nD Cert.SumHalves.τ Cert.SumHalves.sig) → Buf (Elt Bits) ℓ) : Prop :=
  True

def Pre_SumHalvesIdeal (m : (ℓ : Loc Cert.SumHalvesIdeal.nD Cert.SumHalvesIdeal.τ Cert.SumHalvesIdeal.sig) → Buf (Elt Ideal) ℓ) : Prop :=
  True

def Pre_SumHalvesRefIdeal (m : (ℓ : Loc Cert.SumHalvesRefIdeal.nD Cert.SumHalvesRefIdeal.τ Cert.SumHalvesRefIdeal.sig) → Buf (Elt Ideal) ℓ) : Prop :=
  True

def Pre_CastOwn (m : (ℓ : Loc Cert.CastOwn.nD Cert.CastOwn.τ Cert.CastOwn.sig) → Buf (Elt Bits) ℓ) : Prop :=
  True

def Pre_CastOwnIdeal (m : (ℓ : Loc Cert.CastOwnIdeal.nD Cert.CastOwnIdeal.τ Cert.CastOwnIdeal.sig) → Buf (Elt Ideal) ℓ) : Prop :=
  True

def Pre_CastOwnRefIdeal (m : (ℓ : Loc Cert.CastOwnRefIdeal.nD Cert.CastOwnRefIdeal.τ Cert.CastOwnRefIdeal.sig) → Buf (Elt Ideal) ℓ) : Prop :=
  True

def Pre_SumPartials (m : (ℓ : Loc Cert.SumPartials.nD Cert.SumPartials.τ Cert.SumPartials.sig) → Buf (Elt Bits) ℓ) : Prop :=
  True

def Pre_SumPartialsIdeal (m : (ℓ : Loc Cert.SumPartialsIdeal.nD Cert.SumPartialsIdeal.τ Cert.SumPartialsIdeal.sig) → Buf (Elt Ideal) ℓ) : Prop :=
  True

def Pre_SumPartialsRefIdeal (m : (ℓ : Loc Cert.SumPartialsRefIdeal.nD Cert.SumPartialsRefIdeal.τ Cert.SumPartialsRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2)
      ∧ r.2.mem ((c.tc : Thread Cert.NormFfn.nD Cert.NormFfn.τ).loc Cert.NormFfn.main_arg3) = m ((c.tc : Thread Cert.NormFfn.nD Cert.NormFfn.τ).loc Cert.NormFfn.main_arg3)
      ∧ r.2.mem ((c.tc : Thread Cert.NormFfn.nD Cert.NormFfn.τ).loc Cert.NormFfn.main_arg4) = m ((c.tc : Thread Cert.NormFfn.nD Cert.NormFfn.τ).loc Cert.NormFfn.main_arg4)
      ∧ r.2.mem ((c.tc : Thread Cert.NormFfn.nD Cert.NormFfn.τ).loc Cert.NormFfn.main_arg5) = m ((c.tc : Thread Cert.NormFfn.nD Cert.NormFfn.τ).loc Cert.NormFfn.main_arg5))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
      ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4)
      ∧ r.2.mem ((c.tc : Thread Cert.NormFfnIdeal.nD Cert.NormFfnIdeal.τ).loc Cert.NormFfnIdeal.main_arg5) = m ((c.tc : Thread Cert.NormFfnIdeal.nD Cert.NormFfnIdeal.τ).loc Cert.NormFfnIdeal.main_arg5))
      ∧ r.2.sem = fun _ => 0)

def quiescent_NormFfnIdeal_pre_finite_norm_ffn [hNormFfnIdeal : Cert.NormFfnIdeal.Facts] [hPre_finite_norm_ffn : Cert.Pre_finite_norm_ffn.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal_finite_norm_ffn m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
      ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4)
      ∧ r.2.mem ((c.tc : Thread Cert.NormFfnIdeal.nD Cert.NormFfnIdeal.τ).loc Cert.NormFfnIdeal.main_arg5) = m ((c.tc : Thread Cert.NormFfnIdeal.nD Cert.NormFfnIdeal.τ).loc Cert.NormFfnIdeal.main_arg5))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4)
      ∧ r.2.mem ((c.tc : Thread Cert.NormFfnRefIdeal.nD Cert.NormFfnRefIdeal.τ).loc Cert.NormFfnRefIdeal.main_arg5) = m ((c.tc : Thread Cert.NormFfnRefIdeal.nD Cert.NormFfnRefIdeal.τ).loc Cert.NormFfnRefIdeal.main_arg5))
      ∧ r.2.sem = fun _ => 0)

def quiescent_NormFfnRefIdeal_pre_finite_norm_ffn [hNormFfnRefIdeal : Cert.NormFfnRefIdeal.Facts] [hPre_finite_norm_ffn : Cert.Pre_finite_norm_ffn.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal_finite_norm_ffn m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4)
      ∧ r.2.mem ((c.tc : Thread Cert.NormFfnRefIdeal.nD Cert.NormFfnRefIdeal.τ).loc Cert.NormFfnRefIdeal.main_arg5) = m ((c.tc : Thread Cert.NormFfnRefIdeal.nD Cert.NormFfnRefIdeal.τ).loc Cert.NormFfnRefIdeal.main_arg5))
      ∧ r.2.sem = fun _ => 0)

def quiescent_NormQkv [hNormQkv : Cert.NormQkv.Facts] : Prop :=
  ∀ (m : (ℓ : Loc Cert.NormQkv.nD Cert.NormQkv.τ Cert.NormQkv.sig) → Buf (Elt Bits) ℓ) (g : Dev Cert.NormQkv.nD → PrngReg), Pre_NormQkv m →
    θ_run (Cert.NormQkv.defs (F := Bits)) (onTc (τ := Cert.NormQkv.τ) (Cert.NormQkv.main (F := Bits))) ⟨m, fun _ => 0, g⟩ (fun r => (∀ c : Dev Cert.NormQkv.nD,
      r.2.mem ((c.tc : Thread Cert.NormQkv.nD Cert.NormQkv.τ).loc Cert.NormQkv.main_arg0) = m ((c.tc : Thread Cert.NormQkv.nD Cert.NormQkv.τ).loc Cert.NormQkv.main_arg0)
      ∧ r.2.mem ((c.tc : Thread Cert.NormQkv.nD Cert.NormQkv.τ).loc Cert.NormQkv.main_arg1) = m ((c.tc : Thread Cert.NormQkv.nD Cert.NormQkv.τ).loc Cert.NormQkv.main_arg1)
      ∧ r.2.mem ((c.tc : Thread Cert.NormQkv.nD Cert.NormQkv.τ).loc Cert.NormQkv.main_arg2) = m ((c.tc : Thread Cert.NormQkv.nD Cert.NormQkv.τ).loc Cert.NormQkv.main_arg2)
      ∧ r.2.mem ((c.tc : Thread Cert.NormQkv.nD Cert.NormQkv.τ).loc Cert.NormQkv.main_arg3) = m ((c.tc : Thread Cert.NormQkv.nD Cert.NormQkv.τ).loc Cert.NormQkv.main_arg3)
      ∧ r.2.mem ((c.tc : Thread Cert.NormQkv.nD Cert.NormQkv.τ).loc Cert.NormQkv.main_arg4) = m ((c.tc : Thread Cert.NormQkv.nD Cert.NormQkv.τ).loc Cert.NormQkv.main_arg4))
      ∧ r.2.sem = fun _ => 0)

def quiescent_NormQkvIdeal [hNormQkvIdeal : Cert.NormQkvIdeal.Facts] : Prop :=
  ∀ (m : (ℓ : Loc Cert.NormQkvIdeal.nD Cert.NormQkvIdeal.τ Cert.NormQkvIdeal.sig) → Buf (Elt Ideal) ℓ) (g : Dev Cert.NormQkvIdeal.nD → PrngReg), Pre_NormQkvIdeal m →
    θ_run (Cert.NormQkvIdeal.defs (F := Ideal)) (onTc (τ := Cert.NormQkvIdeal.τ) (Cert.NormQkvIdeal.main (F := Ideal))) ⟨m, fun _ => 0, g⟩ (fun r => (∀ c : Dev Cert.NormQkvIdeal.nD,
      r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
      ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
      ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
      ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3)
      ∧ r.2.mem ((c.tc : Thread Cert.NormQkvIdeal.nD Cert.NormQkvIdeal.τ).loc Cert.NormQkvIdeal.main_arg4) = m ((c.tc : Thread Cert.NormQkvIdeal.nD Cert.NormQkvIdeal.τ).loc Cert.NormQkvIdeal.main_arg4))
      ∧ r.2.sem = fun _ => 0)

def quiescent_NormQkvIdeal_pre_finite_norm_qkv [hNormQkvIdeal : Cert.NormQkvIdeal.Facts] [hPre_finite_norm_qkv : Cert.Pre_finite_norm_qkv.Facts] : Prop :=
  ∀ (m : (ℓ : Loc Cert.NormQkvIdeal.nD Cert.NormQkvIdeal.τ Cert.NormQkvIdeal.sig) → Buf (Elt Ideal) ℓ) (g : Dev Cert.NormQkvIdeal.nD → PrngReg), Pre_NormQkvIdeal_finite_norm_qkv m →
    θ_run (Cert.NormQkvIdeal.defs (F := Ideal)) (onTc (τ := Cert.NormQkvIdeal.τ) (Cert.NormQkvIdeal.main (F := Ideal))) ⟨m, fun _ => 0, g⟩ (fun r => (∀ c : Dev Cert.NormQkvIdeal.nD,
      r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
      ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
      ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
      ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3)
      ∧ r.2.mem ((c.tc : Thread Cert.NormQkvIdeal.nD Cert.NormQkvIdeal.τ).loc Cert.NormQkvIdeal.main_arg4) = m ((c.tc : Thread Cert.NormQkvIdeal.nD Cert.NormQkvIdeal.τ).loc Cert.NormQkvIdeal.main_arg4))
      ∧ r.2.sem = fun _ => 0)

def quiescent_NormQkvRefIdeal [hNormQkvRefIdeal : Cert.NormQkvRefIdeal.Facts] : Prop :=
  ∀ (m : (ℓ : Loc Cert.NormQkvRefIdeal.nD Cert.NormQkvRefIdeal.τ Cert.NormQkvRefIdeal.sig) → Buf (Elt Ideal) ℓ) (g : Dev Cert.NormQkvRefIdeal.nD → PrngReg), Pre_NormQkvRefIdeal m →
    θ_run (Cert.NormQkvRefIdeal.defs (F := Ideal)) (onTc (τ := Cert.NormQkvRefIdeal.τ) (Cert.NormQkvRefIdeal.main (F := Ideal))) ⟨m, fun _ => 0, g⟩ (fun r => (∀ c : Dev Cert.NormQkvRefIdeal.nD,
      r.2.mem ((c.tc : Thread Cert.NormQkvRefIdeal.nD Cert.NormQkvRefIdeal.τ).loc Cert.NormQkvRefIdeal.main_arg0) = m ((c.tc : Thread Cert.NormQkvRefIdeal.nD Cert.NormQkvRefIdeal.τ).loc Cert.NormQkvRefIdeal.main_arg0)
      ∧ r.2.mem ((c.tc : Thread Cert.NormQkvRefIdeal.nD Cert.NormQkvRefIdeal.τ).loc Cert.NormQkvRefIdeal.main_arg1) = m ((c.tc : Thread Cert.NormQkvRefIdeal.nD Cert.NormQkvRefIdeal.τ).loc Cert.NormQkvRefIdeal.main_arg1)
      ∧ r.2.mem ((c.tc : Thread Cert.NormQkvRefIdeal.nD Cert.NormQkvRefIdeal.τ).loc Cert.NormQkvRefIdeal.main_arg2) = m ((c.tc : Thread Cert.NormQkvRefIdeal.nD Cert.NormQkvRefIdeal.τ).loc Cert.NormQkvRefIdeal.main_arg2)
      ∧ r.2.mem ((c.tc : Thread Cert.NormQkvRefIdeal.nD Cert.NormQkvRefIdeal.τ).loc Cert.NormQkvRefIdeal.main_arg3) = m ((c.tc : Thread Cert.NormQkvRefIdeal.nD Cert.NormQkvRefIdeal.τ).loc Cert.NormQkvRefIdeal.main_arg3)
      ∧ r.2.mem ((c.tc : Thread Cert.NormQkvRefIdeal.nD Cert.NormQkvRefIdeal.τ).loc Cert.NormQkvRefIdeal.main_arg4) = m ((c.tc : Thread Cert.NormQkvRefIdeal.nD Cert.NormQkvRefIdeal.τ).loc Cert.NormQkvRefIdeal.main_arg4))
      ∧ r.2.sem = fun _ => 0)

def quiescent_NormQkvRefIdeal_pre_finite_norm_qkv [hNormQkvRefIdeal : Cert.NormQkvRefIdeal.Facts] [hPre_finite_norm_qkv : Cert.Pre_finite_norm_qkv.Facts] : Prop :=
  ∀ (m : (ℓ : Loc Cert.NormQkvRefIdeal.nD Cert.NormQkvRefIdeal.τ Cert.NormQkvRefIdeal.sig) → Buf (Elt Ideal) ℓ) (g : Dev Cert.NormQkvRefIdeal.nD → PrngReg), Pre_NormQkvRefIdeal_finite_norm_qkv m →
    θ_run (Cert.NormQkvRefIdeal.defs (F := Ideal)) (onTc (τ := Cert.NormQkvRefIdeal.τ) (Cert.NormQkvRefIdeal.main (F := Ideal))) ⟨m, fun _ => 0, g⟩ (fun r => (∀ c : Dev Cert.NormQkvRefIdeal.nD,
      r.2.mem ((c.tc : Thread Cert.NormQkvRefIdeal.nD Cert.NormQkvRefIdeal.τ).loc Cert.NormQkvRefIdeal.main_arg0) = m ((c.tc : Thread Cert.NormQkvRefIdeal.nD Cert.NormQkvRefIdeal.τ).loc Cert.NormQkvRefIdeal.main_arg0)
      ∧ r.2.mem ((c.tc : Thread Cert.NormQkvRefIdeal.nD Cert.NormQkvRefIdeal.τ).loc Cert.NormQkvRefIdeal.main_arg1) = m ((c.tc : Thread Cert.NormQkvRefIdeal.nD Cert.NormQkvRefIdeal.τ).loc Cert.NormQkvRefIdeal.main_arg1)
      ∧ r.2.mem ((c.tc : Thread Cert.NormQkvRefIdeal.nD Cert.NormQkvRefIdeal.τ).loc Cert.NormQkvRefIdeal.main_arg2) = m ((c.tc : Thread Cert.NormQkvRefIdeal.nD Cert.NormQkvRefIdeal.τ).loc Cert.NormQkvRefIdeal.main_arg2)
      ∧ r.2.mem ((c.tc : Thread Cert.NormQkvRefIdeal.nD Cert.NormQkvRefIdeal.τ).loc Cert.NormQkvRefIdeal.main_arg3) = m ((c.tc : Thread Cert.NormQkvRefIdeal.nD Cert.NormQkvRefIdeal.τ).loc Cert.NormQkvRefIdeal.main_arg3)
      ∧ r.2.mem ((c.tc : Thread Cert.NormQkvRefIdeal.nD Cert.NormQkvRefIdeal.τ).loc Cert.NormQkvRefIdeal.main_arg4) = m ((c.tc : Thread Cert.NormQkvRefIdeal.nD Cert.NormQkvRefIdeal.τ).loc Cert.NormQkvRefIdeal.main_arg4))
      ∧ r.2.sem = fun _ => 0)

def quiescent_NormConv [hNormConv : Cert.NormConv.Facts] : Prop :=
  ∀ (m : (ℓ : Loc Cert.NormConv.nD Cert.NormConv.τ Cert.NormConv.sig) → Buf (Elt Bits) ℓ) (g : Dev Cert.NormConv.nD → PrngReg), Pre_NormConv m →
    θ_run (Cert.NormConv.defs (F := Bits)) (onTc (τ := Cert.NormConv.τ) (Cert.NormConv.main (F := Bits))) ⟨m, fun _ => 0, g⟩ (fun r => (∀ c : Dev Cert.NormConv.nD,
      r.2.mem ((c.tc : Thread Cert.NormConv.nD Cert.NormConv.τ).loc Cert.NormConv.main_arg0) = m ((c.tc : Thread Cert.NormConv.nD Cert.NormConv.τ).loc Cert.NormConv.main_arg0)
      ∧ r.2.mem ((c.tc : Thread Cert.NormConv.nD Cert.NormConv.τ).loc Cert.NormConv.main_arg1) = m ((c.tc : Thread Cert.NormConv.nD Cert.NormConv.τ).loc Cert.NormConv.main_arg1)
      ∧ r.2.mem ((c.tc : Thread Cert.NormConv.nD Cert.NormConv.τ).loc Cert.NormConv.main_arg2) = m ((c.tc : Thread Cert.NormConv.nD Cert.NormConv.τ).loc Cert.NormConv.main_arg2)
      ∧ r.2.mem ((c.tc : Thread Cert.NormConv.nD Cert.NormConv.τ).loc Cert.NormConv.main_arg3) = m ((c.tc : Thread Cert.NormConv.nD Cert.NormConv.τ).loc Cert.NormConv.main_arg3)
      ∧ r.2.mem ((c.tc : Thread Cert.NormConv.nD Cert.NormConv.τ).loc Cert.NormConv.main_arg4) = m ((c.tc : Thread Cert.NormConv.nD Cert.NormConv.τ).loc Cert.NormConv.main_arg4))
      ∧ r.2.sem = fun _ => 0)

def quiescent_NormConvIdeal [hNormConvIdeal : Cert.NormConvIdeal.Facts] : Prop :=
  ∀ (m : (ℓ : Loc Cert.NormConvIdeal.nD Cert.NormConvIdeal.τ Cert.NormConvIdeal.sig) → Buf (Elt Ideal) ℓ) (g : Dev Cert.NormConvIdeal.nD → PrngReg), Pre_NormConvIdeal m →
    θ_run (Cert.NormConvIdeal.defs (F := Ideal)) (onTc (τ := Cert.NormConvIdeal.τ) (Cert.NormConvIdeal.main (F := Ideal))) ⟨m, fun _ => 0, g⟩ (fun r => (∀ c : Dev Cert.NormConvIdeal.nD,
      r.2.mem ((c.tc : Thread Cert.NormConvIdeal.nD Cert.NormConvIdeal.τ).loc Cert.NormConvIdeal.main_arg0) = m ((c.tc : Thread Cert.NormConvIdeal.nD Cert.NormConvIdeal.τ).loc Cert.NormConvIdeal.main_arg0)
      ∧ r.2.mem ((c.tc : Thread Cert.NormConvIdeal.nD Cert.NormConvIdeal.τ).loc Cert.NormConvIdeal.main_arg1) = m ((c.tc : Thread Cert.NormConvIdeal.nD Cert.NormConvIdeal.τ).loc Cert.NormConvIdeal.main_arg1)
      ∧ r.2.mem ((c.tc : Thread Cert.NormConvIdeal.nD Cert.NormConvIdeal.τ).loc Cert.NormConvIdeal.main_arg2) = m ((c.tc : Thread Cert.NormConvIdeal.nD Cert.NormConvIdeal.τ).loc Cert.NormConvIdeal.main_arg2)
      ∧ r.2.mem ((c.tc : Thread Cert.NormConvIdeal.nD Cert.NormConvIdeal.τ).loc Cert.NormConvIdeal.main_arg3) = m ((c.tc : Thread Cert.NormConvIdeal.nD Cert.NormConvIdeal.τ).loc Cert.NormConvIdeal.main_arg3)
      ∧ r.2.mem ((c.tc : Thread Cert.NormConvIdeal.nD Cert.NormConvIdeal.τ).loc Cert.NormConvIdeal.main_arg4) = m ((c.tc : Thread Cert.NormConvIdeal.nD Cert.NormConvIdeal.τ).loc Cert.NormConvIdeal.main_arg4))
      ∧ r.2.sem = fun _ => 0)

def quiescent_NormConvIdeal_pre_finite_norm_conv [hNormConvIdeal : Cert.NormConvIdeal.Facts] [hPre_finite_norm_conv : Cert.Pre_finite_norm_conv.Facts] : Prop :=
  ∀ (m : (ℓ : Loc Cert.NormConvIdeal.nD Cert.NormConvIdeal.τ Cert.NormConvIdeal.sig) → Buf (Elt Ideal) ℓ) (g : Dev Cert.NormConvIdeal.nD → PrngReg), Pre_NormConvIdeal_finite_norm_conv m →
    θ_run (Cert.NormConvIdeal.defs (F := Ideal)) (onTc (τ := Cert.NormConvIdeal.τ) (Cert.NormConvIdeal.main (F := Ideal))) ⟨m, fun _ => 0, g⟩ (fun r => (∀ c : Dev Cert.NormConvIdeal.nD,
      r.2.mem ((c.tc : Thread Cert.NormConvIdeal.nD Cert.NormConvIdeal.τ).loc Cert.NormConvIdeal.main_arg0) = m ((c.tc : Thread Cert.NormConvIdeal.nD Cert.NormConvIdeal.τ).loc Cert.NormConvIdeal.main_arg0)
      ∧ r.2.mem ((c.tc : Thread Cert.NormConvIdeal.nD Cert.NormConvIdeal.τ).loc Cert.NormConvIdeal.main_arg1) = m ((c.tc : Thread Cert.NormConvIdeal.nD Cert.NormConvIdeal.τ).loc Cert.NormConvIdeal.main_arg1)
      ∧ r.2.mem ((c.tc : Thread Cert.NormConvIdeal.nD Cert.NormConvIdeal.τ).loc Cert.NormConvIdeal.main_arg2) = m ((c.tc : Thread Cert.NormConvIdeal.nD Cert.NormConvIdeal.τ).loc Cert.NormConvIdeal.main_arg2)
      ∧ r.2.mem ((c.tc : Thread Cert.NormConvIdeal.nD Cert.NormConvIdeal.τ).loc Cert.NormConvIdeal.main_arg3) = m ((c.tc : Thread Cert.NormConvIdeal.nD Cert.NormConvIdeal.τ).loc Cert.NormConvIdeal.main_arg3)
      ∧ r.2.mem ((c.tc : Thread Cert.NormConvIdeal.nD Cert.NormConvIdeal.τ).loc Cert.NormConvIdeal.main_arg4) = m ((c.tc : Thread Cert.NormConvIdeal.nD Cert.NormConvIdeal.τ).loc Cert.NormConvIdeal.main_arg4))
      ∧ r.2.sem = fun _ => 0)

def quiescent_NormConvRefIdeal [hNormConvRefIdeal : Cert.NormConvRefIdeal.Facts] : Prop :=
  ∀ (m : (ℓ : Loc Cert.NormConvRefIdeal.nD Cert.NormConvRefIdeal.τ Cert.NormConvRefIdeal.sig) → Buf (Elt Ideal) ℓ) (g : Dev Cert.NormConvRefIdeal.nD → PrngReg), Pre_NormConvRefIdeal m →
    θ_run (Cert.NormConvRefIdeal.defs (F := Ideal)) (onTc (τ := Cert.NormConvRefIdeal.τ) (Cert.NormConvRefIdeal.main (F := Ideal))) ⟨m, fun _ => 0, g⟩ (fun r => (∀ c : Dev Cert.NormConvRefIdeal.nD,
      r.2.mem ((c.tc : Thread Cert.NormConvRefIdeal.nD Cert.NormConvRefIdeal.τ).loc Cert.NormConvRefIdeal.main_arg0) = m ((c.tc : Thread Cert.NormConvRefIdeal.nD Cert.NormConvRefIdeal.τ).loc Cert.NormConvRefIdeal.main_arg0)
      ∧ r.2.mem ((c.tc : Thread Cert.NormConvRefIdeal.nD Cert.NormConvRefIdeal.τ).loc Cert.NormConvRefIdeal.main_arg1) = m ((c.tc : Thread Cert.NormConvRefIdeal.nD Cert.NormConvRefIdeal.τ).loc Cert.NormConvRefIdeal.main_arg1)
      ∧ r.2.mem ((c.tc : Thread Cert.NormConvRefIdeal.nD Cert.NormConvRefIdeal.τ).loc Cert.NormConvRefIdeal.main_arg2) = m ((c.tc : Thread Cert.NormConvRefIdeal.nD Cert.NormConvRefIdeal.τ).loc Cert.NormConvRefIdeal.main_arg2)
      ∧ r.2.mem ((c.tc : Thread Cert.NormConvRefIdeal.nD Cert.NormConvRefIdeal.τ).loc Cert.NormConvRefIdeal.main_arg3) = m ((c.tc : Thread Cert.NormConvRefIdeal.nD Cert.NormConvRefIdeal.τ).loc Cert.NormConvRefIdeal.main_arg3)
      ∧ r.2.mem ((c.tc : Thread Cert.NormConvRefIdeal.nD Cert.NormConvRefIdeal.τ).loc Cert.NormConvRefIdeal.main_arg4) = m ((c.tc : Thread Cert.NormConvRefIdeal.nD Cert.NormConvRefIdeal.τ).loc Cert.NormConvRefIdeal.main_arg4))
      ∧ r.2.sem = fun _ => 0)

def quiescent_NormConvRefIdeal_pre_finite_norm_conv [hNormConvRefIdeal : Cert.NormConvRefIdeal.Facts] [hPre_finite_norm_conv : Cert.Pre_finite_norm_conv.Facts] : Prop :=
  ∀ (m : (ℓ : Loc Cert.NormConvRefIdeal.nD Cert.NormConvRefIdeal.τ Cert.NormConvRefIdeal.sig) → Buf (Elt Ideal) ℓ) (g : Dev Cert.NormConvRefIdeal.nD → PrngReg), Pre_NormConvRefIdeal_finite_norm_conv m →
    θ_run (Cert.NormConvRefIdeal.defs (F := Ideal)) (onTc (τ := Cert.NormConvRefIdeal.τ) (Cert.NormConvRefIdeal.main (F := Ideal))) ⟨m, fun _ => 0, g⟩ (fun r => (∀ c : Dev Cert.NormConvRefIdeal.nD,
      r.2.mem ((c.tc : Thread Cert.NormConvRefIdeal.nD Cert.NormConvRefIdeal.τ).loc Cert.NormConvRefIdeal.main_arg0) = m ((c.tc : Thread Cert.NormConvRefIdeal.nD Cert.NormConvRefIdeal.τ).loc Cert.NormConvRefIdeal.main_arg0)
      ∧ r.2.mem ((c.tc : Thread Cert.NormConvRefIdeal.nD Cert.NormConvRefIdeal.τ).loc Cert.NormConvRefIdeal.main_arg1) = m ((c.tc : Thread Cert.NormConvRefIdeal.nD Cert.NormConvRefIdeal.τ).loc Cert.NormConvRefIdeal.main_arg1)
      ∧ r.2.mem ((c.tc : Thread Cert.NormConvRefIdeal.nD Cert.NormConvRefIdeal.τ).loc Cert.NormConvRefIdeal.main_arg2) = m ((c.tc : Thread Cert.NormConvRefIdeal.nD Cert.NormConvRefIdeal.τ).loc Cert.NormConvRefIdeal.main_arg2)
      ∧ r.2.mem ((c.tc : Thread Cert.NormConvRefIdeal.nD Cert.NormConvRefIdeal.τ).loc Cert.NormConvRefIdeal.main_arg3) = m ((c.tc : Thread Cert.NormConvRefIdeal.nD Cert.NormConvRefIdeal.τ).loc Cert.NormConvRefIdeal.main_arg3)
      ∧ r.2.mem ((c.tc : Thread Cert.NormConvRefIdeal.nD Cert.NormConvRefIdeal.τ).loc Cert.NormConvRefIdeal.main_arg4) = m ((c.tc : Thread Cert.NormConvRefIdeal.nD Cert.NormConvRefIdeal.τ).loc Cert.NormConvRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpIdeal_pre_finite_up [hFwdUpIdeal : Cert.FwdUpIdeal.Facts] [hPre_finite_up : Cert.Pre_finite_up.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal_finite_up m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpRefIdeal [hFwdUpRefIdeal : Cert.FwdUpRefIdeal.Facts] : Prop :=
  ∀ (m : (ℓ : Loc Cert.FwdUpRefIdeal.nD Cert.FwdUpRefIdeal.τ Cert.FwdUpRefIdeal.sig) → Buf (Elt Ideal) ℓ) (g : Dev Cert.FwdUpRefIdeal.nD → PrngReg), Pre_FwdUpRefIdeal m →
    θ_run (Cert.FwdUpRefIdeal.defs (F := Ideal)) (onTc (τ := Cert.FwdUpRefIdeal.τ) (Cert.FwdUpRefIdeal.main (F := Ideal))) ⟨m, fun _ => 0, g⟩ (fun r => (∀ c : Dev Cert.FwdUpRefIdeal.nD,
      r.2.mem ((c.tc : Thread Cert.FwdUpRefIdeal.nD Cert.FwdUpRefIdeal.τ).loc Cert.FwdUpRefIdeal.main_arg0) = m ((c.tc : Thread Cert.FwdUpRefIdeal.nD Cert.FwdUpRefIdeal.τ).loc Cert.FwdUpRefIdeal.main_arg0)
      ∧ r.2.mem ((c.tc : Thread Cert.FwdUpRefIdeal.nD Cert.FwdUpRefIdeal.τ).loc Cert.FwdUpRefIdeal.main_arg1) = m ((c.tc : Thread Cert.FwdUpRefIdeal.nD Cert.FwdUpRefIdeal.τ).loc Cert.FwdUpRefIdeal.main_arg1))
      ∧ r.2.sem = fun _ => 0)

def quiescent_FwdUpRefIdeal_pre_finite_up [hFwdUpRefIdeal : Cert.FwdUpRefIdeal.Facts] [hPre_finite_up : Cert.Pre_finite_up.Facts] : Prop :=
  ∀ (m : (ℓ : Loc Cert.FwdUpRefIdeal.nD Cert.FwdUpRefIdeal.τ Cert.FwdUpRefIdeal.sig) → Buf (Elt Ideal) ℓ) (g : Dev Cert.FwdUpRefIdeal.nD → PrngReg), Pre_FwdUpRefIdeal_finite_up m →
    θ_run (Cert.FwdUpRefIdeal.defs (F := Ideal)) (onTc (τ := Cert.FwdUpRefIdeal.τ) (Cert.FwdUpRefIdeal.main (F := Ideal))) ⟨m, fun _ => 0, g⟩ (fun r => (∀ c : Dev Cert.FwdUpRefIdeal.nD,
      r.2.mem ((c.tc : Thread Cert.FwdUpRefIdeal.nD Cert.FwdUpRefIdeal.τ).loc Cert.FwdUpRefIdeal.main_arg0) = m ((c.tc : Thread Cert.FwdUpRefIdeal.nD Cert.FwdUpRefIdeal.τ).loc Cert.FwdUpRefIdeal.main_arg0)
      ∧ r.2.mem ((c.tc : Thread Cert.FwdUpRefIdeal.nD Cert.FwdUpRefIdeal.τ).loc Cert.FwdUpRefIdeal.main_arg1) = m ((c.tc : Thread Cert.FwdUpRefIdeal.nD Cert.FwdUpRefIdeal.τ).loc Cert.FwdUpRefIdeal.main_arg1))
      ∧ r.2.sem = fun _ => 0)

def quiescent_FwdConv [hFwdConv : Cert.FwdConv.Facts] : Prop :=
  ∀ (m : (ℓ : Loc Cert.FwdConv.nD Cert.FwdConv.τ Cert.FwdConv.sig) → Buf (Elt Bits) ℓ) (g : Dev Cert.FwdConv.nD → PrngReg), Pre_FwdConv m →
    θ_run (Cert.FwdConv.defs (F := Bits)) (onTc (τ := Cert.FwdConv.τ) (Cert.FwdConv.main (F := Bits))) ⟨m, fun _ => 0, g⟩ (fun r => (∀ c : Dev Cert.FwdConv.nD,
      r.2.mem ((c.tc : Thread Cert.FwdConv.nD Cert.FwdConv.τ).loc Cert.FwdConv.main_arg0) = m ((c.tc : Thread Cert.FwdConv.nD Cert.FwdConv.τ).loc Cert.FwdConv.main_arg0)
      ∧ r.2.mem ((c.tc : Thread Cert.FwdConv.nD Cert.FwdConv.τ).loc Cert.FwdConv.main_arg1) = m ((c.tc : Thread Cert.FwdConv.nD Cert.FwdConv.τ).loc Cert.FwdConv.main_arg1))
      ∧ r.2.sem = fun _ => 0)

def quiescent_FwdConvIdeal [hFwdConvIdeal : Cert.FwdConvIdeal.Facts] : Prop :=
  ∀ (m : (ℓ : Loc Cert.FwdConvIdeal.nD Cert.FwdConvIdeal.τ Cert.FwdConvIdeal.sig) → Buf (Elt Ideal) ℓ) (g : Dev Cert.FwdConvIdeal.nD → PrngReg), Pre_FwdConvIdeal m →
    θ_run (Cert.FwdConvIdeal.defs (F := Ideal)) (onTc (τ := Cert.FwdConvIdeal.τ) (Cert.FwdConvIdeal.main (F := Ideal))) ⟨m, fun _ => 0, g⟩ (fun r => (∀ c : Dev Cert.FwdConvIdeal.nD,
      r.2.mem ((c.tc : Thread Cert.FwdConvIdeal.nD Cert.FwdConvIdeal.τ).loc Cert.FwdConvIdeal.main_arg0) = m ((c.tc : Thread Cert.FwdConvIdeal.nD Cert.FwdConvIdeal.τ).loc Cert.FwdConvIdeal.main_arg0)
      ∧ r.2.mem ((c.tc : Thread Cert.FwdConvIdeal.nD Cert.FwdConvIdeal.τ).loc Cert.FwdConvIdeal.main_arg1) = m ((c.tc : Thread Cert.FwdConvIdeal.nD Cert.FwdConvIdeal.τ).loc Cert.FwdConvIdeal.main_arg1))
      ∧ r.2.sem = fun _ => 0)

def quiescent_FwdConvRefIdeal [hFwdConvRefIdeal : Cert.FwdConvRefIdeal.Facts] : Prop :=
  ∀ (m : (ℓ : Loc Cert.FwdConvRefIdeal.nD Cert.FwdConvRefIdeal.τ Cert.FwdConvRefIdeal.sig) → Buf (Elt Ideal) ℓ) (g : Dev Cert.FwdConvRefIdeal.nD → PrngReg), Pre_FwdConvRefIdeal m →
    θ_run (Cert.FwdConvRefIdeal.defs (F := Ideal)) (onTc (τ := Cert.FwdConvRefIdeal.τ) (Cert.FwdConvRefIdeal.main (F := Ideal))) ⟨m, fun _ => 0, g⟩ (fun r => (∀ c : Dev Cert.FwdConvRefIdeal.nD,
      r.2.mem ((c.tc : Thread Cert.FwdConvRefIdeal.nD Cert.FwdConvRefIdeal.τ).loc Cert.FwdConvRefIdeal.main_arg0) = m ((c.tc : Thread Cert.FwdConvRefIdeal.nD Cert.FwdConvRefIdeal.τ).loc Cert.FwdConvRefIdeal.main_arg0)
      ∧ r.2.mem ((c.tc : Thread Cert.FwdConvRefIdeal.nD Cert.FwdConvRefIdeal.τ).loc Cert.FwdConvRefIdeal.main_arg1) = m ((c.tc : Thread Cert.FwdConvRefIdeal.nD Cert.FwdConvRefIdeal.τ).loc Cert.FwdConvRefIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1)
      ∧ r.2.mem ((c.tc : Thread Cert.FwdDown.nD Cert.FwdDown.τ).loc Cert.FwdDown.main_arg2) = m ((c.tc : Thread Cert.FwdDown.nD Cert.FwdDown.τ).loc Cert.FwdDown.main_arg2)
      ∧ r.2.mem ((c.tc : Thread Cert.FwdDown.nD Cert.FwdDown.τ).loc Cert.FwdDown.main_arg3) = m ((c.tc : Thread Cert.FwdDown.nD Cert.FwdDown.τ).loc Cert.FwdDown.main_arg3))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
      ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
      ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3))
      ∧ r.2.sem = fun _ => 0)

def quiescent_FwdDownRefIdeal [hFwdDownRefIdeal : Cert.FwdDownRefIdeal.Facts] : Prop :=
  ∀ (m : (ℓ : Loc Cert.FwdDownRefIdeal.nD Cert.FwdDownRefIdeal.τ Cert.FwdDownRefIdeal.sig) → Buf (Elt Ideal) ℓ) (g : Dev Cert.FwdDownRefIdeal.nD → PrngReg), Pre_FwdDownRefIdeal m →
    θ_run (Cert.FwdDownRefIdeal.defs (F := Ideal)) (onTc (τ := Cert.FwdDownRefIdeal.τ) (Cert.FwdDownRefIdeal.main (F := Ideal))) ⟨m, fun _ => 0, g⟩ (fun r => (∀ c : Dev Cert.FwdDownRefIdeal.nD,
      r.2.mem ((c.tc : Thread Cert.FwdDownRefIdeal.nD Cert.FwdDownRefIdeal.τ).loc Cert.FwdDownRefIdeal.main_arg0) = m ((c.tc : Thread Cert.FwdDownRefIdeal.nD Cert.FwdDownRefIdeal.τ).loc Cert.FwdDownRefIdeal.main_arg0)
      ∧ r.2.mem ((c.tc : Thread Cert.FwdDownRefIdeal.nD Cert.FwdDownRefIdeal.τ).loc Cert.FwdDownRefIdeal.main_arg1) = m ((c.tc : Thread Cert.FwdDownRefIdeal.nD Cert.FwdDownRefIdeal.τ).loc Cert.FwdDownRefIdeal.main_arg1)
      ∧ r.2.mem ((c.tc : Thread Cert.FwdDownRefIdeal.nD Cert.FwdDownRefIdeal.τ).loc Cert.FwdDownRefIdeal.main_arg2) = m ((c.tc : Thread Cert.FwdDownRefIdeal.nD Cert.FwdDownRefIdeal.τ).loc Cert.FwdDownRefIdeal.main_arg2)
      ∧ r.2.mem ((c.tc : Thread Cert.FwdDownRefIdeal.nD Cert.FwdDownRefIdeal.τ).loc Cert.FwdDownRefIdeal.main_arg3) = m ((c.tc : Thread Cert.FwdDownRefIdeal.nD Cert.FwdDownRefIdeal.τ).loc Cert.FwdDownRefIdeal.main_arg3))
      ∧ r.2.sem = fun _ => 0)

def quiescent_FwdAttn [hFwdAttn : Cert.FwdAttn.Facts] : Prop :=
  ∀ (m : (ℓ : Loc Cert.FwdAttn.nD Cert.FwdAttn.τ Cert.FwdAttn.sig) → Buf (Elt Bits) ℓ) (g : Dev Cert.FwdAttn.nD → PrngReg), Pre_FwdAttn m →
    θ_run (Cert.FwdAttn.defs (F := Bits)) (onTc (τ := Cert.FwdAttn.τ) (Cert.FwdAttn.main (F := Bits))) ⟨m, fun _ => 0, g⟩ (fun r => (∀ c : Dev Cert.FwdAttn.nD,
      r.2.mem ((c.tc : Thread Cert.FwdAttn.nD Cert.FwdAttn.τ).loc Cert.FwdAttn.main_arg0) = m ((c.tc : Thread Cert.FwdAttn.nD Cert.FwdAttn.τ).loc Cert.FwdAttn.main_arg0)
      ∧ r.2.mem ((c.tc : Thread Cert.FwdAttn.nD Cert.FwdAttn.τ).loc Cert.FwdAttn.main_arg1) = m ((c.tc : Thread Cert.FwdAttn.nD Cert.FwdAttn.τ).loc Cert.FwdAttn.main_arg1)
      ∧ r.2.mem ((c.tc : Thread Cert.FwdAttn.nD Cert.FwdAttn.τ).loc Cert.FwdAttn.main_arg2) = m ((c.tc : Thread Cert.FwdAttn.nD Cert.FwdAttn.τ).loc Cert.FwdAttn.main_arg2)
      ∧ r.2.mem ((c.tc : Thread Cert.FwdAttn.nD Cert.FwdAttn.τ).loc Cert.FwdAttn.main_arg3) = m ((c.tc : Thread Cert.FwdAttn.nD Cert.FwdAttn.τ).loc Cert.FwdAttn.main_arg3))
      ∧ r.2.sem = fun _ => 0)

def quiescent_FwdAttnIdeal [hFwdAttnIdeal : Cert.FwdAttnIdeal.Facts] : Prop :=
  ∀ (m : (ℓ : Loc Cert.FwdAttnIdeal.nD Cert.FwdAttnIdeal.τ Cert.FwdAttnIdeal.sig) → Buf (Elt Ideal) ℓ) (g : Dev Cert.FwdAttnIdeal.nD → PrngReg), Pre_FwdAttnIdeal m →
    θ_run (Cert.FwdAttnIdeal.defs (F := Ideal)) (onTc (τ := Cert.FwdAttnIdeal.τ) (Cert.FwdAttnIdeal.main (F := Ideal))) ⟨m, fun _ => 0, g⟩ (fun r => (∀ c : Dev Cert.FwdAttnIdeal.nD,
      r.2.mem ((c.tc : Thread Cert.FwdAttnIdeal.nD Cert.FwdAttnIdeal.τ).loc Cert.FwdAttnIdeal.main_arg0) = m ((c.tc : Thread Cert.FwdAttnIdeal.nD Cert.FwdAttnIdeal.τ).loc Cert.FwdAttnIdeal.main_arg0)
      ∧ r.2.mem ((c.tc : Thread Cert.FwdAttnIdeal.nD Cert.FwdAttnIdeal.τ).loc Cert.FwdAttnIdeal.main_arg1) = m ((c.tc : Thread Cert.FwdAttnIdeal.nD Cert.FwdAttnIdeal.τ).loc Cert.FwdAttnIdeal.main_arg1)
      ∧ r.2.mem ((c.tc : Thread Cert.FwdAttnIdeal.nD Cert.FwdAttnIdeal.τ).loc Cert.FwdAttnIdeal.main_arg2) = m ((c.tc : Thread Cert.FwdAttnIdeal.nD Cert.FwdAttnIdeal.τ).loc Cert.FwdAttnIdeal.main_arg2)
      ∧ r.2.mem ((c.tc : Thread Cert.FwdAttnIdeal.nD Cert.FwdAttnIdeal.τ).loc Cert.FwdAttnIdeal.main_arg3) = m ((c.tc : Thread Cert.FwdAttnIdeal.nD Cert.FwdAttnIdeal.τ).loc Cert.FwdAttnIdeal.main_arg3))
      ∧ r.2.sem = fun _ => 0)

def quiescent_FwdAttnIdeal_pre_finite_attn_fwd [hFwdAttnIdeal : Cert.FwdAttnIdeal.Facts] [hPre_finite_attn_fwd : Cert.Pre_finite_attn_fwd.Facts] : Prop :=
  ∀ (m : (ℓ : Loc Cert.FwdAttnIdeal.nD Cert.FwdAttnIdeal.τ Cert.FwdAttnIdeal.sig) → Buf (Elt Ideal) ℓ) (g : Dev Cert.FwdAttnIdeal.nD → PrngReg), Pre_FwdAttnIdeal_finite_attn_fwd m →
    θ_run (Cert.FwdAttnIdeal.defs (F := Ideal)) (onTc (τ := Cert.FwdAttnIdeal.τ) (Cert.FwdAttnIdeal.main (F := Ideal))) ⟨m, fun _ => 0, g⟩ (fun r => (∀ c : Dev Cert.FwdAttnIdeal.nD,
      r.2.mem ((c.tc : Thread Cert.FwdAttnIdeal.nD Cert.FwdAttnIdeal.τ).loc Cert.FwdAttnIdeal.main_arg0) = m ((c.tc : Thread Cert.FwdAttnIdeal.nD Cert.FwdAttnIdeal.τ).loc Cert.FwdAttnIdeal.main_arg0)
      ∧ r.2.mem ((c.tc : Thread Cert.FwdAttnIdeal.nD Cert.FwdAttnIdeal.τ).loc Cert.FwdAttnIdeal.main_arg1) = m ((c.tc : Thread Cert.FwdAttnIdeal.nD Cert.FwdAttnIdeal.τ).loc Cert.FwdAttnIdeal.main_arg1)
      ∧ r.2.mem ((c.tc : Thread Cert.FwdAttnIdeal.nD Cert.FwdAttnIdeal.τ).loc Cert.FwdAttnIdeal.main_arg2) = m ((c.tc : Thread Cert.FwdAttnIdeal.nD Cert.FwdAttnIdeal.τ).loc Cert.FwdAttnIdeal.main_arg2)
      ∧ r.2.mem ((c.tc : Thread Cert.FwdAttnIdeal.nD Cert.FwdAttnIdeal.τ).loc Cert.FwdAttnIdeal.main_arg3) = m ((c.tc : Thread Cert.FwdAttnIdeal.nD Cert.FwdAttnIdeal.τ).loc Cert.FwdAttnIdeal.main_arg3))
      ∧ r.2.sem = fun _ => 0)

def quiescent_FwdAttnRefIdeal [hFwdAttnRefIdeal : Cert.FwdAttnRefIdeal.Facts] : Prop :=
  ∀ (m : (ℓ : Loc Cert.FwdAttnRefIdeal.nD Cert.FwdAttnRefIdeal.τ Cert.FwdAttnRefIdeal.sig) → Buf (Elt Ideal) ℓ) (g : Dev Cert.FwdAttnRefIdeal.nD → PrngReg), Pre_FwdAttnRefIdeal m →
    θ_run (Cert.FwdAttnRefIdeal.defs (F := Ideal)) (onTc (τ := Cert.FwdAttnRefIdeal.τ) (Cert.FwdAttnRefIdeal.main (F := Ideal))) ⟨m, fun _ => 0, g⟩ (fun r => (∀ c : Dev Cert.FwdAttnRefIdeal.nD,
      r.2.mem ((c.tc : Thread Cert.FwdAttnRefIdeal.nD Cert.FwdAttnRefIdeal.τ).loc Cert.FwdAttnRefIdeal.main_arg0) = m ((c.tc : Thread Cert.FwdAttnRefIdeal.nD Cert.FwdAttnRefIdeal.τ).loc Cert.FwdAttnRefIdeal.main_arg0)
      ∧ r.2.mem ((c.tc : Thread Cert.FwdAttnRefIdeal.nD Cert.FwdAttnRefIdeal.τ).loc Cert.FwdAttnRefIdeal.main_arg1) = m ((c.tc : Thread Cert.FwdAttnRefIdeal.nD Cert.FwdAttnRefIdeal.τ).loc Cert.FwdAttnRefIdeal.main_arg1)
      ∧ r.2.mem ((c.tc : Thread Cert.FwdAttnRefIdeal.nD Cert.FwdAttnRefIdeal.τ).loc Cert.FwdAttnRefIdeal.main_arg2) = m ((c.tc : Thread Cert.FwdAttnRefIdeal.nD Cert.FwdAttnRefIdeal.τ).loc Cert.FwdAttnRefIdeal.main_arg2)
      ∧ r.2.mem ((c.tc : Thread Cert.FwdAttnRefIdeal.nD Cert.FwdAttnRefIdeal.τ).loc Cert.FwdAttnRefIdeal.main_arg3) = m ((c.tc : Thread Cert.FwdAttnRefIdeal.nD Cert.FwdAttnRefIdeal.τ).loc Cert.FwdAttnRefIdeal.main_arg3))
      ∧ r.2.sem = fun _ => 0)

def quiescent_FwdAttnRefIdeal_pre_finite_attn_fwd [hFwdAttnRefIdeal : Cert.FwdAttnRefIdeal.Facts] [hPre_finite_attn_fwd : Cert.Pre_finite_attn_fwd.Facts] : Prop :=
  ∀ (m : (ℓ : Loc Cert.FwdAttnRefIdeal.nD Cert.FwdAttnRefIdeal.τ Cert.FwdAttnRefIdeal.sig) → Buf (Elt Ideal) ℓ) (g : Dev Cert.FwdAttnRefIdeal.nD → PrngReg), Pre_FwdAttnRefIdeal_finite_attn_fwd m →
    θ_run (Cert.FwdAttnRefIdeal.defs (F := Ideal)) (onTc (τ := Cert.FwdAttnRefIdeal.τ) (Cert.FwdAttnRefIdeal.main (F := Ideal))) ⟨m, fun _ => 0, g⟩ (fun r => (∀ c : Dev Cert.FwdAttnRefIdeal.nD,
      r.2.mem ((c.tc : Thread Cert.FwdAttnRefIdeal.nD Cert.FwdAttnRefIdeal.τ).loc Cert.FwdAttnRefIdeal.main_arg0) = m ((c.tc : Thread Cert.FwdAttnRefIdeal.nD Cert.FwdAttnRefIdeal.τ).loc Cert.FwdAttnRefIdeal.main_arg0)
      ∧ r.2.mem ((c.tc : Thread Cert.FwdAttnRefIdeal.nD Cert.FwdAttnRefIdeal.τ).loc Cert.FwdAttnRefIdeal.main_arg1) = m ((c.tc : Thread Cert.FwdAttnRefIdeal.nD Cert.FwdAttnRefIdeal.τ).loc Cert.FwdAttnRefIdeal.main_arg1)
      ∧ r.2.mem ((c.tc : Thread Cert.FwdAttnRefIdeal.nD Cert.FwdAttnRefIdeal.τ).loc Cert.FwdAttnRefIdeal.main_arg2) = m ((c.tc : Thread Cert.FwdAttnRefIdeal.nD Cert.FwdAttnRefIdeal.τ).loc Cert.FwdAttnRefIdeal.main_arg2)
      ∧ r.2.mem ((c.tc : Thread Cert.FwdAttnRefIdeal.nD Cert.FwdAttnRefIdeal.τ).loc Cert.FwdAttnRefIdeal.main_arg3) = m ((c.tc : Thread Cert.FwdAttnRefIdeal.nD Cert.FwdAttnRefIdeal.τ).loc Cert.FwdAttnRefIdeal.main_arg3))
      ∧ r.2.sem = fun _ => 0)

def quiescent_DgradDown [hDgradDown : Cert.DgradDown.Facts] : Prop :=
  ∀ (m : (ℓ : Loc Cert.DgradDown.nD Cert.DgradDown.τ Cert.DgradDown.sig) → Buf (Elt Bits) ℓ) (g : Dev Cert.DgradDown.nD → PrngReg), Pre_DgradDown m →
    θ_run (Cert.DgradDown.defs (F := Bits)) (onTc (τ := Cert.DgradDown.τ) (Cert.DgradDown.main (F := Bits))) ⟨m, fun _ => 0, g⟩ (fun r => (∀ c : Dev Cert.DgradDown.nD,
      r.2.mem ((c.tc : Thread Cert.DgradDown.nD Cert.DgradDown.τ).loc Cert.DgradDown.main_arg0) = m ((c.tc : Thread Cert.DgradDown.nD Cert.DgradDown.τ).loc Cert.DgradDown.main_arg0)
      ∧ r.2.mem ((c.tc : Thread Cert.DgradDown.nD Cert.DgradDown.τ).loc Cert.DgradDown.main_arg1) = m ((c.tc : Thread Cert.DgradDown.nD Cert.DgradDown.τ).loc Cert.DgradDown.main_arg1))
      ∧ r.2.sem = fun _ => 0)

def quiescent_DgradDownIdeal [hDgradDownIdeal : Cert.DgradDownIdeal.Facts] : Prop :=
  ∀ (m : (ℓ : Loc Cert.DgradDownIdeal.nD Cert.DgradDownIdeal.τ Cert.DgradDownIdeal.sig) → Buf (Elt Ideal) ℓ) (g : Dev Cert.DgradDownIdeal.nD → PrngReg), Pre_DgradDownIdeal m →
    θ_run (Cert.DgradDownIdeal.defs (F := Ideal)) (onTc (τ := Cert.DgradDownIdeal.τ) (Cert.DgradDownIdeal.main (F := Ideal))) ⟨m, fun _ => 0, g⟩ (fun r => (∀ c : Dev Cert.DgradDownIdeal.nD,
      r.2.mem ((c.tc : Thread Cert.DgradDownIdeal.nD Cert.DgradDownIdeal.τ).loc Cert.DgradDownIdeal.main_arg0) = m ((c.tc : Thread Cert.DgradDownIdeal.nD Cert.DgradDownIdeal.τ).loc Cert.DgradDownIdeal.main_arg0)
      ∧ r.2.mem ((c.tc : Thread Cert.DgradDownIdeal.nD Cert.DgradDownIdeal.τ).loc Cert.DgradDownIdeal.main_arg1) = m ((c.tc : Thread Cert.DgradDownIdeal.nD Cert.DgradDownIdeal.τ).loc Cert.DgradDownIdeal.main_arg1))
      ∧ r.2.sem = fun _ => 0)

def quiescent_DgradDownRefIdeal [hDgradDownRefIdeal : Cert.DgradDownRefIdeal.Facts] : Prop :=
  ∀ (m : (ℓ : Loc Cert.DgradDownRefIdeal.nD Cert.DgradDownRefIdeal.τ Cert.DgradDownRefIdeal.sig) → Buf (Elt Ideal) ℓ) (g : Dev Cert.DgradDownRefIdeal.nD → PrngReg), Pre_DgradDownRefIdeal m →
    θ_run (Cert.DgradDownRefIdeal.defs (F := Ideal)) (onTc (τ := Cert.DgradDownRefIdeal.τ) (Cert.DgradDownRefIdeal.main (F := Ideal))) ⟨m, fun _ => 0, g⟩ (fun r => (∀ c : Dev Cert.DgradDownRefIdeal.nD,
      r.2.mem ((c.tc : Thread Cert.DgradDownRefIdeal.nD Cert.DgradDownRefIdeal.τ).loc Cert.DgradDownRefIdeal.main_arg0) = m ((c.tc : Thread Cert.DgradDownRefIdeal.nD Cert.DgradDownRefIdeal.τ).loc Cert.DgradDownRefIdeal.main_arg0)
      ∧ r.2.mem ((c.tc : Thread Cert.DgradDownRefIdeal.nD Cert.DgradDownRefIdeal.τ).loc Cert.DgradDownRefIdeal.main_arg1) = m ((c.tc : Thread Cert.DgradDownRefIdeal.nD Cert.DgradDownRefIdeal.τ).loc Cert.DgradDownRefIdeal.main_arg1))
      ∧ r.2.sem = fun _ => 0)

def quiescent_FwdQkv [hFwdQkv : Cert.FwdQkv.Facts] : Prop :=
  ∀ (m : (ℓ : Loc Cert.FwdQkv.nD Cert.FwdQkv.τ Cert.FwdQkv.sig) → Buf (Elt Bits) ℓ) (g : Dev Cert.FwdQkv.nD → PrngReg), Pre_FwdQkv m →
    θ_run (Cert.FwdQkv.defs (F := Bits)) (onTc (τ := Cert.FwdQkv.τ) (Cert.FwdQkv.main (F := Bits))) ⟨m, fun _ => 0, g⟩ (fun r => (∀ c : Dev Cert.FwdQkv.nD,
      r.2.mem ((c.tc : Thread Cert.FwdQkv.nD Cert.FwdQkv.τ).loc Cert.FwdQkv.main_arg0) = m ((c.tc : Thread Cert.FwdQkv.nD Cert.FwdQkv.τ).loc Cert.FwdQkv.main_arg0)
      ∧ r.2.mem ((c.tc : Thread Cert.FwdQkv.nD Cert.FwdQkv.τ).loc Cert.FwdQkv.main_arg1) = m ((c.tc : Thread Cert.FwdQkv.nD Cert.FwdQkv.τ).loc Cert.FwdQkv.main_arg1))
      ∧ r.2.sem = fun _ => 0)

def quiescent_FwdQkvIdeal [hFwdQkvIdeal : Cert.FwdQkvIdeal.Facts] : Prop :=
  ∀ (m : (ℓ : Loc Cert.FwdQkvIdeal.nD Cert.FwdQkvIdeal.τ Cert.FwdQkvIdeal.sig) → Buf (Elt Ideal) ℓ) (g : Dev Cert.FwdQkvIdeal.nD → PrngReg), Pre_FwdQkvIdeal m →
    θ_run (Cert.FwdQkvIdeal.defs (F := Ideal)) (onTc (τ := Cert.FwdQkvIdeal.τ) (Cert.FwdQkvIdeal.main (F := Ideal))) ⟨m, fun _ => 0, g⟩ (fun r => (∀ c : Dev Cert.FwdQkvIdeal.nD,
      r.2.mem ((c.tc : Thread Cert.FwdQkvIdeal.nD Cert.FwdQkvIdeal.τ).loc Cert.FwdQkvIdeal.main_arg0) = m ((c.tc : Thread Cert.FwdQkvIdeal.nD Cert.FwdQkvIdeal.τ).loc Cert.FwdQkvIdeal.main_arg0)
      ∧ r.2.mem ((c.tc : Thread Cert.FwdQkvIdeal.nD Cert.FwdQkvIdeal.τ).loc Cert.FwdQkvIdeal.main_arg1) = m ((c.tc : Thread Cert.FwdQkvIdeal.nD Cert.FwdQkvIdeal.τ).loc Cert.FwdQkvIdeal.main_arg1))
      ∧ r.2.sem = fun _ => 0)

def quiescent_FwdQkvRefIdeal [hFwdQkvRefIdeal : Cert.FwdQkvRefIdeal.Facts] : Prop :=
  ∀ (m : (ℓ : Loc Cert.FwdQkvRefIdeal.nD Cert.FwdQkvRefIdeal.τ Cert.FwdQkvRefIdeal.sig) → Buf (Elt Ideal) ℓ) (g : Dev Cert.FwdQkvRefIdeal.nD → PrngReg), Pre_FwdQkvRefIdeal m →
    θ_run (Cert.FwdQkvRefIdeal.defs (F := Ideal)) (onTc (τ := Cert.FwdQkvRefIdeal.τ) (Cert.FwdQkvRefIdeal.main (F := Ideal))) ⟨m, fun _ => 0, g⟩ (fun r => (∀ c : Dev Cert.FwdQkvRefIdeal.nD,
      r.2.mem ((c.tc : Thread Cert.FwdQkvRefIdeal.nD Cert.FwdQkvRefIdeal.τ).loc Cert.FwdQkvRefIdeal.main_arg0) = m ((c.tc : Thread Cert.FwdQkvRefIdeal.nD Cert.FwdQkvRefIdeal.τ).loc Cert.FwdQkvRefIdeal.main_arg0)
      ∧ r.2.mem ((c.tc : Thread Cert.FwdQkvRefIdeal.nD Cert.FwdQkvRefIdeal.τ).loc Cert.FwdQkvRefIdeal.main_arg1) = m ((c.tc : Thread Cert.FwdQkvRefIdeal.nD Cert.FwdQkvRefIdeal.τ).loc Cert.FwdQkvRefIdeal.main_arg1))
      ∧ r.2.sem = fun _ => 0)

def quiescent_WgradQkv [hWgradQkv : Cert.WgradQkv.Facts] : Prop :=
  ∀ (m : (ℓ : Loc Cert.WgradQkv.nD Cert.WgradQkv.τ Cert.WgradQkv.sig) → Buf (Elt Bits) ℓ) (g : Dev Cert.WgradQkv.nD → PrngReg), Pre_WgradQkv m →
    θ_run (Cert.WgradQkv.defs (F := Bits)) (onTc (τ := Cert.WgradQkv.τ) (Cert.WgradQkv.main (F := Bits))) ⟨m, fun _ => 0, g⟩ (fun r => (∀ c : Dev Cert.WgradQkv.nD,
      r.2.mem ((c.tc : Thread Cert.WgradQkv.nD Cert.WgradQkv.τ).loc Cert.WgradQkv.main_arg0) = m ((c.tc : Thread Cert.WgradQkv.nD Cert.WgradQkv.τ).loc Cert.WgradQkv.main_arg0)
      ∧ r.2.mem ((c.tc : Thread Cert.WgradQkv.nD Cert.WgradQkv.τ).loc Cert.WgradQkv.main_arg1) = m ((c.tc : Thread Cert.WgradQkv.nD Cert.WgradQkv.τ).loc Cert.WgradQkv.main_arg1))
      ∧ r.2.sem = fun _ => 0)

def quiescent_WgradQkvIdeal [hWgradQkvIdeal : Cert.WgradQkvIdeal.Facts] : Prop :=
  ∀ (m : (ℓ : Loc Cert.WgradQkvIdeal.nD Cert.WgradQkvIdeal.τ Cert.WgradQkvIdeal.sig) → Buf (Elt Ideal) ℓ) (g : Dev Cert.WgradQkvIdeal.nD → PrngReg), Pre_WgradQkvIdeal m →
    θ_run (Cert.WgradQkvIdeal.defs (F := Ideal)) (onTc (τ := Cert.WgradQkvIdeal.τ) (Cert.WgradQkvIdeal.main (F := Ideal))) ⟨m, fun _ => 0, g⟩ (fun r => (∀ c : Dev Cert.WgradQkvIdeal.nD,
      r.2.mem ((c.tc : Thread Cert.WgradQkvIdeal.nD Cert.WgradQkvIdeal.τ).loc Cert.WgradQkvIdeal.main_arg0) = m ((c.tc : Thread Cert.WgradQkvIdeal.nD Cert.WgradQkvIdeal.τ).loc Cert.WgradQkvIdeal.main_arg0)
      ∧ r.2.mem ((c.tc : Thread Cert.WgradQkvIdeal.nD Cert.WgradQkvIdeal.τ).loc Cert.WgradQkvIdeal.main_arg1) = m ((c.tc : Thread Cert.WgradQkvIdeal.nD Cert.WgradQkvIdeal.τ).loc Cert.WgradQkvIdeal.main_arg1))
      ∧ r.2.sem = fun _ => 0)

def quiescent_WgradQkvRefIdeal [hWgradQkvRefIdeal : Cert.WgradQkvRefIdeal.Facts] : Prop :=
  ∀ (m : (ℓ : Loc Cert.WgradQkvRefIdeal.nD Cert.WgradQkvRefIdeal.τ Cert.WgradQkvRefIdeal.sig) → Buf (Elt Ideal) ℓ) (g : Dev Cert.WgradQkvRefIdeal.nD → PrngReg), Pre_WgradQkvRefIdeal m →
    θ_run (Cert.WgradQkvRefIdeal.defs (F := Ideal)) (onTc (τ := Cert.WgradQkvRefIdeal.τ) (Cert.WgradQkvRefIdeal.main (F := Ideal))) ⟨m, fun _ => 0, g⟩ (fun r => (∀ c : Dev Cert.WgradQkvRefIdeal.nD,
      r.2.mem ((c.tc : Thread Cert.WgradQkvRefIdeal.nD Cert.WgradQkvRefIdeal.τ).loc Cert.WgradQkvRefIdeal.main_arg0) = m ((c.tc : Thread Cert.WgradQkvRefIdeal.nD Cert.WgradQkvRefIdeal.τ).loc Cert.WgradQkvRefIdeal.main_arg0)
      ∧ r.2.mem ((c.tc : Thread Cert.WgradQkvRefIdeal.nD Cert.WgradQkvRefIdeal.τ).loc Cert.WgradQkvRefIdeal.main_arg1) = m ((c.tc : Thread Cert.WgradQkvRefIdeal.nD Cert.WgradQkvRefIdeal.τ).loc Cert.WgradQkvRefIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_WgradUp [hWgradUp : Cert.WgradUp.Facts] : Prop :=
  ∀ (m : (ℓ : Loc Cert.WgradUp.nD Cert.WgradUp.τ Cert.WgradUp.sig) → Buf (Elt Bits) ℓ) (g : Dev Cert.WgradUp.nD → PrngReg), Pre_WgradUp m →
    θ_run (Cert.WgradUp.defs (F := Bits)) (onTc (τ := Cert.WgradUp.τ) (Cert.WgradUp.main (F := Bits))) ⟨m, fun _ => 0, g⟩ (fun r => (∀ c : Dev Cert.WgradUp.nD,
      r.2.mem ((c.tc : Thread Cert.WgradUp.nD Cert.WgradUp.τ).loc Cert.WgradUp.main_arg0) = m ((c.tc : Thread Cert.WgradUp.nD Cert.WgradUp.τ).loc Cert.WgradUp.main_arg0)
      ∧ r.2.mem ((c.tc : Thread Cert.WgradUp.nD Cert.WgradUp.τ).loc Cert.WgradUp.main_arg1) = m ((c.tc : Thread Cert.WgradUp.nD Cert.WgradUp.τ).loc Cert.WgradUp.main_arg1)
      ∧ r.2.mem ((c.tc : Thread Cert.WgradUp.nD Cert.WgradUp.τ).loc Cert.WgradUp.main_arg2) = m ((c.tc : Thread Cert.WgradUp.nD Cert.WgradUp.τ).loc Cert.WgradUp.main_arg2))
      ∧ r.2.sem = fun _ => 0)

def quiescent_WgradUpIdeal [hWgradUpIdeal : Cert.WgradUpIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg), Pre_WgradUpIdeal m →
    θ_run (Cert.WgradUpIdeal.defs (F := Ideal)) (onTc (τ := Cert.WgradUpIdeal.τ) (Cert.WgradUpIdeal.main (F := Ideal))) ⟨m, fun _ => 0, g⟩ (fun r => (∀ c : Dev Cert.WgradUpIdeal.nD,
      r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
      ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
      ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2))
      ∧ r.2.sem = fun _ => 0)

def quiescent_WgradUpRefIdeal [hWgradUpRefIdeal : Cert.WgradUpRefIdeal.Facts] : Prop :=
  ∀ (m : (ℓ : Loc Cert.WgradUpRefIdeal.nD Cert.WgradUpRefIdeal.τ Cert.WgradUpRefIdeal.sig) → Buf (Elt Ideal) ℓ) (g : Dev Cert.WgradUpRefIdeal.nD → PrngReg), Pre_WgradUpRefIdeal m →
    θ_run (Cert.WgradUpRefIdeal.defs (F := Ideal)) (onTc (τ := Cert.WgradUpRefIdeal.τ) (Cert.WgradUpRefIdeal.main (F := Ideal))) ⟨m, fun _ => 0, g⟩ (fun r => (∀ c : Dev Cert.WgradUpRefIdeal.nD,
      r.2.mem ((c.tc : Thread Cert.WgradUpRefIdeal.nD Cert.WgradUpRefIdeal.τ).loc Cert.WgradUpRefIdeal.main_arg0) = m ((c.tc : Thread Cert.WgradUpRefIdeal.nD Cert.WgradUpRefIdeal.τ).loc Cert.WgradUpRefIdeal.main_arg0)
      ∧ r.2.mem ((c.tc : Thread Cert.WgradUpRefIdeal.nD Cert.WgradUpRefIdeal.τ).loc Cert.WgradUpRefIdeal.main_arg1) = m ((c.tc : Thread Cert.WgradUpRefIdeal.nD Cert.WgradUpRefIdeal.τ).loc Cert.WgradUpRefIdeal.main_arg1)
      ∧ r.2.mem ((c.tc : Thread Cert.WgradUpRefIdeal.nD Cert.WgradUpRefIdeal.τ).loc Cert.WgradUpRefIdeal.main_arg2) = m ((c.tc : Thread Cert.WgradUpRefIdeal.nD Cert.WgradUpRefIdeal.τ).loc Cert.WgradUpRefIdeal.main_arg2))
      ∧ r.2.sem = fun _ => 0)

def quiescent_WgradConv [hWgradConv : Cert.WgradConv.Facts] : Prop :=
  ∀ (m : (ℓ : Loc Cert.WgradConv.nD Cert.WgradConv.τ Cert.WgradConv.sig) → Buf (Elt Bits) ℓ) (g : Dev Cert.WgradConv.nD → PrngReg), Pre_WgradConv m →
    θ_run (Cert.WgradConv.defs (F := Bits)) (onTc (τ := Cert.WgradConv.τ) (Cert.WgradConv.main (F := Bits))) ⟨m, fun _ => 0, g⟩ (fun r => (∀ c : Dev Cert.WgradConv.nD,
      r.2.mem ((c.tc : Thread Cert.WgradConv.nD Cert.WgradConv.τ).loc Cert.WgradConv.main_arg0) = m ((c.tc : Thread Cert.WgradConv.nD Cert.WgradConv.τ).loc Cert.WgradConv.main_arg0)
      ∧ r.2.mem ((c.tc : Thread Cert.WgradConv.nD Cert.WgradConv.τ).loc Cert.WgradConv.main_arg1) = m ((c.tc : Thread Cert.WgradConv.nD Cert.WgradConv.τ).loc Cert.WgradConv.main_arg1))
      ∧ r.2.sem = fun _ => 0)

def quiescent_WgradConvIdeal [hWgradConvIdeal : Cert.WgradConvIdeal.Facts] : Prop :=
  ∀ (m : (ℓ : Loc Cert.WgradConvIdeal.nD Cert.WgradConvIdeal.τ Cert.WgradConvIdeal.sig) → Buf (Elt Ideal) ℓ) (g : Dev Cert.WgradConvIdeal.nD → PrngReg), Pre_WgradConvIdeal m →
    θ_run (Cert.WgradConvIdeal.defs (F := Ideal)) (onTc (τ := Cert.WgradConvIdeal.τ) (Cert.WgradConvIdeal.main (F := Ideal))) ⟨m, fun _ => 0, g⟩ (fun r => (∀ c : Dev Cert.WgradConvIdeal.nD,
      r.2.mem ((c.tc : Thread Cert.WgradConvIdeal.nD Cert.WgradConvIdeal.τ).loc Cert.WgradConvIdeal.main_arg0) = m ((c.tc : Thread Cert.WgradConvIdeal.nD Cert.WgradConvIdeal.τ).loc Cert.WgradConvIdeal.main_arg0)
      ∧ r.2.mem ((c.tc : Thread Cert.WgradConvIdeal.nD Cert.WgradConvIdeal.τ).loc Cert.WgradConvIdeal.main_arg1) = m ((c.tc : Thread Cert.WgradConvIdeal.nD Cert.WgradConvIdeal.τ).loc Cert.WgradConvIdeal.main_arg1))
      ∧ r.2.sem = fun _ => 0)

def quiescent_WgradConvRefIdeal [hWgradConvRefIdeal : Cert.WgradConvRefIdeal.Facts] : Prop :=
  ∀ (m : (ℓ : Loc Cert.WgradConvRefIdeal.nD Cert.WgradConvRefIdeal.τ Cert.WgradConvRefIdeal.sig) → Buf (Elt Ideal) ℓ) (g : Dev Cert.WgradConvRefIdeal.nD → PrngReg), Pre_WgradConvRefIdeal m →
    θ_run (Cert.WgradConvRefIdeal.defs (F := Ideal)) (onTc (τ := Cert.WgradConvRefIdeal.τ) (Cert.WgradConvRefIdeal.main (F := Ideal))) ⟨m, fun _ => 0, g⟩ (fun r => (∀ c : Dev Cert.WgradConvRefIdeal.nD,
      r.2.mem ((c.tc : Thread Cert.WgradConvRefIdeal.nD Cert.WgradConvRefIdeal.τ).loc Cert.WgradConvRefIdeal.main_arg0) = m ((c.tc : Thread Cert.WgradConvRefIdeal.nD Cert.WgradConvRefIdeal.τ).loc Cert.WgradConvRefIdeal.main_arg0)
      ∧ r.2.mem ((c.tc : Thread Cert.WgradConvRefIdeal.nD Cert.WgradConvRefIdeal.τ).loc Cert.WgradConvRefIdeal.main_arg1) = m ((c.tc : Thread Cert.WgradConvRefIdeal.nD Cert.WgradConvRefIdeal.τ).loc Cert.WgradConvRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_SumHalves [hSumHalves : Cert.SumHalves.Facts] : Prop :=
  ∀ (m : (ℓ : Loc Cert.SumHalves.nD Cert.SumHalves.τ Cert.SumHalves.sig) → Buf (Elt Bits) ℓ) (g : Dev Cert.SumHalves.nD → PrngReg), Pre_SumHalves m →
    θ_run (Cert.SumHalves.defs (F := Bits)) (onTc (τ := Cert.SumHalves.τ) (Cert.SumHalves.main (F := Bits))) ⟨m, fun _ => 0, g⟩ (fun r => (∀ c : Dev Cert.SumHalves.nD,
      r.2.mem ((c.tc : Thread Cert.SumHalves.nD Cert.SumHalves.τ).loc Cert.SumHalves.main_arg0) = m ((c.tc : Thread Cert.SumHalves.nD Cert.SumHalves.τ).loc Cert.SumHalves.main_arg0)
      ∧ r.2.mem ((c.tc : Thread Cert.SumHalves.nD Cert.SumHalves.τ).loc Cert.SumHalves.main_arg1) = m ((c.tc : Thread Cert.SumHalves.nD Cert.SumHalves.τ).loc Cert.SumHalves.main_arg1)
      ∧ r.2.mem ((c.tc : Thread Cert.SumHalves.nD Cert.SumHalves.τ).loc Cert.SumHalves.main_arg2) = m ((c.tc : Thread Cert.SumHalves.nD Cert.SumHalves.τ).loc Cert.SumHalves.main_arg2))
      ∧ r.2.sem = fun _ => 0)

def quiescent_SumHalvesIdeal [hSumHalvesIdeal : Cert.SumHalvesIdeal.Facts] : Prop :=
  ∀ (m : (ℓ : Loc Cert.SumHalvesIdeal.nD Cert.SumHalvesIdeal.τ Cert.SumHalvesIdeal.sig) → Buf (Elt Ideal) ℓ) (g : Dev Cert.SumHalvesIdeal.nD → PrngReg), Pre_SumHalvesIdeal m →
    θ_run (Cert.SumHalvesIdeal.defs (F := Ideal)) (onTc (τ := Cert.SumHalvesIdeal.τ) (Cert.SumHalvesIdeal.main (F := Ideal))) ⟨m, fun _ => 0, g⟩ (fun r => (∀ c : Dev Cert.SumHalvesIdeal.nD,
      r.2.mem ((c.tc : Thread Cert.SumHalvesIdeal.nD Cert.SumHalvesIdeal.τ).loc Cert.SumHalvesIdeal.main_arg0) = m ((c.tc : Thread Cert.SumHalvesIdeal.nD Cert.SumHalvesIdeal.τ).loc Cert.SumHalvesIdeal.main_arg0)
      ∧ r.2.mem ((c.tc : Thread Cert.SumHalvesIdeal.nD Cert.SumHalvesIdeal.τ).loc Cert.SumHalvesIdeal.main_arg1) = m ((c.tc : Thread Cert.SumHalvesIdeal.nD Cert.SumHalvesIdeal.τ).loc Cert.SumHalvesIdeal.main_arg1)
      ∧ r.2.mem ((c.tc : Thread Cert.SumHalvesIdeal.nD Cert.SumHalvesIdeal.τ).loc Cert.SumHalvesIdeal.main_arg2) = m ((c.tc : Thread Cert.SumHalvesIdeal.nD Cert.SumHalvesIdeal.τ).loc Cert.SumHalvesIdeal.main_arg2))
      ∧ r.2.sem = fun _ => 0)

def quiescent_SumHalvesRefIdeal [hSumHalvesRefIdeal : Cert.SumHalvesRefIdeal.Facts] : Prop :=
  ∀ (m : (ℓ : Loc Cert.SumHalvesRefIdeal.nD Cert.SumHalvesRefIdeal.τ Cert.SumHalvesRefIdeal.sig) → Buf (Elt Ideal) ℓ) (g : Dev Cert.SumHalvesRefIdeal.nD → PrngReg), Pre_SumHalvesRefIdeal m →
    θ_run (Cert.SumHalvesRefIdeal.defs (F := Ideal)) (onTc (τ := Cert.SumHalvesRefIdeal.τ) (Cert.SumHalvesRefIdeal.main (F := Ideal))) ⟨m, fun _ => 0, g⟩ (fun r => (∀ c : Dev Cert.SumHalvesRefIdeal.nD,
      r.2.mem ((c.tc : Thread Cert.SumHalvesRefIdeal.nD Cert.SumHalvesRefIdeal.τ).loc Cert.SumHalvesRefIdeal.main_arg0) = m ((c.tc : Thread Cert.SumHalvesRefIdeal.nD Cert.SumHalvesRefIdeal.τ).loc Cert.SumHalvesRefIdeal.main_arg0)
      ∧ r.2.mem ((c.tc : Thread Cert.SumHalvesRefIdeal.nD Cert.SumHalvesRefIdeal.τ).loc Cert.SumHalvesRefIdeal.main_arg1) = m ((c.tc : Thread Cert.SumHalvesRefIdeal.nD Cert.SumHalvesRefIdeal.τ).loc Cert.SumHalvesRefIdeal.main_arg1)
      ∧ r.2.mem ((c.tc : Thread Cert.SumHalvesRefIdeal.nD Cert.SumHalvesRefIdeal.τ).loc Cert.SumHalvesRefIdeal.main_arg2) = m ((c.tc : Thread Cert.SumHalvesRefIdeal.nD Cert.SumHalvesRefIdeal.τ).loc Cert.SumHalvesRefIdeal.main_arg2))
      ∧ r.2.sem = fun _ => 0)

def quiescent_CastOwn [hCastOwn : Cert.CastOwn.Facts] : Prop :=
  ∀ (m : (ℓ : Loc Cert.CastOwn.nD Cert.CastOwn.τ Cert.CastOwn.sig) → Buf (Elt Bits) ℓ) (g : Dev Cert.CastOwn.nD → PrngReg), Pre_CastOwn m →
    θ_run (Cert.CastOwn.defs (F := Bits)) (onTc (τ := Cert.CastOwn.τ) (Cert.CastOwn.main (F := Bits))) ⟨m, fun _ => 0, g⟩ (fun r => (∀ c : Dev Cert.CastOwn.nD,
      r.2.mem ((c.tc : Thread Cert.CastOwn.nD Cert.CastOwn.τ).loc Cert.CastOwn.main_arg0) = m ((c.tc : Thread Cert.CastOwn.nD Cert.CastOwn.τ).loc Cert.CastOwn.main_arg0))
      ∧ r.2.sem = fun _ => 0)

def quiescent_CastOwnIdeal [hCastOwnIdeal : Cert.CastOwnIdeal.Facts] : Prop :=
  ∀ (m : (ℓ : Loc Cert.CastOwnIdeal.nD Cert.CastOwnIdeal.τ Cert.CastOwnIdeal.sig) → Buf (Elt Ideal) ℓ) (g : Dev Cert.CastOwnIdeal.nD → PrngReg), Pre_CastOwnIdeal m →
    θ_run (Cert.CastOwnIdeal.defs (F := Ideal)) (onTc (τ := Cert.CastOwnIdeal.τ) (Cert.CastOwnIdeal.main (F := Ideal))) ⟨m, fun _ => 0, g⟩ (fun r => (∀ c : Dev Cert.CastOwnIdeal.nD,
      r.2.mem ((c.tc : Thread Cert.CastOwnIdeal.nD Cert.CastOwnIdeal.τ).loc Cert.CastOwnIdeal.main_arg0) = m ((c.tc : Thread Cert.CastOwnIdeal.nD Cert.CastOwnIdeal.τ).loc Cert.CastOwnIdeal.main_arg0))
      ∧ r.2.sem = fun _ => 0)

def quiescent_CastOwnRefIdeal [hCastOwnRefIdeal : Cert.CastOwnRefIdeal.Facts] : Prop :=
  ∀ (m : (ℓ : Loc Cert.CastOwnRefIdeal.nD Cert.CastOwnRefIdeal.τ Cert.CastOwnRefIdeal.sig) → Buf (Elt Ideal) ℓ) (g : Dev Cert.CastOwnRefIdeal.nD → PrngReg), Pre_CastOwnRefIdeal m →
    θ_run (Cert.CastOwnRefIdeal.defs (F := Ideal)) (onTc (τ := Cert.CastOwnRefIdeal.τ) (Cert.CastOwnRefIdeal.main (F := Ideal))) ⟨m, fun _ => 0, g⟩ (fun r => (∀ c : Dev Cert.CastOwnRefIdeal.nD,
      r.2.mem ((c.tc : Thread Cert.CastOwnRefIdeal.nD Cert.CastOwnRefIdeal.τ).loc Cert.CastOwnRefIdeal.main_arg0) = m ((c.tc : Thread Cert.CastOwnRefIdeal.nD Cert.CastOwnRefIdeal.τ).loc Cert.CastOwnRefIdeal.main_arg0))
      ∧ r.2.sem = fun _ => 0)

def quiescent_SumPartials [hSumPartials : Cert.SumPartials.Facts] : Prop :=
  ∀ (m : (ℓ : Loc Cert.SumPartials.nD Cert.SumPartials.τ Cert.SumPartials.sig) → Buf (Elt Bits) ℓ) (g : Dev Cert.SumPartials.nD → PrngReg), Pre_SumPartials m →
    θ_run (Cert.SumPartials.defs (F := Bits)) (onTc (τ := Cert.SumPartials.τ) (Cert.SumPartials.main (F := Bits))) ⟨m, fun _ => 0, g⟩ (fun r => (∀ c : Dev Cert.SumPartials.nD,
      r.2.mem ((c.tc : Thread Cert.SumPartials.nD Cert.SumPartials.τ).loc Cert.SumPartials.main_arg0) = m ((c.tc : Thread Cert.SumPartials.nD Cert.SumPartials.τ).loc Cert.SumPartials.main_arg0)
      ∧ r.2.mem ((c.tc : Thread Cert.SumPartials.nD Cert.SumPartials.τ).loc Cert.SumPartials.main_arg1) = m ((c.tc : Thread Cert.SumPartials.nD Cert.SumPartials.τ).loc Cert.SumPartials.main_arg1)
      ∧ r.2.mem ((c.tc : Thread Cert.SumPartials.nD Cert.SumPartials.τ).loc Cert.SumPartials.main_arg2) = m ((c.tc : Thread Cert.SumPartials.nD Cert.SumPartials.τ).loc Cert.SumPartials.main_arg2))
      ∧ r.2.sem = fun _ => 0)

def quiescent_SumPartialsIdeal [hSumPartialsIdeal : Cert.SumPartialsIdeal.Facts] : Prop :=
  ∀ (m : (ℓ : Loc Cert.SumPartialsIdeal.nD Cert.SumPartialsIdeal.τ Cert.SumPartialsIdeal.sig) → Buf (Elt Ideal) ℓ) (g : Dev Cert.SumPartialsIdeal.nD → PrngReg), Pre_SumPartialsIdeal m →
    θ_run (Cert.SumPartialsIdeal.defs (F := Ideal)) (onTc (τ := Cert.SumPartialsIdeal.τ) (Cert.SumPartialsIdeal.main (F := Ideal))) ⟨m, fun _ => 0, g⟩ (fun r => (∀ c : Dev Cert.SumPartialsIdeal.nD,
      r.2.mem ((c.tc : Thread Cert.SumPartialsIdeal.nD Cert.SumPartialsIdeal.τ).loc Cert.SumPartialsIdeal.main_arg0) = m ((c.tc : Thread Cert.SumPartialsIdeal.nD Cert.SumPartialsIdeal.τ).loc Cert.SumPartialsIdeal.main_arg0)
      ∧ r.2.mem ((c.tc : Thread Cert.SumPartialsIdeal.nD Cert.SumPartialsIdeal.τ).loc Cert.SumPartialsIdeal.main_arg1) = m ((c.tc : Thread Cert.SumPartialsIdeal.nD Cert.SumPartialsIdeal.τ).loc Cert.SumPartialsIdeal.main_arg1)
      ∧ r.2.mem ((c.tc : Thread Cert.SumPartialsIdeal.nD Cert.SumPartialsIdeal.τ).loc Cert.SumPartialsIdeal.main_arg2) = m ((c.tc : Thread Cert.SumPartialsIdeal.nD Cert.SumPartialsIdeal.τ).loc Cert.SumPartialsIdeal.main_arg2))
      ∧ r.2.sem = fun _ => 0)

def quiescent_SumPartialsRefIdeal [hSumPartialsRefIdeal : Cert.SumPartialsRefIdeal.Facts] : Prop :=
  ∀ (m : (ℓ : Loc Cert.SumPartialsRefIdeal.nD Cert.SumPartialsRefIdeal.τ Cert.SumPartialsRefIdeal.sig) → Buf (Elt Ideal) ℓ) (g : Dev Cert.SumPartialsRefIdeal.nD → PrngReg), Pre_SumPartialsRefIdeal m →
    θ_run (Cert.SumPartialsRefIdeal.defs (F := Ideal)) (onTc (τ := Cert.SumPartialsRefIdeal.τ) (Cert.SumPartialsRefIdeal.main (F := Ideal))) ⟨m, fun _ => 0, g⟩ (fun r => (∀ c : Dev Cert.SumPartialsRefIdeal.nD,
      r.2.mem ((c.tc : Thread Cert.SumPartialsRefIdeal.nD Cert.SumPartialsRefIdeal.τ).loc Cert.SumPartialsRefIdeal.main_arg0) = m ((c.tc : Thread Cert.SumPartialsRefIdeal.nD Cert.SumPartialsRefIdeal.τ).loc Cert.SumPartialsRefIdeal.main_arg0)
      ∧ r.2.mem ((c.tc : Thread Cert.SumPartialsRefIdeal.nD Cert.SumPartialsRefIdeal.τ).loc Cert.SumPartialsRefIdeal.main_arg1) = m ((c.tc : Thread Cert.SumPartialsRefIdeal.nD Cert.SumPartialsRefIdeal.τ).loc Cert.SumPartialsRefIdeal.main_arg1)
      ∧ r.2.mem ((c.tc : Thread Cert.SumPartialsRefIdeal.nD Cert.SumPartialsRefIdeal.τ).loc Cert.SumPartialsRefIdeal.main_arg2) = m ((c.tc : Thread Cert.SumPartialsRefIdeal.nD Cert.SumPartialsRefIdeal.τ).loc Cert.SumPartialsRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v17_0)) (v1 : (c : Dev Cert.ConvIdeal.nD) → Buf (Elt Ideal) ((c.tc : Thread Cert.ConvIdeal.nD Cert.ConvIdeal.τ).loc Cert.ConvIdeal.main_v17_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v17_0) = v0 c
          ∧ r.2.mem ((c.tc : Thread Cert.ConvIdeal.nD Cert.ConvIdeal.τ).loc Cert.ConvIdeal.main_v17_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v73) = v0 c
          ∧ r.2.mem ((c.tc : Thread Cert.ConvRefIdeal.nD Cert.ConvRefIdeal.τ).loc Cert.ConvRefIdeal.main_v65) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_v19) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v7_0)) (v1 : (c : Dev Cert.GateIdeal.nD) → Buf (Elt Ideal) ((c.tc : Thread Cert.GateIdeal.nD Cert.GateIdeal.τ).loc Cert.GateIdeal.main_v7_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7_0) = v0 c
          ∧ r.2.mem ((c.tc : Thread Cert.GateIdeal.nD Cert.GateIdeal.τ).loc Cert.GateIdeal.main_v7_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_NormFfn_NormFfnIdeal : Prop :=
  True

def algebraic_NormFfnIdeal_NormFfnRefIdeal_pre_finite_norm_ffn [hNormFfnIdeal : Cert.NormFfnIdeal.Facts] [hNormFfnRefIdeal : Cert.NormFfnRefIdeal.Facts] [hPre_finite_norm_ffn : Cert.Pre_finite_norm_ffn.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal_finite_norm_ffn m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)
      ∧ m' ((c.tc : Thread Cert.NormFfnRefIdeal.nD Cert.NormFfnRefIdeal.τ).loc Cert.NormFfnRefIdeal.main_arg3) = m ((c.tc : Thread Cert.NormFfnIdeal.nD Cert.NormFfnIdeal.τ).loc Cert.NormFfnIdeal.main_arg3)
      ∧ m' ((c.tc : Thread Cert.NormFfnRefIdeal.nD Cert.NormFfnRefIdeal.τ).loc Cert.NormFfnRefIdeal.main_arg4) = m ((c.tc : Thread Cert.NormFfnIdeal.nD Cert.NormFfnIdeal.τ).loc Cert.NormFfnIdeal.main_arg4)
      ∧ m' ((c.tc : Thread Cert.NormFfnRefIdeal.nD Cert.NormFfnRefIdeal.τ).loc Cert.NormFfnRefIdeal.main_arg5) = m ((c.tc : Thread Cert.NormFfnIdeal.nD Cert.NormFfnIdeal.τ).loc Cert.NormFfnIdeal.main_arg5)) →
    ∃ (v0 : (c : Dev Cert.NormFfnIdeal.nD) → Buf (Elt Ideal) ((c.tc : Thread Cert.NormFfnIdeal.nD Cert.NormFfnIdeal.τ).loc Cert.NormFfnIdeal.main_v4_0)) (v1 : (c : Dev Cert.NormFfnIdeal.nD) → Buf (Elt Ideal) ((c.tc : Thread Cert.NormFfnIdeal.nD Cert.NormFfnIdeal.τ).loc Cert.NormFfnIdeal.main_v4_1)) (v2 : (c : Dev Cert.NormFfnIdeal.nD) → Buf (Elt Ideal) ((c.tc : Thread Cert.NormFfnIdeal.nD Cert.NormFfnIdeal.τ).loc Cert.NormFfnIdeal.main_v6)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v4_0) = v0 c
          ∧ r.2.mem ((c.tc : Thread Cert.NormFfnIdeal.nD Cert.NormFfnIdeal.τ).loc Cert.NormFfnIdeal.main_v4_1) = v1 c
          ∧ r.2.mem ((c.tc : Thread Cert.NormFfnIdeal.nD Cert.NormFfnIdeal.τ).loc Cert.NormFfnIdeal.main_v6) = v2 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
          ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
          ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4)
          ∧ r.2.mem ((c.tc : Thread Cert.NormFfnIdeal.nD Cert.NormFfnIdeal.τ).loc Cert.NormFfnIdeal.main_arg5) = m ((c.tc : Thread Cert.NormFfnIdeal.nD Cert.NormFfnIdeal.τ).loc Cert.NormFfnIdeal.main_arg5))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v39) = v0 c
          ∧ r.2.mem ((c.tc : Thread Cert.NormFfnRefIdeal.nD Cert.NormFfnRefIdeal.τ).loc Cert.NormFfnRefIdeal.main_v40) = v1 c
          ∧ r.2.mem ((c.tc : Thread Cert.NormFfnRefIdeal.nD Cert.NormFfnRefIdeal.τ).loc Cert.NormFfnRefIdeal.main_v22) = v2 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3)
          ∧ r.2.mem ((c.tc : Thread Cert.NormFfnRefIdeal.nD Cert.NormFfnRefIdeal.τ).loc Cert.NormFfnRefIdeal.main_arg4) = m' ((c.tc : Thread Cert.NormFfnRefIdeal.nD Cert.NormFfnRefIdeal.τ).loc Cert.NormFfnRefIdeal.main_arg4)
          ∧ r.2.mem ((c.tc : Thread Cert.NormFfnRefIdeal.nD Cert.NormFfnRefIdeal.τ).loc Cert.NormFfnRefIdeal.main_arg5) = m' ((c.tc : Thread Cert.NormFfnRefIdeal.nD Cert.NormFfnRefIdeal.τ).loc Cert.NormFfnRefIdeal.main_arg5))

def preserves_NormQkv_NormQkvIdeal : Prop :=
  True

def algebraic_NormQkvIdeal_NormQkvRefIdeal_pre_finite_norm_qkv [hNormQkvIdeal : Cert.NormQkvIdeal.Facts] [hNormQkvRefIdeal : Cert.NormQkvRefIdeal.Facts] [hPre_finite_norm_qkv : Cert.Pre_finite_norm_qkv.Facts] : Prop :=
  ∀ (m : (ℓ : Loc Cert.NormQkvIdeal.nD Cert.NormQkvIdeal.τ Cert.NormQkvIdeal.sig) → Buf (Elt Ideal) ℓ) (g : Dev Cert.NormQkvIdeal.nD → PrngReg)
    (m' : (ℓ : Loc Cert.NormQkvRefIdeal.nD Cert.NormQkvRefIdeal.τ Cert.NormQkvRefIdeal.sig) → Buf (Elt Ideal) ℓ) (g' : Dev Cert.NormQkvRefIdeal.nD → PrngReg), Pre_NormQkvIdeal_finite_norm_qkv m →
    (∀ c : Dev Cert.NormQkvIdeal.nD,
      m' ((c.tc : Thread Cert.NormQkvRefIdeal.nD Cert.NormQkvRefIdeal.τ).loc Cert.NormQkvRefIdeal.main_arg0) = m ((c.tc : Thread Cert.NormQkvIdeal.nD Cert.NormQkvIdeal.τ).loc Cert.NormQkvIdeal.main_arg0)
      ∧ m' ((c.tc : Thread Cert.NormQkvRefIdeal.nD Cert.NormQkvRefIdeal.τ).loc Cert.NormQkvRefIdeal.main_arg1) = m ((c.tc : Thread Cert.NormQkvIdeal.nD Cert.NormQkvIdeal.τ).loc Cert.NormQkvIdeal.main_arg1)
      ∧ m' ((c.tc : Thread Cert.NormQkvRefIdeal.nD Cert.NormQkvRefIdeal.τ).loc Cert.NormQkvRefIdeal.main_arg2) = m ((c.tc : Thread Cert.NormQkvIdeal.nD Cert.NormQkvIdeal.τ).loc Cert.NormQkvIdeal.main_arg2)
      ∧ m' ((c.tc : Thread Cert.NormQkvRefIdeal.nD Cert.NormQkvRefIdeal.τ).loc Cert.NormQkvRefIdeal.main_arg3) = m ((c.tc : Thread Cert.NormQkvIdeal.nD Cert.NormQkvIdeal.τ).loc Cert.NormQkvIdeal.main_arg3)
      ∧ m' ((c.tc : Thread Cert.NormQkvRefIdeal.nD Cert.NormQkvRefIdeal.τ).loc Cert.NormQkvRefIdeal.main_arg4) = m ((c.tc : Thread Cert.NormQkvIdeal.nD Cert.NormQkvIdeal.τ).loc Cert.NormQkvIdeal.main_arg4)) →
    ∃ (v0 : (c : Dev Cert.NormQkvIdeal.nD) → Buf (Elt Ideal) ((c.tc : Thread Cert.NormQkvIdeal.nD Cert.NormQkvIdeal.τ).loc Cert.NormQkvIdeal.main_v4_0)) (v1 : (c : Dev Cert.NormQkvIdeal.nD) → Buf (Elt Ideal) ((c.tc : Thread Cert.NormQkvIdeal.nD Cert.NormQkvIdeal.τ).loc Cert.NormQkvIdeal.main_v4_1)) (v2 : (c : Dev Cert.NormQkvIdeal.nD) → Buf (Elt Ideal) ((c.tc : Thread Cert.NormQkvIdeal.nD Cert.NormQkvIdeal.τ).loc Cert.NormQkvIdeal.main_v6)),
      θ_run (Cert.NormQkvIdeal.defs (F := Ideal)) (onTc (τ := Cert.NormQkvIdeal.τ) (Cert.NormQkvIdeal.main (F := Ideal))) ⟨m, fun _ => 0, g⟩ (fun r => ∀ c : Dev Cert.NormQkvIdeal.nD,
          r.2.mem ((c.tc : Thread Cert.NormQkvIdeal.nD Cert.NormQkvIdeal.τ).loc Cert.NormQkvIdeal.main_v4_0) = v0 c
          ∧ r.2.mem ((c.tc : Thread Cert.NormQkvIdeal.nD Cert.NormQkvIdeal.τ).loc Cert.NormQkvIdeal.main_v4_1) = v1 c
          ∧ r.2.mem ((c.tc : Thread Cert.NormQkvIdeal.nD Cert.NormQkvIdeal.τ).loc Cert.NormQkvIdeal.main_v6) = v2 c
          ∧ r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
          ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
          ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
          ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3)
          ∧ r.2.mem ((c.tc : Thread Cert.NormQkvIdeal.nD Cert.NormQkvIdeal.τ).loc Cert.NormQkvIdeal.main_arg4) = m ((c.tc : Thread Cert.NormQkvIdeal.nD Cert.NormQkvIdeal.τ).loc Cert.NormQkvIdeal.main_arg4))
      ∧ θ_run (Cert.NormQkvRefIdeal.defs (F := Ideal)) (onTc (τ := Cert.NormQkvRefIdeal.τ) (Cert.NormQkvRefIdeal.main (F := Ideal))) ⟨m', fun _ => 0, g'⟩ (fun r => ∀ c : Dev Cert.NormQkvRefIdeal.nD,
          r.2.mem ((c.tc : Thread Cert.NormQkvRefIdeal.nD Cert.NormQkvRefIdeal.τ).loc Cert.NormQkvRefIdeal.main_v37) = v0 c
          ∧ r.2.mem ((c.tc : Thread Cert.NormQkvRefIdeal.nD Cert.NormQkvRefIdeal.τ).loc Cert.NormQkvRefIdeal.main_v38) = v1 c
          ∧ r.2.mem ((c.tc : Thread Cert.NormQkvRefIdeal.nD Cert.NormQkvRefIdeal.τ).loc Cert.NormQkvRefIdeal.main_v20) = v2 c
          ∧ r.2.mem ((c.tc : Thread Cert.NormQkvRefIdeal.nD Cert.NormQkvRefIdeal.τ).loc Cert.NormQkvRefIdeal.main_arg0) = m' ((c.tc : Thread Cert.NormQkvRefIdeal.nD Cert.NormQkvRefIdeal.τ).loc Cert.NormQkvRefIdeal.main_arg0)
          ∧ r.2.mem ((c.tc : Thread Cert.NormQkvRefIdeal.nD Cert.NormQkvRefIdeal.τ).loc Cert.NormQkvRefIdeal.main_arg1) = m' ((c.tc : Thread Cert.NormQkvRefIdeal.nD Cert.NormQkvRefIdeal.τ).loc Cert.NormQkvRefIdeal.main_arg1)
          ∧ r.2.mem ((c.tc : Thread Cert.NormQkvRefIdeal.nD Cert.NormQkvRefIdeal.τ).loc Cert.NormQkvRefIdeal.main_arg2) = m' ((c.tc : Thread Cert.NormQkvRefIdeal.nD Cert.NormQkvRefIdeal.τ).loc Cert.NormQkvRefIdeal.main_arg2)
          ∧ r.2.mem ((c.tc : Thread Cert.NormQkvRefIdeal.nD Cert.NormQkvRefIdeal.τ).loc Cert.NormQkvRefIdeal.main_arg3) = m' ((c.tc : Thread Cert.NormQkvRefIdeal.nD Cert.NormQkvRefIdeal.τ).loc Cert.NormQkvRefIdeal.main_arg3)
          ∧ r.2.mem ((c.tc : Thread Cert.NormQkvRefIdeal.nD Cert.NormQkvRefIdeal.τ).loc Cert.NormQkvRefIdeal.main_arg4) = m' ((c.tc : Thread Cert.NormQkvRefIdeal.nD Cert.NormQkvRefIdeal.τ).loc Cert.NormQkvRefIdeal.main_arg4))

def preserves_NormConv_NormConvIdeal : Prop :=
  True

def algebraic_NormConvIdeal_NormConvRefIdeal_pre_finite_norm_conv [hNormConvIdeal : Cert.NormConvIdeal.Facts] [hNormConvRefIdeal : Cert.NormConvRefIdeal.Facts] [hPre_finite_norm_conv : Cert.Pre_finite_norm_conv.Facts] : Prop :=
  ∀ (m : (ℓ : Loc Cert.NormConvIdeal.nD Cert.NormConvIdeal.τ Cert.NormConvIdeal.sig) → Buf (Elt Ideal) ℓ) (g : Dev Cert.NormConvIdeal.nD → PrngReg)
    (m' : (ℓ : Loc Cert.NormConvRefIdeal.nD Cert.NormConvRefIdeal.τ Cert.NormConvRefIdeal.sig) → Buf (Elt Ideal) ℓ) (g' : Dev Cert.NormConvRefIdeal.nD → PrngReg), Pre_NormConvIdeal_finite_norm_conv m →
    (∀ c : Dev Cert.NormConvIdeal.nD,
      m' ((c.tc : Thread Cert.NormConvRefIdeal.nD Cert.NormConvRefIdeal.τ).loc Cert.NormConvRefIdeal.main_arg0) = m ((c.tc : Thread Cert.NormConvIdeal.nD Cert.NormConvIdeal.τ).loc Cert.NormConvIdeal.main_arg0)
      ∧ m' ((c.tc : Thread Cert.NormConvRefIdeal.nD Cert.NormConvRefIdeal.τ).loc Cert.NormConvRefIdeal.main_arg1) = m ((c.tc : Thread Cert.NormConvIdeal.nD Cert.NormConvIdeal.τ).loc Cert.NormConvIdeal.main_arg1)
      ∧ m' ((c.tc : Thread Cert.NormConvRefIdeal.nD Cert.NormConvRefIdeal.τ).loc Cert.NormConvRefIdeal.main_arg2) = m ((c.tc : Thread Cert.NormConvIdeal.nD Cert.NormConvIdeal.τ).loc Cert.NormConvIdeal.main_arg2)
      ∧ m' ((c.tc : Thread Cert.NormConvRefIdeal.nD Cert.NormConvRefIdeal.τ).loc Cert.NormConvRefIdeal.main_arg3) = m ((c.tc : Thread Cert.NormConvIdeal.nD Cert.NormConvIdeal.τ).loc Cert.NormConvIdeal.main_arg3)
      ∧ m' ((c.tc : Thread Cert.NormConvRefIdeal.nD Cert.NormConvRefIdeal.τ).loc Cert.NormConvRefIdeal.main_arg4) = m ((c.tc : Thread Cert.NormConvIdeal.nD Cert.NormConvIdeal.τ).loc Cert.NormConvIdeal.main_arg4)) →
    ∃ (v0 : (c : Dev Cert.NormConvIdeal.nD) → Buf (Elt Ideal) ((c.tc : Thread Cert.NormConvIdeal.nD Cert.NormConvIdeal.τ).loc Cert.NormConvIdeal.main_v4_0)) (v1 : (c : Dev Cert.NormConvIdeal.nD) → Buf (Elt Ideal) ((c.tc : Thread Cert.NormConvIdeal.nD Cert.NormConvIdeal.τ).loc Cert.NormConvIdeal.main_v6)),
      θ_run (Cert.NormConvIdeal.defs (F := Ideal)) (onTc (τ := Cert.NormConvIdeal.τ) (Cert.NormConvIdeal.main (F := Ideal))) ⟨m, fun _ => 0, g⟩ (fun r => ∀ c : Dev Cert.NormConvIdeal.nD,
          r.2.mem ((c.tc : Thread Cert.NormConvIdeal.nD Cert.NormConvIdeal.τ).loc Cert.NormConvIdeal.main_v4_0) = v0 c
          ∧ r.2.mem ((c.tc : Thread Cert.NormConvIdeal.nD Cert.NormConvIdeal.τ).loc Cert.NormConvIdeal.main_v6) = v1 c
          ∧ r.2.mem ((c.tc : Thread Cert.NormConvIdeal.nD Cert.NormConvIdeal.τ).loc Cert.NormConvIdeal.main_arg0) = m ((c.tc : Thread Cert.NormConvIdeal.nD Cert.NormConvIdeal.τ).loc Cert.NormConvIdeal.main_arg0)
          ∧ r.2.mem ((c.tc : Thread Cert.NormConvIdeal.nD Cert.NormConvIdeal.τ).loc Cert.NormConvIdeal.main_arg1) = m ((c.tc : Thread Cert.NormConvIdeal.nD Cert.NormConvIdeal.τ).loc Cert.NormConvIdeal.main_arg1)
          ∧ r.2.mem ((c.tc : Thread Cert.NormConvIdeal.nD Cert.NormConvIdeal.τ).loc Cert.NormConvIdeal.main_arg2) = m ((c.tc : Thread Cert.NormConvIdeal.nD Cert.NormConvIdeal.τ).loc Cert.NormConvIdeal.main_arg2)
          ∧ r.2.mem ((c.tc : Thread Cert.NormConvIdeal.nD Cert.NormConvIdeal.τ).loc Cert.NormConvIdeal.main_arg3) = m ((c.tc : Thread Cert.NormConvIdeal.nD Cert.NormConvIdeal.τ).loc Cert.NormConvIdeal.main_arg3)
          ∧ r.2.mem ((c.tc : Thread Cert.NormConvIdeal.nD Cert.NormConvIdeal.τ).loc Cert.NormConvIdeal.main_arg4) = m ((c.tc : Thread Cert.NormConvIdeal.nD Cert.NormConvIdeal.τ).loc Cert.NormConvIdeal.main_arg4))
      ∧ θ_run (Cert.NormConvRefIdeal.defs (F := Ideal)) (onTc (τ := Cert.NormConvRefIdeal.τ) (Cert.NormConvRefIdeal.main (F := Ideal))) ⟨m', fun _ => 0, g'⟩ (fun r => ∀ c : Dev Cert.NormConvRefIdeal.nD,
          r.2.mem ((c.tc : Thread Cert.NormConvRefIdeal.nD Cert.NormConvRefIdeal.τ).loc Cert.NormConvRefIdeal.main_v39) = v0 c
          ∧ r.2.mem ((c.tc : Thread Cert.NormConvRefIdeal.nD Cert.NormConvRefIdeal.τ).loc Cert.NormConvRefIdeal.main_v22) = v1 c
          ∧ r.2.mem ((c.tc : Thread Cert.NormConvRefIdeal.nD Cert.NormConvRefIdeal.τ).loc Cert.NormConvRefIdeal.main_arg0) = m' ((c.tc : Thread Cert.NormConvRefIdeal.nD Cert.NormConvRefIdeal.τ).loc Cert.NormConvRefIdeal.main_arg0)
          ∧ r.2.mem ((c.tc : Thread Cert.NormConvRefIdeal.nD Cert.NormConvRefIdeal.τ).loc Cert.NormConvRefIdeal.main_arg1) = m' ((c.tc : Thread Cert.NormConvRefIdeal.nD Cert.NormConvRefIdeal.τ).loc Cert.NormConvRefIdeal.main_arg1)
          ∧ r.2.mem ((c.tc : Thread Cert.NormConvRefIdeal.nD Cert.NormConvRefIdeal.τ).loc Cert.NormConvRefIdeal.main_arg2) = m' ((c.tc : Thread Cert.NormConvRefIdeal.nD Cert.NormConvRefIdeal.τ).loc Cert.NormConvRefIdeal.main_arg2)
          ∧ r.2.mem ((c.tc : Thread Cert.NormConvRefIdeal.nD Cert.NormConvRefIdeal.τ).loc Cert.NormConvRefIdeal.main_arg3) = m' ((c.tc : Thread Cert.NormConvRefIdeal.nD Cert.NormConvRefIdeal.τ).loc Cert.NormConvRefIdeal.main_arg3)
          ∧ r.2.mem ((c.tc : Thread Cert.NormConvRefIdeal.nD Cert.NormConvRefIdeal.τ).loc Cert.NormConvRefIdeal.main_arg4) = m' ((c.tc : Thread Cert.NormConvRefIdeal.nD Cert.NormConvRefIdeal.τ).loc Cert.NormConvRefIdeal.main_arg4))

def preserves_Attn_AttnIdeal : Prop :=
  IdealRules.named_const.Statement Cert.AttnIdeal.κ "slope1" .f32 0x3F3504F3#32 (((Real.sqrt 2)⁻¹ : ℝ) : EReal)
  ∧ IdealRules.named_const.Statement Cert.AttnIdeal.κ "mask" .f32 0xF149F2CA#32 ⊥
  ∧ IdealRules.named_const.Statement Cert.AttnIdeal.κ "slope3" .f32 0x3EB504F3#32 (((Real.sqrt 8)⁻¹ : ℝ) : EReal)
  ∧ IdealRules.named_const.Statement Cert.AttnIdeal.κ "slope5" .f32 0x3E3504F3#32 (((Real.sqrt 32)⁻¹ : ℝ) : EReal)
  ∧ IdealRules.named_const.Statement Cert.AttnIdeal.κ "slope7" .f32 0x3DB504F3#32 (((Real.sqrt 128)⁻¹ : ℝ) : EReal)
  ∧ IdealRules.named_const.Statement Cert.AttnIdeal.κ "slope9" .f32 0x3D3504F3#32 (((Real.sqrt 512)⁻¹ : ℝ) : EReal)
  ∧ IdealRules.named_const.Statement Cert.AttnIdeal.κ "slope11" .f32 0x3CB504F3#32 (((Real.sqrt 2048)⁻¹ : ℝ) : EReal)
  ∧ IdealRules.named_const.Statement Cert.AttnIdeal.κ "slope13" .f32 0x3C3504F3#32 (((Real.sqrt 8192)⁻¹ : ℝ) : EReal)
  ∧ IdealRules.named_const.Statement Cert.AttnIdeal.κ "slope15" .f32 0x3BB504F3#32 (((Real.sqrt 32768)⁻¹ : ℝ) : EReal)

def preserves_FwdUp_FwdUpIdeal : Prop :=
  True

def algebraic_FwdUpIdeal_FwdUpRefIdeal_pre_finite_up [hFwdUpIdeal : Cert.FwdUpIdeal.Facts] [hFwdUpRefIdeal : Cert.FwdUpRefIdeal.Facts] [hPre_finite_up : Cert.Pre_finite_up.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpRefIdeal.nD Cert.FwdUpRefIdeal.τ Cert.FwdUpRefIdeal.sig) → Buf (Elt Ideal) ℓ) (g' : Dev Cert.FwdUpRefIdeal.nD → PrngReg), Pre_FwdUpIdeal_finite_up m →
    (∀ c : Dev Cert.FwdUpIdeal.nD,
      m' ((c.tc : Thread Cert.FwdUpRefIdeal.nD Cert.FwdUpRefIdeal.τ).loc Cert.FwdUpRefIdeal.main_arg0) = m ((c.tc : Thread Cert.FwdUpIdeal.nD Cert.FwdUpIdeal.τ).loc Cert.FwdUpIdeal.main_arg0)
      ∧ m' ((c.tc : Thread Cert.FwdUpRefIdeal.nD Cert.FwdUpRefIdeal.τ).loc Cert.FwdUpRefIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v4_0)) (v1 : (c : Dev Cert.FwdUpIdeal.nD) → Buf (Elt Ideal) ((c.tc : Thread Cert.FwdUpIdeal.nD Cert.FwdUpIdeal.τ).loc Cert.FwdUpIdeal.main_v4_1)) (v2 : (c : Dev Cert.FwdUpIdeal.nD) → Buf (Elt Ideal) ((c.tc : Thread Cert.FwdUpIdeal.nD Cert.FwdUpIdeal.τ).loc Cert.FwdUpIdeal.main_v4_2)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v4_0) = v0 c
          ∧ r.2.mem ((c.tc : Thread Cert.FwdUpIdeal.nD Cert.FwdUpIdeal.τ).loc Cert.FwdUpIdeal.main_v4_1) = v1 c
          ∧ r.2.mem ((c.tc : Thread Cert.FwdUpIdeal.nD Cert.FwdUpIdeal.τ).loc Cert.FwdUpIdeal.main_v4_2) = v2 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.FwdUpRefIdeal.defs (F := Ideal)) (onTc (τ := Cert.FwdUpRefIdeal.τ) (Cert.FwdUpRefIdeal.main (F := Ideal))) ⟨m', fun _ => 0, g'⟩ (fun r => ∀ c : Dev Cert.FwdUpRefIdeal.nD,
          r.2.mem ((c.tc : Thread Cert.FwdUpRefIdeal.nD Cert.FwdUpRefIdeal.τ).loc Cert.FwdUpRefIdeal.main_v10) = v0 c
          ∧ r.2.mem ((c.tc : Thread Cert.FwdUpRefIdeal.nD Cert.FwdUpRefIdeal.τ).loc Cert.FwdUpRefIdeal.main_v11) = v1 c
          ∧ r.2.mem ((c.tc : Thread Cert.FwdUpRefIdeal.nD Cert.FwdUpRefIdeal.τ).loc Cert.FwdUpRefIdeal.main_v12) = v2 c
          ∧ r.2.mem ((c.tc : Thread Cert.FwdUpRefIdeal.nD Cert.FwdUpRefIdeal.τ).loc Cert.FwdUpRefIdeal.main_arg0) = m' ((c.tc : Thread Cert.FwdUpRefIdeal.nD Cert.FwdUpRefIdeal.τ).loc Cert.FwdUpRefIdeal.main_arg0)
          ∧ r.2.mem ((c.tc : Thread Cert.FwdUpRefIdeal.nD Cert.FwdUpRefIdeal.τ).loc Cert.FwdUpRefIdeal.main_arg1) = m' ((c.tc : Thread Cert.FwdUpRefIdeal.nD Cert.FwdUpRefIdeal.τ).loc Cert.FwdUpRefIdeal.main_arg1))

def preserves_FwdConv_FwdConvIdeal : Prop :=
  True

def algebraic_FwdConvIdeal_FwdConvRefIdeal [hFwdConvIdeal : Cert.FwdConvIdeal.Facts] [hFwdConvRefIdeal : Cert.FwdConvRefIdeal.Facts] : Prop :=
  ∀ (m : (ℓ : Loc Cert.FwdConvIdeal.nD Cert.FwdConvIdeal.τ Cert.FwdConvIdeal.sig) → Buf (Elt Ideal) ℓ) (g : Dev Cert.FwdConvIdeal.nD → PrngReg)
    (m' : (ℓ : Loc Cert.FwdConvRefIdeal.nD Cert.FwdConvRefIdeal.τ Cert.FwdConvRefIdeal.sig) → Buf (Elt Ideal) ℓ) (g' : Dev Cert.FwdConvRefIdeal.nD → PrngReg), Pre_FwdConvIdeal m →
    (∀ c : Dev Cert.FwdConvIdeal.nD,
      m' ((c.tc : Thread Cert.FwdConvRefIdeal.nD Cert.FwdConvRefIdeal.τ).loc Cert.FwdConvRefIdeal.main_arg0) = m ((c.tc : Thread Cert.FwdConvIdeal.nD Cert.FwdConvIdeal.τ).loc Cert.FwdConvIdeal.main_arg0)
      ∧ m' ((c.tc : Thread Cert.FwdConvRefIdeal.nD Cert.FwdConvRefIdeal.τ).loc Cert.FwdConvRefIdeal.main_arg1) = m ((c.tc : Thread Cert.FwdConvIdeal.nD Cert.FwdConvIdeal.τ).loc Cert.FwdConvIdeal.main_arg1)) →
    ∃ (v0 : (c : Dev Cert.FwdConvIdeal.nD) → Buf (Elt Ideal) ((c.tc : Thread Cert.FwdConvIdeal.nD Cert.FwdConvIdeal.τ).loc Cert.FwdConvIdeal.main_v17)),
      θ_run (Cert.FwdConvIdeal.defs (F := Ideal)) (onTc (τ := Cert.FwdConvIdeal.τ) (Cert.FwdConvIdeal.main (F := Ideal))) ⟨m, fun _ => 0, g⟩ (fun r => ∀ c : Dev Cert.FwdConvIdeal.nD,
          r.2.mem ((c.tc : Thread Cert.FwdConvIdeal.nD Cert.FwdConvIdeal.τ).loc Cert.FwdConvIdeal.main_v17) = v0 c
          ∧ r.2.mem ((c.tc : Thread Cert.FwdConvIdeal.nD Cert.FwdConvIdeal.τ).loc Cert.FwdConvIdeal.main_arg0) = m ((c.tc : Thread Cert.FwdConvIdeal.nD Cert.FwdConvIdeal.τ).loc Cert.FwdConvIdeal.main_arg0)
          ∧ r.2.mem ((c.tc : Thread Cert.FwdConvIdeal.nD Cert.FwdConvIdeal.τ).loc Cert.FwdConvIdeal.main_arg1) = m ((c.tc : Thread Cert.FwdConvIdeal.nD Cert.FwdConvIdeal.τ).loc Cert.FwdConvIdeal.main_arg1))
      ∧ θ_run (Cert.FwdConvRefIdeal.defs (F := Ideal)) (onTc (τ := Cert.FwdConvRefIdeal.τ) (Cert.FwdConvRefIdeal.main (F := Ideal))) ⟨m', fun _ => 0, g'⟩ (fun r => ∀ c : Dev Cert.FwdConvRefIdeal.nD,
          r.2.mem ((c.tc : Thread Cert.FwdConvRefIdeal.nD Cert.FwdConvRefIdeal.τ).loc Cert.FwdConvRefIdeal.main_v31) = v0 c
          ∧ r.2.mem ((c.tc : Thread Cert.FwdConvRefIdeal.nD Cert.FwdConvRefIdeal.τ).loc Cert.FwdConvRefIdeal.main_arg0) = m' ((c.tc : Thread Cert.FwdConvRefIdeal.nD Cert.FwdConvRefIdeal.τ).loc Cert.FwdConvRefIdeal.main_arg0)
          ∧ r.2.mem ((c.tc : Thread Cert.FwdConvRefIdeal.nD Cert.FwdConvRefIdeal.τ).loc Cert.FwdConvRefIdeal.main_arg1) = m' ((c.tc : Thread Cert.FwdConvRefIdeal.nD Cert.FwdConvRefIdeal.τ).loc Cert.FwdConvRefIdeal.main_arg1))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v4_0)) (v1 : (c : Dev Cert.FwdInIdeal.nD) → Buf (Elt Ideal) ((c.tc : Thread Cert.FwdInIdeal.nD Cert.FwdInIdeal.τ).loc Cert.FwdInIdeal.main_v4_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v4_0) = v0 c
          ∧ r.2.mem ((c.tc : Thread Cert.FwdInIdeal.nD Cert.FwdInIdeal.τ).loc Cert.FwdInIdeal.main_v4_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v12) = v0 c
          ∧ r.2.mem ((c.tc : Thread Cert.FwdInRefIdeal.nD Cert.FwdInRefIdeal.τ).loc Cert.FwdInRefIdeal.main_v14) = v1 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_FwdDown_FwdDownIdeal : Prop :=
  True

def algebraic_FwdDownIdeal_FwdDownRefIdeal [hFwdDownIdeal : Cert.FwdDownIdeal.Facts] [hFwdDownRefIdeal : Cert.FwdDownRefIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownRefIdeal.nD Cert.FwdDownRefIdeal.τ Cert.FwdDownRefIdeal.sig) → Buf (Elt Ideal) ℓ) (g' : Dev Cert.FwdDownRefIdeal.nD → PrngReg), Pre_FwdDownIdeal m →
    (∀ c : Dev Cert.FwdDownIdeal.nD,
      m' ((c.tc : Thread Cert.FwdDownRefIdeal.nD Cert.FwdDownRefIdeal.τ).loc Cert.FwdDownRefIdeal.main_arg0) = m ((c.tc : Thread Cert.FwdDownIdeal.nD Cert.FwdDownIdeal.τ).loc Cert.FwdDownIdeal.main_arg0)
      ∧ m' ((c.tc : Thread Cert.FwdDownRefIdeal.nD Cert.FwdDownRefIdeal.τ).loc Cert.FwdDownRefIdeal.main_arg1) = m ((c.tc : Thread Cert.FwdDownIdeal.nD Cert.FwdDownIdeal.τ).loc Cert.FwdDownIdeal.main_arg1)
      ∧ m' ((c.tc : Thread Cert.FwdDownRefIdeal.nD Cert.FwdDownRefIdeal.τ).loc Cert.FwdDownRefIdeal.main_arg2) = m ((c.tc : Thread Cert.FwdDownIdeal.nD Cert.FwdDownIdeal.τ).loc Cert.FwdDownIdeal.main_arg2)
      ∧ m' ((c.tc : Thread Cert.FwdDownRefIdeal.nD Cert.FwdDownRefIdeal.τ).loc Cert.FwdDownRefIdeal.main_arg3) = m ((c.tc : Thread Cert.FwdDownIdeal.nD Cert.FwdDownIdeal.τ).loc Cert.FwdDownIdeal.main_arg3)) →
    ∃ (v0 : (c : Dev Cert.FwdDownIdeal.nD) → Buf (Elt Ideal) ((c.tc : Thread Cert.FwdDownIdeal.nD Cert.FwdDownIdeal.τ).loc Cert.FwdDownIdeal.main_v2_0)) (v1 : (c : Dev Cert.FwdDownIdeal.nD) → Buf (Elt Ideal) ((c.tc : Thread Cert.FwdDownIdeal.nD Cert.FwdDownIdeal.τ).loc Cert.FwdDownIdeal.main_v2_1)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v2_0) = v0 c
          ∧ r.2.mem ((c.tc : Thread Cert.FwdDownIdeal.nD Cert.FwdDownIdeal.τ).loc Cert.FwdDownIdeal.main_v2_1) = v1 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
          ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
          ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3))
      ∧ θ_run (Cert.FwdDownRefIdeal.defs (F := Ideal)) (onTc (τ := Cert.FwdDownRefIdeal.τ) (Cert.FwdDownRefIdeal.main (F := Ideal))) ⟨m', fun _ => 0, g'⟩ (fun r => ∀ c : Dev Cert.FwdDownRefIdeal.nD,
          r.2.mem ((c.tc : Thread Cert.FwdDownRefIdeal.nD Cert.FwdDownRefIdeal.τ).loc Cert.FwdDownRefIdeal.main_v2) = v0 c
          ∧ r.2.mem ((c.tc : Thread Cert.FwdDownRefIdeal.nD Cert.FwdDownRefIdeal.τ).loc Cert.FwdDownRefIdeal.main_v15) = v1 c
          ∧ r.2.mem ((c.tc : Thread Cert.FwdDownRefIdeal.nD Cert.FwdDownRefIdeal.τ).loc Cert.FwdDownRefIdeal.main_arg0) = m' ((c.tc : Thread Cert.FwdDownRefIdeal.nD Cert.FwdDownRefIdeal.τ).loc Cert.FwdDownRefIdeal.main_arg0)
          ∧ r.2.mem ((c.tc : Thread Cert.FwdDownRefIdeal.nD Cert.FwdDownRefIdeal.τ).loc Cert.FwdDownRefIdeal.main_arg1) = m' ((c.tc : Thread Cert.FwdDownRefIdeal.nD Cert.FwdDownRefIdeal.τ).loc Cert.FwdDownRefIdeal.main_arg1)
          ∧ r.2.mem ((c.tc : Thread Cert.FwdDownRefIdeal.nD Cert.FwdDownRefIdeal.τ).loc Cert.FwdDownRefIdeal.main_arg2) = m' ((c.tc : Thread Cert.FwdDownRefIdeal.nD Cert.FwdDownRefIdeal.τ).loc Cert.FwdDownRefIdeal.main_arg2)
          ∧ r.2.mem ((c.tc : Thread Cert.FwdDownRefIdeal.nD Cert.FwdDownRefIdeal.τ).loc Cert.FwdDownRefIdeal.main_arg3) = m' ((c.tc : Thread Cert.FwdDownRefIdeal.nD Cert.FwdDownRefIdeal.τ).loc Cert.FwdDownRefIdeal.main_arg3))

def preserves_FwdAttn_FwdAttnIdeal : Prop :=
  IdealRules.named_const.Statement Cert.FwdAttnIdeal.κ "slope1" .f32 0x3F3504F3#32 (((Real.sqrt 2)⁻¹ : ℝ) : EReal)
  ∧ IdealRules.named_const.Statement Cert.FwdAttnIdeal.κ "mask" .f32 0xF149F2CA#32 ⊥
  ∧ IdealRules.named_const.Statement Cert.FwdAttnIdeal.κ "slope3" .f32 0x3EB504F3#32 (((Real.sqrt 8)⁻¹ : ℝ) : EReal)
  ∧ IdealRules.named_const.Statement Cert.FwdAttnIdeal.κ "slope5" .f32 0x3E3504F3#32 (((Real.sqrt 32)⁻¹ : ℝ) : EReal)
  ∧ IdealRules.named_const.Statement Cert.FwdAttnIdeal.κ "slope7" .f32 0x3DB504F3#32 (((Real.sqrt 128)⁻¹ : ℝ) : EReal)
  ∧ IdealRules.named_const.Statement Cert.FwdAttnIdeal.κ "slope9" .f32 0x3D3504F3#32 (((Real.sqrt 512)⁻¹ : ℝ) : EReal)
  ∧ IdealRules.named_const.Statement Cert.FwdAttnIdeal.κ "slope11" .f32 0x3CB504F3#32 (((Real.sqrt 2048)⁻¹ : ℝ) : EReal)
  ∧ IdealRules.named_const.Statement Cert.FwdAttnIdeal.κ "slope13" .f32 0x3C3504F3#32 (((Real.sqrt 8192)⁻¹ : ℝ) : EReal)
  ∧ IdealRules.named_const.Statement Cert.FwdAttnIdeal.κ "slope15" .f32 0x3BB504F3#32 (((Real.sqrt 32768)⁻¹ : ℝ) : EReal)

def algebraic_FwdAttnIdeal_FwdAttnRefIdeal_pre_finite_attn_fwd [hFwdAttnIdeal : Cert.FwdAttnIdeal.Facts] [hFwdAttnRefIdeal : Cert.FwdAttnRefIdeal.Facts] [hPre_finite_attn_fwd : Cert.Pre_finite_attn_fwd.Facts] : Prop :=
  ∀ (m : (ℓ : Loc Cert.FwdAttnIdeal.nD Cert.FwdAttnIdeal.τ Cert.FwdAttnIdeal.sig) → Buf (Elt Ideal) ℓ) (g : Dev Cert.FwdAttnIdeal.nD → PrngReg)
    (m' : (ℓ : Loc Cert.FwdAttnRefIdeal.nD Cert.FwdAttnRefIdeal.τ Cert.FwdAttnRefIdeal.sig) → Buf (Elt Ideal) ℓ) (g' : Dev Cert.FwdAttnRefIdeal.nD → PrngReg), Pre_FwdAttnIdeal_finite_attn_fwd m →
    (∀ c : Dev Cert.FwdAttnIdeal.nD,
      m' ((c.tc : Thread Cert.FwdAttnRefIdeal.nD Cert.FwdAttnRefIdeal.τ).loc Cert.FwdAttnRefIdeal.main_arg0) = m ((c.tc : Thread Cert.FwdAttnIdeal.nD Cert.FwdAttnIdeal.τ).loc Cert.FwdAttnIdeal.main_arg0)
      ∧ m' ((c.tc : Thread Cert.FwdAttnRefIdeal.nD Cert.FwdAttnRefIdeal.τ).loc Cert.FwdAttnRefIdeal.main_arg1) = m ((c.tc : Thread Cert.FwdAttnIdeal.nD Cert.FwdAttnIdeal.τ).loc Cert.FwdAttnIdeal.main_arg1)
      ∧ m' ((c.tc : Thread Cert.FwdAttnRefIdeal.nD Cert.FwdAttnRefIdeal.τ).loc Cert.FwdAttnRefIdeal.main_arg2) = m ((c.tc : Thread Cert.FwdAttnIdeal.nD Cert.FwdAttnIdeal.τ).loc Cert.FwdAttnIdeal.main_arg2)
      ∧ m' ((c.tc : Thread Cert.FwdAttnRefIdeal.nD Cert.FwdAttnRefIdeal.τ).loc Cert.FwdAttnRefIdeal.main_arg3) = m ((c.tc : Thread Cert.FwdAttnIdeal.nD Cert.FwdAttnIdeal.τ).loc Cert.FwdAttnIdeal.main_arg3)) →
    ∃ (v0 : (c : Dev Cert.FwdAttnIdeal.nD) → Buf (Elt Ideal) ((c.tc : Thread Cert.FwdAttnIdeal.nD Cert.FwdAttnIdeal.τ).loc Cert.FwdAttnIdeal.main_v2)),
      θ_run (Cert.FwdAttnIdeal.defs (F := Ideal)) (onTc (τ := Cert.FwdAttnIdeal.τ) (Cert.FwdAttnIdeal.main (F := Ideal))) ⟨m, fun _ => 0, g⟩ (fun r => ∀ c : Dev Cert.FwdAttnIdeal.nD,
          r.2.mem ((c.tc : Thread Cert.FwdAttnIdeal.nD Cert.FwdAttnIdeal.τ).loc Cert.FwdAttnIdeal.main_v2) = v0 c
          ∧ r.2.mem ((c.tc : Thread Cert.FwdAttnIdeal.nD Cert.FwdAttnIdeal.τ).loc Cert.FwdAttnIdeal.main_arg0) = m ((c.tc : Thread Cert.FwdAttnIdeal.nD Cert.FwdAttnIdeal.τ).loc Cert.FwdAttnIdeal.main_arg0)
          ∧ r.2.mem ((c.tc : Thread Cert.FwdAttnIdeal.nD Cert.FwdAttnIdeal.τ).loc Cert.FwdAttnIdeal.main_arg1) = m ((c.tc : Thread Cert.FwdAttnIdeal.nD Cert.FwdAttnIdeal.τ).loc Cert.FwdAttnIdeal.main_arg1)
          ∧ r.2.mem ((c.tc : Thread Cert.FwdAttnIdeal.nD Cert.FwdAttnIdeal.τ).loc Cert.FwdAttnIdeal.main_arg2) = m ((c.tc : Thread Cert.FwdAttnIdeal.nD Cert.FwdAttnIdeal.τ).loc Cert.FwdAttnIdeal.main_arg2)
          ∧ r.2.mem ((c.tc : Thread Cert.FwdAttnIdeal.nD Cert.FwdAttnIdeal.τ).loc Cert.FwdAttnIdeal.main_arg3) = m ((c.tc : Thread Cert.FwdAttnIdeal.nD Cert.FwdAttnIdeal.τ).loc Cert.FwdAttnIdeal.main_arg3))
      ∧ θ_run (Cert.FwdAttnRefIdeal.defs (F := Ideal)) (onTc (τ := Cert.FwdAttnRefIdeal.τ) (Cert.FwdAttnRefIdeal.main (F := Ideal))) ⟨m', fun _ => 0, g'⟩ (fun r => ∀ c : Dev Cert.FwdAttnRefIdeal.nD,
          r.2.mem ((c.tc : Thread Cert.FwdAttnRefIdeal.nD Cert.FwdAttnRefIdeal.τ).loc Cert.FwdAttnRefIdeal.main_v127) = v0 c
          ∧ r.2.mem ((c.tc : Thread Cert.FwdAttnRefIdeal.nD Cert.FwdAttnRefIdeal.τ).loc Cert.FwdAttnRefIdeal.main_arg0) = m' ((c.tc : Thread Cert.FwdAttnRefIdeal.nD Cert.FwdAttnRefIdeal.τ).loc Cert.FwdAttnRefIdeal.main_arg0)
          ∧ r.2.mem ((c.tc : Thread Cert.FwdAttnRefIdeal.nD Cert.FwdAttnRefIdeal.τ).loc Cert.FwdAttnRefIdeal.main_arg1) = m' ((c.tc : Thread Cert.FwdAttnRefIdeal.nD Cert.FwdAttnRefIdeal.τ).loc Cert.FwdAttnRefIdeal.main_arg1)
          ∧ r.2.mem ((c.tc : Thread Cert.FwdAttnRefIdeal.nD Cert.FwdAttnRefIdeal.τ).loc Cert.FwdAttnRefIdeal.main_arg2) = m' ((c.tc : Thread Cert.FwdAttnRefIdeal.nD Cert.FwdAttnRefIdeal.τ).loc Cert.FwdAttnRefIdeal.main_arg2)
          ∧ r.2.mem ((c.tc : Thread Cert.FwdAttnRefIdeal.nD Cert.FwdAttnRefIdeal.τ).loc Cert.FwdAttnRefIdeal.main_arg3) = m' ((c.tc : Thread Cert.FwdAttnRefIdeal.nD Cert.FwdAttnRefIdeal.τ).loc Cert.FwdAttnRefIdeal.main_arg3))

def preserves_DgradDown_DgradDownIdeal : Prop :=
  True

def algebraic_DgradDownIdeal_DgradDownRefIdeal [hDgradDownIdeal : Cert.DgradDownIdeal.Facts] [hDgradDownRefIdeal : Cert.DgradDownRefIdeal.Facts] : Prop :=
  ∀ (m : (ℓ : Loc Cert.DgradDownIdeal.nD Cert.DgradDownIdeal.τ Cert.DgradDownIdeal.sig) → Buf (Elt Ideal) ℓ) (g : Dev Cert.DgradDownIdeal.nD → PrngReg)
    (m' : (ℓ : Loc Cert.DgradDownRefIdeal.nD Cert.DgradDownRefIdeal.τ Cert.DgradDownRefIdeal.sig) → Buf (Elt Ideal) ℓ) (g' : Dev Cert.DgradDownRefIdeal.nD → PrngReg), Pre_DgradDownIdeal m →
    (∀ c : Dev Cert.DgradDownIdeal.nD,
      m' ((c.tc : Thread Cert.DgradDownRefIdeal.nD Cert.DgradDownRefIdeal.τ).loc Cert.DgradDownRefIdeal.main_arg0) = m ((c.tc : Thread Cert.DgradDownIdeal.nD Cert.DgradDownIdeal.τ).loc Cert.DgradDownIdeal.main_arg0)
      ∧ m' ((c.tc : Thread Cert.DgradDownRefIdeal.nD Cert.DgradDownRefIdeal.τ).loc Cert.DgradDownRefIdeal.main_arg1) = m ((c.tc : Thread Cert.DgradDownIdeal.nD Cert.DgradDownIdeal.τ).loc Cert.DgradDownIdeal.main_arg1)) →
    ∃ (v0 : (c : Dev Cert.DgradDownIdeal.nD) → Buf (Elt Ideal) ((c.tc : Thread Cert.DgradDownIdeal.nD Cert.DgradDownIdeal.τ).loc Cert.DgradDownIdeal.main_v2)),
      θ_run (Cert.DgradDownIdeal.defs (F := Ideal)) (onTc (τ := Cert.DgradDownIdeal.τ) (Cert.DgradDownIdeal.main (F := Ideal))) ⟨m, fun _ => 0, g⟩ (fun r => ∀ c : Dev Cert.DgradDownIdeal.nD,
          r.2.mem ((c.tc : Thread Cert.DgradDownIdeal.nD Cert.DgradDownIdeal.τ).loc Cert.DgradDownIdeal.main_v2) = v0 c
          ∧ r.2.mem ((c.tc : Thread Cert.DgradDownIdeal.nD Cert.DgradDownIdeal.τ).loc Cert.DgradDownIdeal.main_arg0) = m ((c.tc : Thread Cert.DgradDownIdeal.nD Cert.DgradDownIdeal.τ).loc Cert.DgradDownIdeal.main_arg0)
          ∧ r.2.mem ((c.tc : Thread Cert.DgradDownIdeal.nD Cert.DgradDownIdeal.τ).loc Cert.DgradDownIdeal.main_arg1) = m ((c.tc : Thread Cert.DgradDownIdeal.nD Cert.DgradDownIdeal.τ).loc Cert.DgradDownIdeal.main_arg1))
      ∧ θ_run (Cert.DgradDownRefIdeal.defs (F := Ideal)) (onTc (τ := Cert.DgradDownRefIdeal.τ) (Cert.DgradDownRefIdeal.main (F := Ideal))) ⟨m', fun _ => 0, g'⟩ (fun r => ∀ c : Dev Cert.DgradDownRefIdeal.nD,
          r.2.mem ((c.tc : Thread Cert.DgradDownRefIdeal.nD Cert.DgradDownRefIdeal.τ).loc Cert.DgradDownRefIdeal.main_v4) = v0 c
          ∧ r.2.mem ((c.tc : Thread Cert.DgradDownRefIdeal.nD Cert.DgradDownRefIdeal.τ).loc Cert.DgradDownRefIdeal.main_arg0) = m' ((c.tc : Thread Cert.DgradDownRefIdeal.nD Cert.DgradDownRefIdeal.τ).loc Cert.DgradDownRefIdeal.main_arg0)
          ∧ r.2.mem ((c.tc : Thread Cert.DgradDownRefIdeal.nD Cert.DgradDownRefIdeal.τ).loc Cert.DgradDownRefIdeal.main_arg1) = m' ((c.tc : Thread Cert.DgradDownRefIdeal.nD Cert.DgradDownRefIdeal.τ).loc Cert.DgradDownRefIdeal.main_arg1))

def preserves_FwdQkv_FwdQkvIdeal : Prop :=
  True

def algebraic_FwdQkvIdeal_FwdQkvRefIdeal [hFwdQkvIdeal : Cert.FwdQkvIdeal.Facts] [hFwdQkvRefIdeal : Cert.FwdQkvRefIdeal.Facts] : Prop :=
  ∀ (m : (ℓ : Loc Cert.FwdQkvIdeal.nD Cert.FwdQkvIdeal.τ Cert.FwdQkvIdeal.sig) → Buf (Elt Ideal) ℓ) (g : Dev Cert.FwdQkvIdeal.nD → PrngReg)
    (m' : (ℓ : Loc Cert.FwdQkvRefIdeal.nD Cert.FwdQkvRefIdeal.τ Cert.FwdQkvRefIdeal.sig) → Buf (Elt Ideal) ℓ) (g' : Dev Cert.FwdQkvRefIdeal.nD → PrngReg), Pre_FwdQkvIdeal m →
    (∀ c : Dev Cert.FwdQkvIdeal.nD,
      m' ((c.tc : Thread Cert.FwdQkvRefIdeal.nD Cert.FwdQkvRefIdeal.τ).loc Cert.FwdQkvRefIdeal.main_arg0) = m ((c.tc : Thread Cert.FwdQkvIdeal.nD Cert.FwdQkvIdeal.τ).loc Cert.FwdQkvIdeal.main_arg0)
      ∧ m' ((c.tc : Thread Cert.FwdQkvRefIdeal.nD Cert.FwdQkvRefIdeal.τ).loc Cert.FwdQkvRefIdeal.main_arg1) = m ((c.tc : Thread Cert.FwdQkvIdeal.nD Cert.FwdQkvIdeal.τ).loc Cert.FwdQkvIdeal.main_arg1)) →
    ∃ (v0 : (c : Dev Cert.FwdQkvIdeal.nD) → Buf (Elt Ideal) ((c.tc : Thread Cert.FwdQkvIdeal.nD Cert.FwdQkvIdeal.τ).loc Cert.FwdQkvIdeal.main_v4)),
      θ_run (Cert.FwdQkvIdeal.defs (F := Ideal)) (onTc (τ := Cert.FwdQkvIdeal.τ) (Cert.FwdQkvIdeal.main (F := Ideal))) ⟨m, fun _ => 0, g⟩ (fun r => ∀ c : Dev Cert.FwdQkvIdeal.nD,
          r.2.mem ((c.tc : Thread Cert.FwdQkvIdeal.nD Cert.FwdQkvIdeal.τ).loc Cert.FwdQkvIdeal.main_v4) = v0 c
          ∧ r.2.mem ((c.tc : Thread Cert.FwdQkvIdeal.nD Cert.FwdQkvIdeal.τ).loc Cert.FwdQkvIdeal.main_arg0) = m ((c.tc : Thread Cert.FwdQkvIdeal.nD Cert.FwdQkvIdeal.τ).loc Cert.FwdQkvIdeal.main_arg0)
          ∧ r.2.mem ((c.tc : Thread Cert.FwdQkvIdeal.nD Cert.FwdQkvIdeal.τ).loc Cert.FwdQkvIdeal.main_arg1) = m ((c.tc : Thread Cert.FwdQkvIdeal.nD Cert.FwdQkvIdeal.τ).loc Cert.FwdQkvIdeal.main_arg1))
      ∧ θ_run (Cert.FwdQkvRefIdeal.defs (F := Ideal)) (onTc (τ := Cert.FwdQkvRefIdeal.τ) (Cert.FwdQkvRefIdeal.main (F := Ideal))) ⟨m', fun _ => 0, g'⟩ (fun r => ∀ c : Dev Cert.FwdQkvRefIdeal.nD,
          r.2.mem ((c.tc : Thread Cert.FwdQkvRefIdeal.nD Cert.FwdQkvRefIdeal.τ).loc Cert.FwdQkvRefIdeal.main_v2) = v0 c
          ∧ r.2.mem ((c.tc : Thread Cert.FwdQkvRefIdeal.nD Cert.FwdQkvRefIdeal.τ).loc Cert.FwdQkvRefIdeal.main_arg0) = m' ((c.tc : Thread Cert.FwdQkvRefIdeal.nD Cert.FwdQkvRefIdeal.τ).loc Cert.FwdQkvRefIdeal.main_arg0)
          ∧ r.2.mem ((c.tc : Thread Cert.FwdQkvRefIdeal.nD Cert.FwdQkvRefIdeal.τ).loc Cert.FwdQkvRefIdeal.main_arg1) = m' ((c.tc : Thread Cert.FwdQkvRefIdeal.nD Cert.FwdQkvRefIdeal.τ).loc Cert.FwdQkvRefIdeal.main_arg1))

def preserves_WgradQkv_WgradQkvIdeal : Prop :=
  True

def algebraic_WgradQkvIdeal_WgradQkvRefIdeal [hWgradQkvIdeal : Cert.WgradQkvIdeal.Facts] [hWgradQkvRefIdeal : Cert.WgradQkvRefIdeal.Facts] : Prop :=
  ∀ (m : (ℓ : Loc Cert.WgradQkvIdeal.nD Cert.WgradQkvIdeal.τ Cert.WgradQkvIdeal.sig) → Buf (Elt Ideal) ℓ) (g : Dev Cert.WgradQkvIdeal.nD → PrngReg)
    (m' : (ℓ : Loc Cert.WgradQkvRefIdeal.nD Cert.WgradQkvRefIdeal.τ Cert.WgradQkvRefIdeal.sig) → Buf (Elt Ideal) ℓ) (g' : Dev Cert.WgradQkvRefIdeal.nD → PrngReg), Pre_WgradQkvIdeal m →
    (∀ c : Dev Cert.WgradQkvIdeal.nD,
      m' ((c.tc : Thread Cert.WgradQkvRefIdeal.nD Cert.WgradQkvRefIdeal.τ).loc Cert.WgradQkvRefIdeal.main_arg0) = m ((c.tc : Thread Cert.WgradQkvIdeal.nD Cert.WgradQkvIdeal.τ).loc Cert.WgradQkvIdeal.main_arg0)
      ∧ m' ((c.tc : Thread Cert.WgradQkvRefIdeal.nD Cert.WgradQkvRefIdeal.τ).loc Cert.WgradQkvRefIdeal.main_arg1) = m ((c.tc : Thread Cert.WgradQkvIdeal.nD Cert.WgradQkvIdeal.τ).loc Cert.WgradQkvIdeal.main_arg1)) →
    ∃ (v0 : (c : Dev Cert.WgradQkvIdeal.nD) → Buf (Elt Ideal) ((c.tc : Thread Cert.WgradQkvIdeal.nD Cert.WgradQkvIdeal.τ).loc Cert.WgradQkvIdeal.main_v0)),
      θ_run (Cert.WgradQkvIdeal.defs (F := Ideal)) (onTc (τ := Cert.WgradQkvIdeal.τ) (Cert.WgradQkvIdeal.main (F := Ideal))) ⟨m, fun _ => 0, g⟩ (fun r => ∀ c : Dev Cert.WgradQkvIdeal.nD,
          r.2.mem ((c.tc : Thread Cert.WgradQkvIdeal.nD Cert.WgradQkvIdeal.τ).loc Cert.WgradQkvIdeal.main_v0) = v0 c
          ∧ r.2.mem ((c.tc : Thread Cert.WgradQkvIdeal.nD Cert.WgradQkvIdeal.τ).loc Cert.WgradQkvIdeal.main_arg0) = m ((c.tc : Thread Cert.WgradQkvIdeal.nD Cert.WgradQkvIdeal.τ).loc Cert.WgradQkvIdeal.main_arg0)
          ∧ r.2.mem ((c.tc : Thread Cert.WgradQkvIdeal.nD Cert.WgradQkvIdeal.τ).loc Cert.WgradQkvIdeal.main_arg1) = m ((c.tc : Thread Cert.WgradQkvIdeal.nD Cert.WgradQkvIdeal.τ).loc Cert.WgradQkvIdeal.main_arg1))
      ∧ θ_run (Cert.WgradQkvRefIdeal.defs (F := Ideal)) (onTc (τ := Cert.WgradQkvRefIdeal.τ) (Cert.WgradQkvRefIdeal.main (F := Ideal))) ⟨m', fun _ => 0, g'⟩ (fun r => ∀ c : Dev Cert.WgradQkvRefIdeal.nD,
          r.2.mem ((c.tc : Thread Cert.WgradQkvRefIdeal.nD Cert.WgradQkvRefIdeal.τ).loc Cert.WgradQkvRefIdeal.main_v7) = v0 c
          ∧ r.2.mem ((c.tc : Thread Cert.WgradQkvRefIdeal.nD Cert.WgradQkvRefIdeal.τ).loc Cert.WgradQkvRefIdeal.main_arg0) = m' ((c.tc : Thread Cert.WgradQkvRefIdeal.nD Cert.WgradQkvRefIdeal.τ).loc Cert.WgradQkvRefIdeal.main_arg0)
          ∧ r.2.mem ((c.tc : Thread Cert.WgradQkvRefIdeal.nD Cert.WgradQkvRefIdeal.τ).loc Cert.WgradQkvRefIdeal.main_arg1) = m' ((c.tc : Thread Cert.WgradQkvRefIdeal.nD Cert.WgradQkvRefIdeal.τ).loc Cert.WgradQkvRefIdeal.main_arg1))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v5) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_WgradUp_WgradUpIdeal : Prop :=
  True

def algebraic_WgradUpIdeal_WgradUpRefIdeal [hWgradUpIdeal : Cert.WgradUpIdeal.Facts] [hWgradUpRefIdeal : Cert.WgradUpRefIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.WgradUpRefIdeal.nD Cert.WgradUpRefIdeal.τ Cert.WgradUpRefIdeal.sig) → Buf (Elt Ideal) ℓ) (g' : Dev Cert.WgradUpRefIdeal.nD → PrngReg), Pre_WgradUpIdeal m →
    (∀ c : Dev Cert.WgradUpIdeal.nD,
      m' ((c.tc : Thread Cert.WgradUpRefIdeal.nD Cert.WgradUpRefIdeal.τ).loc Cert.WgradUpRefIdeal.main_arg0) = m ((c.tc : Thread Cert.WgradUpIdeal.nD Cert.WgradUpIdeal.τ).loc Cert.WgradUpIdeal.main_arg0)
      ∧ m' ((c.tc : Thread Cert.WgradUpRefIdeal.nD Cert.WgradUpRefIdeal.τ).loc Cert.WgradUpRefIdeal.main_arg1) = m ((c.tc : Thread Cert.WgradUpIdeal.nD Cert.WgradUpIdeal.τ).loc Cert.WgradUpIdeal.main_arg1)
      ∧ m' ((c.tc : Thread Cert.WgradUpRefIdeal.nD Cert.WgradUpRefIdeal.τ).loc Cert.WgradUpRefIdeal.main_arg2) = m ((c.tc : Thread Cert.WgradUpIdeal.nD Cert.WgradUpIdeal.τ).loc Cert.WgradUpIdeal.main_arg2)) →
    ∃ (v0 : (c : Dev Cert.WgradUpIdeal.nD) → Buf (Elt Ideal) ((c.tc : Thread Cert.WgradUpIdeal.nD Cert.WgradUpIdeal.τ).loc Cert.WgradUpIdeal.main_v0)),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v0) = v0 c
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
          ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2))
      ∧ θ_run (Cert.WgradUpRefIdeal.defs (F := Ideal)) (onTc (τ := Cert.WgradUpRefIdeal.τ) (Cert.WgradUpRefIdeal.main (F := Ideal))) ⟨m', fun _ => 0, g'⟩ (fun r => ∀ c : Dev Cert.WgradUpRefIdeal.nD,
          r.2.mem ((c.tc : Thread Cert.WgradUpRefIdeal.nD Cert.WgradUpRefIdeal.τ).loc Cert.WgradUpRefIdeal.main_v8) = v0 c
          ∧ r.2.mem ((c.tc : Thread Cert.WgradUpRefIdeal.nD Cert.WgradUpRefIdeal.τ).loc Cert.WgradUpRefIdeal.main_arg0) = m' ((c.tc : Thread Cert.WgradUpRefIdeal.nD Cert.WgradUpRefIdeal.τ).loc Cert.WgradUpRefIdeal.main_arg0)
          ∧ r.2.mem ((c.tc : Thread Cert.WgradUpRefIdeal.nD Cert.WgradUpRefIdeal.τ).loc Cert.WgradUpRefIdeal.main_arg1) = m' ((c.tc : Thread Cert.WgradUpRefIdeal.nD Cert.WgradUpRefIdeal.τ).loc Cert.WgradUpRefIdeal.main_arg1)
          ∧ r.2.mem ((c.tc : Thread Cert.WgradUpRefIdeal.nD Cert.WgradUpRefIdeal.τ).loc Cert.WgradUpRefIdeal.main_arg2) = m' ((c.tc : Thread Cert.WgradUpRefIdeal.nD Cert.WgradUpRefIdeal.τ).loc Cert.WgradUpRefIdeal.main_arg2))

def preserves_WgradConv_WgradConvIdeal : Prop :=
  True

def algebraic_WgradConvIdeal_WgradConvRefIdeal [hWgradConvIdeal : Cert.WgradConvIdeal.Facts] [hWgradConvRefIdeal : Cert.WgradConvRefIdeal.Facts] : Prop :=
  ∀ (m : (ℓ : Loc Cert.WgradConvIdeal.nD Cert.WgradConvIdeal.τ Cert.WgradConvIdeal.sig) → Buf (Elt Ideal) ℓ) (g : Dev Cert.WgradConvIdeal.nD → PrngReg)
    (m' : (ℓ : Loc Cert.WgradConvRefIdeal.nD Cert.WgradConvRefIdeal.τ Cert.WgradConvRefIdeal.sig) → Buf (Elt Ideal) ℓ) (g' : Dev Cert.WgradConvRefIdeal.nD → PrngReg), Pre_WgradConvIdeal m →
    (∀ c : Dev Cert.WgradConvIdeal.nD,
      m' ((c.tc : Thread Cert.WgradConvRefIdeal.nD Cert.WgradConvRefIdeal.τ).loc Cert.WgradConvRefIdeal.main_arg0) = m ((c.tc : Thread Cert.WgradConvIdeal.nD Cert.WgradConvIdeal.τ).loc Cert.WgradConvIdeal.main_arg0)
      ∧ m' ((c.tc : Thread Cert.WgradConvRefIdeal.nD Cert.WgradConvRefIdeal.τ).loc Cert.WgradConvRefIdeal.main_arg1) = m ((c.tc : Thread Cert.WgradConvIdeal.nD Cert.WgradConvIdeal.τ).loc Cert.WgradConvIdeal.main_arg1)) →
    ∃ (v0 : (c : Dev Cert.WgradConvIdeal.nD) → Buf (Elt Ideal) ((c.tc : Thread Cert.WgradConvIdeal.nD Cert.WgradConvIdeal.τ).loc Cert.WgradConvIdeal.main_v0)),
      θ_run (Cert.WgradConvIdeal.defs (F := Ideal)) (onTc (τ := Cert.WgradConvIdeal.τ) (Cert.WgradConvIdeal.main (F := Ideal))) ⟨m, fun _ => 0, g⟩ (fun r => ∀ c : Dev Cert.WgradConvIdeal.nD,
          r.2.mem ((c.tc : Thread Cert.WgradConvIdeal.nD Cert.WgradConvIdeal.τ).loc Cert.WgradConvIdeal.main_v0) = v0 c
          ∧ r.2.mem ((c.tc : Thread Cert.WgradConvIdeal.nD Cert.WgradConvIdeal.τ).loc Cert.WgradConvIdeal.main_arg0) = m ((c.tc : Thread Cert.WgradConvIdeal.nD Cert.WgradConvIdeal.τ).loc Cert.WgradConvIdeal.main_arg0)
          ∧ r.2.mem ((c.tc : Thread Cert.WgradConvIdeal.nD Cert.WgradConvIdeal.τ).loc Cert.WgradConvIdeal.main_arg1) = m ((c.tc : Thread Cert.WgradConvIdeal.nD Cert.WgradConvIdeal.τ).loc Cert.WgradConvIdeal.main_arg1))
      ∧ θ_run (Cert.WgradConvRefIdeal.defs (F := Ideal)) (onTc (τ := Cert.WgradConvRefIdeal.τ) (Cert.WgradConvRefIdeal.main (F := Ideal))) ⟨m', fun _ => 0, g'⟩ (fun r => ∀ c : Dev Cert.WgradConvRefIdeal.nD,
          r.2.mem ((c.tc : Thread Cert.WgradConvRefIdeal.nD Cert.WgradConvRefIdeal.τ).loc Cert.WgradConvRefIdeal.main_v9) = v0 c
          ∧ r.2.mem ((c.tc : Thread Cert.WgradConvRefIdeal.nD Cert.WgradConvRefIdeal.τ).loc Cert.WgradConvRefIdeal.main_arg0) = m' ((c.tc : Thread Cert.WgradConvRefIdeal.nD Cert.WgradConvRefIdeal.τ).loc Cert.WgradConvRefIdeal.main_arg0)
          ∧ r.2.mem ((c.tc : Thread Cert.WgradConvRefIdeal.nD Cert.WgradConvRefIdeal.τ).loc Cert.WgradConvRefIdeal.main_arg1) = m' ((c.tc : Thread Cert.WgradConvRefIdeal.nD Cert.WgradConvRefIdeal.τ).loc Cert.WgradConvRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_SumHalves_SumHalvesIdeal : Prop :=
  True

def algebraic_SumHalvesIdeal_SumHalvesRefIdeal [hSumHalvesIdeal : Cert.SumHalvesIdeal.Facts] [hSumHalvesRefIdeal : Cert.SumHalvesRefIdeal.Facts] : Prop :=
  ∀ (m : (ℓ : Loc Cert.SumHalvesIdeal.nD Cert.SumHalvesIdeal.τ Cert.SumHalvesIdeal.sig) → Buf (Elt Ideal) ℓ) (g : Dev Cert.SumHalvesIdeal.nD → PrngReg)
    (m' : (ℓ : Loc Cert.SumHalvesRefIdeal.nD Cert.SumHalvesRefIdeal.τ Cert.SumHalvesRefIdeal.sig) → Buf (Elt Ideal) ℓ) (g' : Dev Cert.SumHalvesRefIdeal.nD → PrngReg), Pre_SumHalvesIdeal m →
    (∀ c : Dev Cert.SumHalvesIdeal.nD,
      m' ((c.tc : Thread Cert.SumHalvesRefIdeal.nD Cert.SumHalvesRefIdeal.τ).loc Cert.SumHalvesRefIdeal.main_arg0) = m ((c.tc : Thread Cert.SumHalvesIdeal.nD Cert.SumHalvesIdeal.τ).loc Cert.SumHalvesIdeal.main_arg0)
      ∧ m' ((c.tc : Thread Cert.SumHalvesRefIdeal.nD Cert.SumHalvesRefIdeal.τ).loc Cert.SumHalvesRefIdeal.main_arg1) = m ((c.tc : Thread Cert.SumHalvesIdeal.nD Cert.SumHalvesIdeal.τ).loc Cert.SumHalvesIdeal.main_arg1)
      ∧ m' ((c.tc : Thread Cert.SumHalvesRefIdeal.nD Cert.SumHalvesRefIdeal.τ).loc Cert.SumHalvesRefIdeal.main_arg2) = m ((c.tc : Thread Cert.SumHalvesIdeal.nD Cert.SumHalvesIdeal.τ).loc Cert.SumHalvesIdeal.main_arg2)) →
    ∃ (v0 : (c : Dev Cert.SumHalvesIdeal.nD) → Buf (Elt Ideal) ((c.tc : Thread Cert.SumHalvesIdeal.nD Cert.SumHalvesIdeal.τ).loc Cert.SumHalvesIdeal.main_v1_0)) (v1 : (c : Dev Cert.SumHalvesIdeal.nD) → Buf (Elt Ideal) ((c.tc : Thread Cert.SumHalvesIdeal.nD Cert.SumHalvesIdeal.τ).loc Cert.SumHalvesIdeal.main_v1_1)),
      θ_run (Cert.SumHalvesIdeal.defs (F := Ideal)) (onTc (τ := Cert.SumHalvesIdeal.τ) (Cert.SumHalvesIdeal.main (F := Ideal))) ⟨m, fun _ => 0, g⟩ (fun r => ∀ c : Dev Cert.SumHalvesIdeal.nD,
          r.2.mem ((c.tc : Thread Cert.SumHalvesIdeal.nD Cert.SumHalvesIdeal.τ).loc Cert.SumHalvesIdeal.main_v1_0) = v0 c
          ∧ r.2.mem ((c.tc : Thread Cert.SumHalvesIdeal.nD Cert.SumHalvesIdeal.τ).loc Cert.SumHalvesIdeal.main_v1_1) = v1 c
          ∧ r.2.mem ((c.tc : Thread Cert.SumHalvesIdeal.nD Cert.SumHalvesIdeal.τ).loc Cert.SumHalvesIdeal.main_arg0) = m ((c.tc : Thread Cert.SumHalvesIdeal.nD Cert.SumHalvesIdeal.τ).loc Cert.SumHalvesIdeal.main_arg0)
          ∧ r.2.mem ((c.tc : Thread Cert.SumHalvesIdeal.nD Cert.SumHalvesIdeal.τ).loc Cert.SumHalvesIdeal.main_arg1) = m ((c.tc : Thread Cert.SumHalvesIdeal.nD Cert.SumHalvesIdeal.τ).loc Cert.SumHalvesIdeal.main_arg1)
          ∧ r.2.mem ((c.tc : Thread Cert.SumHalvesIdeal.nD Cert.SumHalvesIdeal.τ).loc Cert.SumHalvesIdeal.main_arg2) = m ((c.tc : Thread Cert.SumHalvesIdeal.nD Cert.SumHalvesIdeal.τ).loc Cert.SumHalvesIdeal.main_arg2))
      ∧ θ_run (Cert.SumHalvesRefIdeal.defs (F := Ideal)) (onTc (τ := Cert.SumHalvesRefIdeal.τ) (Cert.SumHalvesRefIdeal.main (F := Ideal))) ⟨m', fun _ => 0, g'⟩ (fun r => ∀ c : Dev Cert.SumHalvesRefIdeal.nD,
          r.2.mem ((c.tc : Thread Cert.SumHalvesRefIdeal.nD Cert.SumHalvesRefIdeal.τ).loc Cert.SumHalvesRefIdeal.main_v2) = v0 c
          ∧ r.2.mem ((c.tc : Thread Cert.SumHalvesRefIdeal.nD Cert.SumHalvesRefIdeal.τ).loc Cert.SumHalvesRefIdeal.main_v4) = v1 c
          ∧ r.2.mem ((c.tc : Thread Cert.SumHalvesRefIdeal.nD Cert.SumHalvesRefIdeal.τ).loc Cert.SumHalvesRefIdeal.main_arg0) = m' ((c.tc : Thread Cert.SumHalvesRefIdeal.nD Cert.SumHalvesRefIdeal.τ).loc Cert.SumHalvesRefIdeal.main_arg0)
          ∧ r.2.mem ((c.tc : Thread Cert.SumHalvesRefIdeal.nD Cert.SumHalvesRefIdeal.τ).loc Cert.SumHalvesRefIdeal.main_arg1) = m' ((c.tc : Thread Cert.SumHalvesRefIdeal.nD Cert.SumHalvesRefIdeal.τ).loc Cert.SumHalvesRefIdeal.main_arg1)
          ∧ r.2.mem ((c.tc : Thread Cert.SumHalvesRefIdeal.nD Cert.SumHalvesRefIdeal.τ).loc Cert.SumHalvesRefIdeal.main_arg2) = m' ((c.tc : Thread Cert.SumHalvesRefIdeal.nD Cert.SumHalvesRefIdeal.τ).loc Cert.SumHalvesRefIdeal.main_arg2))

def preserves_CastOwn_CastOwnIdeal : Prop :=
  True

def algebraic_CastOwnIdeal_CastOwnRefIdeal [hCastOwnIdeal : Cert.CastOwnIdeal.Facts] [hCastOwnRefIdeal : Cert.CastOwnRefIdeal.Facts] : Prop :=
  ∀ (m : (ℓ : Loc Cert.CastOwnIdeal.nD Cert.CastOwnIdeal.τ Cert.CastOwnIdeal.sig) → Buf (Elt Ideal) ℓ) (g : Dev Cert.CastOwnIdeal.nD → PrngReg)
    (m' : (ℓ : Loc Cert.CastOwnRefIdeal.nD Cert.CastOwnRefIdeal.τ Cert.CastOwnRefIdeal.sig) → Buf (Elt Ideal) ℓ) (g' : Dev Cert.CastOwnRefIdeal.nD → PrngReg), Pre_CastOwnIdeal m →
    (∀ c : Dev Cert.CastOwnIdeal.nD,
      m' ((c.tc : Thread Cert.CastOwnRefIdeal.nD Cert.CastOwnRefIdeal.τ).loc Cert.CastOwnRefIdeal.main_arg0) = m ((c.tc : Thread Cert.CastOwnIdeal.nD Cert.CastOwnIdeal.τ).loc Cert.CastOwnIdeal.main_arg0)) →
    ∃ (v0 : (c : Dev Cert.CastOwnIdeal.nD) → Buf (Elt Ideal) ((c.tc : Thread Cert.CastOwnIdeal.nD Cert.CastOwnIdeal.τ).loc Cert.CastOwnIdeal.main_v3)),
      θ_run (Cert.CastOwnIdeal.defs (F := Ideal)) (onTc (τ := Cert.CastOwnIdeal.τ) (Cert.CastOwnIdeal.main (F := Ideal))) ⟨m, fun _ => 0, g⟩ (fun r => ∀ c : Dev Cert.CastOwnIdeal.nD,
          r.2.mem ((c.tc : Thread Cert.CastOwnIdeal.nD Cert.CastOwnIdeal.τ).loc Cert.CastOwnIdeal.main_v3) = v0 c
          ∧ r.2.mem ((c.tc : Thread Cert.CastOwnIdeal.nD Cert.CastOwnIdeal.τ).loc Cert.CastOwnIdeal.main_arg0) = m ((c.tc : Thread Cert.CastOwnIdeal.nD Cert.CastOwnIdeal.τ).loc Cert.CastOwnIdeal.main_arg0))
      ∧ θ_run (Cert.CastOwnRefIdeal.defs (F := Ideal)) (onTc (τ := Cert.CastOwnRefIdeal.τ) (Cert.CastOwnRefIdeal.main (F := Ideal))) ⟨m', fun _ => 0, g'⟩ (fun r => ∀ c : Dev Cert.CastOwnRefIdeal.nD,
          r.2.mem ((c.tc : Thread Cert.CastOwnRefIdeal.nD Cert.CastOwnRefIdeal.τ).loc Cert.CastOwnRefIdeal.main_v1) = v0 c
          ∧ r.2.mem ((c.tc : Thread Cert.CastOwnRefIdeal.nD Cert.CastOwnRefIdeal.τ).loc Cert.CastOwnRefIdeal.main_arg0) = m' ((c.tc : Thread Cert.CastOwnRefIdeal.nD Cert.CastOwnRefIdeal.τ).loc Cert.CastOwnRefIdeal.main_arg0))

def preserves_SumPartials_SumPartialsIdeal : Prop :=
  True

def algebraic_SumPartialsIdeal_SumPartialsRefIdeal [hSumPartialsIdeal : Cert.SumPartialsIdeal.Facts] [hSumPartialsRefIdeal : Cert.SumPartialsRefIdeal.Facts] : Prop :=
  ∀ (m : (ℓ : Loc Cert.SumPartialsIdeal.nD Cert.SumPartialsIdeal.τ Cert.SumPartialsIdeal.sig) → Buf (Elt Ideal) ℓ) (g : Dev Cert.SumPartialsIdeal.nD → PrngReg)
    (m' : (ℓ : Loc Cert.SumPartialsRefIdeal.nD Cert.SumPartialsRefIdeal.τ Cert.SumPartialsRefIdeal.sig) → Buf (Elt Ideal) ℓ) (g' : Dev Cert.SumPartialsRefIdeal.nD → PrngReg), Pre_SumPartialsIdeal m →
    (∀ c : Dev Cert.SumPartialsIdeal.nD,
      m' ((c.tc : Thread Cert.SumPartialsRefIdeal.nD Cert.SumPartialsRefIdeal.τ).loc Cert.SumPartialsRefIdeal.main_arg0) = m ((c.tc : Thread Cert.SumPartialsIdeal.nD Cert.SumPartialsIdeal.τ).loc Cert.SumPartialsIdeal.main_arg0)
      ∧ m' ((c.tc : Thread Cert.SumPartialsRefIdeal.nD Cert.SumPartialsRefIdeal.τ).loc Cert.SumPartialsRefIdeal.main_arg1) = m ((c.tc : Thread Cert.SumPartialsIdeal.nD Cert.SumPartialsIdeal.τ).loc Cert.SumPartialsIdeal.main_arg1)
      ∧ m' ((c.tc : Thread Cert.SumPartialsRefIdeal.nD Cert.SumPartialsRefIdeal.τ).loc Cert.SumPartialsRefIdeal.main_arg2) = m ((c.tc : Thread Cert.SumPartialsIdeal.nD Cert.SumPartialsIdeal.τ).loc Cert.SumPartialsIdeal.main_arg2)) →
    ∃ (v0 : (c : Dev Cert.SumPartialsIdeal.nD) → Buf (Elt Ideal) ((c.tc : Thread Cert.SumPartialsIdeal.nD Cert.SumPartialsIdeal.τ).loc Cert.SumPartialsIdeal.main_v3)),
      θ_run (Cert.SumPartialsIdeal.defs (F := Ideal)) (onTc (τ := Cert.SumPartialsIdeal.τ) (Cert.SumPartialsIdeal.main (F := Ideal))) ⟨m, fun _ => 0, g⟩ (fun r => ∀ c : Dev Cert.SumPartialsIdeal.nD,
          r.2.mem ((c.tc : Thread Cert.SumPartialsIdeal.nD Cert.SumPartialsIdeal.τ).loc Cert.SumPartialsIdeal.main_v3) = v0 c
          ∧ r.2.mem ((c.tc : Thread Cert.SumPartialsIdeal.nD Cert.SumPartialsIdeal.τ).loc Cert.SumPartialsIdeal.main_arg0) = m ((c.tc : Thread Cert.SumPartialsIdeal.nD Cert.SumPartialsIdeal.τ).loc Cert.SumPartialsIdeal.main_arg0)
          ∧ r.2.mem ((c.tc : Thread Cert.SumPartialsIdeal.nD Cert.SumPartialsIdeal.τ).loc Cert.SumPartialsIdeal.main_arg1) = m ((c.tc : Thread Cert.SumPartialsIdeal.nD Cert.SumPartialsIdeal.τ).loc Cert.SumPartialsIdeal.main_arg1)
          ∧ r.2.mem ((c.tc : Thread Cert.SumPartialsIdeal.nD Cert.SumPartialsIdeal.τ).loc Cert.SumPartialsIdeal.main_arg2) = m ((c.tc : Thread Cert.SumPartialsIdeal.nD Cert.SumPartialsIdeal.τ).loc Cert.SumPartialsIdeal.main_arg2))
      ∧ θ_run (Cert.SumPartialsRefIdeal.defs (F := Ideal)) (onTc (τ := Cert.SumPartialsRefIdeal.τ) (Cert.SumPartialsRefIdeal.main (F := Ideal))) ⟨m', fun _ => 0, g'⟩ (fun r => ∀ c : Dev Cert.SumPartialsRefIdeal.nD,
          r.2.mem ((c.tc : Thread Cert.SumPartialsRefIdeal.nD Cert.SumPartialsRefIdeal.τ).loc Cert.SumPartialsRefIdeal.main_v11) = v0 c
          ∧ r.2.mem ((c.tc : Thread Cert.SumPartialsRefIdeal.nD Cert.SumPartialsRefIdeal.τ).loc Cert.SumPartialsRefIdeal.main_arg0) = m' ((c.tc : Thread Cert.SumPartialsRefIdeal.nD Cert.SumPartialsRefIdeal.τ).loc Cert.SumPartialsRefIdeal.main_arg0)
          ∧ r.2.mem ((c.tc : Thread Cert.SumPartialsRefIdeal.nD Cert.SumPartialsRefIdeal.τ).loc Cert.SumPartialsRefIdeal.main_arg1) = m' ((c.tc : Thread Cert.SumPartialsRefIdeal.nD Cert.SumPartialsRefIdeal.τ).loc Cert.SumPartialsRefIdeal.main_arg1)
          ∧ r.2.mem ((c.tc : Thread Cert.SumPartialsRefIdeal.nD Cert.SumPartialsRefIdeal.τ).loc Cert.SumPartialsRefIdeal.main_arg2) = m' ((c.tc : Thread Cert.SumPartialsRefIdeal.nD Cert.SumPartialsRefIdeal.τ).loc Cert.SumPartialsRefIdeal.main_arg2))

def Claim : Prop :=
  ∃ (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hGate : Cert.Gate.Facts) (hGateIdeal : Cert.GateIdeal.Facts) (hGateRefIdeal : Cert.GateRefIdeal.Facts) (hNormFfn : Cert.NormFfn.Facts) (hNormFfnIdeal : Cert.NormFfnIdeal.Facts) (hNormFfnRefIdeal : Cert.NormFfnRefIdeal.Facts) (hNormQkv : Cert.NormQkv.Facts) (hNormQkvIdeal : Cert.NormQkvIdeal.Facts) (hNormQkvRefIdeal : Cert.NormQkvRefIdeal.Facts) (hNormConv : Cert.NormConv.Facts) (hNormConvIdeal : Cert.NormConvIdeal.Facts) (hNormConvRefIdeal : Cert.NormConvRefIdeal.Facts) (hAttn : Cert.Attn.Facts) (hAttnIdeal : Cert.AttnIdeal.Facts) (hAttnRefIdeal : Cert.AttnRefIdeal.Facts) (hFwdUp : Cert.FwdUp.Facts) (hFwdUpIdeal : Cert.FwdUpIdeal.Facts) (hFwdUpRefIdeal : Cert.FwdUpRefIdeal.Facts) (hFwdConv : Cert.FwdConv.Facts) (hFwdConvIdeal : Cert.FwdConvIdeal.Facts) (hFwdConvRefIdeal : Cert.FwdConvRefIdeal.Facts) (hFwdIn : Cert.FwdIn.Facts) (hFwdInIdeal : Cert.FwdInIdeal.Facts) (hFwdInRefIdeal : Cert.FwdInRefIdeal.Facts) (hFwdDown : Cert.FwdDown.Facts) (hFwdDownIdeal : Cert.FwdDownIdeal.Facts) (hFwdDownRefIdeal : Cert.FwdDownRefIdeal.Facts) (hFwdAttn : Cert.FwdAttn.Facts) (hFwdAttnIdeal : Cert.FwdAttnIdeal.Facts) (hFwdAttnRefIdeal : Cert.FwdAttnRefIdeal.Facts) (hDgradDown : Cert.DgradDown.Facts) (hDgradDownIdeal : Cert.DgradDownIdeal.Facts) (hDgradDownRefIdeal : Cert.DgradDownRefIdeal.Facts) (hFwdQkv : Cert.FwdQkv.Facts) (hFwdQkvIdeal : Cert.FwdQkvIdeal.Facts) (hFwdQkvRefIdeal : Cert.FwdQkvRefIdeal.Facts) (hWgradQkv : Cert.WgradQkv.Facts) (hWgradQkvIdeal : Cert.WgradQkvIdeal.Facts) (hWgradQkvRefIdeal : Cert.WgradQkvRefIdeal.Facts) (hWgradDown : Cert.WgradDown.Facts) (hWgradDownIdeal : Cert.WgradDownIdeal.Facts) (hWgradDownRefIdeal : Cert.WgradDownRefIdeal.Facts) (hWgradUp : Cert.WgradUp.Facts) (hWgradUpIdeal : Cert.WgradUpIdeal.Facts) (hWgradUpRefIdeal : Cert.WgradUpRefIdeal.Facts) (hWgradConv : Cert.WgradConv.Facts) (hWgradConvIdeal : Cert.WgradConvIdeal.Facts) (hWgradConvRefIdeal : Cert.WgradConvRefIdeal.Facts) (hAdam : Cert.Adam.Facts) (hAdamIdeal : Cert.AdamIdeal.Facts) (hAdamRefIdeal : Cert.AdamRefIdeal.Facts) (hSumHalves : Cert.SumHalves.Facts) (hSumHalvesIdeal : Cert.SumHalvesIdeal.Facts) (hSumHalvesRefIdeal : Cert.SumHalvesRefIdeal.Facts) (hCastOwn : Cert.CastOwn.Facts) (hCastOwnIdeal : Cert.CastOwnIdeal.Facts) (hCastOwnRefIdeal : Cert.CastOwnRefIdeal.Facts) (hSumPartials : Cert.SumPartials.Facts) (hSumPartialsIdeal : Cert.SumPartialsIdeal.Facts) (hSumPartialsRefIdeal : Cert.SumPartialsRefIdeal.Facts) (hPre_finite_gate : Cert.Pre_finite_gate.Facts) (hPre_finite_norm_ffn : Cert.Pre_finite_norm_ffn.Facts) (hPre_finite_norm_qkv : Cert.Pre_finite_norm_qkv.Facts) (hPre_finite_norm_conv : Cert.Pre_finite_norm_conv.Facts) (hPre_finite_up : Cert.Pre_finite_up.Facts) (hPre_finite_attn_fwd : Cert.Pre_finite_attn_fwd.Facts),
    quiescent_Conv (hConv := hConv)
    ∧ quiescent_ConvIdeal (hConvIdeal := hConvIdeal)
    ∧ quiescent_ConvRefIdeal (hConvRefIdeal := hConvRefIdeal)
    ∧ quiescent_Loss (hLoss := hLoss)
    ∧ quiescent_LossIdeal (hLossIdeal := hLossIdeal)
    ∧ quiescent_LossRefIdeal (hLossRefIdeal := hLossRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_NormFfn (hNormFfn := hNormFfn)
    ∧ quiescent_NormFfnIdeal (hNormFfnIdeal := hNormFfnIdeal)
    ∧ quiescent_NormFfnIdeal_pre_finite_norm_ffn (hNormFfnIdeal := hNormFfnIdeal) (hPre_finite_norm_ffn := hPre_finite_norm_ffn)
    ∧ quiescent_NormFfnRefIdeal (hNormFfnRefIdeal := hNormFfnRefIdeal)
    ∧ quiescent_NormFfnRefIdeal_pre_finite_norm_ffn (hNormFfnRefIdeal := hNormFfnRefIdeal) (hPre_finite_norm_ffn := hPre_finite_norm_ffn)
    ∧ quiescent_NormQkv (hNormQkv := hNormQkv)
    ∧ quiescent_NormQkvIdeal (hNormQkvIdeal := hNormQkvIdeal)
    ∧ quiescent_NormQkvIdeal_pre_finite_norm_qkv (hNormQkvIdeal := hNormQkvIdeal) (hPre_finite_norm_qkv := hPre_finite_norm_qkv)
    ∧ quiescent_NormQkvRefIdeal (hNormQkvRefIdeal := hNormQkvRefIdeal)
    ∧ quiescent_NormQkvRefIdeal_pre_finite_norm_qkv (hNormQkvRefIdeal := hNormQkvRefIdeal) (hPre_finite_norm_qkv := hPre_finite_norm_qkv)
    ∧ quiescent_NormConv (hNormConv := hNormConv)
    ∧ quiescent_NormConvIdeal (hNormConvIdeal := hNormConvIdeal)
    ∧ quiescent_NormConvIdeal_pre_finite_norm_conv (hNormConvIdeal := hNormConvIdeal) (hPre_finite_norm_conv := hPre_finite_norm_conv)
    ∧ quiescent_NormConvRefIdeal (hNormConvRefIdeal := hNormConvRefIdeal)
    ∧ quiescent_NormConvRefIdeal_pre_finite_norm_conv (hNormConvRefIdeal := hNormConvRefIdeal) (hPre_finite_norm_conv := hPre_finite_norm_conv)
    ∧ quiescent_Attn (hAttn := hAttn)
    ∧ quiescent_AttnIdeal (hAttnIdeal := hAttnIdeal)
    ∧ quiescent_AttnRefIdeal (hAttnRefIdeal := hAttnRefIdeal)
    ∧ quiescent_FwdUp (hFwdUp := hFwdUp)
    ∧ quiescent_FwdUpIdeal (hFwdUpIdeal := hFwdUpIdeal)
    ∧ quiescent_FwdUpIdeal_pre_finite_up (hFwdUpIdeal := hFwdUpIdeal) (hPre_finite_up := hPre_finite_up)
    ∧ quiescent_FwdUpRefIdeal (hFwdUpRefIdeal := hFwdUpRefIdeal)
    ∧ quiescent_FwdUpRefIdeal_pre_finite_up (hFwdUpRefIdeal := hFwdUpRefIdeal) (hPre_finite_up := hPre_finite_up)
    ∧ quiescent_FwdConv (hFwdConv := hFwdConv)
    ∧ quiescent_FwdConvIdeal (hFwdConvIdeal := hFwdConvIdeal)
    ∧ quiescent_FwdConvRefIdeal (hFwdConvRefIdeal := hFwdConvRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdDown (hFwdDown := hFwdDown)
    ∧ quiescent_FwdDownIdeal (hFwdDownIdeal := hFwdDownIdeal)
    ∧ quiescent_FwdDownRefIdeal (hFwdDownRefIdeal := hFwdDownRefIdeal)
    ∧ quiescent_FwdAttn (hFwdAttn := hFwdAttn)
    ∧ quiescent_FwdAttnIdeal (hFwdAttnIdeal := hFwdAttnIdeal)
    ∧ quiescent_FwdAttnIdeal_pre_finite_attn_fwd (hFwdAttnIdeal := hFwdAttnIdeal) (hPre_finite_attn_fwd := hPre_finite_attn_fwd)
    ∧ quiescent_FwdAttnRefIdeal (hFwdAttnRefIdeal := hFwdAttnRefIdeal)
    ∧ quiescent_FwdAttnRefIdeal_pre_finite_attn_fwd (hFwdAttnRefIdeal := hFwdAttnRefIdeal) (hPre_finite_attn_fwd := hPre_finite_attn_fwd)
    ∧ quiescent_DgradDown (hDgradDown := hDgradDown)
    ∧ quiescent_DgradDownIdeal (hDgradDownIdeal := hDgradDownIdeal)
    ∧ quiescent_DgradDownRefIdeal (hDgradDownRefIdeal := hDgradDownRefIdeal)
    ∧ quiescent_FwdQkv (hFwdQkv := hFwdQkv)
    ∧ quiescent_FwdQkvIdeal (hFwdQkvIdeal := hFwdQkvIdeal)
    ∧ quiescent_FwdQkvRefIdeal (hFwdQkvRefIdeal := hFwdQkvRefIdeal)
    ∧ quiescent_WgradQkv (hWgradQkv := hWgradQkv)
    ∧ quiescent_WgradQkvIdeal (hWgradQkvIdeal := hWgradQkvIdeal)
    ∧ quiescent_WgradQkvRefIdeal (hWgradQkvRefIdeal := hWgradQkvRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradUp (hWgradUp := hWgradUp)
    ∧ quiescent_WgradUpIdeal (hWgradUpIdeal := hWgradUpIdeal)
    ∧ quiescent_WgradUpRefIdeal (hWgradUpRefIdeal := hWgradUpRefIdeal)
    ∧ quiescent_WgradConv (hWgradConv := hWgradConv)
    ∧ quiescent_WgradConvIdeal (hWgradConvIdeal := hWgradConvIdeal)
    ∧ quiescent_WgradConvRefIdeal (hWgradConvRefIdeal := hWgradConvRefIdeal)
    ∧ quiescent_Adam (hAdam := hAdam)
    ∧ quiescent_AdamIdeal (hAdamIdeal := hAdamIdeal)
    ∧ quiescent_AdamRefIdeal (hAdamRefIdeal := hAdamRefIdeal)
    ∧ quiescent_SumHalves (hSumHalves := hSumHalves)
    ∧ quiescent_SumHalvesIdeal (hSumHalvesIdeal := hSumHalvesIdeal)
    ∧ quiescent_SumHalvesRefIdeal (hSumHalvesRefIdeal := hSumHalvesRefIdeal)
    ∧ quiescent_CastOwn (hCastOwn := hCastOwn)
    ∧ quiescent_CastOwnIdeal (hCastOwnIdeal := hCastOwnIdeal)
    ∧ quiescent_CastOwnRefIdeal (hCastOwnRefIdeal := hCastOwnRefIdeal)
    ∧ quiescent_SumPartials (hSumPartials := hSumPartials)
    ∧ quiescent_SumPartialsIdeal (hSumPartialsIdeal := hSumPartialsIdeal)
    ∧ quiescent_SumPartialsRefIdeal (hSumPartialsRefIdeal := hSumPartialsRefIdeal)
    ∧ preserves_Conv_ConvIdeal
    ∧ algebraic_ConvIdeal_ConvRefIdeal (hConvIdeal := hConvIdeal) (hConvRefIdeal := hConvRefIdeal)
    ∧ preserves_Loss_LossIdeal
    ∧ algebraic_LossIdeal_LossRefIdeal (hLossIdeal := hLossIdeal) (hLossRefIdeal := hLossRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_NormFfn_NormFfnIdeal
    ∧ algebraic_NormFfnIdeal_NormFfnRefIdeal_pre_finite_norm_ffn (hNormFfnIdeal := hNormFfnIdeal) (hNormFfnRefIdeal := hNormFfnRefIdeal) (hPre_finite_norm_ffn := hPre_finite_norm_ffn)
    ∧ preserves_NormQkv_NormQkvIdeal
    ∧ algebraic_NormQkvIdeal_NormQkvRefIdeal_pre_finite_norm_qkv (hNormQkvIdeal := hNormQkvIdeal) (hNormQkvRefIdeal := hNormQkvRefIdeal) (hPre_finite_norm_qkv := hPre_finite_norm_qkv)
    ∧ preserves_NormConv_NormConvIdeal
    ∧ algebraic_NormConvIdeal_NormConvRefIdeal_pre_finite_norm_conv (hNormConvIdeal := hNormConvIdeal) (hNormConvRefIdeal := hNormConvRefIdeal) (hPre_finite_norm_conv := hPre_finite_norm_conv)
    ∧ preserves_Attn_AttnIdeal
    ∧ preserves_FwdUp_FwdUpIdeal
    ∧ algebraic_FwdUpIdeal_FwdUpRefIdeal_pre_finite_up (hFwdUpIdeal := hFwdUpIdeal) (hFwdUpRefIdeal := hFwdUpRefIdeal) (hPre_finite_up := hPre_finite_up)
    ∧ preserves_FwdConv_FwdConvIdeal
    ∧ algebraic_FwdConvIdeal_FwdConvRefIdeal (hFwdConvIdeal := hFwdConvIdeal) (hFwdConvRefIdeal := hFwdConvRefIdeal)
    ∧ preserves_FwdIn_FwdInIdeal
    ∧ algebraic_FwdInIdeal_FwdInRefIdeal (hFwdInIdeal := hFwdInIdeal) (hFwdInRefIdeal := hFwdInRefIdeal)
    ∧ preserves_FwdDown_FwdDownIdeal
    ∧ algebraic_FwdDownIdeal_FwdDownRefIdeal (hFwdDownIdeal := hFwdDownIdeal) (hFwdDownRefIdeal := hFwdDownRefIdeal)
    ∧ preserves_FwdAttn_FwdAttnIdeal
    ∧ algebraic_FwdAttnIdeal_FwdAttnRefIdeal_pre_finite_attn_fwd (hFwdAttnIdeal := hFwdAttnIdeal) (hFwdAttnRefIdeal := hFwdAttnRefIdeal) (hPre_finite_attn_fwd := hPre_finite_attn_fwd)
    ∧ preserves_DgradDown_DgradDownIdeal
    ∧ algebraic_DgradDownIdeal_DgradDownRefIdeal (hDgradDownIdeal := hDgradDownIdeal) (hDgradDownRefIdeal := hDgradDownRefIdeal)
    ∧ preserves_FwdQkv_FwdQkvIdeal
    ∧ algebraic_FwdQkvIdeal_FwdQkvRefIdeal (hFwdQkvIdeal := hFwdQkvIdeal) (hFwdQkvRefIdeal := hFwdQkvRefIdeal)
    ∧ preserves_WgradQkv_WgradQkvIdeal
    ∧ algebraic_WgradQkvIdeal_WgradQkvRefIdeal (hWgradQkvIdeal := hWgradQkvIdeal) (hWgradQkvRefIdeal := hWgradQkvRefIdeal)
    ∧ preserves_WgradDown_WgradDownIdeal
    ∧ algebraic_WgradDownIdeal_WgradDownRefIdeal (hWgradDownIdeal := hWgradDownIdeal) (hWgradDownRefIdeal := hWgradDownRefIdeal)
    ∧ preserves_WgradUp_WgradUpIdeal
    ∧ algebraic_WgradUpIdeal_WgradUpRefIdeal (hWgradUpIdeal := hWgradUpIdeal) (hWgradUpRefIdeal := hWgradUpRefIdeal)
    ∧ preserves_WgradConv_WgradConvIdeal
    ∧ algebraic_WgradConvIdeal_WgradConvRefIdeal (hWgradConvIdeal := hWgradConvIdeal) (hWgradConvRefIdeal := hWgradConvRefIdeal)
    ∧ preserves_Adam_AdamIdeal
    ∧ algebraic_AdamIdeal_AdamRefIdeal (hAdamIdeal := hAdamIdeal) (hAdamRefIdeal := hAdamRefIdeal)
    ∧ preserves_SumHalves_SumHalvesIdeal
    ∧ algebraic_SumHalvesIdeal_SumHalvesRefIdeal (hSumHalvesIdeal := hSumHalvesIdeal) (hSumHalvesRefIdeal := hSumHalvesRefIdeal)
    ∧ preserves_CastOwn_CastOwnIdeal
    ∧ algebraic_CastOwnIdeal_CastOwnRefIdeal (hCastOwnIdeal := hCastOwnIdeal) (hCastOwnRefIdeal := hCastOwnRefIdeal)
    ∧ preserves_SumPartials_SumPartialsIdeal
    ∧ algebraic_SumPartialsIdeal_SumPartialsRefIdeal (hSumPartialsIdeal := hSumPartialsIdeal) (hSumPartialsRefIdeal := hSumPartialsRefIdeal)
-- ==== Pre_finite_attn_fwd.lean ====
abbrev S8192x1536 : Shape := ⟨2, ![8192, 1536]⟩
abbrev S1x64 : Shape := ⟨2, ![1, 64]⟩
abbrev S1x16 : Shape := ⟨2, ![1, 16]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x1536 .bf16) (main_arg1 : FVec F S1x64 .f32) (main_arg2 : FVec F S1x64 .f32) (main_arg3 : FVec F S1x16 .f32) : IVec S_ 1 :=
  let main_v0 : FVec F S1x64 .f32 := Host.absf main_arg1
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== Pre_finite_gate.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v14 main_v19
  main_v20

def fn {F : FTy → Type} [FloatOps F] (main_arg0 : FVec F S8192x1024 .bf16) (main_arg1 : FVec F S1024x5632 .f32) (main_arg2 : FVec F S2816x1024 .f32) (main_arg3 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S2816x1024 .f32 := Host.absf main_arg2
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  let main_v15 : FVec F S8192x1024 .f32 := (extf .f32 · bitsLt_bf16_f32) main_arg3
  let main_v16 : FVec F S8192x1024 .f32 := Host.absf main_v15
  let main_cst_4 : FVec F S_ .f32 := constant S_ .f32 0x7F800000#32
  fn_part1 (F := F) main_v14 main_v16 main_cst_4
-- ==== Pre_finite_norm_conv.lean ====
abbrev S8192x1024 : Shape := ⟨2, ![8192, 1024]⟩
abbrev S1x1024 : Shape := ⟨2, ![1, 1024]⟩
abbrev S1024x3072 : Shape := ⟨2, ![1024, 3072]⟩
abbrev S3x8192x1024 : Shape := ⟨3, ![3, 8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bitsLt_bf16_f32 : FTy.bits .bf16 < FTy.bits .f32
  bcast_S_S3x8192x1024 : S_.BroadcastsInDim S3x8192x1024 (![] : Fin 0 → Fin S3x8192x1024.rank)
  reducesTo_S3x8192x1024_S_d0_1_2 : S3x8192x1024.ReducesTo [0, 1, 2] S_

variable [Facts]

def fn_part1 {F : FTy → Type} [FloatOps F] (main_v13 : IVec S_ 1) (main_v15 : FVec F S3x8192x1024 .f32) (main_v16 : FVec F S3x8192x1024 .f32) : IVec S_ 1 :=
  let main_v17 : IVec S3x8192x1024 1 := cmpf .olt main_v15 main_v16
  let main_c_5 : IVec S_ 1 := constantI S_ 1 1#1
  let main_v18 : IVec S_ 1 := (fun x v => Host.reduce IntOp.andi x v reducesTo_S3x8192x1024_S_d0_1_2 h_S_) main_v17 main_c_5
  let main_v19 : IVec S_ 1 := andi main_v13 main_v18
  main_v19

def fn {F : FTy → Type} [FloatOps F] (main_arg0 : FVec F S8192x1024 .f32) (main_arg1 : FVec F S1x1024 .f32) (main_arg2 : FVec F S1024x3072 .f32) (main_arg3 : FVec F S3x8192x1024 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3x8192x1024 .f32 := (extf .f32 · bitsLt_bf16_f32) main_arg3
  let main_v15 : FVec F S3x8192x1024 .f32 := Host.absf main_v14
  let main_cst_4 : FVec F S_ .f32 := constant S_ .f32 0x7F800000#32
  let main_v16 : FVec F S3x8192x1024 .f32 := broadcastInDim S3x8192x1024 ![] bcast_S_S3x8192x1024 main_cst_4
  fn_part1 (F := F) main_v13 main_v15 main_v16
-- ==== Pre_finite_norm_ffn.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .bf16) (main_v13 : IVec S_ 1) (main_v15 : FVec F S8192x2816 .f32) (main_v16 : FVec F S8192x2816 .f32) : IVec S_ 1 :=
  let main_v17 : IVec S8192x2816 1 := cmpf .olt main_v15 main_v16
  let main_c_5 : IVec S_ 1 := constantI S_ 1 1#1
  let main_v18 : IVec S_ 1 := (fun x v => Host.reduce IntOp.andi x v reducesTo_S8192x2816_S_d0_1 h_S_) main_v17 main_c_5
  let main_v19 : IVec S_ 1 := andi main_v13 main_v18
  let main_v20 : FVec F S8192x2816 .f32 := (extf .f32 · bitsLt_bf16_f32) main_arg4
  let main_v21 : FVec F S8192x2816 .f32 := Host.absf main_v20
  let main_cst_6 : FVec F S_ .f32 := constant S_ .f32 0x7F800000#32
  let main_v22 : FVec F S8192x2816 .f32 := broadcastInDim S8192x2816 ![] bcast_S_S8192x2816 main_cst_6
  let main_v23 : IVec S8192x2816 1 := cmpf .olt main_v21 main_v22
  let main_c_7 : IVec S_ 1 := constantI S_ 1 1#1
  let main_v24 : IVec S_ 1 := (fun x v => Host.reduce IntOp.andi x v reducesTo_S8192x2816_S_d0_1 h_S_) main_v23 main_c_7
  let main_v25 : IVec S_ 1 := andi main_v19 main_v24
  main_v25

def fn {F : FTy → Type} [FloatOps F] (main_arg0 : FVec F S8192x1024 .f32) (main_arg1 : FVec F S1x1024 .f32) (main_arg2 : FVec F S1024x5632 .f32) (main_arg3 : FVec F S8192x2816 .bf16) (main_arg4 : FVec F S8192x2816 .bf16) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S8192x2816 .f32 := (extf .f32 · bitsLt_bf16_f32) main_arg3
  let main_v15 : FVec F S8192x2816 .f32 := Host.absf main_v14
  let main_cst_4 : FVec F S_ .f32 := constant S_ .f32 0x7F800000#32
  let main_v16 : FVec F S8192x2816 .f32 := broadcastInDim S8192x2816 ![] bcast_S_S8192x2816 main_cst_4
  fn_part1 (F := F) main_arg4 main_v13 main_v15 main_v16
-- ==== Pre_finite_norm_qkv.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1536 : S_.BroadcastsInDim S1024x1536 (![] : Fin 0 → Fin S1024x1536.rank)
  reducesTo_S1024x1536_S_d0_1 : S1024x1536.ReducesTo [0, 1] S_
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_

variable [Facts]

def fn_part1 {F : FTy → Type} [FloatOps F] (main_v13 : IVec S_ 1) (main_v15 : FVec F S8192x1536 .f32) (main_v16 : FVec F S8192x1536 .f32) : IVec S_ 1 :=
  let main_v17 : IVec S8192x1536 1 := cmpf .olt main_v15 main_v16
  let main_c_5 : IVec S_ 1 := constantI S_ 1 1#1
  let main_v18 : IVec S_ 1 := (fun x v => Host.reduce IntOp.andi x v reducesTo_S8192x1536_S_d0_1 h_S_) main_v17 main_c_5
  let main_v19 : IVec S_ 1 := andi main_v13 main_v18
  main_v19

def fn {F : FTy → Type} [FloatOps F] (main_arg0 : FVec F S8192x1024 .f32) (main_arg1 : FVec F S1x1024 .f32) (main_arg2 : FVec F S1024x1536 .f32) (main_arg3 : FVec F S8192x1536 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1536 .f32 := Host.absf main_arg2
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  let main_v14 : FVec F S8192x1536 .f32 := (extf .f32 · bitsLt_bf16_f32) main_arg3
  let main_v15 : FVec F S8192x1536 .f32 := Host.absf main_v14
  let main_cst_4 : FVec F S_ .f32 := constant S_ .f32 0x7F800000#32
  let main_v16 : FVec F S8192x1536 .f32 := broadcastInDim S8192x1536 ![] bcast_S_S8192x1536 main_cst_4
  fn_part1 (F := F) main_v13 main_v15 main_v16
-- ==== Pre_finite_up.lean ====
abbrev S8192x1024 : Shape := ⟨2, ![8192, 1024]⟩
abbrev S1024x5632 : Shape := ⟨2, ![1024, 5632]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S8192x1024 .bf16) (main_arg1 : FVec F S1024x5632 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  main_v9
-- ==== Conv.lean ====
abbrev S8192x3072 : Shape := ⟨2, ![8192, 3072]⟩
abbrev S1x3x1024 : Shape := ⟨3, ![1, 3, 1024]⟩
abbrev S8192x1024 : Shape := ⟨2, ![8192, 1024]⟩
abbrev S_ : Shape := ⟨0, ![]⟩
abbrev S8x1024 : Shape := ⟨2, ![8, 1024]⟩
abbrev S3x1024 : Shape := ⟨2, ![3, 1024]⟩
abbrev S3x256 : Shape := ⟨2, ![3, 256]⟩
abbrev S1x8x1024 : Shape := ⟨3, ![1, 8, 1024]⟩
abbrev S3x8x1024 : Shape := ⟨3, ![3, 8, 1024]⟩
abbrev S3x8192x1024 : Shape := ⟨3, ![3, 8192, 1024]⟩
abbrev S2048x256 : Shape := ⟨2, ![2048, 256]⟩
abbrev S8x256 : Shape := ⟨2, ![8, 256]⟩
abbrev S3x8x256 : Shape := ⟨3, ![3, 8, 256]⟩
abbrev S3x2048x256 : Shape := ⟨3, ![3, 2048, 256]⟩
abbrev S2040x256 : Shape := ⟨2, ![2040, 256]⟩
abbrev S1x8x256 : Shape := ⟨3, ![1, 8, 256]⟩
abbrev S1x256 : Shape := ⟨2, ![1, 256]⟩
abbrev S1x2048x256 : Shape := ⟨3, ![1, 2048, 256]⟩
abbrev S256 : Shape := ⟨1, ![256]⟩

abbrev nBuf : Space → Nat
  | .hbm => 28
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S1x3x1024, .f32⟩
  | .hbm, ⟨2, _⟩ => ⟨S8192x1024, .bf16⟩
  | .hbm, ⟨3, _⟩ => ⟨S_, .f32⟩
  | .hbm, ⟨4, _⟩ => ⟨S8x1024, .f32⟩
  | .hbm, ⟨5, _⟩ => ⟨S3x1024, .f32⟩
  | .hbm, ⟨6, _⟩ => ⟨S3x256, .f32⟩
  | .hbm, ⟨7, _⟩ => ⟨S_, .i32⟩
  | .hbm, ⟨8, _⟩ => ⟨S_, .i32⟩
  | .hbm, ⟨9, _⟩ => ⟨S8x1024, .f32⟩
  | .hbm, ⟨10, _⟩ => ⟨S3x1024, .f32⟩
  | .hbm, ⟨11, _⟩ => ⟨S3x256, .f32⟩
  | .hbm, ⟨12, _⟩ => ⟨S_, .f32⟩
  | .hbm, ⟨13, _⟩ => ⟨S8x1024, .f32⟩
  | .hbm, ⟨14, _⟩ => ⟨S3x1024, .f32⟩
  | .hbm, ⟨15, _⟩ => ⟨S3x256, .f32⟩
  | .hbm, ⟨16, _⟩ => ⟨S_, .f32⟩
  | .hbm, ⟨17, _⟩ => ⟨S8x1024, .f32⟩
  | .hbm, ⟨18, _⟩ => ⟨S3x1024, .f32⟩
  | .hbm, ⟨19, _⟩ => ⟨S3x256, .f32⟩
  | .hbm, ⟨20, _⟩ => ⟨S_, .f32⟩
  | .hbm, ⟨21, _⟩ => ⟨S8x1024, .f32⟩
  | .hbm, ⟨22, _⟩ => ⟨S1x8x1024, .f32⟩
  | .hbm, ⟨23, _⟩ => ⟨S1x8x1024, .f32⟩
  | .hbm, ⟨24, _⟩ => ⟨S1x8x1024, .f32⟩
  | .hbm, ⟨25, _⟩ => ⟨S3x8x1024, .f32⟩
  | .hbm, ⟨26, _⟩ => ⟨S3x8192x1024, .bf16⟩
  | .hbm, ⟨27, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | .local _ .vmem, ⟨10, _⟩ => ⟨S3x8x256, .f32⟩
  | .local _ .vmem, ⟨11, _⟩ => ⟨S3x8x256, .f32⟩
  | .local _ .vmem, ⟨12, _⟩ => ⟨S3x2048x256, .bf16⟩
  | .local _ .vmem, ⟨13, _⟩ => ⟨S3x2048x256, .bf16⟩
  | .local _ .vmem, ⟨14, _⟩ => ⟨S3x256, .f32⟩
  | .local _ .vmem, ⟨15, _⟩ => ⟨S3x256, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S8192x3072 : Shape := ⟨2, ![8192, 3072]⟩
abbrev S1x3x1024 : Shape := ⟨3, ![1, 3, 1024]⟩
abbrev S8192x1024 : Shape := ⟨2, ![8192, 1024]⟩
abbrev S4x2048x3072 : Shape := ⟨3, ![4, 2048, 3072]⟩
abbrev S3x1024 : Shape := ⟨2, ![3, 1024]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192x3x1024 : Shape := ⟨3, ![8192, 3, 1024]⟩
abbrev S3x8192x1024 : Shape := ⟨3, ![3, 8192, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x3x1024, .f32⟩
  | .hbm, ⟨2, _⟩ => ⟨S8192x1024, .bf16⟩
  | .hbm, ⟨3, _⟩ => ⟨S8192x3072, .f32⟩
  | .hbm, ⟨4, _⟩ => ⟨S4x2048x3072, .f32⟩
  | .hbm, ⟨5, _⟩ => ⟨S3x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2x1024, .f32⟩
  | .hbm, ⟨12, _⟩ => ⟨S4x2050x1024, .f32⟩
  | .hbm, ⟨13, _⟩ => ⟨S_, .f32⟩
  | .hbm, ⟨14, _⟩ => ⟨S4x2x1024, .f32⟩
  | .hbm, ⟨15, _⟩ => ⟨S1x1024, .f32⟩
  | .hbm, ⟨16, _⟩ => ⟨S1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S1x1024, .f32⟩
  | .hbm, ⟨22, _⟩ => ⟨S1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S1024, .f32⟩
  | .hbm, ⟨45, _⟩ => ⟨S1x1x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S4x2050x1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S4x2050x1024, .f32⟩
  | .hbm, ⟨63, _⟩ => ⟨S4x2050x1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S_, .f32⟩
  | .hbm, ⟨72, _⟩ => ⟨S1024, .f32⟩
  | .hbm, ⟨73, _⟩ => ⟨S1x1x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S4x2050x1024, .f32⟩
  | .hbm, ⟨78, _⟩ => ⟨S4x2050x1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S4x2x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x3072, .f32⟩
  | .hbm, ⟨88, _⟩ => ⟨S8192x3x1024, .f32⟩
  | .hbm, ⟨89, _⟩ => ⟨S3x8192x1024, .f32⟩
  | .hbm, ⟨90, _⟩ => ⟨S3x8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1x2816x1024 : Shape := ⟨3, ![1, 2816, 1024]⟩
abbrev S1x1 : Shape := ⟨2, ![1, 1]⟩
abbrev S1024x2816 : Shape := ⟨2, ![1024, 2816]⟩
abbrev S1024x1024 : Shape := ⟨2, ![1024, 1024]⟩
abbrev S8x1024 : Shape := ⟨2, ![8, 1024]⟩
abbrev S128x8x1024 : Shape := ⟨3, ![128, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S2816x1024, .bf16⟩
  | .hbm, ⟨5, _⟩ => ⟨S1x2816x1024, .bf16⟩
  | .hbm, ⟨6, _⟩ => ⟨S8192x1024, .f32⟩
  | .hbm, ⟨7, _⟩ => ⟨S8192x1024, .bf16⟩
  | .hbm, ⟨8, _⟩ => ⟨S1x1, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1, .f32⟩
  | .local _ .vmem, ⟨12, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S1x1, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Gate.lean ====
abbrev S8192x1024 : Shape := ⟨2, ![8192, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S8192x2816 : Shape := ⟨2, ![8192, 2816]⟩
abbrev S512x1024 : Shape := ⟨2, ![512, 1024]⟩
abbrev S1x1x1024x1408 : Shape := ⟨4, ![1, 1, 1024, 1408]⟩
abbrev S512x1408 : Shape := ⟨2, ![512, 1408]⟩
abbrev S1024x1408 : Shape := ⟨2, ![1024, 1408]⟩
abbrev S1x2816x1024 : Shape := ⟨3, ![1, 2816, 1024]⟩
abbrev S512x2816 : Shape := ⟨2, ![512, 2816]⟩

abbrev nBuf : Space → Nat
  | .hbm => 15
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S2816x1024, .f32⟩
  | .hbm, ⟨3, _⟩ => ⟨S8192x1024, .bf16⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S1x4x1024x1408, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .hbm, ⟨11, _⟩ => ⟨S2816x1024, .bf16⟩
  | .hbm, ⟨12, _⟩ => ⟨S1x2816x1024, .bf16⟩
  | .hbm, ⟨13, _⟩ => ⟨S8192x2816, .bf16⟩
  | .hbm, ⟨14, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1x2816x1024, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== GateRefIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S2816x1024, .f32⟩
  | .hbm, ⟨3, _⟩ => ⟨S8192x1024, .bf16⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== NormFfn.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S8x1024 : Shape := ⟨2, ![8, 1024]⟩
abbrev S512x2816 : Shape := ⟨2, ![512, 2816]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 16
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S1x4x1024x1408, .bf16⟩
  | .hbm, ⟨10, _⟩ => ⟨S8192x1024, .f32⟩
  | .hbm, ⟨11, _⟩ => ⟨S8192x1024, .bf16⟩
  | .hbm, ⟨12, _⟩ => ⟨S8x1024, .f32⟩
  | .hbm, ⟨13, _⟩ => ⟨S_, .f32⟩
  | .hbm, ⟨14, _⟩ => ⟨S1024, .f32⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x4x1024x1408, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormFfnRefIdeal.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormQkv.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S1024x4x384 : Shape := ⟨3, ![1024, 4, 384]⟩
abbrev S4x1024x384 : Shape := ⟨3, ![4, 1024, 384]⟩
abbrev S1x4x1024x384 : Shape := ⟨4, ![1, 4, 1024, 384]⟩
abbrev S8x1024 : Shape := ⟨2, ![8, 1024]⟩
abbrev S512x1536 : Shape := ⟨2, ![512, 1536]⟩
abbrev S512x1024 : Shape := ⟨2, ![512, 1024]⟩
abbrev S512x384 : Shape := ⟨2, ![512, 384]⟩
abbrev S1x1x1024x384 : Shape := ⟨4, ![1, 1, 1024, 384]⟩
abbrev S1024x384 : Shape := ⟨2, ![1024, 384]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .f32⟩
  | .hbm, ⟨3, _⟩ => ⟨S8192x1536, .bf16⟩
  | .hbm, ⟨4, _⟩ => ⟨S8192x1024, .f32⟩
  | .hbm, ⟨5, _⟩ => ⟨S1024x1536, .bf16⟩
  | .hbm, ⟨6, _⟩ => ⟨S1024x4x384, .bf16⟩
  | .hbm, ⟨7, _⟩ => ⟨S4x1024x384, .bf16⟩
  | .hbm, ⟨8, _⟩ => ⟨S1x4x1024x384, .bf16⟩
  | .hbm, ⟨9, _⟩ => ⟨S8192x1024, .f32⟩
  | .hbm, ⟨10, _⟩ => ⟨S8192x1024, .bf16⟩
  | .hbm, ⟨11, _⟩ => ⟨S8x1024, .f32⟩
  | .hbm, ⟨12, _⟩ => ⟨S_, .f32⟩
  | .hbm, ⟨13, _⟩ => ⟨S1024, .f32⟩
  | .hbm, ⟨14, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x4x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormQkvRefIdeal.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .f32⟩
  | .hbm, ⟨3, _⟩ => ⟨S8192x1536, .bf16⟩
  | .hbm, ⟨4, _⟩ => ⟨S8192x1024, .f32⟩
  | .hbm, ⟨5, _⟩ => ⟨S8192x1536, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1536, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormConv.lean ====
abbrev S8192x1024 : Shape := ⟨2, ![8192, 1024]⟩
abbrev S1x1024 : Shape := ⟨2, ![1, 1024]⟩
abbrev S1024x3072 : Shape := ⟨2, ![1024, 3072]⟩
abbrev S3x8192x1024 : Shape := ⟨3, ![3, 8192, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S8x1024 : Shape := ⟨2, ![8, 1024]⟩
abbrev S3x512x1024 : Shape := ⟨3, ![3, 512, 1024]⟩
abbrev S512x1024 : Shape := ⟨2, ![512, 1024]⟩
abbrev S1x512x256 : Shape := ⟨3, ![1, 512, 256]⟩
abbrev S512x256 : Shape := ⟨2, ![512, 256]⟩
abbrev S1x1x1024x256 : Shape := ⟨4, ![1, 1, 1024, 256]⟩
abbrev S1024x256 : Shape := ⟨2, ![1024, 256]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x8192x1024, .bf16⟩
  | .hbm, ⟨4, _⟩ => ⟨S8192x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S1x4x1024x768, .bf16⟩
  | .hbm, ⟨9, _⟩ => ⟨S8192x1024, .f32⟩
  | .hbm, ⟨10, _⟩ => ⟨S8x1024, .f32⟩
  | .hbm, ⟨11, _⟩ => ⟨S_, .f32⟩
  | .hbm, ⟨12, _⟩ => ⟨S1024, .f32⟩
  | .hbm, ⟨13, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1x4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormConvRefIdeal.lean ====
abbrev S8192x1024 : Shape := ⟨2, ![8192, 1024]⟩
abbrev S1x1024 : Shape := ⟨2, ![1, 1024]⟩
abbrev S1024x3072 : Shape := ⟨2, ![1024, 3072]⟩
abbrev S3x8192x1024 : Shape := ⟨3, ![3, 8192, 1024]⟩
abbrev S8192x3x1024 : Shape := ⟨3, ![8192, 3, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x8192x1024, .bf16⟩
  | .hbm, ⟨4, _⟩ => ⟨S8192x1024, .f32⟩
  | .hbm, ⟨5, _⟩ => ⟨S3x8192x1024, .f32⟩
  | .hbm, ⟨6, _⟩ => ⟨S8192x3x1024, .f32⟩
  | .hbm, ⟨7, _⟩ => ⟨S8192x3072, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Attn.lean ====
abbrev S8192x1024 : Shape := ⟨2, ![8192, 1024]⟩
abbrev S8192x1536 : Shape := ⟨2, ![8192, 1536]⟩
abbrev S1x64 : Shape := ⟨2, ![1, 64]⟩
abbrev S1x16 : Shape := ⟨2, ![1, 16]⟩
abbrev S1x128 : Shape := ⟨2, ![1, 128]⟩
abbrev S16x128 : Shape := ⟨2, ![16, 128]⟩
abbrev S2048x1024 : Shape := ⟨2, ![2048, 1024]⟩
abbrev S2048x1536 : Shape := ⟨2, ![2048, 1536]⟩
abbrev S2048x512 : Shape := ⟨2, ![2048, 512]⟩
abbrev S2x8x256x128 : Shape := ⟨4, ![2, 8, 256, 128]⟩
abbrev S256x128 : Shape := ⟨2, ![256, 128]⟩
abbrev S1x1x256x128 : Shape := ⟨4, ![1, 1, 256, 128]⟩
abbrev S128x128 : Shape := ⟨2, ![128, 128]⟩
abbrev S256 : Shape := ⟨1, ![256]⟩
abbrev S256x1 : Shape := ⟨2, ![256, 1]⟩
abbrev S512x128 : Shape := ⟨2, ![512, 128]⟩
abbrev S128 : Shape := ⟨1, ![128]⟩
abbrev S128x1 : Shape := ⟨2, ![128, 1]⟩
abbrev S1x1 : Shape := ⟨2, ![1, 1]⟩
abbrev S_ : Shape := ⟨0, ![]⟩
abbrev S16 : Shape := ⟨1, ![16]⟩

abbrev nBuf : Space → Nat
  | .hbm => 20
  | .vmem => 13
  | .smem => 1
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1x64, .f32⟩
  | .hbm, ⟨3, _⟩ => ⟨S1x64, .f32⟩
  | .hbm, ⟨4, _⟩ => ⟨S1x16, .f32⟩
  | .hbm, ⟨5, _⟩ => ⟨S1x128, .f32⟩
  | .hbm, ⟨6, _⟩ => ⟨S1x128, .f32⟩
  | .hbm, ⟨7, _⟩ => ⟨S8192x1536, .bf16⟩
  | .hbm, ⟨8, _⟩ => ⟨S1x128, .f32⟩
  | .hbm, ⟨9, _⟩ => ⟨S1x128, .f32⟩
  | .hbm, ⟨10, _⟩ => ⟨S16x128, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S_, .f32⟩
  | .hbm, ⟨18, _⟩ => ⟨S16, .f32⟩
  | .hbm, ⟨19, _⟩ => ⟨S1x16, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x128, .f32⟩
  | .local _ .vmem, ⟨5, _⟩ => ⟨S1x128, .f32⟩
  | .local _ .vmem, ⟨6, _⟩ => ⟨S2048x1536, .bf16⟩
  | .local _ .vmem, ⟨7, _⟩ => ⟨S2048x1536, .bf16⟩
  | .local _ .vmem, ⟨8, _⟩ => ⟨S1x128, .f32⟩
  | .local _ .vmem, ⟨9, _⟩ => ⟨S1x128, .f32⟩
  | .local _ .vmem, ⟨10, _⟩ => ⟨S16x128, .f32⟩
  | .local _ .vmem, ⟨11, _⟩ => ⟨S2048x512, .f32⟩
  | .local _ .vmem, ⟨12, _⟩ => ⟨S2x8x256x128, .f32⟩
  | .local _ .smem, ⟨0, _⟩ => ⟨S1x16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_9 : BitVec 32 := 0#32
  let c16_i32 : BitVec 32 := 16#32
  let v22 : BitVec 32 := Scalar.addi c0_i32_9 c16_i32
  let c1_i32 : BitVec 32 := 1#32
  ⟨c0_i32_9, v22, c1_i32⟩
def k0_mult1 (k0_t1 : Fin k0_t1_loop.trips) : BitVec 32 :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  v41
def k0_mult2 (k0_t1 : Fin k0_t1_loop.trips) : BitVec 32 :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  v45
def k0_off1 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v48 : Index := Scalar.indexCast v46
  let c1024_31 : Index := 1024#32
  ![v48.toNat, 1024]
def k0_off2 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v50 : Index := Scalar.indexCast v42
  let c1024_32 : Index := 1024#32
  ![v50.toNat, 1024]
def k0_off3 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v54 : Index := Scalar.indexCast v46
  let c1280 : Index := 1280#32
  ![v54.toNat, 1280]
def k0_off4 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v56 : Index := Scalar.indexCast v42
  let c1280_33 : Index := 1280#32
  ![v56.toNat, 1280]
def k0_off5 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v104 : Index := Scalar.indexCast v42
  let c0_46 : Index := 0#32
  ![v104.toNat, 0]
def k0_off6 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v136 : Index := Scalar.indexCast v42
  let c0_53 : Index := 0#32
  ![v136.toNat, 0]
def k0_off7 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v146 : Index := Scalar.indexCast v47
  let c0_55 : Index := 0#32
  let c0_56 : Index := 0#32
  let c0_57 : Index := 0#32
  ![v146.toNat, 0, 0, 0]
def k0_off8 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v287 : Index := Scalar.indexCast v42
  let c128 : Index := 128#32
  ![v287.toNat, 128]
def k0_off9 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v319 : Index := Scalar.indexCast v42
  let c128_98 : Index := 128#32
  ![v319.toNat, 128]
def k0_off10 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v329 : Index := Scalar.indexCast v47
  let c1_100 : Index := 1#32
  let c0_101 : Index := 0#32
  let c0_102 : Index := 0#32
  ![v329.toNat, 1, 0, 0]
def k0_off11 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v536 : Index := Scalar.indexCast v42
  let c256 : Index := 256#32
  ![v536.toNat, 256]
def k0_off12 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v568 : Index := Scalar.indexCast v42
  let c256_159 : Index := 256#32
  ![v568.toNat, 256]
def k0_off13 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v578 : Index := Scalar.indexCast v47
  let c2_161 : Index := 2#32
  let c0_162 : Index := 0#32
  let c0_163 : Index := 0#32
  ![v578.toNat, 2, 0, 0]
def k0_off14 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v719 : Index := Scalar.indexCast v42
  let c384 : Index := 384#32
  ![v719.toNat, 384]
def k0_off15 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v751 : Index := Scalar.indexCast v42
  let c384_201 : Index := 384#32
  ![v751.toNat, 384]
def k0_off16 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v761 : Index := Scalar.indexCast v47
  let c3_203 : Index := 3#32
  let c0_204 : Index := 0#32
  let c0_205 : Index := 0#32
  ![v761.toNat, 3, 0, 0]
def k0_off17 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v947 : Index := Scalar.indexCast v46
  let c0_245 : Index := 0#32
  ![v947.toNat, 0]
def k0_off18 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v955 : Index := Scalar.indexCast v46
  let c256_247 : Index := 256#32
  ![v955.toNat, 256]
def k0_off19 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v963 : Index := Scalar.indexCast v42
  let c0_249 : Index := 0#32
  ![v963.toNat, 0]
def k0_off20 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v971 : Index := Scalar.indexCast v42
  let c256_251 : Index := 256#32
  ![v971.toNat, 256]
def k0_off21 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v979 : Index := Scalar.indexCast v46
  let c1152 : Index := 1152#32
  ![v979.toNat, 1152]
def k0_off22 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v981 : Index := Scalar.indexCast v42
  let c1152_253 : Index := 1152#32
  ![v981.toNat, 1152]
def k0_off23 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v985 : Index := Scalar.indexCast v46
  let c1408 : Index := 1408#32
  ![v985.toNat, 1408]
def k0_off24 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v987 : Index := Scalar.indexCast v42
  let c1408_254 : Index := 1408#32
  ![v987.toNat, 1408]
def k0_off25 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1035 : Index := Scalar.indexCast v42
  let c512 : Index := 512#32
  ![v1035.toNat, 512]
def k0_off26 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1067 : Index := Scalar.indexCast v42
  let c512_273 : Index := 512#32
  ![v1067.toNat, 512]
def k0_off27 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v1077 : Index := Scalar.indexCast v47
  let c4_275 : Index := 4#32
  let c0_276 : Index := 0#32
  let c0_277 : Index := 0#32
  ![v1077.toNat, 4, 0, 0]
def k0_off28 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1218 : Index := Scalar.indexCast v42
  let c640 : Index := 640#32
  ![v1218.toNat, 640]
def k0_off29 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1250 : Index := Scalar.indexCast v42
  let c640_315 : Index := 640#32
  ![v1250.toNat, 640]
def k0_off30 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v1260 : Index := Scalar.indexCast v47
  let c5_317 : Index := 5#32
  let c0_318 : Index := 0#32
  let c0_319 : Index := 0#32
  ![v1260.toNat, 5, 0, 0]
def k0_off31 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1467 : Index := Scalar.indexCast v42
  let c768 : Index := 768#32
  ![v1467.toNat, 768]
def k0_off32 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1499 : Index := Scalar.indexCast v42
  let c768_376 : Index := 768#32
  ![v1499.toNat, 768]
def k0_off33 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v1509 : Index := Scalar.indexCast v47
  let c6_378 : Index := 6#32
  let c0_379 : Index := 0#32
  let c0_380 : Index := 0#32
  ![v1509.toNat, 6, 0, 0]
def k0_off34 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1650 : Index := Scalar.indexCast v42
  let c896 : Index := 896#32
  ![v1650.toNat, 896]
def k0_off35 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1682 : Index := Scalar.indexCast v42
  let c896_418 : Index := 896#32
  ![v1682.toNat, 896]
def k0_off36 (k0_t1 : Fin k0_t1_loop.trips) : Fin 4 → Nat :=
  let c0_i32_9 : BitVec 32 := 0#32
  let c1_i32 : BitVec 32 := 1#32
  let arg12 : BitVec 32 := Scf.iv c0_i32_9 c1_i32 k0_t1
  let c1_i32_30 : BitVec 32 := 1#32
  let v47 : BitVec 32 := Scalar.minsi arg12 c1_i32_30
  let v1692 : Index := Scalar.indexCast v47
  let c7_420 : Index := 7#32
  let c0_421 : Index := 0#32
  let c0_422 : Index := 0#32
  ![v1692.toNat, 7, 0, 0]
def k0_off37 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v1878 : Index := Scalar.indexCast v46
  let c128_462 : Index := 128#32
  ![v1878.toNat, 128]
def k0_off38 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c1_i32_27 : BitVec 32 := 1#32
  let v43 : BitVec 32 := Scalar.subi arg12 c1_i32_27
  let c0_i32_28 : BitVec 32 := 0#32
  let v44 : BitVec 32 := Scalar.maxsi v43 c0_i32_28
  let c128_i32_29 : BitVec 32 := 128#32
  let v45 : BitVec 32 := Scalar.muli v44 c128_i32_29
  let v46 : BitVec 32 := v45
  let v1886 : Index := Scalar.indexCast v46
  let c384_464 : Index := 384#32
  ![v1886.toNat, 384]
def k0_off39 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1894 : Index := Scalar.indexCast v42
  let c128_466 : Index := 128#32
  ![v1894.toNat, 128]
def k0_off40 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c128_i32 : BitVec 32 := 128#32
  let v41 : BitVec 32 := Scalar.muli arg12 c128_i32
  let v42 : BitVec 32 := v41
  let v1902 : Index := Scalar.indexCast v42
  let c384_468 : Index := 384#32
  ![v1902.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnIdeal.lean ====
variable {F : FTy → Type} [FloatOps F] [Named F]
def κ : String → Option EReal := fun
  | "mask" => some ⊥
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== AttnRefIdeal.lean ====
abbrev S8192x1024 : Shape := ⟨2, ![8192, 1024]⟩
abbrev S8192x1536 : Shape := ⟨2, ![8192, 1536]⟩
abbrev S1x64 : Shape := ⟨2, ![1, 64]⟩
abbrev S1x16 : Shape := ⟨2, ![1, 16]⟩
abbrev S4x2048x1536 : Shape := ⟨3, ![4, 2048, 1536]⟩
abbrev S64 : Shape := ⟨1, ![64]⟩
abbrev S16 : Shape := ⟨1, ![16]⟩
abbrev S4x2048x1024 : Shape := ⟨3, ![4, 2048, 1024]⟩
abbrev S4x2048x4x4x64 : Shape := ⟨5, ![4, 2048, 4, 4, 64]⟩
abbrev S4x2048x256 : Shape := ⟨3, ![4, 2048, 256]⟩
abbrev S4x2048x4x64 : Shape := ⟨4, ![4, 2048, 4, 64]⟩
abbrev S_ : Shape := ⟨0, ![]⟩
abbrev S4x2048x4x4 : Shape := ⟨4, ![4, 2048, 4, 4]⟩
abbrev S4x2048x4x4x1 : Shape := ⟨5, ![4, 2048, 4, 4, 1]⟩
abbrev S1x1x1x1x64 : Shape := ⟨5, ![1, 1, 1, 1, 64]⟩
abbrev S4x2048x4 : Shape := ⟨3, ![4, 2048, 4]⟩
abbrev S4x2048x4x1 : Shape := ⟨4, ![4, 2048, 4, 1]⟩
abbrev S1x1x1x64 : Shape := ⟨4, ![1, 1, 1, 64]⟩
abbrev S4x16x128x4x4x64 : Shape := ⟨6, ![4, 16, 128, 4, 4, 64]⟩
abbrev S4x128x4x64 : Shape := ⟨4, ![4, 128, 4, 64]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S4x16x256x4x64 : Shape := ⟨5, ![4, 16, 256, 4, 64]⟩
abbrev S4x16x4x256x128x4 : Shape := ⟨6, ![4, 16, 4, 256, 128, 4]⟩
abbrev S4x16x4x4x128x256 : Shape := ⟨6, ![4, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x16x1x1x128x256 : Shape := ⟨6, ![1, 16, 1, 1, 128, 256]⟩
abbrev S1x1x4x4x1x1 : Shape := ⟨6, ![1, 1, 4, 4, 1, 1]⟩
abbrev S4x16x4x4x128x1 : Shape := ⟨6, ![4, 16, 4, 4, 128, 1]⟩
abbrev S4x16x4x4x128x257 : Shape := ⟨6, ![4, 16, 4, 4, 128, 257]⟩
abbrev S4x16x4x4x128 : Shape := ⟨5, ![4, 16, 4, 4, 128]⟩
abbrev S4x16x4x64x4x128 : Shape := ⟨6, ![4, 16, 4, 64, 4, 128]⟩
abbrev S4x16x4x64x256 : Shape := ⟨5, ![4, 16, 4, 64, 256]⟩
abbrev S4x16x4x128x4x64 : Shape := ⟨6, ![4, 16, 4, 128, 4, 64]⟩
abbrev S4x16x4x256x64 : Shape := ⟨5, ![4, 16, 4, 256, 64]⟩

abbrev nBuf : Space → Nat
  | .hbm => 324
  | .vmem => 0
  | .smem => 0
  | _ => 0

abbrev hbmTy0_0 (i : Nat) : BufTy := match i % 128 with
  | 0 => ⟨S8192x1024, .bf16⟩
  | 1 => ⟨S8192x1536, .bf16⟩
  | 2 => ⟨S1x64, .f32⟩
  | 3 => ⟨S1x64, .f32⟩
  | 4 => ⟨S1x16, .f32⟩
  | 5 => ⟨S8192x1536, .f32⟩
  | 6 => ⟨S4x2048x1536, .f32⟩
  | 7 => ⟨S64, .f32⟩
  | 8 => ⟨S64, .f32⟩
  | 9 => ⟨S16, .f32⟩
  | 10 => ⟨S4x2048x1024, .f32⟩
  | 11 => ⟨S4x2048x4x4x64, .f32⟩
  | 12 => ⟨S4x2048x256, .f32⟩
  | 13 => ⟨S4x2048x4x64, .f32⟩
  | 14 => ⟨S4x2048x256, .f32⟩
  | 15 => ⟨S4x2048x4x64, .f32⟩
  | 16 => ⟨S4x2048x4x4x64, .f32⟩
  | 17 => ⟨S_, .f32⟩
  | 18 => ⟨S4x2048x4x4, .f32⟩
  | 19 => ⟨S4x2048x4x4x1, .f32⟩
  | 20 => ⟨S_, .f32⟩
  | 21 => ⟨S4x2048x4x4x1, .f32⟩
  | 22 => ⟨S4x2048x4x4x1, .f32⟩
  | 23 => ⟨S_, .f32⟩
  | 24 => ⟨S4x2048x4x4x1, .f32⟩
  | 25 => ⟨S4x2048x4x4x1, .f32⟩
  | 26 => ⟨S4x2048x4x4x1, .f32⟩
  | 27 => ⟨S4x2048x4x4x1, .f32⟩
  | 28 => ⟨S_, .f32⟩
  | 29 => ⟨S4x2048x4x4x1, .f32⟩
  | 30 => ⟨S4x2048x4x4x1, .f32⟩
  | 31 => ⟨S4x2048x4x4x64, .f32⟩
  | 32 => ⟨S4x2048x4x4x64, .f32⟩
  | 33 => ⟨S1x1x1x1x64, .f32⟩
  | 34 => ⟨S4x2048x4x4x64, .f32⟩
  | 35 => ⟨S4x2048x4x4x64, .f32⟩
  | 36 => ⟨S4x2048x4x64, .f32⟩
  | 37 => ⟨S_, .f32⟩
  | 38 => ⟨S4x2048x4, .f32⟩
  | 39 => ⟨S4x2048x4x1, .f32⟩
  | 40 => ⟨S_, .f32⟩
  | 41 => ⟨S4x2048x4x1, .f32⟩
  | 42 => ⟨S4x2048x4x1, .f32⟩
  | 43 => ⟨S_, .f32⟩
  | 44 => ⟨S4x2048x4x1, .f32⟩
  | 45 => ⟨S4x2048x4x1, .f32⟩
  | 46 => ⟨S4x2048x4x1, .f32⟩
  | 47 => ⟨S4x2048x4x1, .f32⟩
  | 48 => ⟨S_, .f32⟩
  | 49 => ⟨S4x2048x4x1, .f32⟩
  | 50 => ⟨S4x2048x4x1, .f32⟩
  | 51 => ⟨S4x2048x4x64, .f32⟩
  | 52 => ⟨S4x2048x4x64, .f32⟩
  | 53 => ⟨S1x1x1x64, .f32⟩
  | 54 => ⟨S4x2048x4x64, .f32⟩
  | 55 => ⟨S4x2048x4x64, .f32⟩
  | 56 => ⟨S4x16x128x4x4x64, .f32⟩
  | 57 => ⟨S_, .f32⟩
  | 58 => ⟨S4x128x4x64, .f32⟩
  | 59 => ⟨S4x2176x4x64, .f32⟩
  | 60 => ⟨S_, .f32⟩
  | 61 => ⟨S4x128x4x64, .f32⟩
  | 62 => ⟨S4x17x128x4x64, .f32⟩
  | 63 => ⟨S4x16x128x4x64, .f32⟩
  | 64 => ⟨S4x16x128x4x64, .f32⟩
  | 65 => ⟨S4x16x256x4x64, .f32⟩
  | 66 => ⟨S_, .f32⟩
  | 67 => ⟨S4x128x4x64, .f32⟩
  | 68 => ⟨S4x2176x4x64, .f32⟩
  | 69 => ⟨S_, .f32⟩
  | 70 => ⟨S4x128x4x64, .f32⟩
  | 71 => ⟨S4x17x128x4x64, .f32⟩
  | 72 => ⟨S4x16x128x4x64, .f32⟩
  | 73 => ⟨S4x16x128x4x64, .f32⟩
  | 74 => ⟨S4x16x256x4x64, .f32⟩
  | 75 => ⟨S4x16x4x256x128x4, .f32⟩
  | 76 => ⟨S4x16x4x4x128x256, .f32⟩
  | 77 => ⟨S_, .f32⟩
  | 78 => ⟨S4x16x4x4x128x256, .f32⟩
  | 79 => ⟨S4x16x4x4x128x256, .f32⟩
  | 80 => ⟨S128, .i32⟩
  | 81 => ⟨S128x1, .i32⟩
  | 82 => ⟨S256, .i32⟩
  | 83 => ⟨S1x256, .i32⟩
  | 84 => ⟨S_, .i32⟩
  | 85 => ⟨S128x1, .i32⟩
  | 86 => ⟨S128x1, .i32⟩
  | 87 => ⟨S128x256, .i32⟩
  | 88 => ⟨S128x256, .i32⟩
  | 89 => ⟨S128x256, .i32⟩
  | 90 => ⟨S16, .i32⟩
  | 91 => ⟨S_, .i32⟩
  | 92 => ⟨S16, .i32⟩
  | 93 => ⟨S16, .i32⟩
  | 94 => ⟨S_, .i32⟩
  | 95 => ⟨S16, .i32⟩
  | 96 => ⟨S16, .i32⟩
  | 97 => ⟨S16x1x1, .i32⟩
  | 98 => ⟨S1x1x256, .i32⟩
  | 99 => ⟨S16x1x256, .i32⟩
  | 100 => ⟨S16x1x256, .i32⟩
  | 101 => ⟨S16x1x256, .i32⟩
  | 102 => ⟨S_, .i32⟩
  | 103 => ⟨S128x256, .i32⟩
  | 104 => ⟨S128x256, .i1⟩
  | 105 => ⟨S1x128x256, .i1⟩
  | 106 => ⟨S_, .i32⟩
  | 107 => ⟨S128x256, .i32⟩
  | 108 => ⟨S128x256, .i1⟩
  | 109 => ⟨S1x128x256, .i1⟩
  | 110 => ⟨S1x128x256, .i1⟩
  | 111 => ⟨S_, .i32⟩
  | 112 => ⟨S16x1x256, .i32⟩
  | 113 => ⟨S16x1x256, .i1⟩
  | 114 => ⟨S16x128x256, .i1⟩
  | 115 => ⟨S16x128x256, .i1⟩
  | 116 => ⟨S16x128x256, .i1⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S8192x1024, .bf16⟩

abbrev hbmTy0_1 (i : Nat) : BufTy := match i % 128 with
  | 0 => ⟨S16, .f32⟩
  | 1 => ⟨S16, .f32⟩
  | 2 => ⟨S4x4, .f32⟩
  | 3 => ⟨S4x4x1x1, .f32⟩
  | 4 => ⟨S4x4x1x1, .f32⟩
  | 5 => ⟨S128x256, .f32⟩
  | 6 => ⟨S1x1x128x256, .f32⟩
  | 7 => ⟨S4x4x128x256, .f32⟩
  | 8 => ⟨S4x4x128x256, .f32⟩
  | 9 => ⟨S4x4x128x256, .f32⟩
  | 10 => ⟨S1x1x4x4x128x256, .f32⟩
  | 11 => ⟨S4x16x4x4x128x256, .f32⟩
  | 12 => ⟨S4x16x4x4x128x256, .f32⟩
  | 13 => ⟨S1x16x1x1x128x256, .i1⟩
  | 14 => ⟨S_, .f32⟩
  | 15 => ⟨S_, .f32⟩
  | 16 => ⟨S4x16x4x4x128x256, .i1⟩
  | 17 => ⟨S4x16x4x4x128x256, .f32⟩
  | 18 => ⟨S4x16x4x4x128x256, .f32⟩
  | 19 => ⟨S_, .f32⟩
  | 20 => ⟨S4x16x4x4x128x256, .f32⟩
  | 21 => ⟨S4x4, .f32⟩
  | 22 => ⟨S1x1x4x4x1x1, .f32⟩
  | 23 => ⟨S4x16x4x4x128x1, .f32⟩
  | 24 => ⟨S4x16x4x4x128x257, .f32⟩
  | 25 => ⟨S_, .f32⟩
  | 26 => ⟨S4x16x4x4x128, .f32⟩
  | 27 => ⟨S4x16x4x4x128x1, .f32⟩
  | 28 => ⟨S4x16x4x4x128x257, .f32⟩
  | 29 => ⟨S4x16x4x4x128x257, .i1⟩
  | 30 => ⟨S4x16x4x4x128x257, .f32⟩
  | 31 => ⟨S_, .f32⟩
  | 32 => ⟨S4x16x4x4x128, .f32⟩
  | 33 => ⟨S_, .f32⟩
  | 34 => ⟨S4x16x4x4x128, .f32⟩
  | 35 => ⟨S4x16x4x4x128, .f32⟩
  | 36 => ⟨S_, .f32⟩
  | 37 => ⟨S4x16x4x4x128, .f32⟩
  | 38 => ⟨S4x16x4x4x128, .i1⟩
  | 39 => ⟨S_, .f32⟩
  | 40 => ⟨S4x16x4x4x128, .f32⟩
  | 41 => ⟨S4x16x4x4x128, .i1⟩
  | 42 => ⟨S_, .f32⟩
  | 43 => ⟨S4x16x4x4x128, .f32⟩
  | 44 => ⟨S_, .f32⟩
  | 45 => ⟨S4x16x4x4x128, .f32⟩
  | 46 => ⟨S_, .f32⟩
  | 47 => ⟨S4x16x4x4x128, .f32⟩
  | 48 => ⟨S4x16x4x4x128, .f32⟩
  | 49 => ⟨S4x16x4x4x128, .f32⟩
  | 50 => ⟨S4x16x4x4x128x1, .f32⟩
  | 51 => ⟨S4x16x4x4x128x257, .f32⟩
  | 52 => ⟨S4x16x4x4x128x257, .f32⟩
  | 53 => ⟨S4x16x4x4x128x257, .f32⟩
  | 54 => ⟨S_, .f32⟩
  | 55 => ⟨S4x16x4x4x128, .f32⟩
  | 56 => ⟨S4x16x4x4x128x1, .f32⟩
  | 57 => ⟨S4x16x4x4x128x257, .f32⟩
  | 58 => ⟨S4x16x4x4x128x257, .f32⟩
  | 59 => ⟨S4x16x4x4x128x1, .f32⟩
  | 60 => ⟨S_, .f32⟩
  | 61 => ⟨S4x16x4x4x128x1, .f32⟩
  | 62 => ⟨S4x16x4x4x128x1, .f32⟩
  | 63 => ⟨S4x16x4x4x128x256, .f32⟩
  | 64 => ⟨S4x16x4x64x4x128, .f32⟩
  | 65 => ⟨S4x16x128x4x4x64, .f32⟩
  | 66 => ⟨S4x2048x1024, .f32⟩
  | 67 => ⟨S8192x1024, .f32⟩
  | 68 => ⟨S4x2048x1024, .f32⟩
  | 69 => ⟨S4x16x128x4x4x64, .f32⟩
  | 70 => ⟨S4x16x4x64x4x128, .f32⟩
  | 71 => ⟨S4x16x4x4x128x256, .f32⟩
  | 72 => ⟨S4x16x4x64x256, .f32⟩
  | 73 => ⟨S4x16x256x4x64, .f32⟩
  | 74 => ⟨S_, .f32⟩
  | 75 => ⟨S4x16x4x4x128x257, .f32⟩
  | 76 => ⟨S4x16x4x4x128x257, .f32⟩
  | 77 => ⟨S4x16x4x4x128x257, .f32⟩
  | 78 => ⟨S4x16x4x4x128x257, .f32⟩
  | 79 => ⟨S_, .f32⟩
  | 80 => ⟨S4x16x4x4x128, .f32⟩
  | 81 => ⟨S4x16x4x4x128x1, .f32⟩
  | 82 => ⟨S4x16x4x4x128x1, .f32⟩
  | 83 => ⟨S4x16x4x4x128x257, .f32⟩
  | 84 => ⟨S4x16x4x4x128x257, .f32⟩
  | 85 => ⟨S_, .f32⟩
  | 86 => ⟨S4x16x4x4x128, .f32⟩
  | 87 => ⟨S4x16x4x4x128x257, .f32⟩
  | 88 => ⟨S4x16x4x4x128x257, .f32⟩
  | 89 => ⟨S4x16x4x4x128x257, .f32⟩
  | 90 => ⟨S4x16x4x4x128x256, .f32⟩
  | 91 => ⟨S4x16x4x4x128x1, .f32⟩
  | 92 => ⟨S_, .f32⟩
  | 93 => ⟨S4x4, .f32⟩
  | 94 => ⟨S1x1x4x4x1x1, .f32⟩
  | 95 => ⟨S_, .f32⟩
  | 96 => ⟨S4x4, .f32⟩
  | 97 => ⟨S16, .f32⟩
  | 98 => ⟨S_, .f32⟩
  | 99 => ⟨S4x16x4x4x128x256, .f32⟩
  | 100 => ⟨S4x16x4x4x128x256, .f32⟩
  | 101 => ⟨S_, .f32⟩
  | 102 => ⟨S4x16x4x4x128x256, .f32⟩
  | 103 => ⟨S4x16x4x4x128x256, .f32⟩
  | 104 => ⟨S4x16x4x256x128x4, .f32⟩
  | 105 => ⟨S4x16x4x128x4x64, .f32⟩
  | 106 => ⟨S4x16x128x4x4x64, .f32⟩
  | 107 => ⟨S4x16x4x256x64, .f32⟩
  | 108 => ⟨S4x16x256x4x64, .f32⟩
  | 109 => ⟨S4x16x128x4x64, .f32⟩
  | 110 => ⟨S4x16x128x4x64, .f32⟩
  | 111 => ⟨S_, .f32⟩
  | 112 => ⟨S4x17x128x4x64, .f32⟩
  | 113 => ⟨S_, .f32⟩
  | 114 => ⟨S4x17x128x4x64, .f32⟩
  | 115 => ⟨S4x17x128x4x64, .f32⟩
  | 116 => ⟨S4x2176x4x64, .f32⟩
  | 117 => ⟨S4x128x4x64, .f32⟩
  | 118 => ⟨S4x2048x4x64, .f32⟩
  | 119 => ⟨S4x16x128x4x64, .f32⟩
  | 120 => ⟨S4x16x128x4x64, .f32⟩
  | 121 => ⟨S_, .f32⟩
  | 122 => ⟨S4x17x128x4x64, .f32⟩
  | 123 => ⟨S_, .f32⟩
  | 124 => ⟨S4x17x128x4x64, .f32⟩
  | 125 => ⟨S4x17x128x4x64, .f32⟩
  | 126 => ⟨S4x2176x4x64, .f32⟩
  | 127 => ⟨S4x128x4x64, .f32⟩
  | _ => ⟨S8192x1024, .bf16⟩

abbrev hbmTy0_2 (i : Nat) : BufTy := match i % 128 with
  | 0 => ⟨S4x2048x4x64, .f32⟩
  | 1 => ⟨S4x2048x4x4x64, .f32⟩
  | 2 => ⟨S4x2048x4x64, .f32⟩
  | 3 => ⟨S_, .f32⟩
  | 4 => ⟨S64, .f32⟩
  | 5 => ⟨S1x1x1x64, .f32⟩
  | 6 => ⟨S4x2048x4x64, .f32⟩
  | 7 => ⟨S4x2048x4x64, .f32⟩
  | 8 => ⟨S_, .f32⟩
  | 9 => ⟨S64, .f32⟩
  | 10 => ⟨S4x2048x4x64, .f32⟩
  | 11 => ⟨S_, .f32⟩
  | 12 => ⟨S4x2048x4, .f32⟩
  | 13 => ⟨S4x2048x4x1, .f32⟩
  | 14 => ⟨S4x2048x4x64, .f32⟩
  | 15 => ⟨S4x2048x4x64, .f32⟩
  | 16 => ⟨S4x2048x4x1, .f32⟩
  | 17 => ⟨S_, .f32⟩
  | 18 => ⟨S4x2048x4x1, .f32⟩
  | 19 => ⟨S4x2048x4x1, .f32⟩
  | 20 => ⟨S_, .f32⟩
  | 21 => ⟨S4x2048x4, .f32⟩
  | 22 => ⟨S4x2048x4x64, .f32⟩
  | 23 => ⟨S4x2048x4x64, .f32⟩
  | 24 => ⟨S4x2048x4x64, .f32⟩
  | 25 => ⟨S4x2048x4x64, .f32⟩
  | 26 => ⟨S4x2048x4x64, .f32⟩
  | 27 => ⟨S4x2048x4x4x64, .f32⟩
  | 28 => ⟨S_, .f32⟩
  | 29 => ⟨S64, .f32⟩
  | 30 => ⟨S1x1x1x1x64, .f32⟩
  | 31 => ⟨S4x2048x4x4x64, .f32⟩
  | 32 => ⟨S4x2048x4x4x64, .f32⟩
  | 33 => ⟨S_, .f32⟩
  | 34 => ⟨S64, .f32⟩
  | 35 => ⟨S4x2048x4x4x64, .f32⟩
  | 36 => ⟨S_, .f32⟩
  | 37 => ⟨S4x2048x4x4, .f32⟩
  | 38 => ⟨S4x2048x4x4x1, .f32⟩
  | 39 => ⟨S4x2048x4x4x64, .f32⟩
  | 40 => ⟨S4x2048x4x4x64, .f32⟩
  | 41 => ⟨S4x2048x4x4x1, .f32⟩
  | 42 => ⟨S_, .f32⟩
  | 43 => ⟨S4x2048x4x4x1, .f32⟩
  | 44 => ⟨S4x2048x4x4x1, .f32⟩
  | 45 => ⟨S_, .f32⟩
  | 46 => ⟨S4x2048x4x4, .f32⟩
  | 47 => ⟨S4x2048x4x4x64, .f32⟩
  | 48 => ⟨S4x2048x4x4x64, .f32⟩
  | 49 => ⟨S4x2048x4x4x64, .f32⟩
  | 50 => ⟨S4x2048x4x4x64, .f32⟩
  | 51 => ⟨S4x2048x4x4x64, .f32⟩
  | 52 => ⟨S4x2048x256, .f32⟩
  | 53 => ⟨S_, .f32⟩
  | 54 => ⟨S4x2048x1536, .f32⟩
  | 55 => ⟨S4x2048x256, .f32⟩
  | 56 => ⟨S_, .f32⟩
  | 57 => ⟨S4x2048x1536, .f32⟩
  | 58 => ⟨S4x2048x1536, .f32⟩
  | 59 => ⟨S4x2048x1024, .f32⟩
  | 60 => ⟨S_, .f32⟩
  | 61 => ⟨S4x2048x1536, .f32⟩
  | 62 => ⟨S4x2048x1536, .f32⟩
  | 63 => ⟨S8192x1536, .f32⟩
  | 64 => ⟨S8192x1536, .bf16⟩
  | 65 => ⟨S1x64, .f32⟩
  | 66 => ⟨S1x64, .f32⟩
  | 67 => ⟨S1x16, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_12 : Ref sig .tc := ⟨.hbm, 91, rfl⟩
abbrev main_v72 : Ref sig .tc := ⟨.hbm, 92, rfl⟩
abbrev main_v73 : Ref sig .tc := ⟨.hbm, 93, rfl⟩
abbrev main_c_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_14 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_15 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_16 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_21 : Ref sig .tc := ⟨.hbm, 142, rfl⟩
abbrev main_call0_v0 : Ref sig .tc := ⟨.hbm, 143, rfl⟩
abbrev main_v114_1 : Ref sig .tc := ⟨.hbm, 144, rfl⟩
abbrev main_call0_v2 : Ref sig .tc := ⟨.hbm, 145, rfl⟩
abbrev main_v114_0 : Ref sig .tc := ⟨.hbm, 146, rfl⟩
abbrev main_call0_cst : Ref sig .tc := ⟨.hbm, 147, rfl⟩
abbrev main_v114_2 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_22 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_23 : Ref sig .tc := ⟨.hbm, 159, rfl⟩
abbrev main_v124 : Ref sig .tc := ⟨.hbm, 160, rfl⟩
abbrev main_cst_24 : Ref sig .tc := ⟨.hbm, 161, rfl⟩
abbrev main_v125 : Ref sig .tc := ⟨.hbm, 162, rfl⟩
abbrev main_v126 : Ref sig .tc := ⟨.hbm, 163, rfl⟩
abbrev main_cst_25 : Ref sig .tc := ⟨.hbm, 164, rfl⟩
abbrev main_v127 : Ref sig .tc := ⟨.hbm, 165, rfl⟩
abbrev main_v128 : Ref sig .tc := ⟨.hbm, 166, rfl⟩
abbrev main_cst_26 : Ref sig .tc := ⟨.hbm, 167, rfl⟩
abbrev main_v129 : Ref sig .tc := ⟨.hbm, 168, rfl⟩
abbrev main_v130 : Ref sig .tc := ⟨.hbm, 169, rfl⟩
abbrev main_cst_27 : Ref sig .tc := ⟨.hbm, 170, rfl⟩
abbrev main_v131 : Ref sig .tc := ⟨.hbm, 171, rfl⟩
abbrev main_cst_28 : Ref sig .tc := ⟨.hbm, 172, rfl⟩
abbrev main_v132 : Ref sig .tc := ⟨.hbm, 173, rfl⟩
abbrev main_cst_29 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_30 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_32 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_33 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_34 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_35 : Ref sig .tc := ⟨.hbm, 220, rfl⟩
abbrev main_v173 : Ref sig .tc := ⟨.hbm, 221, rfl⟩
abbrev main_v174 : Ref sig .tc := ⟨.hbm, 222, rfl⟩
abbrev main_cst_36 : Ref sig .tc := ⟨.hbm, 223, rfl⟩
abbrev main_v175 : Ref sig .tc := ⟨.hbm, 224, rfl⟩
abbrev main_v176 : Ref sig .tc := ⟨.hbm, 225, rfl⟩
abbrev main_call1_cst : Ref sig .tc := ⟨.hbm, 226, rfl⟩
abbrev main_call1_v0 : Ref sig .tc := ⟨.hbm, 227, rfl⟩
abbrev main_v177 : Ref sig .tc := ⟨.hbm, 228, rfl⟩
abbrev main_cst_37 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_38 : Ref sig .tc := ⟨.hbm, 239, rfl⟩
abbrev main_v187 : Ref sig .tc := ⟨.hbm, 240, rfl⟩
abbrev main_cst_39 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_40 : Ref sig .tc := ⟨.hbm, 249, rfl⟩
abbrev main_v195 : Ref sig .tc := ⟨.hbm, 250, rfl⟩
abbrev main_cst_41 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_42 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_43 : Ref sig .tc := ⟨.hbm, 264, rfl⟩
abbrev main_v207 : Ref sig .tc := ⟨.hbm, 265, rfl⟩
abbrev main_v208 : Ref sig .tc := ⟨.hbm, 266, rfl⟩
abbrev main_cst_44 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_cst_45 : Ref sig .tc := ⟨.hbm, 273, rfl⟩
abbrev main_v214 : Ref sig .tc := ⟨.hbm, 274, rfl⟩
abbrev main_v215 : Ref sig .tc := ⟨.hbm, 275, rfl⟩
abbrev main_cst_46 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_47 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_48 : Ref sig .tc := ⟨.hbm, 289, rfl⟩
abbrev main_v227 : Ref sig .tc := ⟨.hbm, 290, rfl⟩
abbrev main_v228 : Ref sig .tc := ⟨.hbm, 291, rfl⟩
abbrev main_cst_49 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_cst_50 : Ref sig .tc := ⟨.hbm, 298, rfl⟩
abbrev main_v234 : Ref sig .tc := ⟨.hbm, 299, rfl⟩
abbrev main_v235 : Ref sig .tc := ⟨.hbm, 300, rfl⟩
abbrev main_cst_51 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_52 : Ref sig .tc := ⟨.hbm, 309, rfl⟩
abbrev main_v243 : Ref sig .tc := ⟨.hbm, 310, rfl⟩
abbrev main_v244 : Ref sig .tc := ⟨.hbm, 311, rfl⟩
abbrev main_cst_53 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_54 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩

abbrev nD : Nat := 1
abbrev τ : Topo := Topo.v7x

variable {F : FTy → Type} [FloatOps F]
-- ==== FwdUp.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S8192x2816 : Shape := ⟨2, ![8192, 2816]⟩
abbrev S512x1024 : Shape := ⟨2, ![512, 1024]⟩
abbrev S1x1x1024x1408 : Shape := ⟨4, ![1, 1, 1024, 1408]⟩
abbrev S512x1408 : Shape := ⟨2, ![512, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S1x4x1024x1408, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdUpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | .hbm, ⟨30, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== FwdConv.lean ====
abbrev S8192x3072 : Shape := ⟨2, ![8192, 3072]⟩
abbrev S1x3x1024 : Shape := ⟨3, ![1, 3, 1024]⟩
abbrev S_ : Shape := ⟨0, ![]⟩
abbrev S8x1024 : Shape := ⟨2, ![8, 1024]⟩
abbrev S3x1024 : Shape := ⟨2, ![3, 1024]⟩
abbrev S3x256 : Shape := ⟨2, ![3, 256]⟩
abbrev S1x8x1024 : Shape := ⟨3, ![1, 8, 1024]⟩
abbrev S3x8x1024 : Shape := ⟨3, ![3, 8, 1024]⟩
abbrev S8192x1024 : Shape := ⟨2, ![8192, 1024]⟩
abbrev S2048x512 : Shape := ⟨2, ![2048, 512]⟩
abbrev S8x512 : Shape := ⟨2, ![8, 512]⟩
abbrev S3x8x512 : Shape := ⟨3, ![3, 8, 512]⟩
abbrev S1x8x512 : Shape := ⟨3, ![1, 8, 512]⟩
abbrev S1x512 : Shape := ⟨2, ![1, 512]⟩
abbrev S2040x512 : Shape := ⟨2, ![2040, 512]⟩

abbrev nBuf : Space → Nat
  | .hbm => 26
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S1x3x1024, .f32⟩
  | .hbm, ⟨2, _⟩ => ⟨S_, .f32⟩
  | .hbm, ⟨3, _⟩ => ⟨S8x1024, .f32⟩
  | .hbm, ⟨4, _⟩ => ⟨S3x1024, .f32⟩
  | .hbm, ⟨5, _⟩ => ⟨S3x256, .f32⟩
  | .hbm, ⟨6, _⟩ => ⟨S_, .i32⟩
  | .hbm, ⟨7, _⟩ => ⟨S_, .i32⟩
  | .hbm, ⟨8, _⟩ => ⟨S8x1024, .f32⟩
  | .hbm, ⟨9, _⟩ => ⟨S3x1024, .f32⟩
  | .hbm, ⟨10, _⟩ => ⟨S3x256, .f32⟩
  | .hbm, ⟨11, _⟩ => ⟨S_, .f32⟩
  | .hbm, ⟨12, _⟩ => ⟨S8x1024, .f32⟩
  | .hbm, ⟨13, _⟩ => ⟨S3x1024, .f32⟩
  | .hbm, ⟨14, _⟩ => ⟨S3x256, .f32⟩
  | .hbm, ⟨15, _⟩ => ⟨S_, .f32⟩
  | .hbm, ⟨16, _⟩ => ⟨S8x1024, .f32⟩
  | .hbm, ⟨17, _⟩ => ⟨S3x1024, .f32⟩
  | .hbm, ⟨18, _⟩ => ⟨S3x256, .f32⟩
  | .hbm, ⟨19, _⟩ => ⟨S_, .f32⟩
  | .hbm, ⟨20, _⟩ => ⟨S8x1024, .f32⟩
  | .hbm, ⟨21, _⟩ => ⟨S1x8x1024, .f32⟩
  | .hbm, ⟨22, _⟩ => ⟨S1x8x1024, .f32⟩
  | .hbm, ⟨23, _⟩ => ⟨S1x8x1024, .f32⟩
  | .hbm, ⟨24, _⟩ => ⟨S3x8x1024, .f32⟩
  | .hbm, ⟨25, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S3x8x512, .f32⟩
  | .local _ .vmem, ⟨9, _⟩ => ⟨S3x8x512, .f32⟩
  | .local _ .vmem, ⟨10, _⟩ => ⟨S2048x512, .bf16⟩
  | .local _ .vmem, ⟨11, _⟩ => ⟨S2048x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdConvRefIdeal.lean ====
abbrev S8192x3072 : Shape := ⟨2, ![8192, 3072]⟩
abbrev S1x3x1024 : Shape := ⟨3, ![1, 3, 1024]⟩
abbrev S4x2048x3072 : Shape := ⟨3, ![4, 2048, 3072]⟩
abbrev S3x1024 : Shape := ⟨2, ![3, 1024]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x3x1024, .f32⟩
  | .hbm, ⟨2, _⟩ => ⟨S8192x3072, .f32⟩
  | .hbm, ⟨3, _⟩ => ⟨S4x2048x3072, .f32⟩
  | .hbm, ⟨4, _⟩ => ⟨S3x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2x1024, .f32⟩
  | .hbm, ⟨11, _⟩ => ⟨S4x2050x1024, .f32⟩
  | .hbm, ⟨12, _⟩ => ⟨S1x1024, .f32⟩
  | .hbm, ⟨13, _⟩ => ⟨S1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S8192x1024, .f32⟩
  | .hbm, ⟨34, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== FwdIn.lean ====
abbrev S8192x1024 : Shape := ⟨2, ![8192, 1024]⟩
abbrev S1x1024 : Shape := ⟨2, ![1, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S8192x3072 : Shape := ⟨2, ![8192, 3072]⟩
abbrev S512x1024 : Shape := ⟨2, ![512, 1024]⟩
abbrev S512x3072 : Shape := ⟨2, ![512, 3072]⟩
abbrev S1x1x1024x768 : Shape := ⟨4, ![1, 1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S1024x4x768, .bf16⟩
  | .hbm, ⟨5, _⟩ => ⟨S4x1024x768, .bf16⟩
  | .hbm, ⟨6, _⟩ => ⟨S1x4x1024x768, .bf16⟩
  | .hbm, ⟨7, _⟩ => ⟨S8192x1024, .bf16⟩
  | .hbm, ⟨8, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x768, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRefIdeal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x3072, .f32⟩
  | .hbm, ⟨20, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FwdDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x2816x1024 : Shape := ⟨3, ![1, 2816, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S2816x1024, .bf16⟩
  | .hbm, ⟨5, _⟩ => ⟨S1x2816x1024, .bf16⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FwdAttn.lean ====
abbrev S8192x1536 : Shape := ⟨2, ![8192, 1536]⟩
abbrev S1x64 : Shape := ⟨2, ![1, 64]⟩
abbrev S1x16 : Shape := ⟨2, ![1, 16]⟩
abbrev S1x128 : Shape := ⟨2, ![1, 128]⟩
abbrev S8192x1024 : Shape := ⟨2, ![8192, 1024]⟩
abbrev S2048x1536 : Shape := ⟨2, ![2048, 1536]⟩
abbrev S2048x1024 : Shape := ⟨2, ![2048, 1024]⟩
abbrev S2x8x256x128 : Shape := ⟨4, ![2, 8, 256, 128]⟩
abbrev S256x128 : Shape := ⟨2, ![256, 128]⟩
abbrev S1x1x256x128 : Shape := ⟨4, ![1, 1, 256, 128]⟩
abbrev S128x128 : Shape := ⟨2, ![128, 128]⟩
abbrev S256 : Shape := ⟨1, ![256]⟩
abbrev S256x1 : Shape := ⟨2, ![256, 1]⟩
abbrev S512x128 : Shape := ⟨2, ![512, 128]⟩
abbrev S128 : Shape := ⟨1, ![128]⟩
abbrev S128x1 : Shape := ⟨2, ![128, 1]⟩
abbrev S1x1 : Shape := ⟨2, ![1, 1]⟩

abbrev nBuf : Space → Nat
  | .hbm => 7
  | .vmem => 7
  | .smem => 1
  | _ => 0

abbrev bufTy : (tb : Table) → Fin (tcTables nBuf tb) → BufTy
  | .hbm, ⟨0, _⟩ => ⟨S8192x1536, .bf16⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S1x128, .f32⟩
  | .hbm, ⟨5, _⟩ => ⟨S1x128, .f32⟩
  | .hbm, ⟨6, _⟩ => ⟨S8192x1024, .bf16⟩
  | .local _ .vmem, ⟨0, _⟩ => ⟨S2048x1536, .bf16⟩
  | .local _ .vmem, ⟨1, _⟩ => ⟨S2048x1536, .bf16⟩
  | .local _ .vmem, ⟨2, _⟩ => ⟨S1x128, .f32⟩
  | .local _ .vmem, ⟨3, _⟩ => ⟨S1x128, .f32⟩
  | .local _ .vmem, ⟨4, _⟩ => ⟨S2048x1024, .bf16⟩
  | .local _ .vmem, ⟨5, _⟩ => ⟨S2048x1024, .bf16⟩
  | .local _ .vmem, ⟨6, _⟩ => ⟨S2x8x256x128, .f32⟩
  | .local _ .smem, ⟨0, _⟩ => ⟨S1x16, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c16_i32 : BitVec 32 := 16#32
  let v15 : BitVec 32 := Scalar.addi c0_i32_4 c16_i32
  let c1_i32 : BitVec 32 := 1#32
  ⟨c0_i32_4, v15, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  v16
def k0_mult2 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  v20
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v23 : Index := Scalar.indexCast v21
  let c1024 : Index := 1024#32
  ![v23.toNat, 1024]
def k0_off2 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v25 : Index := Scalar.indexCast v17
  let c1024_10 : Index := 1024#32
  ![v25.toNat, 1024]
def k0_off3 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v29 : Index := Scalar.indexCast v21
  let c1280 : Index := 1280#32
  ![v29.toNat, 1280]
def k0_off4 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v31 : Index := Scalar.indexCast v17
  let c1280_11 : Index := 1280#32
  ![v31.toNat, 1280]
def k0_off5 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v77 : Index := Scalar.indexCast v17
  let c0_22 : Index := 0#32
  ![v77.toNat, 0]
def k0_off6 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v117 : Index := Scalar.indexCast v22
  let c0_30 : Index := 0#32
  let c0_31 : Index := 0#32
  let c0_32 : Index := 0#32
  ![v117.toNat, 0, 0, 0]
def k0_off7 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v171 : Index := Scalar.indexCast v17
  let c0_47 : Index := 0#32
  ![v171.toNat, 0]
def k0_off8 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v173 : Index := Scalar.indexCast v17
  let c128 : Index := 128#32
  ![v173.toNat, 128]
def k0_off9 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v213 : Index := Scalar.indexCast v22
  let c1_55 : Index := 1#32
  let c0_56 : Index := 0#32
  let c0_57 : Index := 0#32
  ![v213.toNat, 1, 0, 0]
def k0_off10 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v267 : Index := Scalar.indexCast v17
  let c128_71 : Index := 128#32
  ![v267.toNat, 128]
def k0_off11 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v285 : Index := Scalar.indexCast v17
  let c256 : Index := 256#32
  ![v285.toNat, 256]
def k0_off12 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v325 : Index := Scalar.indexCast v22
  let c2_85 : Index := 2#32
  let c0_86 : Index := 0#32
  let c0_87 : Index := 0#32
  ![v325.toNat, 2, 0, 0]
def k0_off13 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v379 : Index := Scalar.indexCast v17
  let c256_101 : Index := 256#32
  ![v379.toNat, 256]
def k0_off14 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v381 : Index := Scalar.indexCast v17
  let c384 : Index := 384#32
  ![v381.toNat, 384]
def k0_off15 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v421 : Index := Scalar.indexCast v22
  let c3_109 : Index := 3#32
  let c0_110 : Index := 0#32
  let c0_111 : Index := 0#32
  ![v421.toNat, 3, 0, 0]
def k0_off16 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v475 : Index := Scalar.indexCast v17
  let c384_125 : Index := 384#32
  ![v475.toNat, 384]
def k0_off17 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v477 : Index := Scalar.indexCast v21
  let c1152 : Index := 1152#32
  ![v477.toNat, 1152]
def k0_off18 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v479 : Index := Scalar.indexCast v17
  let c1152_126 : Index := 1152#32
  ![v479.toNat, 1152]
def k0_off19 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v483 : Index := Scalar.indexCast v21
  let c1408 : Index := 1408#32
  ![v483.toNat, 1408]
def k0_off20 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v485 : Index := Scalar.indexCast v17
  let c1408_127 : Index := 1408#32
  ![v485.toNat, 1408]
def k0_off21 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v531 : Index := Scalar.indexCast v17
  let c512 : Index := 512#32
  ![v531.toNat, 512]
def k0_off22 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v571 : Index := Scalar.indexCast v22
  let c4_145 : Index := 4#32
  let c0_146 : Index := 0#32
  let c0_147 : Index := 0#32
  ![v571.toNat, 4, 0, 0]
def k0_off23 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v625 : Index := Scalar.indexCast v17
  let c512_161 : Index := 512#32
  ![v625.toNat, 512]
def k0_off24 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v627 : Index := Scalar.indexCast v17
  let c640 : Index := 640#32
  ![v627.toNat, 640]
def k0_off25 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v667 : Index := Scalar.indexCast v22
  let c5_169 : Index := 5#32
  let c0_170 : Index := 0#32
  let c0_171 : Index := 0#32
  ![v667.toNat, 5, 0, 0]
def k0_off26 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v721 : Index := Scalar.indexCast v17
  let c640_185 : Index := 640#32
  ![v721.toNat, 640]
def k0_off27 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v739 : Index := Scalar.indexCast v17
  let c768 : Index := 768#32
  ![v739.toNat, 768]
def k0_off28 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v779 : Index := Scalar.indexCast v22
  let c6_199 : Index := 6#32
  let c0_200 : Index := 0#32
  let c0_201 : Index := 0#32
  ![v779.toNat, 6, 0, 0]
def k0_off29 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v833 : Index := Scalar.indexCast v17
  let c768_215 : Index := 768#32
  ![v833.toNat, 768]
def k0_off30 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v835 : Index := Scalar.indexCast v17
  let c896 : Index := 896#32
  ![v835.toNat, 896]
def k0_off31 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v875 : Index := Scalar.indexCast v22
  let c7_223 : Index := 7#32
  let c0_224 : Index := 0#32
  let c0_225 : Index := 0#32
  ![v875.toNat, 7, 0, 0]
def k0_off32 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v929 : Index := Scalar.indexCast v17
  let c896_239 : Index := 896#32
  ![v929.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdAttnIdeal.lean ====
variable {F : FTy → Type} [FloatOps F] [Named F]
def κ : String → Option EReal := fun
  | "mask" => some ⊥
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== FwdAttnRefIdeal.lean ====
abbrev S8192x1536 : Shape := ⟨2, ![8192, 1536]⟩
abbrev S1x64 : Shape := ⟨2, ![1, 64]⟩
abbrev S1x16 : Shape := ⟨2, ![1, 16]⟩
abbrev S4x2048x1536 : Shape := ⟨3, ![4, 2048, 1536]⟩
abbrev S64 : Shape := ⟨1, ![64]⟩
abbrev S16 : Shape := ⟨1, ![16]⟩
abbrev S4x2048x1024 : Shape := ⟨3, ![4, 2048, 1024]⟩
abbrev S4x2048x4x4x64 : Shape := ⟨5, ![4, 2048, 4, 4, 64]⟩
abbrev S4x2048x256 : Shape := ⟨3, ![4, 2048, 256]⟩
abbrev S4x2048x4x64 : Shape := ⟨4, ![4, 2048, 4, 64]⟩
abbrev S_ : Shape := ⟨0, ![]⟩
abbrev S4x2048x4x4 : Shape := ⟨4, ![4, 2048, 4, 4]⟩
abbrev S4x2048x4x4x1 : Shape := ⟨5, ![4, 2048, 4, 4, 1]⟩
abbrev S1x1x1x1x64 : Shape := ⟨5, ![1, 1, 1, 1, 64]⟩
abbrev S4x2048x4 : Shape := ⟨3, ![4, 2048, 4]⟩
abbrev S4x2048x4x1 : Shape := ⟨4, ![4, 2048, 4, 1]⟩
abbrev S1x1x1x64 : Shape := ⟨4, ![1, 1, 1, 64]⟩
abbrev S4x16x128x4x4x64 : Shape := ⟨6, ![4, 16, 128, 4, 4, 64]⟩
abbrev S4x128x4x64 : Shape := ⟨4, ![4, 128, 4, 64]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S4x16x256x4x64 : Shape := ⟨5, ![4, 16, 256, 4, 64]⟩
abbrev S4x16x4x256x128x4 : Shape := ⟨6, ![4, 16, 4, 256, 128, 4]⟩
abbrev S4x16x4x4x128x256 : Shape := ⟨6, ![4, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x16x1x1x128x256 : Shape := ⟨6, ![1, 16, 1, 1, 128, 256]⟩
abbrev S1x1x4x4x1x1 : Shape := ⟨6, ![1, 1, 4, 4, 1, 1]⟩
abbrev S4x16x4x4x128x1 : Shape := ⟨6, ![4, 16, 4, 4, 128, 1]⟩
abbrev S4x16x4x4x128x257 : Shape := ⟨6, ![4, 16, 4, 4, 128, 257]⟩
abbrev S4x16x4x4x128 : Shape := ⟨5, ![4, 16, 4, 4, 128]⟩
abbrev S4x16x4x64x4x128 : Shape := ⟨6, ![4, 16, 4, 64, 4, 128]⟩
abbrev S8192x1024 : Shape := ⟨2, ![8192, 1024]⟩

abbrev nBuf : Space → Nat
  | .hbm => 158
  | .vmem => 0
  | .smem => 0
  | _ => 0

abbrev hbmTy0_0 (i : Nat) : BufTy := match i % 128 with
  | 0 => ⟨S8192x1536, .bf16⟩
  | 1 => ⟨S1x64, .f32⟩
  | 2 => ⟨S1x64, .f32⟩
  | 3 => ⟨S1x16, .f32⟩
  | 4 => ⟨S8192x1536, .f32⟩
  | 5 => ⟨S4x2048x1536, .f32⟩
  | 6 => ⟨S64, .f32⟩
  | 7 => ⟨S64, .f32⟩
  | 8 => ⟨S16, .f32⟩
  | 9 => ⟨S4x2048x1024, .f32⟩
  | 10 => ⟨S4x2048x4x4x64, .f32⟩
  | 11 => ⟨S4x2048x256, .f32⟩
  | 12 => ⟨S4x2048x4x64, .f32⟩
  | 13 => ⟨S4x2048x256, .f32⟩
  | 14 => ⟨S4x2048x4x64, .f32⟩
  | 15 => ⟨S4x2048x4x4x64, .f32⟩
  | 16 => ⟨S_, .f32⟩
  | 17 => ⟨S4x2048x4x4, .f32⟩
  | 18 => ⟨S4x2048x4x4x1, .f32⟩
  | 19 => ⟨S_, .f32⟩
  | 20 => ⟨S4x2048x4x4x1, .f32⟩
  | 21 => ⟨S4x2048x4x4x1, .f32⟩
  | 22 => ⟨S_, .f32⟩
  | 23 => ⟨S4x2048x4x4x1, .f32⟩
  | 24 => ⟨S4x2048x4x4x1, .f32⟩
  | 25 => ⟨S4x2048x4x4x1, .f32⟩
  | 26 => ⟨S4x2048x4x4x64, .f32⟩
  | 27 => ⟨S4x2048x4x4x64, .f32⟩
  | 28 => ⟨S1x1x1x1x64, .f32⟩
  | 29 => ⟨S4x2048x4x4x64, .f32⟩
  | 30 => ⟨S4x2048x4x4x64, .f32⟩
  | 31 => ⟨S4x2048x4x64, .f32⟩
  | 32 => ⟨S_, .f32⟩
  | 33 => ⟨S4x2048x4, .f32⟩
  | 34 => ⟨S4x2048x4x1, .f32⟩
  | 35 => ⟨S_, .f32⟩
  | 36 => ⟨S4x2048x4x1, .f32⟩
  | 37 => ⟨S4x2048x4x1, .f32⟩
  | 38 => ⟨S_, .f32⟩
  | 39 => ⟨S4x2048x4x1, .f32⟩
  | 40 => ⟨S4x2048x4x1, .f32⟩
  | 41 => ⟨S4x2048x4x1, .f32⟩
  | 42 => ⟨S4x2048x4x64, .f32⟩
  | 43 => ⟨S4x2048x4x64, .f32⟩
  | 44 => ⟨S1x1x1x64, .f32⟩
  | 45 => ⟨S4x2048x4x64, .f32⟩
  | 46 => ⟨S4x2048x4x64, .f32⟩
  | 47 => ⟨S4x16x128x4x4x64, .f32⟩
  | 48 => ⟨S_, .f32⟩
  | 49 => ⟨S4x128x4x64, .f32⟩
  | 50 => ⟨S4x2176x4x64, .f32⟩
  | 51 => ⟨S4x17x128x4x64, .f32⟩
  | 52 => ⟨S4x16x128x4x64, .f32⟩
  | 53 => ⟨S4x16x128x4x64, .f32⟩
  | 54 => ⟨S4x16x256x4x64, .f32⟩
  | 55 => ⟨S_, .f32⟩
  | 56 => ⟨S4x128x4x64, .f32⟩
  | 57 => ⟨S4x2176x4x64, .f32⟩
  | 58 => ⟨S4x17x128x4x64, .f32⟩
  | 59 => ⟨S4x16x128x4x64, .f32⟩
  | 60 => ⟨S4x16x128x4x64, .f32⟩
  | 61 => ⟨S4x16x256x4x64, .f32⟩
  | 62 => ⟨S4x16x4x256x128x4, .f32⟩
  | 63 => ⟨S4x16x4x4x128x256, .f32⟩
  | 64 => ⟨S_, .f32⟩
  | 65 => ⟨S4x16x4x4x128x256, .f32⟩
  | 66 => ⟨S4x16x4x4x128x256, .f32⟩
  | 67 => ⟨S128, .i32⟩
  | 68 => ⟨S128x1, .i32⟩
  | 69 => ⟨S256, .i32⟩
  | 70 => ⟨S1x256, .i32⟩
  | 71 => ⟨S_, .i32⟩
  | 72 => ⟨S128x1, .i32⟩
  | 73 => ⟨S128x1, .i32⟩
  | 74 => ⟨S128x256, .i32⟩
  | 75 => ⟨S128x256, .i32⟩
  | 76 => ⟨S128x256, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S16x1x1, .i32⟩
  | 85 => ⟨S1x1x256, .i32⟩
  | 86 => ⟨S16x1x256, .i32⟩
  | 87 => ⟨S16x1x256, .i32⟩
  | 88 => ⟨S16x1x256, .i32⟩
  | 89 => ⟨S_, .i32⟩
  | 90 => ⟨S128x256, .i32⟩
  | 91 => ⟨S128x256, .i1⟩
  | 92 => ⟨S1x128x256, .i1⟩
  | 93 => ⟨S_, .i32⟩
  | 94 => ⟨S128x256, .i32⟩
  | 95 => ⟨S128x256, .i1⟩
  | 96 => ⟨S1x128x256, .i1⟩
  | 97 => ⟨S1x128x256, .i1⟩
  | 98 => ⟨S_, .i32⟩
  | 99 => ⟨S16x1x256, .i32⟩
  | 100 => ⟨S16x1x256, .i1⟩
  | 101 => ⟨S16x128x256, .i1⟩
  | 102 => ⟨S16x128x256, .i1⟩
  | 103 => ⟨S16x128x256, .i1⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S4x4, .f32⟩
  | 118 => ⟨S4x4x1x1, .f32⟩
  | 119 => ⟨S4x4x1x1, .f32⟩
  | 120 => ⟨S128x256, .f32⟩
  | 121 => ⟨S1x1x128x256, .f32⟩
  | 122 => ⟨S4x4x128x256, .f32⟩
  | 123 => ⟨S4x4x128x256, .f32⟩
  | 124 => ⟨S4x4x128x256, .f32⟩
  | 125 => ⟨S1x1x4x4x128x256, .f32⟩
  | 126 => ⟨S4x16x4x4x128x256, .f32⟩
  | 127 => ⟨S4x16x4x4x128x256, .f32⟩
  | _ => ⟨S8192x1536, .bf16⟩

abbrev hbmTy0_1 (i : Nat) : BufTy := match i % 128 with
  | 0 => ⟨S1x16x1x1x128x256, .i1⟩
  | 1 => ⟨S_, .f32⟩
  | 2 => ⟨S_, .f32⟩
  | 3 => ⟨S4x16x4x4x128x256, .i1⟩
  | 4 => ⟨S4x16x4x4x128x256, .f32⟩
  | 5 => ⟨S4x16x4x4x128x256, .f32⟩
  | 6 => ⟨S4x4, .f32⟩
  | 7 => ⟨S1x1x4x4x1x1, .f32⟩
  | 8 => ⟨S4x16x4x4x128x1, .f32⟩
  | 9 => ⟨S4x16x4x4x128x257, .f32⟩
  | 10 => ⟨S_, .f32⟩
  | 11 => ⟨S4x16x4x4x128, .f32⟩
  | 12 => ⟨S_, .f32⟩
  | 13 => ⟨S4x16x4x4x128, .f32⟩
  | 14 => ⟨S4x16x4x4x128, .f32⟩
  | 15 => ⟨S4x16x4x4x128x1, .f32⟩
  | 16 => ⟨S4x16x4x4x128x257, .f32⟩
  | 17 => ⟨S4x16x4x4x128x257, .f32⟩
  | 18 => ⟨S4x16x4x4x128x257, .f32⟩
  | 19 => ⟨S_, .f32⟩
  | 20 => ⟨S4x16x4x4x128, .f32⟩
  | 21 => ⟨S4x16x4x4x128x1, .f32⟩
  | 22 => ⟨S4x16x4x4x128x257, .f32⟩
  | 23 => ⟨S4x16x4x4x128x257, .f32⟩
  | 24 => ⟨S4x16x4x4x128x256, .f32⟩
  | 25 => ⟨S4x16x4x64x4x128, .f32⟩
  | 26 => ⟨S4x16x128x4x4x64, .f32⟩
  | 27 => ⟨S4x2048x1024, .f32⟩
  | 28 => ⟨S8192x1024, .f32⟩
  | 29 => ⟨S8192x1024, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_8 : Ref sig .tc := ⟨.hbm, 78, rfl⟩
abbrev main_v64 : Ref sig .tc := ⟨.hbm, 79, rfl⟩
abbrev main_v65 : Ref sig .tc := ⟨.hbm, 80, rfl⟩
abbrev main_c_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_11 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_12 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_13 : Ref sig .tc := ⟨.hbm, 105, rfl⟩
abbrev main_v86 : Ref sig .tc := ⟨.hbm, 106, rfl⟩
abbrev main_v87 : Ref sig .tc := ⟨.hbm, 107, rfl⟩
abbrev main_cst_14 : Ref sig .tc := ⟨.hbm, 108, rfl⟩
abbrev main_v88 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_v91 : Ref sig .tc := ⟨.hbm, 113, rfl⟩
abbrev main_cst_16 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_17 : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_18 : Ref sig .tc := ⟨.hbm, 138, rfl⟩
abbrev main_v111 : Ref sig .tc := ⟨.hbm, 139, rfl⟩
abbrev main_cst_19 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_20 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩

abbrev nD : Nat := 1
abbrev τ : Topo := Topo.v7x

variable {F : FTy → Type} [FloatOps F]
-- ==== DgradDown.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DgradDownRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FwdQkv.lean ====
abbrev S8192x1024 : Shape := ⟨2, ![8192, 1024]⟩
abbrev S1024x1536 : Shape := ⟨2, ![1024, 1536]⟩
abbrev S1024x4x384 : Shape := ⟨3, ![1024, 4, 384]⟩
abbrev S4x1024x384 : Shape := ⟨3, ![4, 1024, 384]⟩
abbrev S1x4x1024x384 : Shape := ⟨4, ![1, 4, 1024, 384]⟩
abbrev S8192x1536 : Shape := ⟨2, ![8192, 1536]⟩
abbrev S1024x1024 : Shape := ⟨2, ![1024, 1024]⟩
abbrev S1x1x1024x384 : Shape := ⟨4, ![1, 1, 1024, 384]⟩
abbrev S1024x384 : Shape := ⟨2, ![1024, 384]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .f32⟩
  | .hbm, ⟨2, _⟩ => ⟨S1024x1536, .bf16⟩
  | .hbm, ⟨3, _⟩ => ⟨S1024x4x384, .bf16⟩
  | .hbm, ⟨4, _⟩ => ⟨S4x1024x384, .bf16⟩
  | .hbm, ⟨5, _⟩ => ⟨S1x4x1024x384, .bf16⟩
  | .hbm, ⟨6, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1x4x1024x384, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdQkvRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .f32⟩
  | .hbm, ⟨2, _⟩ => ⟨S8192x1024, .f32⟩
  | .hbm, ⟨3, _⟩ => ⟨S8192x1536, .f32⟩
  | .hbm, ⟨4, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WgradQkv.lean ====
abbrev S8192x1024 : Shape := ⟨2, ![8192, 1024]⟩
abbrev S8192x1536 : Shape := ⟨2, ![8192, 1536]⟩
abbrev S4x1024x384 : Shape := ⟨3, ![4, 1024, 384]⟩
abbrev S2048x1024 : Shape := ⟨2, ![2048, 1024]⟩
abbrev S2048x1536 : Shape := ⟨2, ![2048, 1536]⟩
abbrev S1024x1536 : Shape := ⟨2, ![1024, 1536]⟩
abbrev S1x1024x384 : Shape := ⟨3, ![1, 1024, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S4x1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradQkvRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradUp.lean ====
abbrev S8192x1024 : Shape := ⟨2, ![8192, 1024]⟩
abbrev S8192x2816 : Shape := ⟨2, ![8192, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .f32⟩
  | .local _ .vmem, ⟨7, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c3_i32 : BitVec 32 := 3#32
  let v1 : BitVec 32 := Scalar.select v0 arg1 c3_i32
  let c1_i32 : BitVec 32 := 1#32
  let v2 : BitVec 32 := Scalar.minsi arg0 c1_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgradUpRefIdeal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .bf16⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== WgradConv.lean ====
abbrev S8192x1024 : Shape := ⟨2, ![8192, 1024]⟩
abbrev S3x8192x1024 : Shape := ⟨3, ![3, 8192, 1024]⟩
abbrev S4x1024x768 : Shape := ⟨3, ![4, 1024, 768]⟩
abbrev S512x1024 : Shape := ⟨2, ![512, 1024]⟩
abbrev S3x512x1024 : Shape := ⟨3, ![3, 512, 1024]⟩
abbrev S1x512x1024 : Shape := ⟨3, ![1, 512, 1024]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S4x1024x768, .f32⟩
  | .local _ .vmem, ⟨0, _⟩ => ⟨S512x1024, .bf16⟩
  | .local _ .vmem, ⟨1, _⟩ => ⟨S512x1024, .bf16⟩
  | .local _ .vmem, ⟨2, _⟩ => ⟨S3x512x1024, .bf16⟩
  | .local _ .vmem, ⟨3, _⟩ => ⟨S3x512x1024, .bf16⟩
  | .local _ .vmem, ⟨4, _⟩ => ⟨S4x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradConvRefIdeal.lean ====
abbrev S8192x1024 : Shape := ⟨2, ![8192, 1024]⟩
abbrev S3x8192x1024 : Shape := ⟨3, ![3, 8192, 1024]⟩
abbrev S_ : Shape := ⟨0, ![]⟩
abbrev S1024x3072 : Shape := ⟨2, ![1024, 3072]⟩
abbrev S8192x3072 : Shape := ⟨2, ![8192, 3072]⟩
abbrev S8192x3x1024 : Shape := ⟨3, ![8192, 3, 1024]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3x1024, .bf16⟩
  | .hbm, ⟨7, _⟩ => ⟨S8192x3072, .bf16⟩
  | .hbm, ⟨8, _⟩ => ⟨S8192x3072, .f32⟩
  | .hbm, ⟨9, _⟩ => ⟨S3072x1024, .f32⟩
  | .hbm, ⟨10, _⟩ => ⟨S1024x3072, .f32⟩
  | .hbm, ⟨11, _⟩ => ⟨S1024x4x768, .f32⟩
  | .hbm, ⟨12, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Adam.lean ====
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumHalves.lean ====
abbrev S4x1024x1408 : Shape := ⟨3, ![4, 1024, 1408]⟩
abbrev S4x512x1408 : Shape := ⟨3, ![4, 512, 1408]⟩
abbrev S8192x1024 : Shape := ⟨2, ![8192, 1024]⟩
abbrev S_ : Shape := ⟨0, ![]⟩
abbrev S2 : Shape := ⟨1, ![2]⟩
abbrev S512x1408 : Shape := ⟨2, ![512, 1408]⟩
abbrev S4x256x1408 : Shape := ⟨3, ![4, 256, 1408]⟩
abbrev S1 : Shape := ⟨1, ![1]⟩
abbrev S256x1408 : Shape := ⟨2, ![256, 1408]⟩
abbrev S1x256x1408 : Shape := ⟨3, ![1, 256, 1408]⟩

abbrev nBuf : Space → Nat
  | .hbm => 6
  | .vmem => 8
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S8192x1024, .bf16⟩
  | .hbm, ⟨3, _⟩ => ⟨S_, .i32⟩
  | .hbm, ⟨4, _⟩ => ⟨S4x512x1408, .bf16⟩
  | .hbm, ⟨5, _⟩ => ⟨S512x1408, .f32⟩
  | .local _ .vmem, ⟨0, _⟩ => ⟨S4x256x1408, .f32⟩
  | .local _ .vmem, ⟨1, _⟩ => ⟨S4x256x1408, .f32⟩
  | .local _ .vmem, ⟨2, _⟩ => ⟨S4x256x1408, .f32⟩
  | .local _ .vmem, ⟨3, _⟩ => ⟨S4x256x1408, .f32⟩
  | .local _ .vmem, ⟨4, _⟩ => ⟨S4x256x1408, .bf16⟩
  | .local _ .vmem, ⟨5, _⟩ => ⟨S4x256x1408, .bf16⟩
  | .local _ .vmem, ⟨6, _⟩ => ⟨S256x1408, .f32⟩
  | .local _ .vmem, ⟨7, _⟩ => ⟨S256x1408, .f32⟩
  | .local _ .smem, ⟨0, _⟩ => ⟨S2, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1_0 : Ref sig .tc := ⟨.hbm, 4, rfl⟩
abbrev main_v1_1 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v5 : BitVec 32) : Fin 3 → Nat :=
  let v6 : Index := Scalar.indexCast v5
  let c0_8 : Index := 0#32
  let c0_9 : Index := 0#32
  ![v6.toNat, 0, 0]

def k0_chk1 (v5 : BitVec 32) : Prop :=
  (∀ a, (k0_off1 v5) a + S1x256x1408.size a ≤ S4x256x1408.size a)
theorem k0_off1_inb : ∀ (v5 : BitVec 32) (k0_hw1 : k0_chk1 v5), ∀ a, (k0_off1 v5) a + S1x256x1408.size a ≤ S4x256x1408.size a := fun v5 k0_hw1 => k0_hw1

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumHalvesRefIdeal.lean ====
abbrev S4x1024x1408 : Shape := ⟨3, ![4, 1024, 1408]⟩
abbrev S4x512x1408 : Shape := ⟨3, ![4, 512, 1408]⟩
abbrev S8192x1024 : Shape := ⟨2, ![8192, 1024]⟩
abbrev S1x512x1408 : Shape := ⟨3, ![1, 512, 1408]⟩
abbrev S512x1408 : Shape := ⟨2, ![512, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S8192x1024, .bf16⟩
  | .hbm, ⟨3, _⟩ => ⟨S4x512x1408, .f32⟩
  | .hbm, ⟨4, _⟩ => ⟨S4x512x1408, .f32⟩
  | .hbm, ⟨5, _⟩ => ⟨S4x512x1408, .bf16⟩
  | .hbm, ⟨6, _⟩ => ⟨S1x512x1408, .f32⟩
  | .hbm, ⟨7, _⟩ => ⟨S512x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CastOwn.lean ====
abbrev S2x1024x1408 : Shape := ⟨3, ![2, 1024, 1408]⟩
abbrev S_ : Shape := ⟨0, ![]⟩
abbrev S2 : Shape := ⟨1, ![2]⟩
abbrev S1x4x1024x1408 : Shape := ⟨4, ![1, 4, 1024, 1408]⟩
abbrev S1x512x1408 : Shape := ⟨3, ![1, 512, 1408]⟩
abbrev S1x1x512x1408 : Shape := ⟨4, ![1, 1, 512, 1408]⟩
abbrev S1 : Shape := ⟨1, ![1]⟩
abbrev S512x1408 : Shape := ⟨2, ![512, 1408]⟩
abbrev S1x1x1024x1408 : Shape := ⟨4, ![1, 1, 1024, 1408]⟩
abbrev S1x1024x1408 : Shape := ⟨3, ![1, 1024, 1408]⟩

abbrev nBuf : Space → Nat
  | .hbm => 5
  | .vmem => 4
  | .smem => 1
  | _ => 0

abbrev bufTy : (tb : Table) → Fin (tcTables nBuf tb) → BufTy
  | .hbm, ⟨0, _⟩ => ⟨S2x1024x1408, .f32⟩
  | .hbm, ⟨1, _⟩ => ⟨S_, .i32⟩
  | .hbm, ⟨2, _⟩ => ⟨S1x4x1024x1408, .bf16⟩
  | .hbm, ⟨3, _⟩ => ⟨S1x1x1024x1408, .bf16⟩
  | .hbm, ⟨4, _⟩ => ⟨S1x1024x1408, .bf16⟩
  | .local _ .vmem, ⟨0, _⟩ => ⟨S1x512x1408, .f32⟩
  | .local _ .vmem, ⟨1, _⟩ => ⟨S1x512x1408, .f32⟩
  | .local _ .vmem, ⟨2, _⟩ => ⟨S1x1x512x1408, .bf16⟩
  | .local _ .vmem, ⟨3, _⟩ => ⟨S1x1x512x1408, .bf16⟩
  | .local _ .smem, ⟨0, _⟩ => ⟨S2, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![arg0.toNat, v0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastOwnRefIdeal.lean ====
abbrev S2x1024x1408 : Shape := ⟨3, ![2, 1024, 1408]⟩
abbrev S1x1024x1408 : Shape := ⟨3, ![1, 1024, 1408]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1x1024x1408, .f32⟩
  | .hbm, ⟨2, _⟩ => ⟨S1x1024x1408, .bf16⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== SumPartials.lean ====
abbrev S512x1408 : Shape := ⟨2, ![512, 1408]⟩
abbrev S3x512x1408 : Shape := ⟨3, ![3, 512, 1408]⟩
abbrev S8192x1024 : Shape := ⟨2, ![8192, 1024]⟩
abbrev S_ : Shape := ⟨0, ![]⟩
abbrev S2 : Shape := ⟨1, ![2]⟩
abbrev S2x1024x1408 : Shape := ⟨3, ![2, 1024, 1408]⟩
abbrev S1x512x1408 : Shape := ⟨3, ![1, 512, 1408]⟩
abbrev S1 : Shape := ⟨1, ![1]⟩

abbrev nBuf : Space → Nat
  | .hbm => 7
  | .vmem => 3
  | .smem => 1
  | _ => 0

abbrev bufTy : (tb : Table) → Fin (tcTables nBuf tb) → BufTy
  | .hbm, ⟨0, _⟩ => ⟨S512x1408, .f32⟩
  | .hbm, ⟨1, _⟩ => ⟨S3x512x1408, .bf16⟩
  | .hbm, ⟨2, _⟩ => ⟨S8192x1024, .f32⟩
  | .hbm, ⟨3, _⟩ => ⟨S_, .i32⟩
  | .hbm, ⟨4, _⟩ => ⟨S2x1024x1408, .f32⟩
  | .hbm, ⟨5, _⟩ => ⟨S1x512x1408, .f32⟩
  | .hbm, ⟨6, _⟩ => ⟨S512x1408, .f32⟩
  | .local _ .vmem, ⟨0, _⟩ => ⟨S512x1408, .f32⟩
  | .local _ .vmem, ⟨1, _⟩ => ⟨S3x512x1408, .bf16⟩
  | .local _ .vmem, ⟨2, _⟩ => ⟨S1x512x1408, .f32⟩
  | .local _ .smem, ⟨0, _⟩ => ⟨S2, .i32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c1_i32_0 : BitVec 32 := 1#32
  let c0_i32 : BitVec 32 := 0#32
  let c0_i32_1 : BitVec 32 := 0#32
  ![c1_i32_0.toNat, v2.toNat, c0_i32.toNat]

abbrev stage0_0 : Fin 1 → Memref sig .tc .vmem S512x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPartialsRefIdeal.lean ====
abbrev S512x1408 : Shape := ⟨2, ![512, 1408]⟩
abbrev S3x512x1408 : Shape := ⟨3, ![3, 512, 1408]⟩
abbrev S8192x1024 : Shape := ⟨2, ![8192, 1024]⟩
abbrev S1x512x1408 : Shape := ⟨3, ![1, 512, 1408]⟩

abbrev nBuf : Space → Nat
  | .hbm => 15
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S3x512x1408, .bf16⟩
  | .hbm, ⟨2, _⟩ => ⟨S8192x1024, .f32⟩
  | .hbm, ⟨3, _⟩ => ⟨S1x512x1408, .bf16⟩
  | .hbm, ⟨4, _⟩ => ⟨S512x1408, .bf16⟩
  | .hbm, ⟨5, _⟩ => ⟨S512x1408, .f32⟩
  | .hbm, ⟨6, _⟩ => ⟨S512x1408, .f32⟩
  | .hbm, ⟨7, _⟩ => ⟨S1x512x1408, .bf16⟩
  | .hbm, ⟨8, _⟩ => ⟨S512x1408, .bf16⟩
  | .hbm, ⟨9, _⟩ => ⟨S512x1408, .f32⟩
  | .hbm, ⟨10, _⟩ => ⟨S512x1408, .f32⟩
  | .hbm, ⟨11, _⟩ => ⟨S1x512x1408, .bf16⟩
  | .hbm, ⟨12, _⟩ => ⟨S512x1408, .bf16⟩
  | .hbm, ⟨13, _⟩ => ⟨S512x1408, .f32⟩
  | .hbm, ⟨14, _⟩ => ⟨S512x1408, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Common.lean ====
/- Arithmetic of the extended reals shared by the value proofs: scaling a sum by a non-negative real, and the constants
   the programs carry as float words. -/
module

public import Idealize.ShloMosaic.Lib.Pipeline.ValueKit
public import Mathlib.Data.EReal.Inv

@[expose] public section

noncomputable section

namespace Cert.Common

open Idealize.ShloMosaic

/-- A rank-2 index is the pair of its coordinates, given by their numbers. -/
theorem eq_ix2_of {n0 n1 : ℕ} {i : (⟨2, ![n0, n1]⟩ : Shape).Idx} {a : Fin n0} {b : Fin n1} (h0 : (i 0).val = a.val)
    (h1 : (i 1).val = b.val) : i = ix2 a b :=
  (eq_ix2 i).trans (congrArg₂ (ix2 (n0 := n0) (n1 := n1)) (Fin.ext h0) (Fin.ext h1))

/-- A non-negative real factor distributes over any sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, EReal.right_distrib_of_nonneg_of_ne_top (by exact_mod_cast hc)
      (EReal.coe_ne_top c)]

theorem bits_inv1024 : Ideal.ofBits .f32 0x3A800000#32 = ((1 / 1024 : ℝ) : EReal) := by
  simp [Ideal.ofBits, Ideal.ieee, -EReal.coe_mul]; norm_num
theorem bits_inv2048 : Ideal.ofBits .f32 0x3A000000#32 = ((1 / 2048 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num

/-- A host sum over the two leading axes of three, ideally: the double sum along them. -/
theorem hostReduceAdd_lead2 {p q r : ℕ} (h : (⟨3, ![p, q, r]⟩ : Shape).ReducesTo [0, 1] ⟨1, ![r]⟩)
    (v : (⟨3, ![p, q, r]⟩ : Shape).Idx → EReal) (init : EReal) (l : Fin r) :
    Ideal.hostReduceAdd h v init (ix1 l) = init + ∑ a : Fin p, ∑ b : Fin q, v (ix3 a b l) := by
  refine congrArg (init + ·) ((Finset.sum_filter_eq_sum_of_fiber _ (fun k : Fin p × Fin q => ix3 k.1 k.2 l)
    (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  · simp only [Fintype.sum_prod_type]

end Cert.Common
-- ==== Proof.Conv.lean ====
/- The value of the convolution's backward call: the gradients of the gated short convolution's three branches (one
   stacked array) and of its taps. The kernel walks blocks of 256 columns and, within one, the four sequences; it shifts
   rows by rotating and masking, and adds the taps' gradient over the sequences in its output block. -/
module

public import proofs.«01_k».proof.Defs
public import proofs.«01_k».proof.Proof.Common
public import proofs.«01_k».proof.Proof.Gen.ConvIdeal.Value
public import proofs.«01_k».proof.Proof.Gen.ConvRefIdeal.Run
public import proofs.«01_k».proof.Proof.Gen.ConvRefIdeal.Read
public import Idealize.ShloMosaic.Lib.StableHlo.RunClose

@[expose] public section

noncomputable section

namespace Cert.ConvValue

open Cert.ConvIdeal Cert.ConvIdeal.Gen Idealize.ShloMosaic Idealize.ShloMosaic.TcCoe Idealize.SL.Sem
open Cert.ConvRefIdeal.Read

variable (m : (ℓ : Loc nD τ sig) → Buf (Elt Ideal) ℓ)

/-! ## The taps a point reads -/

/-- Where the windows' blocks lie at a grid point: sequence `t % 4`, column block `t / 4`. -/
theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = t.val / 4
    ∧ win0_2.index t (0 : Fin 2) = t.val % 4 ∧ win0_2.index t (1 : Fin 2) = 4 + t.val / 4
    ∧ win0_3.index t (0 : Fin 2) = t.val % 4 ∧ win0_3.index t (1 : Fin 2) = 8 + t.val / 4
    ∧ win0_4.index t (0 : Fin 2) = 0 ∧ win0_4.index t (1 : Fin 2) = t.val / 4
    ∧ win0_5.index t (0 : Fin 3) = 0 ∧ win0_5.index t (1 : Fin 3) = 0 ∧ win0_5.index t (2 : Fin 3) = t.val / 4
    ∧ win0_6.index t (0 : Fin 3) = 0 ∧ win0_6.index t (1 : Fin 3) = t.val % 4 ∧ win0_6.index t (2 : Fin 3) = t.val / 4
    ∧ win0_7.index t (0 : Fin 2) = 0 ∧ win0_7.index t (1 : Fin 2) = t.val / 4 :=
  (by decide +kernel : ∀ t : Fin grid0.N, _)

abbrev dus (u : FVec Ideal S3x256 .f32) (f : Fin 2 → Int) : FVec Ideal S8x1024 .f32 :=
  Host.dynamicUpdateSlice (broadcastInDim S8x1024 ![] bcast_S_S8x1024 (constant (F := Ideal) S_ .f32 0x00000000#32)) u
    f updateFits_S8x1024_S3x256

abbrev W3 (c : Dev nD) : FVec Ideal S3x1024 .f32 := shapeCast S3x1024 (m (c.tc.loc main_arg1)) shapeCasts_S1x3x1024_S3x1024

theorem start (f : Fin 2 → Int) (h0 : f 0 = 0) (h1 : f 1 = 0) : f = ![0, 0] := by
  funext k
  match k with
  | 0 => exact h0
  | 1 => exact h1

theorem V3 (c : Dev nD) : V m c main_v3 = dus (extractStridedSlice S3x256 ![0, 0] (W3 m c) slices_S3x1024_S3x256_0_0) ![0, 0] := by
  entry_read
  exact congrArg (fun f => Host.dynamicUpdateSlice _ _ f _) (start _ rfl rfl)

/-- The tap a column's own block carries, zero in the rows below and in the other columns. -/
theorem dus_apply (x : FVec Ideal S3x256 .f32) (s : Fin 8) (l : Fin 1024) :
    dus x ![0, 0] (ix2 s l) = if h : s.val < 3 ∧ l.val < 256 then x (ix2 ⟨s.val, h.1⟩ ⟨l.val, h.2⟩) else 0 := by
  have h0 : Host.clampedStart S8x1024 S3x256 rfl (![0, 0] : Fin 2 → Int) (0 : Fin 2) = 0 :=
    Host.clampedStart_of_le (s := S8x1024) (t := S3x256) rfl _ (0 : Fin 2) 0 rfl (by decide)
  have h1 : Host.clampedStart S8x1024 S3x256 rfl (![0, 0] : Fin 2 → Int) (1 : Fin 2) = 0 :=
    Host.clampedStart_of_le (s := S8x1024) (t := S3x256) rfl _ (1 : Fin 2) 0 rfl (by decide)
  pointwise [dus, h0, h1]

theorem lt_col (t : Fin cfg0.N) (l : Fin 256) : t.val / 4 * 256 + l.val < 1024 := by
  have := t.isLt; have e : cfg0.N = 16 := N_0; omega

theorem emb4 (t : Fin cfg0.N) (s : Fin 8) (l : Fin 256) : (win0_4.blk t).view.emb (ix2 s l) = ix2 s ⟨t.val / 4 * 256 + l.val, lt_col t l⟩ := by
  blk_ext [idx t]

theorem own_apply (w : Vec Ideal S1x3x1024 .f32) (s : Fin 8) (l : Fin 1024) :
    dus (extractStridedSlice S3x256 ![0, 0] (shapeCast S3x1024 w shapeCasts_S1x3x1024_S3x1024) slices_S3x1024_S3x256_0_0) ![0, 0] (ix2 s l)
      = if h : s.val < 3 ∧ l.val < 256 then w (ix3 0 ⟨s.val, h.1⟩ l) else 0 := by
  rw [dus_apply]
  pointwise

theorem cw (c : Dev nD) (t : Fin cfg0.N) (s : Fin 8) (l : Fin 256) : iblk m c 4 t (ix2 s l) = if h : s.val < 3 ∧ t.val / 4 * 256 + l.val < 256 then m (c.tc.loc main_arg1) (ix3 0 ⟨s.val, h.1⟩ ⟨t.val / 4 * 256 + l.val, lt_col t l⟩) else (0 : EReal) := by
  blk_simp [iblk]
  rw [V3, emb4]
  exact own_apply (m (c.tc.loc main_arg1)) s _

abbrev stk (a b d : FVec Ideal S8x1024 .f32) : FVec Ideal S3x8x1024 .f32 :=
  concatenate S3x8x1024 0 [⟨S1x8x1024, broadcastInDim S1x8x1024 ![1, 2] bcast_S8x1024_S1x8x1024_1_2 a⟩, ⟨S1x8x1024, broadcastInDim S1x8x1024 ![1, 2] bcast_S8x1024_S1x8x1024_1_2 b⟩, ⟨S1x8x1024, broadcastInDim S1x8x1024 ![1, 2] bcast_S8x1024_S1x8x1024_1_2 d⟩] concatenates_S1x8x1024_S1x8x1024_S1x8x1024_S3x8x1024_d0
abbrev gotArr (w : Vec Ideal S1x3x1024 .f32) : FVec Ideal S3x8x1024 .f32 :=
  stk (pad S8x1024 ![0, 512] ![5, 256] ![0, 0] (extractStridedSlice S3x256 ![0, 512] (shapeCast S3x1024 w shapeCasts_S1x3x1024_S3x1024) slices_S3x1024_S3x256_0_512) (constant (F := Ideal) S_ .f32 0x00000000#32) pads_S3x256_S8x1024_050_5122560 h_S_)
   (pad S8x1024 ![0, 256] ![5, 512] ![0, 0] (extractStridedSlice S3x256 ![0, 256] (shapeCast S3x1024 w shapeCasts_S1x3x1024_S3x1024) slices_S3x1024_S3x256_0_256) (constant (F := Ideal) S_ .f32 0x00000000#32) pads_S3x256_S8x1024_050_2565120 h_S_)
   (pad S8x1024 ![0, 768] ![5, 0] ![0, 0] (extractStridedSlice S3x256 ![0, 768] (shapeCast S3x1024 w shapeCasts_S1x3x1024_S3x1024) slices_S3x1024_S3x256_0_768) (constant (F := Ideal) S_ .f32 0x00000000#32) pads_S3x256_S8x1024_050_76800 h_S_)

theorem V16 (c : Dev nD) : V m c main_v16 = gotArr (m (c.tc.loc main_arg1)) := by
  show StableHlo.after hostOps0 _ (Proc.devRef .tc main_v16) = _
  after_results_simp_entrywise
  rfl

theorem gotArr_apply (w : Vec Ideal S1x3x1024 .f32) (q : Fin 3) (s : Fin 8) (l : Fin 1024) :
    gotArr w (ix3 q s l) = if h : s.val < 3 ∧ l.val / 256 = (if q.val < 1 then 2 else if q.val < 2 then 1 else 3) then w (ix3 0 ⟨s.val, h.1⟩ l) else 0 := by
  pointwise [gotArr, stk]
  have hq := q.isLt
  have hl := l.isLt
  split_ifs <;> first | rfl | (exfalso; omega) | (congr 3; omega)

theorem emb5 (t : Fin cfg0.N) (q : Fin 3) (s : Fin 8) (l : Fin 256) :
    (win0_5.blk t).view.emb (ix3 q s l) = ix3 q s ⟨t.val / 4 * 256 + l.val, lt_col t l⟩ := by
  blk_ext [idx t]

theorem got (c : Dev nD) (t : Fin cfg0.N) (q : Fin 3) (s : Fin 8) (l : Fin 256) :
    iblk m c 5 t (ix3 q s l) = gotArr (m (c.tc.loc main_arg1)) (ix3 q s ⟨t.val / 4 * 256 + l.val, lt_col t l⟩) := by
  blk_simp [iblk]
  rw [V16, emb5]

/-- Exactly one of the four parts is there. -/
theorem pick (x : EReal) (P Q R S : Prop) [Decidable P] [Decidable Q] [Decidable R] [Decidable S]
    (p : P → EReal) (q : Q → EReal) (r : R → EReal) (s : S → EReal)
    (h : (P ∧ ¬Q ∧ ¬R ∧ ¬S) ∨ (¬P ∧ Q ∧ ¬R ∧ ¬S) ∨ (¬P ∧ ¬Q ∧ R ∧ ¬S) ∨ (¬P ∧ ¬Q ∧ ¬R ∧ S))
    (hp : ∀ h, p h = x) (hq : ∀ h, q h = x) (hr : ∀ h, r h = x) (hs : ∀ h, s h = x) :
    (if h : P then p h else 0) + (if h : Q then q h else 0) + ((if h : R then r h else 0) + (if h : S then s h else 0)) = x := by
  rcases h with ⟨a, b, c, d⟩ | ⟨a, b, c, d⟩ | ⟨a, b, c, d⟩ | ⟨a, b, c, d⟩ <;> simp [a, b, c, d, hp, hq, hr, hs]

/-- Tap `k` at a point's column: the four chips' parts add up to the array's own entry. -/
theorem taps (c : Dev nD) (t : Fin cfg0.N) (k : Fin 8) (hk : k.val < 3) (l : Fin 256) :
    k0_pay10 (k0_pay9 (iblk m c 4 t)
        (View.ld (iblk m c 5 t) (Rect.unit ![0, 0, 0] ![1, 8, 256] inb_S3x8x256_S1x8x256_0_0_0)))
        (View.ld (iblk m c 5 t) (Rect.unit ![1, 0, 0] ![1, 8, 256] inb_S3x8x256_S1x8x256_1_0_0))
        (View.ld (iblk m c 5 t) (Rect.unit ![2, 0, 0] ![1, 8, 256] inb_S3x8x256_S1x8x256_2_0_0)) (ix2 k l)
      = m (c.tc.loc main_arg1) (ix3 0 ⟨k.val, hk⟩ ⟨t.val / 4 * 256 + l.val, lt_col t l⟩) := by
  have h4 : t.val / 4 < 4 := by have := t.isLt; have e : cfg0.N = 16 := N_0; omega
  have hl := l.isLt
  pointwise [k0_pay10, k0_pay9]
  rw [cw, got, got, got, gotArr_apply, gotArr_apply, gotArr_apply]
  apply pick <;> first | (intro h; rfl) | skip
  have e : (t.val / 4 * 256 + l.val) / 256 = t.val / 4 := by omega
  simp only [hk, true_and, e]
  rcases (by omega : t.val / 4 = 0 ∨ t.val / 4 = 1 ∨ t.val / 4 = 2 ∨ t.val / 4 = 3) with h | h | h | h <;> simp [h] <;> omega

/-! ## The convolution's pieces, of the launch contents -/

abbrev A0 (c : Dev nD) := m (c.tc.loc main_arg0)
abbrev A1 (c : Dev nD) := m (c.tc.loc main_arg1)
abbrev A2 (c : Dev nD) := m (c.tc.loc main_arg2)

/-- The sequence and the column a point's block index stands for. -/
abbrev sq (t : Fin cfg0.N) : Fin 4 := ⟨t.val % 4, by omega⟩
abbrev col (t : Fin cfg0.N) (l : Fin 256) : Fin 1024 := ⟨t.val / 4 * 256 + l.val, lt_col t l⟩

theorem hu (c : Dev nD) (t : Fin cfg0.N) (s : Fin 2048) (l : Fin 256) :
    k0_pay6 (F := Ideal) (iblk m c 1 t) (iblk m c 3 t) (ix2 s l) = val_main_v6 (F := Ideal) (A0 m c) (ix3 (sq t) s (col t l)) := by
  show _ = val_main_v6 (F := Ideal) _ _
  pointwise [k0_pay6, k0_pay2, k0_pay4, val_main_v6, val_main_v5, val_main_v3, val_main_v1, val_main_v0]
  blk_point [iblk, V, idx t]

theorem hx (c : Dev nD) (t : Fin cfg0.N) (s : Fin 2048) (l : Fin 256) :
    k0_pay4 (F := Ideal) (iblk m c 3 t) (ix2 s l) = val_main_v5 (F := Ideal) (A0 m c) (ix3 (sq t) s (col t l)) := by
  show _ = val_main_v5 (F := Ideal) _ _
  pointwise [k0_pay4, val_main_v5, val_main_v1, val_main_v0]
  blk_point [iblk, V, idx t]

theorem hb (c : Dev nD) (t : Fin cfg0.N) (s : Fin 2048) (l : Fin 256) :
    k0_pay2 (F := Ideal) (iblk m c 1 t) (ix2 s l) = val_main_v3 (F := Ideal) (A0 m c) (ix3 (sq t) s (col t l)) := by
  show _ = val_main_v3 (F := Ideal) _ _
  pointwise [k0_pay2, val_main_v3, val_main_v1, val_main_v0]
  blk_point [iblk, V, idx t]

theorem hz (c : Dev nD) (t : Fin cfg0.N) (s : Fin 2048) (l : Fin 256) :
    k0_pay5 (F := Ideal) (iblk m c 0 t) (ix2 s l) = val_main_v32 (F := Ideal) (A2 m c) (ix3 (sq t) s (col t l)) := by
  show _ = val_main_v32 (F := Ideal) _ _
  pointwise [k0_pay5, val_main_v32, val_main_v31]
  blk_point [iblk, V, idx t]

theorem hd (c : Dev nD) (t : Fin cfg0.N) (s : Fin 2048) (l : Fin 256) :
    k0_pay12 (F := Ideal) (k0_pay3 (iblk m c 2 t)) (k0_pay5 (iblk m c 0 t)) (ix2 s l)
      = val_main_v33 (F := Ideal) (A0 m c) (A2 m c) (ix3 (sq t) s (col t l)) := by
  show _ = val_main_v33 (F := Ideal) _ _ _
  pointwise [k0_pay12, val_main_v33]
  rw [hz, mul_comm]
  pointwise [k0_pay3, val_main_v4, val_main_v1, val_main_v0]
  blk_point [iblk, V, idx t]

/-! ## The shifts -/

/-- The same downwards: what the rotation and the mask of the first eight rows leave. -/
theorem down (D : Fin 2048 → EReal) (k : ℕ) (s : Fin 2048) (P : Prop) [Decidable P] (hk : k ≤ 8)
    (hP : s.val < 8 → (P ↔ k ≤ s.val)) (h1 h2) :
    (if h : s.val < 8 then if P then D ⟨(s.val + 2048 - k) % 2048, h1⟩ else 0
      else D ⟨(8 + (s.val - 8) + 2048 - k) % 2048, h2⟩)
      = if h : k ≤ s.val then D ⟨s.val - k, by omega⟩ else 0 := by
  have hs := s.isLt
  by_cases h8 : s.val < 8
  · rw [dif_pos h8]
    by_cases hk : k ≤ s.val
    · rw [if_pos ((hP h8).mpr hk), dif_pos hk]
      exact congrArg D (Fin.ext (by dsimp only; omega))
    · rw [if_neg (fun h => hk ((hP h8).mp h)), dif_neg hk]
  · rw [dif_neg h8, dif_pos (by omega)]
    exact congrArg D (Fin.ext (by dsimp only; omega))

theorem p7 (v3 v7 : Vec Ideal S2048x256 .bf16) (s : Fin 2048) (l : Fin 256) :
    k0_pay7 (F := Ideal) v3 v7 (ix2 s l) = if h : 1 ≤ s.val then k0_pay6 (F := Ideal) v3 v7 (ix2 ⟨s.val - 1, by omega⟩ l) else 0 := by
  pointwise [k0_pay7]
  simp only [Scalar.select, IntOp.cmpi]
  have d : ∀ s : Fin 8, BitVec.ofBool ((1#32).sle (BitVec.ofNat 32 s.val)) = 1 ↔ 1 ≤ s.val := by decide
  exact down (fun s => (k0_pay6 (F := Ideal) v3 v7 (ix2 s l) : EReal)) 1 s (BitVec.ofBool ((1#32).sle (BitVec.ofNat 32 s.val)) = 1) (by omega) (fun h8 => d ⟨s.val, h8⟩) (Nat.mod_lt _ (by decide)) (Nat.mod_lt _ (by decide))

theorem p8 (v3 v7 : Vec Ideal S2048x256 .bf16) (s : Fin 2048) (l : Fin 256) :
    k0_pay8 (F := Ideal) v3 v7 (ix2 s l) = if h : 2 ≤ s.val then k0_pay6 (F := Ideal) v3 v7 (ix2 ⟨s.val - 2, by omega⟩ l) else 0 := by
  pointwise [k0_pay8]
  simp only [Scalar.select, IntOp.cmpi]
  have d : ∀ s : Fin 8, BitVec.ofBool ((2#32).sle (BitVec.ofNat 32 s.val)) = 1 ↔ 2 ≤ s.val := by decide
  exact down (fun s => (k0_pay6 (F := Ideal) v3 v7 (ix2 s l) : EReal)) 2 s (BitVec.ofBool ((2#32).sle (BitVec.ofNat 32 s.val)) = 1) (by omega) (fun h8 => d ⟨s.val, h8⟩) (Nat.mod_lt _ (by decide)) (Nat.mod_lt _ (by decide))

/-- What the rotation and the mask of the last eight rows leave: the vector moved up by `k` rows, zeros coming in. -/
theorem up (D : Fin 2048 → EReal) (k r : ℕ) (s : Fin 2048) (P : Prop) [Decidable P] (hk : k ≤ 8) (hr : r + k = 2048)
    (hP : ¬ s.val < 2040 → (P ↔ s.val + k < 2048)) (h1 h2) :
    (if h : s.val < 2040 then D ⟨(s.val + 2048 - r) % 2048, h1⟩
      else if P then D ⟨(2040 + (s.val - 2040) + 2048 - r) % 2048, h2⟩ else 0)
      = if h : s.val + k < 2048 then D ⟨s.val + k, h⟩ else 0 := by
  have hs := s.isLt
  by_cases h8 : s.val < 2040
  · rw [dif_pos h8, dif_pos (by omega)]
    exact congrArg D (Fin.ext (by dsimp only; omega))
  · rw [dif_neg h8]
    by_cases hk : s.val + k < 2048
    · rw [if_pos ((hP h8).mpr hk), dif_pos hk]
      exact congrArg D (Fin.ext (by dsimp only; omega))
    · rw [if_neg (fun h => hk ((hP h8).mp h)), dif_neg hk]

set_option maxRecDepth 20000 in
theorem p13 (v6 v10 : Vec Ideal S2048x256 .f32) (v33 : Vec Ideal S8x256 .f32) (v34 v36: Vec Ideal S1x8x256 .f32) (s : Fin 2048) (l : Fin 256) :
    k0_pay13 (F := Ideal) v6 v10 (iota Kind.tc S8x256 32 [0] iota_S8x256_d0_w32) v33 v34 v36 (ix2 s l)
      = k0_pay10 (F := Ideal) v33 v34 v36 (ix2 2 l) * k0_pay12 (F := Ideal) v6 v10 (ix2 s l)
        + k0_pay10 (F := Ideal) v33 v34 v36 (ix2 1 l) * (if h : s.val + 1 < 2048 then k0_pay12 (F := Ideal) v6 v10 (ix2 ⟨s.val + 1, h⟩ l) else 0)
        + k0_pay10 (F := Ideal) v33 v34 v36 (ix2 0 l) * (if h : s.val + 2 < 2048 then k0_pay12 (F := Ideal) v6 v10 (ix2 ⟨s.val + 2, h⟩ l) else 0) := by
  pointwise [k0_pay13]
  simp only [Scalar.select, IntOp.cmpi]
  have d : ∀ s : Fin 8, BitVec.ofBool ((BitVec.ofNat 32 s.val).slt 7#32) = 1 ↔ s.val < 7 := by decide
  have e : ∀ s : Fin 8, BitVec.ofBool ((BitVec.ofNat 32 s.val).slt 6#32) = 1 ↔ s.val < 6 := by decide
  have hs := s.isLt
  refine congrArg₂ (· + ·) (congrArg₂ (· + ·) rfl (congrArg (k0_pay10 (F := Ideal) v33 v34 v36 (ix2 1 l) * ·) ?_)) (congrArg (k0_pay10 (F := Ideal) v33 v34 v36 (ix2 0 l) * ·) ?_)
  · exact up (fun s => (k0_pay12 (F := Ideal) v6 v10 (ix2 s l) : EReal)) 1 2047 s (BitVec.ofBool ((BitVec.ofNat 32 (s.val - 2040)).slt 7#32) = 1) (by omega) rfl
      (fun h8 => (d ⟨s.val - 2040, by omega⟩).trans (by dsimp only; omega)) (Nat.mod_lt _ (by decide)) (Nat.mod_lt _ (by decide))
  · exact up (fun s => (k0_pay12 (F := Ideal) v6 v10 (ix2 s l) : EReal)) 2 2046 s (BitVec.ofBool ((BitVec.ofNat 32 (s.val - 2040)).slt 6#32) = 1) (by omega) rfl
      (fun h8 => (e ⟨s.val - 2040, by omega⟩).trans (by dsimp only; omega)) (Nat.mod_lt _ (by decide)) (Nat.mod_lt _ (by decide))

/-! ## The reference's pieces at an index -/

section
variable (x0 : Vec Ideal S8192x3072 .bf16) (x1 : Vec Ideal S1x3x1024 .f32) (x2 : Vec Ideal S8192x1024 .bf16)

theorem v8 (b : Fin 4) (s : Fin 2050) (l : Fin 1024) :
    val_main_v8 (F := Ideal) x0 (ix3 b s l) = if h : 2 ≤ s.val then val_main_v6 (F := Ideal) x0 (ix3 b ⟨s.val - 2, by omega⟩ l) else 0 := by
  pointwise [val_main_v8, Cert.ConvRefIdeal.Value.fn_main_v8, val_main_v7, val_main_cst]
  by_cases h : s.val < 2
  · rw [dif_pos h, dif_neg (by omega)]
  · rw [dif_neg h, dif_pos (by omega)]

theorem v29 (b : Fin 4) (s : Fin 2048) (l : Fin 1024) : val_main_v29 (F := Ideal) x0 x1 (ix3 b s l)
    = x1 (ix3 0 0 l) * (if h : 2 ≤ s.val then val_main_v6 (F := Ideal) x0 (ix3 b ⟨s.val - 2, by omega⟩ l) else 0)
      + x1 (ix3 0 1 l) * (if h : 1 ≤ s.val then val_main_v6 (F := Ideal) x0 (ix3 b ⟨s.val - 1, by omega⟩ l) else 0)
      + x1 (ix3 0 2 l) * val_main_v6 (F := Ideal) x0 (ix3 b s l) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v2]
  rw [v8, v8, v8]
  have hs := s.isLt
  refine congrArg₂ (· + ·) (congrArg₂ (· + ·) rfl (congrArg _ ?_)) (congrArg _ ?_)
  · by_cases h : 1 ≤ s.val
    · refine (dif_pos (by show 2 ≤ 1 + s.val; omega)).trans (.trans ?_ (dif_pos h).symm)
      exact congrArg (fun z => val_main_v6 (F := Ideal) x0 (ix3 b z l)) (Fin.ext (by show 1 + s.val - 2 = _; dsimp only; omega))
    · exact (dif_neg (by show ¬ 2 ≤ 1 + s.val; omega)).trans (by rw [dif_neg h])
  · refine (dif_pos (by show 2 ≤ 2 + s.val; omega)).trans ?_
    exact congrArg (fun z => val_main_v6 (F := Ideal) x0 (ix3 b z l)) (Fin.ext (by show 2 + s.val - 2 = _; omega))

theorem v67 (b : Fin 4) (s : Fin 2048) (l : Fin 1024) : val_main_v67 (F := Ideal) x0 x1 x2 (ix3 b s l)
    = x1 (ix3 0 2 l) * val_main_v33 (F := Ideal) x0 x2 (ix3 b s l)
      + x1 (ix3 0 1 l) * (if h : s.val + 1 < 2048 then val_main_v33 (F := Ideal) x0 x2 (ix3 b ⟨s.val + 1, h⟩ l) else 0)
      + x1 (ix3 0 0 l) * (if h : s.val + 2 < 2048 then val_main_v33 (F := Ideal) x0 x2 (ix3 b ⟨s.val + 2, h⟩ l) else 0) := by
  pointwise [val_main_v67, val_main_v62, val_main_v61, val_main_v56, val_main_v55, val_main_v51, val_main_v50, val_main_v45, val_main_v44, val_main_v41, val_main_v36, val_main_v35, val_main_v26, val_main_v24, val_main_v23, val_main_v19, val_main_v17, val_main_v16, val_main_v13, val_main_v11, val_main_v10, val_main_v2, val_main_cst_7, val_main_cst_11]
  have hs := s.isLt
  refine congrArg₂ (· + ·) (congrArg₂ (· + ·) rfl ?_) ?_
  · by_cases h : s.val + 1 < 2048
    · refine (dif_pos (by omega)).trans ((congrArg (_ * ·) ?_).trans (congrArg (_ * ·) (dif_pos h).symm))
      exact congrArg (fun z => (val_main_v4 (F := Ideal) x0 (ix3 b z l) * val_main_v32 (F := Ideal) x2 (ix3 b z l) : EReal)) (Fin.ext (by show 2 + s.val - 1 = _; dsimp only; omega))
    · refine (dif_neg (by omega)).trans (.trans ?_ (congrArg (_ * ·) (dif_neg h).symm))
      simp
  · by_cases h : s.val + 2 < 2048
    · refine (dif_pos (by omega)).trans ((congrArg (_ * ·) ?_).trans (congrArg (_ * ·) (dif_pos h).symm))
      exact congrArg (fun z => (val_main_v4 (F := Ideal) x0 (ix3 b z l) * val_main_v32 (F := Ideal) x2 (ix3 b z l) : EReal)) (Fin.ext (by show 2 + s.val = _; dsimp only; omega))
    · refine (dif_neg (by omega)).trans (.trans ?_ (congrArg (_ * ·) (dif_neg h).symm))
      simp

theorem v73 (p : Fin 3) (r : Fin 8192) (b : Fin 4) (s : Fin 2048) (l : Fin 1024) (hr : r.val = b.val * 2048 + s.val) :
    val_main_v73 (F := Ideal) x0 x1 x2 (ix3 p r l)
      = if p.val = 0 then val_main_v67 (F := Ideal) x0 x1 x2 (ix3 b s l) * val_main_v5 (F := Ideal) x0 (ix3 b s l)
        else if p.val = 1 then val_main_v32 (F := Ideal) x2 (ix3 b s l) * val_main_v29 (F := Ideal) x0 x1 (ix3 b s l)
        else val_main_v3 (F := Ideal) x0 (ix3 b s l) * val_main_v67 (F := Ideal) x0 x1 x2 (ix3 b s l) := by
  have hs := s.isLt
  have hl := l.isLt
  have hp := p.isLt
  have e1 : r.val / 2048 = b.val := by omega
  have e2 : r.val % 2048 = s.val := by omega
  pointwise [val_main_v73, val_main_v72, val_main_v71, val_main_v70, Cert.ConvRefIdeal.Value.fn_main_v70, val_main_v69, val_main_v68, val_main_v34]
  have eb : (⟨r.val / 2048, by omega⟩ : Fin 4) = b := Fin.ext e1
  have es : (⟨r.val % 2048, by omega⟩ : Fin 2048) = s := Fin.ext e2
  rcases (by omega : p.val = 0 ∨ p.val = 1 ∨ p.val = 2) with h | h | h
  · refine (dif_pos (by omega)).trans (.trans ?_ (if_pos h).symm)
    rw [eb, es, show (⟨p.val * 1024 + l.val, by omega⟩ : Fin 1024) = l from Fin.ext (by show p.val * 1024 + l.val = _; omega)]
  · refine (dif_neg (by omega)).trans ((dif_pos (by omega)).trans (.trans ?_ ((if_neg (by omega)).trans (if_pos h)).symm))
    rw [eb, es, show (⟨p.val * 1024 + l.val - 1024, by omega⟩ : Fin 1024) = l from Fin.ext (by show p.val * 1024 + l.val - 1024 = _; omega)]
  · refine (dif_neg (by omega)).trans ((dif_neg (by omega)).trans (.trans ?_ ((if_neg (by omega)).trans (if_neg (by omega))).symm))
    rw [eb, es, show (⟨p.val * 1024 + l.val - 1024 - 1024, by omega⟩ : Fin 1024) = l from Fin.ext (by show p.val * 1024 + l.val - 1024 - 1024 = _; omega)]

theorem v65 (k : Fin 3) (l : Fin 1024) : val_main_v65 (F := Ideal) x0 x2 (ix2 k l)
    = ∑ b : Fin 4, ∑ s : Fin 2048, val_main_v33 (F := Ideal) x0 x2 (ix3 b s l) *
        val_main_v8 (F := Ideal) x0 (ix3 b ⟨k.val + s.val, by have := k.isLt; have := s.isLt; omega⟩ l) := by
  have hk := k.isLt
  pointwise [val_main_v65, val_main_v64, val_main_v63, val_main_v60, val_main_v59, val_main_v58, val_main_v57, val_main_v54, val_main_v53, val_main_v52, val_main_v49, val_main_v48, val_main_v47, val_main_v46, val_main_v43, val_main_v42, val_main_v40, val_main_v39, val_main_v38, val_main_v37]
  rw [Common.hostReduceAdd_lead2, Common.hostReduceAdd_lead2, Common.hostReduceAdd_lead2]
  pointwise [val_main_cst_1, val_main_cst_2, val_main_cst_4, val_main_cst_5, val_main_cst_6, val_main_cst_8, val_main_cst_9, val_main_cst_10, val_main_cst_12]
  simp only [Ideal.hostReduceAdd_def, Common.hostReduceAdd_lead2]
  have e : ∀ (v : Vec Ideal Cert.ConvRefIdeal.S4x2048x1024 .f32) (h : ∀ (a : Fin 4) (b : Fin 2048), v (ix3 a b l) = val_main_v8 (F := Ideal) x0 (ix3 a ⟨k.val + b.val, by have := b.isLt; omega⟩ l)),
      (∑ _x : Fin 1, ∑ _y : Fin 1, ((0 : EReal) + ∑ a : Fin 4, ∑ b : Fin 2048, (mulf (F := Ideal) (φ := .f32) (val_main_v33 (F := Ideal) x0 x2) v (ix3 a b l) : EReal)))
        = ∑ b : Fin 4, ∑ s : Fin 2048, val_main_v33 (F := Ideal) x0 x2 (ix3 b s l) *
        val_main_v8 (F := Ideal) x0 (ix3 b ⟨k.val + s.val, by have := s.isLt; omega⟩ l) := by
    intro v h
    simp only [Finset.univ_unique, Finset.sum_singleton, zero_add]
    refine Finset.sum_congr rfl fun a _ => Finset.sum_congr rfl fun b _ => ?_
    rw [← h]
    rfl
  rcases (by omega : k.val = 0 ∨ k.val = 1 ∨ k.val = 2) with h | h | h
  · rw [dif_neg (by omega), dif_neg (by omega), dif_pos (by omega), zero_add, zero_add]
    refine e _ fun a b => ?_
    pointwise [val_main_v12]
    congr 1; apply congrArg (fun z => ix3 a z l); apply Fin.ext; show b.val = _; simp only [h]; omega
  · rw [dif_neg (by omega), dif_pos (by omega), dif_neg (by omega), zero_add, add_zero]
    refine e _ fun a b => ?_
    pointwise [val_main_v18]
    congr 1; apply congrArg (fun z => ix3 a z l); apply Fin.ext; show 1 + b.val = _; simp only [h]
  · rw [dif_pos (by omega), dif_neg (by omega), dif_neg (by omega), add_zero, add_zero]
    refine e _ fun a b => ?_
    pointwise [val_main_v25]
    congr 1; apply congrArg (fun z => ix3 a z l); apply Fin.ext; show 2 + b.val = _; simp only [h]
end

/-! ## What a point writes -/

def tap (c : Dev nD) (t : Fin cfg0.N) : FVec Ideal S8x256 .f32 := k0_pay9 (iblk m c 4 t)
  (View.ld (iblk m c 5 t) (Rect.unit ![0, 0, 0] ![1, 8, 256] inb_S3x8x256_S1x8x256_0_0_0))
def tap1 (c : Dev nD) (t : Fin cfg0.N) : FVec Ideal S1x8x256 .f32 :=
  View.ld (iblk m c 5 t) (Rect.unit ![1, 0, 0] ![1, 8, 256] inb_S3x8x256_S1x8x256_1_0_0)
def tap2 (c : Dev nD) (t : Fin cfg0.N) : FVec Ideal S1x8x256 .f32 :=
  View.ld (iblk m c 5 t) (Rect.unit ![2, 0, 0] ![1, 8, 256] inb_S3x8x256_S1x8x256_2_0_0)

theorem tapk (c : Dev nD) (t : Fin cfg0.N) (k : Fin 8) (hk : k.val < 3) (l : Fin 256) :
    k0_pay10 (F := Ideal) (tap m c t) (tap1 m c t) (tap2 m c t) (ix2 k l) = A1 m c (ix3 0 ⟨k.val, hk⟩ (col t l)) := taps m c t k hk l

theorem p11 (v11 v20 v28 : Vec Ideal S2048x256 .f32) (v33 : Vec Ideal S8x256 .f32) (v34 v36: Vec Ideal S1x8x256 .f32) (s : Fin 2048) (l : Fin 256) :
    k0_pay11 (F := Ideal) v11 v20 v28 v33 v34 v36 (ix2 s l)
      = k0_pay10 (F := Ideal) v33 v34 v36 (ix2 2 l) * v11 (ix2 s l) + k0_pay10 (F := Ideal) v33 v34 v36 (ix2 1 l) * v20 (ix2 s l)
        + k0_pay10 (F := Ideal) v33 v34 v36 (ix2 0 l) * v28 (ix2 s l) := by
  pointwise [k0_pay11]

/-- The gradient of the gated input. -/
theorem hdu (c : Dev nD) (t : Fin cfg0.N) (s : Fin 2048) (l : Fin 256) :
    k0_pay13 (F := Ideal) (k0_pay3 (iblk m c 2 t)) (k0_pay5 (iblk m c 0 t)) (iota Kind.tc S8x256 32 [0] iota_S8x256_d0_w32)
        (tap m c t) (tap1 m c t) (tap2 m c t) (ix2 s l)
      = val_main_v67 (F := Ideal) (A0 m c) (A1 m c) (A2 m c) (ix3 (sq t) s (col t l)) := by
  rw [p13, v67, tapk m c t 2 (by decide) l, tapk m c t 1 (by decide) l, tapk m c t 0 (by decide) l]
  simp only [hd]
  rfl

/-- The convolution itself. -/
theorem hy (c : Dev nD) (t : Fin cfg0.N) (s : Fin 2048) (l : Fin 256) :
    k0_pay11 (F := Ideal) (k0_pay6 (iblk m c 1 t) (iblk m c 3 t)) (k0_pay7 (iblk m c 1 t) (iblk m c 3 t)) (k0_pay8 (iblk m c 1 t) (iblk m c 3 t))
        (tap m c t) (tap1 m c t) (tap2 m c t) (ix2 s l)
      = val_main_v29 (F := Ideal) (A0 m c) (A1 m c) (ix3 (sq t) s (col t l)) := by
  rw [v29, p11, tapk m c t 2 (by decide) l, tapk m c t 1 (by decide) l, tapk m c t 0 (by decide) l, p7, p8]
  simp only [hu]
  rw [add_comm, add_comm (_ * _) (_ * _), ← add_assoc]
  rfl

theorem row_lt (t : Fin cfg0.N) (s : Fin 2048) : t.val % 4 * 2048 + s.val < 8192 := by omega

abbrev row (t : Fin cfg0.N) (s : Fin 2048) : Fin 8192 := ⟨t.val % 4 * 2048 + s.val, row_lt t s⟩

theorem v73' (c : Dev nD) (t : Fin cfg0.N) (i : S3x8192x1024.Idx) (q : Fin 3) (s : Fin 2048) (l : Fin 256)
    (h0 : (i 0).val = q.val) (h1 : (i 1).val = t.val % 4 * 2048 + s.val) (h2 : (i 2).val = t.val / 4 * 256 + l.val) :
    val_main_v73 (F := Ideal) (A0 m c) (A1 m c) (A2 m c) i = val_main_v73 (F := Ideal) (A0 m c) (A1 m c) (A2 m c) (ix3 q (row t s) (col t l)) := by
  refine congrArg _ ?_
  funext a; match a with
  | ⟨0, _⟩ => exact Fin.ext h0
  | ⟨1, _⟩ => exact Fin.ext h1
  | ⟨2, _⟩ => exact Fin.ext h2

theorem plane0 (c : Dev nD) (t : Fin cfg0.N) (y : S3x2048x256.Idx) (x : S1x2048x256.Idx) (h0 : (y 0).val = (x 0).val) (h1 : (y 1).val = (x 1).val) (h2 : (y 2).val = (x 2).val) :
    k0_pay15 (F := Ideal) (k0_pay14 (k0_pay3 (iblk m c 2 t)) (k0_pay4 (iblk m c 3 t)) (k0_pay5 (iblk m c 0 t)) (iota Kind.tc S8x256 32 [0] iota_S8x256_d0_w32)
        (tap m c t) (tap1 m c t) (tap2 m c t)) x
      = val_main_v73 (F := Ideal) (A0 m c) (A1 m c) (A2 m c) (ix3 (y 0) (row t (y 1)) (col t (y 2))) := by
  obtain ⟨a, s, l, rfl⟩ : ∃ (a : Fin 1) (s : Fin 2048) (l : Fin 256), x = ix3 a s l := ⟨x 0, x 1, x 2, eq_ix3 x⟩
  obtain ⟨b, s', l', rfl⟩ : ∃ (a : Fin 3) (s : Fin 2048) (l : Fin 256), y = ix3 a s l := ⟨y 0, y 1, y 2, eq_ix3 y⟩
  obtain rfl : s' = s := Fin.ext h1
  obtain rfl : l' = l := Fin.ext h2
  have hb : b.val = 0 := by have : b.val = a.val := h0; omega
  refine .trans ?_ (v73 _ _ _ b (row t s') (sq t) s' (col t l') rfl).symm
  rw [if_pos hb]
  pointwise [k0_pay15, k0_pay14]
  rw [hdu, hx]

theorem plane1 (c : Dev nD) (t : Fin cfg0.N) (y : S3x2048x256.Idx) (x : S1x2048x256.Idx) (h0 : (y 0).val = 1 + (x 0).val) (h1 : (y 1).val = (x 1).val) (h2 : (y 2).val = (x 2).val) :
    k0_pay16 (F := Ideal) (k0_pay5 (iblk m c 0 t)) (k0_pay11 (k0_pay6 (iblk m c 1 t) (iblk m c 3 t)) (k0_pay7 (iblk m c 1 t) (iblk m c 3 t))
        (k0_pay8 (iblk m c 1 t) (iblk m c 3 t)) (tap m c t) (tap1 m c t) (tap2 m c t)) x
      = val_main_v73 (F := Ideal) (A0 m c) (A1 m c) (A2 m c) (ix3 (y 0) (row t (y 1)) (col t (y 2))) := by
  obtain ⟨a, s, l, rfl⟩ : ∃ (a : Fin 1) (s : Fin 2048) (l : Fin 256), x = ix3 a s l := ⟨x 0, x 1, x 2, eq_ix3 x⟩
  obtain ⟨b, s', l', rfl⟩ : ∃ (a : Fin 3) (s : Fin 2048) (l : Fin 256), y = ix3 a s l := ⟨y 0, y 1, y 2, eq_ix3 y⟩
  obtain rfl : s' = s := Fin.ext h1
  obtain rfl : l' = l := Fin.ext h2
  have hb : b.val = 1 := by have : b.val = 1 + a.val := h0; omega
  refine .trans ?_ (v73 _ _ _ b (row t s') (sq t) s' (col t l') rfl).symm
  rw [if_neg (by omega), if_pos hb]
  pointwise [k0_pay16]
  rw [hz, hy]

theorem plane2 (c : Dev nD) (t : Fin cfg0.N) (y : S3x2048x256.Idx) (x : S1x2048x256.Idx) (h0 : (y 0).val = 2 + (x 0).val) (h1 : (y 1).val = (x 1).val) (h2 : (y 2).val = (x 2).val) :
    k0_pay17 (F := Ideal) (k0_pay2 (iblk m c 1 t)) (k0_pay13 (k0_pay3 (iblk m c 2 t)) (k0_pay5 (iblk m c 0 t)) (iota Kind.tc S8x256 32 [0] iota_S8x256_d0_w32)
        (tap m c t) (tap1 m c t) (tap2 m c t)) x
      = val_main_v73 (F := Ideal) (A0 m c) (A1 m c) (A2 m c) (ix3 (y 0) (row t (y 1)) (col t (y 2))) := by
  obtain ⟨a, s, l, rfl⟩ : ∃ (a : Fin 1) (s : Fin 2048) (l : Fin 256), x = ix3 a s l := ⟨x 0, x 1, x 2, eq_ix3 x⟩
  obtain ⟨b, s', l', rfl⟩ : ∃ (a : Fin 3) (s : Fin 2048) (l : Fin 256), y = ix3 a s l := ⟨y 0, y 1, y 2, eq_ix3 y⟩
  obtain rfl : s' = s := Fin.ext h1
  obtain rfl : l' = l := Fin.ext h2
  have hb : b.val = 2 := by have : b.val = 2 + a.val := h0; omega
  refine .trans ?_ (v73 _ _ _ b (row t s') (sq t) s' (col t l') rfl).symm
  rw [if_neg (by omega), if_neg (by omega)]
  pointwise [k0_pay17]
  rw [hdu]
  erw [ConvValue.hb]
  first | rfl | rw [mul_comm]

theorem planes (c : Dev nD) (t : Fin cfg0.N) (y : S3x2048x256.Idx) :
    (outsAt0 m c t.val t.isLt).1 y
      = val_main_v73 (F := Ideal) (A0 m c) (A1 m c) (A2 m c) (ix3 (y 0) (row t (y 1)) (col t (y 2))) := by
  by_cases h0 : t.val % 4 = 0
  · rw [outsAt0_A m c t h0]; frame_out
    canon_tiles x h
    · exact plane2 m c t y x ‹_› ‹_› ‹_›
    · exact plane1 m c t y x ‹_› ‹_› ‹_›
    · exact plane0 m c t y x ‹_› ‹_› ‹_›
  · rw [outsAt0_B m c t h0]; frame_out
    canon_tiles x h
    · exact plane2 m c t y x ‹_› ‹_› ‹_›
    · exact plane1 m c t y x ‹_› ‹_› ‹_›
    · exact plane0 m c t y x ‹_› ‹_› ‹_›

theorem final_dbcx (c : Dev nD) : (dats m 0 c).arrAt 6 cfg0.N = val_main_v73 (F := Ideal) (A0 m c) (A1 m c) (A2 m c) := by
  refine (dats m 0 c).arrAt_eq_of_covers 6 _ (by decide +kernel) fun t hf y => ?_
  blk_simp
  rw [after0_6, planes]
  refine (v73' m c t _ _ _ _ ?_ ?_ ?_).symm <;> blk_simp [idx t]

/-! ## The taps' gradient -/

/-- What one point adds to row `k` of the taps' gradient: the sum over its sequence. -/
def part (c : Dev nD) (t : Fin cfg0.N) (i : S3x256.Idx) : EReal :=
  ∑ s : Fin 2048, val_main_v33 (F := Ideal) (A0 m c) (A2 m c) (ix3 (sq t) s (col t (i 1))) *
    val_main_v8 (F := Ideal) (A0 m c) (ix3 (sq t) ⟨(i 0).val + s.val, by have := (i 0).isLt; have : S3x256.size 0 = 3 := rfl; omega⟩ (col t (i 1)))

theorem p18 (v11 v20 v28 v60 : Vec Ideal S2048x256 .f32) (v104 : Vec Ideal S3x256 .f32) (k : Fin 3) (l : Fin 256) :
    k0_pay18 (F := Ideal) v11 v20 v28 v60 v104 (ix2 k l) = v104 (ix2 k l) + (
      if k.val = 0 then ∑ s : Fin 2048, v60 (ix2 s l) * v28 (ix2 s l)
      else if k.val = 1 then ∑ s : Fin 2048, v60 (ix2 s l) * v20 (ix2 s l)
      else ∑ s : Fin 2048, v60 (ix2 s l) * v11 (ix2 s l)) := by
  pointwise [k0_pay18]
  simp only [Scalar.select, IntOp.cmpi]
  have d : ∀ k : Fin 3, (BitVec.ofBool (BitVec.ofNat 32 k.val == 0#32) = 1 ↔ k.val = 0) ∧ (BitVec.ofBool (BitVec.ofNat 32 k.val == 1#32) = 1 ↔ k.val = 1) := by decide
  simp only [(d k).1, (d k).2]

theorem part_eq (c : Dev nD) (t : Fin cfg0.N) (v : Vec Ideal S3x256 .f32) (i : S3x256.Idx) :
    k0_pay18 (F := Ideal) (k0_pay6 (iblk m c 1 t) (iblk m c 3 t)) (k0_pay7 (iblk m c 1 t) (iblk m c 3 t)) (k0_pay8 (iblk m c 1 t) (iblk m c 3 t))
      (k0_pay12 (k0_pay3 (iblk m c 2 t)) (k0_pay5 (iblk m c 0 t))) v i = v i + part m c t i := by
  obtain ⟨k, l, rfl⟩ : ∃ (k : Fin 3) (l : Fin 256), i = ix2 k l := ⟨i 0, i 1, eq_ix2 i⟩
  rw [p18]
  refine congrArg (v (ix2 k l) + ·) ?_
  show _ = ∑ s : Fin 2048, val_main_v33 (F := Ideal) (A0 m c) (A2 m c) (ix3 (sq t) s (col t l)) *
    val_main_v8 (F := Ideal) (A0 m c) (ix3 (sq t) ⟨k.val + s.val, by omega⟩ (col t l))
  have hk := k.isLt
  rcases (by omega : k.val = 0 ∨ k.val = 1 ∨ k.val = 2) with h | h | h
  · rw [if_pos h]
    refine Finset.sum_congr rfl fun s _ => ?_
    rw [hd, p8, v8]
    simp only [hu, h, Nat.zero_add]
  · rw [if_neg (by omega), if_pos h]
    refine Finset.sum_congr rfl fun s _ => ?_
    rw [hd, p7, v8]
    simp only [hu, h]
    by_cases h1 : 1 ≤ s.val
    · rw [dif_pos h1, dif_pos (by omega)]
      exact congrArg (fun z => (val_main_v33 (F := Ideal) (A0 m c) (A2 m c) (ix3 (sq t) s (col t l)) * val_main_v6 (F := Ideal) (A0 m c) (ix3 (sq t) z (col t l)) : EReal)) (Fin.ext (by dsimp only; omega))
    · rw [dif_neg h1, dif_neg (by omega)]
  · rw [if_neg (by omega), if_neg (by omega)]
    refine Finset.sum_congr rfl fun s _ => ?_
    rw [hd, hu, v8]
    simp only [h]
    rw [dif_pos (by omega)]
    exact congrArg (fun z => (val_main_v33 (F := Ideal) (A0 m c) (A2 m c) (ix3 (sq t) s (col t l)) * val_main_v6 (F := Ideal) (A0 m c) (ix3 (sq t) z (col t l)) : EReal)) (Fin.ext (by dsimp only; omega))

theorem p1 (i : S3x256.Idx) : k0_pay1 (F := Ideal) i = 0 := by
  obtain ⟨k, l, rfl⟩ : ∃ (k : Fin 3) (l : Fin 256), i = ix2 k l := ⟨i 0, i 1, eq_ix2 i⟩
  pointwise [k0_pay1]

theorem pt_lt (t : Fin cfg0.N) (s : Fin 4) : 4 * (t.val / 4) + s.val < cfg0.N := by have := t.isLt; have e : cfg0.N = 16 := N_0; omega

theorem dcw_sum (c : Dev nD) (t : Fin cfg0.N) (ht : t.val % 4 = 3) (i : S3x256.Idx) :
    (outsAt0 m c t.val t.isLt).2 i = ∑ s : Fin 4, part m c ⟨4 * (t.val / 4) + s.val, pt_lt t s⟩ i := by
  have := Pipeline.eq_sum_fin_of_reset_step_apply_of_flush (fun n h => (outsAt0 m c n h).2) 4 (fun _ => (0 : EReal)) (part m c)
    (fun t h i => by rw [outsAt0_A m c t h]; frame_out; rw [part_eq, p1])
    (fun t h i => by rw [outsAt0_B m c t h]; frame_out; rw [part_eq])
    t ht i
  rw [this, zero_add]

theorem v65_col (c : Dev nD) (t : Fin cfg0.N) (k : Fin 3) (l : Fin 256) :
    val_main_v65 (F := Ideal) (A0 m c) (A2 m c) (ix2 k (col t l)) = ∑ s : Fin 4, part m c ⟨4 * (t.val / 4) + s.val, pt_lt t s⟩ (ix2 k l) := by
  rw [v65]
  refine Finset.sum_congr rfl fun b _ => ?_
  have e1 : sq ⟨4 * (t.val / 4) + b.val, pt_lt t b⟩ = b := Fin.ext (by show (4 * (t.val / 4) + b.val) % 4 = _; omega)
  have e2 : col ⟨4 * (t.val / 4) + b.val, pt_lt t b⟩ l = col t l := Fin.ext (by show (4 * (t.val / 4) + b.val) / 4 * 256 + l.val = t.val / 4 * 256 + l.val; omega)
  refine Finset.sum_congr rfl fun s _ => ?_
  show _ = val_main_v33 (F := Ideal) (A0 m c) (A2 m c) (ix3 (sq ⟨4 * (t.val / 4) + b.val, pt_lt t b⟩) s (col ⟨4 * (t.val / 4) + b.val, pt_lt t b⟩ l)) *
    val_main_v8 (F := Ideal) (A0 m c) (ix3 (sq ⟨4 * (t.val / 4) + b.val, pt_lt t b⟩) ⟨k.val + s.val, by omega⟩ (col ⟨4 * (t.val / 4) + b.val, pt_lt t b⟩ l))
  rw [e1, e2]

theorem final_dcw (c : Dev nD) : (dats m 0 c).arrAt 7 cfg0.N = val_main_v65 (F := Ideal) (A0 m c) (A2 m c) := by
  refine (dats m 0 c).arrAt_eq_of_covers 7 _ (by decide +kernel) fun t hf y => ?_
  have ht := (flush0_7 t).mp hf
  blk_simp
  rw [after0_7, dcw_sum m c t ht]
  obtain ⟨k, l, rfl⟩ : ∃ (k : Fin 3) (l : Fin 256), y = ix2 k l := ⟨y 0, y 1, eq_ix2 y⟩
  have e : ((cfg0.win 7).blk t).view.emb (ix2 k l) = ix2 k (col t l) := by blk_ext [idx t]
  exact (v65_col m c t k l).symm.trans (congrArg _ e.symm)

theorem alg : Cert.algebraic_ConvIdeal_ConvRefIdeal := by
  intro m g m' g' _ hm
  refine ⟨_, _, (θ_run defs _ _).mono (fun r h c => ⟨(h c).1.trans (final_dbcx m c), (h c).2.1.trans (final_dcw m c), (h c).2.2⟩)
      (Cert.ConvIdeal.Value.run_blocks m g),
    (θ_run _ _ _).mono (fun r h c => ⟨(h c).1.trans ?_, (h c).2.1.trans ?_, (h c).2.2⟩)
      (Cert.ConvRefIdeal.Value.run m' g')⟩
  · rw [val_main_v73_eq, (hm c).1, (hm c).2.1, (hm c).2.2]
  · rw [val_main_v65_eq, (hm c).1, (hm c).2.2]

end Cert.ConvValue
-- ==== Proof.Loss.lean ====
/- The value of the loss call: the difference of the layer's output and the targets, the loss (half the sum of its
   squares over the width) and the gradient the backward pass starts from. The kernel sweeps the rows in eight blocks,
   keeps the squares' column sums by row residue in a carried scratch and scales once at the end; the reference scales
   per row. -/
module

public import proofs.«01_k».proof.Defs
public import proofs.«01_k».proof.Proof.Common
public import proofs.«01_k».proof.Proof.Gen.LossIdeal.Value
public import proofs.«01_k».proof.Proof.Gen.LossRefIdeal.Run
public import proofs.«01_k».proof.Proof.Gen.LossRefIdeal.Read

@[expose] public section

noncomputable section

namespace Cert.LossValue

open Cert.LossIdeal Cert.LossIdeal.Gen Idealize.ShloMosaic Idealize.ShloMosaic.TcCoe Idealize.SL.Sem
open Cert.LossRefIdeal.Read

variable (m : (ℓ : Loc nD τ sig) → Buf (Elt Ideal) ℓ)

/-- Where the windows' blocks lie at a grid point: row block `t`, the weight whole. -/
theorem idx : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The difference of the output and the targets, of the launch contents. -/
abbrev D (c : Dev nD) (r : Fin 8192) (l : Fin 1024) : EReal :=
  val_main_v3 (F := Ideal) (m (c.tc.loc main_arg0)) (m (c.tc.loc main_arg1)) (m (c.tc.loc main_arg2))
    (m (c.tc.loc main_arg3)) (ix2 r l)

/-- The difference a point computes is the reference's at the point's rows. -/
theorem dif (c : Dev nD) (t : Fin cfg0.N) (r l : Fin 1024) (h : t.val * 1024 + r.val < 8192) :
    k0_pay2 (F := Ideal) (iblk m c 2 t) (iblk m c 0 t) (iblk m c 1 t) (iblk m c 3 t) (ix2 r l)
      = D m c ⟨t.val * 1024 + r.val, h⟩ l := by
  show _ = val_main_v3 (F := Ideal) _ _ _ _ _
  pointwise [k0_pay2, val_main_v3, val_main_v2, val_main_v1, val_main_v0]
  blk_point [iblk, V, idx t]

theorem row_lt (t : Fin cfg0.N) (r : Fin 1024) : t.val * 1024 + r.val < 8192 := by
  have := t.isLt; have e : cfg0.N = 8 := N_0; omega

/-- What a point adds to the carried column sums. -/
def part (c : Dev nD) (t : Fin cfg0.N) (i : S8x1024.Idx) : EReal :=
  ∑ q : Fin 128, D m c ⟨t.val * 1024 + (q.val * 8 + (i 0).val), by
      have h0 : (i 0).val < 8 := (i 0).isLt
      exact row_lt t ⟨q.val * 8 + (i 0).val, by omega⟩⟩ (i 1) *
    D m c ⟨t.val * 1024 + (q.val * 8 + (i 0).val), by
      have h0 : (i 0).val < 8 := (i 0).isLt
      exact row_lt t ⟨q.val * 8 + (i 0).val, by omega⟩⟩ (i 1)

theorem pay5 (c : Dev nD) (t : Fin cfg0.N) (v : Vec Ideal S8x1024 .f32) (i : S8x1024.Idx) :
    k0_pay5 (F := Ideal) (iblk m c 2 t) (iblk m c 0 t) (iblk m c 1 t) (iblk m c 3 t) v i = v i + part m c t i := by
  obtain ⟨s, l, rfl⟩ : ∃ (s : Fin 8) (l : Fin 1024), i = ix2 s l := ⟨i 0, i 1, eq_ix2 i⟩
  pointwise [k0_pay5]
  refine congrArg _ (Finset.sum_congr rfl fun q _ => ?_)
  rw [dif m c t _ _ (row_lt t _)]
  rfl

theorem pay1 (i : S8x1024.Idx) : k0_pay1 (F := Ideal) i = 0 := by
  pointwise [k0_pay1]

/-- The carried scratch after the last point: every row's squares, by row residue and column. -/
theorem scratch (c : Dev nD) (t : Fin cfg0.N) (ht : t.val + 1 = cfg0.N) (i : S8x1024.Idx) :
    (outsAt0 m c t.val t.isLt).2.2.2 i = ∑ t : Fin cfg0.N, part m c t i := by
  have := Pipeline.eq_sum_fin_of_reset_step_apply_last (fun n h => (outsAt0 m c n h).2.2.2) 8 (fun _ => (0 : EReal)) (part m c)
    (fun t h i => by rw [outsAt0_A m c t h (by omega)]; frame_out; rw [pay5, pay1])
    (fun t h i => by
      by_cases h1 : t.val % 8 = 7
      · rw [outsAt0_C m c t h h1]; frame_out; rw [pay5]; erw [Memref.IsWhole.read_unread]
      · rw [outsAt0_B m c t h h1]; frame_out; rw [pay5]; erw [Memref.IsWhole.read_unread])
    (le_of_eq N_0) t ht i
  rw [zero_add] at this
  exact this

theorem loss_of_scratch (c : Dev nD) (t : Fin cfg0.N) (h : t.val % 8 = 7) :
    (outsAt0 m c t.val t.isLt).2.2.1 = k0_pay6 (outsAt0 m c t.val t.isLt).2.2.2 := by
  rw [outsAt0_C m c t (by omega) h]; frame_out

/-- The sum of all the squares, walked by residue, column, block and row of a block. -/
theorem sum_parts (c : Dev nD) :
    ∑ s : Fin 8, ∑ l : Fin 1024, ∑ t : Fin cfg0.N, part m c t (ix2 s l)
      = ∑ r : Fin 8192, ∑ l : Fin 1024, D m c r l * D m c r l := by
  have hq : ∀ (t : Fin cfg0.N) (l : Fin 1024), ∑ s : Fin 8, part m c t (ix2 s l)
      = ∑ k : Fin 1024, D m c ⟨t.val * 1024 + k.val, row_lt t k⟩ l * D m c ⟨t.val * 1024 + k.val, row_lt t k⟩ l := by
    intro t l
    unfold part
    rw [Finset.sum_comm]
    exact Fin.sum_mul_add_fin 128 8 (fun k : Fin 1024 => D m c ⟨t.val * 1024 + k.val, row_lt t k⟩ l
      * D m c ⟨t.val * 1024 + k.val, row_lt t k⟩ l)
  rw [Finset.sum_comm]
  rw [Finset.sum_comm (s := (Finset.univ : Finset (Fin 8192)))]
  refine Finset.sum_congr rfl fun l _ => ?_
  rw [Finset.sum_comm]
  simp only [hq]
  exact Fin.sum_mul_add_fin 8 1024 (fun r : Fin 8192 => D m c r l * D m c r l)

/-- The reference's gradient at an index: the difference over the width. -/
theorem ref_dy (c : Dev nD) (r : Fin 8192) (l : Fin 1024) :
    val_main_v17 (F := Ideal) (m (c.tc.loc main_arg0)) (m (c.tc.loc main_arg1)) (m (c.tc.loc main_arg2))
      (m (c.tc.loc main_arg3)) (ix2 r l) = D m c r l * ((1 / 1024 : ℝ) : EReal) := by
  rw [val_main_v17_apply]
  pointwise [val_main_v16, val_main_v15, val_main_v14, val_main_v13, val_main_v12, val_main_cst_4, val_main_cst_5, val_main_cst_6, val_main_v6, val_main_v5, val_main_cst]
  simp only [Common.bits_half, Common.bits_one, Common.bits_1024, Common.bits_two, Ideal.div_coe (show (1024 : ℝ) ≠ 0 by norm_num),
    ← EReal.coe_mul, mul_one]
  rw [← mul_assoc, ← EReal.coe_mul, mul_comm]
  norm_num

theorem ref_loss (c : Dev nD) (i : S1x1.Idx) :
    val_main_v19 (F := Ideal) (m (c.tc.loc main_arg0)) (m (c.tc.loc main_arg1)) (m (c.tc.loc main_arg2))
      (m (c.tc.loc main_arg3)) i = (∑ r : Fin 8192, ∑ l : Fin 1024, D m c r l * D m c r l) * ((1 / 2048 : ℝ) : EReal) := by
  obtain ⟨a, b, rfl⟩ : ∃ (a b : Fin 1), i = ix2 a b := ⟨i 0, i 1, eq_ix2 i⟩
  pointwise [val_main_v19, val_main_v11, val_main_v10, val_main_v9, val_main_v8, val_main_v7, val_main_v4, val_main_cst_0, val_main_cst_1,
    val_main_cst_2, val_main_cst_3]
  simp only [Common.bits_half, Common.bits_1024, Ideal.ofBits_zero_f32, zero_add, Ideal.div_coe (show (1024 : ℝ) ≠ 0 by norm_num)]
  rw [← Common.sum_mul_coe _ _ (by norm_num), mul_comm, mul_assoc, ← EReal.coe_mul]
  norm_num

/-- The gradient block a point writes. -/
theorem outs_dy (c : Dev nD) (t : Fin cfg0.N) :
    (outsAt0 m c t.val t.isLt).1 = k0_pay3 (iblk m c 2 t) (iblk m c 0 t) (iblk m c 1 t) (iblk m c 3 t)
      ∧ (outsAt0 m c t.val t.isLt).2.1 = k0_pay4 (iblk m c 2 t) (iblk m c 0 t) (iblk m c 1 t) (iblk m c 3 t) := by
  by_cases h0 : t.val % 8 = 0
  · rw [outsAt0_A m c t h0 (by omega)]; constructor <;> frame_out
  · by_cases h1 : t.val % 8 = 7
    · rw [outsAt0_C m c t h0 h1]; constructor <;> frame_out
    · rw [outsAt0_B m c t h0 h1]; constructor <;> frame_out

theorem dy_point (c : Dev nD) (t : Fin cfg0.N) (r l : Fin 1024) (i : S8192x1024.Idx) (h0 : (i 0).val = t.val * 1024 + r.val)
    (h1 : (i 1).val = l.val) :
    k0_pay3 (iblk m c 2 t) (iblk m c 0 t) (iblk m c 1 t) (iblk m c 3 t) (ix2 r l)
      = val_main_v17 (F := Ideal) (m (c.tc.loc main_arg0)) (m (c.tc.loc main_arg1)) (m (c.tc.loc main_arg2)) (m (c.tc.loc main_arg3)) i := by
  obtain rfl : i = ix2 ⟨t.val * 1024 + r.val, row_lt t r⟩ l := by
    funext a; match a with
    | ⟨0, _⟩ => exact Fin.ext h0
    | ⟨1, _⟩ => exact Fin.ext h1
  rw [ref_dy]
  pointwise [k0_pay3]
  rw [dif m c t r l (row_lt t r), Common.bits_inv1024]

theorem final_dy (c : Dev nD) : (dats m 0 c).arrAt 4 cfg0.N
    = val_main_v17 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4, (outs_dy m c t).1]
  obtain ⟨r, l, rfl⟩ : ∃ (r l : Fin 1024), y = ix2 r l := ⟨y 0, y 1, eq_ix2 y⟩
  refine dy_point m c t r l _ ?_ ?_ <;> blk_simp [idx t]

theorem final_dy16 (c : Dev nD) : (dats m 0 c).arrAt 5 cfg0.N
    = val_main_v18 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5, (outs_dy m c t).2]
  obtain ⟨r, l, rfl⟩ : ∃ (r l : Fin 1024), y = ix2 r l := ⟨y 0, y 1, eq_ix2 y⟩
  refine dy_point m c t r l _ ?_ ?_ <;> blk_simp [idx t]

theorem pay6 (v : Vec Ideal S8x1024 .f32) (i : S1x1.Idx) :
    k0_pay6 v i = (∑ s : Fin 8, ∑ l : Fin 1024, v (ix2 s l)) * ((1 / 2048 : ℝ) : EReal) := by
  obtain ⟨a, b, rfl⟩ : ∃ (a b : Fin 1), i = ix2 a b := ⟨i 0, i 1, eq_ix2 i⟩
  pointwise [k0_pay6]
  rw [Common.bits_inv2048]

theorem final_loss (c : Dev nD) : (dats m 0 c).arrAt 6 cfg0.N
    = val_main_v19 (F := Ideal) (m (c.tc.loc main_arg0)) (m (c.tc.loc main_arg1)) (m (c.tc.loc main_arg2)) (m (c.tc.loc main_arg3)) := by
  have e : ∀ (t : Fin cfg0.N) (_ : t.val + 1 = cfg0.N) (i : S1x1.Idx), (dats m 0 c).after 6 t i = val_main_v19 (F := Ideal)
      (m (c.tc.loc main_arg0)) (m (c.tc.loc main_arg1)) (m (c.tc.loc main_arg2)) (m (c.tc.loc main_arg3)) i := by
    intro t ht i
    have e8 : cfg0.N = 8 := N_0
    rw [after0_6, loss_of_scratch m c t (by omega), pay6, ref_loss, ← sum_parts]
    simp only [scratch m c t ht]
  refine (dats m 0 c).arrAt_eq_of_after_last 6 ⟨7, by decide⟩ (by decide +kernel) _ fun j => ?_
  exact e _ (by decide) _

theorem alg : Cert.algebraic_LossIdeal_LossRefIdeal := by
  intro m g m' g' _ hm
  refine ⟨_, _, _, (θ_run defs _ _).mono (fun r h c => ⟨(h c).1.trans (final_dy m c), (h c).2.1.trans (final_dy16 m c),
      (h c).2.2.1.trans (final_loss m c), (h c).2.2.2⟩) (Cert.LossIdeal.Value.run_blocks m g),
    (θ_run _ _ _).mono (fun r h c => ⟨(h c).1.trans ?_, (h c).2.1.trans ?_, (h c).2.2.1.trans ?_, (h c).2.2.2⟩)
      (Cert.LossRefIdeal.Value.run m' g')⟩
  · rw [val_main_v17_eq, (hm c).1, (hm c).2.1, (hm c).2.2.1, (hm c).2.2.2]
  · rw [val_main_v18_eq, (hm c).1, (hm c).2.1, (hm c).2.2.1, (hm c).2.2.2]
  · rw [val_main_v19_eq, (hm c).1, (hm c).2.1, (hm c).2.2.1, (hm c).2.2.2]

end Cert.LossValue
-- ==== Proof.Finite.lean ====
/- Entries that are real numbers: which operations keep them so, and reading the preconditions "every entry is below
   infinity in absolute value" as the entries' being real. -/
module

public import Idealize.ShloMosaic.Lib.ReduceAll
public import Idealize.ShloMosaic.Lib.Pipeline.ValueKit
public import Idealize.ShloMosaic.PureOps.Ideal.Laws

@[expose] public section

noncomputable section

namespace Cert.Common

open Idealize.ShloMosaic

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The quotient of one by one plus an exponential is a real number wherever the exponent is. -/
theorem IsReal.sigmoid {x : EReal} (hx : IsReal x) : IsReal (Ideal.div 1 (1 + Ideal.exp (-x))) := by
  obtain ⟨a, rfl⟩ := hx
  exact ⟨_, Ideal.logistic_coe a⟩

/-- A real number's test against infinity. -/
theorem isReal_of_lt {x : EReal} (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  induction x with
  | coe r => exact ⟨r, rfl⟩
  | bot => simp [Ideal.cmp] at h
  | top => simp [Ideal.cmp] at h

/-- Every entry below infinity in absolute value, as a program states it: every entry is real. -/
theorem isReal_of_all {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) h hu j = 1#1) (i : s.Idx) : IsReal (x i) :=
  isReal_of_lt (Host.reduce_andi_all _ _ _ _ j e i)

theorem and_one : ∀ {a b : BitVec 1}, IntOp.andi a b = 1#1 → a = 1#1 ∧ b = 1#1 := by decide

end Cert.Common
-- ==== Proof.Gate.lean ====
/- The value of the gate's backward call: the gradients of the gate's two halves. The forward call keeps the derivative of
   the gated product in each half (block by block of columns) and the backward call multiplies the gradient arriving through
   the down projection by them; the reference differentiates the gated product. -/
module

public import proofs.«01_k».proof.Defs
public import proofs.«01_k».proof.Proof.Common
public import proofs.«01_k».proof.Proof.Finite
public import proofs.«01_k».proof.Proof.Gen.GateIdeal.Frame
public import proofs.«01_k».proof.Proof.Gen.GateRefIdeal.Run
public import proofs.«01_k».proof.Proof.Gen.GateRefIdeal.Read
public import Idealize.ShloMosaic.Lib.StableHlo.RunClose

@[expose] public section

noncomputable section

namespace Cert.GateValue

open Cert.GateIdeal Cert.GateIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateRefIdeal.Read Cert.Common

section Run

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch: every buffer outside the pipelines' own ends at the last boundary's contents. -/
theorem run_contents : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

variable (m : (ℓ : Loc nD τ sig) → Buf (Elt Ideal) ℓ) (ρ : Dev nD → PrngReg)

/-- Where the forward call's blocks lie: row block `t % 16`, column block `t / 16` of each half. -/
theorem idx0 : ∀ t : Fin cfg0.N, win0_0.index t (0 : Fin 2) = t.val % 16 ∧ win0_0.index t (1 : Fin 2) = 0
    ∧ win0_1.index t (0 : Fin 4) = 0 ∧ win0_1.index t (1 : Fin 4) = t.val / 16 ∧ win0_1.index t (2 : Fin 4) = 0
    ∧ win0_1.index t (3 : Fin 4) = 0
    ∧ win0_2.index t (0 : Fin 4) = 0 ∧ win0_2.index t (1 : Fin 4) = 2 + t.val / 16 ∧ win0_2.index t (2 : Fin 4) = 0
    ∧ win0_2.index t (3 : Fin 4) = 0
    ∧ win0_3.index t (0 : Fin 2) = t.val % 16 ∧ win0_3.index t (1 : Fin 2) = t.val / 16
    ∧ win0_4.index t (0 : Fin 2) = t.val % 16 ∧ win0_4.index t (1 : Fin 2) = t.val / 16 :=
  (by decide +kernel : ∀ t : Fin grid0.N, _)

/-- Where the backward call's blocks lie: row block `t`, the weight whole. -/
theorem idx1 : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The up projection's weight as the forward call reads it. -/
theorem wgu_eq (c : Dev nD) : V1 m ρ c main_v3
    = broadcastInDim S1x4x1024x1408 ![1, 2, 3] bcast_S4x1024x1408_S1x4x1024x1408_1_2_3
        (transpose S4x1024x1408 [1, 0, 2] (shapeCast S1024x4x1408 (truncf .bf16 (m (c.tc.loc main_arg1)) bitsLt_bf16_f32 : FVec Ideal S1024x5632 .bf16)
          shapeCasts_S1024x5632_S1024x4x1408) transposes_S1024x4x1408_S4x1024x1408_1_0_2) := by
  show StableHlo.after hostOps0 _ (Proc.devRef .tc main_v3) = _
  after_results_simp_entrywise; rfl

theorem wgu_at (c : Dev nD) (j : Fin 4) (k : Fin 1024) (l : Fin 1408) :
    V1 m ρ c main_v3 (ix4 (0 : Fin 1) j k l) = m (c.tc.loc main_arg1) (ix2 k ⟨j.val * 1408 + l.val, by omega⟩) := by
  rw [wgu_eq]
  pointwise []

/-- The sigmoid, as both programs spell it. -/
abbrev sgm (g : EReal) : EReal := Ideal.div 1 (1 + Ideal.exp (-g))

/-- The gate's and the up half's pre-activation, of the launch contents. -/
abbrev G (c : Dev nD) (r : Fin 8192) (l : Fin 2816) : EReal :=
  val_main_v2 (F := Ideal) (m (c.tc.loc main_arg0)) (m (c.tc.loc main_arg1)) (ix2 r l)
abbrev U (c : Dev nD) (r : Fin 8192) (l : Fin 2816) : EReal :=
  val_main_v3 (F := Ideal) (m (c.tc.loc main_arg0)) (m (c.tc.loc main_arg1)) (ix2 r l)

theorem row_lt (t : Fin cfg0.N) (r : Fin 512) : t.val % 16 * 512 + r.val < 8192 := by omega
theorem col_lt (t : Fin cfg0.N) (l : Fin 1408) : t.val / 16 * 1408 + l.val < 2816 := by
  have := t.isLt; have e : cfg0.N = 32 := N_0; omega

theorem half_lt (t : Fin cfg0.N) : 2 + t.val / 16 < 4 := by
  have := t.isLt; have e : cfg0.N = 32 := N_0; omega

theorem emb1 (t : Fin cfg0.N) (k : Fin 1024) (l : Fin 1408) :
    (win0_1.blk t).view.emb (ix4 0 0 k l) = ix4 0 ⟨t.val / 16, by have := half_lt t; omega⟩ k l := by blk_ext [idx0 t]
theorem emb2 (t : Fin cfg0.N) (k : Fin 1024) (l : Fin 1408) :
    (win0_2.blk t).view.emb (ix4 0 0 k l) = ix4 0 ⟨2 + t.val / 16, half_lt t⟩ k l := by blk_ext [idx0 t]

theorem gate_pt (c : Dev nD) (t : Fin cfg0.N) (r : Fin 512) (l : Fin 1408) :
    k0_pay1 (F := Ideal) (iblk0 (V1 m ρ) c 0 t) (iblk0 (V1 m ρ) c 1 t) (ix2 r l)
      = G m c ⟨t.val % 16 * 512 + r.val, row_lt t r⟩ ⟨t.val / 16 * 1408 + l.val, col_lt t l⟩ := by
  show _ = val_main_v2 (F := Ideal) _ _ _
  pointwise [k0_pay1, val_main_v2, val_main_v1, val_main_v0]
  blk_point [iblk0, idx0 t]
  exact (congrArg (V1 m ρ c main_v3) (emb1 t _ l)).trans (wgu_at m ρ c _ _ l)

theorem up_pt (c : Dev nD) (t : Fin cfg0.N) (r : Fin 512) (l : Fin 1408) :
    k0_pay2 (F := Ideal) (iblk0 (V1 m ρ) c 0 t) (iblk0 (V1 m ρ) c 2 t) (ix2 r l)
      = U m c ⟨t.val % 16 * 512 + r.val, row_lt t r⟩ ⟨t.val / 16 * 1408 + l.val, col_lt t l⟩ := by
  show _ = val_main_v3 (F := Ideal) _ _ _
  pointwise [k0_pay2, val_main_v3, val_main_v1, val_main_v0]
  blk_point [iblk0, idx0 t]
  exact (congrArg (V1 m ρ c main_v3) (emb2 t _ l)).trans ((wgu_at m ρ c _ _ l).trans
    (congrArg (m (c.tc.loc main_arg1)) (congrArg (ix2 _) (Fin.ext (by dsimp only; omega)))))

/-- The derivative of the gated product in the gate's half, as the forward call keeps it. -/
abbrev dGate (g u : EReal) : EReal := g * sgm g * u + sgm g * (u - g * sgm g * u)

theorem pay6_pt (c : Dev nD) (t : Fin cfg0.N) (r : Fin 512) (l : Fin 1408) :
    k0_pay6 (F := Ideal) (iblk0 (V1 m ρ) c 0 t) (iblk0 (V1 m ρ) c 1 t) (iblk0 (V1 m ρ) c 2 t) (ix2 r l)
      = dGate (G m c ⟨t.val % 16 * 512 + r.val, row_lt t r⟩ ⟨t.val / 16 * 1408 + l.val, col_lt t l⟩)
          (U m c ⟨t.val % 16 * 512 + r.val, row_lt t r⟩ ⟨t.val / 16 * 1408 + l.val, col_lt t l⟩) := by
  pointwise [k0_pay6, k0_pay5, k0_pay4, k0_pay3]
  rw [gate_pt, up_pt, zero_sub]

theorem pay7_pt (c : Dev nD) (t : Fin cfg0.N) (r : Fin 512) (l : Fin 1408) :
    k0_pay7 (F := Ideal) (iblk0 (V1 m ρ) c 0 t) (iblk0 (V1 m ρ) c 1 t) (ix2 r l)
      = G m c ⟨t.val % 16 * 512 + r.val, row_lt t r⟩ ⟨t.val / 16 * 1408 + l.val, col_lt t l⟩
        * sgm (G m c ⟨t.val % 16 * 512 + r.val, row_lt t r⟩ ⟨t.val / 16 * 1408 + l.val, col_lt t l⟩) := by
  pointwise [k0_pay7, k0_pay4, k0_pay3]
  rw [gate_pt, zero_sub]

/-- What the forward call leaves for the gate's half and for the up half. -/
def fDag (c : Dev nD) (i : S8192x2816.Idx) : EReal := dGate (G m c (i 0) (i 1)) (U m c (i 0) (i 1))
def fDau (c : Dev nD) (i : S8192x2816.Idx) : EReal := G m c (i 0) (i 1) * sgm (G m c (i 0) (i 1))

theorem at_emb (t : Fin cfg0.N) (r : Fin 512) (l : Fin 1408) (i : S8192x2816.Idx) (h0 : (i 0).val = t.val % 16 * 512 + r.val)
    (h1 : (i 1).val = t.val / 16 * 1408 + l.val) :
    i = ix2 ⟨t.val % 16 * 512 + r.val, row_lt t r⟩ ⟨t.val / 16 * 1408 + l.val, col_lt t l⟩ := by
  funext a; match a with
  | ⟨0, _⟩ => exact Fin.ext h0
  | ⟨1, _⟩ => exact Fin.ext h1

theorem dag_point (c : Dev nD) (t : Fin cfg0.N) (r : Fin 512) (l : Fin 1408) (i : S8192x2816.Idx)
    (h0 : (i 0).val = t.val % 16 * 512 + r.val) (h1 : (i 1).val = t.val / 16 * 1408 + l.val) :
    k0_pay6 (F := Ideal) (iblk0 (V1 m ρ) c 0 t) (iblk0 (V1 m ρ) c 1 t) (iblk0 (V1 m ρ) c 2 t) (ix2 r l) = fDag m c i := by
  rw [at_emb t r l i h0 h1]; exact pay6_pt m ρ c t r l

theorem dau_point (c : Dev nD) (t : Fin cfg0.N) (r : Fin 512) (l : Fin 1408) (i : S8192x2816.Idx)
    (h0 : (i 0).val = t.val % 16 * 512 + r.val) (h1 : (i 1).val = t.val / 16 * 1408 + l.val) :
    k0_pay7 (F := Ideal) (iblk0 (V1 m ρ) c 0 t) (iblk0 (V1 m ρ) c 1 t) (ix2 r l) = fDau m c i := by
  rw [at_emb t r l i h0 h1]; exact pay7_pt m ρ c t r l

theorem dag_eq (c : Dev nD) : (dat0 (V1 m ρ) c).arrAt 3 cfg0.N = fDag m c := by
  refine (dat0 (V1 m ρ) c).arrAt_eq_of_covers 3 _ (by decide +kernel) fun t hf y => ?_
  blk_simp
  rw [after0_3]; frame_out
  obtain ⟨r, l, rfl⟩ : ∃ (r : Fin 512) (l : Fin 1408), y = ix2 r l := ⟨y 0, y 1, eq_ix2 y⟩
  refine dag_point m ρ c t r l _ ?_ ?_ <;> blk_simp [idx0 t]

theorem dau_eq (c : Dev nD) : (dat0 (V1 m ρ) c).arrAt 4 cfg0.N = fDau m c := by
  refine (dat0 (V1 m ρ) c).arrAt_eq_of_covers 4 _ (by decide +kernel) fun t hf y => ?_
  blk_simp
  rw [after0_4]; frame_out
  obtain ⟨r, l, rfl⟩ : ∃ (r : Fin 512) (l : Fin 1408), y = ix2 r l := ⟨y 0, y 1, eq_ix2 y⟩
  refine dau_point m ρ c t r l _ ?_ ?_ <;> blk_simp [idx0 t]

theorem v3_dag (c : Dev nD) : V3 m ρ c main_v4_0 = fDag m c :=
  (W3_of m ρ c main_v4_0 (by decide)).trans ((W2_arr m ρ c 3).trans (dag_eq m ρ c))
theorem v3_dau (c : Dev nD) : V3 m ρ c main_v4_1 = fDau m c :=
  (W3_of m ρ c main_v4_1 (by decide)).trans ((W2_arr m ρ c 4).trans (dau_eq m ρ c))
theorem v3_arg (c : Dev nD) (a : Ref sig .tc) (ha : a ∈ argRefs) : V3 m ρ c a = m (c.tc.loc a) := W3_args m ρ c a ha

/-- The down projection's weight as the backward call reads it. -/
theorem wdn_eq (c : Dev nD) : V3 m ρ c main_v6
    = broadcastInDim S1x2816x1024 ![1, 2] bcast_S2816x1024_S1x2816x1024_1_2
        (truncf .bf16 (m (c.tc.loc main_arg2)) bitsLt_bf16_f32 : FVec Ideal S2816x1024 .bf16) := by
  rw [← show W2 m ρ c (Proc.devRef .tc main_arg2) = _ from W2_args m ρ c main_arg2 (by decide)]
  show StableHlo.after hostOps1 _ (Proc.devRef .tc main_v6) = _
  after_results_simp_entrywise

theorem wdn_at (c : Dev nD) (k : Fin 2816) (l : Fin 1024) :
    V3 m ρ c main_v6 (ix3 (0 : Fin 1) k l) = m (c.tc.loc main_arg2) (ix2 k l) := by
  rw [wdn_eq]
  pointwise []

theorem row1_lt (t : Fin cfg1.N) (r : Fin 512) : t.val * 512 + r.val < 8192 := by
  have := t.isLt; have e : cfg1.N = 16 := N_1; omega

/-- The gradient arriving at the gated product. -/
abbrev DA (c : Dev nD) (r : Fin 8192) (l : Fin 2816) : EReal :=
  val_main_v8 (F := Ideal) (m (c.tc.loc main_arg2)) (m (c.tc.loc main_arg3)) (ix2 r l)

theorem v3_dx (c : Dev nD) : V3 m ρ c main_arg3 = m (c.tc.loc main_arg3) := v3_arg m ρ c main_arg3 (by decide)

theorem emb_dn (t : Fin cfg1.N) (k : Fin 2816) (l : Fin 1024) : (win1_1.blk t).view.emb (ix3 0 k l) = ix3 0 k l := by blk_ext [idx1 t]

theorem da_pt (c : Dev nD) (t : Fin cfg1.N) (r : Fin 512) (l : Fin 2816) :
    k1_pay1 (F := Ideal) (iblk1 (V3 m ρ) c 0 t) (iblk1 (V3 m ρ) c 1 t) (ix2 r l)
      = DA m c ⟨t.val * 512 + r.val, row1_lt t r⟩ l := by
  show _ = val_main_v8 (F := Ideal) _ _ _
  pointwise [k1_pay1, val_main_v8, val_main_v7]
  blk_point [iblk1, idx1 t]
  exact (congrArg (V3 m ρ c main_v6) (emb_dn t l _)).trans (wdn_at m ρ c l _)

theorem emb_ag (t : Fin cfg1.N) (r : Fin 512) (l : Fin 2816) :
    (win1_2.blk t).view.emb (ix2 r l) = ix2 ⟨t.val * 512 + r.val, row1_lt t r⟩ l := by blk_ext [idx1 t]
theorem emb_au (t : Fin cfg1.N) (r : Fin 512) (l : Fin 2816) :
    (win1_3.blk t).view.emb (ix2 r l) = ix2 ⟨t.val * 512 + r.val, row1_lt t r⟩ l := by blk_ext [idx1 t]

theorem dg_pt (c : Dev nD) (t : Fin cfg1.N) (r : Fin 512) (l : Fin 2816) :
    k1_pay2 (F := Ideal) (iblk1 (V3 m ρ) c 0 t) (iblk1 (V3 m ρ) c 1 t) (iblk1 (V3 m ρ) c 2 t) (ix2 r l)
      = DA m c ⟨t.val * 512 + r.val, row1_lt t r⟩ l * fDag m c (ix2 ⟨t.val * 512 + r.val, row1_lt t r⟩ l) := by
  pointwise [k1_pay2]
  rw [da_pt]
  exact congrArg (_ * ·) ((congrArg (V3 m ρ c main_v4_0) (emb_ag t r l)).trans (congrFun (v3_dag m ρ c) _))

theorem du_pt (c : Dev nD) (t : Fin cfg1.N) (r : Fin 512) (l : Fin 2816) :
    k1_pay3 (F := Ideal) (iblk1 (V3 m ρ) c 0 t) (iblk1 (V3 m ρ) c 1 t) (iblk1 (V3 m ρ) c 3 t) (ix2 r l)
      = DA m c ⟨t.val * 512 + r.val, row1_lt t r⟩ l * fDau m c (ix2 ⟨t.val * 512 + r.val, row1_lt t r⟩ l) := by
  pointwise [k1_pay3]
  rw [da_pt]
  exact congrArg (_ * ·) ((congrArg (V3 m ρ c main_v4_1) (emb_au t r l)).trans (congrFun (v3_dau m ρ c) _))

/-- The reference's results at an index. -/
theorem ref_dg (c : Dev nD) (r : Fin 8192) (l : Fin 2816) :
    val_main_v15 (F := Ideal) (m (c.tc.loc main_arg0)) (m (c.tc.loc main_arg1)) (m (c.tc.loc main_arg2)) (m (c.tc.loc main_arg3)) (ix2 r l)
      = DA m c r l * U m c r l * sgm (G m c r l)
        + G m c r l * (DA m c r l * U m c r l) * (sgm (G m c r l) * (1 - sgm (G m c r l))) := by
  rw [val_main_v15_apply, val_main_v13_apply]
  pointwise [val_main_v12, val_main_v11, val_main_call1_v1, val_main_call1_v2, val_main_call1_v0, val_main_v10, val_main_v4_1,
    val_main_call0_v7, val_main_call0_v6, val_main_call0_cst_1, val_main_v4_2, val_main_call0_v4, val_main_call0_cst_0,
    val_main_call0_v3, val_main_call0_v2, val_main_call0_cst, val_main_call0_v1, val_main_call0_v0]

theorem ref_du (c : Dev nD) (r : Fin 8192) (l : Fin 2816) :
    val_main_v16 (F := Ideal) (m (c.tc.loc main_arg0)) (m (c.tc.loc main_arg1)) (m (c.tc.loc main_arg2)) (m (c.tc.loc main_arg3)) (ix2 r l)
      = G m c r l * sgm (G m c r l) * DA m c r l := by
  rw [val_main_v16_apply, val_main_v14_apply]
  pointwise [val_main_v12, val_main_v9, val_main_v4_0, val_main_v4_2, val_main_call0_v4, val_main_call0_cst_0,
    val_main_call0_v3, val_main_call0_v2, val_main_call0_cst, val_main_call0_v1, val_main_call0_v0]

theorem real_g (c : Dev nD) (h0 : ∀ i, IsReal (m (c.tc.loc main_arg0) i)) (h1 : ∀ i, IsReal (m (c.tc.loc main_arg1) i))
    (r : Fin 8192) (l : Fin 2816) : IsReal (G m c r l) := by
  show IsReal (val_main_v2 (F := Ideal) _ _ _)
  pointwise [val_main_v2, val_main_v1, val_main_v0]
  exact IsReal.sum _ fun k => (h0 _).mul (h1 _)

theorem real_u (c : Dev nD) (h0 : ∀ i, IsReal (m (c.tc.loc main_arg0) i)) (h1 : ∀ i, IsReal (m (c.tc.loc main_arg1) i))
    (r : Fin 8192) (l : Fin 2816) : IsReal (U m c r l) := by
  show IsReal (val_main_v3 (F := Ideal) _ _ _)
  pointwise [val_main_v3, val_main_v1, val_main_v0]
  exact IsReal.sum _ fun k => (h0 _).mul (h1 _)

theorem real_da (c : Dev nD) (h2 : ∀ i, IsReal (m (c.tc.loc main_arg2) i)) (h3 : ∀ i, IsReal (m (c.tc.loc main_arg3) i))
    (r : Fin 8192) (l : Fin 2816) : IsReal (DA m c r l) := by
  show IsReal (val_main_v8 (F := Ideal) _ _ _)
  pointwise [val_main_v8, val_main_v7]
  exact IsReal.sum _ fun k => (h3 _).mul (h2 _)

/-- Over the reals the kept derivative is the derivative of the gated product. -/
theorem gate_identity {g u d : EReal} (hg : IsReal g) (hu : IsReal u) (hd : IsReal d) :
    d * dGate g u = d * u * sgm g + g * (d * u) * (sgm g * (1 - sgm g)) := by
  obtain ⟨s, hs⟩ := hg.sigmoid
  obtain ⟨g, rfl⟩ := hg; obtain ⟨u, rfl⟩ := hu; obtain ⟨d, rfl⟩ := hd
  rw [dGate, show sgm (g : EReal) = s from hs, ← EReal.coe_one]
  simp only [← EReal.coe_mul, ← EReal.coe_add, ← EReal.coe_sub]
  exact congrArg _ (by ring)

theorem at_emb1 (t : Fin cfg1.N) (r : Fin 512) (l : Fin 2816) (i : S8192x2816.Idx) (h0 : (i 0).val = t.val * 512 + r.val)
    (h1 : (i 1).val = l.val) : i = ix2 ⟨t.val * 512 + r.val, row1_lt t r⟩ l := by
  funext a; match a with
  | ⟨0, _⟩ => exact Fin.ext h0
  | ⟨1, _⟩ => exact Fin.ext h1

/-- Every argument array's entries are real, on one device. -/
def AllReal (c : Dev nD) : Prop := (∀ i, IsReal (m (c.tc.loc main_arg0) i)) ∧ (∀ i, IsReal (m (c.tc.loc main_arg1) i))
  ∧ (∀ i, IsReal (m (c.tc.loc main_arg2) i)) ∧ ∀ i, IsReal (m (c.tc.loc main_arg3) i)

theorem dg_point (c : Dev nD) (h : AllReal m c) (t : Fin cfg1.N) (r : Fin 512) (l : Fin 2816) (i : S8192x2816.Idx)
    (h0 : (i 0).val = t.val * 512 + r.val) (h1 : (i 1).val = l.val) :
    k1_pay2 (F := Ideal) (iblk1 (V3 m ρ) c 0 t) (iblk1 (V3 m ρ) c 1 t) (iblk1 (V3 m ρ) c 2 t) (ix2 r l)
      = val_main_v15 (F := Ideal) (m (c.tc.loc main_arg0)) (m (c.tc.loc main_arg1)) (m (c.tc.loc main_arg2)) (m (c.tc.loc main_arg3)) i := by
  rw [at_emb1 t r l i h0 h1, ref_dg, dg_pt]
  exact gate_identity (real_g m c h.1 h.2.1 _ _) (real_u m c h.1 h.2.1 _ _) (real_da m c h.2.2.1 h.2.2.2 _ _)

theorem du_point (c : Dev nD) (t : Fin cfg1.N) (r : Fin 512) (l : Fin 2816) (i : S8192x2816.Idx)
    (h0 : (i 0).val = t.val * 512 + r.val) (h1 : (i 1).val = l.val) :
    k1_pay3 (F := Ideal) (iblk1 (V3 m ρ) c 0 t) (iblk1 (V3 m ρ) c 1 t) (iblk1 (V3 m ρ) c 3 t) (ix2 r l)
      = val_main_v16 (F := Ideal) (m (c.tc.loc main_arg0)) (m (c.tc.loc main_arg1)) (m (c.tc.loc main_arg2)) (m (c.tc.loc main_arg3)) i := by
  rw [at_emb1 t r l i h0 h1, ref_du, du_pt, mul_comm]
  rfl

theorem final_dg (c : Dev nD) (h : AllReal m c) : (dat1 (V3 m ρ) c).arrAt 4 cfg1.N
    = val_main_v15 (F := Ideal) (m (c.tc.loc main_arg0)) (m (c.tc.loc main_arg1)) (m (c.tc.loc main_arg2)) (m (c.tc.loc main_arg3)) := by
  refine (dat1 (V3 m ρ) c).arrAt_eq_of_covers 4 _ (by decide +kernel) fun t hf y => ?_
  blk_simp
  rw [after1_4]; frame_out
  obtain ⟨r, l, rfl⟩ : ∃ (r : Fin 512) (l : Fin 2816), y = ix2 r l := ⟨y 0, y 1, eq_ix2 y⟩
  refine dg_point m ρ c h t r l _ ?_ ?_ <;> blk_simp [idx1 t]

theorem final_du (c : Dev nD) : (dat1 (V3 m ρ) c).arrAt 5 cfg1.N
    = val_main_v16 (F := Ideal) (m (c.tc.loc main_arg0)) (m (c.tc.loc main_arg1)) (m (c.tc.loc main_arg2)) (m (c.tc.loc main_arg3)) := by
  refine (dat1 (V3 m ρ) c).arrAt_eq_of_covers 5 _ (by decide +kernel) fun t hf y => ?_
  blk_simp
  rw [after1_5]; frame_out
  obtain ⟨r, l, rfl⟩ : ∃ (r : Fin 512) (l : Fin 2816), y = ix2 r l := ⟨y 0, y 1, eq_ix2 y⟩
  refine du_point m ρ c t r l _ ?_ ?_ <;> blk_simp [idx1 t]

theorem facts_pre : Cert.Pre_finite_gate.Facts where
  bitsLt_bf16_f32 := by decide
  bcast_S_S8192x1024 := by decide
  reducesTo_S8192x1024_S_d0_1 := by decide
  h_S_ := by decide
  bcast_S_S1024x5632 := by decide
  reducesTo_S1024x5632_S_d0_1 := by decide
  bcast_S_S2816x1024 := by decide
  reducesTo_S2816x1024_S_d0_1 := by decide

/-- The precondition, entry by entry. -/
theorem allReal [Cert.Pre_finite_gate.Facts] (h : Cert.Pre_GateIdeal_finite_gate m) (c : Dev nD) : AllReal m c := by
  have e := congrFun (h c) ix0
  obtain ⟨e, h3⟩ := and_one e
  obtain ⟨e, h2⟩ := and_one e
  obtain ⟨h0, h1⟩ := and_one e
  exact ⟨isReal_of_all _ _ _ _ _ h0, isReal_of_all _ _ _ _ _ h1, isReal_of_all _ _ _ _ _ h2, isReal_of_all _ _ _ _ _ h3⟩

theorem alg [Cert.Pre_finite_gate.Facts] : Cert.algebraic_GateIdeal_GateRefIdeal_pre_finite_gate := by
  intro m g m' g' hp hm
  refine ⟨_, _, (θ_run defs _ _).mono (fun r h c =>
      ⟨(h c _ (mem_uc main_v7_0 (by decide))).trans ((W4_arr m g c 4).trans (final_dg m g c (allReal m hp c))),
       (h c _ (mem_uc main_v7_1 (by decide))).trans ((W4_arr m g c 5).trans (final_du m g c)),
       (h c _ (mem_uc main_arg0 (by decide))).trans (W4_main_arg0 m g c),
       (h c _ (mem_uc main_arg1 (by decide))).trans (W4_main_arg1 m g c),
       (h c _ (mem_uc main_arg2 (by decide))).trans (W4_main_arg2 m g c),
       (h c _ (mem_uc main_arg3 (by decide))).trans (W4_main_arg3 m g c)⟩) (run_contents m g),
    (θ_run _ _ _).mono (fun r h c => ⟨(h c).1.trans ?_, (h c).2.1.trans ?_, (h c).2.2⟩) (Cert.GateRefIdeal.Value.run m' g')⟩
  · rw [val_main_v15_eq, (hm c).1, (hm c).2.1, (hm c).2.2.1, (hm c).2.2.2]
  · rw [val_main_v16_eq, (hm c).1, (hm c).2.1, (hm c).2.2.1, (hm c).2.2.2]

end Cert.GateValue

end
-- ==== Proof.Norm.lean ====
/- The gradient through the root-mean-square norm of one row, over the extended reals: the shape the kernels compute it in
   and the shape the derivative of the norm comes in agree on real rows. -/
module

public import proofs.«01_k».proof.Proof.Common
public import proofs.«01_k».proof.Proof.Finite
public import proofs.«01_k».proof.Proof.Gen.NormFfnIdeal.Skeleton

@[expose] public section

noncomputable section

namespace Cert.Common

open Idealize.ShloMosaic

/-- The mean square of a row plus the small constant, and the factor the norm scales the row by. -/
def meanSq {n : ℕ} (x : Fin n → EReal) : EReal :=
  Ideal.div (∑ k, x k * x k) (Ideal.ofBits .f32 0x44800000#32) + Ideal.ofBits .f32 0x358637BD#32
def rstd {n : ℕ} (x : Fin n → EReal) : EReal := Ideal.rsqrt (meanSq x)

theorem bits_eps : ∃ e : ℝ, 0 < e ∧ Ideal.ofBits .f32 0x358637BD#32 = (e : EReal) := by
  refine ⟨_, ?_, by simp only [Ideal.ofBits, Ideal.ieee]; simp [-EReal.coe_mul]; rfl⟩
  norm_num

theorem bits_neg_half : Ideal.ofBits .f32 0xBF000000#32 = ((-(1 / 2) : ℝ) : EReal) := by
  simp [Ideal.ofBits, Ideal.ieee, -EReal.coe_mul]; norm_num

theorem coe_sum {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f Finset.univ).symm

/-- On a real row the mean square is a positive real. -/
theorem meanSq_real {n : ℕ} (x : Fin n → ℝ) : ∃ v : ℝ, 0 < v ∧ meanSq (fun k => (x k : EReal)) = v := by
  obtain ⟨e, he, heq⟩ := bits_eps
  refine ⟨(∑ k, x k * x k) * (1 / 1024) + e, by have := Finset.sum_nonneg (fun k (_ : k ∈ Finset.univ) => mul_self_nonneg (x k)); positivity, ?_⟩
  rw [meanSq, heq, bits_1024, Ideal.div_coe (show (1024 : ℝ) ≠ 0 by norm_num)]
  simp only [← EReal.coe_mul, coe_sum, ← EReal.coe_add]

/-- The gradient of one row in the kernels' shape, and in the derivative's: `g` the gradient at the scaled row, `d` what else arrives. -/
def dxKernel {n : ℕ} (x g : Fin n → EReal) (d : EReal) (l : Fin n) : EReal :=
  d + rstd x * (g l - x l * rstd x * Ideal.div (∑ k, g k * (x k * rstd x)) (Ideal.ofBits .f32 0x44800000#32))
def dxRef {n : ℕ} (x g : Fin n → EReal) (d : EReal) (l : Fin n) : EReal :=
  d + g l * rstd x
    + x l * Ideal.div ((∑ k, x k * g k) * (Ideal.ofBits .f32 0xBF000000#32 * Ideal.div (rstd x) (meanSq x))) (Ideal.ofBits .f32 0x44800000#32)
    + Ideal.div ((∑ k, x k * g k) * (Ideal.ofBits .f32 0xBF000000#32 * Ideal.div (rstd x) (meanSq x))) (Ideal.ofBits .f32 0x44800000#32) * x l

/-- On a real row the two agree. -/
theorem norm_grad {n : ℕ} (x g : Fin n → EReal) (hx : ∀ k, IsReal (x k)) (hg : ∀ k, IsReal (g k)) (d : EReal) (l : Fin n) :
    dxKernel x g d l = dxRef x g d l := by
  unfold dxKernel dxRef
  choose x' hx' using hx
  choose g' hg' using hg
  obtain rfl : x = fun k => (x' k : EReal) := funext hx'
  obtain rfl : g = fun k => (g' k : EReal) := funext hg'
  obtain ⟨v, hv, hm⟩ := meanSq_real x'
  have hr : rstd (fun k => (x' k : EReal)) = ((Real.sqrt v)⁻¹ : ℝ) := by
    rw [rstd, hm, Ideal.rsqrt_coe, if_neg (not_lt.2 hv.le), if_neg hv.ne']
  rw [hr, hm, bits_neg_half, bits_1024, Ideal.div_coe hv.ne', Ideal.div_coe (show (1024 : ℝ) ≠ 0 by norm_num),
    Ideal.div_coe (show (1024 : ℝ) ≠ 0 by norm_num)]
  simp only [← EReal.coe_mul, ← EReal.coe_sub, coe_sum, add_assoc, ← EReal.coe_add]
  refine congrArg (fun z : ℝ => d + (z : EReal)) ?_
  have hs : Real.sqrt v * Real.sqrt v = v := Real.mul_self_sqrt hv.le
  have hs0 : Real.sqrt v ≠ 0 := (Real.sqrt_pos.2 hv).ne'
  have e2 : ∑ k, g' k * (x' k * (Real.sqrt v)⁻¹) = (∑ k, x' k * g' k) * (Real.sqrt v)⁻¹ := by
    rw [Finset.sum_mul]; exact Finset.sum_congr rfl fun k _ => by ring
  rw [e2]
  have hvi : v⁻¹ = (Real.sqrt v)⁻¹ * (Real.sqrt v)⁻¹ := by rw [← mul_inv, hs]
  generalize ∑ k, x' k * g' k = S
  rw [one_div v, hvi]
  ring

/-- Row `r` of block `t`. -/
abbrev blockRow (t : Fin 16) (r : Fin 512) : Fin 8192 := ⟨t.val * 512 + r.val, by omega⟩

/-- The kernels' rows are 16 blocks of 512, each folded by row residue modulo 8. -/
theorem sum_rows (f : Fin 8192 → EReal) :
    ∑ s : Fin 8, ∑ t : Fin 16, ∑ q : Fin 64, f (blockRow t ⟨q.val * 8 + s.val, by omega⟩) = ∑ r, f r := by
  rw [Finset.sum_comm]
  refine Eq.trans (Finset.sum_congr rfl fun t _ => ?_) (Fin.sum_mul_add_fin 16 512 f)
  rw [Finset.sum_comm]
  exact Fin.sum_mul_add_fin 64 8 (fun k : Fin 512 => f (blockRow t k))

/-- One block's share of the gain's gradient, by row residue and column. -/
def gainPart (dh x : Fin 8192 → Fin 1024 → EReal) (t : Fin 16) (i : (⟨2, ![8, 1024]⟩ : Shape).Idx) : EReal :=
  ∑ q : Fin 64, dh (blockRow t ⟨q.val * 8 + (i 0).val, by have : (i 0).val < 8 := (i 0).isLt; omega⟩) (i 1)
    * (x (blockRow t ⟨q.val * 8 + (i 0).val, by have : (i 0).val < 8 := (i 0).isLt; omega⟩) (i 1)
      * rstd (x (blockRow t ⟨q.val * 8 + (i 0).val, by have : (i 0).val < 8 := (i 0).isLt; omega⟩)))

/-- The shares add up to the gain's gradient. -/
theorem sum_gainPart (dh x : Fin 8192 → Fin 1024 → EReal) (l : Fin 1024) :
    ∑ s : Fin 8, ∑ t : Fin 16, gainPart dh x t (ix2 s l) = ∑ r, dh r l * (x r l * rstd (x r)) :=
  sum_rows fun r => dh r l * (x r l * rstd (x r))

section Payloads

open Cert.NormFfnIdeal Cert.NormFfnIdeal.Gen

/-- The normalised block, and the factor it is scaled by. -/
theorem rstd_at (x : Vec Ideal S512x1024 .f32) (r : Fin 512) :
    k0_pay1 (F := Ideal) (k0_pay8 x) (ix2 r 0) = rstd fun k => x (ix2 r k) := by
  pointwise [k0_pay1, k0_pay8]
  rfl

theorem xhat_at (x : Vec Ideal S512x1024 .f32) (r : Fin 512) (l : Fin 1024) :
    k0_pay2 (F := Ideal) x (k0_pay8 x) (ix2 r l) = x (ix2 r l) * rstd fun k => x (ix2 r k) := by
  pointwise [k0_pay2]
  rw [rstd_at]

/-- The block of the rows' gradient, on real rows: `dh` arrives at the normalised rows, `d` besides. -/
theorem dx_at {dh x : Vec Ideal S512x1024 .f32} {D X : Fin 8192 → Fin 1024 → EReal} {t : Fin 16}
    (hD : ∀ r l, dh (ix2 r l) = D (blockRow t r) l) (hX : ∀ r l, x (ix2 r l) = X (blockRow t r) l)
    (gain : Vec Ideal S1x1024 .f32) (d : Vec Ideal S512x1024 .f32) (r : Fin 512) (l : Fin 1024)
    (rx : ∀ k, IsReal (X (blockRow t r) k)) (rg : ∀ k, IsReal (D (blockRow t r) k * gain (ix2 0 k))) :
    k0_pay3 (F := Ideal) dh x (k0_pay8 x) gain d (ix2 r l)
      = dxRef (X (blockRow t r)) (fun k => D (blockRow t r) k * gain (ix2 0 k)) (d (ix2 r l)) l := by
  rw [← norm_grad _ _ rx rg]
  pointwise [k0_pay3]
  simp only [rstd_at, xhat_at, hD, hX]
  rfl

theorem dgain_at {dh x : Vec Ideal S512x1024 .f32} {D X : Fin 8192 → Fin 1024 → EReal} {t : Fin 16}
    (hD : ∀ r l, dh (ix2 r l) = D (blockRow t r) l) (hX : ∀ r l, x (ix2 r l) = X (blockRow t r) l)
    (a : Vec Ideal S8x1024 .f32) (i : S8x1024.Idx) :
    k0_pay5 (F := Ideal) dh x (k0_pay8 x) a i = a i + gainPart D X t i := by
  obtain ⟨s, l, rfl⟩ : ∃ (s : Fin 8) (l : Fin 1024), i = ix2 s l := ⟨i 0, i 1, eq_ix2 i⟩
  pointwise [k0_pay5]
  simp only [xhat_at, hD, hX]
  rfl

theorem zero_at (i : S8x1024.Idx) : k0_pay6 (F := Ideal) i = 0 := by
  pointwise [k0_pay6]

end Payloads

end Cert.Common

end
-- ==== Proof.NormFfn.lean ====
/- The value of the norm's backward call behind the feed-forward layer's up projection: the gradients of the layer's input
   and of the gain, the cotangents arriving block by block of columns. -/
module

public import proofs.«01_k».proof.Defs
public import proofs.«01_k».proof.Proof.Norm
public import proofs.«01_k».proof.Proof.Gen.NormFfnIdeal.Frame
public import proofs.«01_k».proof.Proof.Gen.NormFfnRefIdeal.Run
public import proofs.«01_k».proof.Proof.Gen.NormFfnRefIdeal.Read
public import Idealize.ShloMosaic.Lib.StableHlo.RunClose

@[expose] public section

noncomputable section

namespace Cert.NormFfnValue

open Cert.NormFfnIdeal Cert.NormFfnIdeal.Gen Idealize.ShloMosaic Idealize.ShloMosaic.TcCoe
open Idealize.SL.Sem
open Cert.NormFfnRefIdeal.Read Cert.Common

variable (m : (ℓ : Loc nD τ sig) → Buf (Elt Ideal) ℓ) (ρ : Dev nD → PrngReg)

/-- Where the blocks lie: row block `t`, the weight and the gain whole. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- The weight as the call reads it. -/
theorem w_eq (c : Dev nD) : V m c main_v3
    = broadcastInDim S1x4x1024x1408 ![1, 2, 3] bcast_S4x1024x1408_S1x4x1024x1408_1_2_3
        (transpose S4x1024x1408 [1, 0, 2] (shapeCast S1024x4x1408 (truncf .bf16 (m (c.tc.loc main_arg2)) bitsLt_bf16_f32 : FVec Ideal S1024x5632 .bf16)
          shapeCasts_S1024x5632_S1024x4x1408) transposes_S1024x4x1408_S4x1024x1408_1_0_2) := by
  show StableHlo.after hostOps0 _ (Proc.devRef .tc main_v3) = _
  after_results_simp_entrywise; rfl

theorem w_at (c : Dev nD) (j : Fin 4) (k : Fin 1024) (l : Fin 1408) :
    V m c main_v3 (ix4 (0 : Fin 1) j k l) = m (c.tc.loc main_arg2) (ix2 k ⟨j.val * 1408 + l.val, by omega⟩) := by
  rw [w_eq]
  pointwise []

/-- The gradient arriving at the normalised rows, as the call's point `t` sums it, and as the reference does. -/
abbrev dhB (c : Dev nD) (t : Fin cfg0.N) : FVec Ideal S512x1024 .f32 :=
  k0_pay7 (View.ld (iblk m c 0 t) (Rect.unit ![0, 0] ![512, 1408] inb_S512x2816_S512x1408_0_0))
    (View.ld (iblk m c 2 t) (Rect.unit ![0, 0, 0, 0] ![1, 1, 1024, 1408] inb_S1x4x1024x1408_S1x1x1024x1408_0_0_0_0))
    (View.ld (iblk m c 0 t) (Rect.unit ![0, 1408] ![512, 1408] inb_S512x2816_S512x1408_0_1408))
    (View.ld (iblk m c 2 t) (Rect.unit ![0, 1, 0, 0] ![1, 1, 1024, 1408] inb_S1x4x1024x1408_S1x1x1024x1408_0_1_0_0))
    (View.ld (iblk m c 1 t) (Rect.unit ![0, 0] ![512, 1408] inb_S512x2816_S512x1408_0_0))
    (View.ld (iblk m c 2 t) (Rect.unit ![0, 2, 0, 0] ![1, 1, 1024, 1408] inb_S1x4x1024x1408_S1x1x1024x1408_0_2_0_0))
    (View.ld (iblk m c 1 t) (Rect.unit ![0, 1408] ![512, 1408] inb_S512x2816_S512x1408_0_1408))
    (View.ld (iblk m c 2 t) (Rect.unit ![0, 3, 0, 0] ![1, 1, 1024, 1408] inb_S1x4x1024x1408_S1x1x1024x1408_0_3_0_0))
abbrev dhR (c : Dev nD) (r : Fin 8192) (l : Fin 1024) : EReal :=
  val_main_v19 (F := Ideal) (m (c.tc.loc main_arg2)) (m (c.tc.loc main_arg3)) (m (c.tc.loc main_arg4)) (ix2 r l)

/-- The launch contents, at a row and a column. -/
abbrev X (c : Dev nD) (r : Fin 8192) (l : Fin 1024) : EReal := m (c.tc.loc main_arg0) (ix2 r l)

/-- The two cotangents side by side. -/
theorem ct_dg (c : Dev nD) (r : Fin 8192) (k : Fin 5632) (l : Fin 2816) (h : k.val = l.val) :
    val_main_v2 (F := Ideal) (m (c.tc.loc main_arg3)) (m (c.tc.loc main_arg4)) (ix2 r k) = m (c.tc.loc main_arg3) (ix2 r l) := by
  obtain rfl : k = ⟨l.val, by clear h; omega⟩ := Fin.ext h
  pointwise [val_main_v2, val_main_v0]
theorem ct_du (c : Dev nD) (r : Fin 8192) (k : Fin 5632) (l : Fin 2816) (h : k.val = 2816 + l.val) :
    val_main_v2 (F := Ideal) (m (c.tc.loc main_arg3)) (m (c.tc.loc main_arg4)) (ix2 r k) = m (c.tc.loc main_arg4) (ix2 r l) := by
  obtain rfl : k = ⟨2816 + l.val, by clear h; omega⟩ := Fin.ext h
  pointwise [val_main_v2, val_main_v1]

theorem emb_w (t : Fin cfg0.N) (j : Fin 4) (k : Fin 1024) (l : Fin 1408) :
    (win0_2.blk t).view.emb (ix4 0 j k l) = ix4 0 j k l := by blk_ext [idx t]
theorem iblk_w (c : Dev nD) (t : Fin cfg0.N) (j : Fin 4) (k : Fin 1024) (l : Fin 1408) :
    iblk m c 2 t (ix4 0 j k l) = m (c.tc.loc main_arg2) (ix2 k ⟨j.val * 1408 + l.val, by omega⟩) :=
  (congrArg (V m c main_v3) (emb_w t j k l)).trans (w_at m c j k l)

theorem iblk_dg (c : Dev nD) (t : Fin cfg0.N) (r : Fin 512) (l : Fin 2816) :
    iblk m c 0 t (ix2 r l) = m (c.tc.loc main_arg3) (ix2 (blockRow t r) l) := by blk_point [iblk, V, idx t]
theorem iblk_du (c : Dev nD) (t : Fin cfg0.N) (r : Fin 512) (l : Fin 2816) :
    iblk m c 1 t (ix2 r l) = m (c.tc.loc main_arg4) (ix2 (blockRow t r) l) := by blk_point [iblk, V, idx t]
theorem iblk_x (c : Dev nD) (t : Fin cfg0.N) (r : Fin 512) (l : Fin 1024) :
    iblk m c 3 t (ix2 r l) = X m c (blockRow t r) l := by blk_point [iblk, V, idx t]
theorem iblk_gain (c : Dev nD) (t : Fin cfg0.N) (l : Fin 1024) :
    iblk m c 4 t (ix2 0 l) = m (c.tc.loc main_arg1) (ix2 0 l) := by blk_point [iblk, V, idx t]
theorem iblk_dres (c : Dev nD) (t : Fin cfg0.N) (r : Fin 512) (l : Fin 1024) :
    iblk m c 5 t (ix2 r l) = m (c.tc.loc main_arg5) (ix2 (blockRow t r) l) := by blk_point [iblk, V, idx t]

/-- Four products of 1408 columns are the product of all 5632. -/
theorem dh_pt (c : Dev nD) (t : Fin cfg0.N) (r : Fin 512) (l : Fin 1024) :
    dhB m c t (ix2 r l) = dhR m c (blockRow t r) l := by
  show k0_pay7 _ _ _ _ _ _ _ _ _ = val_main_v19 _ _ _ _
  pointwise [k0_pay7, val_main_v19]
  refine Eq.trans ?_ (Fin.sum_mul_add_fin 4 1408 _)
  rw [Fin.sum_univ_four]
  simp only [iblk_w, iblk_dg, iblk_du]
  refine congrArg₂ (· + ·) (congrArg₂ (· + ·) (congrArg₂ (· + ·) ?_ ?_) ?_) ?_ <;> refine Finset.sum_congr rfl fun q _ => congrArg (· * _) (Eq.symm ?_)
  · exact ct_dg m c _ _ _ (by simp)
  · exact ct_dg m c _ _ _ (by simp)
  · exact ct_du m c _ _ _ (by simp)
  · exact ct_du m c _ _ _ (by dsimp; omega)

/-- The reference's results at an index. -/
theorem ref_dx (c : Dev nD) (r : Fin 8192) (l : Fin 1024) :
    val_main_v39 (F := Ideal) (m (c.tc.loc main_arg0)) (m (c.tc.loc main_arg1)) (m (c.tc.loc main_arg2)) (m (c.tc.loc main_arg3))
        (m (c.tc.loc main_arg4)) (m (c.tc.loc main_arg5)) (ix2 r l)
      = dxRef (X m c r) (fun k => dhR m c r k * m (c.tc.loc main_arg1) (ix2 0 k)) (m (c.tc.loc main_arg5) (ix2 r l)) l := by
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v13, val_main_v12,
    val_main_v11, val_main_v10, val_main_v9, val_main_v8, val_main_v7, val_main_v6, val_main_v5, val_main_v4, val_main_v3,
    val_main_cst, val_main_cst_0, val_main_cst_1, val_main_cst_2, val_main_cst_4, val_main_cst_5, val_main_cst_6]
  simp only [Fin.sum_univ_one]
  rfl

theorem ref_dgain (c : Dev nD) (l : Fin 1024) :
    val_main_v22 (F := Ideal) (m (c.tc.loc main_arg0)) (m (c.tc.loc main_arg2)) (m (c.tc.loc main_arg3))
        (m (c.tc.loc main_arg4)) (ix2 0 l)
      = ∑ r : Fin 8192, dhR m c r l * (X m c r l * rstd (X m c r)) := by
  pointwise [val_main_v22, val_main_v21, val_main_v20, val_main_v15, val_main_v14,
    val_main_v10, val_main_v9, val_main_v8, val_main_v7, val_main_v6, val_main_v5, val_main_v4, val_main_v3,
    val_main_cst, val_main_cst_0, val_main_cst_1, val_main_cst_3]
  exact Finset.sum_congr rfl fun r _ => mul_comm _ _

/-- What a point leaves in the two gradient blocks. -/
theorem outs (c : Dev nD) (t : Fin cfg0.N) :
    (outsAt0 m c t.val t.isLt).1 = k0_pay3 (dhB m c t) (iblk m c 3 t) (k0_pay8 (iblk m c 3 t)) (iblk m c 4 t) (iblk m c 5 t)
      ∧ (outsAt0 m c t.val t.isLt).2.1 = k0_pay4 (dhB m c t) (iblk m c 3 t) (k0_pay8 (iblk m c 3 t)) (iblk m c 4 t) (iblk m c 5 t) := by
  by_cases h0 : t.val % 16 = 0
  · rw [outsAt0_A m c t h0]; constructor <;> frame_out <;> rfl
  · rw [outsAt0_B m c t h0]; constructor <;> frame_out <;> rfl

/-- The entries the gradient of the rows needs real, on one device. -/
def AllReal (c : Dev nD) : Prop := (∀ i, IsReal (m (c.tc.loc main_arg0) i)) ∧ (∀ i, IsReal (m (c.tc.loc main_arg1) i))
  ∧ (∀ i, IsReal (m (c.tc.loc main_arg2) i)) ∧ (∀ i, IsReal (m (c.tc.loc main_arg3) i)) ∧ ∀ i, IsReal (m (c.tc.loc main_arg4) i)

theorem real_dh (c : Dev nD) (h : AllReal m c) (t : Fin cfg0.N) (r : Fin 512) (l : Fin 1024) :
    IsReal (dhR m c (blockRow t r) l) := by
  rw [← dh_pt]
  show IsReal (k0_pay7 (F := Ideal) _ _ _ _ _ _ _ _ _)
  pointwise [k0_pay7]
  simp only [iblk_w, iblk_dg, iblk_du]
  refine (((IsReal.sum _ fun k => ?_).add (IsReal.sum _ fun k => ?_)).add (IsReal.sum _ fun k => ?_)).add (IsReal.sum _ fun k => ?_)
  · exact (h.2.2.2.1 _).mul (h.2.2.1 _)
  · exact (h.2.2.2.1 _).mul (h.2.2.1 _)
  · exact (h.2.2.2.2 _).mul (h.2.2.1 _)
  · exact (h.2.2.2.2 _).mul (h.2.2.1 _)

theorem dx_point (c : Dev nD) (h : AllReal m c) (t : Fin cfg0.N) (r : Fin 512) (l : Fin 1024) (i : S8192x1024.Idx)
    (h0 : (i 0).val = t.val * 512 + r.val) (h1 : (i 1).val = l.val) :
    k0_pay3 (dhB m c t) (iblk m c 3 t) (k0_pay8 (iblk m c 3 t)) (iblk m c 4 t) (iblk m c 5 t) (ix2 r l)
      = val_main_v39 (F := Ideal) (m (c.tc.loc main_arg0)) (m (c.tc.loc main_arg1)) (m (c.tc.loc main_arg2)) (m (c.tc.loc main_arg3))
        (m (c.tc.loc main_arg4)) (m (c.tc.loc main_arg5)) i := by
  rw [show i = ix2 (blockRow t r) l from eq_ix2_of h0 h1, ref_dx]
  refine (dx_at (dh_pt m c t) (iblk_x m c t) _ _ r l (fun k => h.1 _) fun k => ?_).trans ?_
  · rw [iblk_gain]; exact (real_dh m c h t r k).mul (h.2.1 _)
  · simp only [iblk_gain, iblk_dres]

theorem final_dx (c : Dev nD) (h : AllReal m c) : (dats m 0 c).arrAt 6 cfg0.N
    = val_main_v39 (F := Ideal) (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 6 _ (by decide +kernel) fun t hf y => ?_
  blk_simp
  rw [after0_6, (outs m c t).1]
  obtain ⟨r, l, rfl⟩ : ∃ (r : Fin 512) (l : Fin 1024), y = ix2 r l := ⟨y 0, y 1, eq_ix2 y⟩
  refine dx_point m c h t r l _ ?_ ?_ <;> blk_simp [idx t]

theorem final_dx16 (c : Dev nD) (h : AllReal m c) : (dats m 0 c).arrAt 7 cfg0.N
    = val_main_v40 (F := Ideal) (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 7 _ (by decide +kernel) fun t hf y => ?_
  blk_simp
  rw [after0_7, (outs m c t).2]
  obtain ⟨r, l, rfl⟩ : ∃ (r : Fin 512) (l : Fin 1024), y = ix2 r l := ⟨y 0, y 1, eq_ix2 y⟩
  refine dx_point m c h t r l _ ?_ ?_ <;> blk_simp [idx t]

/-- The block of partial sums after the last point. -/
theorem acc (c : Dev nD) (t : Fin cfg0.N) (ht : t.val + 1 = cfg0.N) (i : S8x1024.Idx) :
    (outsAt0 m c t.val t.isLt).2.2 i = ∑ t : Fin cfg0.N, gainPart (dhR m c) (X m c) t i := by
  have := Pipeline.eq_sum_fin_of_reset_step_apply_last (fun n h => (outsAt0 m c n h).2.2) 16 (fun _ => (0 : EReal)) (gainPart (dhR m c) (X m c))
    (fun t h i => by rw [outsAt0_A m c t h]; frame_out; refine (dgain_at (dh_pt m c t) (iblk_x m c t) _ i).trans ?_; rw [zero_at])
    (fun t h i => by rw [outsAt0_B m c t h]; frame_out; exact dgain_at (dh_pt m c t) (iblk_x m c t) _ i)
    (le_of_eq N_0) t ht i
  rw [zero_add] at this
  exact this

theorem final_parts (c : Dev nD) : (dats m 0 c).arrAt 8 cfg0.N = fun i => ∑ t : Fin cfg0.N, gainPart (dhR m c) (X m c) t i := by
  have e : ∀ (t : Fin cfg0.N) (_ : t.val + 1 = cfg0.N) (i : S8x1024.Idx), (dats m 0 c).after 8 t i = ∑ t : Fin cfg0.N, gainPart (dhR m c) (X m c) t i := by
    intro t ht i
    rw [after0_8, acc m c t ht]
  refine (dats m 0 c).arrAt_eq_of_after_last 8 ⟨15, by decide⟩ (by decide +kernel) _ fun j => ?_
  exact e _ (by decide) _

/-- The host's fold of the partial sums. -/
theorem tail_eq (c : Dev nD) : Pipeline.afterTail₀ cfgs (dats m) 0 (V0 m) [hostOps1] c main_v6
    = broadcastInDim S1x1024 ![1] bcast_S1024_S1x1024_1 (Host.reduceAdd (s := S8x1024) (φ := .f32) ((dats m 0 c).arrAt 8 cfg0.N)
        (constant (F := Ideal) S_ .f32 0x00000000#32) reducesTo_S8x1024_S1024_d0 h_S_) := by
  rw [← show Pipeline.withArrays spec0 c (V0 m c) (fun w => (dats m 0 c).arrAt w cfg0.N) (Proc.devRef .tc main_v4_2) = _
    from Pipeline.withArrays_arr _ winFacts0.arr_inj c (V0 m c) _ 8]
  show StableHlo.after hostOps1 _ (Proc.devRef .tc main_v6) = _
  after_results_simp_entrywise

theorem final_dgain (c : Dev nD) : Pipeline.afterTail₀ cfgs (dats m) 0 (V0 m) [hostOps1] c main_v6
    = val_main_v22 (F := Ideal) (m (c.tc.loc main_arg0)) (m (c.tc.loc main_arg2)) (m (c.tc.loc main_arg3)) (m (c.tc.loc main_arg4)) := by
  rw [tail_eq, final_parts]
  funext i
  obtain ⟨a, l, rfl⟩ : ∃ (a : Fin 1) (l : Fin 1024), i = ix2 a l := ⟨i 0, i 1, eq_ix2 i⟩
  obtain rfl : a = 0 := Subsingleton.elim _ _
  rw [ref_dgain, ← sum_gainPart]
  pointwise []
  rfl

theorem facts_pre : Cert.Pre_finite_norm_ffn.Facts where
  bcast_S_S8192x1024 := by decide
  reducesTo_S8192x1024_S_d0_1 := by decide
  h_S_ := by decide
  bcast_S_S1x1024 := by decide
  reducesTo_S1x1024_S_d0_1 := by decide
  bcast_S_S1024x5632 := by decide
  reducesTo_S1024x5632_S_d0_1 := by decide
  bitsLt_bf16_f32 := by decide
  bcast_S_S8192x2816 := by decide
  reducesTo_S8192x2816_S_d0_1 := by decide

/-- The precondition, entry by entry. -/
theorem allReal [Cert.Pre_finite_norm_ffn.Facts] (h : Cert.Pre_NormFfnIdeal_finite_norm_ffn m) (c : Dev nD) : AllReal m c := by
  have e := congrFun (h c) ix0
  obtain ⟨e, h4⟩ := and_one e
  obtain ⟨e, h3⟩ := and_one e
  obtain ⟨e, h2⟩ := and_one e
  obtain ⟨h0, h1⟩ := and_one e
  exact ⟨isReal_of_all _ _ _ _ _ h0, isReal_of_all _ _ _ _ _ h1, isReal_of_all _ _ _ _ _ h2, isReal_of_all _ _ _ _ _ h3,
    isReal_of_all _ _ _ _ _ h4⟩

theorem alg [Cert.Pre_finite_norm_ffn.Facts] : Cert.algebraic_NormFfnIdeal_NormFfnRefIdeal_pre_finite_norm_ffn := by
  intro m g m' g' hp hm
  refine ⟨_, _, _, (θ_run defs _ _).mono (fun r h c =>
      ⟨((h.1 c).1 6).trans (final_dx m c (allReal m hp c)), ((h.1 c).1 7).trans (final_dx16 m c (allReal m hp c)),
       ((h.1 c).2 main_v6 (Pipeline.mem_restRefs_of main_v6 (by decide) (by decide))).trans (final_dgain m c), h.2 c⟩)
      (θ_run_and (run_main m g) (unchanged m g)),
    (θ_run _ _ _).mono (fun r h c => ⟨(h c).1.trans ?_, (h c).2.1.trans ?_, (h c).2.2.1.trans ?_, (h c).2.2.2⟩)
      (Cert.NormFfnRefIdeal.Value.run m' g')⟩
  · rw [val_main_v39_eq, (hm c).1, (hm c).2.1, (hm c).2.2.1, (hm c).2.2.2.1, (hm c).2.2.2.2.1, (hm c).2.2.2.2.2]
  · rw [val_main_v40_eq, (hm c).1, (hm c).2.1, (hm c).2.2.1, (hm c).2.2.2.1, (hm c).2.2.2.2.1, (hm c).2.2.2.2.2]
  · rw [val_main_v22_eq, (hm c).1, (hm c).2.2.1, (hm c).2.2.2.1, (hm c).2.2.2.2.1]

end Cert.NormFfnValue

end
-- ==== Proof.NormQkv.lean ====
/- The value of the norm's backward call behind the attention layer's projection to queries, keys and values: the gradients of
   the layer's input and of the gain. -/
module

public import proofs.«01_k».proof.Defs
public import proofs.«01_k».proof.Proof.Norm
public import proofs.«01_k».proof.Proof.Gen.NormQkvIdeal.Frame
public import proofs.«01_k».proof.Proof.Gen.NormQkvRefIdeal.Run
public import proofs.«01_k».proof.Proof.Gen.NormQkvRefIdeal.Read
public import Idealize.ShloMosaic.Lib.StableHlo.RunClose

@[expose] public section

noncomputable section

namespace Cert.NormQkvValue

open Cert.NormQkvIdeal Cert.NormQkvIdeal.Gen Idealize.ShloMosaic Idealize.ShloMosaic.TcCoe
open Idealize.SL.Sem
open Cert.NormQkvRefIdeal.Read Cert.Common

variable (m : (ℓ : Loc nD τ sig) → Buf (Elt Ideal) ℓ) (ρ : Dev nD → PrngReg)

/-- Where the blocks lie: row block `t`, the weight and the gain whole. -/
theorem idx : ∀ t : Fin cfg0.N, win0_0.index t (0 : Fin 2) = t.val ∧ win0_0.index t (1 : Fin 2) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0 :=
  (by decide +kernel : ∀ t : Fin grid0.N, _)

/-- The weight as the call reads it. -/
theorem w_eq (c : Dev nD) : V m c main_v3
    = broadcastInDim S1x4x1024x384 ![1, 2, 3] bcast_S4x1024x384_S1x4x1024x384_1_2_3
        (transpose S4x1024x384 [1, 0, 2] (shapeCast S1024x4x384 (truncf .bf16 (m (c.tc.loc main_arg2)) bitsLt_bf16_f32 : FVec Ideal S1024x1536 .bf16)
          shapeCasts_S1024x1536_S1024x4x384) transposes_S1024x4x384_S4x1024x384_1_0_2) := by
  show StableHlo.after hostOps0 _ (Proc.devRef .tc main_v3) = _
  after_results_simp_entrywise; rfl

theorem w_at (c : Dev nD) (j : Fin 4) (k : Fin 1024) (l : Fin 384) :
    V m c main_v3 (ix4 (0 : Fin 1) j k l) = m (c.tc.loc main_arg2) (ix2 k ⟨j.val * 384 + l.val, by omega⟩) := by
  rw [w_eq]
  pointwise []

/-- The gradient arriving at the normalised rows, as the call's point `t` sums it, and as the reference does. -/
abbrev dhB (c : Dev nD) (t : Fin cfg0.N) : FVec Ideal S512x1024 .f32 :=
  k0_pay7
    (View.ld (iblk m c 0 t) (Rect.unit ![0, 0] ![512, 384] inb_S512x1536_S512x384_0_0))
    (View.ld (iblk m c 1 t) (Rect.unit ![0, 0, 0, 0] ![1, 1, 1024, 384] inb_S1x4x1024x384_S1x1x1024x384_0_0_0_0))
    (View.ld (iblk m c 0 t) (Rect.unit ![0, 384] ![512, 384] inb_S512x1536_S512x384_0_384))
    (View.ld (iblk m c 1 t) (Rect.unit ![0, 1, 0, 0] ![1, 1, 1024, 384] inb_S1x4x1024x384_S1x1x1024x384_0_1_0_0))
    (View.ld (iblk m c 0 t) (Rect.unit ![0, 768] ![512, 384] inb_S512x1536_S512x384_0_768))
    (View.ld (iblk m c 1 t) (Rect.unit ![0, 2, 0, 0] ![1, 1, 1024, 384] inb_S1x4x1024x384_S1x1x1024x384_0_2_0_0))
    (View.ld (iblk m c 0 t) (Rect.unit ![0, 1152] ![512, 384] inb_S512x1536_S512x384_0_1152))
    (View.ld (iblk m c 1 t) (Rect.unit ![0, 3, 0, 0] ![1, 1, 1024, 384] inb_S1x4x1024x384_S1x1x1024x384_0_3_0_0))
abbrev dhR (c : Dev nD) (r : Fin 8192) (l : Fin 1024) : EReal :=
  val_main_v17 (F := Ideal) (m (c.tc.loc main_arg2)) (m (c.tc.loc main_arg3)) (ix2 r l)

/-- The launch contents, at a row and a column. -/
abbrev X (c : Dev nD) (r : Fin 8192) (l : Fin 1024) : EReal := m (c.tc.loc main_arg0) (ix2 r l)

theorem emb_w (t : Fin cfg0.N) (j : Fin 4) (k : Fin 1024) (l : Fin 384) :
    (win0_1.blk t).view.emb (ix4 0 j k l) = ix4 0 j k l := by blk_ext [idx t]
theorem iblk_w (c : Dev nD) (t : Fin cfg0.N) (j : Fin 4) (k : Fin 1024) (l : Fin 384) :
    iblk m c 1 t (ix4 0 j k l) = m (c.tc.loc main_arg2) (ix2 k ⟨j.val * 384 + l.val, by omega⟩) :=
  (congrArg (V m c main_v3) (emb_w t j k l)).trans (w_at m c j k l)

theorem iblk_d (c : Dev nD) (t : Fin cfg0.N) (r : Fin 512) (l : Fin 1536) :
    iblk m c 0 t (ix2 r l) = m (c.tc.loc main_arg3) (ix2 (blockRow t r) l) := by blk_point [iblk, V, idx t]
theorem iblk_x (c : Dev nD) (t : Fin cfg0.N) (r : Fin 512) (l : Fin 1024) :
    iblk m c 2 t (ix2 r l) = X m c (blockRow t r) l := by blk_point [iblk, V, idx t]
theorem iblk_gain (c : Dev nD) (t : Fin cfg0.N) (l : Fin 1024) :
    iblk m c 3 t (ix2 0 l) = m (c.tc.loc main_arg1) (ix2 0 l) := by blk_point [iblk, V, idx t]
theorem iblk_dres (c : Dev nD) (t : Fin cfg0.N) (r : Fin 512) (l : Fin 1024) :
    iblk m c 4 t (ix2 r l) = m (c.tc.loc main_arg4) (ix2 (blockRow t r) l) := by blk_point [iblk, V, idx t]

/-- Four products of 384 columns are the product of all 1536. -/
theorem dh_pt (c : Dev nD) (t : Fin cfg0.N) (r : Fin 512) (l : Fin 1024) :
    dhB m c t (ix2 r l) = dhR m c (blockRow t r) l := by
  show k0_pay7 _ _ _ _ _ _ _ _ _ = val_main_v17 _ _ _
  pointwise [k0_pay7, val_main_v17, val_main_v0]
  refine Eq.trans ?_ (Fin.sum_mul_add_fin 4 384 _)
  rw [Fin.sum_univ_four]
  simp only [iblk_w, iblk_d]
  simp

/-- The reference's results at an index. -/
theorem ref_dx (c : Dev nD) (r : Fin 8192) (l : Fin 1024) :
    val_main_v37 (F := Ideal) (m (c.tc.loc main_arg0)) (m (c.tc.loc main_arg1)) (m (c.tc.loc main_arg2)) (m (c.tc.loc main_arg3))
        (m (c.tc.loc main_arg4)) (ix2 r l)
      = dxRef (X m c r) (fun k => dhR m c r k * m (c.tc.loc main_arg1) (ix2 0 k)) (m (c.tc.loc main_arg4) (ix2 r l)) l := by
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v11, val_main_v10,
    val_main_v9, val_main_v8, val_main_v7, val_main_v6, val_main_v5, val_main_v4, val_main_v3, val_main_v2, val_main_v1,
    val_main_cst, val_main_cst_0, val_main_cst_1, val_main_cst_2, val_main_cst_4, val_main_cst_5, val_main_cst_6]
  simp only [Fin.sum_univ_one]
  rfl

theorem ref_dgain (c : Dev nD) (l : Fin 1024) :
    val_main_v20 (F := Ideal) (m (c.tc.loc main_arg0)) (m (c.tc.loc main_arg2)) (m (c.tc.loc main_arg3)) (ix2 0 l)
      = ∑ r : Fin 8192, dhR m c r l * (X m c r l * rstd (X m c r)) := by
  pointwise [val_main_v20, val_main_v19, val_main_v18, val_main_v13, val_main_v12,
    val_main_v8, val_main_v7, val_main_v6, val_main_v5, val_main_v4, val_main_v3, val_main_v2, val_main_v1,
    val_main_cst, val_main_cst_0, val_main_cst_1, val_main_cst_3]
  exact Finset.sum_congr rfl fun r _ => mul_comm _ _

/-- What a point leaves in the two gradient blocks. -/
theorem outs (c : Dev nD) (t : Fin cfg0.N) :
    (outsAt0 m c t.val t.isLt).1 = k0_pay3 (dhB m c t) (iblk m c 2 t) (k0_pay8 (iblk m c 2 t)) (iblk m c 3 t) (iblk m c 4 t)
      ∧ (outsAt0 m c t.val t.isLt).2.1 = k0_pay4 (dhB m c t) (iblk m c 2 t) (k0_pay8 (iblk m c 2 t)) (iblk m c 3 t) (iblk m c 4 t) := by
  by_cases h0 : t.val % 16 = 0
  · rw [outsAt0_A m c t h0]; constructor <;> frame_out <;> rfl
  · rw [outsAt0_B m c t h0]; constructor <;> frame_out <;> rfl

/-- The entries the gradient of the rows needs real, on one device. -/
def AllReal (c : Dev nD) : Prop := (∀ i, IsReal (m (c.tc.loc main_arg0) i)) ∧ (∀ i, IsReal (m (c.tc.loc main_arg1) i))
  ∧ (∀ i, IsReal (m (c.tc.loc main_arg2) i)) ∧ ∀ i, IsReal (m (c.tc.loc main_arg3) i)

theorem real_dh (c : Dev nD) (h : AllReal m c) (t : Fin cfg0.N) (r : Fin 512) (l : Fin 1024) :
    IsReal (dhR m c (blockRow t r) l) := by
  rw [← dh_pt]
  show IsReal (k0_pay7 (F := Ideal) _ _ _ _ _ _ _ _ _)
  pointwise [k0_pay7]
  simp only [iblk_w, iblk_d]
  exact (((IsReal.sum _ fun k => (h.2.2.2 _).mul (h.2.2.1 _)).add (IsReal.sum _ fun k => (h.2.2.2 _).mul (h.2.2.1 _))).add
    (IsReal.sum _ fun k => (h.2.2.2 _).mul (h.2.2.1 _))).add (IsReal.sum _ fun k => (h.2.2.2 _).mul (h.2.2.1 _))

theorem dx_point (c : Dev nD) (h : AllReal m c) (t : Fin cfg0.N) (r : Fin 512) (l : Fin 1024) (i : S8192x1024.Idx)
    (h0 : (i 0).val = t.val * 512 + r.val) (h1 : (i 1).val = l.val) :
    k0_pay3 (dhB m c t) (iblk m c 2 t) (k0_pay8 (iblk m c 2 t)) (iblk m c 3 t) (iblk m c 4 t) (ix2 r l)
      = val_main_v37 (F := Ideal) (m (c.tc.loc main_arg0)) (m (c.tc.loc main_arg1)) (m (c.tc.loc main_arg2)) (m (c.tc.loc main_arg3))
        (m (c.tc.loc main_arg4)) i := by
  rw [show i = ix2 (blockRow t r) l from eq_ix2_of h0 h1, ref_dx]
  refine (dx_at (dh_pt m c t) (iblk_x m c t) _ _ r l (fun k => h.1 _) fun k => ?_).trans ?_
  · rw [iblk_gain]; exact (real_dh m c h t r k).mul (h.2.1 _)
  · simp only [iblk_gain, iblk_dres]

theorem final_dx (c : Dev nD) (h : AllReal m c) : (dats m 0 c).arrAt 5 cfg0.N
    = val_main_v37 (F := Ideal) (m (c.tc.loc main_arg0)) (m (c.tc.loc main_arg1)) (m (c.tc.loc main_arg2)) (m (c.tc.loc main_arg3))
        (m (c.tc.loc main_arg4)) := by
  refine (dats m 0 c).arrAt_eq_of_covers 5 _ (by decide +kernel) fun t hf y => ?_
  blk_simp
  rw [after0_5, (outs m c t).1]
  obtain ⟨r, l, rfl⟩ : ∃ (r : Fin 512) (l : Fin 1024), y = ix2 r l := ⟨y 0, y 1, eq_ix2 y⟩
  refine dx_point m c h t r l _ ?_ ?_ <;> blk_simp [idx t]

theorem final_dx16 (c : Dev nD) (h : AllReal m c) : (dats m 0 c).arrAt 6 cfg0.N
    = val_main_v38 (F := Ideal) (m (c.tc.loc main_arg0)) (m (c.tc.loc main_arg1)) (m (c.tc.loc main_arg2)) (m (c.tc.loc main_arg3))
        (m (c.tc.loc main_arg4)) := by
  refine (dats m 0 c).arrAt_eq_of_covers 6 _ (by decide +kernel) fun t hf y => ?_
  blk_simp
  rw [after0_6, (outs m c t).2]
  obtain ⟨r, l, rfl⟩ : ∃ (r : Fin 512) (l : Fin 1024), y = ix2 r l := ⟨y 0, y 1, eq_ix2 y⟩
  refine dx_point m c h t r l _ ?_ ?_ <;> blk_simp [idx t]

/-- The block of partial sums after the last point. -/
theorem acc (c : Dev nD) (t : Fin cfg0.N) (ht : t.val + 1 = cfg0.N) (i : S8x1024.Idx) :
    (outsAt0 m c t.val t.isLt).2.2 i = ∑ t : Fin cfg0.N, gainPart (dhR m c) (X m c) t i := by
  have := Pipeline.eq_sum_fin_of_reset_step_apply_last (fun n h => (outsAt0 m c n h).2.2) 16 (fun _ => (0 : EReal)) (gainPart (dhR m c) (X m c))
    (fun t h i => by rw [outsAt0_A m c t h]; frame_out; refine (dgain_at (dh_pt m c t) (iblk_x m c t) _ i).trans ?_; exact congrArg (· + _) (zero_at _))
    (fun t h i => by rw [outsAt0_B m c t h]; frame_out; exact dgain_at (dh_pt m c t) (iblk_x m c t) _ i)
    (le_of_eq N_0) t ht i
  rw [zero_add] at this
  exact this

theorem final_parts (c : Dev nD) : (dats m 0 c).arrAt 7 cfg0.N = fun i => ∑ t : Fin cfg0.N, gainPart (dhR m c) (X m c) t i := by
  have e : ∀ (t : Fin cfg0.N) (_ : t.val + 1 = cfg0.N) (i : S8x1024.Idx), (dats m 0 c).after 7 t i = ∑ t : Fin cfg0.N, gainPart (dhR m c) (X m c) t i := by
    intro t ht i
    rw [after0_7, acc m c t ht]
  refine (dats m 0 c).arrAt_eq_of_after_last 7 ⟨15, by decide⟩ (by decide +kernel) _ fun j => ?_
  exact e _ (by decide) _

/-- The host's fold of the partial sums. -/
theorem tail_eq (c : Dev nD) : Pipeline.afterTail₀ cfgs (dats m) 0 (V0 m) [hostOps1] c main_v6
    = broadcastInDim S1x1024 ![1] bcast_S1024_S1x1024_1 (Host.reduceAdd (s := S8x1024) (φ := .f32) ((dats m 0 c).arrAt 7 cfg0.N)
        (constant (F := Ideal) S_ .f32 0x00000000#32) reducesTo_S8x1024_S1024_d0 h_S_) := by
  rw [← show Pipeline.withArrays spec0 c (V0 m c) (fun w => (dats m 0 c).arrAt w cfg0.N) (Proc.devRef .tc main_v4_2) = _
    from Pipeline.withArrays_arr _ winFacts0.arr_inj c (V0 m c) _ 7]
  show StableHlo.after hostOps1 _ (Proc.devRef .tc main_v6) = _
  after_results_simp_entrywise

theorem final_dgain (c : Dev nD) : Pipeline.afterTail₀ cfgs (dats m) 0 (V0 m) [hostOps1] c main_v6
    = val_main_v20 (F := Ideal) (m (c.tc.loc main_arg0)) (m (c.tc.loc main_arg2)) (m (c.tc.loc main_arg3)) := by
  rw [tail_eq, final_parts]
  funext i
  obtain ⟨a, l, rfl⟩ : ∃ (a : Fin 1) (l : Fin 1024), i = ix2 a l := ⟨i 0, i 1, eq_ix2 i⟩
  obtain rfl : a = 0 := Subsingleton.elim _ _
  rw [ref_dgain, ← sum_gainPart]
  pointwise []
  rfl

theorem facts_pre : Cert.Pre_finite_norm_qkv.Facts where
  bcast_S_S8192x1024 := by decide
  reducesTo_S8192x1024_S_d0_1 := by decide
  h_S_ := by decide
  bcast_S_S1x1024 := by decide
  reducesTo_S1x1024_S_d0_1 := by decide
  bcast_S_S1024x1536 := by decide
  reducesTo_S1024x1536_S_d0_1 := by decide
  bitsLt_bf16_f32 := by decide
  bcast_S_S8192x1536 := by decide
  reducesTo_S8192x1536_S_d0_1 := by decide

/-- The precondition, entry by entry. -/
theorem allReal [Cert.Pre_finite_norm_qkv.Facts] (h : Cert.Pre_NormQkvIdeal_finite_norm_qkv m) (c : Dev nD) : AllReal m c := by
  have e := congrFun (h c) ix0
  obtain ⟨e, h3⟩ := and_one e
  obtain ⟨e, h2⟩ := and_one e
  obtain ⟨h0, h1⟩ := and_one e
  exact ⟨isReal_of_all _ _ _ _ _ h0, isReal_of_all _ _ _ _ _ h1, isReal_of_all _ _ _ _ _ h2, isReal_of_all _ _ _ _ _ h3⟩

theorem alg [Cert.Pre_finite_norm_qkv.Facts] : Cert.algebraic_NormQkvIdeal_NormQkvRefIdeal_pre_finite_norm_qkv := by
  intro m g m' g' hp hm
  refine ⟨_, _, _, (θ_run defs _ _).mono (fun r h c =>
      ⟨((h.1 c).1 5).trans (final_dx m c (allReal m hp c)), ((h.1 c).1 6).trans (final_dx16 m c (allReal m hp c)),
       ((h.1 c).2 main_v6 (Pipeline.mem_restRefs_of main_v6 (by decide) (by decide))).trans (final_dgain m c), h.2 c⟩)
      (θ_run_and (run_main m g) (unchanged m g)),
    (θ_run _ _ _).mono (fun r h c => ⟨(h c).1.trans ?_, (h c).2.1.trans ?_, (h c).2.2.1.trans ?_, (h c).2.2.2⟩)
      (Cert.NormQkvRefIdeal.Value.run m' g')⟩
  · rw [val_main_v37_eq, (hm c).1, (hm c).2.1, (hm c).2.2.1, (hm c).2.2.2.1, (hm c).2.2.2.2]
  · rw [val_main_v38_eq, (hm c).1, (hm c).2.1, (hm c).2.2.1, (hm c).2.2.2.1, (hm c).2.2.2.2]
  · rw [val_main_v20_eq, (hm c).1, (hm c).2.2.1, (hm c).2.2.2.1]

end Cert.NormQkvValue

end
-- ==== Proof.NormConv.lean ====
/- The value of the norm's backward call behind the convolution layer's input projection: the gradients of
   the layer's input and of the gain. -/
module

public import proofs.«01_k».proof.Defs
public import proofs.«01_k».proof.Proof.Norm
public import proofs.«01_k».proof.Proof.Gen.NormConvIdeal.Frame
public import proofs.«01_k».proof.Proof.Gen.NormConvRefIdeal.Run
public import proofs.«01_k».proof.Proof.Gen.NormConvRefIdeal.Read
public import Idealize.ShloMosaic.Lib.StableHlo.RunClose

@[expose] public section

noncomputable section

namespace Cert.NormConvValue

open Cert.NormConvIdeal Cert.NormConvIdeal.Gen Idealize.ShloMosaic Idealize.ShloMosaic.TcCoe
open Idealize.SL.Sem
open Cert.NormConvRefIdeal.Read Cert.Common

variable (m : (ℓ : Loc nD τ sig) → Buf (Elt Ideal) ℓ) (ρ : Dev nD → PrngReg)

/-- Where the blocks lie: row block `t`, the weight and the gain whole. -/
theorem idx : ∀ t : Fin cfg0.N, win0_0.index t (0 : Fin 3) = 0 ∧ win0_0.index t (1 : Fin 3) = t.val ∧ win0_0.index t (2 : Fin 3) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- The weight as the call reads it. -/
theorem w_eq (c : Dev nD) : V m c main_v3
    = broadcastInDim S1x4x1024x768 ![1, 2, 3] bcast_S4x1024x768_S1x4x1024x768_1_2_3
        (transpose S4x1024x768 [1, 0, 2] (shapeCast S1024x4x768 (truncf .bf16 (m (c.tc.loc main_arg2)) bitsLt_bf16_f32 : FVec Ideal S1024x3072 .bf16)
          shapeCasts_S1024x3072_S1024x4x768) transposes_S1024x4x768_S4x1024x768_1_0_2) := by
  show StableHlo.after hostOps0 _ (Proc.devRef .tc main_v3) = _
  after_results_simp_entrywise; rfl

theorem w_at (c : Dev nD) (j : Fin 4) (k : Fin 1024) (l : Fin 768) :
    V m c main_v3 (ix4 (0 : Fin 1) j k l) = m (c.tc.loc main_arg2) (ix2 k ⟨j.val * 768 + l.val, by omega⟩) := by
  rw [w_eq]
  pointwise []

/-- The gradient arriving at the normalised rows, as the call's point `t` sums it, and as the reference does. -/
abbrev dhB (c : Dev nD) (t : Fin cfg0.N) : FVec Ideal S512x1024 .f32 :=
  k0_pay26
    (k0_pay6 (View.ld (iblk m c 0 t) (Rect.unit ![0, 0, 0] ![1, 512, 256] inb_S3x512x1024_S1x512x256_0_0_0)))
    (k0_pay7 (View.ld (iblk m c 1 t) (Rect.unit ![0, 0, 0, 0] ![1, 1, 1024, 256] inb_S1x4x1024x768_S1x1x1024x256_0_0_0_0)))
    (k0_pay8 (View.ld (iblk m c 0 t) (Rect.unit ![0, 0, 256] ![1, 512, 256] inb_S3x512x1024_S1x512x256_0_0_256)))
    (k0_pay9 (View.ld (iblk m c 1 t) (Rect.unit ![0, 0, 0, 256] ![1, 1, 1024, 256] inb_S1x4x1024x768_S1x1x1024x256_0_0_0_256)))
    (k0_pay10 (View.ld (iblk m c 0 t) (Rect.unit ![0, 0, 512] ![1, 512, 256] inb_S3x512x1024_S1x512x256_0_0_512)))
    (k0_pay11 (View.ld (iblk m c 1 t) (Rect.unit ![0, 0, 0, 512] ![1, 1, 1024, 256] inb_S1x4x1024x768_S1x1x1024x256_0_0_0_512)))
    (k0_pay12 (View.ld (iblk m c 0 t) (Rect.unit ![0, 0, 768] ![1, 512, 256] inb_S3x512x1024_S1x512x256_0_0_768)))
    (k0_pay13 (View.ld (iblk m c 1 t) (Rect.unit ![0, 1, 0, 0] ![1, 1, 1024, 256] inb_S1x4x1024x768_S1x1x1024x256_0_1_0_0)))
    (k0_pay14 (View.ld (iblk m c 0 t) (Rect.unit ![1, 0, 0] ![1, 512, 256] inb_S3x512x1024_S1x512x256_1_0_0)))
    (k0_pay15 (View.ld (iblk m c 1 t) (Rect.unit ![0, 1, 0, 256] ![1, 1, 1024, 256] inb_S1x4x1024x768_S1x1x1024x256_0_1_0_256)))
    (k0_pay16 (View.ld (iblk m c 0 t) (Rect.unit ![1, 0, 256] ![1, 512, 256] inb_S3x512x1024_S1x512x256_1_0_256)))
    (k0_pay17 (View.ld (iblk m c 1 t) (Rect.unit ![0, 1, 0, 512] ![1, 1, 1024, 256] inb_S1x4x1024x768_S1x1x1024x256_0_1_0_512)))
    (k0_pay18 (View.ld (iblk m c 0 t) (Rect.unit ![1, 0, 512] ![1, 512, 256] inb_S3x512x1024_S1x512x256_1_0_512)))
    (k0_pay19 (View.ld (iblk m c 1 t) (Rect.unit ![0, 2, 0, 0] ![1, 1, 1024, 256] inb_S1x4x1024x768_S1x1x1024x256_0_2_0_0)))
    (k0_pay20 (View.ld (iblk m c 0 t) (Rect.unit ![1, 0, 768] ![1, 512, 256] inb_S3x512x1024_S1x512x256_1_0_768)))
    (k0_pay21 (View.ld (iblk m c 1 t) (Rect.unit ![0, 2, 0, 256] ![1, 1, 1024, 256] inb_S1x4x1024x768_S1x1x1024x256_0_2_0_256)))
    (k0_pay22 (View.ld (iblk m c 0 t) (Rect.unit ![2, 0, 0] ![1, 512, 256] inb_S3x512x1024_S1x512x256_2_0_0)))
    (k0_pay23 (View.ld (iblk m c 1 t) (Rect.unit ![0, 2, 0, 512] ![1, 1, 1024, 256] inb_S1x4x1024x768_S1x1x1024x256_0_2_0_512)))
    (k0_pay24 (View.ld (iblk m c 0 t) (Rect.unit ![2, 0, 256] ![1, 512, 256] inb_S3x512x1024_S1x512x256_2_0_256)))
    (k0_pay25 (View.ld (iblk m c 1 t) (Rect.unit ![0, 3, 0, 0] ![1, 1, 1024, 256] inb_S1x4x1024x768_S1x1x1024x256_0_3_0_0)))
    (View.ld (iblk m c 0 t) (Rect.unit ![2, 0, 512] ![1, 512, 256] inb_S3x512x1024_S1x512x256_2_0_512))
    (View.ld (iblk m c 1 t) (Rect.unit ![0, 3, 0, 256] ![1, 1, 1024, 256] inb_S1x4x1024x768_S1x1x1024x256_0_3_0_256))
    (View.ld (iblk m c 0 t) (Rect.unit ![2, 0, 768] ![1, 512, 256] inb_S3x512x1024_S1x512x256_2_0_768))
    (View.ld (iblk m c 1 t) (Rect.unit ![0, 3, 0, 512] ![1, 1, 1024, 256] inb_S1x4x1024x768_S1x1x1024x256_0_3_0_512))
abbrev dhR (c : Dev nD) (r : Fin 8192) (l : Fin 1024) : EReal :=
  val_main_v19 (F := Ideal) (m (c.tc.loc main_arg2)) (m (c.tc.loc main_arg3)) (ix2 r l)

/-- The launch contents, at a row and a column. -/
abbrev X (c : Dev nD) (r : Fin 8192) (l : Fin 1024) : EReal := m (c.tc.loc main_arg0) (ix2 r l)

abbrev D (c : Dev nD) : S3x8192x1024.Idx → EReal := m (c.tc.loc main_arg3)
abbrev Wt (c : Dev nD) : S1024x3072.Idx → EReal := m (c.tc.loc main_arg2)

theorem emb_w (t : Fin cfg0.N) (j : Fin 4) (k : Fin 1024) (l : Fin 768) :
    (win0_1.blk t).view.emb (ix4 0 j k l) = ix4 0 j k l := by blk_ext [idx t]
theorem iblk_w (c : Dev nD) (t : Fin cfg0.N) (j : Fin 4) (k : Fin 1024) (l : Fin 768) :
    iblk m c 1 t (ix4 0 j k l) = m (c.tc.loc main_arg2) (ix2 k ⟨j.val * 768 + l.val, by omega⟩) :=
  (congrArg (V m c main_v3) (emb_w t j k l)).trans (w_at m c j k l)

theorem iblk_d (c : Dev nD) (t : Fin cfg0.N) (j : Fin 3) (r : Fin 512) (l : Fin 1024) :
    iblk m c 0 t (ix3 j r l) = m (c.tc.loc main_arg3) (ix3 j (blockRow t r) l) := by blk_point [iblk, V, idx t]
theorem iblk_x (c : Dev nD) (t : Fin cfg0.N) (r : Fin 512) (l : Fin 1024) :
    iblk m c 2 t (ix2 r l) = X m c (blockRow t r) l := by blk_point [iblk, V, idx t]
theorem iblk_gain (c : Dev nD) (t : Fin cfg0.N) (l : Fin 1024) :
    iblk m c 3 t (ix2 0 l) = m (c.tc.loc main_arg1) (ix2 0 l) := by blk_point [iblk, V, idx t]
theorem iblk_dres (c : Dev nD) (t : Fin cfg0.N) (r : Fin 512) (l : Fin 1024) :
    iblk m c 4 t (ix2 r l) = m (c.tc.loc main_arg4) (ix2 (blockRow t r) l) := by blk_point [iblk, V, idx t]

/-- A sum of twelve terms, in order. -/
theorem sum_twelve (F : Fin 12 → EReal) :
    ∑ p, F p = F 0 + F 1 + F 2 + F 3 + F 4 + F 5 + F 6 + F 7 + F 8 + F 9 + F 10 + F 11 := by
  simp only [Fin.sum_univ_castSucc, Fin.sum_univ_zero, zero_add]
  rfl

/-- The product of the columns 256·p … 256·p + 255 of a row of the cotangent, its three parts side by side, and of the weight. -/
def piece (c : Dev nD) (r : Fin 8192) (l : Fin 1024) (p : Fin 12) : EReal :=
  ∑ q : Fin 256, D m c (ix3 (⟨(p.val * 256 + q.val) / 1024, by omega⟩ : Fin 3) r (⟨(p.val * 256 + q.val) % 1024, by omega⟩ : Fin 1024))
    * Wt m c (ix2 l (⟨p.val * 256 + q.val, by omega⟩ : Fin 3072))

theorem piece_eq (c : Dev nD) (r : Fin 8192) (l : Fin 1024) (p : Fin 12) (j : Fin 3) (a : Fin 256 → Fin 1024) (b : Fin 256 → Fin 3072)
    (hj : ∀ q : Fin 256, j.val = (p.val * 256 + q.val) / 1024) (ha : ∀ q, (a q).val = (p.val * 256 + q.val) % 1024)
    (hb : ∀ q, (b q).val = p.val * 256 + q.val) :
    ∑ q : Fin 256, D m c (ix3 j r (a q)) * Wt m c (ix2 l (b q)) = piece m c r l p := by
  refine Finset.sum_congr rfl fun q _ => ?_
  rw [show b q = ⟨p.val * 256 + q.val, by omega⟩ from Fin.ext (hb q), show a q = ⟨(p.val * 256 + q.val) % 1024, by omega⟩ from Fin.ext (ha q),
    show j = ⟨(p.val * 256 + q.val) / 1024, by omega⟩ from Fin.ext (hj q)]

/-- Twelve products of 256 columns are the product of all 3072. -/
theorem dh_pt (c : Dev nD) (t : Fin cfg0.N) (r : Fin 512) (l : Fin 1024) :
    dhB m c t (ix2 r l) = dhR m c (blockRow t r) l := by
  show k0_pay26 _ _ _ _ _ _ _ _ _ _ _ _ _ _ _ _ _ _ _ _ _ _ _ _ _ = val_main_v19 _ _ _
  pointwise [k0_pay26, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25,
    val_main_v19, val_main_v2, val_main_v1, val_main_v0]
  refine Eq.trans ?_ (Fin.sum_mul_add_fin 12 256 _)
  simp only [iblk_w, iblk_d]
  refine Eq.trans ?_ (sum_twelve (piece m c (blockRow t r) l)).symm
  refine congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_) ?_) ?_
  all_goals refine piece_eq m c _ l _ _ _ _ ?_ ?_ ?_ <;> intro q <;> (try dsimp) <;> omega

/-- The reference's results at an index. -/
theorem ref_dx (c : Dev nD) (r : Fin 8192) (l : Fin 1024) :
    val_main_v39 (F := Ideal) (m (c.tc.loc main_arg0)) (m (c.tc.loc main_arg1)) (m (c.tc.loc main_arg2)) (m (c.tc.loc main_arg3))
        (m (c.tc.loc main_arg4)) (ix2 r l)
      = dxRef (X m c r) (fun k => dhR m c r k * m (c.tc.loc main_arg1) (ix2 0 k)) (m (c.tc.loc main_arg4) (ix2 r l)) l := by
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v13, val_main_v12,
    val_main_v11, val_main_v10, val_main_v9, val_main_v8, val_main_v7, val_main_v6, val_main_v5, val_main_v4, val_main_v3,
    val_main_cst, val_main_cst_0, val_main_cst_1, val_main_cst_2, val_main_cst_4, val_main_cst_5, val_main_cst_6]
  simp only [Fin.sum_univ_one]
  rfl

theorem ref_dgain (c : Dev nD) (l : Fin 1024) :
    val_main_v22 (F := Ideal) (m (c.tc.loc main_arg0)) (m (c.tc.loc main_arg2)) (m (c.tc.loc main_arg3)) (ix2 0 l)
      = ∑ r : Fin 8192, dhR m c r l * (X m c r l * rstd (X m c r)) := by
  pointwise [val_main_v22, val_main_v21, val_main_v20, val_main_v15, val_main_v14,
    val_main_v10, val_main_v9, val_main_v8, val_main_v7, val_main_v6, val_main_v5, val_main_v4, val_main_v3,
    val_main_cst, val_main_cst_0, val_main_cst_1, val_main_cst_3]
  exact Finset.sum_congr rfl fun r _ => mul_comm _ _

/-- What a point leaves in the gradient's block. -/
theorem outs (c : Dev nD) (t : Fin cfg0.N) :
    (outsAt0 m c t.val t.isLt).1 = k0_pay3 (dhB m c t) (iblk m c 2 t) (k0_pay27 (iblk m c 2 t)) (iblk m c 3 t) (iblk m c 4 t) := by
  by_cases h0 : t.val % 16 = 0
  · rw [outsAt0_A m c t h0]; frame_out; rfl
  · rw [outsAt0_B m c t h0]; frame_out; rfl

/-- The entries the gradient of the rows needs real, on one device. -/
def AllReal (c : Dev nD) : Prop := (∀ i, IsReal (m (c.tc.loc main_arg0) i)) ∧ (∀ i, IsReal (m (c.tc.loc main_arg1) i))
  ∧ (∀ i, IsReal (m (c.tc.loc main_arg2) i)) ∧ ∀ i, IsReal (m (c.tc.loc main_arg3) i)

theorem real_dh (c : Dev nD) (h : AllReal m c) (t : Fin cfg0.N) (r : Fin 512) (l : Fin 1024) :
    IsReal (dhR m c (blockRow t r) l) := by
  rw [← dh_pt]
  show IsReal (k0_pay26 (F := Ideal) _ _ _ _ _ _ _ _ _ _ _ _ _ _ _ _ _ _ _ _ _ _ _ _ _)
  pointwise [k0_pay26, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [iblk_w, iblk_d]
  have s (a : Fin 256 → S3x8192x1024.Idx) (b : Fin 256 → S1024x3072.Idx) :
      IsReal (∑ k, D m c (a k) * Wt m c (b k)) := IsReal.sum _ fun k => (h.2.2.2 _).mul (h.2.2.1 _)
  exact (((((((((((s _ _).add (s _ _)).add (s _ _)).add (s _ _)).add (s _ _)).add (s _ _)).add (s _ _)).add (s _ _)).add (s _ _)).add
    (s _ _)).add (s _ _)).add (s _ _)

theorem dx_point (c : Dev nD) (h : AllReal m c) (t : Fin cfg0.N) (r : Fin 512) (l : Fin 1024) (i : S8192x1024.Idx)
    (h0 : (i 0).val = t.val * 512 + r.val) (h1 : (i 1).val = l.val) :
    k0_pay3 (dhB m c t) (iblk m c 2 t) (k0_pay27 (iblk m c 2 t)) (iblk m c 3 t) (iblk m c 4 t) (ix2 r l)
      = val_main_v39 (F := Ideal) (m (c.tc.loc main_arg0)) (m (c.tc.loc main_arg1)) (m (c.tc.loc main_arg2)) (m (c.tc.loc main_arg3))
        (m (c.tc.loc main_arg4)) i := by
  rw [show i = ix2 (blockRow t r) l from eq_ix2_of h0 h1, ref_dx]
  refine (dx_at (dh_pt m c t) (iblk_x m c t) _ _ r l (fun k => h.1 _) fun k => ?_).trans ?_
  · rw [iblk_gain]; exact (real_dh m c h t r k).mul (h.2.1 _)
  · simp only [iblk_gain, iblk_dres]

theorem final_dx (c : Dev nD) (h : AllReal m c) : (dats m 0 c).arrAt 5 cfg0.N
    = val_main_v39 (F := Ideal) (m (c.tc.loc main_arg0)) (m (c.tc.loc main_arg1)) (m (c.tc.loc main_arg2)) (m (c.tc.loc main_arg3))
        (m (c.tc.loc main_arg4)) := by
  refine (dats m 0 c).arrAt_eq_of_covers 5 _ (by decide +kernel) fun t hf y => ?_
  blk_simp
  rw [after0_5, outs m c t]
  obtain ⟨r, l, rfl⟩ : ∃ (r : Fin 512) (l : Fin 1024), y = ix2 r l := ⟨y 0, y 1, eq_ix2 y⟩
  refine dx_point m c h t r l _ ?_ ?_ <;> blk_simp [idx t]

/-- The block of partial sums after the last point. -/
theorem acc (c : Dev nD) (t : Fin cfg0.N) (ht : t.val + 1 = cfg0.N) (i : S8x1024.Idx) :
    (outsAt0 m c t.val t.isLt).2 i = ∑ t : Fin cfg0.N, gainPart (dhR m c) (X m c) t i := by
  have := Pipeline.eq_sum_fin_of_reset_step_apply_last (fun n h => (outsAt0 m c n h).2) 16 (fun _ => (0 : EReal)) (gainPart (dhR m c) (X m c))
    (fun t h i => by rw [outsAt0_A m c t h]; frame_out; refine (dgain_at (dh_pt m c t) (iblk_x m c t) _ i).trans ?_; exact congrArg (· + _) (zero_at _))
    (fun t h i => by rw [outsAt0_B m c t h]; frame_out; exact dgain_at (dh_pt m c t) (iblk_x m c t) _ i)
    (le_of_eq N_0) t ht i
  rw [zero_add] at this
  exact this

theorem final_parts (c : Dev nD) : (dats m 0 c).arrAt 6 cfg0.N = fun i => ∑ t : Fin cfg0.N, gainPart (dhR m c) (X m c) t i := by
  have e : ∀ (t : Fin cfg0.N) (_ : t.val + 1 = cfg0.N) (i : S8x1024.Idx), (dats m 0 c).after 6 t i = ∑ t : Fin cfg0.N, gainPart (dhR m c) (X m c) t i := by
    intro t ht i
    rw [after0_6, acc m c t ht]
  refine (dats m 0 c).arrAt_eq_of_after_last 6 ⟨15, by decide⟩ (by decide +kernel) _ fun j => ?_
  exact e _ (by decide) _

/-- The host's fold of the partial sums. -/
theorem tail_eq (c : Dev nD) : Pipeline.afterTail₀ cfgs (dats m) 0 (V0 m) [hostOps1] c main_v6
    = broadcastInDim S1x1024 ![1] bcast_S1024_S1x1024_1 (Host.reduceAdd (s := S8x1024) (φ := .f32) ((dats m 0 c).arrAt 6 cfg0.N)
        (constant (F := Ideal) S_ .f32 0x00000000#32) reducesTo_S8x1024_S1024_d0 h_S_) := by
  rw [← show Pipeline.withArrays spec0 c (V0 m c) (fun w => (dats m 0 c).arrAt w cfg0.N) (Proc.devRef .tc main_v4_1) = _
    from Pipeline.withArrays_arr _ winFacts0.arr_inj c (V0 m c) _ 6]
  show StableHlo.after hostOps1 _ (Proc.devRef .tc main_v6) = _
  after_results_simp_entrywise

theorem final_dgain (c : Dev nD) : Pipeline.afterTail₀ cfgs (dats m) 0 (V0 m) [hostOps1] c main_v6
    = val_main_v22 (F := Ideal) (m (c.tc.loc main_arg0)) (m (c.tc.loc main_arg2)) (m (c.tc.loc main_arg3)) := by
  rw [tail_eq, final_parts]
  funext i
  obtain ⟨a, l, rfl⟩ : ∃ (a : Fin 1) (l : Fin 1024), i = ix2 a l := ⟨i 0, i 1, eq_ix2 i⟩
  obtain rfl : a = 0 := Subsingleton.elim _ _
  rw [ref_dgain, ← sum_gainPart]
  pointwise []
  rfl

theorem facts_pre : Cert.Pre_finite_norm_conv.Facts where
  bcast_S_S8192x1024 := by decide
  reducesTo_S8192x1024_S_d0_1 := by decide
  h_S_ := by decide
  bcast_S_S1x1024 := by decide
  reducesTo_S1x1024_S_d0_1 := by decide
  bcast_S_S1024x3072 := by decide
  reducesTo_S1024x3072_S_d0_1 := by decide
  bitsLt_bf16_f32 := by decide
  bcast_S_S3x8192x1024 := by decide
  reducesTo_S3x8192x1024_S_d0_1_2 := by decide

/-- The precondition, entry by entry. -/
theorem allReal [Cert.Pre_finite_norm_conv.Facts] (h : Cert.Pre_NormConvIdeal_finite_norm_conv m) (c : Dev nD) : AllReal m c := by
  have e := congrFun (h c) ix0
  obtain ⟨e, h3⟩ := and_one e
  obtain ⟨e, h2⟩ := and_one e
  obtain ⟨h0, h1⟩ := and_one e
  exact ⟨isReal_of_all _ _ _ _ _ h0, isReal_of_all _ _ _ _ _ h1, isReal_of_all _ _ _ _ _ h2, isReal_of_all _ _ _ _ _ h3⟩

theorem alg [Cert.Pre_finite_norm_conv.Facts] : Cert.algebraic_NormConvIdeal_NormConvRefIdeal_pre_finite_norm_conv := by
  intro m g m' g' hp hm
  refine ⟨_, _, (θ_run defs _ _).mono (fun r h c =>
      ⟨((h.1 c).1 5).trans (final_dx m c (allReal m hp c)),
       ((h.1 c).2 main_v6 (Pipeline.mem_restRefs_of main_v6 (by decide) (by decide))).trans (final_dgain m c), h.2 c⟩)
      (θ_run_and (run_main m g) (unchanged m g)),
    (θ_run _ _ _).mono (fun r h c => ⟨(h c).1.trans ?_, (h c).2.1.trans ?_, (h c).2.2⟩)
      (Cert.NormConvRefIdeal.Value.run m' g')⟩
  · rw [val_main_v39_eq, (hm c).1, (hm c).2.1, (hm c).2.2.1, (hm c).2.2.2.1, (hm c).2.2.2.2]
  · rw [val_main_v22_eq, (hm c).1, (hm c).2.2.1, (hm c).2.2.2.1]

end Cert.NormConvValue

end
-- ==== Proof.Keep.lean ====
/- Programs that only load and store, run with every buffer they touch held whole at contents nobody names: such a program
   gives the buffers back, whatever it computes. -/
module

public import Idealize.ShloMosaic.Lib.Exec
public import Idealize.ShloMosaic.Lib.Tactic
public import Idealize.ShloMosaic.Lib.Pipeline.Kit

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
  {U : Type} [URA U] {Lvl : Type} [Preorder Lvl] {Λ : Labels} {defs : Defs nD τ sig Val Λ} {𝒱 : Variants} {c : Thread nD τ}
  {bd : Option 𝒱.V} {E : Set Name}

local notation "𝕄" => MT nD τ sig Ix Val Name U Lvl

/-- The memref's buffer held on its elements, at some contents. -/
def anyAt (c : Thread nD τ) {sp : Space} {s : Shape} {e : EltTy} (m : Memref sig c.2.kind sp s e) : sProp 𝕄 :=
  iprop(∃ f, m.view.loc c ↦[m.view.set]{fullShare} f)

/-- The memref is one of those the resources `R` hold. -/
class Held (R : sProp 𝕄) {sp : Space} {s : Shape} {e : EltTy} (m : Memref sig c.2.kind sp s e) : Prop where
  out : ∃ R', R ⊣⊢ iprop(R' ∗ anyAt c m)

instance held_last {sp : Space} {s : Shape} {e : EltTy} (m : Memref sig c.2.kind sp s e) :
    Held (c := c) (anyAt (Ix := Ix) (Val := Val) (Name := Name) (U := U) (Lvl := Lvl) c m) m :=
  ⟨_, emp_sep.symm⟩

instance held_here {R : sProp 𝕄} {sp : Space} {s : Shape} {e : EltTy} (m : Memref sig c.2.kind sp s e) :
    Held (c := c) iprop(anyAt c m ∗ R) m :=
  ⟨R, sep_comm⟩

instance held_there {P R : sProp 𝕄} {sp : Space} {s : Shape} {e : EltTy} (m : Memref sig c.2.kind sp s e) [h : Held (Ix := Ix) (Name := Name) (U := U) (Lvl := Lvl) (c := c) R m] :
    Held (c := c) iprop(P ∗ R) m :=
  ⟨let ⟨R', h'⟩ := h.out; ⟨iprop(P ∗ R'), (sep_congr .rfl h').trans sep_assoc.symm⟩⟩

/-- The program runs from the resources `R` back to them. -/
def Keeps (defs : Defs nD τ sig Val Λ) (𝒱 : Variants) (c : Thread nD τ) (bd : Option 𝒱.V) (E : Set Name) (R : sProp 𝕄) {α : Type}
    (p : Prog (TpuEff nD τ sig Val Λ c.2) α) : Prop :=
  R ⊢ wp frame (wpE defs 𝒱 c bd) E p (fun _ => R : α → sProp 𝕄)

variable {α β : Type}

theorem Keeps.ret {R : sProp 𝕄} (x : α) : Keeps (Ix := Ix) (Name := Name) (U := U) (Lvl := Lvl) defs 𝒱 c bd E R (pure x) := by
  unfold Keeps
  show R ⊢ wp frame (wpE defs 𝒱 c bd) E (.ret x) (fun _ => R : α → sProp 𝕄)
  rw [wp_ret]
  exact BI.fupd_intro

theorem Keeps.bind {R : sProp 𝕄} {p : Prog (TpuEff nD τ sig Val Λ c.2) α} {k : α → Prog (TpuEff nD τ sig Val Λ c.2) β}
    (hp : Keeps (Ix := Ix) (Name := Name) (U := U) (Lvl := Lvl) defs 𝒱 c bd E R p) (hk : ∀ x, Keeps (Ix := Ix) (Name := Name) (U := U) (Lvl := Lvl) defs 𝒱 c bd E R (k x)) : Keeps (Ix := Ix) (Name := Name) (U := U) (Lvl := Lvl) defs 𝒱 c bd E R (p >>= k) := by
  unfold Keeps at hp hk ⊢
  rw [wp_bind]
  exact hp.trans (wp_mono _ _ _ hk)

theorem Keeps.load {R : sProp 𝕄} {cs : CoreSpace} {s : Shape} {e : EltTy} {m : Memref sig c.2.kind cs s e} {r : LoadRect s} {hl : m.view.LoadsAt r}
    [h : Held (Ix := Ix) (Name := Name) (U := U) (Lvl := Lvl) (c := c) R m] : Keeps (Ix := Ix) (Name := Name) (U := U) (Lvl := Lvl) defs 𝒱 c bd E R (Prog.lift (.load m r hl)) := by
  obtain ⟨R', h'⟩ := h.out
  refine exec_frame_id (H := anyAt c m) (G' := R) h' ?_ .rfl
  unfold anyAt
  iintro ⟨%f, H⟩ Hk
  iapply (wp_load 𝒱 c bd E (hl := hl) (View.setOn_subset_set m.view r.set)) $$ H
  iintro H
  irw [wp_ret]
  imodintro
  iapply Hk
  iexists f
  iexact H

theorem Keeps.load_op {R : sProp 𝕄} {cs : CoreSpace} {s : Shape} {e : EltTy} {m : Memref sig c.2.kind cs s e} {r : LoadRect s}
    {hl : m.view.LoadsAt r} [h : Held (Ix := Ix) (Name := Name) (U := U) (Lvl := Lvl) (c := c) R m]
    {k : (r.shape.Idx → Val e) → Prog (TpuEff nD τ sig Val Λ c.2) α}
    (hk : ∀ x, Keeps (Ix := Ix) (Name := Name) (U := U) (Lvl := Lvl) defs 𝒱 c bd E R (k x)) :
    Keeps (Ix := Ix) (Name := Name) (U := U) (Lvl := Lvl) defs 𝒱 c bd E R (.op (.load m r hl) k) :=
  Keeps.bind (p := Prog.lift (.load m r hl)) Keeps.load hk

theorem Keeps.ret_op {R : sProp 𝕄} (x : α) : Keeps (Ix := Ix) (Name := Name) (U := U) (Lvl := Lvl) defs 𝒱 c bd E R (.ret x) :=
  Keeps.ret x

theorem Keeps.store {R : sProp 𝕄} {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    [h : Held (Ix := Ix) (Name := Name) (U := U) (Lvl := Lvl) (c := c) R m] : Keeps (Ix := Ix) (Name := Name) (U := U) (Lvl := Lvl) defs 𝒱 c bd E R (Prog.lift (.store m r w Mk hx hm)) := by
  obtain ⟨R', h'⟩ := h.out
  refine exec_frame_id (H := anyAt c m) (G' := R) h' ?_ .rfl
  unfold anyAt
  iintro ⟨%f, H⟩ Hk
  iapply (wp_store 𝒱 c bd E (hx := hx) (hm := hm) (S := m.view.set) (show (m.access r).setOn Mk ⊆ m.view.set from
    (View.setOn_subset_set _ _).trans (View.set_slice_subset _ _))) $$ H
  iintro H
  irw [wp_ret]
  imodintro
  iapply Hk
  iexists _
  iexact H

theorem Keeps.loop {R : sProp 𝕄} {σ : Type} {w : ℕ} (lb ub st : BitVec w) (hok : Scf.OK lb ub st) (init : σ)
    (body : Fin (Scf.trips lb ub st) → σ → Prog (TpuEff nD τ sig Val Λ c.2) σ)
    (hb : ∀ k acc, Keeps (Ix := Ix) (Name := Name) (U := U) (Lvl := Lvl) defs 𝒱 c bd E R (body k acc)) : Keeps (Ix := Ix) (Name := Name) (U := U) (Lvl := Lvl) defs 𝒱 c bd E R (Scf.for lb ub st hok init body) := by
  have h := Scf.wp_for (M := 𝕄) frame (wpE defs 𝒱 c bd) E lb ub st hok init body (fun _ _ => R) hb (Q := fun _ => R)
  unfold Keeps
  iintro H
  iapply h
  isplitl [H]
  · iexact H
  · iintro %_ H
    iexact H

theorem Keeps.ite {R : sProp 𝕄} {C : Prop} [Decidable C] {p q : Prog (TpuEff nD τ sig Val Λ c.2) α}
    (hp : Keeps (Ix := Ix) (Name := Name) (U := U) (Lvl := Lvl) defs 𝒱 c bd E R p)
    (hq : Keeps (Ix := Ix) (Name := Name) (U := U) (Lvl := Lvl) defs 𝒱 c bd E R q) :
    Keeps (Ix := Ix) (Name := Name) (U := U) (Lvl := Lvl) defs 𝒱 c bd E R (if C then p else q) := by
  split
  · exact hp
  · exact hq

theorem Keeps.framed {R : sProp 𝕄} {p : Prog (TpuEff nD τ sig Val Λ c.2) α}
    (h : Keeps (Ix := Ix) (Name := Name) (U := U) (Lvl := Lvl) defs 𝒱 c bd E R p) (G : sProp 𝕄) :
    iprop(G ∗ R) ⊢ wp frame (wpE defs 𝒱 c bd) E p (fun _ => iprop(G ∗ R) : α → sProp 𝕄) :=
  (sep_mono .rfl h).trans (wp_frame_l _ _ _)

theorem anyAt_owns {sp : Space} {s : Shape} {e : EltTy} (m : Memref sig c.2.kind sp s e) :
    (iprop(∃ X, owns c m fullShare X) : sProp 𝕄) = anyAt c m := by
  have h₁ : (iprop(∃ X, owns c m fullShare X) : sProp 𝕄) ⊢ anyAt c m := by
    unfold owns anyAt
    iintro ⟨%X, %f, -, H⟩
    iexists f
    iexact H
  have h₂ : (anyAt c m : sProp 𝕄) ⊢ iprop(∃ X, owns c m fullShare X) := by
    unfold anyAt
    iintro ⟨%f, H⟩
    iexists (m.view.read Val f)
    iapply (owns_intro c m fullShare f)
    iexact H
  exact BI.equiv_iff.mp ⟨h₁, h₂⟩

theorem anyAt_whole (b : Ref sig c.2.kind) :
    (iprop(∃ f : Buf Val (c.loc b), c.loc b ↦{fullShare} f) : sProp 𝕄) = anyAt c (Memref.whole b) := by
  unfold anyAt
  simp only [Memref.view_whole, View.set_whole]

end Cert.Keep

end
-- ==== Proof.AttnIdealBody.lean ====
/- `AttnIdeal`: the kernel's body gives back every buffer it works on, whatever it leaves in them. -/
module

public import proofs.«01_k».proof.Proof.Keep
public import proofs.«01_k».proof.Proof.Gen.AttnIdeal.Skeleton
public import proofs.«01_k».proof.Proof.Gen.AttnIdeal.Frame

@[expose] public section

set_option maxRecDepth 65536

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Keep Cert.AttnIdeal.Gen

variable {F : FTy → Type} [FloatOps F] [Named F]

local notation "𝕄" => MT nD τ sig Unit (Elt F) ℕ (UR sig nD τ) ℕ

/-- The eleven buffers of a grid point, each whole at some contents. -/
abbrev bufs (c : Dev nD) (arg1 : Memref sig .tc .smem S1x16 .f32) (arg2 : Memref sig .tc .vmem S2048x1024 .bf16) (arg3 : Memref sig .tc .vmem S2048x1536 .bf16) (arg4 : Memref sig .tc .vmem S1x128 .f32) (arg5 : Memref sig .tc .vmem S1x128 .f32) (arg6 : Memref sig .tc .vmem S2048x1536 .bf16) (arg7 : Memref sig .tc .vmem S1x128 .f32) (arg8 : Memref sig .tc .vmem S1x128 .f32) (arg9 : Memref sig .tc .vmem S16x128 .f32) (arg10 : Memref sig .tc .vmem S2048x512 .f32) (arg11 : Memref sig .tc .vmem S2x8x256x128 .f32) : sProp 𝕄 :=
  iprop(anyAt (c : Thread nD τ) arg1 ∗ anyAt (c : Thread nD τ) arg2 ∗ anyAt (c : Thread nD τ) arg3 ∗ anyAt (c : Thread nD τ) arg4 ∗ anyAt (c : Thread nD τ) arg5 ∗ anyAt (c : Thread nD τ) arg6 ∗ anyAt (c : Thread nD τ) arg7 ∗ anyAt (c : Thread nD τ) arg8 ∗ anyAt (c : Thread nD τ) arg9 ∗ anyAt (c : Thread nD τ) arg10 ∗ anyAt (c : Thread nD τ) arg11)

set_option maxHeartbeats 4000000 in
theorem keeps_body (𝒱₀ : Variants) (bd : Option 𝒱₀.V) (c : Dev nD) (i : grid0.Coords) (arg1 : Memref sig .tc .smem S1x16 .f32) (harg1 : arg1.IsWhole) (arg2 : Memref sig .tc .vmem S2048x1024 .bf16) (harg2 : arg2.IsWhole) (arg3 : Memref sig .tc .vmem S2048x1536 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x1536 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S16x128 .f32) (harg9 : arg9.IsWhole) (arg10 : Memref sig .tc .vmem S2048x512 .f32) (harg10 : arg10.IsWhole) (arg11 : Memref sig .tc .vmem S2x8x256x128 .f32) (harg11 : arg11.IsWhole) :
    Keeps (Ix := Unit) (Name := ℕ) (U := UR sig nD τ) (Lvl := ℕ) (defs₀ (F := F)) 𝒱₀ (c : Thread nD τ) bd Set.univ (bufs c arg1 arg2 arg3 arg4 arg5 arg6 arg7 arg8 arg9 arg10 arg11)
      (cc0_attn_bwd i arg1 harg1 arg2 harg2 arg3 harg3 arg4 harg4 arg5 harg5 arg6 harg6 arg7 harg7 arg8 harg8 arg9 harg9 arg10 harg10 arg11 harg11) := by
  rw [cc0_attn_bwd_eq_skeleton]
  unfold cc0_attn_bwd_skel
  repeat' first
    | with_reducible exact Keeps.ret _
    | with_reducible exact Keeps.load
    | with_reducible exact Keeps.store
    | with_reducible refine Keeps.bind ?_ fun _ => ?_
    | with_reducible exact Keeps.ret_op _
    | with_reducible refine Keeps.load_op fun _ => ?_
    | with_reducible refine Keeps.loop _ _ _ _ _ _ fun _ _ => ?_
    | split
    | dsimp only [smemLoad, smemLoadElt]
    | (rw [k0_part45_eq_skeleton]
       dsimp only [k0_part45_skel])
    | dsimp only [k0_t1_body]
    | (rw [k0_part44_eq_skeleton]
       dsimp only [k0_part44_skel])
    | (simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
       dsimp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel])

variable (m : (ℓ : Loc nD τ sig) → Buf (Elt F) ℓ) (ρ : Dev nD → PrngReg)

/-- The pipeline's data: nothing is said of what a window holds after a grid point. -/
def dats (_ : Fin 1) (c : Dev nD) : Pipeline.Dat τ (Elt F) Unit ℕ (UR sig nD τ) ℕ cfg0 c where
  A w := V m c (Pipeline.arrRef spec0 w)
  after w t := Pipeline.Dat.unnamed w t
  Φ _ := Pipeline.ΦA spec0 c
  q _ := fullShare
  owed _ := 0

/-- Every window is forgotten. -/
abbrev forgets : Fin cfg0.W → Bool := fun _ => true

theorem body_obligation (c : Dev nD) :
    Pipeline.BodyObligation (dats (F := F) m 0 c) (defs₀ (F := F)) Variants.none () Set.univ forgets := fun t => by
  rw [bigSep_W0, show defs₀ (F := F) .tc cfg0.body (cfg0.bodyArgs t (cfg0.slots t)) = bodyAt0 t by unfold defs₀; rw [Defs.onTc_tc]]
  have h := keeps_body (F := F) Variants.none none c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7)) (win0_8.stage (cfg0.slots t 8)) (hstage0_8 ((cfg0.slots t 8).cast nbuf0_8))
    (Memref.whole cc0_scratch0) (Memref.isWhole_whole _) (Memref.whole cc0_scratch1) (Memref.isWhole_whole _)
  refine triple_restated (P := iprop(((∃ r, prngReg c r) ∗ (dats (F := F) m 0 c).owesAt () t.castSucc) ∗ bufs c _ _ _ _ _ _ _ _ _ _ _))
    (Q := fun _ => iprop(((∃ r, prngReg c r) ∗ (dats (F := F) m 0 c).owesAt () t.castSucc) ∗ bufs c _ _ _ _ _ _ _ _ _ _ _)) (h.framed _) rfl ?_ fun _ => ?_
  · show iprop(Pipeline.ΦA spec0 c ∗ _) ⊢ _
    unfold Pipeline.ΦA
    rw [scopedRest0_eq]
    dsimp only [forgets]
    simp only [anyAt_owns]
    rw [anyAt_whole (c := (c : Thread nD τ)), anyAt_whole (c := (c : Thread nD τ))]
    iintro ⟨⟨⟨S0, S1⟩, Hr⟩, Ho, H0, H1, H2, H3, H4, H5, H6, H7, H8⟩
    isplitl [Hr Ho]
    · isplitl [Hr]
      · iexact Hr
      · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [S0]
    · iexact S0
    iexact S1
  · show _ ⊢ iprop(Pipeline.ΦA spec0 c ∗ _)
    unfold Pipeline.ΦA
    rw [scopedRest0_eq]
    dsimp only [forgets]
    simp only [anyAt_owns]
    rw [anyAt_whole (c := (c : Thread nD τ)), anyAt_whole (c := (c : Thread nD τ))]
    iintro ⟨⟨Hr, Ho⟩, H0, H1, H2, H3, H4, H5, H6, H7, H8, S0, S1⟩
    isplitl [S0 S1 Hr]
    · isplitl [S0 S1]
      · isplitl [S0]
        · iexact S0
        · iexact S1
      · iexact Hr
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    iexact H8

/-- What the lines after the call write. -/
def T : Finset (Ref sig .tc) := {main_v3, main_v4, main_v5, main_v6, main_v7, main_v8, main_cst, main_v9, main_v10}

theorem writes_T : ∀ ops ∈ ([hostOps1] : List (List (HloOp τ sig (Elt F)))), ∀ op ∈ ops, ∀ b : Ref sig .tc,
    Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.nullary_writes, StableHlo.unary_writes, StableHlo.binary_writes, StableHlo.reshape_writes, Finset.mem_singleton] at hb
    rw [Proc.devRef_injective _ hb]
    decide

set_option backward.isDefEq.respectTransparency.types false in
set_option maxHeartbeats 800000 in
theorem run : θ_run defs (onTc (τ := τ) (main (F := F))) (s₀ m ρ) (fun r =>
    Pipeline.RDat.FramePostR (cfgs 0) (fun c => (dats m 0 c).toRForget forgets) T (V m) r ∧ r.2.sem = fun _ => 0) :=
  Pipeline.θ_run_frame_around_T_forget (Q' := _) cfgs (dats m) (0 : Fin 1) launch0 defs₀ Variants.none forgets T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_T) (hmain := hmain m Variants.none) (hA := fun _ _ => rfl) (hΦ := fun _ _ => rfl) (hQ' := fun _ h => h)

/-- The call's frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run m ρ)
  have hin (w : Fin cfg0.W) (hw : (cfg0.win w).isOut = false) :=
    (congrFun (Pipeline.RDat.ArrAt_in ((dats m 0 c).toRForget forgets) w hw _) _).mp ((h.1 c).1 w)
  have hrest (b : Ref sig .tc) (hb : b ∈ Pipeline.restRefs sig spec0) (hT : b ∉ T) := (h.1 c).2 b (Finset.mem_sdiff.mpr ⟨hb, hT⟩)
  exact ⟨(hin 1 rfl).trans (V_main_arg0 m c), (hin 2 rfl).trans (V_main_arg1 m c),
    (hrest main_arg2 (Pipeline.mem_restRefs_of main_arg2 (by decide) (by decide)) (by decide)).trans (V_main_arg2 m c),
    (hrest main_arg3 (Pipeline.mem_restRefs_of main_arg3 (by decide) (by decide)) (by decide)).trans (V_main_arg3 m c),
    (hin 0 rfl).trans (V_main_arg4 m c)⟩

end Cert.AttnIdeal.Body

end
-- ==== Proof.Lines.lean ====
/- Straight lines of host operations that leave given buffers alone: a program built of such operations is a list of them, so
   its run ends with those buffers unchanged, whatever the values are. -/
module

public import Idealize.ShloMosaic.Lib.StableHlo.Run

@[expose] public section

namespace Cert.Lines

open Idealize.ShloMosaic Idealize.ShloMosaic.StableHlo Idealize.ShloMosaic.TcCoe Idealize.SL.Sem

variable {nD : Nat} {τ : Topo} {sig : RefSig} {Val : EltTy → Type} {Λ : Labels}

/-- `p` is a straight line of operations, none of which writes a buffer of `A`. -/
def Line (A : List (Ref sig .tc)) (p : Prog (TpuEff nD τ sig Val Λ .tc) PUnit) : Prop :=
  ∃ ops : List (HloOp τ sig Val), p = seq ops ∧ ∀ op ∈ ops,
    op.bufs ⊆ tcRefs τ sig ∧ op.fresh = ∅ ∧ ∀ r ∈ A, Proc.devRef .tc r ∉ op.writes

theorem Line.nil {A : List (Ref sig .tc)} : Line A (pure ⟨⟩ : Prog (TpuEff nD τ sig Val Λ .tc) PUnit) :=
  ⟨[], rfl, fun _ h => nomatch h⟩

theorem Line.op {A : List (Ref sig .tc)} {op : HloOp τ sig Val} {y : Ref sig .tc}
    (hw : op.writes = {Proc.devRef .tc y}) (hy : y ∉ A) (hf : op.fresh = ∅) (hb : op.bufs ⊆ tcRefs τ sig) :
    Line A (hlo rfl op fun _ => .ret (⟨⟩ : PUnit) : Prog (TpuEff nD τ sig Val Λ .tc) PUnit) := by
  refine ⟨[op], by simp only [seq, bind_pure_unit], fun o ho => ?_⟩
  obtain rfl := List.mem_singleton.mp ho
  refine ⟨hb, hf, fun r hr he => hy ?_⟩
  rw [hw, Finset.mem_singleton] at he
  exact Proc.devRef_injective _ he ▸ hr

theorem Line.bind {A : List (Ref sig .tc)} {p q : Prog (TpuEff nD τ sig Val Λ .tc) PUnit} (hp : Line A p) (hq : Line A q) :
    Line A (p >>= fun _ => q) := by
  obtain ⟨l, rfl, h⟩ := hp
  obtain ⟨l', rfl, h'⟩ := hq
  exact ⟨l ++ l', (seq_append l l').symm, fun o ho => (List.mem_append.mp ho).elim (h o) (h' o)⟩

section Builders

variable {A : List (Ref sig .tc)}

theorem Line.nullary {y : Ref sig .tc} {v : y.ty.Contents Val} {hy} (h : y ∉ A) :
    Line A (hlo rfl (StableHlo.nullary y v hy) fun _ => .ret (⟨⟩ : PUnit) : Prog (TpuEff nD τ sig Val Λ .tc) PUnit) :=
  Line.op rfl h rfl (nullary_bufs_sub ..)

theorem Line.unary {x y : Ref sig .tc} {f : x.ty.Contents Val → y.ty.Contents Val} {hx hy} (h : y ∉ A) :
    Line A (hlo rfl (StableHlo.unary x y f hx hy) fun _ => .ret (⟨⟩ : PUnit) : Prog (TpuEff nD τ sig Val Λ .tc) PUnit) :=
  Line.op rfl h rfl (unary_bufs_sub ..)

theorem Line.binary {a b y : Ref sig .tc} {f : a.ty.Contents Val → b.ty.Contents Val → y.ty.Contents Val} {ha hb hy} (h : y ∉ A)
    : Line A (hlo rfl (StableHlo.binary a b y f ha hb hy) fun _ => .ret (⟨⟩ : PUnit) : Prog (TpuEff nD τ sig Val Λ .tc) PUnit) :=
  Line.op rfl h rfl (binary_bufs_sub ..)

theorem Line.ternary {c a b y : Ref sig .tc} {f : c.ty.Contents Val → a.ty.Contents Val → b.ty.Contents Val → y.ty.Contents Val}
    {hc ha hb hy} (h : y ∉ A) :
    Line A (hlo rfl (StableHlo.ternary c a b y f hc ha hb hy) fun _ => .ret (⟨⟩ : PUnit) : Prog (TpuEff nD τ sig Val Λ .tc) PUnit) :=
  Line.op rfl h rfl (ternary_bufs_sub ..)

theorem Line.reshape {x y : Ref sig .tc} {he hn hx hy} (h : y ∉ A) :
    Line A (hlo rfl (StableHlo.reshape x y he hn hx hy) fun _ => .ret (⟨⟩ : PUnit) : Prog (TpuEff nD τ sig Val Λ .tc) PUnit) :=
  Line.op rfl h rfl (reshape_bufs_sub ..)

end Builders

/-- The run of such a line on every device: the buffers of `A` end as they began. -/
theorem Line.run {A : List (Ref sig .tc)} (defs : Defs nD τ sig Val Λ) (main : Dev nD → Prog (TpuEff nD τ sig Val Λ .tc) PUnit)
    (hR : (Finset.univ.filter fun b : Ref sig .tc => b.isScoped) = ∅) (hC : (Finset.univ.filter fun sm : SemLoc sig => sm.isScoped .tc) = ∅)
    (h : ∀ d, Line A (main d)) (m : (ℓ : Loc nD τ sig) → Buf Val ℓ) (ρ : Dev nD → PrngReg) :
    θ_run defs (onTc (τ := τ) main) ⟨m, fun _ => 0, ρ⟩ fun r =>
      ∀ (d : Dev nD), ∀ b ∈ A, r.2.mem ((d.tc : Thread nD τ).loc b) = m ((d.tc : Thread nD τ).loc b) := by
  choose ops hm hops using h
  refine (θ_run defs _ _).mono (fun r hr d b hb => ?_)
    (run_seq hR hC defs main ops hm (fun d => List.forall_iff_forall_mem.mpr fun o ho => (hops d o ho).1) m ρ fun d o ho => (hops d o ho).2.1)
  exact (hr d b).trans (after_of_forall_not_mem _ _ fun o ho => (hops d o ho).2.2 b hb)

end Cert.Lines
-- ==== Proof.AttnRef.lean ====
/- The reference of the attention: a straight line of host operations, none of which writes an argument. -/
module

public import proofs.«01_k».proof.Defs
public import proofs.«01_k».proof.Proof.Lines
public import Idealize.ShloMosaic.Lib.Quiescent
public import proofs.«01_k».proof.Proof.Gen.AttnRefIdeal

@[expose] public section

set_option maxRecDepth 8192

noncomputable section

namespace Cert.AttnRefIdeal.Body

open Cert.AttnRefIdeal Cert.AttnRefIdeal.Gen Idealize.ShloMosaic Idealize.ShloMosaic.TcCoe Idealize.ShloMosaic.StableHlo Idealize.SL.Sem
open Cert.Lines

variable {F : FTy → Type} [FloatOps F] [Named F]

/-- The arguments. -/
abbrev A : List (Ref sig .tc) := [main_arg0, main_arg1, main_arg2, main_arg3, main_arg4]

set_option maxHeartbeats 400000 in
theorem line (d : Dev nD) : Line A (main (F := F) d) := by
  dsimp only [main]
  repeat' first
    | with_reducible exact Line.nil
    | with_reducible exact Line.unary (by decide)
    | with_reducible exact Line.binary (by decide)
    | with_reducible exact Line.nullary (by decide)
    | with_reducible exact Line.reshape (by decide)
    | with_reducible exact Line.ternary (by decide)
    | with_reducible refine Line.bind ?_ ?_
    | dsimp only [main_part0, main_part1, main_part2, main_part3, main_part4, main_part5, fn_where.body, fn_where_0.body]

/-- The reference's frame. -/
theorem frame : Cert.quiescent_AttnRefIdeal := fun m ρ _ =>
  (θ_run Cert.AttnRefIdeal.defs _ _).mono (fun r h =>
    ⟨fun c => ⟨h c main_arg0 (by decide), h c main_arg1 (by decide), h c main_arg2 (by decide), h c main_arg3 (by decide), h c main_arg4 (by decide)⟩,
      sem_eq_zero_of_no_sems (by decide) r.2⟩)
    (Line.run defs main (by decide) (by decide) line m ρ)

end Cert.AttnRefIdeal.Body
-- ==== Proof.FwdUp.lean ====
/- The value of the gate's forward call: the gated product and the derivatives in its two halves that the call saves for
   the backward pass, block by block of columns; the reference differentiates the gated product. -/
module

public import proofs.«01_k».proof.Defs
public import proofs.«01_k».proof.Proof.Common
public import proofs.«01_k».proof.Proof.Finite
public import proofs.«01_k».proof.Proof.Gate
public import proofs.«01_k».proof.Proof.Gen.FwdUpIdeal.Frame
public import proofs.«01_k».proof.Proof.Gen.FwdUpRefIdeal.Run
public import proofs.«01_k».proof.Proof.Gen.FwdUpRefIdeal.Read
public import Idealize.ShloMosaic.Lib.StableHlo.RunClose

@[expose] public section

noncomputable section

namespace Cert.FwdUpValue

open Cert.FwdUpIdeal Cert.FwdUpIdeal.Gen Idealize.ShloMosaic Idealize.ShloMosaic.TcCoe Idealize.SL.Sem
open Cert.FwdUpRefIdeal.Read Cert.Common
open Cert.GateValue (sgm dGate gate_identity)

variable (m : (ℓ : Loc nD τ sig) → Buf (Elt Ideal) ℓ)

/-- Where the blocks lie: row block `t % 16`, column block `t / 16` of each half. -/
theorem idx : ∀ t : Fin cfg0.N, win0_0.index t (0 : Fin 2) = t.val % 16 ∧ win0_0.index t (1 : Fin 2) = 0
    ∧ win0_1.index t (0 : Fin 4) = 0 ∧ win0_1.index t (1 : Fin 4) = t.val / 16 ∧ win0_1.index t (2 : Fin 4) = 0
    ∧ win0_1.index t (3 : Fin 4) = 0
    ∧ win0_2.index t (0 : Fin 4) = 0 ∧ win0_2.index t (1 : Fin 4) = 2 + t.val / 16 ∧ win0_2.index t (2 : Fin 4) = 0
    ∧ win0_2.index t (3 : Fin 4) = 0
    ∧ win0_3.index t (0 : Fin 2) = t.val % 16 ∧ win0_3.index t (1 : Fin 2) = t.val / 16
    ∧ win0_4.index t (0 : Fin 2) = t.val % 16 ∧ win0_4.index t (1 : Fin 2) = t.val / 16
    ∧ win0_5.index t (0 : Fin 2) = t.val % 16 ∧ win0_5.index t (1 : Fin 2) = t.val / 16 :=
  (by decide +kernel : ∀ t : Fin grid0.N, _)

/-- The gate's and the up half's pre-activation, of the launch contents. -/
abbrev G (c : Dev nD) (r : Fin 8192) (l : Fin 2816) : EReal :=
  val_main_v2 (F := Ideal) (m (c.tc.loc main_arg0)) (m (c.tc.loc main_arg1)) (ix2 r l)
abbrev U (c : Dev nD) (r : Fin 8192) (l : Fin 2816) : EReal :=
  val_main_v3 (F := Ideal) (m (c.tc.loc main_arg0)) (m (c.tc.loc main_arg1)) (ix2 r l)

theorem row_lt (t : Fin cfg0.N) (r : Fin 512) : t.val % 16 * 512 + r.val < 8192 := by omega
theorem col_lt (t : Fin cfg0.N) (l : Fin 1408) : t.val / 16 * 1408 + l.val < 2816 := by
  have := t.isLt; have e : cfg0.N = 32 := N_0; omega

theorem gate_pt (c : Dev nD) (t : Fin cfg0.N) (r : Fin 512) (l : Fin 1408) :
    k0_pay1 (F := Ideal) (iblk m c 0 t) (iblk m c 1 t) (ix2 r l)
      = G m c ⟨t.val % 16 * 512 + r.val, row_lt t r⟩ ⟨t.val / 16 * 1408 + l.val, col_lt t l⟩ := by
  show _ = val_main_v2 (F := Ideal) _ _ _
  pointwise [k0_pay1, val_main_v2, val_main_v1, val_main_v0]
  blk_point [iblk, V, idx t]

theorem up_pt (c : Dev nD) (t : Fin cfg0.N) (r : Fin 512) (l : Fin 1408) :
    k0_pay2 (F := Ideal) (iblk m c 0 t) (iblk m c 2 t) (ix2 r l)
      = U m c ⟨t.val % 16 * 512 + r.val, row_lt t r⟩ ⟨t.val / 16 * 1408 + l.val, col_lt t l⟩ := by
  show _ = val_main_v3 (F := Ideal) _ _ _
  pointwise [k0_pay2, val_main_v3, val_main_v1, val_main_v0]
  blk_point [iblk, V, idx t]

theorem pay6_pt (c : Dev nD) (t : Fin cfg0.N) (r : Fin 512) (l : Fin 1408) :
    k0_pay6 (F := Ideal) (iblk m c 0 t) (iblk m c 1 t) (iblk m c 2 t) (ix2 r l)
      = dGate (G m c ⟨t.val % 16 * 512 + r.val, row_lt t r⟩ ⟨t.val / 16 * 1408 + l.val, col_lt t l⟩)
          (U m c ⟨t.val % 16 * 512 + r.val, row_lt t r⟩ ⟨t.val / 16 * 1408 + l.val, col_lt t l⟩) := by
  pointwise [k0_pay6, k0_pay5, k0_pay4, k0_pay3]
  rw [gate_pt, up_pt, zero_sub]

theorem pay7_pt (c : Dev nD) (t : Fin cfg0.N) (r : Fin 512) (l : Fin 1408) :
    k0_pay7 (F := Ideal) (iblk m c 0 t) (iblk m c 1 t) (ix2 r l)
      = G m c ⟨t.val % 16 * 512 + r.val, row_lt t r⟩ ⟨t.val / 16 * 1408 + l.val, col_lt t l⟩
        * sgm (G m c ⟨t.val % 16 * 512 + r.val, row_lt t r⟩ ⟨t.val / 16 * 1408 + l.val, col_lt t l⟩) := by
  pointwise [k0_pay7, k0_pay4, k0_pay3]
  rw [gate_pt, zero_sub]

theorem real_g (c : Dev nD) (h0 : ∀ i, IsReal (m (c.tc.loc main_arg0) i)) (h1 : ∀ i, IsReal (m (c.tc.loc main_arg1) i))
    (r : Fin 8192) (l : Fin 2816) : IsReal (G m c r l) := by
  show IsReal (val_main_v2 (F := Ideal) _ _ _)
  pointwise [val_main_v2, val_main_v1, val_main_v0]
  exact IsReal.sum _ fun k => (h0 _).mul (h1 _)

theorem real_u (c : Dev nD) (h0 : ∀ i, IsReal (m (c.tc.loc main_arg0) i)) (h1 : ∀ i, IsReal (m (c.tc.loc main_arg1) i))
    (r : Fin 8192) (l : Fin 2816) : IsReal (U m c r l) := by
  show IsReal (val_main_v3 (F := Ideal) _ _ _)
  pointwise [val_main_v3, val_main_v1, val_main_v0]
  exact IsReal.sum _ fun k => (h0 _).mul (h1 _)

theorem pay8_pt (c : Dev nD) (t : Fin cfg0.N) (r : Fin 512) (l : Fin 1408) :
    k0_pay8 (F := Ideal) (iblk m c 0 t) (iblk m c 1 t) (iblk m c 2 t) (ix2 r l)
      = G m c ⟨t.val % 16 * 512 + r.val, row_lt t r⟩ ⟨t.val / 16 * 1408 + l.val, col_lt t l⟩
        * sgm (G m c ⟨t.val % 16 * 512 + r.val, row_lt t r⟩ ⟨t.val / 16 * 1408 + l.val, col_lt t l⟩)
        * U m c ⟨t.val % 16 * 512 + r.val, row_lt t r⟩ ⟨t.val / 16 * 1408 + l.val, col_lt t l⟩ := by
  pointwise [k0_pay8, k0_pay5, k0_pay4, k0_pay3]
  rw [gate_pt, up_pt, zero_sub]

/-- The reference's results. -/
abbrev R10 (c : Dev nD) : S8192x2816.Idx → EReal := val_main_v10 (F := Ideal) (m (c.tc.loc main_arg0)) (m (c.tc.loc main_arg1))
abbrev R11 (c : Dev nD) : S8192x2816.Idx → EReal := val_main_v11 (F := Ideal) (m (c.tc.loc main_arg0)) (m (c.tc.loc main_arg1))
abbrev R12 (c : Dev nD) : S8192x2816.Idx → EReal := val_main_v12 (F := Ideal) (m (c.tc.loc main_arg0)) (m (c.tc.loc main_arg1))

theorem ref_dag (c : Dev nD) (r : Fin 8192) (l : Fin 2816) :
    R10 m c (ix2 r l) = 1 * U m c r l * sgm (G m c r l) + G m c r l * (1 * U m c r l) * (sgm (G m c r l) * (1 - sgm (G m c r l))) := by
  show val_main_v10 (F := Ideal) _ _ _ = _
  pointwise [val_main_v10, val_main_v9, val_main_v8, val_main_call1_v1, val_main_call1_v2, val_main_call1_v0, val_main_v6, val_main_cst, val_main_v4_1,
    val_main_call0_v7, val_main_call0_v6, val_main_call0_cst_1, val_main_v4_2, val_main_call0_v4, val_main_call0_cst_0,
    val_main_call0_v3, val_main_call0_v2, val_main_call0_cst, val_main_call0_v1, val_main_call0_v0]

theorem ref_dau (c : Dev nD) (r : Fin 8192) (l : Fin 2816) : R11 m c (ix2 r l) = G m c r l * sgm (G m c r l) * 1 := by
  show val_main_v11 (F := Ideal) _ _ _ = _
  pointwise [val_main_v11, val_main_v7, val_main_v6, val_main_cst, val_main_v4_0, val_main_v4_2, val_main_call0_v4, val_main_call0_cst_0,
    val_main_call0_v3, val_main_call0_v2, val_main_call0_cst, val_main_call0_v1, val_main_call0_v0]

theorem ref_a (c : Dev nD) (r : Fin 8192) (l : Fin 2816) : R12 m c (ix2 r l) = G m c r l * sgm (G m c r l) * U m c r l := by
  show val_main_v12 (F := Ideal) _ _ _ = _
  pointwise [val_main_v12, val_main_v5, val_main_v4_0, val_main_v4_2, val_main_call0_v4, val_main_call0_cst_0,
    val_main_call0_v3, val_main_call0_v2, val_main_call0_cst, val_main_call0_v1, val_main_call0_v0]

/-- Every argument array's entries are real, on one device. -/
def AllReal (c : Dev nD) : Prop := (∀ i, IsReal (m (c.tc.loc main_arg0) i)) ∧ ∀ i, IsReal (m (c.tc.loc main_arg1) i)

theorem dag_point (c : Dev nD) (h : AllReal m c) (t : Fin cfg0.N) (r : Fin 512) (l : Fin 1408) (i : S8192x2816.Idx)
    (h0 : (i 0).val = t.val % 16 * 512 + r.val) (h1 : (i 1).val = t.val / 16 * 1408 + l.val) :
    k0_pay6 (F := Ideal) (iblk m c 0 t) (iblk m c 1 t) (iblk m c 2 t) (ix2 r l) = R10 m c i := by
  rw [eq_ix2_of (a := ⟨t.val % 16 * 512 + r.val, row_lt t r⟩) (b := ⟨t.val / 16 * 1408 + l.val, col_lt t l⟩) h0 h1, ref_dag, pay6_pt, ← one_mul (dGate _ _)]
  exact gate_identity (real_g m c h.1 h.2 _ _) (real_u m c h.1 h.2 _ _) ⟨1, EReal.coe_one.symm⟩

theorem dau_point (c : Dev nD) (t : Fin cfg0.N) (r : Fin 512) (l : Fin 1408) (i : S8192x2816.Idx)
    (h0 : (i 0).val = t.val % 16 * 512 + r.val) (h1 : (i 1).val = t.val / 16 * 1408 + l.val) :
    k0_pay7 (F := Ideal) (iblk m c 0 t) (iblk m c 1 t) (ix2 r l) = R11 m c i := by
  rw [eq_ix2_of (a := ⟨t.val % 16 * 512 + r.val, row_lt t r⟩) (b := ⟨t.val / 16 * 1408 + l.val, col_lt t l⟩) h0 h1, ref_dau, pay7_pt, mul_one]

theorem a_point (c : Dev nD) (t : Fin cfg0.N) (r : Fin 512) (l : Fin 1408) (i : S8192x2816.Idx)
    (h0 : (i 0).val = t.val % 16 * 512 + r.val) (h1 : (i 1).val = t.val / 16 * 1408 + l.val) :
    k0_pay8 (F := Ideal) (iblk m c 0 t) (iblk m c 1 t) (iblk m c 2 t) (ix2 r l) = R12 m c i := by
  rw [eq_ix2_of (a := ⟨t.val % 16 * 512 + r.val, row_lt t r⟩) (b := ⟨t.val / 16 * 1408 + l.val, col_lt t l⟩) h0 h1, ref_a, pay8_pt]

theorem final_dag (c : Dev nD) (h : AllReal m c) : (dats m 0 c).arrAt 3 cfg0.N = R10 m c := by
  refine (dats m 0 c).arrAt_eq_of_covers 3 _ (by decide +kernel) fun t hf y => ?_
  blk_simp
  rw [after0_3]; frame_out
  obtain ⟨r, l, rfl⟩ : ∃ (r : Fin 512) (l : Fin 1408), y = ix2 r l := ⟨y 0, y 1, eq_ix2 y⟩
  refine dag_point m c h t r l _ ?_ ?_ <;> blk_simp [idx t]

theorem final_dau (c : Dev nD) : (dats m 0 c).arrAt 4 cfg0.N = R11 m c := by
  refine (dats m 0 c).arrAt_eq_of_covers 4 _ (by decide +kernel) fun t hf y => ?_
  blk_simp
  rw [after0_4]; frame_out
  obtain ⟨r, l, rfl⟩ : ∃ (r : Fin 512) (l : Fin 1408), y = ix2 r l := ⟨y 0, y 1, eq_ix2 y⟩
  refine dau_point m c t r l _ ?_ ?_ <;> blk_simp [idx t]

theorem final_a (c : Dev nD) : (dats m 0 c).arrAt 5 cfg0.N = R12 m c := by
  refine (dats m 0 c).arrAt_eq_of_covers 5 _ (by decide +kernel) fun t hf y => ?_
  blk_simp
  rw [after0_5]; frame_out
  obtain ⟨r, l, rfl⟩ : ∃ (r : Fin 512) (l : Fin 1408), y = ix2 r l := ⟨y 0, y 1, eq_ix2 y⟩
  refine a_point m c t r l _ ?_ ?_ <;> blk_simp [idx t]

theorem facts_pre : Cert.Pre_finite_up.Facts where
  bitsLt_bf16_f32 := by decide
  bcast_S_S8192x1024 := by decide
  reducesTo_S8192x1024_S_d0_1 := by decide
  h_S_ := by decide
  bcast_S_S1024x5632 := by decide
  reducesTo_S1024x5632_S_d0_1 := by decide

/-- The precondition, entry by entry. -/
theorem allReal [Cert.Pre_finite_up.Facts] (h : Cert.Pre_FwdUpIdeal_finite_up m) (c : Dev nD) : AllReal m c := by
  obtain ⟨h0, h1⟩ := and_one (congrFun (h c) ix0)
  exact ⟨isReal_of_all _ _ _ _ _ h0, isReal_of_all _ _ _ _ _ h1⟩

theorem alg [Cert.Pre_finite_up.Facts] : Cert.algebraic_FwdUpIdeal_FwdUpRefIdeal_pre_finite_up := by
  intro m g m' g' hp hm
  refine ⟨_, _, _, (θ_run defs _ _).mono (fun r h c =>
      ⟨((h.1 c).1 3).trans (final_dag m c (allReal m hp c)), ((h.1 c).1 4).trans (final_dau m c), ((h.1 c).1 5).trans (final_a m c), h.2 c⟩)
      (θ_run_and (run_main m g) (unchanged m g)),
    (θ_run _ _ _).mono (fun r h c => ⟨(h c).1.trans ?_, (h c).2.1.trans ?_, (h c).2.2.1.trans ?_, (h c).2.2.2⟩)
      (Cert.FwdUpRefIdeal.Value.run m' g')⟩
  · rw [val_main_v10_eq, (hm c).1, (hm c).2]
  · rw [val_main_v11_eq, (hm c).1, (hm c).2]
  · rw [val_main_v12_eq, (hm c).1, (hm c).2]

end Cert.FwdUpValue

end
-- ==== Proof.FwdConv.lean ====
/- The value of the convolution's forward call: the gated short convolution of every sequence, in blocks of 512 columns. The
   kernel shifts rows by rotating and masking; the reference puts two rows of zeros in front. -/
module

public import proofs.«01_k».proof.Defs
public import proofs.«01_k».proof.Proof.Conv
public import proofs.«01_k».proof.Proof.Gen.FwdConvIdeal.Frame
public import proofs.«01_k».proof.Proof.Gen.FwdConvRefIdeal.Run
public import proofs.«01_k».proof.Proof.Gen.FwdConvRefIdeal.Read
public import Idealize.ShloMosaic.Lib.StableHlo.RunClose

@[expose] public section

noncomputable section

namespace Cert.FwdConvValue

open Cert.FwdConvIdeal Cert.FwdConvIdeal.Gen Idealize.ShloMosaic Idealize.ShloMosaic.TcCoe Idealize.SL.Sem
open Cert.FwdConvRefIdeal.Read Cert.Common
open Cert.ConvValue (W3 dus start own_apply gotArr gotArr_apply pick down)

variable (m : (ℓ : Loc nD τ sig) → Buf (Elt Ideal) ℓ)

/-- Where the windows' blocks lie at a grid point: sequence `t / 2`, column block `t % 2`. -/
theorem idx : ∀ t : Fin cfg0.N, win0_0.index t (0 : Fin 2) = t.val / 2 ∧ win0_0.index t (1 : Fin 2) = t.val % 2
    ∧ win0_1.index t (0 : Fin 2) = t.val / 2 ∧ win0_1.index t (1 : Fin 2) = 2 + t.val % 2
    ∧ win0_2.index t (0 : Fin 2) = t.val / 2 ∧ win0_2.index t (1 : Fin 2) = 4 + t.val % 2
    ∧ win0_3.index t (0 : Fin 2) = 0 ∧ win0_3.index t (1 : Fin 2) = t.val % 2
    ∧ win0_4.index t (0 : Fin 3) = 0 ∧ win0_4.index t (1 : Fin 3) = 0 ∧ win0_4.index t (2 : Fin 3) = t.val % 2
    ∧ win0_5.index t (0 : Fin 2) = t.val / 2 ∧ win0_5.index t (1 : Fin 2) = t.val % 2 :=
  (by decide +kernel : ∀ t : Fin grid0.N, _)

/-- The two arrays' launch contents, the gated rows and the gate. -/
abbrev A0 (c : Dev nD) := m (c.tc.loc main_arg0)
abbrev A1 (c : Dev nD) : S1x3x1024.Idx → EReal := m (c.tc.loc main_arg1)
abbrev U (c : Dev nD) (b : Fin 4) (s : Fin 2048) (l : Fin 1024) : EReal := val_main_v6 (F := Ideal) (A0 m c) (ix3 b s l)
abbrev G (c : Dev nD) (b : Fin 4) (s : Fin 2048) (l : Fin 1024) : EReal := val_main_v4 (F := Ideal) (A0 m c) (ix3 b s l)

theorem own_eq (c : Dev nD) : V m c main_v3
    = dus (extractStridedSlice S3x256 ![0, 0] (shapeCast S3x1024 (A1 m c) shapeCasts_S1x3x1024_S3x1024) slices_S3x1024_S3x256_0_0) ![0, 0] := by
  entry_read
  exact congrArg (fun f => Host.dynamicUpdateSlice _ _ f _) (start _ rfl rfl)

theorem got_eq (c : Dev nD) : V m c main_v16 = gotArr (A1 m c) := by
  show StableHlo.after hostOps0 _ (Proc.devRef .tc main_v16) = _
  after_results_simp_entrywise
  rfl

/-- The sequence, the row and the column a point's block index stands for. -/
abbrev sq (t : Fin cfg0.N) : Fin 4 := ⟨t.val / 2, by have := t.isLt; have e : cfg0.N = 8 := N_0; omega⟩
abbrev col (t : Fin cfg0.N) (l : Fin 512) : Fin 1024 := ⟨t.val % 2 * 512 + l.val, by omega⟩

theorem emb3 (t : Fin cfg0.N) (s : Fin 8) (l : Fin 512) : (win0_3.blk t).view.emb (ix2 s l) = ix2 s (col t l) := by blk_ext [idx t]
theorem emb4 (t : Fin cfg0.N) (q : Fin 3) (s : Fin 8) (l : Fin 512) : (win0_4.blk t).view.emb (ix3 q s l) = ix3 q s (col t l) := by
  blk_ext [idx t]

theorem own (c : Dev nD) (t : Fin cfg0.N) (s : Fin 8) (l : Fin 512) : iblk m c 3 t (ix2 s l)
    = if h : s.val < 3 ∧ (col t l).val < 256 then A1 m c (ix3 0 ⟨s.val, h.1⟩ (col t l)) else (0 : EReal) := by
  blk_simp [iblk]
  rw [own_eq, emb3]
  exact own_apply (A1 m c) s _

theorem got (c : Dev nD) (t : Fin cfg0.N) (q : Fin 3) (s : Fin 8) (l : Fin 512) :
    iblk m c 4 t (ix3 q s l) = gotArr (A1 m c) (ix3 q s (col t l)) := by
  blk_simp [iblk]
  rw [got_eq, emb4]

/-- Tap `k` at a point's column: the four chips' parts add up to the array's own entry. -/
theorem taps (c : Dev nD) (t : Fin cfg0.N) (k : Fin 8) (hk : k.val < 3) (l : Fin 512) :
    k0_pay3 (iblk m c 3 t)
        (View.ld (iblk m c 4 t) (Rect.unit ![0, 0, 0] ![1, 8, 512] inb_S3x8x512_S1x8x512_0_0_0))
        (View.ld (iblk m c 4 t) (Rect.unit ![1, 0, 0] ![1, 8, 512] inb_S3x8x512_S1x8x512_1_0_0))
        (View.ld (iblk m c 4 t) (Rect.unit ![2, 0, 0] ![1, 8, 512] inb_S3x8x512_S1x8x512_2_0_0)) (ix2 k l)
      = A1 m c (ix3 0 ⟨k.val, hk⟩ (col t l)) := by
  have hl := l.isLt
  pointwise [k0_pay3]
  rw [own, got, got, got, gotArr_apply, gotArr_apply, gotArr_apply]
  apply pick <;> first | (intro h; rfl) | skip
  simp only [hk, true_and]
  have h4 : (col t l).val < 1024 := (col t l).isLt
  generalize (col t l).val = x at h4
  rcases (by omega : x / 256 = 0 ∨ x / 256 = 1 ∨ x / 256 = 2 ∨ x / 256 = 3) with h | h | h | h <;> simp [h] <;> omega

/-- The gated rows the taps meet. -/
theorem hu (c : Dev nD) (t : Fin cfg0.N) (s : Fin 2048) (l : Fin 512) :
    k0_pay2 (F := Ideal) (iblk m c 0 t) (iblk m c 2 t) (ix2 s l) = U m c (sq t) s (col t l) := by
  show _ = val_main_v6 (F := Ideal) _ _
  pointwise [k0_pay2, val_main_v6, val_main_v5, val_main_v3, val_main_v1, val_main_v0]
  blk_point [iblk, V, idx t]

theorem hc (c : Dev nD) (t : Fin cfg0.N) (s : Fin 2048) (l : Fin 512) :
    iblk m c 1 t (ix2 s l) = G m c (sq t) s (col t l) := by
  show _ = val_main_v4 (F := Ideal) _ _
  pointwise [val_main_v4, val_main_v1, val_main_v0]
  blk_point [iblk, V, idx t]

/-- The taps times the rows and the rows shifted by one and two, gated. -/
theorem out_apply (b x g : Vec Ideal S2048x512 .bf16) (v6 : Vec Ideal S8x512 .f32) (v8 v11 v13 : Vec Ideal S1x8x512 .f32)
    (s : Fin 2048) (l : Fin 512) :
    k0_pay1 (F := Ideal) (k0_pay4 b x v6 v8 v11 v13) (k0_pay5 v6 v8 v11 v13) (k0_pay6 b x) k0_pay7 (k0_pay8 b x)
        (Scalar.ofBits .f32 0x00000000#32) g (ix2 s l)
      = g (ix2 s l) * (k0_pay3 (F := Ideal) v6 v8 v11 v13 (ix2 2 l) * k0_pay2 (F := Ideal) b x (ix2 s l)
        + k0_pay3 (F := Ideal) v6 v8 v11 v13 (ix2 1 l) * (if h : 1 ≤ s.val then k0_pay2 (F := Ideal) b x (ix2 ⟨s.val - 1, by omega⟩ l) else 0)
        + k0_pay3 (F := Ideal) v6 v8 v11 v13 (ix2 0 l) * (if h : 2 ≤ s.val then k0_pay2 (F := Ideal) b x (ix2 ⟨s.val - 2, by omega⟩ l) else 0)) := by
  pointwise [k0_pay1, k0_pay4, k0_pay5, k0_pay6, k0_pay7, k0_pay8]
  simp only [Scalar.select, IntOp.cmpi]
  have d : ∀ s : Fin 8, BitVec.ofBool ((1#32).sle (BitVec.ofNat 32 s.val)) = 1 ↔ 1 ≤ s.val := by decide
  have e : ∀ s : Fin 8, BitVec.ofBool ((2#32).sle (BitVec.ofNat 32 s.val)) = 1 ↔ 2 ≤ s.val := by decide
  refine congrArg (g (ix2 s l) * ·) (congrArg₂ (· + ·) (congrArg₂ (· + ·) rfl (congrArg (k0_pay3 (F := Ideal) v6 v8 v11 v13 (ix2 1 l) * ·) ?_))
    (congrArg (k0_pay3 (F := Ideal) v6 v8 v11 v13 (ix2 0 l) * ·) ?_))
  · exact down (fun s => (k0_pay2 (F := Ideal) b x (ix2 s l) : EReal)) 1 s (BitVec.ofBool ((1#32).sle (BitVec.ofNat 32 s.val)) = 1) (by omega) (fun h8 => d ⟨s.val, h8⟩) (Nat.mod_lt _ (by decide)) (Nat.mod_lt _ (by decide))
  · exact down (fun s => (k0_pay2 (F := Ideal) b x (ix2 s l) : EReal)) 2 s (BitVec.ofBool ((2#32).sle (BitVec.ofNat 32 s.val)) = 1) (by omega) (fun h8 => e ⟨s.val, h8⟩) (Nat.mod_lt _ (by decide)) (Nat.mod_lt _ (by decide))

/-- The reference's result at a row of a sequence. -/
theorem ref_z (c : Dev nD) (r : Fin 8192) (b : Fin 4) (s : Fin 2048) (l : Fin 1024) (hr : r.val = b.val * 2048 + s.val) :
    val_main_v31 (F := Ideal) (A0 m c) (A1 m c) (ix2 r l) = G m c b s l
      * (A1 m c (ix3 0 0 l) * (if h : 2 ≤ s.val then U m c b ⟨s.val - 2, by omega⟩ l else 0)
      + A1 m c (ix3 0 1 l) * (if h : 1 ≤ s.val then U m c b ⟨s.val - 1, by omega⟩ l else 0)
      + A1 m c (ix3 0 2 l) * U m c b s l) := by
  have e1 : r.val / 2048 = b.val := by omega
  have e2 : r.val % 2048 = s.val := by omega
  pointwise [val_main_v31, val_main_v30, val_main_v29]
  have eb : (⟨r.val / 2048, by omega⟩ : Fin 4) = b := Fin.ext e1
  have es : (⟨r.val % 2048, by omega⟩ : Fin 2048) = s := Fin.ext e2
  rw [eb, es]
  exact congrArg (_ * ·) (Cert.ConvValue.v29 (A0 m c) (A1 m c) b s l)

theorem z_point (c : Dev nD) (t : Fin cfg0.N) (s : Fin 2048) (l : Fin 512) (i : S8192x1024.Idx)
    (h0 : (i 0).val = t.val / 2 * 2048 + s.val) (h1 : (i 1).val = t.val % 2 * 512 + l.val) :
    k0_pay1 (F := Ideal) (k0_pay4 (iblk m c 0 t) (iblk m c 2 t) (iblk m c 3 t)
        (View.ld (iblk m c 4 t) (Rect.unit ![0, 0, 0] ![1, 8, 512] inb_S3x8x512_S1x8x512_0_0_0))
        (View.ld (iblk m c 4 t) (Rect.unit ![1, 0, 0] ![1, 8, 512] inb_S3x8x512_S1x8x512_1_0_0))
        (View.ld (iblk m c 4 t) (Rect.unit ![2, 0, 0] ![1, 8, 512] inb_S3x8x512_S1x8x512_2_0_0)))
      (k0_pay5 (iblk m c 3 t)
        (View.ld (iblk m c 4 t) (Rect.unit ![0, 0, 0] ![1, 8, 512] inb_S3x8x512_S1x8x512_0_0_0))
        (View.ld (iblk m c 4 t) (Rect.unit ![1, 0, 0] ![1, 8, 512] inb_S3x8x512_S1x8x512_1_0_0))
        (View.ld (iblk m c 4 t) (Rect.unit ![2, 0, 0] ![1, 8, 512] inb_S3x8x512_S1x8x512_2_0_0)))
      (k0_pay6 (iblk m c 0 t) (iblk m c 2 t)) k0_pay7 (k0_pay8 (iblk m c 0 t) (iblk m c 2 t))
      (Scalar.ofBits .f32 0x00000000#32) (iblk m c 1 t) (ix2 s l)
      = val_main_v31 (F := Ideal) (A0 m c) (A1 m c) i := by
  rw [eq_ix2_of (a := ⟨t.val / 2 * 2048 + s.val, by have : t.val / 2 < 4 := (sq t).isLt; omega⟩) (b := col t l) h0 h1,
    ref_z m c _ (sq t) s (col t l) rfl, out_apply, taps m c t 2 (by decide), taps m c t 1 (by decide), taps m c t 0 (by decide),
    hu, hc]
  simp only [hu]
  refine congrArg (G m c (sq t) s (col t l) * ·) ?_
  have e : ∀ a b d : EReal, a + b + d = d + b + a := fun a b d => by rw [add_comm, add_comm a b, add_assoc]
  exact e _ _ _

theorem final_z (c : Dev nD) : (dats m 0 c).arrAt 5 cfg0.N = val_main_v31 (F := Ideal) (A0 m c) (A1 m c) := by
  refine (dats m 0 c).arrAt_eq_of_covers 5 _ (by decide +kernel) fun t hf y => ?_
  blk_simp
  rw [after0_5]; frame_out
  obtain ⟨s, l, rfl⟩ : ∃ (s : Fin 2048) (l : Fin 512), y = ix2 s l := ⟨y 0, y 1, eq_ix2 y⟩
  refine z_point m c t s l _ ?_ ?_ <;> blk_simp [idx t]

theorem alg : Cert.algebraic_FwdConvIdeal_FwdConvRefIdeal := by
  intro m g m' g' _ hm
  refine ⟨_, (θ_run defs _ _).mono (fun r h c => ⟨((h.1 c).1 5).trans (final_z m c), h.2 c⟩)
      (θ_run_and (run_main m g) (unchanged m g)),
    (θ_run _ _ _).mono (fun r h c => ⟨(h c).1.trans ?_, (h c).2⟩)
      (Cert.FwdConvRefIdeal.Value.run m' g')⟩
  rw [val_main_v31_eq, (hm c).1, (hm c).2]

end Cert.FwdConvValue

end
-- ==== Proof.FwdIn.lean ====
/- The value of the convolution layer's input call: the norm's rows and their product with the input projection's weight. The
   kernel lays the four chips' columns of the weight side by side in a scratch at its first point and keeps it. -/
module

public import proofs.«01_k».proof.Defs
public import proofs.«01_k».proof.Proof.Norm
public import proofs.«01_k».proof.Proof.Gen.FwdInIdeal.Frame
public import proofs.«01_k».proof.Proof.Gen.FwdInRefIdeal.Run
public import proofs.«01_k».proof.Proof.Gen.FwdInRefIdeal.Read
public import Idealize.ShloMosaic.Lib.StableHlo.RunClose

@[expose] public section

noncomputable section

namespace Cert.FwdInValue

open Cert.FwdInIdeal Cert.FwdInIdeal.Gen Idealize.ShloMosaic Idealize.ShloMosaic.TcCoe Idealize.SL.Sem
open Cert.FwdInRefIdeal.Read Cert.Common

variable (m : (ℓ : Loc nD τ sig) → Buf (Elt Ideal) ℓ)

/-- Where the blocks lie: row block `t`, the weight and the gain whole. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The weight as the call reads it. -/
theorem w_eq (c : Dev nD) : V m c main_v3
    = broadcastInDim S1x4x1024x768 ![1, 2, 3] bcast_S4x1024x768_S1x4x1024x768_1_2_3
        (transpose S4x1024x768 [1, 0, 2] (shapeCast S1024x4x768 (truncf .bf16 (m (c.tc.loc main_arg2)) bitsLt_bf16_f32 : FVec Ideal S1024x3072 .bf16)
          shapeCasts_S1024x3072_S1024x4x768) transposes_S1024x4x768_S4x1024x768_1_0_2) := by
  show StableHlo.after hostOps0 _ (Proc.devRef .tc main_v3) = _
  after_results_simp_entrywise; rfl

theorem w_at (c : Dev nD) (j : Fin 4) (k : Fin 1024) (l : Fin 768) :
    V m c main_v3 (ix4 (0 : Fin 1) j k l) = m (c.tc.loc main_arg2) (ix2 k ⟨j.val * 768 + l.val, by omega⟩) := by
  rw [w_eq]
  pointwise []

theorem emb_w (t : Fin cfg0.N) (j : Fin 4) (k : Fin 1024) (l : Fin 768) :
    (win0_2.blk t).view.emb (ix4 0 j k l) = ix4 0 j k l := by blk_ext [idx t]
theorem iblk_w (c : Dev nD) (t : Fin cfg0.N) (j : Fin 4) (k : Fin 1024) (l : Fin 768) :
    iblk m c 2 t (ix4 0 j k l) = m (c.tc.loc main_arg2) (ix2 k ⟨j.val * 768 + l.val, by omega⟩) :=
  (congrArg (V m c main_v3) (emb_w t j k l)).trans (w_at m c j k l)

/-- One stored piece of the scratch, its place and entries. -/
theorem piece (c : Dev nD) (t : Fin cfg0.N) (j : Fin 4) (y : S1024x3072.Idx) (a : Fin 1024) (b : Fin 768) (h0 : (y 0).val = a.val)
    (h1 : (y 1).val = j.val * 768 + b.val) : iblk m c 2 t (ix4 0 j a b) = m (c.tc.loc main_arg2) y := by
  rw [iblk_w]
  exact congrArg (m (c.tc.loc main_arg2)) (eq_ix2_of h0 h1).symm

theorem tiles (c : Dev nD) (t : Fin cfg0.N) (y : S1024x3072.Idx) :
    View.canon
      [⟨Rect.unit ![0, 2304] ![1024, 768] inb_S1024x3072_S1024x768_0_2304, k0_pay4 (F := Ideal)
            (View.ld (iblk m c 2 t) (Rect.unit ![0, 3, 0, 0] ![1, 1, 1024, 768] inb_S1x4x1024x768_S1x1x1024x768_0_3_0_0))⟩,
        ⟨Rect.unit ![0, 1536] ![1024, 768] inb_S1024x3072_S1024x768_0_1536, k0_pay3
            (View.ld (iblk m c 2 t) (Rect.unit ![0, 2, 0, 0] ![1, 1, 1024, 768] inb_S1x4x1024x768_S1x1x1024x768_0_2_0_0))⟩,
        ⟨Rect.unit ![0, 768] ![1024, 768] inb_S1024x3072_S1024x768_0_768, k0_pay2
            (View.ld (iblk m c 2 t) (Rect.unit ![0, 1, 0, 0] ![1, 1, 1024, 768] inb_S1x4x1024x768_S1x1x1024x768_0_1_0_0))⟩,
        ⟨Rect.unit ![0, 0] ![1024, 768] inb_S1024x3072_S1024x768_0_0, k0_pay1
            (View.ld (iblk m c 2 t) (Rect.unit ![0, 0, 0, 0] ![1, 1, 1024, 768] inb_S1x4x1024x768_S1x1x1024x768_0_0_0_0))⟩] y
      = m (c.tc.loc main_arg2) y := by
  canon_tiles x h
  all_goals
    obtain ⟨a, b, rfl⟩ : ∃ (a : Fin 1024) (b : Fin 768), x = ix2 a b := ⟨x 0, x 1, eq_ix2 x⟩
    pointwise [k0_pay4, k0_pay3, k0_pay2, k0_pay1]
    refine piece m c t _ y _ _ ?_ ?_ <;> simp [*] <;> omega

theorem scratch_A (c : Dev nD) (t : Fin cfg0.N) (h : t.val % 16 = 0) :
    (outsAt0 m c t.val t.isLt).2.2 = m (c.tc.loc main_arg2) := by
  rw [outsAt0_A m c t h]; frame_out
  exact funext fun y => tiles m c t y

theorem scratch_B (c : Dev nD) (t : Fin cfg0.N) (h : ¬ t.val % 16 = 0) :
    (outsAt0 m c t.val t.isLt).2.2 = (outsAt0 m c (t.val - 1) (by omega)).2.2 := by
  rw [outsAt0_B m c t h]; rfl

/-- The scratch holds the weight at every point. -/
theorem scratch (c : Dev nD) : ∀ (n : ℕ) (h : n < cfg0.N), (outsAt0 m c n h).2.2 = m (c.tc.loc main_arg2)
  | 0, h => scratch_A m c ⟨0, h⟩ rfl
  | n + 1, h => by
    by_cases h0 : (n + 1) % 16 = 0
    · exact scratch_A m c ⟨n + 1, h⟩ h0
    · exact (scratch_B m c ⟨n + 1, h⟩ h0).trans (scratch c n (by omega))

/-- What a point leaves in its two output blocks. -/
theorem outs_h (c : Dev nD) (t : Fin cfg0.N) : (outsAt0 m c t.val t.isLt).1 = k0_pay5 (iblk m c 0 t) (iblk m c 1 t) := by
  by_cases h : t.val % 16 = 0
  · rw [outsAt0_A m c t h]; frame_out
  · rw [outsAt0_B m c t h]; frame_out

theorem outs_b (c : Dev nD) (t : Fin cfg0.N) :
    (outsAt0 m c t.val t.isLt).2.1 = k0_pay6 (iblk m c 0 t) (iblk m c 1 t) (m (c.tc.loc main_arg2)) := by
  by_cases h : t.val % 16 = 0
  · rw [outsAt0_A m c t h]; frame_out
    refine congrArg (k0_pay6 (F := Ideal) _ _) ?_
    rw [View.readCov_eq_canon']
    exact funext fun y => (tiles m c t _).trans (congrArg _ (funext fun a => Fin.ext (by show (Rect.unit ![0, 0] ![1024, 3072] _).toLoadRect.off a + _ * _ = _; fin_cases a <;> simp)))
  · rw [outsAt0_B m c t h]; frame_out
    refine congrArg (k0_pay6 (F := Ideal) _ _) ?_
    erw [Memref.IsWhole.read_unread]
    exact scratch m c _ _

theorem row_lt (t : Fin cfg0.N) (r : Fin 512) : t.val * 512 + r.val < 8192 := by
  have := t.isLt; have e : cfg0.N = 16 := N_0; omega

/-- The reference's results, and the launch contents at a row and a column. -/
abbrev H (c : Dev nD) : S8192x1024.Idx → EReal := val_main_v12 (F := Ideal) (m (c.tc.loc main_arg0)) (m (c.tc.loc main_arg1))
abbrev B (c : Dev nD) : S8192x3072.Idx → EReal :=
  val_main_v14 (F := Ideal) (m (c.tc.loc main_arg0)) (m (c.tc.loc main_arg1)) (m (c.tc.loc main_arg2))
abbrev X (c : Dev nD) (r : Fin 8192) (l : Fin 1024) : EReal := m (c.tc.loc main_arg0) (ix2 r l)

theorem x_pt (c : Dev nD) (t : Fin cfg0.N) (r : Fin 512) (l : Fin 1024) :
    iblk m c 0 t (ix2 r l) = X m c ⟨t.val * 512 + r.val, row_lt t r⟩ l := by blk_point [iblk, V, idx t]
theorem gain_pt (c : Dev nD) (t : Fin cfg0.N) (l : Fin 1024) : iblk m c 1 t (ix2 0 l) = m (c.tc.loc main_arg1) (ix2 0 l) := by
  blk_point [iblk, V, idx t]

theorem ref_h (c : Dev nD) (r : Fin 8192) (l : Fin 1024) :
    H m c (ix2 r l) = X m c r l * rstd (X m c r) * m (c.tc.loc main_arg1) (ix2 0 l) := by
  show val_main_v12 (F := Ideal) _ _ _ = _
  pointwise [val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The normalised rows at an index. -/
theorem h_pt (c : Dev nD) (t : Fin cfg0.N) (r : Fin 512) (l : Fin 1024) :
    k0_pay5 (F := Ideal) (iblk m c 0 t) (iblk m c 1 t) (ix2 r l) = H m c (ix2 ⟨t.val * 512 + r.val, row_lt t r⟩ l) := by
  rw [ref_h]
  pointwise [k0_pay5]
  simp only [x_pt]
  exact congrArg (_ * ·) (gain_pt m c t l)

theorem b_pt (c : Dev nD) (t : Fin cfg0.N) (r : Fin 512) (l : Fin 3072) :
    k0_pay6 (F := Ideal) (iblk m c 0 t) (iblk m c 1 t) (m (c.tc.loc main_arg2)) (ix2 r l)
      = B m c (ix2 ⟨t.val * 512 + r.val, row_lt t r⟩ l) := by
  show _ = val_main_v14 (F := Ideal) _ _ _ _
  pointwise [k0_pay6, val_main_v14, val_main_v13]
  simp only [h_pt]
  rfl

theorem h_point (c : Dev nD) (t : Fin cfg0.N) (r : Fin 512) (l : Fin 1024) (i : S8192x1024.Idx)
    (h0 : (i 0).val = t.val * 512 + r.val) (h1 : (i 1).val = l.val) :
    k0_pay5 (F := Ideal) (iblk m c 0 t) (iblk m c 1 t) (ix2 r l) = H m c i := by
  rw [eq_ix2_of (a := ⟨t.val * 512 + r.val, row_lt t r⟩) (b := l) h0 h1, h_pt]

theorem b_point (c : Dev nD) (t : Fin cfg0.N) (r : Fin 512) (l : Fin 3072) (i : S8192x3072.Idx)
    (h0 : (i 0).val = t.val * 512 + r.val) (h1 : (i 1).val = l.val) :
    k0_pay6 (F := Ideal) (iblk m c 0 t) (iblk m c 1 t) (m (c.tc.loc main_arg2)) (ix2 r l) = B m c i := by
  rw [eq_ix2_of (a := ⟨t.val * 512 + r.val, row_lt t r⟩) (b := l) h0 h1, b_pt]

theorem final_h (c : Dev nD) : (dats m 0 c).arrAt 3 cfg0.N = H m c := by
  refine (dats m 0 c).arrAt_eq_of_covers 3 _ (by decide +kernel) fun t hf y => ?_
  blk_simp
  rw [after0_3, outs_h]
  obtain ⟨r, l, rfl⟩ : ∃ (r : Fin 512) (l : Fin 1024), y = ix2 r l := ⟨y 0, y 1, eq_ix2 y⟩
  refine h_point m c t r l _ ?_ ?_ <;> blk_simp [idx t]

theorem final_b (c : Dev nD) : (dats m 0 c).arrAt 4 cfg0.N = B m c := by
  refine (dats m 0 c).arrAt_eq_of_covers 4 _ (by decide +kernel) fun t hf y => ?_
  blk_simp
  rw [after0_4, outs_b]
  obtain ⟨r, l, rfl⟩ : ∃ (r : Fin 512) (l : Fin 3072), y = ix2 r l := ⟨y 0, y 1, eq_ix2 y⟩
  refine b_point m c t r l _ ?_ ?_ <;> blk_simp [idx t]

theorem alg : Cert.algebraic_FwdInIdeal_FwdInRefIdeal := by
  intro m g m' g' _ hm
  refine ⟨_, _, (θ_run defs _ _).mono (fun r h c =>
      ⟨((h.1 c).1 3).trans (final_h m c), ((h.1 c).1 4).trans (final_b m c), h.2 c⟩)
      (θ_run_and (run_main m g) (unchanged m g)),
    (θ_run _ _ _).mono (fun r h c => ⟨(h c).1.trans ?_, (h c).2.1.trans ?_, (h c).2.2⟩)
      (Cert.FwdInRefIdeal.Value.run m' g')⟩
  · rw [val_main_v12_eq, (hm c).1, (hm c).2.1]
  · rw [val_main_v14_eq, (hm c).1, (hm c).2.1, (hm c).2.2]

end Cert.FwdInValue

end
-- ==== Proof.FwdDown.lean ====
/- The value of the down projection's forward call: the layer's output (the sum of the residual and the product) and its
   norm's rows, block by block of rows. -/
module

public import proofs.«01_k».proof.Defs
public import proofs.«01_k».proof.Proof.Norm
public import proofs.«01_k».proof.Proof.Gen.FwdDownIdeal.Frame
public import proofs.«01_k».proof.Proof.Gen.FwdDownRefIdeal.Run
public import proofs.«01_k».proof.Proof.Gen.FwdDownRefIdeal.Read
public import Idealize.ShloMosaic.Lib.StableHlo.RunClose

@[expose] public section

noncomputable section

namespace Cert.FwdDownValue

open Cert.FwdDownIdeal Cert.FwdDownIdeal.Gen Idealize.ShloMosaic Idealize.ShloMosaic.TcCoe Idealize.SL.Sem
open Cert.FwdDownRefIdeal.Read Cert.Common

variable (m : (ℓ : Loc nD τ sig) → Buf (Elt Ideal) ℓ)

/-- Where the blocks lie: row block `t`, the weight and the gain whole. -/
theorem idx : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (r : Fin 1024) : t.val * 1024 + r.val < 8192 := by
  have := t.isLt; have e : cfg0.N = 8 := N_0; omega

/-- The reference's results. -/
abbrev X (c : Dev nD) : S8192x1024.Idx → EReal :=
  val_main_v2 (F := Ideal) (m (c.tc.loc main_arg0)) (m (c.tc.loc main_arg1)) (m (c.tc.loc main_arg2))
abbrev H (c : Dev nD) : S8192x1024.Idx → EReal :=
  val_main_v15 (F := Ideal) (m (c.tc.loc main_arg0)) (m (c.tc.loc main_arg1)) (m (c.tc.loc main_arg2)) (m (c.tc.loc main_arg3))

theorem x_pt (c : Dev nD) (t : Fin cfg0.N) (r l : Fin 1024) :
    k0_pay1 (F := Ideal) (iblk m c 2 t) (iblk m c 0 t) (iblk m c 1 t) (ix2 r l) = X m c (ix2 ⟨t.val * 1024 + r.val, row_lt t r⟩ l) := by
  show _ = val_main_v2 (F := Ideal) _ _ _ _
  pointwise [k0_pay1, val_main_v2, val_main_v1, val_main_v0]
  blk_point [iblk, V, idx t]

theorem gain_pt (c : Dev nD) (t : Fin cfg0.N) (l : Fin 1024) : iblk m c 3 t (ix2 0 l) = m (c.tc.loc main_arg3) (ix2 0 l) := by
  blk_point [iblk, V, idx t]

/-- The normalised rows at an index, the kernel's and the reference's. -/
theorem h_pt (c : Dev nD) (t : Fin cfg0.N) (r l : Fin 1024) :
    k0_pay2 (F := Ideal) (iblk m c 2 t) (iblk m c 0 t) (iblk m c 1 t) (iblk m c 3 t) (ix2 r l)
      = X m c (ix2 ⟨t.val * 1024 + r.val, row_lt t r⟩ l) * rstd (fun k => X m c (ix2 ⟨t.val * 1024 + r.val, row_lt t r⟩ k))
        * m (c.tc.loc main_arg3) (ix2 0 l) := by
  pointwise [k0_pay2]
  simp only [x_pt]
  exact congrArg (_ * ·) (gain_pt m c t l)

theorem ref_h (c : Dev nD) (r : Fin 8192) (l : Fin 1024) :
    H m c (ix2 r l) = X m c (ix2 r l) * rstd (fun k => X m c (ix2 r k)) * m (c.tc.loc main_arg3) (ix2 0 l) := by
  show val_main_v15 (F := Ideal) _ _ _ _ _ = _
  pointwise [val_main_v15, val_main_v14, val_main_v13, val_main_v12, val_main_v11, val_main_v10, val_main_v9, val_main_v8, val_main_v7,
    val_main_v6, val_main_v5, val_main_v4, val_main_v3, val_main_cst, val_main_cst_0, val_main_cst_1]
  rfl

theorem x_point (c : Dev nD) (t : Fin cfg0.N) (r l : Fin 1024) (i : S8192x1024.Idx)
    (h0 : (i 0).val = t.val * 1024 + r.val) (h1 : (i 1).val = l.val) :
    k0_pay1 (F := Ideal) (iblk m c 2 t) (iblk m c 0 t) (iblk m c 1 t) (ix2 r l) = X m c i := by
  rw [eq_ix2_of (a := ⟨t.val * 1024 + r.val, row_lt t r⟩) (b := l) h0 h1, x_pt]

theorem h_point (c : Dev nD) (t : Fin cfg0.N) (r l : Fin 1024) (i : S8192x1024.Idx)
    (h0 : (i 0).val = t.val * 1024 + r.val) (h1 : (i 1).val = l.val) :
    k0_pay2 (F := Ideal) (iblk m c 2 t) (iblk m c 0 t) (iblk m c 1 t) (iblk m c 3 t) (ix2 r l) = H m c i := by
  rw [eq_ix2_of (a := ⟨t.val * 1024 + r.val, row_lt t r⟩) (b := l) h0 h1, h_pt, ref_h]

theorem final_x (c : Dev nD) : (dats m 0 c).arrAt 4 cfg0.N = X m c := by
  refine (dats m 0 c).arrAt_eq_of_covers 4 _ (by decide +kernel) fun t hf y => ?_
  blk_simp
  rw [after0_4]; frame_out
  obtain ⟨r, l, rfl⟩ : ∃ (r l : Fin 1024), y = ix2 r l := ⟨y 0, y 1, eq_ix2 y⟩
  refine x_point m c t r l _ ?_ ?_ <;> blk_simp [idx t]

theorem final_h (c : Dev nD) : (dats m 0 c).arrAt 5 cfg0.N = H m c := by
  refine (dats m 0 c).arrAt_eq_of_covers 5 _ (by decide +kernel) fun t hf y => ?_
  blk_simp
  rw [after0_5]; frame_out
  obtain ⟨r, l, rfl⟩ : ∃ (r l : Fin 1024), y = ix2 r l := ⟨y 0, y 1, eq_ix2 y⟩
  refine h_point m c t r l _ ?_ ?_ <;> blk_simp [idx t]

theorem alg : Cert.algebraic_FwdDownIdeal_FwdDownRefIdeal := by
  intro m g m' g' _ hm
  refine ⟨_, _, (θ_run defs _ _).mono (fun r h c =>
      ⟨((h.1 c).1 4).trans (final_x m c), ((h.1 c).1 5).trans (final_h m c), h.2 c⟩)
      (θ_run_and (run_main m g) (unchanged m g)),
    (θ_run _ _ _).mono (fun r h c => ⟨(h c).1.trans ?_, (h c).2.1.trans ?_, (h c).2.2⟩)
      (Cert.FwdDownRefIdeal.Value.run m' g')⟩
  · rw [val_main_v2_eq, (hm c).1, (hm c).2.1, (hm c).2.2.1]
  · rw [val_main_v15_eq, (hm c).1, (hm c).2.1, (hm c).2.2.1, (hm c).2.2.2]

end Cert.FwdDownValue

end
-- ==== Proof.AttnArith.lean ====
/- Arithmetic of one row of banded attention with a sink: a softmax over 256 keys and a sink, of which each pair of keys
   128 apart has one masked, is the softmax over the 128 keys that are left and the sink. -/
module

public import Idealize.ShloMosaic.Lib.Pipeline.ValueKit
public import proofs.«01_k».proof.Proof.Common

@[expose] public section

noncomputable section

namespace Cert.AttnArith

open Idealize.ShloMosaic Cert.Common

/-- A sum over `a * b` indices, block by block. -/
theorem sum_split {n : ℕ} (a b : ℕ) (h : n = a * b) (f : Fin n → EReal) :
    ∑ x, f x = ∑ i : Fin a, ∑ j : Fin b, f ⟨i.val * b + j.val, by
      subst h; calc i.val * b + j.val < i.val * b + b := by omega
        _ = (i.val + 1) * b := by ring
        _ ≤ a * b := Nat.mul_le_mul_right _ i.isLt⟩ := by
  subst h
  rw [← Fintype.sum_prod_type', ← finProdFinEquiv.sum_comp]
  refine Finset.sum_congr rfl fun x _ => congrArg f (Fin.ext ?_)
  simp [finProdFinEquiv, Nat.mul_comm, Nat.add_comm]

theorem exp_bot_sub (x : EReal) : Ideal.exp (⊥ - x) = 0 := by
  rw [EReal.bot_sub]; rfl

theorem exp_nonneg (x : EReal) : 0 ≤ Ideal.exp x := by
  induction x with
  | coe r => exact EReal.coe_nonneg.2 (Real.exp_pos r).le
  | bot => exact le_rfl
  | top => exact le_top

theorem exp_coe_pos (r : ℝ) : 0 < Ideal.exp (r : EReal) := EReal.coe_pos.2 (Real.exp_pos r)

theorem div_ne {x y : EReal} (h : y ≠ 0) : Ideal.div x y = x * y⁻¹ := if_neg h

/-- The greatest of the scores and the sink. -/
def top {n : ℕ} (S : Fin n → EReal) (z : EReal) : EReal := max (Finset.univ.fold max ⊥ S) z

/-- One row of attention over `n` keys and a sink: the scores `S`, the sink's logit `z`, the values `W`. -/
def attend {n : ℕ} (S : Fin n → EReal) (z : EReal) (W : Fin n → EReal) : EReal :=
  ∑ j, Ideal.exp (S j - top S z) * Ideal.div 1 (∑ j, Ideal.exp (S j - top S z) + Ideal.exp (z - top S z)) * W j

/-- A masked key's value does not matter. -/
theorem attend_congr {n : ℕ} {S : Fin n → EReal} {z : EReal} {W W' : Fin n → EReal} (h : ∀ j, S j = ⊥ ∨ W j = W' j) :
    attend S z W = attend S z W' := by
  refine Finset.sum_congr rfl fun j _ => ?_
  rcases h j with h | h
  · rw [h, exp_bot_sub]; simp
  · rw [h]

theorem fold_lt_top {n : ℕ} (s : Finset (Fin n)) (S : Fin n → EReal) (h : ∀ j, S j < ⊤) : s.fold max ⊥ S < ⊤ :=
  (Finset.fold_max_lt _).2 ⟨bot_lt_top, fun j _ => h j⟩

/-- The greatest logit is a real number where the sink is one and no score is infinite. -/
theorem top_real {n : ℕ} {S : Fin n → EReal} (h : ∀ j, S j < ⊤) (z : ℝ) : ∃ r : ℝ, top S z = r := by
  have h1 : top S z < ⊤ := max_lt (fold_lt_top _ S h) (EReal.coe_lt_top z)
  have h2 : ⊥ < top S z := lt_of_lt_of_le (EReal.bot_lt_coe z) (le_max_right _ _)
  exact ⟨(top S z).toReal, (EReal.coe_toReal h1.ne h2.ne').symm⟩

/-- The softmax's denominator is not zero there. -/
theorem sum_pos {n : ℕ} {S : Fin n → EReal} (h : ∀ j, S j < ⊤) (z : ℝ) :
    (∑ j, Ideal.exp (S j - top S z) + Ideal.exp (z - top S z)) ≠ 0 := by
  obtain ⟨r, hr⟩ := top_real h z
  refine ne_of_gt (lt_of_lt_of_le ?_ (le_add_of_nonneg_left (Finset.sum_nonneg fun j _ => exp_nonneg _)))
  rw [hr, ← EReal.coe_sub]
  exact exp_coe_pos _

/-- Sums over 256 keys and a sink. -/
theorem sum_257 (f : Fin 257 → EReal) :
    ∑ s, f s = ∑ j : Fin 128, (f ⟨j.val, by omega⟩ + f ⟨128 + j.val, by omega⟩) + f ⟨256, by omega⟩ := by
  rw [Fin.sum_univ_castSucc, sum_split (n := 256) 2 128 rfl, Fin.sum_univ_two, ← Finset.sum_add_distrib]
  simp [Fin.last]

theorem fold_eq {n : ℕ} (S : Fin n → EReal) : Finset.univ.fold max ⊥ S = Finset.univ.sup S := rfl

/-- The paired masks: of the keys `j` and `128 + j` the one is `S j`, the other masked. -/
structure Paired (L : Fin 257 → EReal) (e : Fin 128 → Prop) (S : Fin 128 → EReal) (z : EReal) : Prop where
  early : ∀ j, e j → L ⟨j.val, by omega⟩ = S j ∧ L ⟨128 + j.val, by omega⟩ = ⊥
  own : ∀ j, ¬ e j → L ⟨j.val, by omega⟩ = ⊥ ∧ L ⟨128 + j.val, by omega⟩ = S j
  sink : L ⟨256, by omega⟩ = z

theorem Paired.top {L : Fin 257 → EReal} {e : Fin 128 → Prop} {S : Fin 128 → EReal} {z : EReal} (h : Paired L e S z) :
    max ⊥ (Finset.univ.fold max ⊥ L) = top S z := by
  rw [max_eq_right bot_le, AttnArith.top, fold_eq, fold_eq]
  refine le_antisymm (Finset.sup_le fun s _ => ?_) (max_le (Finset.sup_le fun j _ => ?_) ?_)
  · rcases lt_or_ge s.val 128 with h1 | h1
    · by_cases he : e ⟨s.val, h1⟩
      · exact ((h.early _ he).1.le).trans ((Finset.le_sup (f := S) (Finset.mem_univ _)).trans (le_max_left _ _))
      · exact ((h.own _ he).1.le).trans bot_le
    · rcases lt_or_ge s.val 256 with h2 | h2
      · have hs : s = ⟨128 + (⟨s.val - 128, by omega⟩ : Fin 128).val, by show 128 + (s.val - 128) < 257; omega⟩ :=
          Fin.ext (by show s.val = 128 + (s.val - 128); omega)
        by_cases he : e ⟨s.val - 128, by omega⟩
        · rw [hs]; exact ((h.early _ he).2.le).trans bot_le
        · rw [hs]; exact ((h.own _ he).2.le).trans ((Finset.le_sup (f := S) (Finset.mem_univ _)).trans (le_max_left _ _))
      · have hs : s = ⟨256, by omega⟩ := Fin.ext (by show s.val = 256; omega)
        rw [hs, h.sink]; exact le_max_right _ _
  · by_cases he : e j
    · exact ((h.early j he).1.ge).trans (Finset.le_sup (f := L) (Finset.mem_univ _))
    · exact ((h.own j he).2.ge).trans (Finset.le_sup (f := L) (Finset.mem_univ _))
  · exact (h.sink.ge).trans (Finset.le_sup (f := L) (Finset.mem_univ _))

/-- The row of attention over 256 keys and a sink is the row over the 128 keys left. -/
theorem Paired.attend {L : Fin 257 → EReal} {e : Fin 128 → Prop} [DecidablePred e] {S : Fin 128 → EReal} {z : ℝ} (h : Paired L e S z)
    (hS : ∀ j, S j < ⊤) (W : Fin 256 → EReal) :
    ∑ s : Fin 256, W s * Ideal.div (Ideal.exp (L ⟨s.val, by omega⟩ - AttnArith.top S z)) (∑ s, Ideal.exp (L s - AttnArith.top S z))
      = attend S z (fun j => if e j then W ⟨j.val, by omega⟩ else W ⟨128 + j.val, by omega⟩) := by
  have hsum : ∑ s, Ideal.exp (L s - AttnArith.top S z)
      = ∑ j, Ideal.exp (S j - AttnArith.top S z) + Ideal.exp (z - AttnArith.top S z) := by
    rw [sum_257, h.sink]
    refine congrArg (· + _) (Finset.sum_congr rfl fun j _ => ?_)
    by_cases he : e j
    · rw [(h.early j he).1, (h.early j he).2, exp_bot_sub, add_zero]
    · rw [(h.own j he).1, (h.own j he).2, exp_bot_sub, zero_add]
  have h0 := sum_pos hS z
  rw [hsum, AttnArith.attend, sum_split (n := 256) 2 128 rfl, Fin.sum_univ_two, ← Finset.sum_add_distrib]
  refine Finset.sum_congr rfl fun j _ => ?_
  rw [div_ne h0, div_ne h0, div_ne h0, one_mul]
  simp only [Fin.val_zero, Fin.val_one, zero_mul, zero_add, one_mul]
  by_cases he : e j
  · rw [(h.early j he).1, (h.early j he).2, exp_bot_sub, zero_mul, mul_zero, add_zero, if_pos he, mul_comm]
  · rw [(h.own j he).1, (h.own j he).2, exp_bot_sub, zero_mul, mul_zero, zero_add, if_neg he, mul_comm]

end Cert.AttnArith

end
-- ==== Proof.FwdAttnRef.lean ====
/- The entries of the forward attention's reference: the normalised rows and the banded keys and values. -/
module

public import proofs.«01_k».proof.Defs
public import proofs.«01_k».proof.Proof.AttnArith
public import proofs.«01_k».proof.Proof.Common
public import proofs.«01_k».proof.Proof.Gen.FwdAttnRefIdeal.Run
public import proofs.«01_k».proof.Proof.Gen.FwdAttnRefIdeal.Read

@[expose] public section

noncomputable section

namespace Cert.FwdAttnRef

open Cert.FwdAttnRefIdeal Cert.FwdAttnRefIdeal.Read Idealize.ShloMosaic Idealize.ShloMosaic.TcCoe Idealize.SL.Sem Cert.Common Cert.AttnArith

variable (x0 : (⟨S8192x1536, .bf16⟩ : BufTy).Contents (Elt Ideal)) (x1 x2 : (⟨S1x64, .f32⟩ : BufTy).Contents (Elt Ideal))
  (x3 : (⟨S1x16, .f32⟩ : BufTy).Contents (Elt Ideal))

/-- A head's row by the root of its mean square and its gain. -/
def unit (a g : Fin 64 → EReal) (l : Fin 64) : EReal :=
  a l * Ideal.rsqrt (Ideal.div (∑ x, a x * a x) (Ideal.ofBits .f32 0x42800000#32) + Ideal.ofBits .f32 0x358637BD#32) * g l

/-- The query's, the key's and the value's columns of a row. -/
def qrow (b : Fin 4) (p : Fin 2048) (kh g : Fin 4) (l : Fin 64) : EReal :=
  x0 (ix2 ⟨b.val * 2048 + p.val, by omega⟩ ⟨kh.val * 256 + g.val * 64 + l.val, by omega⟩)
def krow (b : Fin 4) (p : Fin 2048) (kh : Fin 4) (l : Fin 64) : EReal :=
  x0 (ix2 ⟨b.val * 2048 + p.val, by omega⟩ ⟨1024 + (kh.val * 64 + l.val), by omega⟩)
def vrow (b : Fin 4) (p : Fin 2048) (kh : Fin 4) (l : Fin 64) : EReal :=
  x0 (ix2 ⟨b.val * 2048 + p.val, by omega⟩ ⟨1280 + (kh.val * 64 + l.val), by omega⟩)

theorem query_at (b : Fin 4) (p : Fin 2048) (kh g : Fin 4) (l : Fin 64) :
    val_main_v23 x0 x1 (ix5 b p kh g l) = unit (qrow x0 b p kh g) (fun l => x1 (ix2 0 l)) l := by
  pointwise [val_main_v23, val_main_v22, val_main_v21, val_main_v20, val_main_v19, val_main_v18, val_main_v17, val_main_v16, val_main_v15,
    val_main_v14, val_main_v13, val_main_v12, val_main_v11, val_main_v6, val_main_v5, val_main_v1, val_main_v0, val_main_v2, val_main_cst_1,
    val_main_cst, val_main_cst_0]
  rfl

theorem key_at (b : Fin 4) (p : Fin 2048) (kh : Fin 4) (l : Fin 64) :
    val_main_v36 x0 x2 (ix4 b p kh l) = unit (krow x0 b p kh) (fun l => x2 (ix2 0 l)) l := by
  pointwise [val_main_v36, val_main_v35, val_main_v34, val_main_v33, val_main_v32, val_main_v31, val_main_v30, val_main_v29, val_main_v28,
    val_main_v27, val_main_v26, val_main_v25, val_main_v24, val_main_v8, val_main_v7, val_main_v1, val_main_v0, val_main_v3, val_main_cst_2,
    val_main_cst_3, val_main_cst_4]
  rfl

theorem query_block (b : Fin 4) (n : Fin 16) (r : Fin 128) (kh g : Fin 4) (l : Fin 64) :
    val_main_v37 x0 x1 (ix6 b n r kh g l) = unit (qrow x0 b ⟨n.val * 128 + r.val, by omega⟩ kh g) (fun l => x1 (ix2 0 l)) l := by
  pointwise [val_main_v37]
  exact query_at x0 x1 b ⟨n.val * 128 + r.val, by omega⟩ kh g l

/-- The keys before a block and of it: nothing before the first. -/
theorem key_early (b : Fin 4) (n : Fin 16) (hn : n.val ≠ 0) (j : Fin 128) (kh : Fin 4) (l : Fin 64) :
    val_main_v43 x0 x2 (ix5 b n ⟨j.val, by omega⟩ kh l)
      = unit (krow x0 b ⟨(n.val - 1) * 128 + j.val, by omega⟩ kh) (fun l => x2 (ix2 0 l)) l := by
  rw [← key_at]
  pointwise [val_main_v43, val_main_v42, val_main_v41, val_main_v40, val_main_v39, val_main_v38, val_main_cst_5]
  rw [dif_neg (by omega)]
  exact congrArg (fun p => val_main_v36 x0 x2 (ix4 b p kh l)) (Fin.ext (by dsimp only; omega))

theorem key_own (b : Fin 4) (n : Fin 16) (j : Fin 128) (kh : Fin 4) (l : Fin 64) :
    val_main_v43 x0 x2 (ix5 b n ⟨128 + j.val, by omega⟩ kh l)
      = unit (krow x0 b ⟨n.val * 128 + j.val, by omega⟩ kh) (fun l => x2 (ix2 0 l)) l := by
  rw [← key_at]
  pointwise [val_main_v43, val_main_v42, val_main_v41, val_main_v40, val_main_v39, val_main_v38, val_main_cst_5]
  rw [dif_neg (by omega)]
  exact congrArg (fun p => val_main_v36 x0 x2 (ix4 b p kh l)) (Fin.ext (by dsimp only; omega))

theorem value_early (b : Fin 4) (n : Fin 16) (hn : n.val ≠ 0) (j : Fin 128) (kh : Fin 4) (l : Fin 64) :
    val_main_v49 x0 (ix5 b n ⟨j.val, by omega⟩ kh l) = vrow x0 b ⟨(n.val - 1) * 128 + j.val, by omega⟩ kh l := by
  pointwise [val_main_v49, val_main_v48, val_main_v47, val_main_v46, val_main_v45, val_main_v44, val_main_cst_6, val_main_v10, val_main_v9,
    val_main_v1, val_main_v0]
  rw [dif_neg (by omega)]
  exact congrArg (fun p => x0 (ix2 p ⟨1280 + (kh.val * 64 + l.val), by omega⟩)) (Fin.ext (by dsimp only; omega))

theorem value_own (b : Fin 4) (n : Fin 16) (j : Fin 128) (kh : Fin 4) (l : Fin 64) :
    val_main_v49 x0 (ix5 b n ⟨128 + j.val, by omega⟩ kh l) = vrow x0 b ⟨n.val * 128 + j.val, by omega⟩ kh l := by
  pointwise [val_main_v49, val_main_v48, val_main_v47, val_main_v46, val_main_v45, val_main_v44, val_main_cst_6, val_main_v10, val_main_v9,
    val_main_v1, val_main_v0]
  rw [dif_neg (by omega)]
  exact congrArg (fun p => x0 (ix2 p ⟨1280 + (kh.val * 64 + l.val), by omega⟩)) (Fin.ext (by dsimp only; omega))

end Cert.FwdAttnRef

end
-- ==== Proof.FwdAttnRow.lean ====
/- One row of the forward attention's reference: the softmax over the banded keys and the sink is the row of attention over
   the 128 keys the masks leave. -/
module

public import proofs.«01_k».proof.Proof.FwdAttnRef

@[expose] public section

noncomputable section

namespace Cert.FwdAttnRef

open Cert.FwdAttnRefIdeal Cert.FwdAttnRefIdeal.Read Idealize.ShloMosaic Idealize.ShloMosaic.TcCoe Idealize.SL.Sem Cert.Common Cert.AttnArith

variable (x0 : (⟨S8192x1536, .bf16⟩ : BufTy).Contents (Elt Ideal)) (x1 x2 : (⟨S1x64, .f32⟩ : BufTy).Contents (Elt Ideal))
  (x3 : (⟨S1x16, .f32⟩ : BufTy).Contents (Elt Ideal))

/-- The distance of query `r` from the banded key `s`. -/
theorem dist_at (r : Fin 128) (s : Fin 256) :
    val_main_v62 (F := Ideal) (ix2 r s) = IntOp.subi (IntOp.addi (BitVec.ofNat 32 r.val) 128#32) (BitVec.ofNat 32 s.val) := by
  pointwise [val_main_v62, val_main_v61, val_main_v60, val_main_v59, val_main_v58, val_main_v57, val_main_v56, val_main_v55, val_main_v54,
    val_main_c]

theorem dist_int : ∀ (r : Fin 128) (s : Fin 256),
    (IntOp.subi (IntOp.addi (BitVec.ofNat 32 r.val) 128#32) (BitVec.ofNat 32 s.val)).toInt = (r.val : ℤ) + 128 - s.val := by
  decide +kernel

theorem band_iff : ∀ (r : Fin 128) (s : Fin 256),
    IntOp.andi (IntOp.cmpi .sge (IntOp.subi (IntOp.addi (BitVec.ofNat 32 r.val) 128#32) (BitVec.ofNat 32 s.val)) 0#32)
      (IntOp.cmpi .slt (IntOp.subi (IntOp.addi (BitVec.ofNat 32 r.val) 128#32) (BitVec.ofNat 32 s.val)) 128#32)
      = if r.val < s.val ∧ s.val ≤ r.val + 128 then 1#1 else 0#1 := by
  decide +kernel

theorem first_iff : ∀ (n : Fin 16) (s : Fin 256),
    IntOp.cmpi .sge (IntOp.addi (IntOp.subi (IntOp.muli (BitVec.ofNat 32 n.val) 128#32) 128#32) (BitVec.ofNat 32 s.val)) 0#32
      = if n.val = 0 ∧ s.val < 128 then 0#1 else 1#1 := by
  decide +kernel

theorem mask_at (n : Fin 16) (r : Fin 128) (s : Fin 256) :
    val_main_v84 (F := Ideal) (ix3 n r s)
      = IntOp.andi (if r.val < s.val ∧ s.val ≤ r.val + 128 then 1#1 else 0#1) (if n.val = 0 ∧ s.val < 128 then 0#1 else 1#1) := by
  rw [← band_iff, ← first_iff]
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v56, val_main_v55, val_main_v54, val_main_c, val_main_c_8, val_main_c_9, val_main_c_10, val_main_c_11,
    val_main_c_12]

/-- The slope of a head. -/
def slope (kh g : Fin 4) : ℝ := (Real.sqrt (2 ^ (kh.val * 4 + g.val + 1)))⁻¹

theorem head_int : ∀ h : Fin 16, (BitVec.ofNat 32 h.val).toInt = (h.val : ℤ) := by decide +kernel

theorem bits_neg8 : Ideal.ofBits .f32 3238002688#32 = ((-8 : ℝ) : EReal) := by
  simp [Ideal.ofBits, Ideal.ieee]; norm_cast; norm_num
theorem bits_16 : Ideal.ofBits .f32 1098907648#32 = ((16 : ℝ) : EReal) := by
  simp [Ideal.ofBits, Ideal.ieee]; norm_cast; norm_num

theorem power_at (h : ℕ) : Ideal.pow ((2 : ℝ) : EReal) (Ideal.div (((-8 : ℝ) : EReal) * (1 + (((h : ℕ) : ℝ) : EReal))) ((16 : ℝ) : EReal))
    = (((Real.sqrt (2 ^ (h + 1)))⁻¹ : ℝ) : EReal) := by
  rw [Ideal.div_coe (show (16 : ℝ) ≠ 0 by norm_num), ← EReal.coe_one, ← EReal.coe_add, ← EReal.coe_mul, ← EReal.coe_mul]
  refine congrArg Real.toEReal ?_
  show (2 : ℝ) ^ (-8 * (1 + (h : ℝ)) * (1 / 16)) = _
  rw [Real.sqrt_eq_rpow, ← Real.rpow_natCast, ← Real.rpow_mul (by norm_num), ← Real.rpow_neg (by norm_num)]
  refine congrArg _ ?_
  push_cast; ring

theorem slope_at (kh g : Fin 4) : val_main_v95 (F := Ideal) (ix4 kh g 0 0) = (slope kh g : EReal) := by
  pointwise [val_main_v95, val_main_v94, val_main_v93, val_main_v92, val_main_v91, val_main_v90, val_main_v89, val_main_v88, val_main_v87,
    val_main_v86, val_main_v85, val_main_cst_13, val_main_cst_14, val_main_cst_15, val_main_cst_16]
  have e : (FloatOps.sitofp (F := Ideal) .f32 (BitVec.ofNat 32 (kh.val * 4 + g.val)) : EReal) = (((kh.val * 4 + g.val : ℕ) : ℝ) : EReal) := by
    show (((BitVec.ofNat 32 (kh.val * 4 + g.val)).toInt : ℝ) : EReal) = _
    rw [head_int ⟨kh.val * 4 + g.val, by omega⟩]; simp
  rw [e, bits_neg8, bits_16, bits_two]
  exact power_at (kh.val * 4 + g.val)

/-- The logits of a query: the masked scores, then the sink. -/
theorem logit_at (b : Fin 4) (n : Fin 16) (r : Fin 128) (s : Fin 257) (kh g : Fin 4) :
    val_main_v110 x0 x1 x2 x3 (ix6 b n kh g r s)
      = if h : s.val < 256 then
          Scalar.select (val_main_v84 (F := Ideal) (ix3 n r ⟨s.val, h⟩)) (val_main_v104 x0 x1 x2 (ix6 b n kh g r ⟨s.val, h⟩)) (⊥ : EReal)
        else x3 (ix2 0 ⟨kh.val * 4 + g.val, by omega⟩) := by
  have hb : Ideal.ofBits .f32 0xFF800000#32 = (⊥ : EReal) := by simp [Ideal.ofBits, Ideal.ieee]
  pointwise [val_main_v110, val_main_v109, val_main_v108, val_main_v107, val_main_v4, val_main_v106, val_main_v105, val_main_call0_v1,
    val_main_call0_v2, val_main_call0_v0, val_main_cst_17]
  rw [← hb]
  rfl

theorem score_at (b : Fin 4) (n : Fin 16) (r : Fin 128) (s : Fin 256) (kh g : Fin 4) :
    val_main_v104 x0 x1 x2 (ix6 b n kh g r s)
      = (∑ l : Fin 64, val_main_v43 x0 x2 (ix5 b n s kh l) * val_main_v37 x0 x1 (ix6 b n r kh g l) : EReal) * ((1 / 8 : ℝ) : EReal)
        + -(slope kh g : EReal) * (((r.val : ℝ) + 128 - s.val : ℝ) : EReal) := by
  have h8 : Ideal.ofBits .f32 1040187392#32 = ((1 / 8 : ℝ) : EReal) := by simp [Ideal.ofBits, Ideal.ieee]; norm_cast; norm_num
  have e : (FloatOps.sitofp (F := Ideal) .f32 (val_main_v62 (F := Ideal) (ix2 r s)) : EReal) = (((r.val : ℝ) + 128 - s.val : ℝ) : EReal) := by
    show (((val_main_v62 (F := Ideal) (ix2 r s)).toInt : ℝ) : EReal) = _
    rw [dist_at, dist_int]; push_cast; rfl
  rw [← e, ← h8, ← slope_at]
  pointwise [val_main_v104, val_main_v53, val_main_v52, val_main_v51, val_main_cst_7, val_main_v50, val_main_v103, val_main_v102,
    val_main_v101, val_main_v100, val_main_v99, val_main_v98, val_main_v97, val_main_v96]

/-- The greatest of a row of 257. -/
theorem fold6 (y : S4x16x4x4x128x257.Idx → EReal) (c : S_.Idx → EReal) (b : Fin 4) (n : Fin 16) (kh g : Fin 4) (r : Fin 128) :
    Host.reduce (max : EReal → EReal → EReal) y c Gen.reducesTo_S4x16x4x4x128x257_S4x16x4x4x128_d5 Gen.h_S_ (ix5 b n kh g r)
      = (Finset.univ.fold max (c (Shape.Idx.first Gen.h_S_)) fun s : Fin 257 => y (ix6 b n kh g r s)) := by
  rw [Host.reduce_eq_fold_single _ _ _ Gen.reducesTo_S4x16x4x4x128x257_S4x16x4x4x128_d5 (by decide)]
  refine Finset.fold_congr fun k _ => ?_
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

/-- The greatest logit as the reference takes it. -/
theorem top_at (b : Fin 4) (n : Fin 16) (r : Fin 128) (kh g : Fin 4) :
    val_main_v113 x0 x1 x2 x3 (ix5 b n kh g r)
      = max ⊥ (Finset.univ.fold max ⊥ fun s : Fin 257 => val_main_v110 x0 x1 x2 x3 (ix6 b n kh g r s) : EReal) := by
  have hb : (FloatOps.ofBits .f32 0xFF800000#32 : Ideal .f32) = (⊥ : EReal) := by simp [Ideal.ofBits, Ideal.ieee]
  have h1 : val_main_v111 x0 x1 x2 x3 (ix5 b n kh g r)
      = (Finset.univ.fold max ⊥ fun s : Fin 257 => val_main_v110 x0 x1 x2 x3 (ix6 b n kh g r s) : EReal) := by
    rw [← hb, ← val_main_cst_18_apply (Shape.Idx.first Gen.h_S_)]
    exact fold6 (val_main_v110 x0 x1 x2 x3) (val_main_cst_18 (F := Ideal)) b n kh g r
  rw [val_main_v113_apply, val_main_v112_apply, val_main_cst_19_apply, hb, h1]
  rfl

theorem exp_at (b : Fin 4) (n : Fin 16) (r : Fin 128) (s : Fin 257) (kh g : Fin 4) :
    val_main_v117 x0 x1 x2 x3 (ix6 b n kh g r s)
      = Ideal.exp (val_main_v110 x0 x1 x2 x3 (ix6 b n kh g r s) - val_main_v113 x0 x1 x2 x3 (ix5 b n kh g r)) := by
  pointwise [val_main_v117, val_main_v116, val_main_v115, val_main_v114]

theorem total_at (b : Fin 4) (n : Fin 16) (r : Fin 128) (kh g : Fin 4) :
    val_main_v118 x0 x1 x2 x3 (ix5 b n kh g r) = ∑ s : Fin 257, (val_main_v117 x0 x1 x2 x3 (ix6 b n kh g r s) : EReal) := by
  rw [val_main_v118_apply, val_main_cst_20_apply]
  have h0 : (FloatOps.ofBits .f32 0x00000000#32 : Ideal .f32) = (0 : EReal) := by simp [Ideal.ofBits, Ideal.ieee]
  rw [h0, zero_add]
  refine Finset.sum_congr rfl fun k _ => congrArg _ (funext fun a => Fin.ext (by
    match a with | ⟨0, _⟩ => rfl | ⟨1, _⟩ => rfl | ⟨2, _⟩ => rfl | ⟨3, _⟩ => rfl | ⟨4, _⟩ => rfl | ⟨5, _⟩ => rfl))

theorem weight_at (b : Fin 4) (n : Fin 16) (r : Fin 128) (s : Fin 256) (kh g : Fin 4) :
    val_main_v122 x0 x1 x2 x3 (ix6 b n kh g r s)
      = Ideal.div (val_main_v117 x0 x1 x2 x3 (ix6 b n kh g r ⟨s.val, by omega⟩)) (val_main_v118 x0 x1 x2 x3 (ix5 b n kh g r)) := by
  pointwise [val_main_v122, val_main_v121, val_main_v120, val_main_v119]

theorem dot_at (b : Fin 4) (n : Fin 16) (r : Fin 128) (kh g : Fin 4) (d : Fin 64) :
    val_main_v123 x0 x1 x2 x3 (ix6 b n kh d g r)
      = ∑ s : Fin 256, (val_main_v49 x0 (ix5 b n s kh d) * val_main_v122 x0 x1 x2 x3 (ix6 b n kh g r s) : EReal) := by
  rw [val_main_v123_apply]
  refine Finset.sum_congr rfl fun k _ => ?_
  refine congrArg₂ (fun a b : EReal => a * b) (congrArg _ (funext fun a => Fin.ext (by
    match a with | ⟨0, _⟩ => rfl | ⟨1, _⟩ => rfl | ⟨2, _⟩ => rfl | ⟨3, _⟩ => rfl | ⟨4, _⟩ => rfl)))
    (congrArg _ (funext fun a => Fin.ext (by
    match a with | ⟨0, _⟩ => rfl | ⟨1, _⟩ => rfl | ⟨2, _⟩ => rfl | ⟨3, _⟩ => rfl | ⟨4, _⟩ => rfl | ⟨5, _⟩ => rfl)))

theorem out_at (b : Fin 4) (n : Fin 16) (r : Fin 128) (kh g : Fin 4) (d : Fin 64) (p : Fin 8192) (c : Fin 1024)
    (hp : p.val = b.val * 2048 + n.val * 128 + r.val) (hc : c.val = kh.val * 256 + g.val * 64 + d.val) :
    val_main_v127 x0 x1 x2 x3 (ix2 p c)
      = ∑ s : Fin 256, (val_main_v49 x0 (ix5 b n s kh d) * val_main_v122 x0 x1 x2 x3 (ix6 b n kh g r s) : EReal) := by
  rw [← dot_at]
  pointwise [val_main_v127, val_main_v126, val_main_v125, val_main_v124]
  have e0 : p.val / 2048 = b.val := by omega
  have e1 : p.val / 128 % 16 = n.val := by omega
  have e2 : c.val / 256 = kh.val := by omega
  have e3 : c.val % 64 = d.val := by omega
  have e4 : c.val / 64 % 4 = g.val := by omega
  have e5 : p.val % 128 = r.val := by omega
  simp only [e0, e1, e2, e3, e4, e5, Fin.eta]

end Cert.FwdAttnRef

end
-- ==== Proof.FwdAttnSum.lean ====
/- The forward attention's reference at an entry: the row of attention over the keys the masks leave, where the gains and the
   sinks are real numbers. -/
module

public import proofs.«01_k».proof.Proof.Finite
public import proofs.«01_k».proof.Proof.FwdAttnRow

@[expose] public section

noncomputable section

namespace Cert.FwdAttnRef

open Cert.FwdAttnRefIdeal Cert.FwdAttnRefIdeal.Read Idealize.ShloMosaic Idealize.ShloMosaic.TcCoe Idealize.SL.Sem Cert.Common Cert.AttnArith

variable (x0 : (⟨S8192x1536, .bf16⟩ : BufTy).Contents (Elt Ideal)) (x1 x2 : (⟨S1x64, .f32⟩ : BufTy).Contents (Elt Ideal))
  (x3 : (⟨S1x16, .f32⟩ : BufTy).Contents (Elt Ideal))

theorem eps_pos : ∃ e : ℝ, 0 < e ∧ Ideal.ofBits .f32 0x358637BD#32 = (e : EReal) := by
  refine ⟨_, ?_, by simp only [Ideal.ofBits, Ideal.ieee]; simp [-EReal.coe_mul]; rfl⟩
  norm_num
theorem bits_64 : Ideal.ofBits .f32 0x42800000#32 = ((64 : ℝ) : EReal) := by
  simp [Ideal.ofBits, Ideal.ieee]; norm_cast; norm_num

theorem square_nonneg (x : EReal) : 0 ≤ x * x := by
  induction x with
  | coe r => rw [← EReal.coe_mul]; exact EReal.coe_nonneg.2 (mul_self_nonneg r)
  | bot => simp
  | top => simp

/-- A normalised row is real: where an entry is infinite the root's reciprocal is zero. -/
theorem unit_real (a : Fin 64 → EReal) {g : Fin 64 → EReal} (hg : ∀ l, IsReal (g l)) (l : Fin 64) : IsReal (unit a g l) := by
  obtain ⟨e, he, heq⟩ := eps_pos
  refine IsReal.mul ?_ (hg l)
  rw [heq, bits_64, Ideal.div_coe (show (64 : ℝ) ≠ 0 by norm_num)]
  by_cases h : ∀ x, IsReal (a x)
  · refine (h l).mul ?_
    obtain ⟨s, hs⟩ := IsReal.sum Finset.univ fun x => (h x).mul (h x)
    have hs0 : 0 ≤ s := by
      have := Finset.sum_nonneg fun (x : Fin 64) (_ : x ∈ Finset.univ) => square_nonneg (a x)
      rw [hs] at this; exact EReal.coe_nonneg.1 this
    have hp : 0 < s * (1 / 64) + e := by positivity
    rw [hs, ← EReal.coe_mul, ← EReal.coe_add, Ideal.rsqrt_coe, if_neg hp.not_gt, if_neg hp.ne']
    exact ⟨_, rfl⟩
  · obtain ⟨x, hx⟩ := not_forall.1 h
    have ht : a x * a x = ⊤ := by
      generalize a x = y at hx
      induction y with
      | coe r => exact absurd ⟨r, rfl⟩ hx
      | bot => simp
      | top => simp
    have hsum : ∑ x, a x * a x = ⊤ :=
      top_unique (ht ▸ Finset.single_le_sum (f := fun x => a x * a x) (fun x _ => square_nonneg (a x)) (Finset.mem_univ x))
    rw [hsum, EReal.top_mul_coe_of_pos (by norm_num), EReal.top_add_coe, Ideal.rsqrt_top, mul_zero]
    exact ⟨0, by simp⟩

/-- The normalised queries and keys. -/
def uq (b : Fin 4) (p : Fin 2048) (kh g : Fin 4) : Fin 64 → EReal := unit (qrow x0 b p kh g) (fun l => x1 (ix2 0 l))
def uk (b : Fin 4) (p : Fin 2048) (kh : Fin 4) : Fin 64 → EReal := unit (krow x0 b p kh) (fun l => x2 (ix2 0 l))

/-- The row before block `n`'s row `j`, and block `n`'s row `j`. -/
abbrev before (n : Fin 16) (j : Fin 128) : Fin 2048 := ⟨(n.val - 1) * 128 + j.val, by omega⟩
abbrev inside (n : Fin 16) (j : Fin 128) : Fin 2048 := ⟨n.val * 128 + j.val, by omega⟩

/-- The score of the key left at `j`, and its value. -/
def scoreOf (b : Fin 4) (n : Fin 16) (kh g : Fin 4) (r j : Fin 128) : EReal :=
  if r < j then
    (if n.val = 0 then ⊥ else (∑ l, uk x0 x2 b (before n j) kh l * uq x0 x1 b (inside n r) kh g l) * ((1 / 8 : ℝ) : EReal)
      + -(slope kh g : EReal) * (((r.val : ℝ) + 128 - j.val : ℝ) : EReal))
  else (∑ l, uk x0 x2 b (inside n j) kh l * uq x0 x1 b (inside n r) kh g l) * ((1 / 8 : ℝ) : EReal)
    + -(slope kh g : EReal) * (((r.val : ℝ) - j.val : ℝ) : EReal)

def valueOf (b : Fin 4) (n : Fin 16) (kh : Fin 4) (d : Fin 64) (r j : Fin 128) : EReal :=
  if r < j then vrow x0 b (before n j) kh d else vrow x0 b (inside n j) kh d

theorem scoreOf_lt {x1 x2 : (⟨S1x64, .f32⟩ : BufTy).Contents (Elt Ideal)} (h1 : ∀ i, IsReal (x1 i)) (h2 : ∀ i, IsReal (x2 i))
    (b : Fin 4) (n : Fin 16) (kh g : Fin 4) (r j : Fin 128) : scoreOf x0 x1 x2 b n kh g r j < ⊤ := by
  have hr : ∀ p q, IsReal (∑ l, uk x0 x2 b p kh l * uq x0 x1 b q kh g l) := fun p q =>
    IsReal.sum _ fun l => (unit_real _ (fun l => h2 _) l).mul (unit_real _ (fun l => h1 _) l)
  have key : ∀ (p q) (y : ℝ), (∑ l, uk x0 x2 b p kh l * uq x0 x1 b q kh g l) * ((1 / 8 : ℝ) : EReal) + -(slope kh g : EReal) * (y : EReal) < ⊤ := by
    intro p q y
    obtain ⟨s, hs⟩ := hr p q
    rw [hs, ← EReal.coe_neg, ← EReal.coe_mul, ← EReal.coe_mul, ← EReal.coe_add]
    exact EReal.coe_lt_top _
  unfold scoreOf
  split_ifs
  · exact bot_lt_top
  · exact key _ _ _
  · exact key _ _ _

theorem paired (b : Fin 4) (n : Fin 16) (kh g : Fin 4) (r : Fin 128) :
    Paired (fun s => val_main_v110 x0 x1 x2 x3 (ix6 b n kh g r s)) (fun j => r < j) (scoreOf x0 x1 x2 b n kh g r)
      (x3 (ix2 0 ⟨kh.val * 4 + g.val, by omega⟩)) where
  early j hj := by
    have hj' : r.val < j.val := hj
    constructor
    · rw [logit_at, dif_pos (show j.val < 256 by omega), mask_at, if_pos ⟨hj', by dsimp only; omega⟩, scoreOf, if_pos hj]
      by_cases hn : n.val = 0
      · rw [if_pos ⟨hn, j.isLt⟩, if_pos hn]; rfl
      · rw [if_neg (fun h => hn h.1), if_neg hn, score_at]
        simp only [key_early x0 x2 b n hn j kh, query_block]
        rfl
    · rw [logit_at, dif_pos (show 128 + j.val < 256 by omega), mask_at, if_neg (fun h => by have := h.2; dsimp only at this; omega),
        if_neg (fun h => by have := h.2; dsimp only at this; omega)]
      rfl
  own j hj := by
    have hj' : j.val ≤ r.val := not_lt.1 hj
    constructor
    · rw [logit_at, dif_pos (show j.val < 256 by omega), mask_at, if_neg (fun h => by have := h.1; dsimp only at this; omega)]
      by_cases hn : n.val = 0
      · rw [if_pos ⟨hn, j.isLt⟩]; rfl
      · rw [if_neg (fun h => hn h.1)]; rfl
    · rw [logit_at, dif_pos (show 128 + j.val < 256 by omega), mask_at, if_pos ⟨by dsimp only; omega, by dsimp only; omega⟩,
        if_neg (fun h => by have := h.2; dsimp only at this; omega), scoreOf, if_neg hj, score_at]
      simp only [key_own x0 x2 b n j kh, query_block]
      have e : ((r.val : ℝ) + 128 - ((128 + j.val : ℕ) : ℝ)) = (r.val : ℝ) - j.val := by push_cast; ring
      rw [e]
      rfl
  sink := by rw [logit_at, dif_neg (by dsimp only; omega)]

/-- The reference at an entry. -/
theorem row_at {x1 x2 : (⟨S1x64, .f32⟩ : BufTy).Contents (Elt Ideal)} {x3 : (⟨S1x16, .f32⟩ : BufTy).Contents (Elt Ideal)}
    (h1 : ∀ i, IsReal (x1 i)) (h2 : ∀ i, IsReal (x2 i)) (h3 : ∀ i, IsReal (x3 i))
    (b : Fin 4) (n : Fin 16) (r : Fin 128) (kh g : Fin 4) (d : Fin 64) (p : Fin 8192) (c : Fin 1024)
    (hp : p.val = b.val * 2048 + n.val * 128 + r.val) (hc : c.val = kh.val * 256 + g.val * 64 + d.val) :
    val_main_v127 x0 x1 x2 x3 (ix2 p c)
      = attend (scoreOf x0 x1 x2 b n kh g r) (x3 (ix2 0 ⟨kh.val * 4 + g.val, by omega⟩)) (valueOf x0 b n kh d r) := by
  have hP := paired x0 x1 x2 x3 b n kh g r
  obtain ⟨z, hz⟩ := h3 (ix2 0 ⟨kh.val * 4 + g.val, by omega⟩)
  rw [out_at x0 x1 x2 x3 b n r kh g d p c hp hc]
  simp only [weight_at, total_at, exp_at, top_at]
  rw [hP.top]
  rw [hz] at hP ⊢
  rw [hP.attend (fun j => scoreOf_lt x0 h1 h2 b n kh g r j) (fun s => val_main_v49 x0 (ix5 b n s kh d))]
  refine attend_congr fun j => ?_
  by_cases hj : r < j
  · by_cases hn : n.val = 0
    · exact .inl (by rw [scoreOf, if_pos hj, if_pos hn])
    · exact .inr (by rw [if_pos hj, valueOf, if_pos hj]; exact value_early x0 b n hn j kh d)
  · exact .inr (by rw [if_neg hj, valueOf, if_neg hj]; exact value_own x0 b n j kh d)

end Cert.FwdAttnRef

end
-- ==== Proof.FwdAttnTrip.lean ====
/- One trip of the attention's forward kernel: the eight pieces it stores are one function of the loaded blocks. -/
module

public import proofs.«01_k».proof.Defs
public import proofs.«01_k».proof.Proof.Common
public import proofs.«01_k».proof.Proof.Gen.FwdAttnIdeal.Frame
@[expose] public section
noncomputable section
namespace Cert.FwdAttnValue
open Cert.FwdAttnIdeal Cert.FwdAttnIdeal.Gen Idealize.ShloMosaic Idealize.ShloMosaic.TcCoe Idealize.SL.Sem

/-- One head pair of a block: from the keys, values and queries of the two heads, the bias and the two sinks. -/
def pair (k v : FVec Ideal S512x128 .bf16) (q : FVec Ideal S128x128 .bf16) (b : Vec Ideal S1x1x256x128 .f32) (s0 s1 : Elt Ideal .f32) :
    FVec Ideal S128x128 .bf16 :=
  k0_pay48 k0_pay3 v (k0_pay43 k0_pay3 k q b s0) (k0_pay46 k0_pay3 k q b s1) (k0_pay47 k0_pay3 k q b s1) (Scalar.ofBits .f32 0x3F800000#32)

/-- The keys of two heads, normalised; the keys and the values of one of them twice over, in the low lanes and in the high; the
    queries of two heads, normalised. -/
def keys (x y : Vec Ideal S128x128 .bf16) (g : FVec Ideal S1x128 .f32) : FVec Ideal S256x128 .f32 :=
  k0_pay38 (k0_pay5 g) (k0_pay35 x y) (k0_pay37 k0_pay2 x y)
def keys0 (x y : Vec Ideal S128x128 .bf16) (g : FVec Ideal S1x128 .f32) : FVec Ideal S512x128 .bf16 :=
  k0_pay39 k0_pay2 (k0_pay5 g) (k0_pay35 x y) (k0_pay37 k0_pay2 x y)
def vals0 (x y : Vec Ideal S128x128 .bf16) : FVec Ideal S512x128 .bf16 := k0_pay40 k0_pay2 (k0_pay36 x y)
def keys1 (x y : Vec Ideal S128x128 .bf16) (g : FVec Ideal S1x128 .f32) : FVec Ideal S512x128 .bf16 :=
  k0_pay58 k0_pay2 (keys x y g)
def vals1 (x y : Vec Ideal S128x128 .bf16) : FVec Ideal S512x128 .bf16 := k0_pay59 k0_pay2 (k0_pay36 x y)
def qry (x : Vec Ideal S128x128 .bf16) (g : FVec Ideal S1x128 .f32) : FVec Ideal S128x128 .bf16 := k0_pay41 k0_pay2 (k0_pay4 g) x

section
variable (arg1 : Memref sig .tc .smem S1x16 .f32) (arg2 : Memref sig .tc .vmem S2048x1536 .bf16) (arg6 : Memref sig .tc .vmem S2x8x256x128 .f32)
  (v9 v13 : Vec Ideal S1x128 .f32) (X1 : BufTy.Contents (Elt Ideal) arg1.view.ty) (X2 : BufTy.Contents (Elt Ideal) arg2.view.ty) (X6 : BufTy.Contents (Elt Ideal) arg6.view.ty)
  (k : Fin k0_t1_loop.trips)

/-- A block of 128 rows and columns, a bias tile, a sink, as the trip loads them. -/
abbrev ld2 {off : Fin 2 → ℕ} (h : ∀ a, off a + S128x128.size a ≤ S2048x1536.size a) : Vec Ideal S128x128 .bf16 :=
  View.readAt (Elt Ideal) arg2.view (Rect.unit (s := S2048x1536) off S128x128.size h).toLoadRect X2
abbrev ld6 {off : Fin 4 → ℕ} (h : ∀ a, off a + S1x1x256x128.size a ≤ S2x8x256x128.size a) : Vec Ideal S1x1x256x128 .f32 :=
  View.readAt (Elt Ideal) arg6.view (Rect.unit (s := S2x8x256x128) off S1x1x256x128.size h).toLoadRect X6

abbrev ld1 {off : Fin 2 → ℕ} (h : ∀ a, off a + S1x1.size a ≤ S1x16.size a) : Elt Ideal .f32 :=
  View.readAt (Elt Ideal) arg1.view (Rect.unit (s := S1x16) off S1x1.size h).toLoadRect X1 (Shape.Idx.first (s := S1x1) (by decide))

set_option maxRecDepth 65536 in
theorem piece0 : trip_k0_t1.sl.v170 (F := Ideal) arg1 arg2 arg6 v9 v13 X1 X2 X6 k
    = pair (keys0 (ld2 arg2 X2 (k0_off1_inb k)) (ld2 arg2 X2 (k0_off2_inb k)) v13) (vals0 (ld2 arg2 X2 (k0_off3_inb k)) (ld2 arg2 X2 (k0_off4_inb k))) (qry (ld2 arg2 X2 (k0_off5_inb k)) v9) (ld6 arg6 X6 (k0_off6_inb k))
        (ld1 arg1 X1 (off := ![0, 0]) (by decide)) (ld1 arg1 X1 (off := ![0, 1]) (by decide)) := rfl

set_option maxRecDepth 65536 in
theorem piece1 : trip_k0_t1.sl.v266 (F := Ideal) arg1 arg2 arg6 v9 v13 X1 X2 X6 k
    = pair (keys0 (ld2 arg2 X2 (k0_off1_inb k)) (ld2 arg2 X2 (k0_off2_inb k)) v13) (vals0 (ld2 arg2 X2 (k0_off3_inb k)) (ld2 arg2 X2 (k0_off4_inb k))) (qry (ld2 arg2 X2 (k0_off8_inb k)) v9) (ld6 arg6 X6 (k0_off9_inb k))
        (ld1 arg1 X1 (off := ![0, 2]) (by decide)) (ld1 arg1 X1 (off := ![0, 3]) (by decide)) := rfl

set_option maxRecDepth 65536 in
theorem piece2 : trip_k0_t1.sl.v378 (F := Ideal) arg1 arg2 arg6 v9 v13 X1 X2 X6 k
    = pair (keys1 (ld2 arg2 X2 (k0_off1_inb k)) (ld2 arg2 X2 (k0_off2_inb k)) v13) (vals1 (ld2 arg2 X2 (k0_off3_inb k)) (ld2 arg2 X2 (k0_off4_inb k))) (qry (ld2 arg2 X2 (k0_off11_inb k)) v9) (ld6 arg6 X6 (k0_off12_inb k))
        (ld1 arg1 X1 (off := ![0, 4]) (by decide)) (ld1 arg1 X1 (off := ![0, 5]) (by decide)) := rfl

set_option maxRecDepth 65536 in
theorem piece3 : trip_k0_t1.sl.v474 (F := Ideal) arg1 arg2 arg6 v9 v13 X1 X2 X6 k
    = pair (keys1 (ld2 arg2 X2 (k0_off1_inb k)) (ld2 arg2 X2 (k0_off2_inb k)) v13) (vals1 (ld2 arg2 X2 (k0_off3_inb k)) (ld2 arg2 X2 (k0_off4_inb k))) (qry (ld2 arg2 X2 (k0_off14_inb k)) v9) (ld6 arg6 X6 (k0_off15_inb k))
        (ld1 arg1 X1 (off := ![0, 6]) (by decide)) (ld1 arg1 X1 (off := ![0, 7]) (by decide)) := rfl

set_option maxRecDepth 65536 in
theorem piece4 : trip_k0_t1.sl.v624 (F := Ideal) arg1 arg2 arg6 v9 v13 X1 X2 X6 k
    = pair (keys0 (ld2 arg2 X2 (k0_off17_inb k)) (ld2 arg2 X2 (k0_off18_inb k)) v13) (vals0 (ld2 arg2 X2 (k0_off19_inb k)) (ld2 arg2 X2 (k0_off20_inb k))) (qry (ld2 arg2 X2 (k0_off21_inb k)) v9) (ld6 arg6 X6 (k0_off22_inb k))
        (ld1 arg1 X1 (off := ![0, 8]) (by decide)) (ld1 arg1 X1 (off := ![0, 9]) (by decide)) := rfl

set_option maxRecDepth 65536 in
theorem piece5 : trip_k0_t1.sl.v720 (F := Ideal) arg1 arg2 arg6 v9 v13 X1 X2 X6 k
    = pair (keys0 (ld2 arg2 X2 (k0_off17_inb k)) (ld2 arg2 X2 (k0_off18_inb k)) v13) (vals0 (ld2 arg2 X2 (k0_off19_inb k)) (ld2 arg2 X2 (k0_off20_inb k))) (qry (ld2 arg2 X2 (k0_off24_inb k)) v9) (ld6 arg6 X6 (k0_off25_inb k))
        (ld1 arg1 X1 (off := ![0, 10]) (by decide)) (ld1 arg1 X1 (off := ![0, 11]) (by decide)) := rfl

set_option maxRecDepth 65536 in
theorem piece6 : trip_k0_t1.sl.v832 (F := Ideal) arg1 arg2 arg6 v9 v13 X1 X2 X6 k
    = pair (keys1 (ld2 arg2 X2 (k0_off17_inb k)) (ld2 arg2 X2 (k0_off18_inb k)) v13) (vals1 (ld2 arg2 X2 (k0_off19_inb k)) (ld2 arg2 X2 (k0_off20_inb k))) (qry (ld2 arg2 X2 (k0_off27_inb k)) v9) (ld6 arg6 X6 (k0_off28_inb k))
        (ld1 arg1 X1 (off := ![0, 12]) (by decide)) (ld1 arg1 X1 (off := ![0, 13]) (by decide)) := rfl

set_option maxRecDepth 65536 in
theorem piece7 : trip_k0_t1.sl.v928 (F := Ideal) arg1 arg2 arg6 v9 v13 X1 X2 X6 k
    = pair (keys1 (ld2 arg2 X2 (k0_off17_inb k)) (ld2 arg2 X2 (k0_off18_inb k)) v13) (vals1 (ld2 arg2 X2 (k0_off19_inb k)) (ld2 arg2 X2 (k0_off20_inb k))) (qry (ld2 arg2 X2 (k0_off30_inb k)) v9) (ld6 arg6 X6 (k0_off31_inb k))
        (ld1 arg1 X1 (off := ![0, 14]) (by decide)) (ld1 arg1 X1 (off := ![0, 15]) (by decide)) := rfl
end
end Cert.FwdAttnValue
end
-- ==== Proof.FwdAttnPair.lean ====
/- The entries of one head pair of the attention's forward kernel. -/
module

public import proofs.«01_k».proof.Proof.AttnArith
public import proofs.«01_k».proof.Proof.FwdAttnTrip

@[expose] public section

noncomputable section

namespace Cert.FwdAttnValue

open Cert.FwdAttnIdeal Cert.FwdAttnIdeal.Gen Idealize.ShloMosaic Idealize.ShloMosaic.TcCoe Idealize.SL.Sem Cert.Common Cert.AttnArith

/-- One head's 64 columns in the low lanes of the first 256 rows and in the high lanes of the last. -/
def Spread (k : FVec Ideal S512x128 .bf16) (K : Fin 256 → Fin 64 → EReal) : Prop :=
  ∀ (e e' : Fin 2) (x : Fin 256) (l : Fin 64),
    k (ix2 ⟨e.val * 256 + x.val, by omega⟩ ⟨e'.val * 64 + l.val, by omega⟩) = if e = e' then K x l else 0

theorem rowdot {k : FVec Ideal S512x128 .bf16} {K : Fin 256 → Fin 64 → EReal} (hk : Spread k K) (q : FVec Ideal S128x128 .bf16) (r : Fin 128)
    (e : Fin 2) (x : Fin 256) (R : Fin 512) (hR : R.val = e.val * 256 + x.val) :
    (∑ l : Fin 128, (k (ix2 R l) * q (ix2 r l) : EReal)) = ∑ l : Fin 64, K x l * q (ix2 r ⟨e.val * 64 + l.val, by omega⟩) := by
  have hR' : R = ⟨e.val * 256 + x.val, by omega⟩ := Fin.ext hR
  rw [hR', sum_split (n := 128) 2 64 rfl, Finset.sum_eq_single e]
  · exact Finset.sum_congr rfl fun l _ => by rw [hk e e x l, if_pos rfl]
  · intro e' _ h
    exact Finset.sum_eq_zero fun l _ => by rw [hk e e' x l, if_neg (Ne.symm h), zero_mul]
  · intro h; exact absurd (Finset.mem_univ _) h

theorem earlier_iff : ∀ j r : Fin 128, IntOp.cmpi .sgt (BitVec.ofNat 32 j.val) (BitVec.ofNat 32 r.val) = if r < j then 1#1 else 0#1 := by
  decide +kernel

theorem earlier_at (j r : Fin 128) : k0_pay3 (ix2 j r) = if r < j then 1#1 else 0#1 := by
  rw [← earlier_iff j r]
  pointwise [k0_pay3]

theorem select_if {α : Type} (p : Prop) [Decidable p] (a b : α) : Scalar.select (if p then 1#1 else 0#1) a b = if p then a else b := by
  by_cases h : p <;> simp [h, Scalar.select]

/-- The score of key `j` for query `r` of head `e` of the pair: the earlier block's key where `j` is after `r`, else the own block's. -/
def score (K : Fin 256 → Fin 64 → EReal) (q : FVec Ideal S128x128 .bf16) (b : Vec Ideal S1x1x256x128 .f32) (e : Fin 2) (r j : Fin 128) : EReal :=
  (if r < j then ∑ l : Fin 64, K ⟨j.val, by omega⟩ l * q (ix2 r ⟨e.val * 64 + l.val, by omega⟩)
    else ∑ l : Fin 64, K ⟨128 + j.val, by omega⟩ l * q (ix2 r ⟨e.val * 64 + l.val, by omega⟩))
  + b (ix4 0 0 ⟨e.val * 128 + j.val, by omega⟩ r)

theorem score_at {k : FVec Ideal S512x128 .bf16} {K : Fin 256 → Fin 64 → EReal} (hk : Spread k K) (q : FVec Ideal S128x128 .bf16)
    (b : Vec Ideal S1x1x256x128 .f32) (e : Fin 2) (j r : Fin 128) :
    k0_pay42 k0_pay3 k q b (ix2 ⟨e.val * 128 + j.val, by omega⟩ r) = score K q b e r j := by
  fin_cases e
  · obtain h : (⟨(0 : Fin 2).val * 128 + j.val, by omega⟩ : Fin 256) = ⟨j.val, by omega⟩ := Fin.ext (by simp)
    show k0_pay42 k0_pay3 k q b (ix2 ⟨(0 : Fin 2).val * 128 + j.val, _⟩ r) = score K q b 0 r j
    rw [score, h]
    pointwise [k0_pay42]
    rw [earlier_at, select_if, rowdot hk q r 0 ⟨j.val, by omega⟩ _ (by simp), rowdot hk q r 0 ⟨128 + j.val, by omega⟩ _ (by simp)]
    rfl
  · obtain h : (⟨(1 : Fin 2).val * 128 + j.val, by omega⟩ : Fin 256) = ⟨128 + j.val, by omega⟩ := Fin.ext (by simp)
    show k0_pay42 k0_pay3 k q b (ix2 ⟨(1 : Fin 2).val * 128 + j.val, _⟩ r) = score K q b 1 r j
    rw [score, h]
    pointwise [k0_pay42]
    rw [earlier_at, select_if, rowdot hk q r 1 ⟨j.val, by omega⟩ _ (by simp), rowdot hk q r 1 ⟨128 + j.val, by omega⟩ _ (by simp; omega)]
    rfl

theorem ofBits_one : Ideal.ofBits .f32 0x3F800000#32 = (1 : EReal) := by rw [bits_one]; rfl

theorem bits_ninf : Ideal.ofBits .f32 0xFF800000#32 = (⊥ : EReal) := by simp [Ideal.ofBits, Ideal.ieee]

/-- The weight of key `j`. -/
def weight (S : Fin 128 → EReal) (z : EReal) (j : Fin 128) : EReal :=
  Ideal.exp (S j - top S z) * Ideal.div 1 (∑ j, Ideal.exp (S j - top S z) + Ideal.exp (z - top S z))

theorem weight0 {k : FVec Ideal S512x128 .bf16} {K : Fin 256 → Fin 64 → EReal} (hk : Spread k K) (q : FVec Ideal S128x128 .bf16)
    (b : Vec Ideal S1x1x256x128 .f32) (s : Elt Ideal .f32) (j r : Fin 128) :
    k0_pay43 k0_pay3 k q b s (ix2 j r) = weight (score K q b 0 r) s j := by
  have h : ∀ (x : Fin 128) (p : x.val < 256), k0_pay42 k0_pay3 k q b (ix2 ⟨x.val, p⟩ r) = score K q b 0 r x := fun x p => by
    rw [← score_at hk q b 0 x r]; exact congrArg (fun y => k0_pay42 k0_pay3 k q b (ix2 y r)) (Fin.ext (by simp))
  pointwise [k0_pay43]
  simp only [h, bits_ninf]
  rfl

theorem weight1 {k : FVec Ideal S512x128 .bf16} {K : Fin 256 → Fin 64 → EReal} (hk : Spread k K) (q : FVec Ideal S128x128 .bf16)
    (b : Vec Ideal S1x1x256x128 .f32) (s : Elt Ideal .f32) (j r : Fin 128) :
    (k0_pay46 k0_pay3 k q b s (ix2 j r) * Ideal.div (Scalar.ofBits (F := Ideal) .f32 0x3F800000#32) (k0_pay47 k0_pay3 k q b s (ix2 0 r)) : EReal)
      = weight (score K q b 1 r) s j := by
  have h : ∀ (x : Fin 128) (p : 128 + x.val < 256), k0_pay42 k0_pay3 k q b (ix2 ⟨128 + x.val, p⟩ r) = score K q b 1 r x := fun x p => by
    rw [← score_at hk q b 1 x r]; exact congrArg (fun y => k0_pay42 k0_pay3 k q b (ix2 y r)) (Fin.ext (by simp))
  pointwise [k0_pay46, k0_pay47, k0_pay45, k0_pay44]
  simp only [h, bits_ninf]
  rfl

/-- One head pair at a query and a lane: the row of attention of the lane's head. -/
theorem pair_at {k v : FVec Ideal S512x128 .bf16} {K W : Fin 256 → Fin 64 → EReal} (hk : Spread k K) (hv : Spread v W)
    (q : FVec Ideal S128x128 .bf16) (b : Vec Ideal S1x1x256x128 .f32) (s : Fin 2 → Elt Ideal .f32) (r : Fin 128) (e : Fin 2) (d : Fin 64) :
    pair k v q b (s 0) (s 1) (ix2 r ⟨e.val * 64 + d.val, by omega⟩)
      = attend (score K q b e r) (s e) (fun j => if r < j then W ⟨j.val, by omega⟩ d else W ⟨128 + j.val, by omega⟩ d) := by
  unfold pair
  pointwise [k0_pay48]
  have hw := weight1 hk q b (s 1)
  simp only [Scalar.ofBits] at hw
  simp only [earlier_at, select_if, weight0 hk]
  rw [sum_split (n := 512) 4 128 rfl, Fin.sum_univ_four]
  have n0 (j : Fin 128) : (0 : Fin 4).val * 128 + j.val = j.val := by simp
  have n1 (j : Fin 128) : (1 : Fin 4).val * 128 + j.val = 128 + j.val := by simp
  have n2 (j : Fin 128) : (2 : Fin 4).val * 128 + j.val = 256 + j.val := by simp
  have n3 (j : Fin 128) : (3 : Fin 4).val * 128 + j.val = 384 + j.val := by simp
  have a1 (j : Fin 128) : ¬ 128 + j.val < 128 := by omega
  have a2 (j : Fin 128) : ¬ 256 + j.val < 128 := by omega
  have a3 (j : Fin 128) : ¬ 384 + j.val < 128 := by omega
  have b1 (j : Fin 128) : 128 + j.val - 128 = j.val := by omega
  have b2 (j : Fin 128) : 256 + j.val - 128 = 128 + j.val := by omega
  have b3 (j : Fin 128) : 384 + j.val - 128 = 256 + j.val := by omega
  simp only [n0, n1, n2, n3, a1, a2, a3, b1, b2, b3, Fin.is_lt, dite_true, dite_false, Fin.eta]
  have hw' : ∀ j r : Fin 128, (k0_pay46 k0_pay3 k q b (s 1) (ix2 j r) * Ideal.div 1 (k0_pay47 k0_pay3 k q b (s 1) (ix2 0 r)) : EReal)
      = weight (score K q b 1 r) (s 1) j := fun j r => by rw [← hw j r, ofBits_one]
  simp only [hw']
  have hV (f : Fin 2) (x : Fin 256) (R : Fin 512) (hR : R.val = f.val * 256 + x.val) :
      v (ix2 R ⟨e.val * 64 + d.val, by omega⟩) = if f = e then W x d else 0 := by
    have hR' : R = ⟨f.val * 256 + x.val, by omega⟩ := Fin.ext hR
    rw [hR', hv f e x d]
  have v0 (j : Fin 128) := hV 0 ⟨j.val, by omega⟩ ⟨j.val, by omega⟩ (by simp)
  have v1 (j : Fin 128) := hV 0 ⟨128 + j.val, by omega⟩ ⟨128 + j.val, by omega⟩ (by simp)
  have v2 (j : Fin 128) := hV 1 ⟨j.val, by omega⟩ ⟨256 + j.val, by omega⟩ (by simp)
  have v3 (j : Fin 128) := hV 1 ⟨128 + j.val, by omega⟩ ⟨384 + j.val, by omega⟩ (by simp; omega)
  simp only [v0, v1, v2, v3]
  unfold attend
  fin_cases e
  · simp only [if_pos, mul_zero, Finset.sum_const_zero, add_zero, show ((1 : Fin 2) = ⟨0, by decide⟩) = False from by simp, if_false,
      show ((0 : Fin 2) = ⟨0, by decide⟩) = True from by simp, if_true]
    rw [← Finset.sum_add_distrib]
    refine Finset.sum_congr rfl fun j _ => ?_
    by_cases h : r < j <;> simp [h, weight]
  · simp only [if_pos, mul_zero, Finset.sum_const_zero, zero_add, show ((0 : Fin 2) = ⟨1, by decide⟩) = False from by simp, if_false,
      show ((1 : Fin 2) = ⟨1, by decide⟩) = True from by simp, if_true]
    rw [← Finset.sum_add_distrib]
    refine Finset.sum_congr rfl fun j _ => ?_
    by_cases h : r < j <;> simp [h, weight]

/-! ### The loaded blocks: normalised keys and queries, and values -/

theorem low_iff : ∀ l : Fin 128, IntOp.cmpi .slt (BitVec.ofNat 32 l.val) 64#32 = if l.val < 64 then 1#1 else 0#1 := by
  decide +kernel

theorem low_at (l : Fin 128) : k0_pay2 (ix2 0 l) = if l.val < 64 then 1#1 else 0#1 := by
  rw [← low_iff l]
  pointwise [k0_pay2]

theorem select_one {α : Type} (a b : α) : Scalar.select 1#1 a b = a := by simp [Scalar.select]
theorem select_zero {α : Type} (a b : α) : Scalar.select 0#1 a b = b := by simp [Scalar.select]
theorem xori_one : IntOp.xori 1#1 1#1 = 0#1 := by decide
theorem xori_zero : IntOp.xori 0#1 1#1 = 1#1 := by decide

theorem spread_of {k : FVec Ideal S512x128 .bf16} {K : Fin 256 → Fin 64 → EReal}
    (h0 : ∀ (x : Fin 256) (l : Fin 64), k (ix2 ⟨x.val, by omega⟩ ⟨l.val, by omega⟩) = K x l)
    (h1 : ∀ (x : Fin 256) (l : Fin 64), k (ix2 ⟨x.val, by omega⟩ ⟨64 + l.val, by omega⟩) = 0)
    (h2 : ∀ (x : Fin 256) (l : Fin 64), k (ix2 ⟨256 + x.val, by omega⟩ ⟨l.val, by omega⟩) = 0)
    (h3 : ∀ (x : Fin 256) (l : Fin 64), k (ix2 ⟨256 + x.val, by omega⟩ ⟨64 + l.val, by omega⟩) = K x l) : Spread k K := by
  intro e e' x l
  fin_cases e <;> fin_cases e'
  · exact (congrArg k (eq_ix2_of (by simp) (by simp))).trans ((h0 x l).trans (by simp))
  · exact (congrArg k (eq_ix2_of (by simp) (by simp))).trans ((h1 x l).trans (by simp))
  · exact (congrArg k (eq_ix2_of (by simp) (by simp))).trans ((h2 x l).trans (by simp))
  · exact (congrArg k (eq_ix2_of (by simp) (by simp))).trans ((h3 x l).trans (by simp))

/-- A head's row by the root of its mean square and its gain. -/
def unit (a g : Fin 64 → EReal) (l : Fin 64) : EReal :=
  a l * Ideal.rsqrt ((∑ x, a x * a x) * Ideal.ofBits .f32 0x3C800000#32 + Ideal.ofBits .f32 0x358637BD#32) * g l

/-- Head `P` of a row of two heads. -/
def lanes (P : Fin 2) (f : Fin 128 → EReal) (l : Fin 64) : EReal := f ⟨P.val * 64 + l.val, by omega⟩

theorem half (P : Fin 2) (l : Fin 64) (f : Fin 128 → EReal) :
    (if P.val * 64 + l.val < 64 then (∑ x : Fin 128, if x.val < 64 then f x else 0) else (∑ x : Fin 128, if x.val < 64 then 0 else f x))
      = ∑ x, lanes P f x := by
  have a0 (x : Fin 64) : (0 : Fin 2).val * 64 + x.val < 64 := by simp
  have a1 (x : Fin 64) : ¬ (1 : Fin 2).val * 64 + x.val < 64 := by simp
  rw [sum_split (n := 128) 2 64 rfl, sum_split (n := 128) 2 64 rfl, Fin.sum_univ_two, Fin.sum_univ_two]
  simp only [a0, a1, if_true, if_false, Finset.sum_const_zero, add_zero, zero_add]
  fin_cases P
  · exact if_pos (a0 l)
  · exact if_neg (a1 l)

/-- Row `r` of two blocks of rows. -/
def two (x y : FVec Ideal S128x128 .bf16) (r : Fin 256) (l : Fin 128) : EReal :=
  if h : r.val < 128 then x (ix2 ⟨r.val, h⟩ l) else y (ix2 ⟨r.val - 128, by omega⟩ l)

theorem keys_at (x y : FVec Ideal S128x128 .bf16) (g : Vec Ideal S1x128 .f32) (r : Fin 256) (P : Fin 2) (l : Fin 64) (L : Fin 128)
    (hL : L.val = P.val * 64 + l.val) :
    keys x y g (ix2 r L) = unit (lanes P (two x y r)) (lanes P fun l => g (ix2 0 l)) l := by
  have hL' : L = ⟨P.val * 64 + l.val, by omega⟩ := Fin.ext hL
  rw [hL']
  unfold keys
  pointwise [k0_pay38, k0_pay37, k0_pay35, k0_pay5]
  simp only [low_at, select_if]
  exact congrArg (fun z => two x y r ⟨P.val * 64 + l.val, by omega⟩
    * Ideal.rsqrt (z * Ideal.ofBits .f32 0x3C800000#32 + Ideal.ofBits .f32 0x358637BD#32) * g (ix2 0 ⟨P.val * 64 + l.val, by omega⟩))
    (half P l fun l => two x y r l * two x y r l)

theorem qry_at (x : FVec Ideal S128x128 .bf16) (g : Vec Ideal S1x128 .f32) (r : Fin 128) (P : Fin 2) (l : Fin 64) :
    qry x g (ix2 r ⟨P.val * 64 + l.val, by omega⟩)
      = unit (lanes P fun l => x (ix2 r l)) (lanes P fun l => g (ix2 0 l) * Ideal.ofBits .f32 0x3E000000#32) l := by
  unfold qry
  pointwise [k0_pay41, k0_pay4]
  simp only [low_at, select_if]
  exact congrArg (fun z => x (ix2 r ⟨P.val * 64 + l.val, by omega⟩)
    * Ideal.rsqrt (z * Ideal.ofBits .f32 0x3C800000#32 + Ideal.ofBits .f32 0x358637BD#32)
      * (g (ix2 0 ⟨P.val * 64 + l.val, by omega⟩) * Ideal.ofBits .f32 0x3E000000#32))
    (half P l fun l => x (ix2 r l) * x (ix2 r l))

/-- The normalised keys of head `P` of a pair of blocks, and its values. -/
def keyOf (x y : FVec Ideal S128x128 .bf16) (g : Vec Ideal S1x128 .f32) (P : Fin 2) (r : Fin 256) : Fin 64 → EReal :=
  unit (lanes P (two x y r)) (lanes P fun l => g (ix2 0 l))

def valOf (x y : FVec Ideal S128x128 .bf16) (P : Fin 2) (r : Fin 256) : Fin 64 → EReal := lanes P (two x y r)

theorem roll0 (l : Fin 64) (h) : ((⟨(l.val + 128 - 64) % 128, h⟩ : Fin 128)) = ⟨64 + l.val, by omega⟩ := Fin.ext (by dsimp only; omega)
theorem roll1 (l : Fin 64) (h) : ((⟨(64 + l.val + 128 - 64) % 128, h⟩ : Fin 128)) = ⟨l.val, by omega⟩ := Fin.ext (by dsimp only; omega)
theorem is_low (l : Fin 64) : l.val < 64 := l.isLt
theorem not_low (l : Fin 64) : ¬ 64 + l.val < 64 := by omega

theorem keys0_spread (x y : FVec Ideal S128x128 .bf16) (g : Vec Ideal S1x128 .f32) : Spread (keys0 x y g) (keyOf x y g 0) := by
  refine spread_of ?_ ?_ ?_ ?_ <;> intro r l <;> unfold keys0
  · pointwise [k0_pay39]
    simp only [low_at, if_pos (is_low l), select_one, select_zero, xori_one, xori_zero]
    exact keys_at x y g r 0 l _ (by simp)
  · pointwise [k0_pay39]
    simp only [low_at, if_neg (not_low l), select_one, select_zero, xori_one, xori_zero]
  · pointwise [k0_pay39]
    simp only [roll0, low_at, if_neg (not_low l), select_one, select_zero, xori_one, xori_zero]
  · pointwise [k0_pay39]
    simp only [roll1, low_at, if_pos (is_low l), select_one, select_zero, xori_one, xori_zero]
    exact keys_at x y g r 0 l _ (by simp)

theorem keys1_spread (x y : FVec Ideal S128x128 .bf16) (g : Vec Ideal S1x128 .f32) : Spread (keys1 x y g) (keyOf x y g 1) := by
  refine spread_of ?_ ?_ ?_ ?_ <;> intro r l <;> unfold keys1
  · pointwise [k0_pay58]
    simp only [roll0, low_at, if_neg (not_low l), select_one, select_zero, xori_one, xori_zero]
    exact keys_at x y g r 1 l _ (by simp)
  · pointwise [k0_pay58]
    simp only [roll1, low_at, if_pos (is_low l), select_one, select_zero, xori_one, xori_zero]
  · pointwise [k0_pay58]
    simp only [low_at, if_pos (is_low l), select_one, select_zero, xori_one, xori_zero]
  · pointwise [k0_pay58]
    simp only [low_at, if_neg (not_low l), select_one, select_zero, xori_one, xori_zero]
    exact keys_at x y g r 1 l _ (by simp)

theorem vals0_spread (x y : FVec Ideal S128x128 .bf16) : Spread (vals0 x y) (valOf x y 0) := by
  refine spread_of ?_ ?_ ?_ ?_ <;> intro r l <;> unfold vals0
  · pointwise [k0_pay40, k0_pay36]
    simp only [low_at, if_pos (is_low l), select_one, select_zero, xori_one, xori_zero]
    exact congrArg (two x y r) (Fin.ext (by simp) : (⟨l.val, by omega⟩ : Fin 128) = ⟨(0 : Fin 2).val * 64 + l.val, by omega⟩)
  · pointwise [k0_pay40, k0_pay36]
    simp only [low_at, if_neg (not_low l), select_one, select_zero, xori_one, xori_zero]
  · pointwise [k0_pay40, k0_pay36]
    simp only [roll0, low_at, if_neg (not_low l), select_one, select_zero, xori_one, xori_zero]
  · pointwise [k0_pay40, k0_pay36]
    simp only [roll1, low_at, if_pos (is_low l), select_one, select_zero, xori_one, xori_zero]
    exact congrArg (two x y r) (Fin.ext (by simp) : (⟨l.val, by omega⟩ : Fin 128) = ⟨(0 : Fin 2).val * 64 + l.val, by omega⟩)

theorem vals1_spread (x y : FVec Ideal S128x128 .bf16) : Spread (vals1 x y) (valOf x y 1) := by
  refine spread_of ?_ ?_ ?_ ?_ <;> intro r l <;> unfold vals1
  · pointwise [k0_pay59, k0_pay36]
    simp only [roll0, low_at, if_neg (not_low l), select_one, select_zero, xori_one, xori_zero]
    exact congrArg (two x y r) (Fin.ext (by simp) : (⟨64 + l.val, by omega⟩ : Fin 128) = ⟨(1 : Fin 2).val * 64 + l.val, by omega⟩)
  · pointwise [k0_pay59, k0_pay36]
    simp only [roll1, low_at, if_pos (is_low l), select_one, select_zero, xori_one, xori_zero]
  · pointwise [k0_pay59, k0_pay36]
    simp only [low_at, if_pos (is_low l), select_one, select_zero, xori_one, xori_zero]
  · pointwise [k0_pay59, k0_pay36]
    simp only [low_at, if_neg (not_low l), select_one, select_zero, xori_one, xori_zero]
    exact congrArg (two x y r) (Fin.ext (by simp) : (⟨64 + l.val, by omega⟩ : Fin 128) = ⟨(1 : Fin 2).val * 64 + l.val, by omega⟩)

end Cert.FwdAttnValue

end
-- ==== Proof.FwdAttnBias.lean ====
/- The forward attention's bias scratch: what the first point lays down for every head, band place and query. -/
module

public import proofs.«01_k».proof.Proof.FwdAttnPair

@[expose] public section

noncomputable section

namespace Cert.FwdAttnValue

open Cert.FwdAttnIdeal Cert.FwdAttnIdeal.Gen Idealize.ShloMosaic Idealize.ShloMosaic.TcCoe Idealize.SL.Sem Cert.Common

variable (m : (ℓ : Loc nD τ sig) → Buf (Elt Ideal) ℓ)

/-- Two heads' lines of minus slope times distance: slope `a` on the upper 128 rows, `b` on the lower. -/
def line (a b : EReal) : FVec Ideal S256x128 .f32 :=
  mulf (subf (broadcast S256x128 (Scalar.ofBits (F := Ideal) .f32 0x00000000#32))
    (select k0_pay6 (broadcast S256x128 (a : Elt Ideal .f32)) (broadcast S256x128 (b : Elt Ideal .f32)))) (k0_pay9 (F := Ideal))
def plain (a b : EReal) : FVec Ideal S1x1x256x128 .f32 := shapeCast S1x1x256x128 (line a b) shapeCasts_S256x128_S1x1x256x128
def masked (a b : EReal) : FVec Ideal S1x1x256x128 .f32 :=
  shapeCast S1x1x256x128 (select k0_pay8 (broadcast S256x128 (⊥ : EReal)) (line a b)) shapeCasts_S256x128_S1x1x256x128

theorem upper_iff : ∀ x : Fin 256, IntOp.cmpi .sge (BitVec.ofNat 32 x.val) 128#32 = if 128 ≤ x.val then 1#1 else 0#1 := by
  decide +kernel
theorem place_eq : ∀ x : Fin 256, Scalar.select (if 128 ≤ x.val then 1#1 else 0#1) (IntOp.subi (BitVec.ofNat 32 x.val) 128#32)
    (BitVec.ofNat 32 x.val) = BitVec.ofNat 32 (x.val % 128) := by
  decide +kernel
theorem later_iff : ∀ j r : Fin 128, IntOp.cmpi .sgt (BitVec.ofNat 32 j.val) (BitVec.ofNat 32 r.val) = if r.val < j.val then 1#1 else 0#1 := by
  decide +kernel
theorem back_int : ∀ j r : Fin 128, (IntOp.subi (IntOp.addi (Scalar.select (if r.val < j.val then 1#1 else 0#1) 128#32 0#32) (BitVec.ofNat 32 r.val))
    (BitVec.ofNat 32 j.val)).toInt = (r.val : ℤ) + (if r.val < j.val then 128 else 0) - j.val := by
  decide +kernel

theorem upper_at (x : Fin 256) (r : Fin 128) : k0_pay6 (ix2 x r) = if 128 ≤ x.val then 1#1 else 0#1 := by
  rw [← upper_iff]
  pointwise [k0_pay6]
theorem place_at (x : Fin 256) (r : Fin 128) : k0_pay7 (ix2 x r) = BitVec.ofNat 32 (x.val % 128) := by
  rw [← place_eq, ← upper_at x r]
  pointwise [k0_pay7]
theorem later_at (x : Fin 256) (r : Fin 128) : k0_pay8 (ix2 x r) = if r.val < x.val % 128 then 1#1 else 0#1 := by
  rw [← later_iff ⟨x.val % 128, Nat.mod_lt _ (by decide)⟩ r, ← place_at x r]
  pointwise [k0_pay8]

/-- The distance of query `r` from the key a tile's row stands for. -/
def back (x : Fin 256) (r : Fin 128) : ℝ := (r.val : ℝ) + (if r.val < x.val % 128 then 128 else 0) - ((x.val % 128 : ℕ) : ℝ)

theorem back_at (x : Fin 256) (r : Fin 128) : k0_pay9 (F := Ideal) (ix2 x r) = (back x r : EReal) := by
  have e : k0_pay9 (F := Ideal) (ix2 x r) = FloatOps.sitofp (F := Ideal) .f32
      (IntOp.subi (IntOp.addi (Scalar.select (k0_pay8 (ix2 x r)) 128#32 0#32) (BitVec.ofNat 32 r.val)) (k0_pay7 (ix2 x r))) := by
    pointwise [k0_pay9]
  rw [e, later_at, place_at]
  refine congrArg Real.toEReal ?_
  have h := back_int ⟨x.val % 128, Nat.mod_lt _ (by decide)⟩ r
  dsimp only at h
  rw [h, back]
  push_cast; rfl

theorem line_at (a b : EReal) (x : Fin 256) (r : Fin 128) :
    line a b (ix2 x r) = -(if 128 ≤ x.val then a else b) * (back x r : EReal) := by
  have e : line a b (ix2 x r) = (Ideal.ofBits .f32 0x00000000#32 - Scalar.select (k0_pay6 (ix2 x r)) a b) * k0_pay9 (F := Ideal) (ix2 x r) := by
    pointwise [line]
  have h0 : Ideal.ofBits .f32 0x00000000#32 = (0 : EReal) := by simp [Ideal.ofBits, Ideal.ieee]
  rw [e, back_at, upper_at, h0, zero_sub]
  by_cases h : 128 ≤ x.val
  · rw [if_pos h, if_pos h, select_one]
  · rw [if_neg h, if_neg h, select_zero]

theorem plain_at (a b : EReal) (x : Fin 256) (r : Fin 128) :
    plain a b (ix4 0 0 x r) = -(if 128 ≤ x.val then a else b) * (back x r : EReal) := by
  rw [← line_at]
  pointwise [plain]
theorem masked_at (a b : EReal) (x : Fin 256) (r : Fin 128) :
    masked a b (ix4 0 0 x r) = if r.val < x.val % 128 then ⊥ else -(if 128 ≤ x.val then a else b) * (back x r : EReal) := by
  have e : masked a b (ix4 0 0 x r) = Scalar.select (k0_pay8 (ix2 x r)) (⊥ : EReal) (line a b (ix2 x r)) := by
    pointwise [masked]
  rw [e, later_at, line_at]
  by_cases h : r.val < x.val % 128
  · rw [if_pos h, if_pos h, select_one]
  · rw [if_neg h, if_neg h, select_zero]

/-- A head's slope. -/
def incline (h : ℕ) : ℝ := (Real.sqrt (2 ^ (h + 1)))⁻¹

theorem incline_odd (i : ℕ) : incline (2 * i + 1) = (1 / 2) ^ (i + 1) := by
  rw [incline, show 2 * i + 1 + 1 = (i + 1) * 2 by ring, pow_mul, Real.sqrt_sq (by positivity), one_div, inv_pow]

/-- The bias laid down: first the blocks that have no block before them, then the others. -/
def biasAt (q : Fin 2) (i : Fin 8) (x : Fin 256) (r : Fin 128) : EReal :=
  if q = 0 ∧ r.val < x.val % 128 then ⊥ else -(incline (2 * i.val + x.val / 128) : EReal) * (back x r : EReal)

theorem bias_of (i : Fin 8) {a b : EReal} (ha : a = (incline (2 * i.val + 1) : EReal)) (hb : b = (incline (2 * i.val) : EReal))
    (x : Fin 256) (r : Fin 128) : plain a b (ix4 0 0 x r) = biasAt 1 i x r ∧ masked a b (ix4 0 0 x r) = biasAt 0 i x r := by
  have e : (if 128 ≤ x.val then a else b) = (incline (2 * i.val + x.val / 128) : EReal) := by
    by_cases h : 128 ≤ x.val
    · rw [if_pos h, ha, show x.val / 128 = 1 by omega]
    · rw [if_neg h, hb, show x.val / 128 = 0 by omega, Nat.add_zero]
  rw [plain_at, masked_at, e, biasAt, biasAt]
  exact ⟨by rw [if_neg (by simp)], by simp⟩

def Bias : FVec Ideal S2x8x256x128 .f32 := fun y => biasAt (y 0) (y 1) (y 2) (y 3)

theorem mask_eq : Named.named (F := Ideal) κ "mask" (φ := .f32) 0xF149F2CA#32 = (⊥ : EReal) := IdealRules.named_const.ideal_named_scalar _ _ _ _ rfl

theorem hi0 : Ideal.ofBits .f32 0x3F000000#32 = (incline (2 * (0 : Fin 8).val + 1) : EReal) := by
  rw [incline_odd]; simp [Ideal.ofBits, Ideal.ieee]; norm_cast; norm_num
theorem lo0 : Named.named (F := Ideal) κ "slope1" (φ := .f32) 0x3F3504F3#32 = (incline (2 * (0 : Fin 8).val) : EReal) := by
  rw [show Named.named (F := Ideal) κ "slope1" (φ := .f32) 0x3F3504F3#32 = (((Real.sqrt 2)⁻¹ : ℝ) : EReal) from IdealRules.named_const.ideal_named_scalar _ _ _ _ rfl, incline]; norm_num
theorem hi1 : Ideal.ofBits .f32 0x3E800000#32 = (incline (2 * (1 : Fin 8).val + 1) : EReal) := by
  rw [incline_odd]; simp [Ideal.ofBits, Ideal.ieee]; norm_cast; norm_num
theorem lo1 : Named.named (F := Ideal) κ "slope3" (φ := .f32) 0x3EB504F3#32 = (incline (2 * (1 : Fin 8).val) : EReal) := by
  rw [show Named.named (F := Ideal) κ "slope3" (φ := .f32) 0x3EB504F3#32 = (((Real.sqrt 8)⁻¹ : ℝ) : EReal) from IdealRules.named_const.ideal_named_scalar _ _ _ _ rfl, incline]; norm_num
theorem hi2 : Ideal.ofBits .f32 0x3E000000#32 = (incline (2 * (2 : Fin 8).val + 1) : EReal) := by
  rw [incline_odd]; simp [Ideal.ofBits, Ideal.ieee]; norm_cast; norm_num
theorem lo2 : Named.named (F := Ideal) κ "slope5" (φ := .f32) 0x3E3504F3#32 = (incline (2 * (2 : Fin 8).val) : EReal) := by
  rw [show Named.named (F := Ideal) κ "slope5" (φ := .f32) 0x3E3504F3#32 = (((Real.sqrt 32)⁻¹ : ℝ) : EReal) from IdealRules.named_const.ideal_named_scalar _ _ _ _ rfl, incline]; norm_num
theorem hi3 : Ideal.ofBits .f32 0x3D800000#32 = (incline (2 * (3 : Fin 8).val + 1) : EReal) := by
  rw [incline_odd]; simp [Ideal.ofBits, Ideal.ieee]; norm_cast; norm_num
theorem lo3 : Named.named (F := Ideal) κ "slope7" (φ := .f32) 0x3DB504F3#32 = (incline (2 * (3 : Fin 8).val) : EReal) := by
  rw [show Named.named (F := Ideal) κ "slope7" (φ := .f32) 0x3DB504F3#32 = (((Real.sqrt 128)⁻¹ : ℝ) : EReal) from IdealRules.named_const.ideal_named_scalar _ _ _ _ rfl, incline]; norm_num
theorem hi4 : Ideal.ofBits .f32 0x3D000000#32 = (incline (2 * (4 : Fin 8).val + 1) : EReal) := by
  rw [incline_odd]; simp [Ideal.ofBits, Ideal.ieee]; norm_cast; norm_num
theorem lo4 : Named.named (F := Ideal) κ "slope9" (φ := .f32) 0x3D3504F3#32 = (incline (2 * (4 : Fin 8).val) : EReal) := by
  rw [show Named.named (F := Ideal) κ "slope9" (φ := .f32) 0x3D3504F3#32 = (((Real.sqrt 512)⁻¹ : ℝ) : EReal) from IdealRules.named_const.ideal_named_scalar _ _ _ _ rfl, incline]; norm_num
theorem hi5 : Ideal.ofBits .f32 0x3C800000#32 = (incline (2 * (5 : Fin 8).val + 1) : EReal) := by
  rw [incline_odd]; simp [Ideal.ofBits, Ideal.ieee]; norm_cast; norm_num
theorem lo5 : Named.named (F := Ideal) κ "slope11" (φ := .f32) 0x3CB504F3#32 = (incline (2 * (5 : Fin 8).val) : EReal) := by
  rw [show Named.named (F := Ideal) κ "slope11" (φ := .f32) 0x3CB504F3#32 = (((Real.sqrt 2048)⁻¹ : ℝ) : EReal) from IdealRules.named_const.ideal_named_scalar _ _ _ _ rfl, incline]; norm_num
theorem hi6 : Ideal.ofBits .f32 0x3C000000#32 = (incline (2 * (6 : Fin 8).val + 1) : EReal) := by
  rw [incline_odd]; simp [Ideal.ofBits, Ideal.ieee]; norm_cast; norm_num
theorem lo6 : Named.named (F := Ideal) κ "slope13" (φ := .f32) 0x3C3504F3#32 = (incline (2 * (6 : Fin 8).val) : EReal) := by
  rw [show Named.named (F := Ideal) κ "slope13" (φ := .f32) 0x3C3504F3#32 = (((Real.sqrt 8192)⁻¹ : ℝ) : EReal) from IdealRules.named_const.ideal_named_scalar _ _ _ _ rfl, incline]; norm_num
theorem hi7 : Ideal.ofBits .f32 0x3B800000#32 = (incline (2 * (7 : Fin 8).val + 1) : EReal) := by
  rw [incline_odd]; simp [Ideal.ofBits, Ideal.ieee]; norm_cast; norm_num
theorem lo7 : Named.named (F := Ideal) κ "slope15" (φ := .f32) 0x3BB504F3#32 = (incline (2 * (7 : Fin 8).val) : EReal) := by
  rw [show Named.named (F := Ideal) κ "slope15" (φ := .f32) 0x3BB504F3#32 = (((Real.sqrt 32768)⁻¹ : ℝ) : EReal) from IdealRules.named_const.ideal_named_scalar _ _ _ _ rfl, incline]; norm_num

theorem laid {p : S1x1x256x128.Idx → EReal} (q : Fin 2) (i : Fin 8) (hp : ∀ x r, p (ix4 0 0 x r) = biasAt q i x r) (y : S2x8x256x128.Idx)
    (z : S1x1x256x128.Idx) (h0 : (y 0).val = q.val + (z 0).val) (h1 : (y 1).val = i.val + (z 1).val) (h2 : (y 2).val = (z 2).val)
    (h3 : (y 3).val = (z 3).val) : p z = Bias y := by
  obtain ⟨a, b, x, r, rfl⟩ : ∃ (a b : Fin 1) (x : Fin 256) (r : Fin 128), z = ix4 a b x r := ⟨z 0, z 1, z 2, z 3, eq_ix4 z⟩
  obtain rfl : a = 0 := Subsingleton.elim _ _
  obtain rfl : b = 0 := Subsingleton.elim _ _
  have e0 : y 0 = q := Fin.ext h0
  have e1 : y 1 = i := Fin.ext h1
  have e2 : y 2 = x := Fin.ext h2
  have e3 : y 3 = r := Fin.ext h3
  rw [Bias, e0, e1, e2, e3]
  exact hp _ _

theorem scratch_A (c : Dev nD) (t : Fin cfg0.N) (h : t.val % 4 = 0) : (outsAt0 m c t.val t.isLt).2 = Bias := by
  rw [outsAt0_A m c t h]; frame_out
  funext y
  canon_tiles z h
  · exact laid 0 7 (fun x r => (bias_of 7 hi7 lo7 x r).2) y z (by simpa using h0) (by simpa using h1) h2 h3
  · exact laid 1 7 (fun x r => (bias_of 7 hi7 lo7 x r).1) y z (by simpa using h0) (by simpa using h1) h2 h3
  · exact laid 0 6 (fun x r => (bias_of 6 hi6 lo6 x r).2) y z (by simpa using h0) (by simpa using h1) h2 h3
  · exact laid 1 6 (fun x r => (bias_of 6 hi6 lo6 x r).1) y z (by simpa using h0) (by simpa using h1) h2 h3
  · exact laid 0 5 (fun x r => (bias_of 5 hi5 lo5 x r).2) y z (by simpa using h0) (by simpa using h1) h2 h3
  · exact laid 1 5 (fun x r => (bias_of 5 hi5 lo5 x r).1) y z (by simpa using h0) (by simpa using h1) h2 h3
  · exact laid 0 4 (fun x r => (bias_of 4 hi4 lo4 x r).2) y z (by simpa using h0) (by simpa using h1) h2 h3
  · exact laid 1 4 (fun x r => (bias_of 4 hi4 lo4 x r).1) y z (by simpa using h0) (by simpa using h1) h2 h3
  · exact laid 0 3 (fun x r => (bias_of 3 hi3 lo3 x r).2) y z (by simpa using h0) (by simpa using h1) h2 h3
  · exact laid 1 3 (fun x r => (bias_of 3 hi3 lo3 x r).1) y z (by simpa using h0) (by simpa using h1) h2 h3
  · exact laid 0 2 (fun x r => (bias_of 2 hi2 lo2 x r).2) y z (by simpa using h0) (by simpa using h1) h2 h3
  · exact laid 1 2 (fun x r => (bias_of 2 hi2 lo2 x r).1) y z (by simpa using h0) (by simpa using h1) h2 h3
  · exact laid 0 1 (fun x r => (bias_of 1 hi1 lo1 x r).2) y z (by simpa using h0) (by simpa using h1) h2 h3
  · exact laid 1 1 (fun x r => (bias_of 1 hi1 lo1 x r).1) y z (by simpa using h0) (by simpa using h1) h2 h3
  · exact laid 0 0 (fun x r => (bias_of 0 hi0 lo0 x r).2) y z (by simpa using h0) (by simpa using h1) h2 h3
  · exact laid 1 0 (fun x r => (bias_of 0 hi0 lo0 x r).1) y z (by simpa using h0) (by simpa using h1) h2 h3

theorem scratch_B (c : Dev nD) (t : Fin cfg0.N) (h : ¬ t.val % 4 = 0) :
    (outsAt0 m c t.val t.isLt).2 = (outsAt0 m c (t.val - 1) (by omega)).2 := by
  rw [outsAt0_B m c t h]; rfl

/-- The scratch holds the bias at every point. -/
theorem scratch (c : Dev nD) : ∀ (n : ℕ) (h : n < cfg0.N), (outsAt0 m c n h).2 = Bias
  | 0, h => scratch_A m c ⟨0, h⟩ rfl
  | n + 1, h => by
    by_cases h0 : (n + 1) % 4 = 0
    · exact scratch_A m c ⟨n + 1, h⟩ h0
    · exact (scratch_B m c ⟨n + 1, h⟩ h0).trans (scratch c n (by omega))

end Cert.FwdAttnValue

end
-- ==== Proof.FwdAttnJoin.lean ====
/- The forward attention: one head pair of the kernel, from the blocks it loads, is the reference's rows. -/
module

public import proofs.«01_k».proof.Proof.FwdAttnSum
public import proofs.«01_k».proof.Proof.FwdAttnBias

@[expose] public section

noncomputable section

namespace Cert.FwdAttnValue

open Cert.FwdAttnIdeal Cert.FwdAttnIdeal.Gen Idealize.ShloMosaic Idealize.ShloMosaic.TcCoe Idealize.SL.Sem Cert.Common Cert.AttnArith
open Cert.FwdAttnRef (uq uk scoreOf valueOf before inside slope krow vrow qrow)

theorem bits_eighth : Ideal.ofBits .f32 0x3E000000#32 = ((1 / 8 : ℝ) : EReal) := by
  simp [Ideal.ofBits, Ideal.ieee]; norm_cast; norm_num
theorem bits_64th : Ideal.ofBits .f32 0x3C800000#32 = ((1 / 64 : ℝ) : EReal) := by
  simp [Ideal.ofBits, Ideal.ieee]; norm_cast; norm_num

/-- The kernel multiplies a sum of squares by 1/64 where the reference divides by 64. -/
theorem unit_same (a g : Fin 64 → EReal) (l : Fin 64) : unit a g l = Cert.FwdAttnRef.unit a g l := by
  rw [unit, Cert.FwdAttnRef.unit, Cert.FwdAttnRef.bits_64, bits_64th, Ideal.div_coe (show (64 : ℝ) ≠ 0 by norm_num)]

theorem unit_scaled (a g : Fin 64 → EReal) (c : EReal) (l : Fin 64) : unit a (fun l => g l * c) l = Cert.FwdAttnRef.unit a g l * c := by
  rw [unit_same]
  unfold Cert.FwdAttnRef.unit
  exact (mul_assoc _ _ _).symm

variable {x0 : FVec Ideal S8192x1536 .bf16} {x1 x2 : FVec Ideal S1x64 .f32} {x3 : FVec Ideal S1x16 .f32}

/-- The loads of one head pair of block `n` of sequence `b`. -/
structure Loads (x0 : FVec Ideal S8192x1536 .bf16) (x1 x2 : FVec Ideal S1x64 .f32) (x3 : FVec Ideal S1x16 .f32) (b : Fin 4) (n : Fin 16)
    (i : Fin 8) (kx ky vx vy qx : Vec Ideal S128x128 .bf16) (v9 v13 : Vec Ideal S1x128 .f32) (b6 : Vec Ideal S1x1x256x128 .f32)
    (s0 s1 : Elt Ideal .f32) : Prop where
  kx : ∀ r l : Fin 128, kx (ix2 r l) = x0 (ix2 ⟨b.val * 2048 + ((n.val - 1) * 128 + r.val), by omega⟩ ⟨1024 + (i.val / 4 * 128 + l.val), by omega⟩)
  ky : ∀ r l : Fin 128, ky (ix2 r l) = x0 (ix2 ⟨b.val * 2048 + (n.val * 128 + r.val), by omega⟩ ⟨1024 + (i.val / 4 * 128 + l.val), by omega⟩)
  vx : ∀ r l : Fin 128, vx (ix2 r l) = x0 (ix2 ⟨b.val * 2048 + ((n.val - 1) * 128 + r.val), by omega⟩ ⟨1280 + (i.val / 4 * 128 + l.val), by omega⟩)
  vy : ∀ r l : Fin 128, vy (ix2 r l) = x0 (ix2 ⟨b.val * 2048 + (n.val * 128 + r.val), by omega⟩ ⟨1280 + (i.val / 4 * 128 + l.val), by omega⟩)
  qx : ∀ r l : Fin 128, qx (ix2 r l) = x0 (ix2 ⟨b.val * 2048 + (n.val * 128 + r.val), by omega⟩ ⟨i.val * 128 + l.val, by omega⟩)
  v9 : ∀ (P : Fin 2) (l : Fin 64), v9 (ix2 0 ⟨P.val * 64 + l.val, by omega⟩) = x1 (ix2 0 l)
  v13 : ∀ (P : Fin 2) (l : Fin 64), v13 (ix2 0 ⟨P.val * 64 + l.val, by omega⟩) = x2 (ix2 0 l)
  b6 : ∀ (x : Fin 256) (r : Fin 128), b6 (ix4 0 0 x r) = biasAt (if n.val = 0 then 0 else 1) i x r
  s0 : s0 = x3 (ix2 0 ⟨i.val * 2 + 0, by omega⟩)
  s1 : s1 = x3 (ix2 0 ⟨i.val * 2 + 1, by omega⟩)

/-- A key head's column in a tile of two heads. -/
theorem col_eq {i : Fin 8} {P : Fin 2} (hP : P.val = i.val / 2 % 2) {kh : Fin 4} (hk : kh.val = i.val / 2) (l : Fin 64) (o : ℕ) :
    o + (i.val / 4 * 128 + (P.val * 64 + l.val)) = o + (kh.val * 64 + l.val) := by omega

section
variable {b : Fin 4} {n : Fin 16} {i : Fin 8} {kx ky vx vy qx : Vec Ideal S128x128 .bf16} {v9 v13 : Vec Ideal S1x128 .f32}
  {b6 : Vec Ideal S1x1x256x128 .f32} {s0 s1 : Elt Ideal .f32} (L : Loads x0 x1 x2 x3 b n i kx ky vx vy qx v9 v13 b6 s0 s1)
  {P : Fin 2} (hP : P.val = i.val / 2 % 2) {kh : Fin 4} (hk : kh.val = i.val / 2)
include L hP hk

theorem key_x (j : Fin 128) (l : Fin 64) : keyOf kx ky v13 P ⟨j.val, by omega⟩ l = uk x0 x2 b (before n j) kh l := by
  rw [keyOf, unit_same, uk]
  have e1 : lanes P (two kx ky ⟨j.val, by omega⟩) = krow x0 b (before n j) kh := by
    funext l
    rw [lanes, two, dif_pos j.isLt, L.kx, krow]
    exact congrArg x0 (congrArg₂ ix2 (Fin.ext rfl) (Fin.ext (col_eq hP hk l 1024)))
  have e2 : (lanes P fun l => v13 (ix2 0 l)) = fun l => x2 (ix2 0 l) := funext fun l => L.v13 P l
  rw [e1, e2]

theorem key_y (j : Fin 128) (l : Fin 64) : keyOf kx ky v13 P ⟨128 + j.val, by omega⟩ l = uk x0 x2 b (inside n j) kh l := by
  rw [keyOf, unit_same, uk]
  have e1 : lanes P (two kx ky ⟨128 + j.val, by omega⟩) = krow x0 b (inside n j) kh := by
    funext l
    rw [lanes, two, dif_neg (by dsimp only; omega), show (⟨(⟨128 + j.val, by omega⟩ : Fin 256).val - 128, by dsimp only; omega⟩ : Fin 128) = j from
      Fin.ext (by dsimp only; omega), L.ky, krow]
    exact congrArg x0 (congrArg₂ ix2 (Fin.ext rfl) (Fin.ext (col_eq hP hk l 1024)))
  have e2 : (lanes P fun l => v13 (ix2 0 l)) = fun l => x2 (ix2 0 l) := funext fun l => L.v13 P l
  rw [e1, e2]

theorem val_x (j : Fin 128) (l : Fin 64) : valOf vx vy P ⟨j.val, by omega⟩ l = vrow x0 b (before n j) kh l := by
  rw [valOf, lanes, two, dif_pos j.isLt, L.vx, vrow]
  exact congrArg x0 (congrArg₂ ix2 (Fin.ext rfl) (Fin.ext (col_eq hP hk l 1280)))

theorem val_y (j : Fin 128) (l : Fin 64) : valOf vx vy P ⟨128 + j.val, by omega⟩ l = vrow x0 b (inside n j) kh l := by
  rw [valOf, lanes, two, dif_neg (by dsimp only; omega), show (⟨(⟨128 + j.val, by omega⟩ : Fin 256).val - 128, by dsimp only; omega⟩ : Fin 128) = j from
      Fin.ext (by dsimp only; omega), L.vy, vrow]
  exact congrArg x0 (congrArg₂ ix2 (Fin.ext rfl) (Fin.ext (col_eq hP hk l 1280)))

omit hP
variable {g : Fin 4} (e : Fin 2) (hg : g.val = i.val % 2 * 2 + e.val)
include hg

theorem query (r : Fin 128) (l : Fin 64) :
    qry qx v9 (ix2 r ⟨e.val * 64 + l.val, by omega⟩) = uq x0 x1 b (inside n r) kh g l * ((1 / 8 : ℝ) : EReal) := by
  rw [qry_at, bits_eighth]
  refine (unit_scaled _ (lanes e fun l => v9 (ix2 0 l)) _ l).trans ?_
  have e1 : (lanes e fun l => qx (ix2 r l)) = qrow x0 b (inside n r) kh g := by
    funext l
    rw [lanes, L.qx, qrow]
    exact congrArg x0 (congrArg₂ ix2 (Fin.ext rfl) (Fin.ext (by dsimp only; omega)))
  have e2 : (lanes e fun l => v9 (ix2 0 l)) = fun l => x1 (ix2 0 l) := funext fun l => L.v9 e l
  rw [e1, e2, uq]

theorem incline_eq : incline (2 * i.val + e.val) = slope kh g := by
  show _ = (Real.sqrt (2 ^ (kh.val * 4 + g.val + 1)))⁻¹
  rw [incline, show kh.val * 4 + g.val + 1 = 2 * i.val + e.val + 1 by omega]

include hP

theorem score_eq (r j : Fin 128) : score (keyOf kx ky v13 P) (qry qx v9) b6 e r j = scoreOf x0 x1 x2 b n kh g r j := by
  have hb : b6 (ix4 0 0 ⟨e.val * 128 + j.val, by omega⟩ r)
      = if n.val = 0 ∧ r.val < j.val then ⊥
        else -(slope kh g : EReal) * (((r.val : ℝ) + (if r.val < j.val then 128 else 0) - (j.val : ℝ) : ℝ) : EReal) := by
    rw [L.b6, biasAt, back]
    dsimp only
    rw [show (e.val * 128 + j.val) % 128 = j.val by omega, show (e.val * 128 + j.val) / 128 = e.val by omega, incline_eq L hk e hg]
    by_cases hn : n.val = 0 <;> simp [hn]
  have sum (K : Fin 64 → EReal) : (∑ l : Fin 64, K l * qry qx v9 (ix2 r ⟨e.val * 64 + l.val, by omega⟩))
      = (∑ l : Fin 64, K l * uq x0 x1 b (inside n r) kh g l) * ((1 / 8 : ℝ) : EReal) := by
    rw [sum_mul_coe _ _ (by norm_num)]
    exact Finset.sum_congr rfl fun l _ => (congrArg (K l * ·) (query (P := P) L hk e hg r l)).trans (mul_assoc _ _ _).symm
  rw [score, hb, scoreOf]
  simp only [key_x L hP hk, key_y L hP hk]
  by_cases hj : r < j
  · have hj' : r.val < j.val := hj
    by_cases hn : n.val = 0
    · rw [if_pos hj, if_pos hj, if_pos ⟨hn, hj'⟩, if_pos hn, EReal.add_bot]
    · rw [if_pos hj, if_pos hj, if_neg (fun h => hn h.1), if_neg hn, if_pos hj']
      exact congrArg (· + _) (sum _)
  · have hj' : ¬ r.val < j.val := hj
    rw [if_neg hj, if_neg hj, if_neg (fun h => hj' h.2), if_neg hj', add_zero]
    exact congrArg (· + _) (sum _)

/-- One head pair is the reference's rows. -/
theorem pair_ref (h1 : ∀ i, IsReal (x1 i)) (h2 : ∀ i, IsReal (x2 i)) (h3 : ∀ i, IsReal (x3 i))
    {k v : FVec Ideal S512x128 .bf16} (hks : Spread k (keyOf kx ky v13 P)) (hvs : Spread v (valOf vx vy P))
    (r : Fin 128) (d : Fin 64) (p : Fin 8192) (c : Fin 1024) (hp : p.val = b.val * 2048 + n.val * 128 + r.val)
    (hc : c.val = i.val * 128 + (e.val * 64 + d.val)) :
    pair k v (qry qx v9) b6 s0 s1 (ix2 r ⟨e.val * 64 + d.val, by omega⟩)
      = Cert.FwdAttnRefIdeal.Read.val_main_v127 (F := Ideal) x0 x1 x2 x3 (ix2 p c) := by
  rw [Cert.FwdAttnRef.row_at x0 h1 h2 h3 b n r kh g d p c hp (by omega), L.s0, L.s1]
  refine (pair_at hks hvs (qry qx v9) b6 (fun e : Fin 2 => x3 (ix2 0 ⟨i.val * 2 + e.val, by omega⟩)) r e d).trans ?_
  have hS : score (keyOf kx ky v13 P) (qry qx v9) b6 e r = scoreOf x0 x1 x2 b n kh g r := funext fun j => score_eq L hP hk e hg r j
  have hs : (x3 (ix2 0 ⟨i.val * 2 + e.val, by omega⟩) : EReal) = x3 (ix2 0 ⟨kh.val * 4 + g.val, by omega⟩) :=
    congrArg x3 (congrArg₂ ix2 rfl (Fin.ext (by dsimp only; omega)))
  have hW : (fun j : Fin 128 => if r < j then valOf vx vy P ⟨j.val, by omega⟩ d else valOf vx vy P ⟨128 + j.val, by omega⟩ d)
      = valueOf x0 b n kh d r := by
    funext j
    rw [val_x L hP hk, val_y L hP hk, valueOf]
  rw [hS, hW]
  exact congrArg (fun z => attend _ z _) hs

end

/-- The same over a tile's column. -/
theorem tile_ref {b : Fin 4} {n : Fin 16} {i : Fin 8} {kx ky vx vy qx : Vec Ideal S128x128 .bf16} {v9 v13 : Vec Ideal S1x128 .f32}
    {b6 : Vec Ideal S1x1x256x128 .f32} {s0 s1 : Elt Ideal .f32} (L : Loads x0 x1 x2 x3 b n i kx ky vx vy qx v9 v13 b6 s0 s1)
    (h1 : ∀ i, IsReal (x1 i)) (h2 : ∀ i, IsReal (x2 i)) (h3 : ∀ i, IsReal (x3 i)) {P : Fin 2} (hP : P.val = i.val / 2 % 2)
    {k v : FVec Ideal S512x128 .bf16} (hks : Spread k (keyOf kx ky v13 P)) (hvs : Spread v (valOf vx vy P))
    (r l : Fin 128) (p : Fin 8192) (c : Fin 1024) (hp : p.val = b.val * 2048 + n.val * 128 + r.val) (hc : c.val = i.val * 128 + l.val) :
    pair k v (qry qx v9) b6 s0 s1 (ix2 r l) = Cert.FwdAttnRefIdeal.Read.val_main_v127 (F := Ideal) x0 x1 x2 x3 (ix2 p c) := by
  have hl : l = ⟨(⟨l.val / 64, by omega⟩ : Fin 2).val * 64 + (⟨l.val % 64, by omega⟩ : Fin 64).val, by dsimp only; omega⟩ :=
    Fin.ext (by dsimp only; omega)
  have := pair_ref L hP (kh := ⟨i.val / 2, by omega⟩) (g := ⟨i.val % 2 * 2 + l.val / 64, by omega⟩) rfl ⟨l.val / 64, by omega⟩ rfl h1 h2 h3
    hks hvs r ⟨l.val % 64, by omega⟩ p c hp (by dsimp only; omega)
  rw [← hl] at this
  exact this

end Cert.FwdAttnValue

end
-- ==== Proof.FwdAttnLoop.lean ====
/- The forward attention's loop: every trip's stores are the reference's rows of one block. -/
module

public import proofs.«01_k».proof.Proof.FwdAttnJoin

@[expose] public section

noncomputable section

namespace Cert.FwdAttnValue

open Cert.FwdAttnIdeal Cert.FwdAttnIdeal.Gen Idealize.ShloMosaic Idealize.ShloMosaic.TcCoe Idealize.SL.Sem Cert.Common

/-- The offsets of the loads from the block before, in closed form. -/
theorem off1_eq : ∀ k : Fin k0_t1_loop.trips, k0_off1 k = ![128 * (k.val - 1), 1024] := by decide +kernel
theorem off3_eq : ∀ k : Fin k0_t1_loop.trips, k0_off3 k = ![128 * (k.val - 1), 1280] := by decide +kernel
theorem off17_eq : ∀ k : Fin k0_t1_loop.trips, k0_off17 k = ![128 * (k.val - 1), 1152] := by decide +kernel
theorem off19_eq : ∀ k : Fin k0_t1_loop.trips, k0_off19 k = ![128 * (k.val - 1), 1408] := by decide +kernel

section
variable (x0 : FVec Ideal S8192x1536 .bf16) (x1 x2 : FVec Ideal S1x64 .f32) (x3 : FVec Ideal S1x16 .f32) (b : Fin 4)

/-- The reference's rows of sequence `b`. -/
def rowsOf (y : S2048x1024.Idx) : EReal :=
  Cert.FwdAttnRefIdeal.Read.val_main_v127 (F := Ideal) x0 x1 x2 x3
    (ix2 ⟨b.val * 2048 + (y 0).val, by have : (y 0).val < 2048 := (y 0).isLt; omega⟩ (y 1))

variable (arg1 : Memref sig .tc .smem S1x16 .f32) (arg2 : Memref sig .tc .vmem S2048x1536 .bf16) (arg6 : Memref sig .tc .vmem S2x8x256x128 .f32)
  (v9 v13 : Vec Ideal S1x128 .f32) (X1 : BufTy.Contents (Elt Ideal) arg1.view.ty) (X2 : BufTy.Contents (Elt Ideal) arg2.view.ty)
  (X6 : BufTy.Contents (Elt Ideal) arg6.view.ty)

/-- What the loop's buffers hold. -/
structure Held : Prop where
  s : ∀ h : Fin 16, arg1.view.read (Elt Ideal) X1 (ix2 0 h) = x3 (ix2 0 h)
  x : ∀ (r : Fin 2048) (l : Fin 1536), arg2.view.read (Elt Ideal) X2 (ix2 r l) = x0 (ix2 ⟨b.val * 2048 + r.val, by omega⟩ l)
  b6 : arg6.view.read (Elt Ideal) X6 = Bias
  v9 : ∀ (P : Fin 2) (l : Fin 64), v9 (ix2 0 ⟨P.val * 64 + l.val, by omega⟩) = x1 (ix2 0 l)
  v13 : ∀ (P : Fin 2) (l : Fin 64), v13 (ix2 0 ⟨P.val * 64 + l.val, by omega⟩) = x2 (ix2 0 l)

variable {x0 x1 x2 x3 b arg1 arg2 arg6 v9 v13 X1 X2 X6} (H : Held x0 x1 x2 x3 b arg1 arg2 arg6 v9 v13 X1 X2 X6)
include H

theorem ld2_at {off : Fin 2 → ℕ} (h : ∀ a, off a + S128x128.size a ≤ S2048x1536.size a) {o0 o1 : ℕ} (ho : off = ![o0, o1])
    (r l : Fin 128) (R : Fin 8192) (C : Fin 1536) (hR : R.val = b.val * 2048 + (o0 + r.val)) (hC : C.val = o1 + l.val) :
    ld2 arg2 X2 h (ix2 r l) = x0 (ix2 R C) := by
  subst ho
  have a0 : o0 + 128 ≤ 2048 := h 0
  have a1 : o1 + 128 ≤ 1536 := h 1
  refine (congrArg (arg2.view.read (Elt Ideal) X2) (eq_ix2_of (a := ⟨o0 + r.val, by omega⟩) (b := ⟨o1 + l.val, by omega⟩)
    (by show o0 + 1 * r.val = _; dsimp only; omega) (by show o1 + 1 * l.val = _; dsimp only; omega))).trans ((H.x _ _).trans ?_)
  exact congrArg x0 (congrArg₂ ix2 (Fin.ext hR.symm) (Fin.ext hC.symm))

theorem ld6_at {off : Fin 4 → ℕ} (h : ∀ a, off a + S1x1x256x128.size a ≤ S2x8x256x128.size a) {q : ℕ} {i : Fin 8}
    (ho : off = ![q, i.val, 0, 0]) (x : Fin 256) (r : Fin 128) (q' : Fin 2) (hq : q'.val = q) :
    ld6 arg6 X6 h (ix4 0 0 x r) = biasAt q' i x r := by
  subst ho
  show arg6.view.read (Elt Ideal) X6 _ = _
  rw [H.b6, Bias]
  congr 1
  · exact Fin.ext (by show q + 1 * 0 = _; omega)
  · exact Fin.ext (by show 0 + 1 * x.val = _; omega)
  · exact Fin.ext (by show 0 + 1 * r.val = _; omega)

theorem ld1_at {off : Fin 2 → ℕ} (h : ∀ a, off a + S1x1.size a ≤ S1x16.size a) {o : Fin 16} (ho : off = ![0, o.val]) :
    ld1 arg1 X1 h = x3 (ix2 0 o) := by
  subst ho
  exact (congrArg (arg1.view.read (Elt Ideal) X1) (eq_ix2_of (a := (0 : Fin 1)) (b := o) (by show 0 + 1 * 0 = 0; rfl)
    (by show o.val + 1 * 0 = _; omega))).trans (H.s o)

/-- The loads of head pair `i` in trip `k`. -/
theorem loads (k : Fin k0_t1_loop.trips) (n : Fin 16) (hn : n.val = k.val) (i : Fin 8) {oa ob oc od oq : Fin 2 → ℕ} {o6 : Fin 4 → ℕ}
    {p0 p1 : Fin 2 → ℕ} {ck cv cq : ℕ} (ha ho hc hd hq h6 h0 h1) (ea : oa = ![128 * (k.val - 1), ck]) (eb : ob = ![128 * k.val, ck])
    (ec : oc = ![128 * (k.val - 1), cv]) (ed : od = ![128 * k.val, cv]) (eq : oq = ![128 * k.val, cq]) (e6 : o6 = ![min k.val 1, i.val, 0, 0])
    (e0 : p0 = ![0, i.val * 2]) (e1 : p1 = ![0, i.val * 2 + 1])
    (hck : ck = 1024 + i.val / 4 * 128) (hcv : cv = 1280 + i.val / 4 * 128) (hcq : cq = i.val * 128) :
    Loads x0 x1 x2 x3 b n i (ld2 arg2 X2 (off := oa) ha) (ld2 arg2 X2 (off := ob) ho) (ld2 arg2 X2 (off := oc) hc)
      (ld2 arg2 X2 (off := od) hd) (ld2 arg2 X2 (off := oq) hq) v9 v13 (ld6 arg6 X6 (off := o6) h6) (ld1 arg1 X1 (off := p0) h0)
      (ld1 arg1 X1 (off := p1) h1) where
  kx r l := ld2_at H ha ea r l _ _ (by dsimp only; omega) (by dsimp only; omega)
  ky r l := ld2_at H ho eb r l _ _ (by dsimp only; omega) (by dsimp only; omega)
  vx r l := ld2_at H hc ec r l _ _ (by dsimp only; omega) (by dsimp only; omega)
  vy r l := ld2_at H hd ed r l _ _ (by dsimp only; omega) (by dsimp only; omega)
  qx r l := ld2_at H hq eq r l _ _ (by dsimp only; omega) (by dsimp only; omega)
  v9 := H.v9
  v13 := H.v13
  b6 x r := ld6_at H h6 e6 x r _ (by by_cases h : n.val = 0 <;> simp [h] <;> omega)
  s0 := ld1_at H h0 (o := ⟨i.val * 2 + 0, by omega⟩) e0
  s1 := ld1_at H h1 (o := ⟨i.val * 2 + 1, by omega⟩) e1

end

/-- A stored tile of head pair `i` is the reference's rows there. -/
theorem stored {x0 : FVec Ideal S8192x1536 .bf16} {x1 x2 : FVec Ideal S1x64 .f32} {x3 : FVec Ideal S1x16 .f32}
    {b : Fin 4} {n : Fin 16} {i : Fin 8} {kx ky vx vy qx : Vec Ideal S128x128 .bf16} {v9 v13 : Vec Ideal S1x128 .f32}
    {b6 : Vec Ideal S1x1x256x128 .f32} {s0 s1 : Elt Ideal .f32} (L : Loads x0 x1 x2 x3 b n i kx ky vx vy qx v9 v13 b6 s0 s1)
    (h1 : ∀ i, IsReal (x1 i)) (h2 : ∀ i, IsReal (x2 i)) (h3 : ∀ i, IsReal (x3 i)) (P : Fin 2) (hP : P.val = i.val / 2 % 2)
    {k v : FVec Ideal S512x128 .bf16} (hks : Spread k (keyOf kx ky v13 P)) (hvs : Spread v (valOf vx vy P))
    {off : Fin 2 → ℕ} (h : ∀ a, off a + S128x128.size a ≤ S2048x1024.size a) {o0 o1 : ℕ} (ho : off = ![o0, o1])
    (e0 : o0 = 128 * n.val) (e1 : o1 = i.val * 128) (x : S128x128.Idx) :
    pair k v (qry qx v9) b6 s0 s1 x = rowsOf x0 x1 x2 x3 b ((Rect.unit (s := S2048x1024) off S128x128.size h).emb x) := by
  subst ho
  obtain ⟨r, l, rfl⟩ : ∃ (r l : Fin 128), x = ix2 r l := ⟨x 0, x 1, eq_ix2 x⟩
  refine tile_ref L h1 h2 h3 hP hks hvs r l _ _ ?_ ?_
  · show b.val * 2048 + (o0 + 1 * r.val) = _
    omega
  · show o1 + 1 * l.val = _
    omega

section
variable {x0 : FVec Ideal S8192x1536 .bf16} {x1 x2 : FVec Ideal S1x64 .f32} {x3 : FVec Ideal S1x16 .f32} {b : Fin 4}
  (h1 : ∀ i, IsReal (x1 i)) (h2 : ∀ i, IsReal (x2 i)) (h3 : ∀ i, IsReal (x3 i))
  (𝒱 : Variants) (c : Dev nD) (bd : Option 𝒱.V) (co : grid0.Coords) (arg1 : Memref sig .tc .smem S1x16 .f32) (harg1 : arg1.IsWhole)
  (arg2 : Memref sig .tc .vmem S2048x1536 .bf16) (harg2 : arg2.IsWhole) (arg3 : Memref sig .tc .vmem S1x128 .f32) (harg3 : arg3.IsWhole)
  (arg4 : Memref sig .tc .vmem S1x128 .f32) (harg4 : arg4.IsWhole) (arg5 : Memref sig .tc .vmem S2048x1024 .bf16) (harg5 : arg5.IsWhole)
  (arg6 : Memref sig .tc .vmem S2x8x256x128 .f32) (harg6 : arg6.IsWhole) (v9 v13 : Vec Ideal S1x128 .f32)
  (X1 : BufTy.Contents (Elt Ideal) arg1.view.ty) (X2 : BufTy.Contents (Elt Ideal) arg2.view.ty) (X6 : BufTy.Contents (Elt Ideal) arg6.view.ty)
  (H : Held x0 x1 x2 x3 b arg1 arg2 arg6 v9 v13 X1 X2 X6)
include h1 h2 h3 H

theorem trip_ok (k : Fin k0_t1_loop.trips)
    (p) (hp : p ∈ tripL_k0_t1 (F := Ideal) 𝒱 c bd co arg1 harg1 arg2 harg2 arg3 harg3 arg4 harg4 arg5 harg5 arg6 harg6 v9 v13 X1 X2 X6 k)
    (x : p.1.shape.Idx) : p.2 x = rowsOf x0 x1 x2 x3 b (p.1.emb x) := by
  have hk : k.val < 16 := Nat.lt_of_lt_of_le k.isLt k0_t1_abs.2.1
  unfold tripL_k0_t1 trip_k0_t1 at hp
  dsimp only at hp
  simp only [List.mem_cons, List.not_mem_nil, or_false] at hp
  rcases hp with rfl | rfl | rfl | rfl | rfl | rfl | rfl | rfl
  · refine (congrFun (piece7 arg1 arg2 arg6 v9 v13 X1 X2 X6 k) x).trans (stored (loads H k ⟨k.val, hk⟩ rfl 7 _ _ _ _ _ _ _ _
      (off17_eq k) (k0_off18_eq k) (off19_eq k) (k0_off20_eq k) (k0_off30_eq k) (k0_off31_eq k) rfl rfl rfl rfl rfl)
      h1 h2 h3 1 rfl (keys1_spread _ _ _) (vals1_spread _ _) (k0_off32_inb k) (k0_off32_eq k) rfl rfl x)
  · refine (congrFun (piece6 arg1 arg2 arg6 v9 v13 X1 X2 X6 k) x).trans (stored (loads H k ⟨k.val, hk⟩ rfl 6 _ _ _ _ _ _ _ _
      (off17_eq k) (k0_off18_eq k) (off19_eq k) (k0_off20_eq k) (k0_off27_eq k) (k0_off28_eq k) rfl rfl rfl rfl rfl)
      h1 h2 h3 1 rfl (keys1_spread _ _ _) (vals1_spread _ _) (k0_off29_inb k) (k0_off29_eq k) rfl rfl x)
  · refine (congrFun (piece5 arg1 arg2 arg6 v9 v13 X1 X2 X6 k) x).trans (stored (loads H k ⟨k.val, hk⟩ rfl 5 _ _ _ _ _ _ _ _
      (off17_eq k) (k0_off18_eq k) (off19_eq k) (k0_off20_eq k) (k0_off24_eq k) (k0_off25_eq k) rfl rfl rfl rfl rfl)
      h1 h2 h3 0 rfl (keys0_spread _ _ _) (vals0_spread _ _) (k0_off26_inb k) (k0_off26_eq k) rfl rfl x)
  · refine (congrFun (piece4 arg1 arg2 arg6 v9 v13 X1 X2 X6 k) x).trans (stored (loads H k ⟨k.val, hk⟩ rfl 4 _ _ _ _ _ _ _ _
      (off17_eq k) (k0_off18_eq k) (off19_eq k) (k0_off20_eq k) (k0_off21_eq k) (k0_off22_eq k) rfl rfl rfl rfl rfl)
      h1 h2 h3 0 rfl (keys0_spread _ _ _) (vals0_spread _ _) (k0_off23_inb k) (k0_off23_eq k) rfl rfl x)
  · refine (congrFun (piece3 arg1 arg2 arg6 v9 v13 X1 X2 X6 k) x).trans (stored (loads H k ⟨k.val, hk⟩ rfl 3 _ _ _ _ _ _ _ _
      (off1_eq k) (k0_off2_eq k) (off3_eq k) (k0_off4_eq k) (k0_off14_eq k) (k0_off15_eq k) rfl rfl rfl rfl rfl)
      h1 h2 h3 1 rfl (keys1_spread _ _ _) (vals1_spread _ _) (k0_off16_inb k) (k0_off16_eq k) rfl rfl x)
  · refine (congrFun (piece2 arg1 arg2 arg6 v9 v13 X1 X2 X6 k) x).trans (stored (loads H k ⟨k.val, hk⟩ rfl 2 _ _ _ _ _ _ _ _
      (off1_eq k) (k0_off2_eq k) (off3_eq k) (k0_off4_eq k) (k0_off11_eq k) (k0_off12_eq k) rfl rfl rfl rfl rfl)
      h1 h2 h3 1 rfl (keys1_spread _ _ _) (vals1_spread _ _) (k0_off13_inb k) (k0_off13_eq k) rfl rfl x)
  · refine (congrFun (piece1 arg1 arg2 arg6 v9 v13 X1 X2 X6 k) x).trans (stored (loads H k ⟨k.val, hk⟩ rfl 1 _ _ _ _ _ _ _ _
      (off1_eq k) (k0_off2_eq k) (off3_eq k) (k0_off4_eq k) (k0_off8_eq k) (k0_off9_eq k) rfl rfl rfl rfl rfl)
      h1 h2 h3 0 rfl (keys0_spread _ _ _) (vals0_spread _ _) (k0_off10_inb k) (k0_off10_eq k) rfl rfl x)
  · refine (congrFun (piece0 arg1 arg2 arg6 v9 v13 X1 X2 X6 k) x).trans (stored (loads H k ⟨k.val, hk⟩ rfl 0 _ _ _ _ _ _ _ _
      (off1_eq k) (k0_off2_eq k) (off3_eq k) (k0_off4_eq k) (k0_off5_eq k) (k0_off6_eq k) rfl rfl rfl rfl rfl)
      h1 h2 h3 0 rfl (keys0_spread _ _ _) (vals0_spread _ _) (k0_off7_inb k) (k0_off7_eq k) rfl rfl x)

theorem loop_ok (K : ℕ) (hK : K ≤ k0_t1_loop.trips)
    (p) (hp : p ∈ pb_k0_t1 (F := Ideal) 𝒱 c bd co arg1 harg1 arg2 harg2 arg3 harg3 arg4 harg4 arg5 harg5 arg6 harg6 v9 v13 X1 X2 X6 K)
    (x : p.1.shape.Idx) : p.2 x = rowsOf x0 x1 x2 x3 b (p.1.emb x) := by
  induction K with
  | zero => exact absurd hp (by rw [pb_k0_t1.eq_1]; exact List.not_mem_nil)
  | succ K ih =>
    rw [pb_k0_t1_succ 𝒱 c bd co arg1 harg1 arg2 harg2 arg3 harg3 arg4 harg4 arg5 harg5 arg6 harg6 v9 v13 X1 X2 X6 ⟨K, by omega⟩] at hp
    rcases List.mem_append.1 hp with h | h
    · exact trip_ok h1 h2 h3 𝒱 c bd co arg1 harg1 arg2 harg2 arg3 harg3 arg4 harg4 arg5 harg5 arg6 harg6 v9 v13 X1 X2 X6 H _ p h x
    · exact ih (by omega) h

end

end Cert.FwdAttnValue

end
-- ==== Proof.FwdAttn.lean ====
/- The value of the attention's forward call: grid point `t` computes sequence `t`. -/
module

public import proofs.«01_k».proof.Defs
public import proofs.«01_k».proof.Proof.FwdAttnLoop
public import proofs.«01_k».proof.Proof.Gen.FwdAttnRefIdeal.Run
public import Idealize.ShloMosaic.Lib.StableHlo.RunClose

@[expose] public section

noncomputable section

namespace Cert.FwdAttnValue

open Cert.FwdAttnIdeal Cert.FwdAttnIdeal.Gen Idealize.ShloMosaic Idealize.ShloMosaic.TcCoe Idealize.SL.Sem Cert.Common
open Cert.FwdAttnRefIdeal.Read

variable (m : (ℓ : Loc nD τ sig) → Buf (Elt Ideal) ℓ)

/-- Where the blocks lie: sequence `t`, the sinks and the gains whole. -/
theorem idx : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

abbrev X0 (c : Dev nD) : FVec Ideal S8192x1536 .bf16 := m (c.tc.loc main_arg0)
abbrev X1 (c : Dev nD) : FVec Ideal S1x64 .f32 := m (c.tc.loc main_arg1)
abbrev X2 (c : Dev nD) : FVec Ideal S1x64 .f32 := m (c.tc.loc main_arg2)
abbrev X3 (c : Dev nD) : FVec Ideal S1x16 .f32 := m (c.tc.loc main_arg3)

/-- The gains twice over, as the call reads them. -/
theorem twice (g : FVec Ideal S1x64 .f32) (P : Fin 2) (l : Fin 64) :
    (concatenate S1x128 1 [⟨S1x64, g⟩, ⟨S1x64, g⟩] concatenates_S1x64_S1x64_S1x128_d1 : FVec Ideal S1x128 .f32)
      (ix2 0 ⟨P.val * 64 + l.val, by omega⟩) = g (ix2 0 l) := by
  match P with
  | ⟨0, _⟩ => pointwise []
  | ⟨1, _⟩ => pointwise []

theorem gq_eq (c : Dev nD) : V m c main_v0 = concatenate S1x128 1 [⟨S1x64, X1 m c⟩, ⟨S1x64, X1 m c⟩] concatenates_S1x64_S1x64_S1x128_d1 := by
  show StableHlo.after hostOps0 _ (Proc.devRef .tc main_v0) = _
  after_results_simp_entrywise
theorem gk_eq (c : Dev nD) : V m c main_v1 = concatenate S1x128 1 [⟨S1x64, X2 m c⟩, ⟨S1x64, X2 m c⟩] concatenates_S1x64_S1x64_S1x128_d1 := by
  show StableHlo.after hostOps0 _ (Proc.devRef .tc main_v1) = _
  after_results_simp_entrywise; rfl

theorem t_lt (t : Fin cfg0.N) : t.val < 4 := lt_of_lt_of_eq t.isLt N_0

theorem sink_pt (c : Dev nD) (t : Fin cfg0.N) (h : Fin 16) : iblk m c 0 t (ix2 0 h) = X3 m c (ix2 0 h) := by
  blk_point [iblk, V, idx t]
theorem qkv_pt (c : Dev nD) (t : Fin cfg0.N) (r : Fin 2048) (l : Fin 1536) :
    iblk m c 1 t (ix2 r l) = X0 m c (ix2 ⟨t.val * 2048 + r.val, by have := t_lt t; omega⟩ l) := by
  blk_point [iblk, V, idx t]
theorem emb_q (t : Fin cfg0.N) (l : Fin 128) : (win0_2.blk t).view.emb (ix2 0 l) = ix2 0 l := by blk_ext [idx t]
theorem emb_k (t : Fin cfg0.N) (l : Fin 128) : (win0_3.blk t).view.emb (ix2 0 l) = ix2 0 l := by blk_ext [idx t]
theorem gq_pt (c : Dev nD) (t : Fin cfg0.N) (P : Fin 2) (l : Fin 64) :
    iblk m c 2 t (ix2 0 ⟨P.val * 64 + l.val, by omega⟩) = X1 m c (ix2 0 l) :=
  (congrArg (V m c main_v0) (emb_q t _)).trans ((congrFun (gq_eq m c) _).trans (twice _ P l))
theorem gk_pt (c : Dev nD) (t : Fin cfg0.N) (P : Fin 2) (l : Fin 64) :
    iblk m c 3 t (ix2 0 ⟨P.val * 64 + l.val, by omega⟩) = X2 m c (ix2 0 l) :=
  (congrArg (V m c main_v1) (emb_k t _)).trans ((congrFun (gk_eq m c) _).trans (twice _ P l))

abbrev seqOf (t : Fin cfg0.N) : Fin 4 := ⟨t.val, t_lt t⟩

/-- What the loop finds in its buffers at point `t`. -/
theorem held (c : Dev nD) (t : Fin cfg0.N) (Y : BufTy.Contents (Elt Ideal) scM0_0.view.ty) (hY : scM0_0.view.read (Elt Ideal) Y = Bias)
    (h2 h3) :
    Held (X0 m c) (X1 m c) (X2 m c) (X3 m c) (seqOf t) (ms0_0 t) (ms0_1 t) scM0_0
      (View.readAt (Elt Ideal) (ms0_2 t).view (Rect.unit (s := S1x128) ![0, 0] ![1, 128] h2).toLoadRect ((hs0_2 t).unread (iblk m c 2 t)))
      (View.readAt (Elt Ideal) (ms0_3 t).view (Rect.unit (s := S1x128) ![0, 0] ![1, 128] h3).toLoadRect ((hs0_3 t).unread (iblk m c 3 t)))
      ((hs0_0 t).unread (iblk m c 0 t)) ((hs0_1 t).unread (iblk m c 1 t)) Y where
  s h := (congrFun ((hs0_0 t).read_unread (iblk m c 0 t)) _).trans (sink_pt m c t h)
  x r l := (congrFun ((hs0_1 t).read_unread (iblk m c 1 t)) _).trans (qkv_pt m c t r l)
  b6 := hY
  v9 P l := by
    refine (congrFun ((hs0_2 t).read_unread (iblk m c 2 t)) _).trans ?_
    exact (congrArg (iblk m c 2 t) (eq_ix2_of (by rfl) (by show 0 + 1 * _ = _; simp))).trans (gq_pt m c t P l)
  v13 P l := by
    refine (congrFun ((hs0_3 t).read_unread (iblk m c 3 t)) _).trans ?_
    exact (congrArg (iblk m c 3 t) (eq_ix2_of (by rfl) (by show 0 + 1 * _ = _; simp))).trans (gk_pt m c t P l)

/-- The gains and the sinks are real numbers. -/
structure AllReal (c : Dev nD) : Prop where
  q : ∀ i, IsReal (X1 m c i)
  k : ∀ i, IsReal (X2 m c i)
  s : ∀ i, IsReal (X3 m c i)

theorem point_A (c : Dev nD) (A : AllReal m c) (t : Fin cfg0.N) (h : t.val % 4 = 0) (y : S2048x1024.Idx) :
    (outsAt0 m c t.val t.isLt).1 y = rowsOf (X0 m c) (X1 m c) (X2 m c) (X3 m c) (seqOf t) y := by
  have hs := scratch_A m c t h
  rw [outsAt0_A m c t h] at hs ⊢
  unfold sout0_A_0 at hs
  unfold out0_A_4
  dsimp only at hs ⊢
  rw [View.read_writes_junk_eq_canon]
  refine View.canon_apply_of_pieces _ _ ?_ y (cover0_A_4 _ _ _ _ _ _ _ _ _ _ _ _ _ _ _ _ _ _ _ y)
  intro p hp x
  unfold kernelRun0_A at hp
  dsimp only at hp
  exact loop_ok A.q A.k A.s _ _ _ _ _ _ _ _ _ _ _ _ _ _ _ _ _ _ _ _ _ (held m c t _ hs _ _) _ le_rfl p hp x

theorem point_B (c : Dev nD) (A : AllReal m c) (t : Fin cfg0.N) (h : ¬ t.val % 4 = 0) (y : S2048x1024.Idx) :
    (outsAt0 m c t.val t.isLt).1 y = rowsOf (X0 m c) (X1 m c) (X2 m c) (X3 m c) (seqOf t) y := by
  have hs := scratch m c (t.val - 1) (by omega)
  rw [outsAt0_B m c t h]
  unfold out0_B_4
  dsimp only
  rw [View.read_writes_junk_eq_canon]
  refine View.canon_apply_of_pieces _ _ ?_ y (cover0_B_4 _ _ _ _ _ _ _ _ _ _ _ _ _ _ _ _ _ _ _ _ y)
  intro p hp x
  unfold kernelRun0_B at hp
  dsimp only at hp
  exact loop_ok A.q A.k A.s _ _ _ _ _ _ _ _ _ _ _ _ _ _ _ _ _ _ _ _ _
    (held m c t _ ((Memref.IsWhole.read_unread _ _).trans hs) _ _) _ le_rfl p hp x

theorem point (c : Dev nD) (A : AllReal m c) (t : Fin cfg0.N) (y : S2048x1024.Idx) (i : S8192x1024.Idx)
    (h0 : (i 0).val = t.val * 2048 + (y 0).val) (h1 : (i 1).val = (y 1).val) :
    (outsAt0 m c t.val t.isLt).1 y = val_main_v127 (F := Ideal) (X0 m c) (X1 m c) (X2 m c) (X3 m c) i := by
  have e : i = ix2 ⟨t.val * 2048 + (y 0).val, h0 ▸ (i 0).isLt⟩ (y 1) := eq_ix2_of h0 h1
  rw [e]
  by_cases h : t.val % 4 = 0
  · exact point_A m c A t h y
  · exact point_B m c A t h y

theorem final (c : Dev nD) (A : AllReal m c) :
    (dats m 0 c).arrAt 4 cfg0.N = val_main_v127 (F := Ideal) (X0 m c) (X1 m c) (X2 m c) (X3 m c) := by
  refine (dats m 0 c).arrAt_eq_of_covers 4 _ (by decide +kernel) fun t hf y => ?_
  blk_simp
  rw [after0_4]
  refine point m c A t y _ ?_ ?_ <;> blk_simp [idx t]

theorem facts_pre : Cert.Pre_finite_attn_fwd.Facts where
  bcast_S_S1x64 := by decide
  reducesTo_S1x64_S_d0_1 := by decide
  h_S_ := by decide
  bcast_S_S1x16 := by decide
  reducesTo_S1x16_S_d0_1 := by decide

/-- The precondition, entry by entry. -/
theorem allReal [Cert.Pre_finite_attn_fwd.Facts] (h : Cert.Pre_FwdAttnIdeal_finite_attn_fwd m) (c : Dev nD) : AllReal m c := by
  have e := congrFun (h c) ix0
  obtain ⟨e, h2⟩ := and_one e
  obtain ⟨h0, h1⟩ := and_one e
  exact ⟨isReal_of_all _ _ _ _ _ h0, isReal_of_all _ _ _ _ _ h1, isReal_of_all _ _ _ _ _ h2⟩

theorem alg [Cert.Pre_finite_attn_fwd.Facts] : Cert.algebraic_FwdAttnIdeal_FwdAttnRefIdeal_pre_finite_attn_fwd := by
  intro m g m' g' hp hm
  refine ⟨_, (θ_run defs _ _).mono (fun r h c => ⟨((h.1 c).1 4).trans (final m c (allReal m hp c)), h.2 c⟩)
      (θ_run_and (run_main m g) (unchanged m g)),
    (θ_run _ _ _).mono (fun r h c => ⟨(h c).1.trans ?_, (h c).2⟩) (Cert.FwdAttnRefIdeal.Value.run m' g')⟩
  rw [val_main_v127_eq, (hm c).1, (hm c).2.1, (hm c).2.2.1, (hm c).2.2.2]

end Cert.FwdAttnValue

end
-- ==== Proof.DgradDown.lean ====
/- The value of a down projection's backward call in its rows: the product of the gradient's rows with the weight's
   transpose, block by block of rows. -/
module

public import proofs.«01_k».proof.Defs
public import proofs.«01_k».proof.Proof.Common
public import proofs.«01_k».proof.Proof.Gen.DgradDownIdeal.Value
public import proofs.«01_k».proof.Proof.Gen.DgradDownRefIdeal.Run
public import proofs.«01_k».proof.Proof.Gen.DgradDownRefIdeal.Read
public import Idealize.ShloMosaic.Lib.StableHlo.RunClose

@[expose] public section

noncomputable section

namespace Cert.DgradDownValue

open Cert.DgradDownIdeal Cert.DgradDownIdeal.Gen Idealize.ShloMosaic Idealize.ShloMosaic.TcCoe Idealize.SL.Sem
open Cert.DgradDownRefIdeal.Read Cert.Common

variable (m : (ℓ : Loc nD τ sig) → Buf (Elt Ideal) ℓ)

/-- Where the blocks lie: row block `t`, the weight whole. -/
theorem idx : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem row_lt (t : Fin cfg0.N) (r : Fin 1024) : t.val * 1024 + r.val < 8192 := by
  have := t.isLt; have e : cfg0.N = 8 := N_0; omega

/-- The reference's result. -/
abbrev D (c : Dev nD) : S8192x1024.Idx → EReal :=
  val_main_v4 (F := Ideal) (m (c.tc.loc main_arg0)) (m (c.tc.loc main_arg1))

theorem pt (c : Dev nD) (t : Fin cfg0.N) (r l : Fin 1024) :
    k0_pay1 (F := Ideal) (iblk m c 0 t) (iblk m c 1 t) (ix2 r l) = D m c (ix2 ⟨t.val * 1024 + r.val, row_lt t r⟩ l) := by
  show _ = val_main_v4 (F := Ideal) _ _ _
  pointwise [k0_pay1, val_main_v4, val_main_v3, val_main_v2]
  blk_point [iblk, V, idx t]

theorem point (c : Dev nD) (t : Fin cfg0.N) (r l : Fin 1024) (i : S8192x1024.Idx)
    (h0 : (i 0).val = t.val * 1024 + r.val) (h1 : (i 1).val = l.val) :
    k0_pay1 (F := Ideal) (iblk m c 0 t) (iblk m c 1 t) (ix2 r l) = D m c i := by
  rw [eq_ix2_of (a := ⟨t.val * 1024 + r.val, row_lt t r⟩) (b := l) h0 h1, pt]

theorem final (c : Dev nD) : (dats m 0 c).arrAt 2 cfg0.N = D m c := by
  refine (dats m 0 c).arrAt_eq_of_covers 2 _ (by decide +kernel) fun t hf y => ?_
  blk_simp
  rw [after0_2]; frame_out
  obtain ⟨r, l, rfl⟩ : ∃ (r l : Fin 1024), y = ix2 r l := ⟨y 0, y 1, eq_ix2 y⟩
  refine point m c t r l _ ?_ ?_ <;> blk_simp [idx t]

theorem alg : Cert.algebraic_DgradDownIdeal_DgradDownRefIdeal := by
  intro m g m' g' _ hm
  refine ⟨_, (θ_run defs _ _).mono (fun r h c => ⟨(h c).1.trans (final m c), (h c).2⟩) (Cert.DgradDownIdeal.Value.run_blocks m g),
    (θ_run _ _ _).mono (fun r h c => ⟨(h c).1.trans ?_, (h c).2⟩) (Cert.DgradDownRefIdeal.Value.run m' g')⟩
  rw [val_main_v4_eq, (hm c).1, (hm c).2]

end Cert.DgradDownValue

end
-- ==== Proof.FwdQkv.lean ====
/- The value of the query-key-value projection: the rows times the weight. The kernel lays the four chips' columns of the weight
   side by side in a scratch at its first point and keeps it. -/
module

public import proofs.«01_k».proof.Defs
public import proofs.«01_k».proof.Proof.Common
public import proofs.«01_k».proof.Proof.Gen.FwdQkvIdeal.Value
public import proofs.«01_k».proof.Proof.Gen.FwdQkvRefIdeal.Run
public import proofs.«01_k».proof.Proof.Gen.FwdQkvRefIdeal.Read
public import Idealize.ShloMosaic.Lib.StableHlo.RunClose

@[expose] public section

noncomputable section

namespace Cert.FwdQkvValue

open Cert.FwdQkvIdeal Cert.FwdQkvIdeal.Gen Idealize.ShloMosaic Idealize.ShloMosaic.TcCoe Idealize.SL.Sem
open Cert.FwdQkvRefIdeal.Read Cert.Common

variable (m : (ℓ : Loc nD τ sig) → Buf (Elt Ideal) ℓ)

/-- Where the blocks lie: row block `t`, the weight whole. -/
theorem idx : ∀ t : Fin cfg0.N, win0_0.index t (0 : Fin 2) = t.val ∧ win0_0.index t (1 : Fin 2) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = t.val ∧ win0_2.index t (1 : Fin 2) = 0 :=
  (by decide +kernel : ∀ t : Fin grid0.N, _)

/-- The weight as the call reads it. -/
theorem w_eq (c : Dev nD) : V m c main_v3
    = broadcastInDim S1x4x1024x384 ![1, 2, 3] bcast_S4x1024x384_S1x4x1024x384_1_2_3
        (transpose S4x1024x384 [1, 0, 2] (shapeCast S1024x4x384 (truncf .bf16 (m (c.tc.loc main_arg1)) bitsLt_bf16_f32 : FVec Ideal S1024x1536 .bf16)
          shapeCasts_S1024x1536_S1024x4x384) transposes_S1024x4x384_S4x1024x384_1_0_2) := by
  show StableHlo.after hostOps0 _ (Proc.devRef .tc main_v3) = _
  after_results_simp_entrywise; rfl

theorem w_at (c : Dev nD) (j : Fin 4) (k : Fin 1024) (l : Fin 384) :
    V m c main_v3 (ix4 (0 : Fin 1) j k l) = m (c.tc.loc main_arg1) (ix2 k ⟨j.val * 384 + l.val, by omega⟩) := by
  rw [w_eq]
  pointwise []

theorem emb_w (t : Fin cfg0.N) (j : Fin 4) (k : Fin 1024) (l : Fin 384) :
    (win0_1.blk t).view.emb (ix4 0 j k l) = ix4 0 j k l := by blk_ext [idx t]

/-- One stored piece of the scratch, its place and entries. -/
theorem piece (c : Dev nD) (t : Fin cfg0.N) (j : Fin 4) (y : S1024x1536.Idx) (a : Fin 1024) (b : Fin 384) (h0 : (y 0).val = a.val)
    (h1 : (y 1).val = j.val * 384 + b.val) : iblk m c 1 t (ix4 0 j a b) = m (c.tc.loc main_arg1) y :=
  ((congrArg (V m c main_v3) (emb_w t j a b)).trans (w_at m c j a b)).trans
    (congrArg (m (c.tc.loc main_arg1)) (eq_ix2_of h0 h1).symm)

theorem tiles (c : Dev nD) (t : Fin cfg0.N) (y : S1024x1536.Idx) :
    View.canon
      [⟨Rect.unit ![0, 1152] ![1024, 384] inb_S1024x1536_S1024x384_0_1152, k0_pay4 (F := Ideal)
            (View.ld (iblk m c 1 t) (Rect.unit ![0, 3, 0, 0] ![1, 1, 1024, 384] inb_S1x4x1024x384_S1x1x1024x384_0_3_0_0))⟩,
        ⟨Rect.unit ![0, 768] ![1024, 384] inb_S1024x1536_S1024x384_0_768, k0_pay3
            (View.ld (iblk m c 1 t) (Rect.unit ![0, 2, 0, 0] ![1, 1, 1024, 384] inb_S1x4x1024x384_S1x1x1024x384_0_2_0_0))⟩,
        ⟨Rect.unit ![0, 384] ![1024, 384] inb_S1024x1536_S1024x384_0_384, k0_pay2
            (View.ld (iblk m c 1 t) (Rect.unit ![0, 1, 0, 0] ![1, 1, 1024, 384] inb_S1x4x1024x384_S1x1x1024x384_0_1_0_0))⟩,
        ⟨Rect.unit ![0, 0] ![1024, 384] inb_S1024x1536_S1024x384_0_0, k0_pay1
            (View.ld (iblk m c 1 t) (Rect.unit ![0, 0, 0, 0] ![1, 1, 1024, 384] inb_S1x4x1024x384_S1x1x1024x384_0_0_0_0))⟩] y
      = m (c.tc.loc main_arg1) y := by
  canon_tiles x h
  all_goals
    obtain ⟨a, b, rfl⟩ : ∃ (a : Fin 1024) (b : Fin 384), x = ix2 a b := ⟨x 0, x 1, eq_ix2 x⟩
    pointwise [k0_pay4, k0_pay3, k0_pay2, k0_pay1]
    refine piece m c t _ y _ _ ?_ ?_ <;> simp [*] <;> omega

theorem scratch_A (c : Dev nD) (t : Fin cfg0.N) (h : t.val % 8 = 0) :
    (outsAt0 m c t.val t.isLt).2 = m (c.tc.loc main_arg1) := by
  rw [outsAt0_A m c t h]; frame_out
  exact funext fun y => tiles m c t y

theorem scratch_B (c : Dev nD) (t : Fin cfg0.N) (h : ¬ t.val % 8 = 0) :
    (outsAt0 m c t.val t.isLt).2 = (outsAt0 m c (t.val - 1) (by omega)).2 := by
  rw [outsAt0_B m c t h]; rfl

/-- The scratch holds the weight at every point. -/
theorem scratch (c : Dev nD) : ∀ (n : ℕ) (h : n < cfg0.N), (outsAt0 m c n h).2 = m (c.tc.loc main_arg1)
  | 0, h => scratch_A m c ⟨0, h⟩ rfl
  | n + 1, h => by
    by_cases h0 : (n + 1) % 8 = 0
    · exact scratch_A m c ⟨n + 1, h⟩ h0
    · exact (scratch_B m c ⟨n + 1, h⟩ h0).trans (scratch c n (by omega))

/-- What a point leaves in its output block. -/
theorem outs (c : Dev nD) (t : Fin cfg0.N) :
    (outsAt0 m c t.val t.isLt).1 = k0_pay5 (iblk m c 0 t) (m (c.tc.loc main_arg1)) := by
  by_cases h : t.val % 8 = 0
  · rw [outsAt0_A m c t h]; frame_out
    refine congrArg (k0_pay5 (F := Ideal) _) ?_
    rw [View.readCov_eq_canon']
    exact funext fun y => (tiles m c t _).trans (congrArg _ (funext fun a => Fin.ext (by show (Rect.unit ![0, 0] ![1024, 1536] _).toLoadRect.off a + _ * _ = _; fin_cases a <;> simp)))
  · rw [outsAt0_B m c t h]; frame_out
    refine congrArg (k0_pay5 (F := Ideal) _) ?_
    erw [Memref.IsWhole.read_unread]
    exact scratch m c _ _

theorem row_lt (t : Fin cfg0.N) (r : Fin 1024) : t.val * 1024 + r.val < 8192 := by
  have := t.isLt; have e : cfg0.N = 8 := N_0; omega

/-- The reference's result. -/
abbrev R (c : Dev nD) : S8192x1536.Idx → EReal := val_main_v2 (F := Ideal) (m (c.tc.loc main_arg0)) (m (c.tc.loc main_arg1))

theorem x_pt (c : Dev nD) (t : Fin cfg0.N) (r l : Fin 1024) :
    iblk m c 0 t (ix2 r l) = m (c.tc.loc main_arg0) (ix2 ⟨t.val * 1024 + r.val, row_lt t r⟩ l) := by blk_point [iblk, V, idx t]

theorem point (c : Dev nD) (t : Fin cfg0.N) (r : Fin 1024) (l : Fin 1536) (i : S8192x1536.Idx)
    (h0 : (i 0).val = t.val * 1024 + r.val) (h1 : (i 1).val = l.val) :
    k0_pay5 (F := Ideal) (iblk m c 0 t) (m (c.tc.loc main_arg1)) (ix2 r l) = R m c i := by
  rw [eq_ix2_of (a := ⟨t.val * 1024 + r.val, row_lt t r⟩) (b := l) h0 h1]
  show _ = val_main_v2 (F := Ideal) _ _ _
  pointwise [k0_pay5, val_main_v2, val_main_v1, val_main_v0]
  simp only [x_pt]

theorem final (c : Dev nD) : (dats m 0 c).arrAt 2 cfg0.N = R m c := by
  refine (dats m 0 c).arrAt_eq_of_covers 2 _ (by decide +kernel) fun t hf y => ?_
  blk_simp
  rw [after0_2, outs]
  obtain ⟨r, l, rfl⟩ : ∃ (r : Fin 1024) (l : Fin 1536), y = ix2 r l := ⟨y 0, y 1, eq_ix2 y⟩
  refine point m c t r l _ ?_ ?_ <;> blk_simp [idx t]

theorem alg : Cert.algebraic_FwdQkvIdeal_FwdQkvRefIdeal := by
  intro m g m' g' _ hm
  refine ⟨_, (θ_run defs _ _).mono (fun r h c => ⟨(h c).1.trans (final m c), (h c).2⟩) (Cert.FwdQkvIdeal.Value.run_blocks m g),
    (θ_run _ _ _).mono (fun r h c => ⟨(h c).1.trans ?_, (h c).2⟩) (Cert.FwdQkvRefIdeal.Value.run m' g')⟩
  rw [val_main_v2_eq, (hm c).1, (hm c).2]

end Cert.FwdQkvValue

end
-- ==== Proof.WgradQkv.lean ====
/- The value of the query-key-value projection's backward call in its weight: the product of the transposed rows with the
   gradient's rows, added over four blocks of 2048 rows; the result's columns are stacked by chip. -/
module

public import proofs.«01_k».proof.Defs
public import proofs.«01_k».proof.Proof.Common
public import proofs.«01_k».proof.Proof.AttnArith
public import proofs.«01_k».proof.Proof.Gen.WgradQkvIdeal.Value
public import proofs.«01_k».proof.Proof.Gen.WgradQkvRefIdeal.Run
public import proofs.«01_k».proof.Proof.Gen.WgradQkvRefIdeal.Read
public import Idealize.ShloMosaic.Lib.StableHlo.RunClose

@[expose] public section

noncomputable section

namespace Cert.WgradQkvValue

open Cert.WgradQkvIdeal Cert.WgradQkvIdeal.Gen Idealize.ShloMosaic Idealize.ShloMosaic.TcCoe Idealize.SL.Sem
open Cert.WgradQkvRefIdeal.Read Cert.Common

variable (m : (ℓ : Loc nD τ sig) → Buf (Elt Ideal) ℓ)

/-- Where the blocks lie: row block `t`, the result whole. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

abbrev A0 (c : Dev nD) : S8192x1024.Idx → EReal := m (c.tc.loc main_arg0)
abbrev A1 (c : Dev nD) : S8192x1536.Idx → EReal := m (c.tc.loc main_arg1)

/-- The row a point's block index stands for. -/
abbrev row (t : Fin cfg0.N) (k : Fin 2048) : Fin 8192 :=
  ⟨t.val * 2048 + k.val, by have := k.isLt; have := t.isLt; have e : cfg0.N = 4 := N_0; omega⟩

theorem h_pt (c : Dev nD) (t : Fin cfg0.N) (k : Fin 2048) (r : Fin 1024) : iblk m c 0 t (ix2 k r) = A0 m c (ix2 (row t k) r) := by
  blk_point [iblk, V, idx t]
theorem d_pt (c : Dev nD) (t : Fin cfg0.N) (k : Fin 2048) (l : Fin 1536) : iblk m c 1 t (ix2 k l) = A1 m c (ix2 (row t k) l) := by
  blk_point [iblk, V, idx t]

/-- What one point adds to the result. -/
def part (c : Dev nD) (t : Fin cfg0.N) (i : S4x1024x384.Idx) : EReal :=
  ∑ k : Fin 2048, A0 m c (ix2 (row t k) (i 1)) * A1 m c (ix2 (row t k) ⟨(i 0).val * 384 + (i 2).val, by
    have h0 : (i 0).val < 4 := (i 0).isLt; have h2 : (i 2).val < 384 := (i 2).isLt; omega⟩)

/-- Each chip's columns: what the body adds to its slab. -/
theorem slab_add (c : Dev nD) (t : Fin cfg0.N) (x : Vec Ideal S1x1024x384 .f32) (r : Fin 1024) (l : Fin 384) :
    k0_pay4 (F := Ideal) (iblk m c 0 t) (iblk m c 1 t) x (ix3 0 r l) = x (ix3 0 r l) + part m c t (ix3 0 r l)
    ∧ k0_pay5 (F := Ideal) (iblk m c 0 t) (iblk m c 1 t) x (ix3 0 r l) = x (ix3 0 r l) + part m c t (ix3 1 r l)
    ∧ k0_pay6 (F := Ideal) (iblk m c 0 t) (iblk m c 1 t) x (ix3 0 r l) = x (ix3 0 r l) + part m c t (ix3 2 r l)
    ∧ k0_pay1 (F := Ideal) (k0_pay3 (iblk m c 0 t) (iblk m c 1 t)) x (ix3 0 r l) = x (ix3 0 r l) + part m c t (ix3 3 r l) := by
  refine ⟨?_, ?_, ?_, ?_⟩
  all_goals
    pointwise [k0_pay4, k0_pay5, k0_pay6, k0_pay1, k0_pay3]
    refine congrArg (_ + ·) (Finset.sum_congr rfl fun k _ => ?_)
    rw [h_pt, d_pt]
    refine congrArg (fun j => _ * A1 m c (ix2 _ j)) (Fin.ext ?_)
    simp
    try omega

/-- A slab read from pieces or from an array, and a piece that is a slab. -/
theorem idx_slab (q : ℕ) (hq : q < 4)
    (inb : ∀ a, (![q, 0, 0] : Fin 3 → ℕ) a + (![1, 1024, 384] : Fin 3 → ℕ) a ≤ S4x1024x384.size a) (r : Fin 1024) (l : Fin 384) :
    (Rect.unit (s := S4x1024x384) ![q, 0, 0] ![1, 1024, 384] inb).toLoadRect.idx (ix3 0 r l : S1x1024x384.Idx) = ix3 ⟨q, hq⟩ r l := by
  refine funext fun a => Fin.ext ?_
  match a with
  | 0 => simp
  | 1 => simp
  | 2 => simp

theorem read_slab (v : View sig .tc .vmem S4x1024x384 .f32) (L : List (View.Piece (Elt Ideal) S4x1024x384 .f32)) (q : ℕ) (hq : q < 4)
    (inb : ∀ a, (![q, 0, 0] : Fin 3 → ℕ) a + (![1, 1024, 384] : Fin 3 → ℕ) a ≤ S4x1024x384.size a) (r : Fin 1024) (l : Fin 384) :
    v.readCov L (Rect.unit (s := S4x1024x384) ![q, 0, 0] ![1, 1024, 384] inb).toLoadRect (ix3 0 r l : S1x1024x384.Idx)
      = View.canon L (ix3 ⟨q, hq⟩ r l) := by
  rw [View.readCov_eq_canon']
  exact congrArg (View.canon L) (idx_slab q hq inb r l)

theorem ld_slab (X : Vec Ideal S4x1024x384 .f32) (q : ℕ) (hq : q < 4)
    (inb : ∀ a, (![q, 0, 0] : Fin 3 → ℕ) a + (![1, 1024, 384] : Fin 3 → ℕ) a ≤ S4x1024x384.size a) (r : Fin 1024) (l : Fin 384) :
    View.ld X (Rect.unit (s := S4x1024x384) ![q, 0, 0] ![1, 1024, 384] inb) (ix3 0 r l : S1x1024x384.Idx) = X (ix3 ⟨q, hq⟩ r l) :=
  congrArg X (idx_slab q hq inb r l)

theorem canon_slab (L : List (View.Piece (Elt Ideal) S4x1024x384 .f32)) (q : ℕ)
    (inb : ∀ a, (![q, 0, 0] : Fin 3 → ℕ) a + (![1, 1024, 384] : Fin 3 → ℕ) a ≤ S4x1024x384.size a) (w : S1x1024x384.Idx → EReal)
    (p : Fin 4) (r : Fin 1024) (l : Fin 384) :
    View.canon ((⟨Rect.unit (s := S4x1024x384) ![q, 0, 0] ![1, 1024, 384] inb, w⟩ : View.Piece (Elt Ideal) S4x1024x384 .f32) :: L) (ix3 p r l)
      = if p.val = q then w (ix3 0 r l) else View.canon L (ix3 p r l) := by
  split_ifs with h
  · have e : ix3 p r l = (Rect.unit (s := S4x1024x384) ![q, 0, 0] ![1, 1024, 384] inb).emb (ix3 0 r l) := funext fun a => Fin.ext (by
      match a with
      | 0 => simp [h]
      | 1 => simp
      | 2 => simp)
    rw [e]
    exact View.canon_cons_emb _ _ _ _
  · refine View.canon_cons_of_not_mem _ _ fun hm => h ?_
    have := (Rect.mem_set_unit (inb := inb)).mp hm (0 : Fin 3)
    simp at this
    omega

theorem zero_pt (i : S4x1024x384.Idx) : k0_pay2 (F := Ideal) i = 0 := by
  pointwise [k0_pay2]

theorem stepA (c : Dev nD) (t : Fin cfg0.N) (h : t.val % 4 = 0) (i : S4x1024x384.Idx) :
    outsAt0 m c t.val t.isLt i = 0 + part m c t i := by
  rw [outsAt0_A m c t h]; frame_out
  obtain ⟨p, r, l, rfl⟩ : ∃ (p : Fin 4) (r : Fin 1024) (l : Fin 384), i = ix3 p r l := ⟨i 0, i 1, i 2, eq_ix3 i⟩
  have z := View.canon_cons_unit_lit (Val := Elt Ideal) (e := .f32) (S := S4x1024x384) (off := ![0, 0, 0]) inb_S4x1024x384_S4x1024x384_0_0_0 (k0_pay2 (F := Ideal)) [] (by decide)
  fin_cases p <;> simp [canon_slab, (slab_add m c t _ r l).1, (slab_add m c t _ r l).2.1, (slab_add m c t _ r l).2.2.1, (slab_add m c t _ r l).2.2.2, read_slab, z, zero_pt]

theorem stepB (c : Dev nD) (t : Fin cfg0.N) (h : ¬ t.val % 4 = 0) (i : S4x1024x384.Idx) :
    outsAt0 m c t.val t.isLt i = outsAt0 m c (t.val - 1) (by omega) i + part m c t i := by
  rw [outsAt0_B m c t h]; frame_out
  obtain ⟨p, r, l, rfl⟩ : ∃ (p : Fin 4) (r : Fin 1024) (l : Fin 384), i = ix3 p r l := ⟨i 0, i 1, i 2, eq_ix3 i⟩
  generalize outsAt0 m c (t.val - 1) _ = X
  fin_cases p <;> simp [canon_slab, (slab_add m c t _ r l).1, (slab_add m c t _ r l).2.1, (slab_add m c t _ r l).2.2.1, (slab_add m c t _ r l).2.2.2]
  all_goals exact congrArg (· + _) (ld_slab X _ (by omega) _ r l)

theorem pt_lt (t : Fin cfg0.N) (s : Fin 4) : 4 * (t.val / 4) + s.val < cfg0.N := by have := t.isLt; have e : cfg0.N = 4 := N_0; omega

/-- After the last point the result's block holds the four points' sum. -/
theorem block_sum (c : Dev nD) (t : Fin cfg0.N) (ht : t.val % 4 = 3) (i : S4x1024x384.Idx) :
    outsAt0 m c t.val t.isLt i = ∑ s : Fin 4, part m c ⟨4 * (t.val / 4) + s.val, pt_lt t s⟩ i := by
  have := Pipeline.eq_sum_fin_of_reset_step_apply_of_flush (fun n h => outsAt0 m c n h) 4 (fun _ => (0 : EReal)) (part m c)
    (stepA m c) (stepB m c) t ht i
  rw [this, zero_add]

theorem ref_pt (c : Dev nD) (p : Fin 4) (r : Fin 1024) (l : Fin 384) :
    val_main_v7 (F := Ideal) (A0 m c) (A1 m c) (ix3 p r l) = ∑ k : Fin 8192, A0 m c (ix2 k r) * A1 m c (ix2 k ⟨p.val * 384 + l.val, by omega⟩) := by
  pointwise [val_main_v7, val_main_v6, val_main_v5, val_main_v4, val_main_v3, val_main_v1]
  exact Finset.sum_congr rfl fun k _ => mul_comm _ _

/-- The reference's entry is the four points' sum. -/
theorem ref_sum (c : Dev nD) (t : Fin cfg0.N) (i j : S4x1024x384.Idx) (h0 : (i 0).val = (j 0).val) (h1 : (i 1).val = (j 1).val)
    (h2 : (i 2).val = (j 2).val) :
    ∑ s : Fin 4, part m c ⟨4 * (t.val / 4) + s.val, pt_lt t s⟩ j = val_main_v7 (F := Ideal) (A0 m c) (A1 m c) i := by
  have e : i = j := funext fun a => Fin.ext (by
    match a with
    | 0 => exact h0
    | 1 => exact h1
    | 2 => exact h2)
  subst e
  obtain ⟨p, r, l, rfl⟩ : ∃ (p : Fin 4) (r : Fin 1024) (l : Fin 384), i = ix3 p r l := ⟨i 0, i 1, i 2, eq_ix3 i⟩
  rw [ref_pt, Cert.AttnArith.sum_split 4 2048 rfl]
  refine Finset.sum_congr rfl fun s _ => Finset.sum_congr rfl fun k _ => ?_
  have e1 : row ⟨4 * (t.val / 4) + s.val, pt_lt t s⟩ k = ⟨s.val * 2048 + k.val, by omega⟩ :=
    Fin.ext (by
      show (4 * (t.val / 4) + s.val) * 2048 + k.val = s.val * 2048 + k.val
      have := t.isLt; have e : cfg0.N = 4 := N_0; omega)
  show A0 m c (ix2 (row _ k) r) * A1 m c (ix2 (row _ k) _) = _
  rw [e1]
  rfl

theorem final (c : Dev nD) : (dats m 0 c).arrAt 2 cfg0.N = val_main_v7 (F := Ideal) (A0 m c) (A1 m c) := by
  refine (dats m 0 c).arrAt_eq_of_covers 2 _ (by decide +kernel) fun t hf y => ?_
  blk_simp
  rw [after0_2, block_sum m c t ((flush0_2 t).mp hf)]
  refine ref_sum m c t _ y ?_ ?_ ?_ <;> blk_simp [idx t]

theorem alg : Cert.algebraic_WgradQkvIdeal_WgradQkvRefIdeal := by
  intro m g m' g' _ hm
  refine ⟨_, (θ_run defs _ _).mono (fun r h c => ⟨(h c).1.trans (final m c), (h c).2⟩) (Cert.WgradQkvIdeal.Value.run_blocks m g),
    (θ_run _ _ _).mono (fun r h c => ⟨(h c).1.trans ?_, (h c).2⟩) (Cert.WgradQkvRefIdeal.Value.run m' g')⟩
  rw [val_main_v7_eq, (hm c).1, (hm c).2]

end Cert.WgradQkvValue

end
-- ==== Proof.WgradDown.lean ====
/- The value of the down projection's backward call in its weight: the product of the transposed rows with the gradient's
   rows, two blocks of 1408 weight rows, each adding the products of four blocks of 2048 rows. -/
module

public import proofs.«01_k».proof.Defs
public import proofs.«01_k».proof.Proof.Common
public import proofs.«01_k».proof.Proof.AttnArith
public import proofs.«01_k».proof.Proof.Gen.WgradDownIdeal.Value
public import proofs.«01_k».proof.Proof.Gen.WgradDownRefIdeal.Run
public import proofs.«01_k».proof.Proof.Gen.WgradDownRefIdeal.Read
public import Idealize.ShloMosaic.Lib.StableHlo.RunClose

@[expose] public section

noncomputable section

namespace Cert.WgradDownValue

open Cert.WgradDownIdeal Cert.WgradDownIdeal.Gen Idealize.ShloMosaic Idealize.ShloMosaic.TcCoe Idealize.SL.Sem
open Cert.WgradDownRefIdeal.Read Cert.Common

variable (m : (ℓ : Loc nD τ sig) → Buf (Elt Ideal) ℓ)

/-- Where the blocks lie: row block `t % 4`, block of weight rows `t / 4`. -/
theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

abbrev A0 (c : Dev nD) : S8192x2816.Idx → EReal := m (c.tc.loc main_arg0)
abbrev A1 (c : Dev nD) : S8192x1024.Idx → EReal := m (c.tc.loc main_arg1)

/-- The row and the weight row a point's block index stands for. -/
abbrev row (t : Fin cfg0.N) (k : Fin 2048) : Fin 8192 := ⟨t.val % 4 * 2048 + k.val, by have := k.isLt; omega⟩
abbrev col (t : Fin cfg0.N) (r : Fin 1408) : Fin 2816 :=
  ⟨t.val / 4 * 1408 + r.val, by have := r.isLt; have := t.isLt; have e : cfg0.N = 8 := N_0; omega⟩

theorem a_pt (c : Dev nD) (t : Fin cfg0.N) (k : Fin 2048) (r : Fin 1408) : iblk m c 0 t (ix2 k r) = A0 m c (ix2 (row t k) (col t r)) := by
  blk_point [iblk, V, idx t]
theorem d_pt (c : Dev nD) (t : Fin cfg0.N) (k : Fin 2048) (l : Fin 1024) : iblk m c 1 t (ix2 k l) = A1 m c (ix2 (row t k) l) := by
  blk_point [iblk, V, idx t]

/-- What one point adds to its block. -/
def part (c : Dev nD) (t : Fin cfg0.N) (i : S1408x1024.Idx) : EReal :=
  ∑ k : Fin 2048, A0 m c (ix2 (row t k) (col t (i 0))) * A1 m c (ix2 (row t k) (i 1))

theorem step (c : Dev nD) (t : Fin cfg0.N) (x : Vec Ideal S1408x1024 .f32) (i : S1408x1024.Idx) :
    k0_pay2 (F := Ideal) x (iblk m c 0 t) (iblk m c 1 t) i = x i + part m c t i := by
  obtain ⟨r, l, rfl⟩ : ∃ (r : Fin 1408) (l : Fin 1024), i = ix2 r l := ⟨i 0, i 1, eq_ix2 i⟩
  pointwise [k0_pay2]
  simp only [a_pt, d_pt]
  rfl

theorem zero_pt (i : S1408x1024.Idx) : k0_pay1 (F := Ideal) i = 0 := by
  pointwise [k0_pay1]

theorem pt_lt (t : Fin cfg0.N) (s : Fin 4) : 4 * (t.val / 4) + s.val < cfg0.N := by have := t.isLt; have e : cfg0.N = 8 := N_0; omega

/-- After the last point of a block of weight rows its block holds the four points' sum. -/
theorem block_sum (c : Dev nD) (t : Fin cfg0.N) (ht : t.val % 4 = 3) (i : S1408x1024.Idx) :
    outsAt0 m c t.val t.isLt i = ∑ s : Fin 4, part m c ⟨4 * (t.val / 4) + s.val, pt_lt t s⟩ i := by
  have := Pipeline.eq_sum_fin_of_reset_step_apply_of_flush (fun n h => outsAt0 m c n h) 4 (fun _ => (0 : EReal)) (part m c)
    (fun t h i => by rw [outsAt0_A m c t h]; frame_out; rw [step, zero_pt])
    (fun t h i => by rw [outsAt0_B m c t h]; frame_out; rw [step])
    t ht i
  rw [this, zero_add]

theorem ref_pt (c : Dev nD) (r : Fin 2816) (l : Fin 1024) :
    val_main_v5 (F := Ideal) (A0 m c) (A1 m c) (ix2 r l) = ∑ k : Fin 8192, A0 m c (ix2 k r) * A1 m c (ix2 k l) := by
  pointwise [val_main_v5, val_main_v4, val_main_v3, val_main_v1]
  exact Finset.sum_congr rfl fun k _ => mul_comm _ _

/-- The reference's entry is the four points' sum. -/
theorem ref_sum (c : Dev nD) (t : Fin cfg0.N) (r : Fin 1408) (l : Fin 1024) (i : S2816x1024.Idx)
    (h0 : (i 0).val = t.val / 4 * 1408 + r.val) (h1 : (i 1).val = l.val) :
    ∑ s : Fin 4, part m c ⟨4 * (t.val / 4) + s.val, pt_lt t s⟩ (ix2 r l) = val_main_v5 (F := Ideal) (A0 m c) (A1 m c) i := by
  rw [eq_ix2_of (a := col t r) (b := l) h0 h1, ref_pt, Cert.AttnArith.sum_split 4 2048 rfl]
  refine Finset.sum_congr rfl fun s _ => Finset.sum_congr rfl fun k _ => ?_
  have e1 : row ⟨4 * (t.val / 4) + s.val, pt_lt t s⟩ k = ⟨s.val * 2048 + k.val, by omega⟩ :=
    Fin.ext (by show (4 * (t.val / 4) + s.val) % 4 * 2048 + k.val = s.val * 2048 + k.val; omega)
  have e2 : col ⟨4 * (t.val / 4) + s.val, pt_lt t s⟩ r = col t r :=
    Fin.ext (by show (4 * (t.val / 4) + s.val) / 4 * 1408 + r.val = t.val / 4 * 1408 + r.val; omega)
  show A0 m c (ix2 (row _ k) (col _ r)) * A1 m c (ix2 (row _ k) l) = _
  rw [e1, e2]

theorem final (c : Dev nD) : (dats m 0 c).arrAt 2 cfg0.N = val_main_v5 (F := Ideal) (A0 m c) (A1 m c) := by
  refine (dats m 0 c).arrAt_eq_of_covers 2 _ (by decide +kernel) fun t hf y => ?_
  blk_simp
  rw [after0_2, block_sum m c t ((flush0_2 t).mp hf)]
  obtain ⟨r, l, rfl⟩ : ∃ (r : Fin 1408) (l : Fin 1024), y = ix2 r l := ⟨y 0, y 1, eq_ix2 y⟩
  refine ref_sum m c t r l _ ?_ ?_ <;> blk_simp [idx t]

theorem alg : Cert.algebraic_WgradDownIdeal_WgradDownRefIdeal := by
  intro m g m' g' _ hm
  refine ⟨_, (θ_run defs _ _).mono (fun r h c => ⟨(h c).1.trans (final m c), (h c).2⟩) (Cert.WgradDownIdeal.Value.run_blocks m g),
    (θ_run _ _ _).mono (fun r h c => ⟨(h c).1.trans ?_, (h c).2⟩) (Cert.WgradDownRefIdeal.Value.run m' g')⟩
  rw [val_main_v5_eq, (hm c).1, (hm c).2]

end Cert.WgradDownValue

end
-- ==== Proof.WgradUp.lean ====
/- The value of the gated up projection's backward call in its weight: the product of the transposed rows with the gate's and
   the up branch's gradients, one chip's columns at a time, added over four blocks of 2048 rows. -/
module

public import proofs.«01_k».proof.Defs
public import proofs.«01_k».proof.Proof.Common
public import proofs.«01_k».proof.Proof.AttnArith
public import proofs.«01_k».proof.Proof.Gen.WgradUpIdeal.Value
public import proofs.«01_k».proof.Proof.Gen.WgradUpRefIdeal.Run
public import proofs.«01_k».proof.Proof.Gen.WgradUpRefIdeal.Read
public import Idealize.ShloMosaic.Lib.StableHlo.RunClose

@[expose] public section

noncomputable section

namespace Cert.WgradUpValue

open Cert.WgradUpIdeal Cert.WgradUpIdeal.Gen Idealize.ShloMosaic Idealize.ShloMosaic.TcCoe Idealize.SL.Sem
open Cert.WgradUpRefIdeal.Read Cert.Common

variable (m : (ℓ : Loc nD τ sig) → Buf (Elt Ideal) ℓ)

/-- Where the blocks lie: row block `t % 4`, chip `t / 4`; the two gradients' blocks follow the chip in their own half. -/
theorem idx : ∀ t : Fin cfg0.N, win0_0.index t (0 : Fin 2) = t.val % 4 ∧ win0_0.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

theorem idx_gate : ∀ t : Fin cfg0.N, t.val < 8 → win0_1.index t (0 : Fin 2) = t.val % 4 ∧ win0_1.index t (1 : Fin 2) = t.val / 4 :=
  (by decide +kernel : ∀ t : Fin grid0.N, t.val < 8 → _)

theorem idx_up : ∀ t : Fin cfg0.N, 8 ≤ t.val → win0_2.index t (0 : Fin 2) = t.val % 4 ∧ win0_2.index t (1 : Fin 2) = t.val / 4 - 2 :=
  (by decide +kernel : ∀ t : Fin grid0.N, 8 ≤ t.val → _)

abbrev A0 (c : Dev nD) : S8192x1024.Idx → EReal := m (c.tc.loc main_arg0)
abbrev A1 (c : Dev nD) : S8192x2816.Idx → EReal := m (c.tc.loc main_arg1)
abbrev A2 (c : Dev nD) : S8192x2816.Idx → EReal := m (c.tc.loc main_arg2)

/-- The two branches' gradients side by side. -/
def both (c : Dev nD) (k : Fin 8192) (j : Fin 5632) : EReal :=
  if h : j.val < 2816 then A1 m c (ix2 k ⟨j.val, h⟩) else A2 m c (ix2 k ⟨j.val - 2816, by omega⟩)

/-- The row and the column a point's block index stands for. -/
abbrev row (t : Fin cfg0.N) (k : Fin 2048) : Fin 8192 := ⟨t.val % 4 * 2048 + k.val, by have := k.isLt; omega⟩
abbrev col (t : Fin cfg0.N) (l : Fin 1408) : Fin 5632 :=
  ⟨t.val / 4 * 1408 + l.val, by have := l.isLt; have := t.isLt; have e : cfg0.N = 16 := N_0; omega⟩

theorem h_pt (c : Dev nD) (t : Fin cfg0.N) (k : Fin 2048) (r : Fin 1024) : iblk m c 0 t (ix2 k r) = A0 m c (ix2 (row t k) r) := by
  blk_point [iblk, V, idx t]
theorem g_pt (c : Dev nD) (t : Fin cfg0.N) (h : t.val < 8) (k : Fin 2048) (l : Fin 1408) : iblk m c 1 t (ix2 k l) = both m c (row t k) (col t l) := by
  have hl : (col t l).val < 2816 := by show t.val / 4 * 1408 + l.val < 2816; omega
  rw [both, dif_pos hl]
  blk_point [iblk, V, idx_gate t h]
theorem u_pt (c : Dev nD) (t : Fin cfg0.N) (h : 8 ≤ t.val) (k : Fin 2048) (l : Fin 1408) : iblk m c 2 t (ix2 k l) = both m c (row t k) (col t l) := by
  have hl : ¬ (col t l).val < 2816 := by show ¬ t.val / 4 * 1408 + l.val < 2816; omega
  have e : (t.val / 4 - 2) * 1408 + l.val = t.val / 4 * 1408 + l.val - 2816 := by omega
  rw [both, dif_neg hl]
  blk_point [iblk, V, idx_up t h, e]

/-- What one point adds to its block. -/
def part (c : Dev nD) (t : Fin cfg0.N) (i : S1x1024x1408.Idx) : EReal :=
  ∑ k : Fin 2048, A0 m c (ix2 (row t k) (i 1)) * both m c (row t k) (col t (i 2))

theorem split (y : S1x1024x1408.Idx) : ∃ (r : Fin 1024) (l : Fin 1408), y = ix3 0 r l := by
  refine ⟨y 1, y 2, funext fun k => ?_⟩
  match k with
  | 0 => exact Subsingleton.elim (α := Fin 1) _ _
  | 1 => rfl
  | 2 => rfl

theorem step_gate (c : Dev nD) (t : Fin cfg0.N) (h : t.val < 8) (x : Vec Ideal S1x1024x1408 .f32) (i : S1x1024x1408.Idx) :
    k0_pay2 (F := Ideal) x (iblk m c 0 t) (iblk m c 1 t) i = x i + part m c t i := by
  obtain ⟨r, l, rfl⟩ := split i
  pointwise [k0_pay2]
  simp only [h_pt, g_pt m c t h]
  rfl

theorem step_up (c : Dev nD) (t : Fin cfg0.N) (h : 8 ≤ t.val) (x : Vec Ideal S1x1024x1408 .f32) (i : S1x1024x1408.Idx) :
    k0_pay3 (F := Ideal) x (iblk m c 0 t) (iblk m c 2 t) i = x i + part m c t i := by
  obtain ⟨r, l, rfl⟩ := split i
  pointwise [k0_pay3]
  simp only [h_pt, u_pt m c t h]
  rfl

theorem zero_pt (i : S1x1024x1408.Idx) : k0_pay1 (F := Ideal) i = 0 := by
  obtain ⟨r, l, rfl⟩ := split i
  pointwise [k0_pay1]

theorem pt_lt (t : Fin cfg0.N) (s : Fin 4) : 4 * (t.val / 4) + s.val < cfg0.N := by have := t.isLt; have e : cfg0.N = 16 := N_0; omega

theorem first (c : Dev nD) (t : Fin cfg0.N) (h : t.val % 4 = 0) (i : S1x1024x1408.Idx) : outsAt0 m c t.val t.isLt i = 0 + part m c t i := by
  by_cases h8 : t.val < 8
  · rw [outsAt0_A m c t h h8 (by omega)]; frame_out; rw [step_gate m c t h8, zero_pt]
  · rw [outsAt0_C m c t h h8 (by omega)]; frame_out; rw [step_up m c t (by omega), zero_pt]

theorem next (c : Dev nD) (t : Fin cfg0.N) (h : ¬ t.val % 4 = 0) (i : S1x1024x1408.Idx) :
    outsAt0 m c t.val t.isLt i = outsAt0 m c (t.val - 1) (by omega) i + part m c t i := by
  by_cases h8 : t.val < 8
  · rw [outsAt0_B m c t h h8 (by omega)]; frame_out; rw [step_gate m c t h8]
  · rw [outsAt0_D m c t h h8 (by omega)]; frame_out; rw [step_up m c t (by omega)]

/-- After the last point of a chip its block holds the four points' sum. -/
theorem block_sum (c : Dev nD) (t : Fin cfg0.N) (ht : t.val % 4 = 3) (i : S1x1024x1408.Idx) :
    outsAt0 m c t.val t.isLt i = ∑ s : Fin 4, part m c ⟨4 * (t.val / 4) + s.val, pt_lt t s⟩ i := by
  have := Pipeline.eq_sum_fin_of_reset_step_apply_of_flush (fun n h => outsAt0 m c n h) 4 (fun _ => (0 : EReal)) (part m c)
    (first m c) (next m c) t ht i
  rw [this, zero_add]

theorem ref_both (c : Dev nD) (k : Fin 8192) (j : Fin 5632) : val_main_v3 (F := Ideal) (A1 m c) (A2 m c) (ix2 k j) = both m c k j := by
  unfold both
  pointwise [val_main_v3]

theorem ref_pt (c : Dev nD) (p : Fin 4) (r : Fin 1024) (l : Fin 1408) :
    val_main_v8 (F := Ideal) (A0 m c) (A1 m c) (A2 m c) (ix3 p r l)
      = ∑ k : Fin 8192, A0 m c (ix2 k r) * both m c k ⟨p.val * 1408 + l.val, by omega⟩ := by
  pointwise [val_main_v8, val_main_v7, val_main_v6, val_main_v5, val_main_v4, val_main_v1]
  exact Finset.sum_congr rfl fun k _ => by rw [ref_both, mul_comm]

/-- The reference's entry is the four points' sum. -/
theorem ref_sum (c : Dev nD) (t : Fin cfg0.N) (r : Fin 1024) (l : Fin 1408) (i : S4x1024x1408.Idx) (h0 : (i 0).val = t.val / 4)
    (h1 : (i 1).val = r.val) (h2 : (i 2).val = l.val) :
    ∑ s : Fin 4, part m c ⟨4 * (t.val / 4) + s.val, pt_lt t s⟩ (ix3 0 r l) = val_main_v8 (F := Ideal) (A0 m c) (A1 m c) (A2 m c) i := by
  obtain ⟨p, r', l', rfl⟩ : ∃ (p : Fin 4) (r : Fin 1024) (l : Fin 1408), i = ix3 p r l := ⟨i 0, i 1, i 2, eq_ix3 i⟩
  obtain rfl : r' = r := Fin.ext h1
  obtain rfl : l' = l := Fin.ext h2
  have hp : p.val = t.val / 4 := h0
  rw [ref_pt, Cert.AttnArith.sum_split 4 2048 rfl]
  refine Finset.sum_congr rfl fun s _ => Finset.sum_congr rfl fun k _ => ?_
  have e1 : row ⟨4 * (t.val / 4) + s.val, pt_lt t s⟩ k = ⟨s.val * 2048 + k.val, by omega⟩ :=
    Fin.ext (by show (4 * (t.val / 4) + s.val) % 4 * 2048 + k.val = s.val * 2048 + k.val; omega)
  have e2 : col ⟨4 * (t.val / 4) + s.val, pt_lt t s⟩ l' = ⟨p.val * 1408 + l'.val, by omega⟩ :=
    Fin.ext (by show (4 * (t.val / 4) + s.val) / 4 * 1408 + l'.val = p.val * 1408 + l'.val; omega)
  show A0 m c (ix2 (row _ k) r') * both m c (row _ k) (col _ l') = _
  rw [e1, e2]

theorem final (c : Dev nD) : (dats m 0 c).arrAt 3 cfg0.N = val_main_v8 (F := Ideal) (A0 m c) (A1 m c) (A2 m c) := by
  refine (dats m 0 c).arrAt_eq_of_covers 3 _ (by decide +kernel) fun t hf y => ?_
  blk_simp
  rw [after0_3, block_sum m c t ((flush0_3 t).mp hf)]
  obtain ⟨r, l, rfl⟩ := split y
  exact ref_sum m c t r l _ (by blk_simp [idx t]; rfl) (by blk_simp [idx t]) (by blk_simp [idx t])

theorem alg : Cert.algebraic_WgradUpIdeal_WgradUpRefIdeal := by
  intro m g m' g' _ hm
  refine ⟨_, (θ_run defs _ _).mono (fun r h c => ⟨(h c).1.trans (final m c), (h c).2⟩) (Cert.WgradUpIdeal.Value.run_blocks m g),
    (θ_run _ _ _).mono (fun r h c => ⟨(h c).1.trans ?_, (h c).2⟩) (Cert.WgradUpRefIdeal.Value.run m' g')⟩
  rw [val_main_v8_eq, (hm c).1, (hm c).2.1, (hm c).2.2]

end Cert.WgradUpValue

end
-- ==== Proof.WgradConv.lean ====
/- The value of the convolution layer's input projection's backward call in its weight: the product of the transposed rows
   with the three branches' gradients, in chunks of 256 columns, added over sixteen blocks of 512 rows. -/
module

public import proofs.«01_k».proof.Defs
public import proofs.«01_k».proof.Proof.Common
public import proofs.«01_k».proof.Proof.AttnArith
public import proofs.«01_k».proof.Proof.Gen.WgradConvIdeal.Value
public import proofs.«01_k».proof.Proof.Gen.WgradConvRefIdeal.Run
public import proofs.«01_k».proof.Proof.Gen.WgradConvRefIdeal.Read
public import Idealize.ShloMosaic.Lib.StableHlo.RunClose

@[expose] public section

noncomputable section

namespace Cert.WgradConvValue

open Cert.WgradConvIdeal Cert.WgradConvIdeal.Gen Idealize.ShloMosaic Idealize.ShloMosaic.TcCoe Idealize.SL.Sem
open Cert.WgradConvRefIdeal.Read Cert.Common

variable (m : (ℓ : Loc nD τ sig) → Buf (Elt Ideal) ℓ)

/-- Where the blocks lie: row block `t`, the result whole. -/
theorem idx : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

abbrev A0 (c : Dev nD) : S8192x1024.Idx → EReal := m (c.tc.loc main_arg0)
abbrev A1 (c : Dev nD) : S3x8192x1024.Idx → EReal := m (c.tc.loc main_arg1)

/-- The row a point's block index stands for. -/
abbrev row (t : Fin cfg0.N) (k : Fin 512) : Fin 8192 :=
  ⟨t.val * 512 + k.val, by have := k.isLt; have := t.isLt; have e : cfg0.N = 16 := N_0; omega⟩

theorem h_pt (c : Dev nD) (t : Fin cfg0.N) (k : Fin 512) (r : Fin 1024) : iblk m c 0 t (ix2 k r) = A0 m c (ix2 (row t k) r) := by
  blk_point [iblk, V, idx t]
theorem d_pt (c : Dev nD) (t : Fin cfg0.N) (p : Fin 3) (k : Fin 512) (l : Fin 1024) : iblk m c 1 t (ix3 p k l) = A1 m c (ix3 p (row t k) l) := by
  blk_point [iblk, V, idx t]

/-- The three branches' gradients side by side. -/
def all3 (c : Dev nD) (k : Fin 8192) (j : Fin 3072) : EReal := A1 m c (ix3 ⟨j.val / 1024, by omega⟩ k ⟨j.val % 1024, by omega⟩)

/-- What one point adds to the result. -/
def part (c : Dev nD) (t : Fin cfg0.N) (p : Fin 4) (r : Fin 1024) (l : Fin 768) : EReal :=
  ∑ k : Fin 512, A0 m c (ix2 (row t k) r) * all3 m c (row t k) ⟨p.val * 768 + l.val, by omega⟩

/-- A branch's rows as the body loads them. -/
abbrev D (c : Dev nD) (t : Fin cfg0.N) (p : ℕ)
    (inb : ∀ a, (![p, 0, 0] : Fin 3 → ℕ) a + (![1, 512, 1024] : Fin 3 → ℕ) a ≤ S3x512x1024.size a) : Vec Ideal S1x512x1024 .bf16 :=
  View.ld (iblk m c 1 t) (Rect.unit (s := S3x512x1024) ![p, 0, 0] ![1, 512, 1024] inb)

theorem D_pt (c : Dev nD) (t : Fin cfg0.N) (p : ℕ) (hp : p < 3)
    (inb : ∀ a, (![p, 0, 0] : Fin 3 → ℕ) a + (![1, 512, 1024] : Fin 3 → ℕ) a ≤ S3x512x1024.size a) (k : Fin 512) (l : Fin 1024) :
    D m c t p inb (ix3 0 k l) = A1 m c (ix3 ⟨p, hp⟩ (row t k) l) := by
  rw [← d_pt]
  refine congrArg (iblk m c 1 t) (funext fun a => Fin.ext ?_)
  match a with
  | 0 => simp
  | 1 => simp
  | 2 => simp

/-- Column `l` of a chip's chunk `b`. -/
abbrev at_ (b : Fin 3) (l : Fin 256) : Fin 768 := ⟨b.val * 256 + l.val, by omega⟩

theorem all3_of (c : Dev nD) (k : Fin 8192) (p : Fin 3) (j : Fin 1024) (i : Fin 3072) (h : i.val = p.val * 1024 + j.val) :
    A1 m c (ix3 p k j) = all3 m c k i := by
  have e1 : (⟨i.val / 1024, by omega⟩ : Fin 3) = p := Fin.ext (by show i.val / 1024 = p.val; omega)
  have e2 : (⟨i.val % 1024, by omega⟩ : Fin 1024) = j := Fin.ext (by show i.val % 1024 = j.val; omega)
  rw [all3, e1, e2]

/-- Each chunk of columns: what the body adds to it. -/
theorem chunk_add (c : Dev nD) (t : Fin cfg0.N) (x : Vec Ideal S1x1024x256 .f32) (r : Fin 1024) (l : Fin 256) :
    k0_pay5 (iblk m c 0 t) (D m c t 0 inb_S3x512x1024_S1x512x1024_0_0_0) x (ix3 0 r l) = x (ix3 0 r l) + part m c t 0 r (at_ 0 l) ∧
    k0_pay6 (iblk m c 0 t) (D m c t 0 inb_S3x512x1024_S1x512x1024_0_0_0) x (ix3 0 r l) = x (ix3 0 r l) + part m c t 0 r (at_ 1 l) ∧
    k0_pay7 (iblk m c 0 t) (D m c t 0 inb_S3x512x1024_S1x512x1024_0_0_0) x (ix3 0 r l) = x (ix3 0 r l) + part m c t 0 r (at_ 2 l) ∧
    k0_pay8 (k0_pay4 (iblk m c 0 t) (D m c t 0 inb_S3x512x1024_S1x512x1024_0_0_0)) x (ix3 0 r l) = x (ix3 0 r l) + part m c t 1 r (at_ 0 l) ∧
    k0_pay10 (iblk m c 0 t) (D m c t 1 inb_S3x512x1024_S1x512x1024_1_0_0) x (ix3 0 r l) = x (ix3 0 r l) + part m c t 1 r (at_ 1 l) ∧
    k0_pay11 (iblk m c 0 t) (D m c t 1 inb_S3x512x1024_S1x512x1024_1_0_0) x (ix3 0 r l) = x (ix3 0 r l) + part m c t 1 r (at_ 2 l) ∧
    k0_pay13 (k0_pay12 (iblk m c 0 t) (D m c t 1 inb_S3x512x1024_S1x512x1024_1_0_0) x) (ix3 0 r l) = x (ix3 0 r l) + part m c t 2 r (at_ 0 l) ∧
    k0_pay14 (k0_pay9 (iblk m c 0 t) (D m c t 1 inb_S3x512x1024_S1x512x1024_1_0_0)) x (ix3 0 r l) = x (ix3 0 r l) + part m c t 2 r (at_ 1 l) ∧
    k0_pay16 (iblk m c 0 t) (D m c t 2 inb_S3x512x1024_S1x512x1024_2_0_0) x (ix3 0 r l) = x (ix3 0 r l) + part m c t 2 r (at_ 2 l) ∧
    k0_pay17 (iblk m c 0 t) (D m c t 2 inb_S3x512x1024_S1x512x1024_2_0_0) x (ix3 0 r l) = x (ix3 0 r l) + part m c t 3 r (at_ 0 l) ∧
    k0_pay1 (k0_pay18 (iblk m c 0 t) (D m c t 2 inb_S3x512x1024_S1x512x1024_2_0_0) x) (ix3 0 r l) = x (ix3 0 r l) + part m c t 3 r (at_ 1 l) ∧
    k0_pay2 (k0_pay15 (iblk m c 0 t) (D m c t 2 inb_S3x512x1024_S1x512x1024_2_0_0)) x (ix3 0 r l) = x (ix3 0 r l) + part m c t 3 r (at_ 2 l) := by
  refine ⟨?_, ?_, ?_, ?_, ?_, ?_, ?_, ?_, ?_, ?_, ?_, ?_⟩
  all_goals
    pointwise [k0_pay1, k0_pay2, k0_pay4, k0_pay5, k0_pay6, k0_pay7, k0_pay8, k0_pay9, k0_pay10, k0_pay11, k0_pay12, k0_pay13, k0_pay14,
      k0_pay15, k0_pay16, k0_pay17, k0_pay18]
    refine congrArg (_ + ·) (Finset.sum_congr rfl fun k _ => ?_)
    rw [h_pt, D_pt m c t _ (by omega)]
    refine congrArg (_ * ·) (all3_of m c _ _ _ _ ?_)
    simp
    try omega

/-- A chunk read from pieces or from an array, and a piece that is a chunk. -/
theorem idx_chunk (q o : ℕ) (hq : q < 4) (b : Fin 3) (ho : o = b.val * 256)
    (inb : ∀ a, (![q, 0, o] : Fin 3 → ℕ) a + (![1, 1024, 256] : Fin 3 → ℕ) a ≤ S4x1024x768.size a) (r : Fin 1024) (l : Fin 256) :
    (Rect.unit (s := S4x1024x768) ![q, 0, o] ![1, 1024, 256] inb).toLoadRect.idx (ix3 0 r l : S1x1024x256.Idx) = ix3 ⟨q, hq⟩ r (at_ b l) := by
  refine funext fun a => Fin.ext ?_
  match a with
  | 0 => simp
  | 1 => simp
  | 2 => simp [ho]

theorem read_chunk (v : View sig .tc .vmem S4x1024x768 .f32) (L : List (View.Piece (Elt Ideal) S4x1024x768 .f32)) (q o : ℕ) (hq : q < 4)
    (b : Fin 3) (ho : o = b.val * 256) (inb : ∀ a, (![q, 0, o] : Fin 3 → ℕ) a + (![1, 1024, 256] : Fin 3 → ℕ) a ≤ S4x1024x768.size a) (r : Fin 1024) (l : Fin 256) :
    v.readCov L (Rect.unit (s := S4x1024x768) ![q, 0, o] ![1, 1024, 256] inb).toLoadRect (ix3 0 r l : S1x1024x256.Idx) = View.canon L (ix3 ⟨q, hq⟩ r (at_ b l)) := by
  rw [View.readCov_eq_canon']
  exact congrArg (View.canon L) (idx_chunk q o hq b ho inb r l)

theorem ld_chunk (X : Vec Ideal S4x1024x768 .f32) (q o : ℕ) (hq : q < 4) (b : Fin 3) (ho : o = b.val * 256)
    (inb : ∀ a, (![q, 0, o] : Fin 3 → ℕ) a + (![1, 1024, 256] : Fin 3 → ℕ) a ≤ S4x1024x768.size a) (r : Fin 1024) (l : Fin 256) :
    View.ld X (Rect.unit (s := S4x1024x768) ![q, 0, o] ![1, 1024, 256] inb) (ix3 0 r l : S1x1024x256.Idx) = X (ix3 ⟨q, hq⟩ r (at_ b l)) :=
  congrArg X (idx_chunk q o hq b ho inb r l)

theorem canon_hit (L : List (View.Piece (Elt Ideal) S4x1024x768 .f32)) (q o : ℕ) (hq : q < 4) (b : Fin 3) (ho : o = b.val * 256)
    (inb : ∀ a, (![q, 0, o] : Fin 3 → ℕ) a + (![1, 1024, 256] : Fin 3 → ℕ) a ≤ S4x1024x768.size a) (w : S1x1024x256.Idx → EReal) (r : Fin 1024) (l : Fin 256) :
    View.canon ((⟨Rect.unit (s := S4x1024x768) ![q, 0, o] ![1, 1024, 256] inb, w⟩ : View.Piece (Elt Ideal) S4x1024x768 .f32) :: L)
      (ix3 ⟨q, hq⟩ r (at_ b l)) = w (ix3 0 r l) := by
  rw [← idx_chunk q o hq b ho inb r l]
  exact View.canon_cons_emb _ _ _ _

theorem canon_miss (L : List (View.Piece (Elt Ideal) S4x1024x768 .f32)) (q o : ℕ)
    (inb : ∀ a, (![q, 0, o] : Fin 3 → ℕ) a + (![1, 1024, 256] : Fin 3 → ℕ) a ≤ S4x1024x768.size a) (w : S1x1024x256.Idx → EReal) (p : Fin 4) (r : Fin 1024) (b : Fin 3) (l : Fin 256)
    (h : p.val ≠ q ∨ b.val * 256 + 256 ≤ o ∨ o + 256 ≤ b.val * 256) :
    View.canon ((⟨Rect.unit (s := S4x1024x768) ![q, 0, o] ![1, 1024, 256] inb, w⟩ : View.Piece (Elt Ideal) S4x1024x768 .f32) :: L)
      (ix3 p r (at_ b l)) = View.canon L (ix3 p r (at_ b l)) := by
  refine View.canon_cons_of_not_mem _ _ fun hm => ?_
  have h0 := (Rect.mem_set_unit (inb := inb)).mp hm (0 : Fin 3)
  have h2 := (Rect.mem_set_unit (inb := inb)).mp hm (2 : Fin 3)
  simp at h0 h2
  omega

theorem zero_pt (i : S4x1024x768.Idx) : k0_pay3 (F := Ideal) i = 0 := by
  pointwise [k0_pay3]

theorem exists_at (l : Fin 768) : ∃ (b : Fin 3) (l' : Fin 256), l = at_ b l' :=
  ⟨⟨l.val / 256, by omega⟩, ⟨l.val % 256, by omega⟩, Fin.ext (by show l.val = l.val / 256 * 256 + l.val % 256; omega)⟩

theorem stepB (c : Dev nD) (t : Fin cfg0.N) (h : ¬ t.val % 16 = 0) (p : Fin 4) (r : Fin 1024) (l : Fin 768) :
    outsAt0 m c t.val t.isLt (ix3 p r l) = outsAt0 m c (t.val - 1) (by omega) (ix3 p r l) + part m c t p r l := by
  rw [outsAt0_B m c t h]; frame_out
  obtain ⟨b, l, rfl⟩ := exists_at l
  generalize outsAt0 m c (t.val - 1) _ = X
  have K := fun x => chunk_add m c t x r l
  simp only [forall_and] at K
  obtain ⟨k0, k1, k2, k3, k4, k5, k6, k7, k8, k9, k10, k11⟩ := K
  fin_cases p <;> fin_cases b
  all_goals
    repeat refine (canon_miss _ _ _ _ _ _ _ _ _ (by decide)).trans ?_
    refine (canon_hit _ _ _ (by decide) _ (by decide) _ _ r l).trans ?_
  · exact (k0 _).trans (congrArg (· + _) (ld_chunk X _ _ (by decide) 0 (by decide) _ r l))
  · exact (k1 _).trans (congrArg (· + _) (ld_chunk X _ _ (by decide) 1 (by decide) _ r l))
  · exact (k2 _).trans (congrArg (· + _) (ld_chunk X _ _ (by decide) 2 (by decide) _ r l))
  · exact (k3 _).trans (congrArg (· + _) (ld_chunk X _ _ (by decide) 0 (by decide) _ r l))
  · exact (k4 _).trans (congrArg (· + _) (ld_chunk X _ _ (by decide) 1 (by decide) _ r l))
  · exact (k5 _).trans (congrArg (· + _) (ld_chunk X _ _ (by decide) 2 (by decide) _ r l))
  · exact (k6 _).trans (congrArg (· + _) (ld_chunk X _ _ (by decide) 0 (by decide) _ r l))
  · exact (k7 _).trans (congrArg (· + _) (ld_chunk X _ _ (by decide) 1 (by decide) _ r l))
  · exact (k8 _).trans (congrArg (· + _) (ld_chunk X _ _ (by decide) 2 (by decide) _ r l))
  · exact (k9 _).trans (congrArg (· + _) (ld_chunk X _ _ (by decide) 0 (by decide) _ r l))
  · exact (k10 _).trans (congrArg (· + _) (ld_chunk X _ _ (by decide) 1 (by decide) _ r l))
  · exact (k11 _).trans (congrArg (· + _) (ld_chunk X _ _ (by decide) 2 (by decide) _ r l))

theorem stepA (c : Dev nD) (t : Fin cfg0.N) (h : t.val % 16 = 0) (p : Fin 4) (r : Fin 1024) (l : Fin 768) :
    outsAt0 m c t.val t.isLt (ix3 p r l) = 0 + part m c t p r l := by
  rw [outsAt0_A m c t h]; frame_out
  obtain ⟨b, l, rfl⟩ := exists_at l
  have z := View.canon_cons_unit_lit (Val := Elt Ideal) (e := .f32) (S := S4x1024x768) (off := ![0, 0, 0]) inb_S4x1024x768_S4x1024x768_0_0_0
    (k0_pay3 (F := Ideal)) [] (by decide)
  have K := fun x => chunk_add m c t x r l
  simp only [forall_and] at K
  obtain ⟨k0, k1, k2, k3, k4, k5, k6, k7, k8, k9, k10, k11⟩ := K
  fin_cases p <;> fin_cases b
  all_goals
    repeat refine (canon_miss _ _ _ _ _ _ _ _ _ (by decide)).trans ?_
    refine (canon_hit _ _ _ (by decide) _ (by decide) _ _ r l).trans ?_
  on_goal 1 => refine (k0 _).trans (congrArg (· + _) ((read_chunk _ _ _ _ (by decide) 0 (by decide) _ r l).trans ?_))
  on_goal 2 => refine (k1 _).trans (congrArg (· + _) ((read_chunk _ _ _ _ (by decide) 1 (by decide) _ r l).trans ?_))
  on_goal 3 => refine (k2 _).trans (congrArg (· + _) ((read_chunk _ _ _ _ (by decide) 2 (by decide) _ r l).trans ?_))
  on_goal 4 => refine (k3 _).trans (congrArg (· + _) ((read_chunk _ _ _ _ (by decide) 0 (by decide) _ r l).trans ?_))
  on_goal 5 => refine (k4 _).trans (congrArg (· + _) ((read_chunk _ _ _ _ (by decide) 1 (by decide) _ r l).trans ?_))
  on_goal 6 => refine (k5 _).trans (congrArg (· + _) ((read_chunk _ _ _ _ (by decide) 2 (by decide) _ r l).trans ?_))
  on_goal 7 => refine (k6 _).trans (congrArg (· + _) ((read_chunk _ _ _ _ (by decide) 0 (by decide) _ r l).trans ?_))
  on_goal 8 => refine (k7 _).trans (congrArg (· + _) ((read_chunk _ _ _ _ (by decide) 1 (by decide) _ r l).trans ?_))
  on_goal 9 => refine (k8 _).trans (congrArg (· + _) ((read_chunk _ _ _ _ (by decide) 2 (by decide) _ r l).trans ?_))
  on_goal 10 => refine (k9 _).trans (congrArg (· + _) ((read_chunk _ _ _ _ (by decide) 0 (by decide) _ r l).trans ?_))
  on_goal 11 => refine (k10 _).trans (congrArg (· + _) ((read_chunk _ _ _ _ (by decide) 1 (by decide) _ r l).trans ?_))
  on_goal 12 => refine (k11 _).trans (congrArg (· + _) ((read_chunk _ _ _ _ (by decide) 2 (by decide) _ r l).trans ?_))
  all_goals
    repeat rw [canon_miss _ _ _ _ _ _ _ _ _ (by decide)]
    exact (congrFun z _).trans (zero_pt _)

theorem pt_lt (t : Fin cfg0.N) (s : Fin 16) : 16 * (t.val / 16) + s.val < cfg0.N := by have := t.isLt; have e : cfg0.N = 16 := N_0; omega

/-- After the last point the result's block holds the sixteen points' sum. -/
theorem block_sum (c : Dev nD) (t : Fin cfg0.N) (ht : t.val % 16 = 15) (i : S4x1024x768.Idx) :
    outsAt0 m c t.val t.isLt i = ∑ s : Fin 16, part m c ⟨16 * (t.val / 16) + s.val, pt_lt t s⟩ (i 0) (i 1) (i 2) := by
  have := Pipeline.eq_sum_fin_of_reset_step_apply_of_flush (fun n h => outsAt0 m c n h) 16 (fun _ => (0 : EReal))
    (fun t i => part m c t (i 0) (i 1) (i 2))
    (fun t h i => by rw [eq_ix3 i]; exact stepA m c t h (i 0) (i 1) (i 2))
    (fun t h i => by rw [eq_ix3 i]; exact stepB m c t h (i 0) (i 1) (i 2)) t ht i
  rw [this, zero_add]

theorem ref_pt (c : Dev nD) (p : Fin 4) (r : Fin 1024) (l : Fin 768) :
    val_main_v9 (F := Ideal) (A0 m c) (A1 m c) (ix3 p r l) = ∑ k : Fin 8192, A0 m c (ix2 k r) * all3 m c k ⟨p.val * 768 + l.val, by omega⟩ := by
  pointwise [val_main_v9, val_main_v8, val_main_v7, val_main_v6, val_main_v5, val_main_v4, val_main_v3, val_main_v1]
  exact Finset.sum_congr rfl fun k _ => mul_comm _ _

/-- The reference's entry is the sixteen points' sum. -/
theorem ref_sum (c : Dev nD) (t : Fin cfg0.N) (i j : S4x1024x768.Idx) (h0 : (i 0).val = (j 0).val) (h1 : (i 1).val = (j 1).val)
    (h2 : (i 2).val = (j 2).val) :
    ∑ s : Fin 16, part m c ⟨16 * (t.val / 16) + s.val, pt_lt t s⟩ (j 0) (j 1) (j 2) = val_main_v9 (F := Ideal) (A0 m c) (A1 m c) i := by
  have e : i = j := funext fun a => Fin.ext (by
    match a with
    | 0 => exact h0
    | 1 => exact h1
    | 2 => exact h2)
  subst e
  obtain ⟨p, r, l, rfl⟩ : ∃ (p : Fin 4) (r : Fin 1024) (l : Fin 768), i = ix3 p r l := ⟨i 0, i 1, i 2, eq_ix3 i⟩
  rw [ref_pt, Cert.AttnArith.sum_split 16 512 rfl]
  refine Finset.sum_congr rfl fun s _ => Finset.sum_congr rfl fun k _ => ?_
  have e1 : row ⟨16 * (t.val / 16) + s.val, pt_lt t s⟩ k = ⟨s.val * 512 + k.val, by omega⟩ :=
    Fin.ext (by
      show (16 * (t.val / 16) + s.val) * 512 + k.val = s.val * 512 + k.val
      have := t.isLt; have e : cfg0.N = 16 := N_0; omega)
  rw [e1]
  rfl

theorem final (c : Dev nD) : (dats m 0 c).arrAt 2 cfg0.N = val_main_v9 (F := Ideal) (A0 m c) (A1 m c) := by
  refine (dats m 0 c).arrAt_eq_of_covers 2 _ (by decide +kernel) fun t hf y => ?_
  blk_simp
  rw [after0_2, block_sum m c t ((flush0_2 t).mp hf)]
  refine ref_sum m c t _ y ?_ ?_ ?_ <;> blk_simp [idx t]

theorem alg : Cert.algebraic_WgradConvIdeal_WgradConvRefIdeal := by
  intro m g m' g' _ hm
  refine ⟨_, (θ_run defs _ _).mono (fun r h c => ⟨(h c).1.trans (final m c), (h c).2⟩) (Cert.WgradConvIdeal.Value.run_blocks m g),
    (θ_run _ _ _).mono (fun r h c => ⟨(h c).1.trans ?_, (h c).2⟩) (Cert.WgradConvRefIdeal.Value.run m' g')⟩
  rw [val_main_v9_eq, (hm c).1, (hm c).2]

end Cert.WgradConvValue

end
-- ==== Proof.Adam.lean ====
/- The value of the optimiser's step on one weight: the gradient as it came, the step and the two new moments, block by
   block of rows. -/
module

public import proofs.«01_k».proof.Defs
public import proofs.«01_k».proof.Proof.Common
public import proofs.«01_k».proof.Proof.Gen.AdamIdeal.Value
public import proofs.«01_k».proof.Proof.Gen.AdamRefIdeal.Run
public import proofs.«01_k».proof.Proof.Gen.AdamRefIdeal.Read
public import Idealize.ShloMosaic.Lib.StableHlo.RunClose

@[expose] public section

noncomputable section

namespace Cert.AdamValue

open Cert.AdamIdeal Cert.AdamIdeal.Gen Idealize.ShloMosaic Idealize.ShloMosaic.TcCoe Idealize.SL.Sem
open Cert.AdamRefIdeal.Read Cert.Common

variable (m : (ℓ : Loc nD τ sig) → Buf (Elt Ideal) ℓ)

/-- Where the blocks lie: matrix `t / 4`, row block `t % 4`. -/
theorem idx : ∀ t : Fin cfg0.N, win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0
    ∧ win0_7.index t (0 : Fin 3) = t.val / 4 ∧ win0_7.index t (1 : Fin 3) = t.val % 4 ∧ win0_7.index t (2 : Fin 3) = 0 :=
  (by decide +kernel : ∀ t : Fin grid0.N, _)

/-- The matrix and the row a point's block index stands for. -/
abbrev mat (t : Fin cfg0.N) : Fin 2 := ⟨t.val / 4, by have := t.isLt; have e : cfg0.N = 8 := N_0; omega⟩
abbrev row (t : Fin cfg0.N) (r : Fin 256) : Fin 1024 := ⟨t.val % 4 * 256 + r.val, by have := r.isLt; omega⟩

abbrev A0 (c : Dev nD) := m (c.tc.loc main_arg0)
abbrev A1 (c : Dev nD) := m (c.tc.loc main_arg1)
abbrev A2 (c : Dev nD) := m (c.tc.loc main_arg2)
abbrev A3 (c : Dev nD) := m (c.tc.loc main_arg3)

theorem w_pt (c : Dev nD) (t : Fin cfg0.N) (r : Fin 256) (l : Fin 1408) : iblk m c 0 t (ix3 0 r l) = A0 m c (ix3 (mat t) (row t r) l) := by
  blk_point [iblk, V, idx t]
theorem g_pt (c : Dev nD) (t : Fin cfg0.N) (r : Fin 256) (l : Fin 1408) : iblk m c 1 t (ix3 0 r l) = A1 m c (ix3 (mat t) (row t r) l) := by
  blk_point [iblk, V, idx t]
theorem m_pt (c : Dev nD) (t : Fin cfg0.N) (r : Fin 256) (l : Fin 1408) : iblk m c 2 t (ix3 0 r l) = A2 m c (ix3 (mat t) (row t r) l) := by
  blk_point [iblk, V, idx t]
theorem v_pt (c : Dev nD) (t : Fin cfg0.N) (r : Fin 256) (l : Fin 1408) : iblk m c 3 t (ix3 0 r l) = A3 m c (ix3 (mat t) (row t r) l) := by
  blk_point [iblk, V, idx t]

/-- What each point leaves in the four results, at an index of its block. -/
theorem g_out (c : Dev nD) (t : Fin cfg0.N) (r : Fin 256) (l : Fin 1408) :
    k0_pay5 (F := Ideal) (iblk m c 1 t) (ix3 0 r l) = A1 m c (ix3 (mat t) (row t r) l) := by
  pointwise [k0_pay5, k0_pay4]
  exact g_pt m c t r l

theorem m_out (c : Dev nD) (t : Fin cfg0.N) (r : Fin 256) (l : Fin 1408) :
    k0_pay2 (F := Ideal) (k0_pay6 (iblk m c 1 t) (iblk m c 2 t)) (ix3 0 r l)
      = val_main_v4 (F := Ideal) (A1 m c) (A2 m c) (ix3 (mat t) (row t r) l) := by
  pointwise [k0_pay2, k0_pay6, k0_pay4, val_main_v4, val_main_v3, val_main_v2, val_main_v1, val_main_v0, val_main_cst, val_main_cst_0]
  rw [g_pt, m_pt]

theorem v_out (c : Dev nD) (t : Fin cfg0.N) (r : Fin 256) (l : Fin 1408) :
    k0_pay3 (F := Ideal) (k0_pay7 (iblk m c 1 t) (iblk m c 3 t)) (ix3 0 r l)
      = val_main_v10 (F := Ideal) (A1 m c) (A3 m c) (ix3 (mat t) (row t r) l) := by
  pointwise [k0_pay3, k0_pay7, k0_pay4, val_main_v10, val_main_v9, val_main_v8, val_main_v7, val_main_v6, val_main_v5, val_main_cst_1, val_main_cst_2]
  rw [g_pt, v_pt]

theorem d_out (c : Dev nD) (t : Fin cfg0.N) (r : Fin 256) (l : Fin 1408) :
    k0_pay1 (F := Ideal) (k0_pay8 (iblk m c 1 t) (iblk m c 0 t) (iblk m c 2 t) (iblk m c 3 t)) (Scalar.ofBits .f32 0xBA83126F#32) (ix3 0 r l)
      = val_main_v23 (F := Ideal) (A0 m c) (A1 m c) (A2 m c) (A3 m c) (ix3 (mat t) (row t r) l) := by
  pointwise [k0_pay1, k0_pay8, k0_pay6, k0_pay7, k0_pay4, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2, val_main_cst_3, val_main_cst_4, val_main_cst_5, val_main_cst_6, val_main_cst_7]
  rw [w_pt, g_pt, m_pt, v_pt]

/-- A value known at the block's own indices holds at every array index that lies in the block. -/
theorem at_index {t : Fin cfg0.N} {r : Fin 256} {l : Fin 1408} {X : S2x1024x1408.Idx → EReal} {x : EReal} (h : x = X (ix3 (mat t) (row t r) l))
    (i : S2x1024x1408.Idx) (h0 : (i 0).val = t.val / 4) (h1 : (i 1).val = t.val % 4 * 256 + r.val) (h2 : (i 2).val = l.val) : x = X i := by
  rw [h]
  congr 1
  funext k
  match k with
  | 0 => exact Fin.ext h0.symm
  | 1 => exact Fin.ext h1.symm
  | 2 => exact Fin.ext h2.symm

theorem split (y : S1x256x1408.Idx) : ∃ (r : Fin 256) (l : Fin 1408), y = ix3 0 r l := by
  refine ⟨y 1, y 2, funext fun k => ?_⟩
  match k with
  | 0 => exact Subsingleton.elim (α := Fin 1) _ _
  | 1 => rfl
  | 2 => rfl

theorem final_g (c : Dev nD) : (dats m 0 c).arrAt 4 cfg0.N = A1 m c := by
  refine (dats m 0 c).arrAt_eq_of_covers 4 _ (by decide +kernel) fun t hf y => ?_
  blk_simp
  rw [after0_4]; frame_out
  obtain ⟨r, l, rfl⟩ := split y
  refine at_index (g_out m c t r l) _ (by blk_simp [idx t]; rfl) (by blk_simp [idx t]) (by blk_simp [idx t])

theorem final_d (c : Dev nD) : (dats m 0 c).arrAt 5 cfg0.N = val_main_v23 (F := Ideal) (A0 m c) (A1 m c) (A2 m c) (A3 m c) := by
  refine (dats m 0 c).arrAt_eq_of_covers 5 _ (by decide +kernel) fun t hf y => ?_
  blk_simp
  rw [after0_5]; frame_out
  obtain ⟨r, l, rfl⟩ := split y
  refine at_index (d_out m c t r l) _ (by blk_simp [idx t]; rfl) (by blk_simp [idx t]) (by blk_simp [idx t])

theorem final_m (c : Dev nD) : (dats m 0 c).arrAt 6 cfg0.N = val_main_v4 (F := Ideal) (A1 m c) (A2 m c) := by
  refine (dats m 0 c).arrAt_eq_of_covers 6 _ (by decide +kernel) fun t hf y => ?_
  blk_simp
  rw [after0_6]; frame_out
  obtain ⟨r, l, rfl⟩ := split y
  refine at_index (m_out m c t r l) _ (by blk_simp [idx t]; rfl) (by blk_simp [idx t]) (by blk_simp [idx t])

theorem final_v (c : Dev nD) : (dats m 0 c).arrAt 7 cfg0.N = val_main_v10 (F := Ideal) (A1 m c) (A3 m c) := by
  refine (dats m 0 c).arrAt_eq_of_covers 7 _ (by decide +kernel) fun t hf y => ?_
  blk_simp
  rw [after0_7]; frame_out
  obtain ⟨r, l, rfl⟩ := split y
  refine at_index (v_out m c t r l) _ (by blk_simp [idx t]; rfl) (by blk_simp [idx t]) (by blk_simp [idx t])

theorem alg : Cert.algebraic_AdamIdeal_AdamRefIdeal := by
  intro m g m' g' _ hm
  refine ⟨_, _, _, _, (θ_run defs _ _).mono (fun r h c => ⟨(h c).1.trans (final_g m c), (h c).2.1.trans (final_d m c),
      (h c).2.2.1.trans (final_m m c), (h c).2.2.2.1.trans (final_v m c), (h c).2.2.2.2⟩) (Cert.AdamIdeal.Value.run_blocks m g),
    (θ_run _ _ _).mono (fun r h c => ⟨(h c).1.trans ?_, (h c).2.1.trans ?_, (h c).2.2.1.trans ?_, (h c).2.2.2.1.trans ?_, (h c).2.2.2.2⟩)
      (Cert.AdamRefIdeal.Value.run m' g')⟩
  · rw [(hm c).2.1]
  · rw [val_main_v23_eq, (hm c).1, (hm c).2.1, (hm c).2.2.1, (hm c).2.2.2]
  · rw [val_main_v4_eq, (hm c).2.1, (hm c).2.2.1]
  · rw [val_main_v10_eq, (hm c).2.1, (hm c).2.2.2]

end Cert.AdamValue

end
-- ==== Proof.SumHalves.lean ====
/- The value of the sum of two cores' halves of a weight's gradient: the core's own half and the sibling's, added up for the
   next exchange, and the chip's own quarter of it once more in f32. -/
module

public import proofs.«01_k».proof.Defs
public import proofs.«01_k».proof.Proof.Common
public import proofs.«01_k».proof.Proof.Gen.SumHalvesIdeal.Frame
public import proofs.«01_k».proof.Proof.Gen.SumHalvesRefIdeal.Run
public import proofs.«01_k».proof.Proof.Gen.SumHalvesRefIdeal.Read
public import Idealize.ShloMosaic.Lib.Pipeline.Value
public import Idealize.ShloMosaic.Lib.StableHlo.RunClose

@[expose] public section

noncomputable section

namespace Cert.SumHalvesValue

open Cert.SumHalvesIdeal Cert.SumHalvesIdeal.Gen Idealize.ShloMosaic Idealize.ShloMosaic.TcCoe Idealize.SL.Sem
open Cert.SumHalvesRefIdeal.Read Cert.Common

section Table

variable {F : FTy → Type} [FloatOps F] (m : (ℓ : Loc nD τ sig) → Buf (Elt F) ℓ)

/-- The prefetched words are the indices of the core and of the chip, both 0. -/
theorem tbl_zero : tbl m 0 = fun _ => 0#32 := by
  show V m (0 : Dev nD) main_v0 = _
  unfold_abbrev_sides
  after_results
  rfl

/-- The block of the own gradient is the one of the sibling's: the half's index is 0. -/
theorem half_zero (i : grid0.Coords) : cc0_transform_0 inb_S2_S1_0 numel1_S1 (tbl m) i = cc0_transform_1 i := by
  unfold cc0_transform_0 cc0_transform_1
  show ![0, (IntOp.addi (IntOp.muli (tbl m 0 _) 2#32) (BitVec.ofNat 32 (i 0).val)).toNat, 0] = _
  rw [tbl_zero]
  simp [IntOp.addi, IntOp.muli]

theorem ok : Ok m := fun i => by
  rw [half_zero]
  exact ⟨fun a => (hinb0_1 i a).trans (by revert a; decide), Or.inl rfl⟩

theorem hyps : Hyps m (ok m) := Hyps.of fun c t => by
  show k0_chk1 _
  rw [tbl_zero m]
  show k0_chk1 0#32
  decide

end Table

variable (m : (ℓ : Loc nD τ sig) → Buf (Elt Ideal) ℓ)

/-- The pipeline at the words' contents, the side conditions discharged. -/
abbrev hO : Ok m := ok m
abbrev D (c : Dev nD) := dats m (hO m) (hyps m) 0 c

abbrev A0 (c : Dev nD) : S4x1024x1408.Idx → EReal := m (c.tc.loc main_arg0)
abbrev A1 (c : Dev nD) : S4x512x1408.Idx → EReal := m (c.tc.loc main_arg1)

theorem grid_idx : ∀ t : Fin grid0.N, cc0_transform_1 (grid0.coords t) (0 : Fin 3) = 0 ∧ cc0_transform_1 (grid0.coords t) (1 : Fin 3) = t.val
    ∧ cc0_transform_1 (grid0.coords t) (2 : Fin 3) = 0
    ∧ cc0_transform_3 (grid0.coords t) (0 : Fin 3) = 0 ∧ cc0_transform_3 (grid0.coords t) (1 : Fin 3) = t.val
    ∧ cc0_transform_3 (grid0.coords t) (2 : Fin 3) = 0
    ∧ cc0_transform_4 (grid0.coords t) (0 : Fin 2) = t.val ∧ cc0_transform_4 (grid0.coords t) (1 : Fin 2) = 0 := by decide +kernel

abbrev W := pcfg0.win (adm m (hO m))

/-- Where the blocks lie: rows `256 t` onward of the quarters. -/
theorem idx (t : Fin (cfgM m (hO m)).N) : (W m 0).index t (0 : Fin 3) = 0 ∧ (W m 0).index t (1 : Fin 3) = t.val ∧ (W m 0).index t (2 : Fin 3) = 0
    ∧ (W m 1).index t (0 : Fin 3) = 0 ∧ (W m 1).index t (1 : Fin 3) = t.val ∧ (W m 1).index t (2 : Fin 3) = 0
    ∧ (W m 2).index t (0 : Fin 3) = 0 ∧ (W m 2).index t (1 : Fin 3) = t.val ∧ (W m 2).index t (2 : Fin 3) = 0
    ∧ (W m 3).index t (0 : Fin 2) = t.val ∧ (W m 3).index t (1 : Fin 2) = 0 := by
  have h : (W m 0).index t = cc0_transform_1 (grid0.coords t) := half_zero m (grid0.coords t)
  rw [h]
  exact ⟨(grid_idx t).1, (grid_idx t).2.1, (grid_idx t).2.2.1, grid_idx t⟩

theorem points : (cfgM m (hO m)).N = 2 := N_0

abbrev row (t : Fin (cfgM m (hO m)).N) (r : Fin 256) : Fin 1024 := ⟨t.val * 256 + r.val, by
  have := r.isLt; have := t.isLt; have := points m; omega⟩
abbrev row' (t : Fin (cfgM m (hO m)).N) (r : Fin 256) : Fin 512 := ⟨t.val * 256 + r.val, by
  have := r.isLt; have := t.isLt; have := points m; omega⟩

theorem own_pt (c : Dev nD) (t : Fin (cfgM m (hO m)).N) (q : Fin 4) (r : Fin 256) (l : Fin 1408) :
    iblk m (hO m) c 0 t (ix3 q r l) = A0 m c (ix3 q (row m t r) l) := by
  blk_point [iblk, V]
  · exact (congrArg (fun x : ℕ => x * 4 + q.val) (idx m t).1).trans (by simp)
  · exact congrArg (fun x : ℕ => x * 256 + r.val) (idx m t).2.1
  · exact (congrArg (fun x : ℕ => x * 1408 + l.val) (idx m t).2.2.1).trans (by simp)

theorem got_pt (c : Dev nD) (t : Fin (cfgM m (hO m)).N) (q : Fin 4) (r : Fin 256) (l : Fin 1408) :
    iblk m (hO m) c 1 t (ix3 q r l) = A1 m c (ix3 q (row' m t r) l) := by
  blk_point [iblk, V]
  · exact (congrArg (fun x : ℕ => x * 4 + q.val) (idx m t).2.2.2.1).trans (by simp)
  · exact congrArg (fun x : ℕ => x * 256 + r.val) (idx m t).2.2.2.2.1
  · exact (congrArg (fun x : ℕ => x * 1408 + l.val) (idx m t).2.2.2.2.2.1).trans (by simp)

/-- What each point leaves in the two results, at an index of its block. -/
theorem all_out (c : Dev nD) (t : Fin (cfgM m (hO m)).N) (q : Fin 4) (r : Fin 256) (l : Fin 1408) :
    k0_pay1 (F := Ideal) (iblk m (hO m) c 0 t) (iblk m (hO m) c 1 t) (ix3 q r l) = val_main_v2 (F := Ideal) (A0 m c) (A1 m c) (ix3 q (row' m t r) l) := by
  pointwise [k0_pay1, val_main_v2, val_main_v1, val_main_v0]
  rw [own_pt, got_pt]

theorem off_zero : (tbM0_0.view.readAt (Elt Ideal) (Rect.unit (s := S2) ![1] S1.size inb_S2_S1_1).toLoadRect (tbl m 0) (Shape.Idx.first (numel1_S1.symm ▸ Nat.one_pos))) = 0#32 := by
  rw [tbl_zero m]
  rfl

/-- A chip's own quarter: the words' index is 0. -/
theorem own_out (c : Dev nD) (t : Fin (cfgM m (hO m)).N) (w : BitVec 32) (hw : w = 0#32) (h : ∀ a, k0_off1 w a + S1x256x1408.size a ≤ S4x256x1408.size a)
    (r : Fin 256) (l : Fin 1408) :
    k0_pay2 (F := Ideal) (View.ld (iblk m (hO m) c 0 t) (Rect.unit (s := S4x256x1408) (k0_off1 w) S1x256x1408.size h))
      (View.ld (iblk m (hO m) c 1 t) (Rect.unit (s := S4x256x1408) (k0_off1 w) S1x256x1408.size h)) (ix2 r l)
      = val_main_v4 (F := Ideal) (A0 m c) (A1 m c) (ix2 (row' m t r) l) := by
  subst hw
  pointwise [k0_pay2, val_main_v4, val_main_v3, val_main_v1, val_main_v0]
  have e : ∀ p q, (ix3 0 ⟨k0_off1 0#32 1 + r.val, p⟩ ⟨k0_off1 0#32 2 + l.val, q⟩ : S4x256x1408.Idx) = ix3 0 r l := fun p q => by
    congr 1 <;> exact Fin.ext (Nat.zero_add _)
  exact congrArg₂ (· + ·) ((congrArg _ (e _ _)).trans (own_pt m c t 0 r l)) ((congrArg _ (e _ _)).trans (got_pt m c t 0 r l))

/-- Every row of a result is written back at the one point of its block. -/
theorem covers_all : ((cfgM m (hO m)).win 2).Covers := by
  refine ⟨(by decide : ∀ a : Fin 3, 0 < S4x256x1408.size a), fun β => ?_⟩
  have n0 : ((cfgM m (hO m)).win 2).nblk (0 : Fin 3) = 1 := by
    show (S4x512x1408.size 0 + S4x256x1408.size 0 - 1) / S4x256x1408.size 0 = 1
    decide
  have n1 : ((cfgM m (hO m)).win 2).nblk (1 : Fin 3) = 2 := by
    show (S4x512x1408.size 1 + S4x256x1408.size 1 - 1) / S4x256x1408.size 1 = 2
    decide
  have n2 : ((cfgM m (hO m)).win 2).nblk (2 : Fin 3) = 1 := by
    show (S4x512x1408.size 2 + S4x256x1408.size 2 - 1) / S4x256x1408.size 2 = 1
    decide
  have b0 := lt_of_lt_of_eq (β (0 : Fin 3)).isLt n0
  have b1 := lt_of_lt_of_eq (β (1 : Fin 3)).isLt n1
  have b2 := lt_of_lt_of_eq (β (2 : Fin 3)).isLt n2
  have h := grid_idx ⟨(β (1 : Fin 3)).val, lt_of_lt_of_eq b1 N_0.symm⟩
  have key : ∀ a : Fin 3, cc0_transform_3 (grid0.coords ⟨(β (1 : Fin 3)).val, lt_of_lt_of_eq b1 N_0.symm⟩) a = (β a).val := fun a =>
    match a with
    | 0 => h.2.2.2.1.trans (by omega)
    | 1 => h.2.2.2.2.1
    | 2 => h.2.2.2.2.2.1.trans (by omega)
  exact ⟨_, flush0_2 _ _, fun a => ⟨key a, Or.inl rfl⟩⟩

theorem covers_own : ((cfgM m (hO m)).win 3).Covers := by
  refine ⟨(by decide : ∀ a : Fin 2, 0 < S256x1408.size a), fun β => ?_⟩
  have n0 : ((cfgM m (hO m)).win 3).nblk (0 : Fin 2) = 2 := by
    show (S512x1408.size 0 + S256x1408.size 0 - 1) / S256x1408.size 0 = 2
    decide
  have n1 : ((cfgM m (hO m)).win 3).nblk (1 : Fin 2) = 1 := by
    show (S512x1408.size 1 + S256x1408.size 1 - 1) / S256x1408.size 1 = 1
    decide
  have b0 := lt_of_lt_of_eq (β (0 : Fin 2)).isLt n0
  have b1 := lt_of_lt_of_eq (β (1 : Fin 2)).isLt n1
  have h := grid_idx ⟨(β (0 : Fin 2)).val, lt_of_lt_of_eq b0 N_0.symm⟩
  have key : ∀ a : Fin 2, cc0_transform_4 (grid0.coords ⟨(β (0 : Fin 2)).val, lt_of_lt_of_eq b0 N_0.symm⟩) a = (β a).val := fun a =>
    match a with
    | 0 => h.2.2.2.2.2.2.1
    | 1 => h.2.2.2.2.2.2.2.trans (by omega)
  exact ⟨_, flush0_3 _ _, fun a => ⟨key a, Or.inl rfl⟩⟩

/-- A value known at the block's own indices holds at every array index that lies in the block. -/
theorem at_index {t : Fin (cfgM m (hO m)).N} {q : Fin 4} {r : Fin 256} {l : Fin 1408} {X : S4x512x1408.Idx → EReal} {x : EReal}
    (h : x = X (ix3 q (row' m t r) l)) (i : S4x512x1408.Idx) (h0 : (i 0).val = q.val) (h1 : (i 1).val = t.val * 256 + r.val)
    (h2 : (i 2).val = l.val) : x = X i := by
  rw [h]
  congr 1
  funext k
  match k with
  | 0 => exact Fin.ext h0.symm
  | 1 => exact Fin.ext h1.symm
  | 2 => exact Fin.ext h2.symm

theorem split (y : S4x256x1408.Idx) : ∃ (q : Fin 4) (r : Fin 256) (l : Fin 1408), y = ix3 q r l := by
  refine ⟨y 0, y 1, y 2, funext fun k => ?_⟩
  match k with
  | 0 => rfl
  | 1 => rfl
  | 2 => rfl

theorem at_own {t : Fin (cfgM m (hO m)).N} {r : Fin 256} {l : Fin 1408} {X : S512x1408.Idx → EReal} {x : EReal}
    (h : x = X (ix2 (row' m t r) l)) (i : S512x1408.Idx) (h0 : (i 0).val = t.val * 256 + r.val) (h1 : (i 1).val = l.val) : x = X i := by
  rw [h, eq_ix2_of (a := row' m t r) h0 h1]

theorem split_own (y : S256x1408.Idx) : ∃ (r : Fin 256) (l : Fin 1408), y = ix2 r l :=
  ⟨y 0, y 1, eq_ix2_of rfl rfl⟩

theorem final_all (c : Dev nD) : (D m c).arrAt 2 (cfgM m (hO m)).N = val_main_v2 (F := Ideal) (A0 m c) (A1 m c) := by
  refine (D m c).arrAt_eq_of_covers 2 _ (covers_all m) fun t hf y => ?_
  blk_simp
  rw [after0_2]; unfold outsAt0; frame_out
  refine (congrFun (congrArg₂ (k0_pay1 (F := Ideal)) ((hs0_0 m (hO m) t).read_unread _) ((hs0_1 m (hO m) t).read_unread _)) y).trans ?_
  obtain ⟨q, r, l, rfl⟩ := split y
  refine at_index m (all_out m c t q r l) _ ?_ ?_ ?_
  · blk_simp
    exact (congrArg (fun x : ℕ => x * 4 + q.val) (idx m t).2.2.2.2.2.2.1).trans (by simp)
  · blk_simp
    exact congrArg (fun x : ℕ => x * 256 + r.val) (idx m t).2.2.2.2.2.2.2.1
  · blk_simp
    exact (congrArg (fun x : ℕ => x * 1408 + l.val) (idx m t).2.2.2.2.2.2.2.2.1).trans (by simp)

theorem final_own (c : Dev nD) : (D m c).arrAt 3 (cfgM m (hO m)).N = val_main_v4 (F := Ideal) (A0 m c) (A1 m c) := by
  refine (D m c).arrAt_eq_of_covers 3 _ (covers_own m) fun t hf y => ?_
  blk_simp
  rw [after0_3]; unfold outsAt0; frame_out
  refine (congrFun (congrArg₂ (k0_pay2 (F := Ideal)) (congrArg (fun x => View.ld x _) ((hs0_0 m (hO m) t).read_unread _))
    (congrArg (fun x => View.ld x _) ((hs0_1 m (hO m) t).read_unread _))) y).trans ?_
  obtain ⟨r, l, rfl⟩ := split_own y
  refine at_own m (own_out m c t _ (off_zero m) _ r l) _ ?_ ?_
  · blk_simp
    exact congrArg (fun x : ℕ => x * 256 + r.val) (idx m t).2.2.2.2.2.2.2.2.2.1
  · blk_simp
    exact (congrArg (fun x : ℕ => x * 1408 + l.val) (idx m t).2.2.2.2.2.2.2.2.2.2).trans (by simp)

theorem alg : Cert.algebraic_SumHalvesIdeal_SumHalvesRefIdeal := by
  intro m g m' g' _ hm
  refine ⟨_, _, (θ_run defs _ _).mono (fun r h c => ⟨((h c).1 2).trans (final_all m c), ((h c).1 3).trans (final_own m c),
      ((h c).1 0).trans (((D m c).arrAt_in 0 rfl _).trans (V_main_arg0 m c)), ((h c).1 1).trans (((D m c).arrAt_in 1 rfl _).trans (V_main_arg1 m c)),
      ((h c).2 main_arg2 (by decide : main_arg2 ∈ Pipeline.restRefs sig spec0)).trans (V_main_arg2 m c)⟩) (run_main m g (hO m) (hyps m)),
    (θ_run _ _ _).mono (fun r h c => ⟨(h c).1.trans ?_, (h c).2.1.trans ?_, (h c).2.2⟩) (Cert.SumHalvesRefIdeal.Value.run m' g')⟩
  · rw [val_main_v2_eq, (hm c).1, (hm c).2.1]
  · rw [val_main_v4_eq, (hm c).1, (hm c).2.1]

end Cert.SumHalvesValue

end
-- ==== Proof.CastOwn.lean ====
/- The value of the cast of a layer's weight to bf16 into the chip's own columns, before the weights are gathered. -/
module

public import proofs.«01_k».proof.Defs
public import proofs.«01_k».proof.Proof.Common
public import proofs.«01_k».proof.Proof.Gen.CastOwnIdeal.Frame
public import proofs.«01_k».proof.Proof.Gen.CastOwnRefIdeal.Run
public import proofs.«01_k».proof.Proof.Gen.CastOwnRefIdeal.Read
public import Idealize.ShloMosaic.Lib.Pipeline.Value
public import Idealize.ShloMosaic.Lib.StableHlo.RunClose

@[expose] public section

noncomputable section

namespace Cert.CastOwnValue

open Cert.CastOwnIdeal Cert.CastOwnIdeal.Gen Idealize.ShloMosaic Idealize.ShloMosaic.TcCoe Idealize.SL.Sem
open Cert.CastOwnRefIdeal.Read Cert.Common

section Table

variable {F : FTy → Type} [FloatOps F] (m : (ℓ : Loc nD τ sig) → Buf (Elt F) ℓ)

/-- The prefetched words are the indices of the core and of the chip, both 0. -/
theorem tbl_zero : tbl m 0 = fun _ => 0#32 := by
  show StableHlo.after hostOps0 (fun b => m ((0 : Dev nD), b)) (Proc.devRef .tc main_v0) = _
  after_results
  rfl

/-- Where the blocks of the result lie: the chip's index is 0. -/
def place (i : grid0.Coords) : Fin 4 → ℕ := ![0, 0, (i 1).val, 0]

theorem place_zero (i : grid0.Coords) : cc0_transform_1 inb_S2_S1_1 numel1_S1 (tbl m) i = place i := by
  have h : (i 0).val = 0 := by have : (i 0).val < 1 := (i 0).isLt; omega
  have h' : (i 1).val < 2 := (i 1).isLt
  unfold cc0_transform_1 place
  show ![(BitVec.ofNat 32 (i 0).val).toNat, (tbl m 0 _).toNat, (BitVec.ofNat 32 (i 1).val).toNat, 0] = _
  rw [tbl_zero, h]
  simp [Nat.mod_eq_of_lt (show (i 1).val < 4294967296 by omega)]

theorem inb : ∀ (i : grid0.Coords) (a : Fin 4), (place i a + 1) * S1x1x512x1408.size a ≤ S1x4x1024x1408.size a := by decide

theorem words (i : grid0.Coords) : (Rect.block (s := S1x4x1024x1408) S1x1x512x1408.size (place i) (inb i)).WholeWords (EltTy.packing .bf16) := by
  revert i; decide

theorem ok : Ok m := fun i => by
  rw [place_zero]
  exact ⟨inb i, Or.inr (words i)⟩

end Table

variable (m : (ℓ : Loc nD τ sig) → Buf (Elt Ideal) ℓ)

/-- The pipeline at the words' contents, the side condition discharged. -/
abbrev hO : Ok m := ok m
abbrev D (c : Dev nD) := dats m (hO m) 0 c

abbrev A0 (c : Dev nD) : S2x1024x1408.Idx → EReal := m (c.tc.loc main_arg0)

abbrev W := pcfg0.win (adm m (hO m))

theorem points : (cfgM m (hO m)).N = 2 := N_0

theorem grid_idx : ∀ t : Fin grid0.N, cc0_transform_0 (grid0.coords t) (0 : Fin 3) = 0 ∧ cc0_transform_0 (grid0.coords t) (1 : Fin 3) = t.val
    ∧ cc0_transform_0 (grid0.coords t) (2 : Fin 3) = 0 ∧ (grid0.coords t 1).val = t.val := by decide +kernel

theorem idx (t : Fin (cfgM m (hO m)).N) : (W m 1).index t (0 : Fin 4) = 0 ∧ (W m 1).index t (1 : Fin 4) = 0 ∧ (W m 1).index t (2 : Fin 4) = t.val
    ∧ (W m 1).index t (3 : Fin 4) = 0 := by
  have h : (W m 1).index t = place (grid0.coords t) := place_zero m (grid0.coords t)
  rw [h]
  exact ⟨rfl, rfl, (grid_idx t).2.2.2, rfl⟩

/-- Each point's block is written back: the two points' blocks differ. -/
theorem flush (t : Fin (cfgM m (hO m)).N) : ((cfgM m (hO m)).win 1).flush t = true := by
  have hN := points m
  have ht := t.isLt
  refine (Pipeline.Window.flush_out _ rfl _).2 ?_
  by_cases h : t.val + 1 = (cfgM m (hO m)).N
  · exact Or.inl h
  · have h' : t.val + 1 < (cfgM m (hO m)).N := by omega
    exact Or.inr ⟨h', fun e => absurd ((idx m ⟨t.val + 1, h'⟩).2.2.1.symm.trans ((congrFun e (2 : Fin 4)).trans (idx m t).2.2.1)) (Nat.succ_ne_self _)⟩

abbrev row (t : Fin (cfgM m (hO m)).N) (r : Fin 512) : Fin 1024 := ⟨t.val * 512 + r.val, by
  have := r.isLt; have := t.isLt; have := points m; omega⟩

theorem own_pt (c : Dev nD) (t : Fin (cfgM m (hO m)).N) (r : Fin 512) (l : Fin 1408) :
    iblk m (hO m) c 0 t (ix3 0 r l) = A0 m c (ix3 0 (row m t r) l) := by
  blk_point [iblk, V]
  · exact congrArg (fun x : ℕ => x + 0) (grid_idx t).1
  · exact congrArg (fun x : ℕ => x * 512 + r.val) (grid_idx t).2.1
  · exact (congrArg (fun x : ℕ => x * 1408 + l.val) (grid_idx t).2.2.1).trans (by simp)

/-- What each point leaves in the result, at an index of its block. -/
theorem out_pt (c : Dev nD) (t : Fin (cfgM m (hO m)).N) (r : Fin 512) (l : Fin 1408) {X : Vec Ideal S1x512x1408 .f32} (hX : X = iblk m (hO m) c 0 t) :
    k0_pay1 (F := Ideal) X (ix4 0 0 r l) = val_main_v1 (F := Ideal) (A0 m c) (ix3 0 (row m t r) l) := by
  subst hX
  pointwise [k0_pay1, val_main_v1, val_main_v0]
  rw [own_pt]

theorem split (y : S1x1x512x1408.Idx) : ∃ (r : Fin 512) (l : Fin 1408), y = ix4 0 0 r l := by
  refine ⟨y 2, y 3, funext fun k => ?_⟩
  match k with
  | 0 => exact Subsingleton.elim (α := Fin 1) _ _
  | 1 => exact Subsingleton.elim (α := Fin 1) _ _
  | 2 => rfl
  | 3 => rfl

/-- The chip's own columns, whatever the other chips' columns of the result hold. -/
theorem final (c : Dev nD) (r : Fin 1024) (l : Fin 1408) :
    (D m c).arrAt 1 (cfgM m (hO m)).N (ix4 0 0 r l : S1x4x1024x1408.Idx) = val_main_v1 (F := Ideal) (A0 m c) (ix3 0 r l) := by
  have h0 : r.val / 512 < (cfgM m (hO m)).N := by have := r.isLt; have := points m; omega
  refine (D m c).arrAt_forall_of_flushed 1 (fun (i : S1x4x1024x1408.Idx) v => ∀ (r : Fin 1024) (l : Fin 1408), (i 2).val = r.val → (i 3).val = l.val →
    v = val_main_v1 (F := Ideal) (A0 m c) (ix3 0 r l)) (fun t _ y => ?_) _ ⟨r.val / 512, h0⟩ _ h0 (flush m _) ?_ r l rfl rfl
  · intro r l h1 h2
    blk_simp at h1 h2
    blk_simp
    rw [after0_1]; unfold outsAt0; frame_out
    obtain ⟨r', l', rfl⟩ := split y
    obtain rfl : row m t r' = r := Fin.ext ((congrArg (fun x : ℕ => x * 512 + r'.val) (idx m t).2.2.1).symm.trans h1)
    obtain rfl : l' = l := Fin.ext (((Nat.zero_add _).symm.trans (congrArg (fun x : ℕ => x * 1408 + l'.val) (idx m t).2.2.2).symm).trans h2)
    exact out_pt m c t r' l' ((hs0_0 m (hO m) t).read_unread _)
  · have e : ((cfgM m (hO m)).win 1 |>.blk ⟨r.val / 512, h0⟩).view.emb (ix4 0 0 ⟨r.val % 512, Nat.mod_lt _ (by decide)⟩ l : S1x1x512x1408.Idx)
        = (ix4 0 0 r l : S1x4x1024x1408.Idx) := by
      refine funext fun (k : Fin 4) => ?_
      match k with
      | 0 => exact Fin.ext (congrArg (fun x : ℕ => x * 1 + 0) (idx m ⟨r.val / 512, h0⟩).1)
      | 1 => exact Fin.ext (congrArg (fun x : ℕ => x * 1 + 0) (idx m ⟨r.val / 512, h0⟩).2.1)
      | 2 => refine Fin.ext ?_; blk_simp; exact (congrArg (fun x : ℕ => x * 512 + r.val % 512) (idx m ⟨r.val / 512, h0⟩).2.2.1).trans (Nat.div_add_mod' r.val 512)
      | 3 => refine Fin.ext ?_; blk_simp; exact (congrArg (fun x : ℕ => x * 1408 + l.val) (idx m ⟨r.val / 512, h0⟩).2.2.2).trans (by simp)
    rw [← e]
    exact View.emb_mem_set _ _

/-- The call's result. -/
abbrev out (c : Dev nD) : (⟨S1x4x1024x1408, .bf16⟩ : BufTy).Contents (Elt Ideal) := (D m c).arrAt 1 (cfgM m (hO m)).N

theorem tail_eq (c : Dev nD) : Pipeline.afterTail pcfgs (fun _ => adm m (hO m)) (dats m (hO m)) 0 (V0 m) [hostOps1] c main_v3
    = shapeCast S1x1024x1408 (extractStridedSlice S1x1x1024x1408 ![0, 0, 0, 0] (out m c) slices_S1x4x1024x1408_S1x1x1024x1408_0_0_0_0)
      shapeCasts_S1x1x1024x1408_S1x1024x1408 := by
  unfold Pipeline.afterTail
  rw [← show Pipeline.withArrays spec0 c (V0 m c) (fun w => (D m c).arrAt w (cfgM m (hO m)).N) (Proc.devRef .tc main_v1) = out m c
    from Pipeline.withArrays_arr _ winFacts0.arr_inj c (V0 m c) _ 1]
  show StableHlo.after hostOps1 _ (Proc.devRef .tc main_v3) = _
  after_results_simp_entrywise
  rfl

theorem row_pt (X : (⟨S1x4x1024x1408, .bf16⟩ : BufTy).Contents (Elt Ideal)) (r : Fin 1024) (l : Fin 1408) :
    shapeCast S1x1024x1408 (extractStridedSlice S1x1x1024x1408 ![0, 0, 0, 0] X slices_S1x4x1024x1408_S1x1x1024x1408_0_0_0_0)
      shapeCasts_S1x1x1024x1408_S1x1024x1408 (ix3 0 r l) = X (ix4 0 0 r l) := by
  pointwise []

theorem result (c : Dev nD) : Pipeline.afterTail pcfgs (fun _ => adm m (hO m)) (dats m (hO m)) 0 (V0 m) [hostOps1] c main_v3
    = val_main_v1 (F := Ideal) (A0 m c) := by
  rw [tail_eq]
  funext i
  obtain ⟨r, l, rfl⟩ : ∃ (r : Fin 1024) (l : Fin 1408), i = ix3 0 r l := by
    refine ⟨i 1, i 2, funext fun k => ?_⟩
    match k with
    | 0 => exact Subsingleton.elim (α := Fin 1) _ _
    | 1 => rfl
    | 2 => rfl
  exact (row_pt _ r l).trans (final m c r l)

theorem alg : Cert.algebraic_CastOwnIdeal_CastOwnRefIdeal := by
  intro m g m' g' _ hm
  refine ⟨_, (θ_run defs _ _).mono (fun r h c => ⟨((h c).2 main_v3 (by decide : main_v3 ∈ Pipeline.restRefs sig spec0)).trans (result m c),
      ((h c).1 0).trans (((D m c).arrAt_in 0 rfl _).trans (V_main_arg0 m c))⟩) (run_main m g (hO m)),
    (θ_run _ _ _).mono (fun r h c => ⟨(h c).1.trans ?_, (h c).2⟩) (Cert.CastOwnRefIdeal.Value.run m' g')⟩
  exact (val_main_v1_eq (F := Ideal) _).trans (congrArg (val_main_v1 (F := Ideal)) (hm c))

end Cert.CastOwnValue

end
-- ==== Proof.SumPartials.lean ====
/- The value of the sum of the four chips' parts of a weight's gradient: the chip's own part and the three that the exchange
   brings, added up into the rows of one core and one layer. -/
module

public import proofs.«01_k».proof.Defs
public import proofs.«01_k».proof.Proof.Common
public import proofs.«01_k».proof.Proof.Gen.SumPartialsIdeal.Frame
public import proofs.«01_k».proof.Proof.Gen.SumPartialsRefIdeal.Run
public import proofs.«01_k».proof.Proof.Gen.SumPartialsRefIdeal.Read
public import Idealize.ShloMosaic.Lib.Pipeline.Value
public import Idealize.ShloMosaic.Lib.StableHlo.RunClose

@[expose] public section

noncomputable section

namespace Cert.SumPartialsValue

open Cert.SumPartialsIdeal Cert.SumPartialsIdeal.Gen Idealize.ShloMosaic Idealize.ShloMosaic.TcCoe Idealize.SL.Sem
open Cert.SumPartialsRefIdeal.Read Cert.Common

section Table

variable {F : FTy → Type} [FloatOps F] (m : (ℓ : Loc nD τ sig) → Buf (Elt F) ℓ)

/-- The prefetched words are the indices of the core and of the chip, both 0. -/
theorem tbl_zero : tbl m 0 = fun _ => 0#32 := by
  show StableHlo.after hostOps0 (fun b => m ((0 : Dev nD), b)) (Proc.devRef .tc main_v0) = _
  after_results
  rfl

/-- The block of the result is the core's rows of the second layer: the core's index is 0. -/
theorem place_zero (i : grid0.Coords) : cc0_transform_3 inb_S2_S1_0 numel1_S1 (tbl m) i = ![1, (i 0).val, 0] := by
  have h : (i 0).val = 0 := by have : (i 0).val < 1 := (i 0).isLt; omega
  unfold cc0_transform_3
  show ![1, (IntOp.addi (IntOp.muli (tbl m 0 _) 1#32) (BitVec.ofNat 32 (i 0).val)).toNat, 0] = _
  rw [tbl_zero, h]
  simp [IntOp.addi, IntOp.muli]

theorem ok : Ok m := fun i => by
  rw [place_zero]
  exact ⟨by revert i; decide, Or.inl rfl⟩

end Table

variable (m : (ℓ : Loc nD τ sig) → Buf (Elt Ideal) ℓ)

/-- The pipeline at the words' contents, the side condition discharged. -/
abbrev hO : Ok m := ok m
abbrev D (c : Dev nD) := dats m (hO m) 0 c

abbrev A0 (c : Dev nD) : S512x1408.Idx → EReal := m (c.tc.loc main_arg0)
abbrev A1 (c : Dev nD) : S3x512x1408.Idx → EReal := m (c.tc.loc main_arg1)

abbrev W := pcfg0.win (adm m (hO m))

theorem points : (cfgM m (hO m)).N = 1 := N_0

theorem grid_idx : ∀ t : Fin grid0.N, cc0_transform_0 (grid0.coords t) (0 : Fin 2) = 0 ∧ cc0_transform_0 (grid0.coords t) (1 : Fin 2) = 0
    ∧ cc0_transform_1 (grid0.coords t) (0 : Fin 3) = 0 ∧ cc0_transform_1 (grid0.coords t) (1 : Fin 3) = 0
    ∧ cc0_transform_1 (grid0.coords t) (2 : Fin 3) = 0 ∧ (grid0.coords t 0).val = 0 := by decide +kernel

/-- Where the block of the result lies. -/
theorem idx (t : Fin (cfgM m (hO m)).N) : (W m 2).index t (0 : Fin 3) = 1 ∧ (W m 2).index t (1 : Fin 3) = 0 ∧ (W m 2).index t (2 : Fin 3) = 0 := by
  have h : (W m 2).index t = ![1, (grid0.coords t 0).val, 0] := place_zero m (grid0.coords t)
  rw [h, (grid_idx t).2.2.2.2.2]
  exact ⟨rfl, rfl, rfl⟩

theorem own_pt (c : Dev nD) (t : Fin (cfgM m (hO m)).N) (r : Fin 512) (l : Fin 1408) :
    iblk m (hO m) c 0 t (ix2 r l) = A0 m c (ix2 r l) := by
  blk_point [iblk, V]
  · exact (congrArg (fun x : ℕ => x * 512 + r.val) (grid_idx t).1).trans (by simp)
  · exact (congrArg (fun x : ℕ => x * 1408 + l.val) (grid_idx t).2.1).trans (by simp)

theorem got_pt (c : Dev nD) (t : Fin (cfgM m (hO m)).N) (q : Fin 3) (r : Fin 512) (l : Fin 1408) :
    iblk m (hO m) c 1 t (ix3 q r l) = A1 m c (ix3 q r l) := by
  blk_point [iblk, V]
  · exact (congrArg (fun x : ℕ => x * 3 + q.val) (grid_idx t).2.2.1).trans (by simp)
  · exact (congrArg (fun x : ℕ => x * 512 + r.val) (grid_idx t).2.2.2.1).trans (by simp)
  · exact (congrArg (fun x : ℕ => x * 1408 + l.val) (grid_idx t).2.2.2.2.1).trans (by simp)

/-- What the one point leaves in the result, at an index of its block. -/
theorem out_pt (c : Dev nD) (t : Fin (cfgM m (hO m)).N) (r : Fin 512) (l : Fin 1408) {X : Vec Ideal S512x1408 .f32} {Y : Vec Ideal S3x512x1408 .bf16}
    (hX : X = iblk m (hO m) c 0 t) (hY : Y = iblk m (hO m) c 1 t)
    (h0 : ∀ a, (![0, 0, 0] : Fin 3 → ℕ) a + S1x512x1408.size a ≤ S3x512x1408.size a)
    (h1 : ∀ a, (![1, 0, 0] : Fin 3 → ℕ) a + S1x512x1408.size a ≤ S3x512x1408.size a)
    (h2 : ∀ a, (![2, 0, 0] : Fin 3 → ℕ) a + S1x512x1408.size a ≤ S3x512x1408.size a) :
    k0_pay1 (F := Ideal) X (View.ld Y (Rect.unit (s := S3x512x1408) ![0, 0, 0] S1x512x1408.size h0))
      (View.ld Y (Rect.unit (s := S3x512x1408) ![1, 0, 0] S1x512x1408.size h1))
      (View.ld Y (Rect.unit (s := S3x512x1408) ![2, 0, 0] S1x512x1408.size h2)) (ix3 0 r l)
      = val_main_v11 (F := Ideal) (A0 m c) (A1 m c) (ix2 r l) := by
  subst hX hY
  pointwise [k0_pay1, val_main_v11, val_main_v10, val_main_v9, val_main_v8, val_main_v7, val_main_v6, val_main_v5, val_main_v4, val_main_v3, val_main_v2,
    val_main_v1, val_main_v0]
  rw [own_pt, got_pt, got_pt, got_pt]

theorem split (y : S1x512x1408.Idx) : ∃ (r : Fin 512) (l : Fin 1408), y = ix3 0 r l := by
  refine ⟨y 1, y 2, funext fun k => ?_⟩
  match k with
  | 0 => exact Subsingleton.elim (α := Fin 1) _ _
  | 1 => rfl
  | 2 => rfl

/-- The rows that the call writes, whatever the other rows of the result hold. -/
theorem final (c : Dev nD) (r : Fin 512) (l : Fin 1408) :
    (D m c).arrAt 2 (cfgM m (hO m)).N (ix3 1 ⟨r.val, by have := r.isLt; omega⟩ l : S2x1024x1408.Idx) = val_main_v11 (F := Ideal) (A0 m c) (A1 m c) (ix2 r l) := by
  have h0 : 0 < (cfgM m (hO m)).N := lt_of_lt_of_eq Nat.one_pos (points m).symm
  have hf : ((cfgM m (hO m)).win 2).flush ⟨0, h0⟩ = true := (Pipeline.Window.flush_out _ rfl _).2 (Or.inl (points m).symm)
  refine (D m c).arrAt_forall_of_flushed 2 (fun (i : S2x1024x1408.Idx) v => ∀ (r : Fin 512) (l : Fin 1408), (i 1).val = r.val → (i 2).val = l.val →
    v = val_main_v11 (F := Ideal) (A0 m c) (A1 m c) (ix2 r l)) (fun t _ y => ?_) _ ⟨0, h0⟩ _ h0 hf ?_ r l rfl rfl
  · intro r l h1 h2
    blk_simp at h1 h2
    blk_simp
    rw [after0_2]; unfold outsAt0; frame_out
    obtain ⟨r', l', rfl⟩ := split y
    obtain rfl : r' = r := Fin.ext (((Nat.zero_add _).symm.trans (congrArg (fun x : ℕ => x * 512 + r'.val) (idx m t).2.1).symm).trans h1)
    obtain rfl : l' = l := Fin.ext (((Nat.zero_add _).symm.trans (congrArg (fun x : ℕ => x * 1408 + l'.val) (idx m t).2.2).symm).trans h2)
    exact out_pt m c t r' l' ((hs0_0 m (hO m) t).read_unread _) ((hs0_1 m (hO m) t).read_unread _) _ _ _
  · have e : ((cfgM m (hO m)).win 2 |>.blk ⟨0, h0⟩).view.emb (ix3 0 r l : S1x512x1408.Idx) = (ix3 1 ⟨r.val, by have := r.isLt; omega⟩ l : S2x1024x1408.Idx) := by
      refine funext fun (k : Fin 3) => ?_
      match k with
      | 0 => exact Fin.ext (congrArg (fun x : ℕ => x * 1 + 0) (idx m ⟨0, h0⟩).1)
      | 1 => refine Fin.ext ?_; blk_simp; exact (congrArg (fun x : ℕ => x * 512 + r.val) (idx m ⟨0, h0⟩).2.1).trans (by simp)
      | 2 => refine Fin.ext ?_; blk_simp; exact (congrArg (fun x : ℕ => x * 1408 + l.val) (idx m ⟨0, h0⟩).2.2).trans (by simp)
    rw [← e]
    exact View.emb_mem_set _ _

/-- The call's result. -/
abbrev out (c : Dev nD) : (⟨S2x1024x1408, .f32⟩ : BufTy).Contents (Elt Ideal) := (D m c).arrAt 2 (cfgM m (hO m)).N

theorem tail_eq (c : Dev nD) : Pipeline.afterTail pcfgs (fun _ => adm m (hO m)) (dats m (hO m)) 0 (V0 m) [hostOps1] c main_v3
    = shapeCast S512x1408 (extractStridedSlice S1x512x1408 ![1, 0, 0] (out m c) slices_S2x1024x1408_S1x512x1408_1_0_0) shapeCasts_S1x512x1408_S512x1408 := by
  unfold Pipeline.afterTail
  rw [← show Pipeline.withArrays spec0 c (V0 m c) (fun w => (D m c).arrAt w (cfgM m (hO m)).N) (Proc.devRef .tc main_v1) = out m c
    from Pipeline.withArrays_arr _ winFacts0.arr_inj c (V0 m c) _ 2]
  show StableHlo.after hostOps1 _ (Proc.devRef .tc main_v3) = _
  after_results_simp_entrywise
  rfl

theorem row_pt (X : (⟨S2x1024x1408, .f32⟩ : BufTy).Contents (Elt Ideal)) (r : Fin 512) (l : Fin 1408) :
    shapeCast S512x1408 (extractStridedSlice S1x512x1408 ![1, 0, 0] X slices_S2x1024x1408_S1x512x1408_1_0_0) shapeCasts_S1x512x1408_S512x1408 (ix2 r l)
      = X (ix3 1 ⟨r.val, by have := r.isLt; omega⟩ l) := by
  pointwise []

theorem result (c : Dev nD) : Pipeline.afterTail pcfgs (fun _ => adm m (hO m)) (dats m (hO m)) 0 (V0 m) [hostOps1] c main_v3
    = val_main_v11 (F := Ideal) (A0 m c) (A1 m c) := by
  rw [tail_eq]
  funext i
  obtain ⟨r, l, rfl⟩ : ∃ (r : Fin 512) (l : Fin 1408), i = ix2 r l := ⟨i 0, i 1, eq_ix2_of rfl rfl⟩
  exact (row_pt _ r l).trans (final m c r l)

theorem alg : Cert.algebraic_SumPartialsIdeal_SumPartialsRefIdeal := by
  intro m g m' g' _ hm
  refine ⟨_, (θ_run defs _ _).mono (fun r h c => ⟨((h c).2 main_v3 (by decide : main_v3 ∈ Pipeline.restRefs sig spec0)).trans (result m c),
      ((h c).1 0).trans (((D m c).arrAt_in 0 rfl _).trans (V_main_arg0 m c)), ((h c).1 1).trans (((D m c).arrAt_in 1 rfl _).trans (V_main_arg1 m c)),
      ((h c).2 main_arg2 (by decide : main_arg2 ∈ Pipeline.restRefs sig spec0)).trans (W_main_arg2 m (hO m) (dats m (hO m)) c)⟩) (run_main m g (hO m)),
    (θ_run _ _ _).mono (fun r h c => ⟨(h c).1.trans ?_, (h c).2⟩) (Cert.SumPartialsRefIdeal.Value.run m' g')⟩
  exact (val_main_v11_eq (F := Ideal) _ _).trans (congrArg₂ (val_main_v11 (F := Ideal)) (hm c).1 (hm c).2.1)

end Cert.SumPartialsValue

end
-- ==== Proof.lean ====
/- The proof of the certificate's claim. The frames of all programs but those of the attention's gradient are the generated ones; the three
   frames of the attention's gradient are proved by hand. Only the attention's two idealizations name constants, the others rewrite nothing.
   The values are proved in the modules imported below, one per call of the training step. -/
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gen.NormFfn
public import proofs.«01_k».proof.Proof.Gen.NormFfn.Frame
public import proofs.«01_k».proof.Proof.Gen.NormFfnIdeal
public import proofs.«01_k».proof.Proof.Gen.NormFfnIdeal.Frame
public import proofs.«01_k».proof.Proof.Gen.NormFfnRefIdeal
public import proofs.«01_k».proof.Proof.Gen.NormFfnRefIdeal.Run
public import proofs.«01_k».proof.Proof.Gen.NormFfnRefIdeal.Read
public import proofs.«01_k».proof.Proof.Gen.NormQkv
public import proofs.«01_k».proof.Proof.Gen.NormQkv.Frame
public import proofs.«01_k».proof.Proof.Gen.NormQkvIdeal
public import proofs.«01_k».proof.Proof.Gen.NormQkvIdeal.Frame
public import proofs.«01_k».proof.Proof.Gen.NormQkvRefIdeal
public import proofs.«01_k».proof.Proof.Gen.NormQkvRefIdeal.Run
public import proofs.«01_k».proof.Proof.Gen.NormQkvRefIdeal.Read
public import proofs.«01_k».proof.Proof.Gen.NormConv
public import proofs.«01_k».proof.Proof.Gen.NormConv.Frame
public import proofs.«01_k».proof.Proof.Gen.NormConvIdeal
public import proofs.«01_k».proof.Proof.Gen.NormConvIdeal.Frame
public import proofs.«01_k».proof.Proof.Gen.NormConvRefIdeal
public import proofs.«01_k».proof.Proof.Gen.NormConvRefIdeal.Run
public import proofs.«01_k».proof.Proof.Gen.NormConvRefIdeal.Read
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.FwdUp
public import proofs.«01_k».proof.Proof.Gen.FwdUp.Frame
public import proofs.«01_k».proof.Proof.Gen.FwdUpIdeal
public import proofs.«01_k».proof.Proof.Gen.FwdUpIdeal.Frame
public import proofs.«01_k».proof.Proof.Gen.FwdUpRefIdeal
public import proofs.«01_k».proof.Proof.Gen.FwdUpRefIdeal.Run
public import proofs.«01_k».proof.Proof.Gen.FwdUpRefIdeal.Read
public import proofs.«01_k».proof.Proof.Gen.FwdConv
public import proofs.«01_k».proof.Proof.Gen.FwdConv.Frame
public import proofs.«01_k».proof.Proof.Gen.FwdConvIdeal
public import proofs.«01_k».proof.Proof.Gen.FwdConvIdeal.Frame
public import proofs.«01_k».proof.Proof.Gen.FwdConvRefIdeal
public import proofs.«01_k».proof.Proof.Gen.FwdConvRefIdeal.Run
public import proofs.«01_k».proof.Proof.Gen.FwdConvRefIdeal.Read
public import proofs.«01_k».proof.Proof.Gen.FwdIn
public import proofs.«01_k».proof.Proof.Gen.FwdIn.Frame
public import proofs.«01_k».proof.Proof.Gen.FwdInIdeal
public import proofs.«01_k».proof.Proof.Gen.FwdInIdeal.Frame
public import proofs.«01_k».proof.Proof.Gen.FwdInRefIdeal
public import proofs.«01_k».proof.Proof.Gen.FwdInRefIdeal.Run
public import proofs.«01_k».proof.Proof.Gen.FwdInRefIdeal.Read
public import proofs.«01_k».proof.Proof.Gen.FwdDown
public import proofs.«01_k».proof.Proof.Gen.FwdDown.Frame
public import proofs.«01_k».proof.Proof.Gen.FwdDownIdeal
public import proofs.«01_k».proof.Proof.Gen.FwdDownIdeal.Frame
public import proofs.«01_k».proof.Proof.Gen.FwdDownRefIdeal
public import proofs.«01_k».proof.Proof.Gen.FwdDownRefIdeal.Run
public import proofs.«01_k».proof.Proof.Gen.FwdDownRefIdeal.Read
public import proofs.«01_k».proof.Proof.Gen.FwdAttn
public import proofs.«01_k».proof.Proof.Gen.FwdAttn.Frame
public import proofs.«01_k».proof.Proof.Gen.FwdAttnIdeal
public import proofs.«01_k».proof.Proof.Gen.FwdAttnIdeal.Frame
public import proofs.«01_k».proof.Proof.Gen.FwdAttnRefIdeal
public import proofs.«01_k».proof.Proof.Gen.FwdAttnRefIdeal.Run
public import proofs.«01_k».proof.Proof.Gen.FwdAttnRefIdeal.Read
public import proofs.«01_k».proof.Proof.Gen.DgradDown
public import proofs.«01_k».proof.Proof.Gen.DgradDown.Frame
public import proofs.«01_k».proof.Proof.Gen.DgradDownIdeal
public import proofs.«01_k».proof.Proof.Gen.DgradDownIdeal.Frame
public import proofs.«01_k».proof.Proof.Gen.DgradDownIdeal.Value
public import proofs.«01_k».proof.Proof.Gen.DgradDownRefIdeal
public import proofs.«01_k».proof.Proof.Gen.DgradDownRefIdeal.Run
public import proofs.«01_k».proof.Proof.Gen.DgradDownRefIdeal.Read
public import proofs.«01_k».proof.Proof.Gen.FwdQkv
public import proofs.«01_k».proof.Proof.Gen.FwdQkv.Frame
public import proofs.«01_k».proof.Proof.Gen.FwdQkvIdeal
public import proofs.«01_k».proof.Proof.Gen.FwdQkvIdeal.Frame
public import proofs.«01_k».proof.Proof.Gen.FwdQkvIdeal.Value
public import proofs.«01_k».proof.Proof.Gen.FwdQkvRefIdeal
public import proofs.«01_k».proof.Proof.Gen.FwdQkvRefIdeal.Run
public import proofs.«01_k».proof.Proof.Gen.FwdQkvRefIdeal.Read
public import proofs.«01_k».proof.Proof.Gen.WgradQkv
public import proofs.«01_k».proof.Proof.Gen.WgradQkv.Frame
public import proofs.«01_k».proof.Proof.Gen.WgradQkvIdeal
public import proofs.«01_k».proof.Proof.Gen.WgradQkvIdeal.Frame
public import proofs.«01_k».proof.Proof.Gen.WgradQkvIdeal.Value
public import proofs.«01_k».proof.Proof.Gen.WgradQkvRefIdeal
public import proofs.«01_k».proof.Proof.Gen.WgradQkvRefIdeal.Run
public import proofs.«01_k».proof.Proof.Gen.WgradQkvRefIdeal.Read
public import proofs.«01_k».proof.Proof.Gen.WgradDown
public import proofs.«01_k».proof.Proof.Gen.WgradDown.Frame
public import proofs.«01_k».proof.Proof.Gen.WgradDownIdeal
public import proofs.«01_k».proof.Proof.Gen.WgradDownIdeal.Frame
public import proofs.«01_k».proof.Proof.Gen.WgradDownIdeal.Value
public import proofs.«01_k».proof.Proof.Gen.WgradDownRefIdeal
public import proofs.«01_k».proof.Proof.Gen.WgradDownRefIdeal.Run
public import proofs.«01_k».proof.Proof.Gen.WgradDownRefIdeal.Read
public import proofs.«01_k».proof.Proof.Gen.WgradUp
public import proofs.«01_k».proof.Proof.Gen.WgradUp.Frame
public import proofs.«01_k».proof.Proof.Gen.WgradUpIdeal
public import proofs.«01_k».proof.Proof.Gen.WgradUpIdeal.Frame
public import proofs.«01_k».proof.Proof.Gen.WgradUpIdeal.Value
public import proofs.«01_k».proof.Proof.Gen.WgradUpRefIdeal
public import proofs.«01_k».proof.Proof.Gen.WgradUpRefIdeal.Run
public import proofs.«01_k».proof.Proof.Gen.WgradUpRefIdeal.Read
public import proofs.«01_k».proof.Proof.Gen.WgradConv
public import proofs.«01_k».proof.Proof.Gen.WgradConv.Frame
public import proofs.«01_k».proof.Proof.Gen.WgradConvIdeal
public import proofs.«01_k».proof.Proof.Gen.WgradConvIdeal.Frame
public import proofs.«01_k».proof.Proof.Gen.WgradConvIdeal.Value
public import proofs.«01_k».proof.Proof.Gen.WgradConvRefIdeal
public import proofs.«01_k».proof.Proof.Gen.WgradConvRefIdeal.Run
public import proofs.«01_k».proof.Proof.Gen.WgradConvRefIdeal.Read
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.SumHalves
public import proofs.«01_k».proof.Proof.Gen.SumHalves.Frame
public import proofs.«01_k».proof.Proof.Gen.SumHalvesIdeal
public import proofs.«01_k».proof.Proof.Gen.SumHalvesIdeal.Frame
public import proofs.«01_k».proof.Proof.Gen.SumHalvesRefIdeal
public import proofs.«01_k».proof.Proof.Gen.SumHalvesRefIdeal.Run
public import proofs.«01_k».proof.Proof.Gen.SumHalvesRefIdeal.Read
public import proofs.«01_k».proof.Proof.Gen.CastOwn
public import proofs.«01_k».proof.Proof.Gen.CastOwn.Frame
public import proofs.«01_k».proof.Proof.Gen.CastOwnIdeal
public import proofs.«01_k».proof.Proof.Gen.CastOwnIdeal.Frame
public import proofs.«01_k».proof.Proof.Gen.CastOwnRefIdeal
public import proofs.«01_k».proof.Proof.Gen.CastOwnRefIdeal.Run
public import proofs.«01_k».proof.Proof.Gen.CastOwnRefIdeal.Read
public import proofs.«01_k».proof.Proof.Gen.SumPartials
public import proofs.«01_k».proof.Proof.Gen.SumPartials.Frame
public import proofs.«01_k».proof.Proof.Gen.SumPartialsIdeal
public import proofs.«01_k».proof.Proof.Gen.SumPartialsIdeal.Frame
public import proofs.«01_k».proof.Proof.Gen.SumPartialsRefIdeal
public import proofs.«01_k».proof.Proof.Gen.SumPartialsRefIdeal.Run
public import proofs.«01_k».proof.Proof.Gen.SumPartialsRefIdeal.Read
public import proofs.«01_k».proof.Proof.Conv
public import proofs.«01_k».proof.Proof.Loss
public import proofs.«01_k».proof.Proof.Gate
public import proofs.«01_k».proof.Proof.NormFfn
public import proofs.«01_k».proof.Proof.NormQkv
public import proofs.«01_k».proof.Proof.NormConv
public import proofs.«01_k».proof.Proof.AttnBody
public import proofs.«01_k».proof.Proof.AttnIdealBody
public import proofs.«01_k».proof.Proof.AttnRef
public import proofs.«01_k».proof.Proof.FwdUp
public import proofs.«01_k».proof.Proof.FwdConv
public import proofs.«01_k».proof.Proof.FwdIn
public import proofs.«01_k».proof.Proof.FwdDown
public import proofs.«01_k».proof.Proof.FwdAttn
public import proofs.«01_k».proof.Proof.DgradDown
public import proofs.«01_k».proof.Proof.FwdQkv
public import proofs.«01_k».proof.Proof.WgradQkv
public import proofs.«01_k».proof.Proof.WgradDown
public import proofs.«01_k».proof.Proof.WgradUp
public import proofs.«01_k».proof.Proof.WgradConv
public import proofs.«01_k».proof.Proof.Adam
public import proofs.«01_k».proof.Proof.SumHalves
public import proofs.«01_k».proof.Proof.CastOwn
public import proofs.«01_k».proof.Proof.SumPartials

@[expose] public section

noncomputable section

namespace Cert.Proof

open Idealize.ShloMosaic Idealize.SL.Sem

/-- The named constants of the attention: the mask's minus infinity and the slopes of the odd heads. -/
theorem preserves_attn : Cert.preserves_Attn_AttnIdeal := by
  refine ⟨?_, ?_, ?_, ?_, ?_, ?_, ?_, ?_, ?_⟩ <;> exact IdealRules.named_const.statement _ _ _ _ _ rfl

/-- The same constants in the attention's forward call, in the order in which its text names them. -/
theorem preserves_attnFwd : Cert.preserves_FwdAttn_FwdAttnIdeal := by
  refine ⟨?_, ?_, ?_, ?_, ?_, ?_, ?_, ?_, ?_⟩ <;> exact IdealRules.named_const.statement _ _ _ _ _ rfl

/-- The reference of `Conv`: its arguments end unchanged; it declares no semaphore. -/
theorem frame_ConvRef : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The reference of `Loss`: its arguments end unchanged; it declares no semaphore. -/
theorem frame_LossRef : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

/-- The reference of `Gate`: its arguments end unchanged; it declares no semaphore. -/
theorem frame_GateRef : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

/-- The reference of `NormFfn`: its arguments end unchanged; it declares no semaphore. -/
theorem frame_NormFfnRef : Cert.quiescent_NormFfnRefIdeal := fun m ρ _ =>
  (θ_run Cert.NormFfnRefIdeal.defs _ _).mono (fun r h => ⟨fun c => (h c).2.2.2, sem_eq_zero_of_no_sems (by decide) r.2⟩)
    (Cert.NormFfnRefIdeal.Value.run (F := Ideal) m ρ)

/-- The reference of `NormQkv`: its arguments end unchanged; it declares no semaphore. -/
theorem frame_NormQkvRef : Cert.quiescent_NormQkvRefIdeal := fun m ρ _ =>
  (θ_run Cert.NormQkvRefIdeal.defs _ _).mono (fun r h => ⟨fun c => (h c).2.2.2, sem_eq_zero_of_no_sems (by decide) r.2⟩)
    (Cert.NormQkvRefIdeal.Value.run (F := Ideal) m ρ)

/-- The reference of `NormConv`: its arguments end unchanged; it declares no semaphore. -/
theorem frame_NormConvRef : Cert.quiescent_NormConvRefIdeal := fun m ρ _ =>
  (θ_run Cert.NormConvRefIdeal.defs _ _).mono (fun r h => ⟨fun c => (h c).2.2, sem_eq_zero_of_no_sems (by decide) r.2⟩)
    (Cert.NormConvRefIdeal.Value.run (F := Ideal) m ρ)

/-- The reference of `FwdUp`: its arguments end unchanged; it declares no semaphore. -/
theorem frame_FwdUpRef : Cert.quiescent_FwdUpRefIdeal := fun m ρ _ =>
  (θ_run Cert.FwdUpRefIdeal.defs _ _).mono (fun r h => ⟨fun c => (h c).2.2.2, sem_eq_zero_of_no_sems (by decide) r.2⟩)
    (Cert.FwdUpRefIdeal.Value.run (F := Ideal) m ρ)

/-- The reference of `FwdConv`: its arguments end unchanged; it declares no semaphore. -/
theorem frame_FwdConvRef : Cert.quiescent_FwdConvRefIdeal := fun m ρ _ =>
  (θ_run Cert.FwdConvRefIdeal.defs _ _).mono (fun r h => ⟨fun c => (h c).2, sem_eq_zero_of_no_sems (by decide) r.2⟩)
    (Cert.FwdConvRefIdeal.Value.run (F := Ideal) m ρ)

/-- The reference of `FwdIn`: its arguments end unchanged; it declares no semaphore. -/
theorem frame_FwdInRef : Cert.quiescent_FwdInRefIdeal := fun m ρ _ =>
  (θ_run Cert.FwdInRefIdeal.defs _ _).mono (fun r h => ⟨fun c => (h c).2.2, sem_eq_zero_of_no_sems (by decide) r.2⟩)
    (Cert.FwdInRefIdeal.Value.run (F := Ideal) m ρ)

/-- The reference of `FwdDown`: its arguments end unchanged; it declares no semaphore. -/
theorem frame_FwdDownRef : Cert.quiescent_FwdDownRefIdeal := fun m ρ _ =>
  (θ_run Cert.FwdDownRefIdeal.defs _ _).mono (fun r h => ⟨fun c => (h c).2.2, sem_eq_zero_of_no_sems (by decide) r.2⟩)
    (Cert.FwdDownRefIdeal.Value.run (F := Ideal) m ρ)

/-- The reference of `FwdAttn`: its arguments end unchanged; it declares no semaphore. -/
theorem frame_FwdAttnRef : Cert.quiescent_FwdAttnRefIdeal := fun m ρ _ =>
  (θ_run Cert.FwdAttnRefIdeal.defs _ _).mono (fun r h => ⟨fun c => (h c).2, sem_eq_zero_of_no_sems (by decide) r.2⟩)
    (Cert.FwdAttnRefIdeal.Value.run (F := Ideal) m ρ)

/-- The reference of `DgradDown`: its arguments end unchanged; it declares no semaphore. -/
theorem frame_DgradDownRef : Cert.quiescent_DgradDownRefIdeal := fun m ρ _ =>
  (θ_run Cert.DgradDownRefIdeal.defs _ _).mono (fun r h => ⟨fun c => (h c).2, sem_eq_zero_of_no_sems (by decide) r.2⟩)
    (Cert.DgradDownRefIdeal.Value.run (F := Ideal) m ρ)

/-- The reference of `FwdQkv`: its arguments end unchanged; it declares no semaphore. -/
theorem frame_FwdQkvRef : Cert.quiescent_FwdQkvRefIdeal := fun m ρ _ =>
  (θ_run Cert.FwdQkvRefIdeal.defs _ _).mono (fun r h => ⟨fun c => (h c).2, sem_eq_zero_of_no_sems (by decide) r.2⟩)
    (Cert.FwdQkvRefIdeal.Value.run (F := Ideal) m ρ)

/-- The reference of `WgradQkv`: its arguments end unchanged; it declares no semaphore. -/
theorem frame_WgradQkvRef : Cert.quiescent_WgradQkvRefIdeal := fun m ρ _ =>
  (θ_run Cert.WgradQkvRefIdeal.defs _ _).mono (fun r h => ⟨fun c => (h c).2, sem_eq_zero_of_no_sems (by decide) r.2⟩)
    (Cert.WgradQkvRefIdeal.Value.run (F := Ideal) m ρ)

/-- The reference of `WgradDown`: its arguments end unchanged; it declares no semaphore. -/
theorem frame_WgradDownRef : Cert.quiescent_WgradDownRefIdeal := fun m ρ _ =>
  (θ_run Cert.WgradDownRefIdeal.defs _ _).mono (fun r h => ⟨fun c => (h c).2, sem_eq_zero_of_no_sems (by decide) r.2⟩)
    (Cert.WgradDownRefIdeal.Value.run (F := Ideal) m ρ)

/-- The reference of `WgradUp`: its arguments end unchanged; it declares no semaphore. -/
theorem frame_WgradUpRef : Cert.quiescent_WgradUpRefIdeal := fun m ρ _ =>
  (θ_run Cert.WgradUpRefIdeal.defs _ _).mono (fun r h => ⟨fun c => (h c).2, sem_eq_zero_of_no_sems (by decide) r.2⟩)
    (Cert.WgradUpRefIdeal.Value.run (F := Ideal) m ρ)

/-- The reference of `WgradConv`: its arguments end unchanged; it declares no semaphore. -/
theorem frame_WgradConvRef : Cert.quiescent_WgradConvRefIdeal := fun m ρ _ =>
  (θ_run Cert.WgradConvRefIdeal.defs _ _).mono (fun r h => ⟨fun c => (h c).2, sem_eq_zero_of_no_sems (by decide) r.2⟩)
    (Cert.WgradConvRefIdeal.Value.run (F := Ideal) m ρ)

/-- The reference of `Adam`: its arguments end unchanged; it declares no semaphore. -/
theorem frame_AdamRef : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-- The reference of `SumHalves`: its arguments end unchanged; it declares no semaphore. -/
theorem frame_SumHalvesRef : Cert.quiescent_SumHalvesRefIdeal := fun m ρ _ =>
  (θ_run Cert.SumHalvesRefIdeal.defs _ _).mono (fun r h => ⟨fun c => (h c).2.2, sem_eq_zero_of_no_sems (by decide) r.2⟩)
    (Cert.SumHalvesRefIdeal.Value.run (F := Ideal) m ρ)

/-- The reference of `CastOwn`: its arguments end unchanged; it declares no semaphore. -/
theorem frame_CastOwnRef : Cert.quiescent_CastOwnRefIdeal := fun m ρ _ =>
  (θ_run Cert.CastOwnRefIdeal.defs _ _).mono (fun r h => ⟨fun c => (h c).2, sem_eq_zero_of_no_sems (by decide) r.2⟩)
    (Cert.CastOwnRefIdeal.Value.run (F := Ideal) m ρ)

/-- The reference of `SumPartials`: its arguments end unchanged; it declares no semaphore. -/
theorem frame_SumPartialsRef : Cert.quiescent_SumPartialsRefIdeal := fun m ρ _ =>
  (θ_run Cert.SumPartialsRefIdeal.defs _ _).mono (fun r h => ⟨fun c => (h c).2, sem_eq_zero_of_no_sems (by decide) r.2⟩)
    (Cert.SumPartialsRefIdeal.Value.run (F := Ideal) m ρ)

/-- Every conjunct of the claim. -/
theorem claim : Cert.Claim :=
  ⟨Cert.Conv.Gen.facts, Cert.ConvIdeal.Gen.facts, Cert.ConvRefIdeal.Gen.facts, Cert.Loss.Gen.facts, Cert.LossIdeal.Gen.facts, Cert.LossRefIdeal.Gen.facts, Cert.Gate.Gen.facts, Cert.GateIdeal.Gen.facts, Cert.GateRefIdeal.Gen.facts, Cert.NormFfn.Gen.facts, Cert.NormFfnIdeal.Gen.facts, Cert.NormFfnRefIdeal.Gen.facts, Cert.NormQkv.Gen.facts, Cert.NormQkvIdeal.Gen.facts, Cert.NormQkvRefIdeal.Gen.facts, Cert.NormConv.Gen.facts, Cert.NormConvIdeal.Gen.facts, Cert.NormConvRefIdeal.Gen.facts, Cert.Attn.Gen.facts, Cert.AttnIdeal.Gen.facts, Cert.AttnRefIdeal.Gen.facts, Cert.FwdUp.Gen.facts, Cert.FwdUpIdeal.Gen.facts, Cert.FwdUpRefIdeal.Gen.facts, Cert.FwdConv.Gen.facts, Cert.FwdConvIdeal.Gen.facts, Cert.FwdConvRefIdeal.Gen.facts, Cert.FwdIn.Gen.facts, Cert.FwdInIdeal.Gen.facts, Cert.FwdInRefIdeal.Gen.facts, Cert.FwdDown.Gen.facts, Cert.FwdDownIdeal.Gen.facts, Cert.FwdDownRefIdeal.Gen.facts, Cert.FwdAttn.Gen.facts, Cert.FwdAttnIdeal.Gen.facts, Cert.FwdAttnRefIdeal.Gen.facts, Cert.DgradDown.Gen.facts, Cert.DgradDownIdeal.Gen.facts, Cert.DgradDownRefIdeal.Gen.facts, Cert.FwdQkv.Gen.facts, Cert.FwdQkvIdeal.Gen.facts, Cert.FwdQkvRefIdeal.Gen.facts, Cert.WgradQkv.Gen.facts, Cert.WgradQkvIdeal.Gen.facts, Cert.WgradQkvRefIdeal.Gen.facts, Cert.WgradDown.Gen.facts, Cert.WgradDownIdeal.Gen.facts, Cert.WgradDownRefIdeal.Gen.facts, Cert.WgradUp.Gen.facts, Cert.WgradUpIdeal.Gen.facts, Cert.WgradUpRefIdeal.Gen.facts, Cert.WgradConv.Gen.facts, Cert.WgradConvIdeal.Gen.facts, Cert.WgradConvRefIdeal.Gen.facts, Cert.Adam.Gen.facts, Cert.AdamIdeal.Gen.facts, Cert.AdamRefIdeal.Gen.facts, Cert.SumHalves.Gen.facts, Cert.SumHalvesIdeal.Gen.facts, Cert.SumHalvesRefIdeal.Gen.facts, Cert.CastOwn.Gen.facts, Cert.CastOwnIdeal.Gen.facts, Cert.CastOwnRefIdeal.Gen.facts, Cert.SumPartials.Gen.facts, Cert.SumPartialsIdeal.Gen.facts, Cert.SumPartialsRefIdeal.Gen.facts, Cert.GateValue.facts_pre, Cert.NormFfnValue.facts_pre, Cert.NormQkvValue.facts_pre, Cert.NormConvValue.facts_pre, Cert.FwdUpValue.facts_pre, Cert.FwdAttnValue.facts_pre,
    fun m ρ _ => Cert.Conv.Gen.frame m ρ,
    fun m ρ _ => Cert.ConvIdeal.Gen.frame m ρ,
    frame_ConvRef,
    fun m ρ _ => Cert.Loss.Gen.frame m ρ,
    fun m ρ _ => Cert.LossIdeal.Gen.frame m ρ,
    frame_LossRef,
    fun m ρ _ => Cert.Gate.Gen.frame m ρ,
    fun m ρ _ => Cert.GateIdeal.Gen.frame m ρ,
    fun m ρ _ => Cert.GateIdeal.Gen.frame m ρ,
    frame_GateRef,
    fun m ρ _ => frame_GateRef m ρ trivial,
    fun m ρ _ => Cert.NormFfn.Gen.frame m ρ,
    fun m ρ _ => Cert.NormFfnIdeal.Gen.frame m ρ,
    fun m ρ _ => Cert.NormFfnIdeal.Gen.frame m ρ,
    frame_NormFfnRef,
    fun m ρ _ => frame_NormFfnRef m ρ trivial,
    fun m ρ _ => Cert.NormQkv.Gen.frame m ρ,
    fun m ρ _ => Cert.NormQkvIdeal.Gen.frame m ρ,
    fun m ρ _ => Cert.NormQkvIdeal.Gen.frame m ρ,
    frame_NormQkvRef,
    fun m ρ _ => frame_NormQkvRef m ρ trivial,
    fun m ρ _ => Cert.NormConv.Gen.frame m ρ,
    fun m ρ _ => Cert.NormConvIdeal.Gen.frame m ρ,
    fun m ρ _ => Cert.NormConvIdeal.Gen.frame m ρ,
    frame_NormConvRef,
    fun m ρ _ => frame_NormConvRef m ρ trivial,
    fun m ρ _ => Cert.Attn.Body.frame m ρ,
    fun m ρ _ => Cert.AttnIdeal.Body.frame m ρ,
    Cert.AttnRefIdeal.Body.frame,
    fun m ρ _ => Cert.FwdUp.Gen.frame m ρ,
    fun m ρ _ => Cert.FwdUpIdeal.Gen.frame m ρ,
    fun m ρ _ => Cert.FwdUpIdeal.Gen.frame m ρ,
    frame_FwdUpRef,
    fun m ρ _ => frame_FwdUpRef m ρ trivial,
    fun m ρ _ => Cert.FwdConv.Gen.frame m ρ,
    fun m ρ _ => Cert.FwdConvIdeal.Gen.frame m ρ,
    frame_FwdConvRef,
    fun m ρ _ => Cert.FwdIn.Gen.frame m ρ,
    fun m ρ _ => Cert.FwdInIdeal.Gen.frame m ρ,
    frame_FwdInRef,
    fun m ρ _ => Cert.FwdDown.Gen.frame m ρ,
    fun m ρ _ => Cert.FwdDownIdeal.Gen.frame m ρ,
    frame_FwdDownRef,
    fun m ρ _ => Cert.FwdAttn.Gen.frame m ρ,
    fun m ρ _ => Cert.FwdAttnIdeal.Gen.frame m ρ,
    fun m ρ _ => Cert.FwdAttnIdeal.Gen.frame m ρ,
    frame_FwdAttnRef,
    fun m ρ _ => frame_FwdAttnRef m ρ trivial,
    fun m ρ _ => Cert.DgradDown.Gen.frame m ρ,
    fun m ρ _ => Cert.DgradDownIdeal.Gen.frame m ρ,
    frame_DgradDownRef,
    fun m ρ _ => Cert.FwdQkv.Gen.frame m ρ,
    fun m ρ _ => Cert.FwdQkvIdeal.Gen.frame m ρ,
    frame_FwdQkvRef,
    fun m ρ _ => Cert.WgradQkv.Gen.frame m ρ,
    fun m ρ _ => Cert.WgradQkvIdeal.Gen.frame m ρ,
    frame_WgradQkvRef,
    fun m ρ _ => Cert.WgradDown.Gen.frame m ρ,
    fun m ρ _ => Cert.WgradDownIdeal.Gen.frame m ρ,
    frame_WgradDownRef,
    fun m ρ _ => Cert.WgradUp.Gen.frame m ρ,
    fun m ρ _ => Cert.WgradUpIdeal.Gen.frame m ρ,
    frame_WgradUpRef,
    fun m ρ _ => Cert.WgradConv.Gen.frame m ρ,
    fun m ρ _ => Cert.WgradConvIdeal.Gen.frame m ρ,
    frame_WgradConvRef,
    fun m ρ _ => Cert.Adam.Gen.frame m ρ,
    fun m ρ _ => Cert.AdamIdeal.Gen.frame m ρ,
    frame_AdamRef,
    fun m ρ _ => Cert.SumHalves.Gen.frame m ρ (Cert.SumHalvesValue.ok m) (Cert.SumHalvesValue.hyps m),
    fun m ρ _ => Cert.SumHalvesIdeal.Gen.frame m ρ (Cert.SumHalvesValue.ok m) (Cert.SumHalvesValue.hyps m),
    frame_SumHalvesRef,
    fun m ρ _ => Cert.CastOwn.Gen.frame m ρ (Cert.CastOwnValue.ok m),
    fun m ρ _ => Cert.CastOwnIdeal.Gen.frame m ρ (Cert.CastOwnValue.ok m),
    frame_CastOwnRef,
    fun m ρ _ => Cert.SumPartials.Gen.frame m ρ (Cert.SumPartialsValue.ok m),
    fun m ρ _ => Cert.SumPartialsIdeal.Gen.frame m ρ (Cert.SumPartialsValue.ok m),
    frame_SumPartialsRef,
    trivial, Cert.ConvValue.alg, trivial, Cert.LossValue.alg, trivial, (haveI := Cert.GateValue.facts_pre; Cert.GateValue.alg), trivial, (haveI := Cert.NormFfnValue.facts_pre; Cert.NormFfnValue.alg), trivial, (haveI := Cert.NormQkvValue.facts_pre; Cert.NormQkvValue.alg), trivial, (haveI := Cert.NormConvValue.facts_pre; Cert.NormConvValue.alg), preserves_attn, trivial, (haveI := Cert.FwdUpValue.facts_pre; Cert.FwdUpValue.alg), trivial, Cert.FwdConvValue.alg, trivial, Cert.FwdInValue.alg, trivial, Cert.FwdDownValue.alg, preserves_attnFwd, (haveI := Cert.FwdAttnValue.facts_pre; Cert.FwdAttnValue.alg), trivial, Cert.DgradDownValue.alg, trivial, Cert.FwdQkvValue.alg, trivial, Cert.WgradQkvValue.alg, trivial, Cert.WgradDownValue.alg, trivial, Cert.WgradUpValue.alg, trivial, Cert.WgradConvValue.alg, trivial, Cert.AdamValue.alg, trivial, Cert.SumHalvesValue.alg, trivial, Cert.CastOwnValue.alg, trivial, Cert.SumPartialsValue.alg⟩

end Cert.Proof

end
